-- ==== Defs.lean ====
def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_StepProj (m : (ℓ : Loc Cert.StepProj.nD Cert.StepProj.τ Cert.StepProj.sig) → Buf (Elt Bits) ℓ) : Prop :=
  True

def Pre_StepProjIdeal (m : (ℓ : Loc Cert.StepProjIdeal.nD Cert.StepProjIdeal.τ Cert.StepProjIdeal.sig) → Buf (Elt Ideal) ℓ) : Prop :=
  True

def Pre_StepProjRefIdeal (m : (ℓ : Loc Cert.StepProjRefIdeal.nD Cert.StepProjRefIdeal.τ Cert.StepProjRefIdeal.sig) → Buf (Elt Ideal) ℓ) : Prop :=
  True

def Pre_StepTail (m : (ℓ : Loc Cert.StepTail.nD Cert.StepTail.τ Cert.StepTail.sig) → Buf (Elt Bits) ℓ) : Prop :=
  True

def Pre_StepTailIdeal (m : (ℓ : Loc Cert.StepTailIdeal.nD Cert.StepTailIdeal.τ Cert.StepTailIdeal.sig) → Buf (Elt Ideal) ℓ) : Prop :=
  True

def Pre_StepTailRefIdeal (m : (ℓ : Loc Cert.StepTailRefIdeal.nD Cert.StepTailRefIdeal.τ Cert.StepTailRefIdeal.sig) → Buf (Elt Ideal) ℓ) : Prop :=
  True

def Pre_StepSsm (m : (ℓ : Loc Cert.StepSsm.nD Cert.StepSsm.τ Cert.StepSsm.sig) → Buf (Elt Bits) ℓ) : Prop :=
  True

def Pre_StepSsmIdeal (m : (ℓ : Loc Cert.StepSsmIdeal.nD Cert.StepSsmIdeal.τ Cert.StepSsmIdeal.sig) → Buf (Elt Ideal) ℓ) : Prop :=
  True

def Pre_StepSsmRefIdeal (m : (ℓ : Loc Cert.StepSsmRefIdeal.nD Cert.StepSsmRefIdeal.τ Cert.StepSsmRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12)
      ∧ r.2.mem ((c.tc : Thread Cert.TailRefIdeal.nD Cert.TailRefIdeal.τ).loc Cert.TailRefIdeal.main_arg13) = m ((c.tc : Thread Cert.TailRefIdeal.nD Cert.TailRefIdeal.τ).loc Cert.TailRefIdeal.main_arg13))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_StepProj [hStepProj : Cert.StepProj.Facts] : Prop :=
  ∀ (m : (ℓ : Loc Cert.StepProj.nD Cert.StepProj.τ Cert.StepProj.sig) → Buf (Elt Bits) ℓ) (g : Dev Cert.StepProj.nD → PrngReg), Pre_StepProj m →
    θ_run (Cert.StepProj.defs (F := Bits)) (onTc (τ := Cert.StepProj.τ) (Cert.StepProj.main (F := Bits))) ⟨m, fun _ => 0, g⟩ (fun r => (∀ c : Dev Cert.StepProj.nD,
      r.2.mem ((c.tc : Thread Cert.StepProj.nD Cert.StepProj.τ).loc Cert.StepProj.main_arg0) = m ((c.tc : Thread Cert.StepProj.nD Cert.StepProj.τ).loc Cert.StepProj.main_arg0)
      ∧ r.2.mem ((c.tc : Thread Cert.StepProj.nD Cert.StepProj.τ).loc Cert.StepProj.main_arg1) = m ((c.tc : Thread Cert.StepProj.nD Cert.StepProj.τ).loc Cert.StepProj.main_arg1)
      ∧ r.2.mem ((c.tc : Thread Cert.StepProj.nD Cert.StepProj.τ).loc Cert.StepProj.main_arg2) = m ((c.tc : Thread Cert.StepProj.nD Cert.StepProj.τ).loc Cert.StepProj.main_arg2))
      ∧ r.2.sem = fun _ => 0)

def quiescent_StepProjIdeal [hStepProjIdeal : Cert.StepProjIdeal.Facts] : Prop :=
  ∀ (m : (ℓ : Loc Cert.StepProjIdeal.nD Cert.StepProjIdeal.τ Cert.StepProjIdeal.sig) → Buf (Elt Ideal) ℓ) (g : Dev Cert.StepProjIdeal.nD → PrngReg), Pre_StepProjIdeal m →
    θ_run (Cert.StepProjIdeal.defs (F := Ideal)) (onTc (τ := Cert.StepProjIdeal.τ) (Cert.StepProjIdeal.main (F := Ideal))) ⟨m, fun _ => 0, g⟩ (fun r => (∀ c : Dev Cert.StepProjIdeal.nD,
      r.2.mem ((c.tc : Thread Cert.StepProjIdeal.nD Cert.StepProjIdeal.τ).loc Cert.StepProjIdeal.main_arg0) = m ((c.tc : Thread Cert.StepProjIdeal.nD Cert.StepProjIdeal.τ).loc Cert.StepProjIdeal.main_arg0)
      ∧ r.2.mem ((c.tc : Thread Cert.StepProjIdeal.nD Cert.StepProjIdeal.τ).loc Cert.StepProjIdeal.main_arg1) = m ((c.tc : Thread Cert.StepProjIdeal.nD Cert.StepProjIdeal.τ).loc Cert.StepProjIdeal.main_arg1)
      ∧ r.2.mem ((c.tc : Thread Cert.StepProjIdeal.nD Cert.StepProjIdeal.τ).loc Cert.StepProjIdeal.main_arg2) = m ((c.tc : Thread Cert.StepProjIdeal.nD Cert.StepProjIdeal.τ).loc Cert.StepProjIdeal.main_arg2))
      ∧ r.2.sem = fun _ => 0)

def quiescent_StepProjRefIdeal [hStepProjRefIdeal : Cert.StepProjRefIdeal.Facts] : Prop :=
  ∀ (m : (ℓ : Loc Cert.StepProjRefIdeal.nD Cert.StepProjRefIdeal.τ Cert.StepProjRefIdeal.sig) → Buf (Elt Ideal) ℓ) (g : Dev Cert.StepProjRefIdeal.nD → PrngReg), Pre_StepProjRefIdeal m →
    θ_run (Cert.StepProjRefIdeal.defs (F := Ideal)) (onTc (τ := Cert.StepProjRefIdeal.τ) (Cert.StepProjRefIdeal.main (F := Ideal))) ⟨m, fun _ => 0, g⟩ (fun r => (∀ c : Dev Cert.StepProjRefIdeal.nD,
      r.2.mem ((c.tc : Thread Cert.StepProjRefIdeal.nD Cert.StepProjRefIdeal.τ).loc Cert.StepProjRefIdeal.main_arg0) = m ((c.tc : Thread Cert.StepProjRefIdeal.nD Cert.StepProjRefIdeal.τ).loc Cert.StepProjRefIdeal.main_arg0)
      ∧ r.2.mem ((c.tc : Thread Cert.StepProjRefIdeal.nD Cert.StepProjRefIdeal.τ).loc Cert.StepProjRefIdeal.main_arg1) = m ((c.tc : Thread Cert.StepProjRefIdeal.nD Cert.StepProjRefIdeal.τ).loc Cert.StepProjRefIdeal.main_arg1)
      ∧ r.2.mem ((c.tc : Thread Cert.StepProjRefIdeal.nD Cert.StepProjRefIdeal.τ).loc Cert.StepProjRefIdeal.main_arg2) = m ((c.tc : Thread Cert.StepProjRefIdeal.nD Cert.StepProjRefIdeal.τ).loc Cert.StepProjRefIdeal.main_arg2))
      ∧ r.2.sem = fun _ => 0)

def quiescent_StepTail [hStepTail : Cert.StepTail.Facts] : Prop :=
  ∀ (m : (ℓ : Loc Cert.StepTail.nD Cert.StepTail.τ Cert.StepTail.sig) → Buf (Elt Bits) ℓ) (g : Dev Cert.StepTail.nD → PrngReg), Pre_StepTail m →
    θ_run (Cert.StepTail.defs (F := Bits)) (onTc (τ := Cert.StepTail.τ) (Cert.StepTail.main (F := Bits))) ⟨m, fun _ => 0, g⟩ (fun r => (∀ c : Dev Cert.StepTail.nD,
      r.2.mem ((c.tc : Thread Cert.StepTail.nD Cert.StepTail.τ).loc Cert.StepTail.main_arg0) = m ((c.tc : Thread Cert.StepTail.nD Cert.StepTail.τ).loc Cert.StepTail.main_arg0)
      ∧ r.2.mem ((c.tc : Thread Cert.StepTail.nD Cert.StepTail.τ).loc Cert.StepTail.main_arg1) = m ((c.tc : Thread Cert.StepTail.nD Cert.StepTail.τ).loc Cert.StepTail.main_arg1)
      ∧ r.2.mem ((c.tc : Thread Cert.StepTail.nD Cert.StepTail.τ).loc Cert.StepTail.main_arg2) = m ((c.tc : Thread Cert.StepTail.nD Cert.StepTail.τ).loc Cert.StepTail.main_arg2)
      ∧ r.2.mem ((c.tc : Thread Cert.StepTail.nD Cert.StepTail.τ).loc Cert.StepTail.main_arg3) = m ((c.tc : Thread Cert.StepTail.nD Cert.StepTail.τ).loc Cert.StepTail.main_arg3)
      ∧ r.2.mem ((c.tc : Thread Cert.StepTail.nD Cert.StepTail.τ).loc Cert.StepTail.main_arg4) = m ((c.tc : Thread Cert.StepTail.nD Cert.StepTail.τ).loc Cert.StepTail.main_arg4)
      ∧ r.2.mem ((c.tc : Thread Cert.StepTail.nD Cert.StepTail.τ).loc Cert.StepTail.main_arg5) = m ((c.tc : Thread Cert.StepTail.nD Cert.StepTail.τ).loc Cert.StepTail.main_arg5)
      ∧ r.2.mem ((c.tc : Thread Cert.StepTail.nD Cert.StepTail.τ).loc Cert.StepTail.main_arg6) = m ((c.tc : Thread Cert.StepTail.nD Cert.StepTail.τ).loc Cert.StepTail.main_arg6)
      ∧ r.2.mem ((c.tc : Thread Cert.StepTail.nD Cert.StepTail.τ).loc Cert.StepTail.main_arg7) = m ((c.tc : Thread Cert.StepTail.nD Cert.StepTail.τ).loc Cert.StepTail.main_arg7)
      ∧ r.2.mem ((c.tc : Thread Cert.StepTail.nD Cert.StepTail.τ).loc Cert.StepTail.main_arg8) = m ((c.tc : Thread Cert.StepTail.nD Cert.StepTail.τ).loc Cert.StepTail.main_arg8)
      ∧ r.2.mem ((c.tc : Thread Cert.StepTail.nD Cert.StepTail.τ).loc Cert.StepTail.main_arg9) = m ((c.tc : Thread Cert.StepTail.nD Cert.StepTail.τ).loc Cert.StepTail.main_arg9)
      ∧ r.2.mem ((c.tc : Thread Cert.StepTail.nD Cert.StepTail.τ).loc Cert.StepTail.main_arg10) = m ((c.tc : Thread Cert.StepTail.nD Cert.StepTail.τ).loc Cert.StepTail.main_arg10)
      ∧ r.2.mem ((c.tc : Thread Cert.StepTail.nD Cert.StepTail.τ).loc Cert.StepTail.main_arg11) = m ((c.tc : Thread Cert.StepTail.nD Cert.StepTail.τ).loc Cert.StepTail.main_arg11)
      ∧ r.2.mem ((c.tc : Thread Cert.StepTail.nD Cert.StepTail.τ).loc Cert.StepTail.main_arg12) = m ((c.tc : Thread Cert.StepTail.nD Cert.StepTail.τ).loc Cert.StepTail.main_arg12)
      ∧ r.2.mem ((c.tc : Thread Cert.StepTail.nD Cert.StepTail.τ).loc Cert.StepTail.main_arg13) = m ((c.tc : Thread Cert.StepTail.nD Cert.StepTail.τ).loc Cert.StepTail.main_arg13)
      ∧ r.2.mem ((c.tc : Thread Cert.StepTail.nD Cert.StepTail.τ).loc Cert.StepTail.main_arg14) = m ((c.tc : Thread Cert.StepTail.nD Cert.StepTail.τ).loc Cert.StepTail.main_arg14))
      ∧ r.2.sem = fun _ => 0)

def quiescent_StepTailIdeal [hStepTailIdeal : Cert.StepTailIdeal.Facts] : Prop :=
  ∀ (m : (ℓ : Loc Cert.StepTailIdeal.nD Cert.StepTailIdeal.τ Cert.StepTailIdeal.sig) → Buf (Elt Ideal) ℓ) (g : Dev Cert.StepTailIdeal.nD → PrngReg), Pre_StepTailIdeal m →
    θ_run (Cert.StepTailIdeal.defs (F := Ideal)) (onTc (τ := Cert.StepTailIdeal.τ) (Cert.StepTailIdeal.main (F := Ideal))) ⟨m, fun _ => 0, g⟩ (fun r => (∀ c : Dev Cert.StepTailIdeal.nD,
      r.2.mem ((c.tc : Thread Cert.StepTailIdeal.nD Cert.StepTailIdeal.τ).loc Cert.StepTailIdeal.main_arg0) = m ((c.tc : Thread Cert.StepTailIdeal.nD Cert.StepTailIdeal.τ).loc Cert.StepTailIdeal.main_arg0)
      ∧ r.2.mem ((c.tc : Thread Cert.StepTailIdeal.nD Cert.StepTailIdeal.τ).loc Cert.StepTailIdeal.main_arg1) = m ((c.tc : Thread Cert.StepTailIdeal.nD Cert.StepTailIdeal.τ).loc Cert.StepTailIdeal.main_arg1)
      ∧ r.2.mem ((c.tc : Thread Cert.StepTailIdeal.nD Cert.StepTailIdeal.τ).loc Cert.StepTailIdeal.main_arg2) = m ((c.tc : Thread Cert.StepTailIdeal.nD Cert.StepTailIdeal.τ).loc Cert.StepTailIdeal.main_arg2)
      ∧ r.2.mem ((c.tc : Thread Cert.StepTailIdeal.nD Cert.StepTailIdeal.τ).loc Cert.StepTailIdeal.main_arg3) = m ((c.tc : Thread Cert.StepTailIdeal.nD Cert.StepTailIdeal.τ).loc Cert.StepTailIdeal.main_arg3)
      ∧ r.2.mem ((c.tc : Thread Cert.StepTailIdeal.nD Cert.StepTailIdeal.τ).loc Cert.StepTailIdeal.main_arg4) = m ((c.tc : Thread Cert.StepTailIdeal.nD Cert.StepTailIdeal.τ).loc Cert.StepTailIdeal.main_arg4)
      ∧ r.2.mem ((c.tc : Thread Cert.StepTailIdeal.nD Cert.StepTailIdeal.τ).loc Cert.StepTailIdeal.main_arg5) = m ((c.tc : Thread Cert.StepTailIdeal.nD Cert.StepTailIdeal.τ).loc Cert.StepTailIdeal.main_arg5)
      ∧ r.2.mem ((c.tc : Thread Cert.StepTailIdeal.nD Cert.StepTailIdeal.τ).loc Cert.StepTailIdeal.main_arg6) = m ((c.tc : Thread Cert.StepTailIdeal.nD Cert.StepTailIdeal.τ).loc Cert.StepTailIdeal.main_arg6)
      ∧ r.2.mem ((c.tc : Thread Cert.StepTailIdeal.nD Cert.StepTailIdeal.τ).loc Cert.StepTailIdeal.main_arg7) = m ((c.tc : Thread Cert.StepTailIdeal.nD Cert.StepTailIdeal.τ).loc Cert.StepTailIdeal.main_arg7)
      ∧ r.2.mem ((c.tc : Thread Cert.StepTailIdeal.nD Cert.StepTailIdeal.τ).loc Cert.StepTailIdeal.main_arg8) = m ((c.tc : Thread Cert.StepTailIdeal.nD Cert.StepTailIdeal.τ).loc Cert.StepTailIdeal.main_arg8)
      ∧ r.2.mem ((c.tc : Thread Cert.StepTailIdeal.nD Cert.StepTailIdeal.τ).loc Cert.StepTailIdeal.main_arg9) = m ((c.tc : Thread Cert.StepTailIdeal.nD Cert.StepTailIdeal.τ).loc Cert.StepTailIdeal.main_arg9)
      ∧ r.2.mem ((c.tc : Thread Cert.StepTailIdeal.nD Cert.StepTailIdeal.τ).loc Cert.StepTailIdeal.main_arg10) = m ((c.tc : Thread Cert.StepTailIdeal.nD Cert.StepTailIdeal.τ).loc Cert.StepTailIdeal.main_arg10)
      ∧ r.2.mem ((c.tc : Thread Cert.StepTailIdeal.nD Cert.StepTailIdeal.τ).loc Cert.StepTailIdeal.main_arg11) = m ((c.tc : Thread Cert.StepTailIdeal.nD Cert.StepTailIdeal.τ).loc Cert.StepTailIdeal.main_arg11)
      ∧ r.2.mem ((c.tc : Thread Cert.StepTailIdeal.nD Cert.StepTailIdeal.τ).loc Cert.StepTailIdeal.main_arg12) = m ((c.tc : Thread Cert.StepTailIdeal.nD Cert.StepTailIdeal.τ).loc Cert.StepTailIdeal.main_arg12)
      ∧ r.2.mem ((c.tc : Thread Cert.StepTailIdeal.nD Cert.StepTailIdeal.τ).loc Cert.StepTailIdeal.main_arg13) = m ((c.tc : Thread Cert.StepTailIdeal.nD Cert.StepTailIdeal.τ).loc Cert.StepTailIdeal.main_arg13)
      ∧ r.2.mem ((c.tc : Thread Cert.StepTailIdeal.nD Cert.StepTailIdeal.τ).loc Cert.StepTailIdeal.main_arg14) = m ((c.tc : Thread Cert.StepTailIdeal.nD Cert.StepTailIdeal.τ).loc Cert.StepTailIdeal.main_arg14))
      ∧ r.2.sem = fun _ => 0)

def quiescent_StepTailRefIdeal [hStepTailRefIdeal : Cert.StepTailRefIdeal.Facts] : Prop :=
  ∀ (m : (ℓ : Loc Cert.StepTailRefIdeal.nD Cert.StepTailRefIdeal.τ Cert.StepTailRefIdeal.sig) → Buf (Elt Ideal) ℓ) (g : Dev Cert.StepTailRefIdeal.nD → PrngReg), Pre_StepTailRefIdeal m →
    θ_run (Cert.StepTailRefIdeal.defs (F := Ideal)) (onTc (τ := Cert.StepTailRefIdeal.τ) (Cert.StepTailRefIdeal.main (F := Ideal))) ⟨m, fun _ => 0, g⟩ (fun r => (∀ c : Dev Cert.StepTailRefIdeal.nD,
      r.2.mem ((c.tc : Thread Cert.StepTailRefIdeal.nD Cert.StepTailRefIdeal.τ).loc Cert.StepTailRefIdeal.main_arg0) = m ((c.tc : Thread Cert.StepTailRefIdeal.nD Cert.StepTailRefIdeal.τ).loc Cert.StepTailRefIdeal.main_arg0)
      ∧ r.2.mem ((c.tc : Thread Cert.StepTailRefIdeal.nD Cert.StepTailRefIdeal.τ).loc Cert.StepTailRefIdeal.main_arg1) = m ((c.tc : Thread Cert.StepTailRefIdeal.nD Cert.StepTailRefIdeal.τ).loc Cert.StepTailRefIdeal.main_arg1)
      ∧ r.2.mem ((c.tc : Thread Cert.StepTailRefIdeal.nD Cert.StepTailRefIdeal.τ).loc Cert.StepTailRefIdeal.main_arg2) = m ((c.tc : Thread Cert.StepTailRefIdeal.nD Cert.StepTailRefIdeal.τ).loc Cert.StepTailRefIdeal.main_arg2)
      ∧ r.2.mem ((c.tc : Thread Cert.StepTailRefIdeal.nD Cert.StepTailRefIdeal.τ).loc Cert.StepTailRefIdeal.main_arg3) = m ((c.tc : Thread Cert.StepTailRefIdeal.nD Cert.StepTailRefIdeal.τ).loc Cert.StepTailRefIdeal.main_arg3)
      ∧ r.2.mem ((c.tc : Thread Cert.StepTailRefIdeal.nD Cert.StepTailRefIdeal.τ).loc Cert.StepTailRefIdeal.main_arg4) = m ((c.tc : Thread Cert.StepTailRefIdeal.nD Cert.StepTailRefIdeal.τ).loc Cert.StepTailRefIdeal.main_arg4)
      ∧ r.2.mem ((c.tc : Thread Cert.StepTailRefIdeal.nD Cert.StepTailRefIdeal.τ).loc Cert.StepTailRefIdeal.main_arg5) = m ((c.tc : Thread Cert.StepTailRefIdeal.nD Cert.StepTailRefIdeal.τ).loc Cert.StepTailRefIdeal.main_arg5)
      ∧ r.2.mem ((c.tc : Thread Cert.StepTailRefIdeal.nD Cert.StepTailRefIdeal.τ).loc Cert.StepTailRefIdeal.main_arg6) = m ((c.tc : Thread Cert.StepTailRefIdeal.nD Cert.StepTailRefIdeal.τ).loc Cert.StepTailRefIdeal.main_arg6)
      ∧ r.2.mem ((c.tc : Thread Cert.StepTailRefIdeal.nD Cert.StepTailRefIdeal.τ).loc Cert.StepTailRefIdeal.main_arg7) = m ((c.tc : Thread Cert.StepTailRefIdeal.nD Cert.StepTailRefIdeal.τ).loc Cert.StepTailRefIdeal.main_arg7)
      ∧ r.2.mem ((c.tc : Thread Cert.StepTailRefIdeal.nD Cert.StepTailRefIdeal.τ).loc Cert.StepTailRefIdeal.main_arg8) = m ((c.tc : Thread Cert.StepTailRefIdeal.nD Cert.StepTailRefIdeal.τ).loc Cert.StepTailRefIdeal.main_arg8)
      ∧ r.2.mem ((c.tc : Thread Cert.StepTailRefIdeal.nD Cert.StepTailRefIdeal.τ).loc Cert.StepTailRefIdeal.main_arg9) = m ((c.tc : Thread Cert.StepTailRefIdeal.nD Cert.StepTailRefIdeal.τ).loc Cert.StepTailRefIdeal.main_arg9)
      ∧ r.2.mem ((c.tc : Thread Cert.StepTailRefIdeal.nD Cert.StepTailRefIdeal.τ).loc Cert.StepTailRefIdeal.main_arg10) = m ((c.tc : Thread Cert.StepTailRefIdeal.nD Cert.StepTailRefIdeal.τ).loc Cert.StepTailRefIdeal.main_arg10)
      ∧ r.2.mem ((c.tc : Thread Cert.StepTailRefIdeal.nD Cert.StepTailRefIdeal.τ).loc Cert.StepTailRefIdeal.main_arg11) = m ((c.tc : Thread Cert.StepTailRefIdeal.nD Cert.StepTailRefIdeal.τ).loc Cert.StepTailRefIdeal.main_arg11)
      ∧ r.2.mem ((c.tc : Thread Cert.StepTailRefIdeal.nD Cert.StepTailRefIdeal.τ).loc Cert.StepTailRefIdeal.main_arg12) = m ((c.tc : Thread Cert.StepTailRefIdeal.nD Cert.StepTailRefIdeal.τ).loc Cert.StepTailRefIdeal.main_arg12)
      ∧ r.2.mem ((c.tc : Thread Cert.StepTailRefIdeal.nD Cert.StepTailRefIdeal.τ).loc Cert.StepTailRefIdeal.main_arg13) = m ((c.tc : Thread Cert.StepTailRefIdeal.nD Cert.StepTailRefIdeal.τ).loc Cert.StepTailRefIdeal.main_arg13)
      ∧ r.2.mem ((c.tc : Thread Cert.StepTailRefIdeal.nD Cert.StepTailRefIdeal.τ).loc Cert.StepTailRefIdeal.main_arg14) = m ((c.tc : Thread Cert.StepTailRefIdeal.nD Cert.StepTailRefIdeal.τ).loc Cert.StepTailRefIdeal.main_arg14))
      ∧ r.2.sem = fun _ => 0)

def quiescent_StepSsm [hStepSsm : Cert.StepSsm.Facts] : Prop :=
  ∀ (m : (ℓ : Loc Cert.StepSsm.nD Cert.StepSsm.τ Cert.StepSsm.sig) → Buf (Elt Bits) ℓ) (g : Dev Cert.StepSsm.nD → PrngReg), Pre_StepSsm m →
    θ_run (Cert.StepSsm.defs (F := Bits)) (onTc (τ := Cert.StepSsm.τ) (Cert.StepSsm.main (F := Bits))) ⟨m, fun _ => 0, g⟩ (fun r => (∀ c : Dev Cert.StepSsm.nD,
      r.2.mem ((c.tc : Thread Cert.StepSsm.nD Cert.StepSsm.τ).loc Cert.StepSsm.main_arg0) = m ((c.tc : Thread Cert.StepSsm.nD Cert.StepSsm.τ).loc Cert.StepSsm.main_arg0)
      ∧ r.2.mem ((c.tc : Thread Cert.StepSsm.nD Cert.StepSsm.τ).loc Cert.StepSsm.main_arg1) = m ((c.tc : Thread Cert.StepSsm.nD Cert.StepSsm.τ).loc Cert.StepSsm.main_arg1)
      ∧ r.2.mem ((c.tc : Thread Cert.StepSsm.nD Cert.StepSsm.τ).loc Cert.StepSsm.main_arg2) = m ((c.tc : Thread Cert.StepSsm.nD Cert.StepSsm.τ).loc Cert.StepSsm.main_arg2)
      ∧ r.2.mem ((c.tc : Thread Cert.StepSsm.nD Cert.StepSsm.τ).loc Cert.StepSsm.main_arg3) = m ((c.tc : Thread Cert.StepSsm.nD Cert.StepSsm.τ).loc Cert.StepSsm.main_arg3)
      ∧ r.2.mem ((c.tc : Thread Cert.StepSsm.nD Cert.StepSsm.τ).loc Cert.StepSsm.main_arg4) = m ((c.tc : Thread Cert.StepSsm.nD Cert.StepSsm.τ).loc Cert.StepSsm.main_arg4)
      ∧ r.2.mem ((c.tc : Thread Cert.StepSsm.nD Cert.StepSsm.τ).loc Cert.StepSsm.main_arg5) = m ((c.tc : Thread Cert.StepSsm.nD Cert.StepSsm.τ).loc Cert.StepSsm.main_arg5)
      ∧ r.2.mem ((c.tc : Thread Cert.StepSsm.nD Cert.StepSsm.τ).loc Cert.StepSsm.main_arg6) = m ((c.tc : Thread Cert.StepSsm.nD Cert.StepSsm.τ).loc Cert.StepSsm.main_arg6)
      ∧ r.2.mem ((c.tc : Thread Cert.StepSsm.nD Cert.StepSsm.τ).loc Cert.StepSsm.main_arg7) = m ((c.tc : Thread Cert.StepSsm.nD Cert.StepSsm.τ).loc Cert.StepSsm.main_arg7)
      ∧ r.2.mem ((c.tc : Thread Cert.StepSsm.nD Cert.StepSsm.τ).loc Cert.StepSsm.main_arg8) = m ((c.tc : Thread Cert.StepSsm.nD Cert.StepSsm.τ).loc Cert.StepSsm.main_arg8)
      ∧ r.2.mem ((c.tc : Thread Cert.StepSsm.nD Cert.StepSsm.τ).loc Cert.StepSsm.main_arg9) = m ((c.tc : Thread Cert.StepSsm.nD Cert.StepSsm.τ).loc Cert.StepSsm.main_arg9)
      ∧ r.2.mem ((c.tc : Thread Cert.StepSsm.nD Cert.StepSsm.τ).loc Cert.StepSsm.main_arg10) = m ((c.tc : Thread Cert.StepSsm.nD Cert.StepSsm.τ).loc Cert.StepSsm.main_arg10))
      ∧ r.2.sem = fun _ => 0)

def quiescent_StepSsmIdeal [hStepSsmIdeal : Cert.StepSsmIdeal.Facts] : Prop :=
  ∀ (m : (ℓ : Loc Cert.StepSsmIdeal.nD Cert.StepSsmIdeal.τ Cert.StepSsmIdeal.sig) → Buf (Elt Ideal) ℓ) (g : Dev Cert.StepSsmIdeal.nD → PrngReg), Pre_StepSsmIdeal m →
    θ_run (Cert.StepSsmIdeal.defs (F := Ideal)) (onTc (τ := Cert.StepSsmIdeal.τ) (Cert.StepSsmIdeal.main (F := Ideal))) ⟨m, fun _ => 0, g⟩ (fun r => (∀ c : Dev Cert.StepSsmIdeal.nD,
      r.2.mem ((c.tc : Thread Cert.StepSsmIdeal.nD Cert.StepSsmIdeal.τ).loc Cert.StepSsmIdeal.main_arg0) = m ((c.tc : Thread Cert.StepSsmIdeal.nD Cert.StepSsmIdeal.τ).loc Cert.StepSsmIdeal.main_arg0)
      ∧ r.2.mem ((c.tc : Thread Cert.StepSsmIdeal.nD Cert.StepSsmIdeal.τ).loc Cert.StepSsmIdeal.main_arg1) = m ((c.tc : Thread Cert.StepSsmIdeal.nD Cert.StepSsmIdeal.τ).loc Cert.StepSsmIdeal.main_arg1)
      ∧ r.2.mem ((c.tc : Thread Cert.StepSsmIdeal.nD Cert.StepSsmIdeal.τ).loc Cert.StepSsmIdeal.main_arg2) = m ((c.tc : Thread Cert.StepSsmIdeal.nD Cert.StepSsmIdeal.τ).loc Cert.StepSsmIdeal.main_arg2)
      ∧ r.2.mem ((c.tc : Thread Cert.StepSsmIdeal.nD Cert.StepSsmIdeal.τ).loc Cert.StepSsmIdeal.main_arg3) = m ((c.tc : Thread Cert.StepSsmIdeal.nD Cert.StepSsmIdeal.τ).loc Cert.StepSsmIdeal.main_arg3)
      ∧ r.2.mem ((c.tc : Thread Cert.StepSsmIdeal.nD Cert.StepSsmIdeal.τ).loc Cert.StepSsmIdeal.main_arg4) = m ((c.tc : Thread Cert.StepSsmIdeal.nD Cert.StepSsmIdeal.τ).loc Cert.StepSsmIdeal.main_arg4)
      ∧ r.2.mem ((c.tc : Thread Cert.StepSsmIdeal.nD Cert.StepSsmIdeal.τ).loc Cert.StepSsmIdeal.main_arg5) = m ((c.tc : Thread Cert.StepSsmIdeal.nD Cert.StepSsmIdeal.τ).loc Cert.StepSsmIdeal.main_arg5)
      ∧ r.2.mem ((c.tc : Thread Cert.StepSsmIdeal.nD Cert.StepSsmIdeal.τ).loc Cert.StepSsmIdeal.main_arg6) = m ((c.tc : Thread Cert.StepSsmIdeal.nD Cert.StepSsmIdeal.τ).loc Cert.StepSsmIdeal.main_arg6)
      ∧ r.2.mem ((c.tc : Thread Cert.StepSsmIdeal.nD Cert.StepSsmIdeal.τ).loc Cert.StepSsmIdeal.main_arg7) = m ((c.tc : Thread Cert.StepSsmIdeal.nD Cert.StepSsmIdeal.τ).loc Cert.StepSsmIdeal.main_arg7)
      ∧ r.2.mem ((c.tc : Thread Cert.StepSsmIdeal.nD Cert.StepSsmIdeal.τ).loc Cert.StepSsmIdeal.main_arg8) = m ((c.tc : Thread Cert.StepSsmIdeal.nD Cert.StepSsmIdeal.τ).loc Cert.StepSsmIdeal.main_arg8)
      ∧ r.2.mem ((c.tc : Thread Cert.StepSsmIdeal.nD Cert.StepSsmIdeal.τ).loc Cert.StepSsmIdeal.main_arg9) = m ((c.tc : Thread Cert.StepSsmIdeal.nD Cert.StepSsmIdeal.τ).loc Cert.StepSsmIdeal.main_arg9)
      ∧ r.2.mem ((c.tc : Thread Cert.StepSsmIdeal.nD Cert.StepSsmIdeal.τ).loc Cert.StepSsmIdeal.main_arg10) = m ((c.tc : Thread Cert.StepSsmIdeal.nD Cert.StepSsmIdeal.τ).loc Cert.StepSsmIdeal.main_arg10))
      ∧ r.2.sem = fun _ => 0)

def quiescent_StepSsmRefIdeal [hStepSsmRefIdeal : Cert.StepSsmRefIdeal.Facts] : Prop :=
  ∀ (m : (ℓ : Loc Cert.StepSsmRefIdeal.nD Cert.StepSsmRefIdeal.τ Cert.StepSsmRefIdeal.sig) → Buf (Elt Ideal) ℓ) (g : Dev Cert.StepSsmRefIdeal.nD → PrngReg), Pre_StepSsmRefIdeal m →
    θ_run (Cert.StepSsmRefIdeal.defs (F := Ideal)) (onTc (τ := Cert.StepSsmRefIdeal.τ) (Cert.StepSsmRefIdeal.main (F := Ideal))) ⟨m, fun _ => 0, g⟩ (fun r => (∀ c : Dev Cert.StepSsmRefIdeal.nD,
      r.2.mem ((c.tc : Thread Cert.StepSsmRefIdeal.nD Cert.StepSsmRefIdeal.τ).loc Cert.StepSsmRefIdeal.main_arg0) = m ((c.tc : Thread Cert.StepSsmRefIdeal.nD Cert.StepSsmRefIdeal.τ).loc Cert.StepSsmRefIdeal.main_arg0)
      ∧ r.2.mem ((c.tc : Thread Cert.StepSsmRefIdeal.nD Cert.StepSsmRefIdeal.τ).loc Cert.StepSsmRefIdeal.main_arg1) = m ((c.tc : Thread Cert.StepSsmRefIdeal.nD Cert.StepSsmRefIdeal.τ).loc Cert.StepSsmRefIdeal.main_arg1)
      ∧ r.2.mem ((c.tc : Thread Cert.StepSsmRefIdeal.nD Cert.StepSsmRefIdeal.τ).loc Cert.StepSsmRefIdeal.main_arg2) = m ((c.tc : Thread Cert.StepSsmRefIdeal.nD Cert.StepSsmRefIdeal.τ).loc Cert.StepSsmRefIdeal.main_arg2)
      ∧ r.2.mem ((c.tc : Thread Cert.StepSsmRefIdeal.nD Cert.StepSsmRefIdeal.τ).loc Cert.StepSsmRefIdeal.main_arg3) = m ((c.tc : Thread Cert.StepSsmRefIdeal.nD Cert.StepSsmRefIdeal.τ).loc Cert.StepSsmRefIdeal.main_arg3)
      ∧ r.2.mem ((c.tc : Thread Cert.StepSsmRefIdeal.nD Cert.StepSsmRefIdeal.τ).loc Cert.StepSsmRefIdeal.main_arg4) = m ((c.tc : Thread Cert.StepSsmRefIdeal.nD Cert.StepSsmRefIdeal.τ).loc Cert.StepSsmRefIdeal.main_arg4)
      ∧ r.2.mem ((c.tc : Thread Cert.StepSsmRefIdeal.nD Cert.StepSsmRefIdeal.τ).loc Cert.StepSsmRefIdeal.main_arg5) = m ((c.tc : Thread Cert.StepSsmRefIdeal.nD Cert.StepSsmRefIdeal.τ).loc Cert.StepSsmRefIdeal.main_arg5)
      ∧ r.2.mem ((c.tc : Thread Cert.StepSsmRefIdeal.nD Cert.StepSsmRefIdeal.τ).loc Cert.StepSsmRefIdeal.main_arg6) = m ((c.tc : Thread Cert.StepSsmRefIdeal.nD Cert.StepSsmRefIdeal.τ).loc Cert.StepSsmRefIdeal.main_arg6)
      ∧ r.2.mem ((c.tc : Thread Cert.StepSsmRefIdeal.nD Cert.StepSsmRefIdeal.τ).loc Cert.StepSsmRefIdeal.main_arg7) = m ((c.tc : Thread Cert.StepSsmRefIdeal.nD Cert.StepSsmRefIdeal.τ).loc Cert.StepSsmRefIdeal.main_arg7)
      ∧ r.2.mem ((c.tc : Thread Cert.StepSsmRefIdeal.nD Cert.StepSsmRefIdeal.τ).loc Cert.StepSsmRefIdeal.main_arg8) = m ((c.tc : Thread Cert.StepSsmRefIdeal.nD Cert.StepSsmRefIdeal.τ).loc Cert.StepSsmRefIdeal.main_arg8)
      ∧ r.2.mem ((c.tc : Thread Cert.StepSsmRefIdeal.nD Cert.StepSsmRefIdeal.τ).loc Cert.StepSsmRefIdeal.main_arg9) = m ((c.tc : Thread Cert.StepSsmRefIdeal.nD Cert.StepSsmRefIdeal.τ).loc Cert.StepSsmRefIdeal.main_arg9)
      ∧ r.2.mem ((c.tc : Thread Cert.StepSsmRefIdeal.nD Cert.StepSsmRefIdeal.τ).loc Cert.StepSsmRefIdeal.main_arg10) = m ((c.tc : Thread Cert.StepSsmRefIdeal.nD Cert.StepSsmRefIdeal.τ).loc Cert.StepSsmRefIdeal.main_arg10))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6))
      ∧ r.2.sem = fun _ => 0)

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)
      ∧ m' ((c.tc : Thread Cert.TailRefIdeal.nD Cert.TailRefIdeal.τ).loc Cert.TailRefIdeal.main_arg12) = m ((c.tc : Thread Cert.TailIdeal.nD Cert.TailIdeal.τ).loc Cert.TailIdeal.main_arg12)
      ∧ m' ((c.tc : Thread Cert.TailRefIdeal.nD Cert.TailRefIdeal.τ).loc Cert.TailRefIdeal.main_arg13) = m ((c.tc : Thread Cert.TailIdeal.nD Cert.TailIdeal.τ).loc Cert.TailIdeal.main_arg13)) →
    ∃ (v0 : (c : Dev Cert.TailIdeal.nD) → Buf (Elt Ideal) ((c.tc : Thread Cert.TailIdeal.nD Cert.TailIdeal.τ).loc Cert.TailIdeal.main_v22_0)) (v1 : (c : Dev Cert.TailIdeal.nD) → Buf (Elt Ideal) ((c.tc : Thread Cert.TailIdeal.nD Cert.TailIdeal.τ).loc Cert.TailIdeal.main_v22_1)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v22_0) = v0 c
          ∧ r.2.mem ((c.tc : Thread Cert.TailIdeal.nD Cert.TailIdeal.τ).loc Cert.TailIdeal.main_v22_1) = v1 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v128) = v0 c
          ∧ r.2.mem ((c.tc : Thread Cert.TailRefIdeal.nD Cert.TailRefIdeal.τ).loc Cert.TailRefIdeal.main_v129) = v1 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11)
          ∧ r.2.mem ((c.tc : Thread Cert.TailRefIdeal.nD Cert.TailRefIdeal.τ).loc Cert.TailRefIdeal.main_arg12) = m' ((c.tc : Thread Cert.TailRefIdeal.nD Cert.TailRefIdeal.τ).loc Cert.TailRefIdeal.main_arg12)
          ∧ r.2.mem ((c.tc : Thread Cert.TailRefIdeal.nD Cert.TailRefIdeal.τ).loc Cert.TailRefIdeal.main_arg13) = m' ((c.tc : Thread Cert.TailRefIdeal.nD Cert.TailRefIdeal.τ).loc Cert.TailRefIdeal.main_arg13))

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v10)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v10) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v27) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v11_0)) (v1 : (c : Dev Cert.ProjIdeal.nD) → Buf (Elt Ideal) ((c.tc : Thread Cert.ProjIdeal.nD Cert.ProjIdeal.τ).loc Cert.ProjIdeal.main_v11_1)) (v2 : (c : Dev Cert.ProjIdeal.nD) → Buf (Elt Ideal) ((c.tc : Thread Cert.ProjIdeal.nD Cert.ProjIdeal.τ).loc Cert.ProjIdeal.main_v11_2)) (v3 : (c : Dev Cert.ProjIdeal.nD) → Buf (Elt Ideal) ((c.tc : Thread Cert.ProjIdeal.nD Cert.ProjIdeal.τ).loc Cert.ProjIdeal.main_v11_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v11_0) = v0 c
          ∧ r.2.mem ((c.tc : Thread Cert.ProjIdeal.nD Cert.ProjIdeal.τ).loc Cert.ProjIdeal.main_v11_1) = v1 c
          ∧ r.2.mem ((c.tc : Thread Cert.ProjIdeal.nD Cert.ProjIdeal.τ).loc Cert.ProjIdeal.main_v11_2) = v2 c
          ∧ r.2.mem ((c.tc : Thread Cert.ProjIdeal.nD Cert.ProjIdeal.τ).loc Cert.ProjIdeal.main_v11_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v22) = v0 c
          ∧ r.2.mem ((c.tc : Thread Cert.ProjRefIdeal.nD Cert.ProjRefIdeal.τ).loc Cert.ProjRefIdeal.main_v23) = v1 c
          ∧ r.2.mem ((c.tc : Thread Cert.ProjRefIdeal.nD Cert.ProjRefIdeal.τ).loc Cert.ProjRefIdeal.main_v24) = v2 c
          ∧ r.2.mem ((c.tc : Thread Cert.ProjRefIdeal.nD Cert.ProjRefIdeal.τ).loc Cert.ProjRefIdeal.main_v25) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_StepProj_StepProjIdeal : Prop :=
  True

def algebraic_StepProjIdeal_StepProjRefIdeal [hStepProjIdeal : Cert.StepProjIdeal.Facts] [hStepProjRefIdeal : Cert.StepProjRefIdeal.Facts] : Prop :=
  ∀ (m : (ℓ : Loc Cert.StepProjIdeal.nD Cert.StepProjIdeal.τ Cert.StepProjIdeal.sig) → Buf (Elt Ideal) ℓ) (g : Dev Cert.StepProjIdeal.nD → PrngReg)
    (m' : (ℓ : Loc Cert.StepProjRefIdeal.nD Cert.StepProjRefIdeal.τ Cert.StepProjRefIdeal.sig) → Buf (Elt Ideal) ℓ) (g' : Dev Cert.StepProjRefIdeal.nD → PrngReg), Pre_StepProjIdeal m →
    (∀ c : Dev Cert.StepProjIdeal.nD,
      m' ((c.tc : Thread Cert.StepProjRefIdeal.nD Cert.StepProjRefIdeal.τ).loc Cert.StepProjRefIdeal.main_arg0) = m ((c.tc : Thread Cert.StepProjIdeal.nD Cert.StepProjIdeal.τ).loc Cert.StepProjIdeal.main_arg0)
      ∧ m' ((c.tc : Thread Cert.StepProjRefIdeal.nD Cert.StepProjRefIdeal.τ).loc Cert.StepProjRefIdeal.main_arg1) = m ((c.tc : Thread Cert.StepProjIdeal.nD Cert.StepProjIdeal.τ).loc Cert.StepProjIdeal.main_arg1)
      ∧ m' ((c.tc : Thread Cert.StepProjRefIdeal.nD Cert.StepProjRefIdeal.τ).loc Cert.StepProjRefIdeal.main_arg2) = m ((c.tc : Thread Cert.StepProjIdeal.nD Cert.StepProjIdeal.τ).loc Cert.StepProjIdeal.main_arg2)) →
    ∃ (v0 : (c : Dev Cert.StepProjIdeal.nD) → Buf (Elt Ideal) ((c.tc : Thread Cert.StepProjIdeal.nD Cert.StepProjIdeal.τ).loc Cert.StepProjIdeal.main_v5_0)) (v1 : (c : Dev Cert.StepProjIdeal.nD) → Buf (Elt Ideal) ((c.tc : Thread Cert.StepProjIdeal.nD Cert.StepProjIdeal.τ).loc Cert.StepProjIdeal.main_v5_1)) (v2 : (c : Dev Cert.StepProjIdeal.nD) → Buf (Elt Ideal) ((c.tc : Thread Cert.StepProjIdeal.nD Cert.StepProjIdeal.τ).loc Cert.StepProjIdeal.main_v5_2)) (v3 : (c : Dev Cert.StepProjIdeal.nD) → Buf (Elt Ideal) ((c.tc : Thread Cert.StepProjIdeal.nD Cert.StepProjIdeal.τ).loc Cert.StepProjIdeal.main_v5_3)),
      θ_run (Cert.StepProjIdeal.defs (F := Ideal)) (onTc (τ := Cert.StepProjIdeal.τ) (Cert.StepProjIdeal.main (F := Ideal))) ⟨m, fun _ => 0, g⟩ (fun r => ∀ c : Dev Cert.StepProjIdeal.nD,
          r.2.mem ((c.tc : Thread Cert.StepProjIdeal.nD Cert.StepProjIdeal.τ).loc Cert.StepProjIdeal.main_v5_0) = v0 c
          ∧ r.2.mem ((c.tc : Thread Cert.StepProjIdeal.nD Cert.StepProjIdeal.τ).loc Cert.StepProjIdeal.main_v5_1) = v1 c
          ∧ r.2.mem ((c.tc : Thread Cert.StepProjIdeal.nD Cert.StepProjIdeal.τ).loc Cert.StepProjIdeal.main_v5_2) = v2 c
          ∧ r.2.mem ((c.tc : Thread Cert.StepProjIdeal.nD Cert.StepProjIdeal.τ).loc Cert.StepProjIdeal.main_v5_3) = v3 c
          ∧ r.2.mem ((c.tc : Thread Cert.StepProjIdeal.nD Cert.StepProjIdeal.τ).loc Cert.StepProjIdeal.main_arg0) = m ((c.tc : Thread Cert.StepProjIdeal.nD Cert.StepProjIdeal.τ).loc Cert.StepProjIdeal.main_arg0)
          ∧ r.2.mem ((c.tc : Thread Cert.StepProjIdeal.nD Cert.StepProjIdeal.τ).loc Cert.StepProjIdeal.main_arg1) = m ((c.tc : Thread Cert.StepProjIdeal.nD Cert.StepProjIdeal.τ).loc Cert.StepProjIdeal.main_arg1)
          ∧ r.2.mem ((c.tc : Thread Cert.StepProjIdeal.nD Cert.StepProjIdeal.τ).loc Cert.StepProjIdeal.main_arg2) = m ((c.tc : Thread Cert.StepProjIdeal.nD Cert.StepProjIdeal.τ).loc Cert.StepProjIdeal.main_arg2))
      ∧ θ_run (Cert.StepProjRefIdeal.defs (F := Ideal)) (onTc (τ := Cert.StepProjRefIdeal.τ) (Cert.StepProjRefIdeal.main (F := Ideal))) ⟨m', fun _ => 0, g'⟩ (fun r => ∀ c : Dev Cert.StepProjRefIdeal.nD,
          r.2.mem ((c.tc : Thread Cert.StepProjRefIdeal.nD Cert.StepProjRefIdeal.τ).loc Cert.StepProjRefIdeal.main_v20) = v0 c
          ∧ r.2.mem ((c.tc : Thread Cert.StepProjRefIdeal.nD Cert.StepProjRefIdeal.τ).loc Cert.StepProjRefIdeal.main_v21) = v1 c
          ∧ r.2.mem ((c.tc : Thread Cert.StepProjRefIdeal.nD Cert.StepProjRefIdeal.τ).loc Cert.StepProjRefIdeal.main_v22) = v2 c
          ∧ r.2.mem ((c.tc : Thread Cert.StepProjRefIdeal.nD Cert.StepProjRefIdeal.τ).loc Cert.StepProjRefIdeal.main_v23) = v3 c
          ∧ r.2.mem ((c.tc : Thread Cert.StepProjRefIdeal.nD Cert.StepProjRefIdeal.τ).loc Cert.StepProjRefIdeal.main_arg0) = m' ((c.tc : Thread Cert.StepProjRefIdeal.nD Cert.StepProjRefIdeal.τ).loc Cert.StepProjRefIdeal.main_arg0)
          ∧ r.2.mem ((c.tc : Thread Cert.StepProjRefIdeal.nD Cert.StepProjRefIdeal.τ).loc Cert.StepProjRefIdeal.main_arg1) = m' ((c.tc : Thread Cert.StepProjRefIdeal.nD Cert.StepProjRefIdeal.τ).loc Cert.StepProjRefIdeal.main_arg1)
          ∧ r.2.mem ((c.tc : Thread Cert.StepProjRefIdeal.nD Cert.StepProjRefIdeal.τ).loc Cert.StepProjRefIdeal.main_arg2) = m' ((c.tc : Thread Cert.StepProjRefIdeal.nD Cert.StepProjRefIdeal.τ).loc Cert.StepProjRefIdeal.main_arg2))

def preserves_StepTail_StepTailIdeal : Prop :=
  True

def algebraic_StepTailIdeal_StepTailRefIdeal [hStepTailIdeal : Cert.StepTailIdeal.Facts] [hStepTailRefIdeal : Cert.StepTailRefIdeal.Facts] : Prop :=
  ∀ (m : (ℓ : Loc Cert.StepTailIdeal.nD Cert.StepTailIdeal.τ Cert.StepTailIdeal.sig) → Buf (Elt Ideal) ℓ) (g : Dev Cert.StepTailIdeal.nD → PrngReg)
    (m' : (ℓ : Loc Cert.StepTailRefIdeal.nD Cert.StepTailRefIdeal.τ Cert.StepTailRefIdeal.sig) → Buf (Elt Ideal) ℓ) (g' : Dev Cert.StepTailRefIdeal.nD → PrngReg), Pre_StepTailIdeal m →
    (∀ c : Dev Cert.StepTailIdeal.nD,
      m' ((c.tc : Thread Cert.StepTailRefIdeal.nD Cert.StepTailRefIdeal.τ).loc Cert.StepTailRefIdeal.main_arg0) = m ((c.tc : Thread Cert.StepTailIdeal.nD Cert.StepTailIdeal.τ).loc Cert.StepTailIdeal.main_arg0)
      ∧ m' ((c.tc : Thread Cert.StepTailRefIdeal.nD Cert.StepTailRefIdeal.τ).loc Cert.StepTailRefIdeal.main_arg1) = m ((c.tc : Thread Cert.StepTailIdeal.nD Cert.StepTailIdeal.τ).loc Cert.StepTailIdeal.main_arg1)
      ∧ m' ((c.tc : Thread Cert.StepTailRefIdeal.nD Cert.StepTailRefIdeal.τ).loc Cert.StepTailRefIdeal.main_arg2) = m ((c.tc : Thread Cert.StepTailIdeal.nD Cert.StepTailIdeal.τ).loc Cert.StepTailIdeal.main_arg2)
      ∧ m' ((c.tc : Thread Cert.StepTailRefIdeal.nD Cert.StepTailRefIdeal.τ).loc Cert.StepTailRefIdeal.main_arg3) = m ((c.tc : Thread Cert.StepTailIdeal.nD Cert.StepTailIdeal.τ).loc Cert.StepTailIdeal.main_arg3)
      ∧ m' ((c.tc : Thread Cert.StepTailRefIdeal.nD Cert.StepTailRefIdeal.τ).loc Cert.StepTailRefIdeal.main_arg4) = m ((c.tc : Thread Cert.StepTailIdeal.nD Cert.StepTailIdeal.τ).loc Cert.StepTailIdeal.main_arg4)
      ∧ m' ((c.tc : Thread Cert.StepTailRefIdeal.nD Cert.StepTailRefIdeal.τ).loc Cert.StepTailRefIdeal.main_arg5) = m ((c.tc : Thread Cert.StepTailIdeal.nD Cert.StepTailIdeal.τ).loc Cert.StepTailIdeal.main_arg5)
      ∧ m' ((c.tc : Thread Cert.StepTailRefIdeal.nD Cert.StepTailRefIdeal.τ).loc Cert.StepTailRefIdeal.main_arg6) = m ((c.tc : Thread Cert.StepTailIdeal.nD Cert.StepTailIdeal.τ).loc Cert.StepTailIdeal.main_arg6)
      ∧ m' ((c.tc : Thread Cert.StepTailRefIdeal.nD Cert.StepTailRefIdeal.τ).loc Cert.StepTailRefIdeal.main_arg7) = m ((c.tc : Thread Cert.StepTailIdeal.nD Cert.StepTailIdeal.τ).loc Cert.StepTailIdeal.main_arg7)
      ∧ m' ((c.tc : Thread Cert.StepTailRefIdeal.nD Cert.StepTailRefIdeal.τ).loc Cert.StepTailRefIdeal.main_arg8) = m ((c.tc : Thread Cert.StepTailIdeal.nD Cert.StepTailIdeal.τ).loc Cert.StepTailIdeal.main_arg8)
      ∧ m' ((c.tc : Thread Cert.StepTailRefIdeal.nD Cert.StepTailRefIdeal.τ).loc Cert.StepTailRefIdeal.main_arg9) = m ((c.tc : Thread Cert.StepTailIdeal.nD Cert.StepTailIdeal.τ).loc Cert.StepTailIdeal.main_arg9)
      ∧ m' ((c.tc : Thread Cert.StepTailRefIdeal.nD Cert.StepTailRefIdeal.τ).loc Cert.StepTailRefIdeal.main_arg10) = m ((c.tc : Thread Cert.StepTailIdeal.nD Cert.StepTailIdeal.τ).loc Cert.StepTailIdeal.main_arg10)
      ∧ m' ((c.tc : Thread Cert.StepTailRefIdeal.nD Cert.StepTailRefIdeal.τ).loc Cert.StepTailRefIdeal.main_arg11) = m ((c.tc : Thread Cert.StepTailIdeal.nD Cert.StepTailIdeal.τ).loc Cert.StepTailIdeal.main_arg11)
      ∧ m' ((c.tc : Thread Cert.StepTailRefIdeal.nD Cert.StepTailRefIdeal.τ).loc Cert.StepTailRefIdeal.main_arg12) = m ((c.tc : Thread Cert.StepTailIdeal.nD Cert.StepTailIdeal.τ).loc Cert.StepTailIdeal.main_arg12)
      ∧ m' ((c.tc : Thread Cert.StepTailRefIdeal.nD Cert.StepTailRefIdeal.τ).loc Cert.StepTailRefIdeal.main_arg13) = m ((c.tc : Thread Cert.StepTailIdeal.nD Cert.StepTailIdeal.τ).loc Cert.StepTailIdeal.main_arg13)
      ∧ m' ((c.tc : Thread Cert.StepTailRefIdeal.nD Cert.StepTailRefIdeal.τ).loc Cert.StepTailRefIdeal.main_arg14) = m ((c.tc : Thread Cert.StepTailIdeal.nD Cert.StepTailIdeal.τ).loc Cert.StepTailIdeal.main_arg14)) →
    ∃ (v0 : (c : Dev Cert.StepTailIdeal.nD) → Buf (Elt Ideal) ((c.tc : Thread Cert.StepTailIdeal.nD Cert.StepTailIdeal.τ).loc Cert.StepTailIdeal.main_v27_0)) (v1 : (c : Dev Cert.StepTailIdeal.nD) → Buf (Elt Ideal) ((c.tc : Thread Cert.StepTailIdeal.nD Cert.StepTailIdeal.τ).loc Cert.StepTailIdeal.main_v27_1)),
      θ_run (Cert.StepTailIdeal.defs (F := Ideal)) (onTc (τ := Cert.StepTailIdeal.τ) (Cert.StepTailIdeal.main (F := Ideal))) ⟨m, fun _ => 0, g⟩ (fun r => ∀ c : Dev Cert.StepTailIdeal.nD,
          r.2.mem ((c.tc : Thread Cert.StepTailIdeal.nD Cert.StepTailIdeal.τ).loc Cert.StepTailIdeal.main_v27_0) = v0 c
          ∧ r.2.mem ((c.tc : Thread Cert.StepTailIdeal.nD Cert.StepTailIdeal.τ).loc Cert.StepTailIdeal.main_v27_1) = v1 c
          ∧ r.2.mem ((c.tc : Thread Cert.StepTailIdeal.nD Cert.StepTailIdeal.τ).loc Cert.StepTailIdeal.main_arg0) = m ((c.tc : Thread Cert.StepTailIdeal.nD Cert.StepTailIdeal.τ).loc Cert.StepTailIdeal.main_arg0)
          ∧ r.2.mem ((c.tc : Thread Cert.StepTailIdeal.nD Cert.StepTailIdeal.τ).loc Cert.StepTailIdeal.main_arg1) = m ((c.tc : Thread Cert.StepTailIdeal.nD Cert.StepTailIdeal.τ).loc Cert.StepTailIdeal.main_arg1)
          ∧ r.2.mem ((c.tc : Thread Cert.StepTailIdeal.nD Cert.StepTailIdeal.τ).loc Cert.StepTailIdeal.main_arg2) = m ((c.tc : Thread Cert.StepTailIdeal.nD Cert.StepTailIdeal.τ).loc Cert.StepTailIdeal.main_arg2)
          ∧ r.2.mem ((c.tc : Thread Cert.StepTailIdeal.nD Cert.StepTailIdeal.τ).loc Cert.StepTailIdeal.main_arg3) = m ((c.tc : Thread Cert.StepTailIdeal.nD Cert.StepTailIdeal.τ).loc Cert.StepTailIdeal.main_arg3)
          ∧ r.2.mem ((c.tc : Thread Cert.StepTailIdeal.nD Cert.StepTailIdeal.τ).loc Cert.StepTailIdeal.main_arg4) = m ((c.tc : Thread Cert.StepTailIdeal.nD Cert.StepTailIdeal.τ).loc Cert.StepTailIdeal.main_arg4)
          ∧ r.2.mem ((c.tc : Thread Cert.StepTailIdeal.nD Cert.StepTailIdeal.τ).loc Cert.StepTailIdeal.main_arg5) = m ((c.tc : Thread Cert.StepTailIdeal.nD Cert.StepTailIdeal.τ).loc Cert.StepTailIdeal.main_arg5)
          ∧ r.2.mem ((c.tc : Thread Cert.StepTailIdeal.nD Cert.StepTailIdeal.τ).loc Cert.StepTailIdeal.main_arg6) = m ((c.tc : Thread Cert.StepTailIdeal.nD Cert.StepTailIdeal.τ).loc Cert.StepTailIdeal.main_arg6)
          ∧ r.2.mem ((c.tc : Thread Cert.StepTailIdeal.nD Cert.StepTailIdeal.τ).loc Cert.StepTailIdeal.main_arg7) = m ((c.tc : Thread Cert.StepTailIdeal.nD Cert.StepTailIdeal.τ).loc Cert.StepTailIdeal.main_arg7)
          ∧ r.2.mem ((c.tc : Thread Cert.StepTailIdeal.nD Cert.StepTailIdeal.τ).loc Cert.StepTailIdeal.main_arg8) = m ((c.tc : Thread Cert.StepTailIdeal.nD Cert.StepTailIdeal.τ).loc Cert.StepTailIdeal.main_arg8)
          ∧ r.2.mem ((c.tc : Thread Cert.StepTailIdeal.nD Cert.StepTailIdeal.τ).loc Cert.StepTailIdeal.main_arg9) = m ((c.tc : Thread Cert.StepTailIdeal.nD Cert.StepTailIdeal.τ).loc Cert.StepTailIdeal.main_arg9)
          ∧ r.2.mem ((c.tc : Thread Cert.StepTailIdeal.nD Cert.StepTailIdeal.τ).loc Cert.StepTailIdeal.main_arg10) = m ((c.tc : Thread Cert.StepTailIdeal.nD Cert.StepTailIdeal.τ).loc Cert.StepTailIdeal.main_arg10)
          ∧ r.2.mem ((c.tc : Thread Cert.StepTailIdeal.nD Cert.StepTailIdeal.τ).loc Cert.StepTailIdeal.main_arg11) = m ((c.tc : Thread Cert.StepTailIdeal.nD Cert.StepTailIdeal.τ).loc Cert.StepTailIdeal.main_arg11)
          ∧ r.2.mem ((c.tc : Thread Cert.StepTailIdeal.nD Cert.StepTailIdeal.τ).loc Cert.StepTailIdeal.main_arg12) = m ((c.tc : Thread Cert.StepTailIdeal.nD Cert.StepTailIdeal.τ).loc Cert.StepTailIdeal.main_arg12)
          ∧ r.2.mem ((c.tc : Thread Cert.StepTailIdeal.nD Cert.StepTailIdeal.τ).loc Cert.StepTailIdeal.main_arg13) = m ((c.tc : Thread Cert.StepTailIdeal.nD Cert.StepTailIdeal.τ).loc Cert.StepTailIdeal.main_arg13)
          ∧ r.2.mem ((c.tc : Thread Cert.StepTailIdeal.nD Cert.StepTailIdeal.τ).loc Cert.StepTailIdeal.main_arg14) = m ((c.tc : Thread Cert.StepTailIdeal.nD Cert.StepTailIdeal.τ).loc Cert.StepTailIdeal.main_arg14))
      ∧ θ_run (Cert.StepTailRefIdeal.defs (F := Ideal)) (onTc (τ := Cert.StepTailRefIdeal.τ) (Cert.StepTailRefIdeal.main (F := Ideal))) ⟨m', fun _ => 0, g'⟩ (fun r => ∀ c : Dev Cert.StepTailRefIdeal.nD,
          r.2.mem ((c.tc : Thread Cert.StepTailRefIdeal.nD Cert.StepTailRefIdeal.τ).loc Cert.StepTailRefIdeal.main_v128) = v0 c
          ∧ r.2.mem ((c.tc : Thread Cert.StepTailRefIdeal.nD Cert.StepTailRefIdeal.τ).loc Cert.StepTailRefIdeal.main_v130) = v1 c
          ∧ r.2.mem ((c.tc : Thread Cert.StepTailRefIdeal.nD Cert.StepTailRefIdeal.τ).loc Cert.StepTailRefIdeal.main_arg0) = m' ((c.tc : Thread Cert.StepTailRefIdeal.nD Cert.StepTailRefIdeal.τ).loc Cert.StepTailRefIdeal.main_arg0)
          ∧ r.2.mem ((c.tc : Thread Cert.StepTailRefIdeal.nD Cert.StepTailRefIdeal.τ).loc Cert.StepTailRefIdeal.main_arg1) = m' ((c.tc : Thread Cert.StepTailRefIdeal.nD Cert.StepTailRefIdeal.τ).loc Cert.StepTailRefIdeal.main_arg1)
          ∧ r.2.mem ((c.tc : Thread Cert.StepTailRefIdeal.nD Cert.StepTailRefIdeal.τ).loc Cert.StepTailRefIdeal.main_arg2) = m' ((c.tc : Thread Cert.StepTailRefIdeal.nD Cert.StepTailRefIdeal.τ).loc Cert.StepTailRefIdeal.main_arg2)
          ∧ r.2.mem ((c.tc : Thread Cert.StepTailRefIdeal.nD Cert.StepTailRefIdeal.τ).loc Cert.StepTailRefIdeal.main_arg3) = m' ((c.tc : Thread Cert.StepTailRefIdeal.nD Cert.StepTailRefIdeal.τ).loc Cert.StepTailRefIdeal.main_arg3)
          ∧ r.2.mem ((c.tc : Thread Cert.StepTailRefIdeal.nD Cert.StepTailRefIdeal.τ).loc Cert.StepTailRefIdeal.main_arg4) = m' ((c.tc : Thread Cert.StepTailRefIdeal.nD Cert.StepTailRefIdeal.τ).loc Cert.StepTailRefIdeal.main_arg4)
          ∧ r.2.mem ((c.tc : Thread Cert.StepTailRefIdeal.nD Cert.StepTailRefIdeal.τ).loc Cert.StepTailRefIdeal.main_arg5) = m' ((c.tc : Thread Cert.StepTailRefIdeal.nD Cert.StepTailRefIdeal.τ).loc Cert.StepTailRefIdeal.main_arg5)
          ∧ r.2.mem ((c.tc : Thread Cert.StepTailRefIdeal.nD Cert.StepTailRefIdeal.τ).loc Cert.StepTailRefIdeal.main_arg6) = m' ((c.tc : Thread Cert.StepTailRefIdeal.nD Cert.StepTailRefIdeal.τ).loc Cert.StepTailRefIdeal.main_arg6)
          ∧ r.2.mem ((c.tc : Thread Cert.StepTailRefIdeal.nD Cert.StepTailRefIdeal.τ).loc Cert.StepTailRefIdeal.main_arg7) = m' ((c.tc : Thread Cert.StepTailRefIdeal.nD Cert.StepTailRefIdeal.τ).loc Cert.StepTailRefIdeal.main_arg7)
          ∧ r.2.mem ((c.tc : Thread Cert.StepTailRefIdeal.nD Cert.StepTailRefIdeal.τ).loc Cert.StepTailRefIdeal.main_arg8) = m' ((c.tc : Thread Cert.StepTailRefIdeal.nD Cert.StepTailRefIdeal.τ).loc Cert.StepTailRefIdeal.main_arg8)
          ∧ r.2.mem ((c.tc : Thread Cert.StepTailRefIdeal.nD Cert.StepTailRefIdeal.τ).loc Cert.StepTailRefIdeal.main_arg9) = m' ((c.tc : Thread Cert.StepTailRefIdeal.nD Cert.StepTailRefIdeal.τ).loc Cert.StepTailRefIdeal.main_arg9)
          ∧ r.2.mem ((c.tc : Thread Cert.StepTailRefIdeal.nD Cert.StepTailRefIdeal.τ).loc Cert.StepTailRefIdeal.main_arg10) = m' ((c.tc : Thread Cert.StepTailRefIdeal.nD Cert.StepTailRefIdeal.τ).loc Cert.StepTailRefIdeal.main_arg10)
          ∧ r.2.mem ((c.tc : Thread Cert.StepTailRefIdeal.nD Cert.StepTailRefIdeal.τ).loc Cert.StepTailRefIdeal.main_arg11) = m' ((c.tc : Thread Cert.StepTailRefIdeal.nD Cert.StepTailRefIdeal.τ).loc Cert.StepTailRefIdeal.main_arg11)
          ∧ r.2.mem ((c.tc : Thread Cert.StepTailRefIdeal.nD Cert.StepTailRefIdeal.τ).loc Cert.StepTailRefIdeal.main_arg12) = m' ((c.tc : Thread Cert.StepTailRefIdeal.nD Cert.StepTailRefIdeal.τ).loc Cert.StepTailRefIdeal.main_arg12)
          ∧ r.2.mem ((c.tc : Thread Cert.StepTailRefIdeal.nD Cert.StepTailRefIdeal.τ).loc Cert.StepTailRefIdeal.main_arg13) = m' ((c.tc : Thread Cert.StepTailRefIdeal.nD Cert.StepTailRefIdeal.τ).loc Cert.StepTailRefIdeal.main_arg13)
          ∧ r.2.mem ((c.tc : Thread Cert.StepTailRefIdeal.nD Cert.StepTailRefIdeal.τ).loc Cert.StepTailRefIdeal.main_arg14) = m' ((c.tc : Thread Cert.StepTailRefIdeal.nD Cert.StepTailRefIdeal.τ).loc Cert.StepTailRefIdeal.main_arg14))

def preserves_StepSsm_StepSsmIdeal : Prop :=
  True

def algebraic_StepSsmIdeal_StepSsmRefIdeal [hStepSsmIdeal : Cert.StepSsmIdeal.Facts] [hStepSsmRefIdeal : Cert.StepSsmRefIdeal.Facts] : Prop :=
  ∀ (m : (ℓ : Loc Cert.StepSsmIdeal.nD Cert.StepSsmIdeal.τ Cert.StepSsmIdeal.sig) → Buf (Elt Ideal) ℓ) (g : Dev Cert.StepSsmIdeal.nD → PrngReg)
    (m' : (ℓ : Loc Cert.StepSsmRefIdeal.nD Cert.StepSsmRefIdeal.τ Cert.StepSsmRefIdeal.sig) → Buf (Elt Ideal) ℓ) (g' : Dev Cert.StepSsmRefIdeal.nD → PrngReg), Pre_StepSsmIdeal m →
    (∀ c : Dev Cert.StepSsmIdeal.nD,
      m' ((c.tc : Thread Cert.StepSsmRefIdeal.nD Cert.StepSsmRefIdeal.τ).loc Cert.StepSsmRefIdeal.main_arg0) = m ((c.tc : Thread Cert.StepSsmIdeal.nD Cert.StepSsmIdeal.τ).loc Cert.StepSsmIdeal.main_arg0)
      ∧ m' ((c.tc : Thread Cert.StepSsmRefIdeal.nD Cert.StepSsmRefIdeal.τ).loc Cert.StepSsmRefIdeal.main_arg1) = m ((c.tc : Thread Cert.StepSsmIdeal.nD Cert.StepSsmIdeal.τ).loc Cert.StepSsmIdeal.main_arg1)
      ∧ m' ((c.tc : Thread Cert.StepSsmRefIdeal.nD Cert.StepSsmRefIdeal.τ).loc Cert.StepSsmRefIdeal.main_arg2) = m ((c.tc : Thread Cert.StepSsmIdeal.nD Cert.StepSsmIdeal.τ).loc Cert.StepSsmIdeal.main_arg2)
      ∧ m' ((c.tc : Thread Cert.StepSsmRefIdeal.nD Cert.StepSsmRefIdeal.τ).loc Cert.StepSsmRefIdeal.main_arg3) = m ((c.tc : Thread Cert.StepSsmIdeal.nD Cert.StepSsmIdeal.τ).loc Cert.StepSsmIdeal.main_arg3)
      ∧ m' ((c.tc : Thread Cert.StepSsmRefIdeal.nD Cert.StepSsmRefIdeal.τ).loc Cert.StepSsmRefIdeal.main_arg4) = m ((c.tc : Thread Cert.StepSsmIdeal.nD Cert.StepSsmIdeal.τ).loc Cert.StepSsmIdeal.main_arg4)
      ∧ m' ((c.tc : Thread Cert.StepSsmRefIdeal.nD Cert.StepSsmRefIdeal.τ).loc Cert.StepSsmRefIdeal.main_arg5) = m ((c.tc : Thread Cert.StepSsmIdeal.nD Cert.StepSsmIdeal.τ).loc Cert.StepSsmIdeal.main_arg5)
      ∧ m' ((c.tc : Thread Cert.StepSsmRefIdeal.nD Cert.StepSsmRefIdeal.τ).loc Cert.StepSsmRefIdeal.main_arg6) = m ((c.tc : Thread Cert.StepSsmIdeal.nD Cert.StepSsmIdeal.τ).loc Cert.StepSsmIdeal.main_arg6)
      ∧ m' ((c.tc : Thread Cert.StepSsmRefIdeal.nD Cert.StepSsmRefIdeal.τ).loc Cert.StepSsmRefIdeal.main_arg7) = m ((c.tc : Thread Cert.StepSsmIdeal.nD Cert.StepSsmIdeal.τ).loc Cert.StepSsmIdeal.main_arg7)
      ∧ m' ((c.tc : Thread Cert.StepSsmRefIdeal.nD Cert.StepSsmRefIdeal.τ).loc Cert.StepSsmRefIdeal.main_arg8) = m ((c.tc : Thread Cert.StepSsmIdeal.nD Cert.StepSsmIdeal.τ).loc Cert.StepSsmIdeal.main_arg8)
      ∧ m' ((c.tc : Thread Cert.StepSsmRefIdeal.nD Cert.StepSsmRefIdeal.τ).loc Cert.StepSsmRefIdeal.main_arg9) = m ((c.tc : Thread Cert.StepSsmIdeal.nD Cert.StepSsmIdeal.τ).loc Cert.StepSsmIdeal.main_arg9)
      ∧ m' ((c.tc : Thread Cert.StepSsmRefIdeal.nD Cert.StepSsmRefIdeal.τ).loc Cert.StepSsmRefIdeal.main_arg10) = m ((c.tc : Thread Cert.StepSsmIdeal.nD Cert.StepSsmIdeal.τ).loc Cert.StepSsmIdeal.main_arg10)) →
    ∃ (v0 : (c : Dev Cert.StepSsmIdeal.nD) → Buf (Elt Ideal) ((c.tc : Thread Cert.StepSsmIdeal.nD Cert.StepSsmIdeal.τ).loc Cert.StepSsmIdeal.main_v8_0)) (v1 : (c : Dev Cert.StepSsmIdeal.nD) → Buf (Elt Ideal) ((c.tc : Thread Cert.StepSsmIdeal.nD Cert.StepSsmIdeal.τ).loc Cert.StepSsmIdeal.main_v8_1)) (v2 : (c : Dev Cert.StepSsmIdeal.nD) → Buf (Elt Ideal) ((c.tc : Thread Cert.StepSsmIdeal.nD Cert.StepSsmIdeal.τ).loc Cert.StepSsmIdeal.main_v8_2)),
      θ_run (Cert.StepSsmIdeal.defs (F := Ideal)) (onTc (τ := Cert.StepSsmIdeal.τ) (Cert.StepSsmIdeal.main (F := Ideal))) ⟨m, fun _ => 0, g⟩ (fun r => ∀ c : Dev Cert.StepSsmIdeal.nD,
          r.2.mem ((c.tc : Thread Cert.StepSsmIdeal.nD Cert.StepSsmIdeal.τ).loc Cert.StepSsmIdeal.main_v8_0) = v0 c
          ∧ r.2.mem ((c.tc : Thread Cert.StepSsmIdeal.nD Cert.StepSsmIdeal.τ).loc Cert.StepSsmIdeal.main_v8_1) = v1 c
          ∧ r.2.mem ((c.tc : Thread Cert.StepSsmIdeal.nD Cert.StepSsmIdeal.τ).loc Cert.StepSsmIdeal.main_v8_2) = v2 c
          ∧ r.2.mem ((c.tc : Thread Cert.StepSsmIdeal.nD Cert.StepSsmIdeal.τ).loc Cert.StepSsmIdeal.main_arg0) = m ((c.tc : Thread Cert.StepSsmIdeal.nD Cert.StepSsmIdeal.τ).loc Cert.StepSsmIdeal.main_arg0)
          ∧ r.2.mem ((c.tc : Thread Cert.StepSsmIdeal.nD Cert.StepSsmIdeal.τ).loc Cert.StepSsmIdeal.main_arg1) = m ((c.tc : Thread Cert.StepSsmIdeal.nD Cert.StepSsmIdeal.τ).loc Cert.StepSsmIdeal.main_arg1)
          ∧ r.2.mem ((c.tc : Thread Cert.StepSsmIdeal.nD Cert.StepSsmIdeal.τ).loc Cert.StepSsmIdeal.main_arg2) = m ((c.tc : Thread Cert.StepSsmIdeal.nD Cert.StepSsmIdeal.τ).loc Cert.StepSsmIdeal.main_arg2)
          ∧ r.2.mem ((c.tc : Thread Cert.StepSsmIdeal.nD Cert.StepSsmIdeal.τ).loc Cert.StepSsmIdeal.main_arg3) = m ((c.tc : Thread Cert.StepSsmIdeal.nD Cert.StepSsmIdeal.τ).loc Cert.StepSsmIdeal.main_arg3)
          ∧ r.2.mem ((c.tc : Thread Cert.StepSsmIdeal.nD Cert.StepSsmIdeal.τ).loc Cert.StepSsmIdeal.main_arg4) = m ((c.tc : Thread Cert.StepSsmIdeal.nD Cert.StepSsmIdeal.τ).loc Cert.StepSsmIdeal.main_arg4)
          ∧ r.2.mem ((c.tc : Thread Cert.StepSsmIdeal.nD Cert.StepSsmIdeal.τ).loc Cert.StepSsmIdeal.main_arg5) = m ((c.tc : Thread Cert.StepSsmIdeal.nD Cert.StepSsmIdeal.τ).loc Cert.StepSsmIdeal.main_arg5)
          ∧ r.2.mem ((c.tc : Thread Cert.StepSsmIdeal.nD Cert.StepSsmIdeal.τ).loc Cert.StepSsmIdeal.main_arg6) = m ((c.tc : Thread Cert.StepSsmIdeal.nD Cert.StepSsmIdeal.τ).loc Cert.StepSsmIdeal.main_arg6)
          ∧ r.2.mem ((c.tc : Thread Cert.StepSsmIdeal.nD Cert.StepSsmIdeal.τ).loc Cert.StepSsmIdeal.main_arg7) = m ((c.tc : Thread Cert.StepSsmIdeal.nD Cert.StepSsmIdeal.τ).loc Cert.StepSsmIdeal.main_arg7)
          ∧ r.2.mem ((c.tc : Thread Cert.StepSsmIdeal.nD Cert.StepSsmIdeal.τ).loc Cert.StepSsmIdeal.main_arg8) = m ((c.tc : Thread Cert.StepSsmIdeal.nD Cert.StepSsmIdeal.τ).loc Cert.StepSsmIdeal.main_arg8)
          ∧ r.2.mem ((c.tc : Thread Cert.StepSsmIdeal.nD Cert.StepSsmIdeal.τ).loc Cert.StepSsmIdeal.main_arg9) = m ((c.tc : Thread Cert.StepSsmIdeal.nD Cert.StepSsmIdeal.τ).loc Cert.StepSsmIdeal.main_arg9)
          ∧ r.2.mem ((c.tc : Thread Cert.StepSsmIdeal.nD Cert.StepSsmIdeal.τ).loc Cert.StepSsmIdeal.main_arg10) = m ((c.tc : Thread Cert.StepSsmIdeal.nD Cert.StepSsmIdeal.τ).loc Cert.StepSsmIdeal.main_arg10))
      ∧ θ_run (Cert.StepSsmRefIdeal.defs (F := Ideal)) (onTc (τ := Cert.StepSsmRefIdeal.τ) (Cert.StepSsmRefIdeal.main (F := Ideal))) ⟨m', fun _ => 0, g'⟩ (fun r => ∀ c : Dev Cert.StepSsmRefIdeal.nD,
          r.2.mem ((c.tc : Thread Cert.StepSsmRefIdeal.nD Cert.StepSsmRefIdeal.τ).loc Cert.StepSsmRefIdeal.main_v62) = v0 c
          ∧ r.2.mem ((c.tc : Thread Cert.StepSsmRefIdeal.nD Cert.StepSsmRefIdeal.τ).loc Cert.StepSsmRefIdeal.main_v63) = v1 c
          ∧ r.2.mem ((c.tc : Thread Cert.StepSsmRefIdeal.nD Cert.StepSsmRefIdeal.τ).loc Cert.StepSsmRefIdeal.main_v64) = v2 c
          ∧ r.2.mem ((c.tc : Thread Cert.StepSsmRefIdeal.nD Cert.StepSsmRefIdeal.τ).loc Cert.StepSsmRefIdeal.main_arg0) = m' ((c.tc : Thread Cert.StepSsmRefIdeal.nD Cert.StepSsmRefIdeal.τ).loc Cert.StepSsmRefIdeal.main_arg0)
          ∧ r.2.mem ((c.tc : Thread Cert.StepSsmRefIdeal.nD Cert.StepSsmRefIdeal.τ).loc Cert.StepSsmRefIdeal.main_arg1) = m' ((c.tc : Thread Cert.StepSsmRefIdeal.nD Cert.StepSsmRefIdeal.τ).loc Cert.StepSsmRefIdeal.main_arg1)
          ∧ r.2.mem ((c.tc : Thread Cert.StepSsmRefIdeal.nD Cert.StepSsmRefIdeal.τ).loc Cert.StepSsmRefIdeal.main_arg2) = m' ((c.tc : Thread Cert.StepSsmRefIdeal.nD Cert.StepSsmRefIdeal.τ).loc Cert.StepSsmRefIdeal.main_arg2)
          ∧ r.2.mem ((c.tc : Thread Cert.StepSsmRefIdeal.nD Cert.StepSsmRefIdeal.τ).loc Cert.StepSsmRefIdeal.main_arg3) = m' ((c.tc : Thread Cert.StepSsmRefIdeal.nD Cert.StepSsmRefIdeal.τ).loc Cert.StepSsmRefIdeal.main_arg3)
          ∧ r.2.mem ((c.tc : Thread Cert.StepSsmRefIdeal.nD Cert.StepSsmRefIdeal.τ).loc Cert.StepSsmRefIdeal.main_arg4) = m' ((c.tc : Thread Cert.StepSsmRefIdeal.nD Cert.StepSsmRefIdeal.τ).loc Cert.StepSsmRefIdeal.main_arg4)
          ∧ r.2.mem ((c.tc : Thread Cert.StepSsmRefIdeal.nD Cert.StepSsmRefIdeal.τ).loc Cert.StepSsmRefIdeal.main_arg5) = m' ((c.tc : Thread Cert.StepSsmRefIdeal.nD Cert.StepSsmRefIdeal.τ).loc Cert.StepSsmRefIdeal.main_arg5)
          ∧ r.2.mem ((c.tc : Thread Cert.StepSsmRefIdeal.nD Cert.StepSsmRefIdeal.τ).loc Cert.StepSsmRefIdeal.main_arg6) = m' ((c.tc : Thread Cert.StepSsmRefIdeal.nD Cert.StepSsmRefIdeal.τ).loc Cert.StepSsmRefIdeal.main_arg6)
          ∧ r.2.mem ((c.tc : Thread Cert.StepSsmRefIdeal.nD Cert.StepSsmRefIdeal.τ).loc Cert.StepSsmRefIdeal.main_arg7) = m' ((c.tc : Thread Cert.StepSsmRefIdeal.nD Cert.StepSsmRefIdeal.τ).loc Cert.StepSsmRefIdeal.main_arg7)
          ∧ r.2.mem ((c.tc : Thread Cert.StepSsmRefIdeal.nD Cert.StepSsmRefIdeal.τ).loc Cert.StepSsmRefIdeal.main_arg8) = m' ((c.tc : Thread Cert.StepSsmRefIdeal.nD Cert.StepSsmRefIdeal.τ).loc Cert.StepSsmRefIdeal.main_arg8)
          ∧ r.2.mem ((c.tc : Thread Cert.StepSsmRefIdeal.nD Cert.StepSsmRefIdeal.τ).loc Cert.StepSsmRefIdeal.main_arg9) = m' ((c.tc : Thread Cert.StepSsmRefIdeal.nD Cert.StepSsmRefIdeal.τ).loc Cert.StepSsmRefIdeal.main_arg9)
          ∧ r.2.mem ((c.tc : Thread Cert.StepSsmRefIdeal.nD Cert.StepSsmRefIdeal.τ).loc Cert.StepSsmRefIdeal.main_arg10) = m' ((c.tc : Thread Cert.StepSsmRefIdeal.nD Cert.StepSsmRefIdeal.τ).loc Cert.StepSsmRefIdeal.main_arg10))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)) →
    ∃ (v0 : (c : Dev Cert.PrepIdeal.nD) → Buf (Elt Ideal) ((c.tc : Thread Cert.PrepIdeal.nD Cert.PrepIdeal.τ).loc Cert.PrepIdeal.main_v32_0)) (v1 : (c : Dev Cert.PrepIdeal.nD) → Buf (Elt Ideal) ((c.tc : Thread Cert.PrepIdeal.nD Cert.PrepIdeal.τ).loc Cert.PrepIdeal.main_v32_1)) (v2 : (c : Dev Cert.PrepIdeal.nD) → Buf (Elt Ideal) ((c.tc : Thread Cert.PrepIdeal.nD Cert.PrepIdeal.τ).loc Cert.PrepIdeal.main_v32_2)) (v3 : (c : Dev Cert.PrepIdeal.nD) → Buf (Elt Ideal) ((c.tc : Thread Cert.PrepIdeal.nD Cert.PrepIdeal.τ).loc Cert.PrepIdeal.main_v32_3)) (v4 : (c : Dev Cert.PrepIdeal.nD) → Buf (Elt Ideal) ((c.tc : Thread Cert.PrepIdeal.nD Cert.PrepIdeal.τ).loc Cert.PrepIdeal.main_v32_4)) (v5 : (c : Dev Cert.PrepIdeal.nD) → Buf (Elt Ideal) ((c.tc : Thread Cert.PrepIdeal.nD Cert.PrepIdeal.τ).loc Cert.PrepIdeal.main_v32_5)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v32_0) = v0 c
          ∧ r.2.mem ((c.tc : Thread Cert.PrepIdeal.nD Cert.PrepIdeal.τ).loc Cert.PrepIdeal.main_v32_1) = v1 c
          ∧ r.2.mem ((c.tc : Thread Cert.PrepIdeal.nD Cert.PrepIdeal.τ).loc Cert.PrepIdeal.main_v32_2) = v2 c
          ∧ r.2.mem ((c.tc : Thread Cert.PrepIdeal.nD Cert.PrepIdeal.τ).loc Cert.PrepIdeal.main_v32_3) = v3 c
          ∧ r.2.mem ((c.tc : Thread Cert.PrepIdeal.nD Cert.PrepIdeal.τ).loc Cert.PrepIdeal.main_v32_4) = v4 c
          ∧ r.2.mem ((c.tc : Thread Cert.PrepIdeal.nD Cert.PrepIdeal.τ).loc Cert.PrepIdeal.main_v32_5) = v5 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v143) = v0 c
          ∧ r.2.mem ((c.tc : Thread Cert.PrepRefIdeal.nD Cert.PrepRefIdeal.τ).loc Cert.PrepRefIdeal.main_v149) = v1 c
          ∧ r.2.mem ((c.tc : Thread Cert.PrepRefIdeal.nD Cert.PrepRefIdeal.τ).loc Cert.PrepRefIdeal.main_v156) = v2 c
          ∧ r.2.mem ((c.tc : Thread Cert.PrepRefIdeal.nD Cert.PrepRefIdeal.τ).loc Cert.PrepRefIdeal.main_v164) = v3 c
          ∧ r.2.mem ((c.tc : Thread Cert.PrepRefIdeal.nD Cert.PrepRefIdeal.τ).loc Cert.PrepRefIdeal.main_v182) = v4 c
          ∧ r.2.mem ((c.tc : Thread Cert.PrepRefIdeal.nD Cert.PrepRefIdeal.τ).loc Cert.PrepRefIdeal.main_v200) = v5 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6))

def Claim : Prop :=
  ∃ (hTail : Cert.Tail.Facts) (hTailIdeal : Cert.TailIdeal.Facts) (hTailRefIdeal : Cert.TailRefIdeal.Facts) (hAttn : Cert.Attn.Facts) (hAttnIdeal : Cert.AttnIdeal.Facts) (hAttnRefIdeal : Cert.AttnRefIdeal.Facts) (hProj : Cert.Proj.Facts) (hProjIdeal : Cert.ProjIdeal.Facts) (hProjRefIdeal : Cert.ProjRefIdeal.Facts) (hStepProj : Cert.StepProj.Facts) (hStepProjIdeal : Cert.StepProjIdeal.Facts) (hStepProjRefIdeal : Cert.StepProjRefIdeal.Facts) (hStepTail : Cert.StepTail.Facts) (hStepTailIdeal : Cert.StepTailIdeal.Facts) (hStepTailRefIdeal : Cert.StepTailRefIdeal.Facts) (hStepSsm : Cert.StepSsm.Facts) (hStepSsmIdeal : Cert.StepSsmIdeal.Facts) (hStepSsmRefIdeal : Cert.StepSsmRefIdeal.Facts) (hPrep : Cert.Prep.Facts) (hPrepIdeal : Cert.PrepIdeal.Facts) (hPrepRefIdeal : Cert.PrepRefIdeal.Facts),
    quiescent_Tail (hTail := hTail)
    ∧ quiescent_TailIdeal (hTailIdeal := hTailIdeal)
    ∧ quiescent_TailRefIdeal (hTailRefIdeal := hTailRefIdeal)
    ∧ quiescent_Attn (hAttn := hAttn)
    ∧ quiescent_AttnIdeal (hAttnIdeal := hAttnIdeal)
    ∧ quiescent_AttnRefIdeal (hAttnRefIdeal := hAttnRefIdeal)
    ∧ quiescent_Proj (hProj := hProj)
    ∧ quiescent_ProjIdeal (hProjIdeal := hProjIdeal)
    ∧ quiescent_ProjRefIdeal (hProjRefIdeal := hProjRefIdeal)
    ∧ quiescent_StepProj (hStepProj := hStepProj)
    ∧ quiescent_StepProjIdeal (hStepProjIdeal := hStepProjIdeal)
    ∧ quiescent_StepProjRefIdeal (hStepProjRefIdeal := hStepProjRefIdeal)
    ∧ quiescent_StepTail (hStepTail := hStepTail)
    ∧ quiescent_StepTailIdeal (hStepTailIdeal := hStepTailIdeal)
    ∧ quiescent_StepTailRefIdeal (hStepTailRefIdeal := hStepTailRefIdeal)
    ∧ quiescent_StepSsm (hStepSsm := hStepSsm)
    ∧ quiescent_StepSsmIdeal (hStepSsmIdeal := hStepSsmIdeal)
    ∧ quiescent_StepSsmRefIdeal (hStepSsmRefIdeal := hStepSsmRefIdeal)
    ∧ quiescent_Prep (hPrep := hPrep)
    ∧ quiescent_PrepIdeal (hPrepIdeal := hPrepIdeal)
    ∧ quiescent_PrepRefIdeal (hPrepRefIdeal := hPrepRefIdeal)
    ∧ preserves_Tail_TailIdeal
    ∧ algebraic_TailIdeal_TailRefIdeal (hTailIdeal := hTailIdeal) (hTailRefIdeal := hTailRefIdeal)
    ∧ preserves_Attn_AttnIdeal
    ∧ algebraic_AttnIdeal_AttnRefIdeal (hAttnIdeal := hAttnIdeal) (hAttnRefIdeal := hAttnRefIdeal)
    ∧ preserves_Proj_ProjIdeal
    ∧ algebraic_ProjIdeal_ProjRefIdeal (hProjIdeal := hProjIdeal) (hProjRefIdeal := hProjRefIdeal)
    ∧ preserves_StepProj_StepProjIdeal
    ∧ algebraic_StepProjIdeal_StepProjRefIdeal (hStepProjIdeal := hStepProjIdeal) (hStepProjRefIdeal := hStepProjRefIdeal)
    ∧ preserves_StepTail_StepTailIdeal
    ∧ algebraic_StepTailIdeal_StepTailRefIdeal (hStepTailIdeal := hStepTailIdeal) (hStepTailRefIdeal := hStepTailRefIdeal)
    ∧ preserves_StepSsm_StepSsmIdeal
    ∧ algebraic_StepSsmIdeal_StepSsmRefIdeal (hStepSsmIdeal := hStepSsmIdeal) (hStepSsmRefIdeal := hStepSsmRefIdeal)
    ∧ preserves_Prep_PrepIdeal
    ∧ algebraic_PrepIdeal_PrepRefIdeal (hPrepIdeal := hPrepIdeal) (hPrepRefIdeal := hPrepRefIdeal)
-- ==== Tail.lean ====
abbrev S8x4096x1024 : Shape := ⟨3, ![8, 4096, 1024]⟩
abbrev S32768x512 : Shape := ⟨2, ![32768, 512]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1024x1024 : Shape := ⟨2, ![1024, 1024]⟩
abbrev S1024x2816 : Shape := ⟨2, ![1024, 2816]⟩
abbrev S2816x1024 : Shape := ⟨2, ![2816, 1024]⟩
abbrev S512 : Shape := ⟨1, ![512]⟩
abbrev S1024 : Shape := ⟨1, ![1024]⟩
abbrev S3x2816 : Shape := ⟨2, ![3, 2816]⟩
abbrev S2816 : Shape := ⟨1, ![2816]⟩
abbrev S32768x1024 : Shape := ⟨2, ![32768, 1024]⟩
abbrev S8x2x2816 : Shape := ⟨3, ![8, 2, 2816]⟩
abbrev S512x1024 : Shape := ⟨2, ![512, 1024]⟩
abbrev S512x512 : Shape := ⟨2, ![512, 512]⟩
abbrev S1x2x2816 : Shape := ⟨3, ![1, 2, 2816]⟩
abbrev S520x2816 : Shape := ⟨2, ![520, 2816]⟩
abbrev S8x2816 : Shape := ⟨2, ![8, 2816]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1x256 : Shape := ⟨2, ![1, 256]⟩
abbrev S2x2816 : Shape := ⟨2, ![2, 2816]⟩

abbrev nBuf : Space → Nat
  | .hbm => 38
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S32768x512, .f32⟩
  | .hbm, ⟨2, _⟩ => ⟨S32768x512, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S1x1024x2816, .f32⟩
  | .hbm, ⟨9, _⟩ => ⟨S1x1024x2816, .f32⟩
  | .hbm, ⟨10, _⟩ => ⟨S1x3x2816, .f32⟩
  | .hbm, ⟨11, _⟩ => ⟨S1x2816, .f32⟩
  | .hbm, ⟨12, _⟩ => ⟨S1x2816x1024, .f32⟩
  | .hbm, ⟨13, _⟩ => ⟨S1x1024, .f32⟩
  | .hbm, ⟨14, _⟩ => ⟨S1024x1024, .f32⟩
  | .hbm, ⟨15, _⟩ => ⟨S1024x1024, .bf16⟩
  | .hbm, ⟨16, _⟩ => ⟨S1024x2816, .f32⟩
  | .hbm, ⟨17, _⟩ => ⟨S1024x2816, .bf16⟩
  | .hbm, ⟨18, _⟩ => ⟨S1024x2816, .f32⟩
  | .hbm, ⟨19, _⟩ => ⟨S1024x2816, .bf16⟩
  | .hbm, ⟨20, _⟩ => ⟨S2816x1024, .f32⟩
  | .hbm, ⟨21, _⟩ => ⟨S2816x1024, .bf16⟩
  | .hbm, ⟨22, _⟩ => ⟨S512, .f32⟩
  | .hbm, ⟨23, _⟩ => ⟨S1x512, .f32⟩
  | .hbm, ⟨24, _⟩ => ⟨S512, .f32⟩
  | .hbm, ⟨25, _⟩ => ⟨S1x512, .f32⟩
  | .hbm, ⟨26, _⟩ => ⟨S1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S3x2816, .f32⟩
  | .hbm, ⟨31, _⟩ => ⟨S2816, .f32⟩
  | .hbm, ⟨32, _⟩ => ⟨S1x2816, .f32⟩
  | .hbm, ⟨33, _⟩ => ⟨S1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S8x2x2816, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x2816, .bf16⟩
  | .local _ .vmem, ⟨12, _⟩ => ⟨S1024x2816, .bf16⟩
  | .local _ .vmem, ⟨13, _⟩ => ⟨S3x2816, .f32⟩
  | .local _ .vmem, ⟨14, _⟩ => ⟨S1x2816, .f32⟩
  | .local _ .vmem, ⟨15, _⟩ => ⟨S2816x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S1x2x2816, .f32⟩
  | .local _ .vmem, ⟨20, _⟩ => ⟨S1x2x2816, .f32⟩
  | .local _ .vmem, ⟨21, _⟩ => ⟨S520x2816, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22_0 : Ref sig .tc := ⟨.hbm, 36, rfl⟩
abbrev main_v22_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x2x2816 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== TailRefIdeal.lean ====
abbrev S8x4096x1024 : Shape := ⟨3, ![8, 4096, 1024]⟩
abbrev S32768x512 : Shape := ⟨2, ![32768, 512]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S8x4096x512 : Shape := ⟨3, ![8, 4096, 512]⟩
abbrev S512 : Shape := ⟨1, ![512]⟩
abbrev S_ : Shape := ⟨0, ![]⟩
abbrev S8x4096 : Shape := ⟨2, ![8, 4096]⟩
abbrev S8x4096x1 : Shape := ⟨3, ![8, 4096, 1]⟩
abbrev S1x1x512 : Shape := ⟨3, ![1, 1, 512]⟩
abbrev S1024x1024 : Shape := ⟨2, ![1024, 1024]⟩
abbrev S1024 : Shape := ⟨1, ![1024]⟩
abbrev S1x1x1024 : Shape := ⟨3, ![1, 1, 1024]⟩
abbrev S1024x2816 : Shape := ⟨2, ![1024, 2816]⟩
abbrev S8x4096x2816 : Shape := ⟨3, ![8, 4096, 2816]⟩
abbrev S8x2x2816 : Shape := ⟨3, ![8, 2, 2816]⟩
abbrev S8x4098x2816 : Shape := ⟨3, ![8, 4098, 2816]⟩
abbrev S2816 : Shape := ⟨1, ![2816]⟩
abbrev S3x2816 : Shape := ⟨2, ![3, 2816]⟩
abbrev S1x1x2816 : Shape := ⟨3, ![1, 1, 2816]⟩
abbrev S2816x1024 : Shape := ⟨2, ![2816, 1024]⟩
abbrev S32768x1024 : Shape := ⟨2, ![32768, 1024]⟩

abbrev nBuf : Space → Nat
  | .hbm => 165
  | .vmem => 0
  | .smem => 0
  | _ => 0

abbrev hbmTy0_0 (i : Nat) : BufTy := match i % 128 with
  | 0 => ⟨S8x4096x1024, .f32⟩
  | 1 => ⟨S32768x512, .f32⟩
  | 2 => ⟨S32768x512, .f32⟩
  | 3 => ⟨S1x512, .f32⟩
  | 4 => ⟨S1x512, .f32⟩
  | 5 => ⟨S1x1024x1024, .f32⟩
  | 6 => ⟨S1x1024, .f32⟩
  | 7 => ⟨S1x1024, .f32⟩
  | 8 => ⟨S1x1024x2816, .f32⟩
  | 9 => ⟨S1x1024x2816, .f32⟩
  | 10 => ⟨S1x3x2816, .f32⟩
  | 11 => ⟨S1x2816, .f32⟩
  | 12 => ⟨S1x2816x1024, .f32⟩
  | 13 => ⟨S1x1024, .f32⟩
  | 14 => ⟨S8x4096x512, .f32⟩
  | 15 => ⟨S8x4096x512, .f32⟩
  | 16 => ⟨S512, .f32⟩
  | 17 => ⟨S8x4096x512, .f32⟩
  | 18 => ⟨S_, .f32⟩
  | 19 => ⟨S8x4096, .f32⟩
  | 20 => ⟨S8x4096x1, .f32⟩
  | 21 => ⟨S_, .f32⟩
  | 22 => ⟨S8x4096x1, .f32⟩
  | 23 => ⟨S8x4096x1, .f32⟩
  | 24 => ⟨S_, .f32⟩
  | 25 => ⟨S8x4096x1, .f32⟩
  | 26 => ⟨S8x4096x1, .f32⟩
  | 27 => ⟨S8x4096x1, .f32⟩
  | 28 => ⟨S8x4096x512, .f32⟩
  | 29 => ⟨S8x4096x512, .f32⟩
  | 30 => ⟨S1x1x512, .f32⟩
  | 31 => ⟨S8x4096x512, .f32⟩
  | 32 => ⟨S8x4096x512, .f32⟩
  | 33 => ⟨S512, .f32⟩
  | 34 => ⟨S8x4096x512, .f32⟩
  | 35 => ⟨S_, .f32⟩
  | 36 => ⟨S8x4096, .f32⟩
  | 37 => ⟨S8x4096x1, .f32⟩
  | 38 => ⟨S_, .f32⟩
  | 39 => ⟨S8x4096x1, .f32⟩
  | 40 => ⟨S8x4096x1, .f32⟩
  | 41 => ⟨S_, .f32⟩
  | 42 => ⟨S8x4096x1, .f32⟩
  | 43 => ⟨S8x4096x1, .f32⟩
  | 44 => ⟨S8x4096x1, .f32⟩
  | 45 => ⟨S8x4096x512, .f32⟩
  | 46 => ⟨S8x4096x512, .f32⟩
  | 47 => ⟨S1x1x512, .f32⟩
  | 48 => ⟨S8x4096x512, .f32⟩
  | 49 => ⟨S8x4096x512, .f32⟩
  | 50 => ⟨S8x4096x1024, .f32⟩
  | 51 => ⟨S1024x1024, .f32⟩
  | 52 => ⟨S8x4096x1024, .f32⟩
  | 53 => ⟨S1024, .f32⟩
  | 54 => ⟨S8x4096x1024, .f32⟩
  | 55 => ⟨S_, .f32⟩
  | 56 => ⟨S8x4096, .f32⟩
  | 57 => ⟨S8x4096x1, .f32⟩
  | 58 => ⟨S_, .f32⟩
  | 59 => ⟨S8x4096x1, .f32⟩
  | 60 => ⟨S8x4096x1, .f32⟩
  | 61 => ⟨S_, .f32⟩
  | 62 => ⟨S8x4096x1, .f32⟩
  | 63 => ⟨S8x4096x1, .f32⟩
  | 64 => ⟨S8x4096x1, .f32⟩
  | 65 => ⟨S8x4096x1024, .f32⟩
  | 66 => ⟨S8x4096x1024, .f32⟩
  | 67 => ⟨S1x1x1024, .f32⟩
  | 68 => ⟨S8x4096x1024, .f32⟩
  | 69 => ⟨S8x4096x1024, .f32⟩
  | 70 => ⟨S8x4096x1024, .f32⟩
  | 71 => ⟨S1024, .f32⟩
  | 72 => ⟨S8x4096x1024, .f32⟩
  | 73 => ⟨S_, .f32⟩
  | 74 => ⟨S8x4096, .f32⟩
  | 75 => ⟨S8x4096x1, .f32⟩
  | 76 => ⟨S_, .f32⟩
  | 77 => ⟨S8x4096x1, .f32⟩
  | 78 => ⟨S8x4096x1, .f32⟩
  | 79 => ⟨S_, .f32⟩
  | 80 => ⟨S8x4096x1, .f32⟩
  | 81 => ⟨S8x4096x1, .f32⟩
  | 82 => ⟨S8x4096x1, .f32⟩
  | 83 => ⟨S8x4096x1024, .f32⟩
  | 84 => ⟨S8x4096x1024, .f32⟩
  | 85 => ⟨S1x1x1024, .f32⟩
  | 86 => ⟨S8x4096x1024, .f32⟩
  | 87 => ⟨S8x4096x1024, .f32⟩
  | 88 => ⟨S1024x2816, .f32⟩
  | 89 => ⟨S8x4096x2816, .f32⟩
  | 90 => ⟨S1024x2816, .f32⟩
  | 91 => ⟨S8x4096x2816, .f32⟩
  | 92 => ⟨S_, .f32⟩
  | 93 => ⟨S8x2x2816, .f32⟩
  | 94 => ⟨S8x4098x2816, .f32⟩
  | 95 => ⟨S2816, .f32⟩
  | 96 => ⟨S8x4096x2816, .f32⟩
  | 97 => ⟨S3x2816, .f32⟩
  | 98 => ⟨S1x2816, .f32⟩
  | 99 => ⟨S2816, .f32⟩
  | 100 => ⟨S1x1x2816, .f32⟩
  | 101 => ⟨S8x4096x2816, .f32⟩
  | 102 => ⟨S8x4096x2816, .f32⟩
  | 103 => ⟨S_, .f32⟩
  | 104 => ⟨S8x4096x2816, .f32⟩
  | 105 => ⟨S8x4096x2816, .f32⟩
  | 106 => ⟨S8x4096x2816, .f32⟩
  | 107 => ⟨S3x2816, .f32⟩
  | 108 => ⟨S1x2816, .f32⟩
  | 109 => ⟨S2816, .f32⟩
  | 110 => ⟨S1x1x2816, .f32⟩
  | 111 => ⟨S8x4096x2816, .f32⟩
  | 112 => ⟨S8x4096x2816, .f32⟩
  | 113 => ⟨S8x4096x2816, .f32⟩
  | 114 => ⟨S8x4096x2816, .f32⟩
  | 115 => ⟨S3x2816, .f32⟩
  | 116 => ⟨S1x2816, .f32⟩
  | 117 => ⟨S2816, .f32⟩
  | 118 => ⟨S1x1x2816, .f32⟩
  | 119 => ⟨S8x4096x2816, .f32⟩
  | 120 => ⟨S8x4096x2816, .f32⟩
  | 121 => ⟨S8x4096x2816, .f32⟩
  | 122 => ⟨S1x1x2816, .f32⟩
  | 123 => ⟨S8x4096x2816, .f32⟩
  | 124 => ⟨S8x4096x2816, .f32⟩
  | 125 => ⟨S8x4096x2816, .f32⟩
  | 126 => ⟨S8x4096x2816, .f32⟩
  | 127 => ⟨S_, .f32⟩
  | _ => ⟨S8x4096x1024, .f32⟩

abbrev hbmTy0_1 (i : Nat) : BufTy := match i % 128 with
  | 0 => ⟨S8x4096x2816, .f32⟩
  | 1 => ⟨S8x4096x2816, .f32⟩
  | 2 => ⟨S8x4096x2816, .f32⟩
  | 3 => ⟨S_, .f32⟩
  | 4 => ⟨S8x4096x2816, .f32⟩
  | 5 => ⟨S8x4096x2816, .f32⟩
  | 6 => ⟨S8x4096x2816, .f32⟩
  | 7 => ⟨S_, .f32⟩
  | 8 => ⟨S8x4096x2816, .f32⟩
  | 9 => ⟨S8x4096x2816, .f32⟩
  | 10 => ⟨S_, .f32⟩
  | 11 => ⟨S8x4096x2816, .f32⟩
  | 12 => ⟨S8x4096x2816, .f32⟩
  | 13 => ⟨S8x4096x2816, .f32⟩
  | 14 => ⟨S8x4096x2816, .f32⟩
  | 15 => ⟨S2816x1024, .f32⟩
  | 16 => ⟨S8x4096x1024, .f32⟩
  | 17 => ⟨S1024, .f32⟩
  | 18 => ⟨S8x4096x1024, .f32⟩
  | 19 => ⟨S_, .f32⟩
  | 20 => ⟨S8x4096, .f32⟩
  | 21 => ⟨S8x4096x1, .f32⟩
  | 22 => ⟨S_, .f32⟩
  | 23 => ⟨S8x4096x1, .f32⟩
  | 24 => ⟨S8x4096x1, .f32⟩
  | 25 => ⟨S_, .f32⟩
  | 26 => ⟨S8x4096x1, .f32⟩
  | 27 => ⟨S8x4096x1, .f32⟩
  | 28 => ⟨S8x4096x1, .f32⟩
  | 29 => ⟨S8x4096x1024, .f32⟩
  | 30 => ⟨S8x4096x1024, .f32⟩
  | 31 => ⟨S1x1x1024, .f32⟩
  | 32 => ⟨S8x4096x1024, .f32⟩
  | 33 => ⟨S8x4096x1024, .f32⟩
  | 34 => ⟨S8x4096x1024, .f32⟩
  | 35 => ⟨S32768x1024, .f32⟩
  | 36 => ⟨S8x2x2816, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_12 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_13 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_14 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_15 : Ref sig .tc := ⟨.hbm, 135, rfl⟩
abbrev main_v105 : Ref sig .tc := ⟨.hbm, 136, rfl⟩
abbrev main_v106 : Ref sig .tc := ⟨.hbm, 137, rfl⟩
abbrev main_cst_16 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_17 : Ref sig .tc := ⟨.hbm, 147, rfl⟩
abbrev main_v115 : Ref sig .tc := ⟨.hbm, 148, rfl⟩
abbrev main_v116 : Ref sig .tc := ⟨.hbm, 149, rfl⟩
abbrev main_cst_18 : Ref sig .tc := ⟨.hbm, 150, rfl⟩
abbrev main_v117 : Ref sig .tc := ⟨.hbm, 151, rfl⟩
abbrev main_v118 : Ref sig .tc := ⟨.hbm, 152, rfl⟩
abbrev main_cst_19 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩

abbrev nD : Nat := 1
abbrev τ : Topo := Topo.v7x

variable {F : FTy → Type} [FloatOps F]
-- ==== Attn.lean ====
abbrev S32768x512 : Shape := ⟨2, ![32768, 512]⟩
abbrev S4096x4096 : Shape := ⟨2, ![4096, 4096]⟩
abbrev S1x8 : Shape := ⟨2, ![1, 8]⟩
abbrev S8 : Shape := ⟨1, ![8]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S256x128 : Shape := ⟨2, ![256, 128]⟩
abbrev S128x4096 : Shape := ⟨2, ![128, 4096]⟩
abbrev S2x32x128x128 : Shape := ⟨4, ![2, 32, 128, 128]⟩
abbrev S32x128x128 : Shape := ⟨3, ![32, 128, 128]⟩
abbrev S128x128 : Shape := ⟨2, ![128, 128]⟩
abbrev S1x1x128x128 : Shape := ⟨4, ![1, 1, 128, 128]⟩
abbrev S1x128x128 : Shape := ⟨3, ![1, 128, 128]⟩
abbrev S1 : Shape := ⟨1, ![1]⟩
abbrev S64x256 : Shape := ⟨2, ![64, 256]⟩
abbrev S256x256 : Shape := ⟨2, ![256, 256]⟩
abbrev S1x64x128 : Shape := ⟨3, ![1, 64, 128]⟩
abbrev S64x128 : Shape := ⟨2, ![64, 128]⟩

abbrev nBuf : Space → Nat
  | .hbm => 36
  | .vmem => 11
  | .smem => 1
  | _ => 0

abbrev bufTy : (tb : Table) → Fin (tcTables nBuf tb) → BufTy
  | .hbm, ⟨0, _⟩ => ⟨S32768x512, .f32⟩
  | .hbm, ⟨1, _⟩ => ⟨S4096x4096, .f32⟩
  | .hbm, ⟨2, _⟩ => ⟨S4096x4096, .f32⟩
  | .hbm, ⟨3, _⟩ => ⟨S1x8, .f32⟩
  | .hbm, ⟨4, _⟩ => ⟨S8, .f32⟩
  | .hbm, ⟨5, _⟩ => ⟨S128, .i32⟩
  | .hbm, ⟨6, _⟩ => ⟨S128x1, .i32⟩
  | .hbm, ⟨7, _⟩ => ⟨S256, .i32⟩
  | .hbm, ⟨8, _⟩ => ⟨S1x256, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S1x256, .i32⟩
  | .hbm, ⟨16, _⟩ => ⟨S1x256, .i32⟩
  | .hbm, ⟨17, _⟩ => ⟨S_, .i32⟩
  | .hbm, ⟨18, _⟩ => ⟨S1x256, .i32⟩
  | .hbm, ⟨19, _⟩ => ⟨S1x256, .i1⟩
  | .hbm, ⟨20, _⟩ => ⟨S_, .i32⟩
  | .hbm, ⟨21, _⟩ => ⟨S1x256, .i32⟩
  | .hbm, ⟨22, _⟩ => ⟨S1x256, .i1⟩
  | .hbm, ⟨23, _⟩ => ⟨S_, .i32⟩
  | .hbm, ⟨24, _⟩ => ⟨S_, .i1⟩
  | .hbm, ⟨25, _⟩ => ⟨S1x256, .i1⟩
  | .hbm, ⟨26, _⟩ => ⟨S1x256, .i1⟩
  | .hbm, ⟨27, _⟩ => ⟨S1x256, .i1⟩
  | .hbm, ⟨28, _⟩ => ⟨S1x256, .i32⟩
  | .hbm, ⟨29, _⟩ => ⟨S1x256, .i32⟩
  | .hbm, ⟨30, _⟩ => ⟨S1x256, .i32⟩
  | .hbm, ⟨31, _⟩ => ⟨S128x256, .i32⟩
  | .hbm, ⟨32, _⟩ => ⟨S128x256, .i32⟩
  | .hbm, ⟨33, _⟩ => ⟨S128x256, .i1⟩
  | .hbm, ⟨34, _⟩ => ⟨S128x256, .bf16⟩
  | .hbm, ⟨35, _⟩ => ⟨S32768x512, .f32⟩
  | .local _ .vmem, ⟨0, _⟩ => ⟨S256x128, .f32⟩
  | .local _ .vmem, ⟨1, _⟩ => ⟨S256x128, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x256, .bf16⟩
  | .local _ .vmem, ⟨7, _⟩ => ⟨S256x128, .f32⟩
  | .local _ .vmem, ⟨8, _⟩ => ⟨S256x128, .f32⟩
  | .local _ .vmem, ⟨9, _⟩ => ⟨S2x32x128x128, .bf16⟩
  | .local _ .vmem, ⟨10, _⟩ => ⟨S32x128x128, .bf16⟩
  | .local _ .smem, ⟨0, _⟩ => ⟨S8, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 16], ![false, false, false]⟩

def k0_off1 (i : grid0.Coords) (c0_i32_4 : BitVec 32) : Fin 1 → Nat :=
  let c2_i32 : BitVec 32 := 2#32
  let arg1 : BitVec 32 := BitVec.ofNat 32 (i 1).val
  let v11 : BitVec 32 := Scalar.muli c2_i32 arg1
  let v12 : BitVec 32 := Scalar.addi v11 c0_i32_4
  let v13 : Index := Scalar.indexCast v12
  ![v13.toNat]
def k0_off2 (i : grid0.Coords) (c1_i32 : BitVec 32) : Fin 4 → Nat :=
  let c0_8 : Index := 0#32
  let arg2 : BitVec 32 := BitVec.ofNat 32 (i 2).val
  let c2_i32_7 : BitVec 32 := 2#32
  let v17 : BitVec 32 := Scalar.muli arg2 c2_i32_7
  let v18 : BitVec 32 := Scalar.addi v17 c1_i32
  let v19 : Index := Scalar.indexCast v18
  let c0_9 : Index := 0#32
  let c0_10 : Index := 0#32
  ![0, v19.toNat, 0, 0]
def k0_off3 (i : grid0.Coords) (c1_i32 : BitVec 32) : Fin 3 → Nat :=
  let arg2 : BitVec 32 := BitVec.ofNat 32 (i 2).val
  let c2_i32_7 : BitVec 32 := 2#32
  let v17 : BitVec 32 := Scalar.muli arg2 c2_i32_7
  let v18 : BitVec 32 := Scalar.addi v17 c1_i32
  let v54 : Index := Scalar.indexCast v18
  let c0_19 : Index := 0#32
  let c0_20 : Index := 0#32
  ![v54.toNat, 0, 0]
@[reducible] def k0_t1_loop (i : grid0.Coords) : Scf.Loop 32 :=
  let c0_i32_40 : BitVec 32 := 0#32
  let arg2 : BitVec 32 := BitVec.ofNat 32 (i 2).val
  let c2_i32_39 : BitVec 32 := 2#32
  let v107 : BitVec 32 := Scalar.muli arg2 c2_i32_39
  let v108 : BitVec 32 := Scalar.subi v107 c0_i32_40
  let c1_i32_41 : BitVec 32 := 1#32
  let v110 : BitVec 32 := Scalar.divsi v108 c1_i32_41
  let v111 : BitVec 32 := Scalar.muli v110 c1_i32_41
  let v112 : BitVec 32 := Scalar.addi c0_i32_40 v111
  let c1_i32_42 : BitVec 32 := 1#32
  ⟨c0_i32_40, v112, c1_i32_42⟩
def k0_off4 (i : grid0.Coords) (k0_t1 : Fin (k0_t1_loop i).trips) : Fin 4 → Nat :=
  let c0_89 : Index := 0#32
  let arg2 : BitVec 32 := BitVec.ofNat 32 (i 2).val
  let c2_i32_87 : BitVec 32 := 2#32
  let v222 : BitVec 32 := Scalar.muli arg2 c2_i32_87
  let c1_i32_88 : BitVec 32 := 1#32
  let v223 : BitVec 32 := Scalar.subi v222 c1_i32_88
  let c0_i32_40 : BitVec 32 := 0#32
  let c1_i32_42 : BitVec 32 := 1#32
  let arg11 : BitVec 32 := Scf.iv c0_i32_40 c1_i32_42 k0_t1
  let v224 : BitVec 32 := Scalar.subi v223 arg11
  let v225 : Index := Scalar.indexCast v224
  let c0_90 : Index := 0#32
  let c0_91 : Index := 0#32
  ![0, v225.toNat, 0, 0]
def k0_off5 (i : grid0.Coords) (k0_t1 : Fin (k0_t1_loop i).trips) : Fin 3 → Nat :=
  let arg2 : BitVec 32 := BitVec.ofNat 32 (i 2).val
  let c2_i32_87 : BitVec 32 := 2#32
  let v222 : BitVec 32 := Scalar.muli arg2 c2_i32_87
  let c1_i32_88 : BitVec 32 := 1#32
  let v223 : BitVec 32 := Scalar.subi v222 c1_i32_88
  let c0_i32_40 : BitVec 32 := 0#32
  let c1_i32_42 : BitVec 32 := 1#32
  let arg11 : BitVec 32 := Scf.iv c0_i32_40 c1_i32_42 k0_t1
  let v224 : BitVec 32 := Scalar.subi v223 arg11
  let v253 : Index := Scalar.indexCast v224
  let c0_98 : Index := 0#32
  let c0_99 : Index := 0#32
  ![v253.toNat, 0, 0]
@[reducible] def k0_t2_loop (i : grid0.Coords) : Scf.Loop 32 :=
  let c0_i32_40 : BitVec 32 := 0#32
  let arg2 : BitVec 32 := BitVec.ofNat 32 (i 2).val
  let c2_i32_39 : BitVec 32 := 2#32
  let v107 : BitVec 32 := Scalar.muli arg2 c2_i32_39
  let v108 : BitVec 32 := Scalar.subi v107 c0_i32_40
  let c1_i32_41 : BitVec 32 := 1#32
  let v110 : BitVec 32 := Scalar.divsi v108 c1_i32_41
  let v111 : BitVec 32 := Scalar.muli v110 c1_i32_41
  let v112 : BitVec 32 := Scalar.addi c0_i32_40 v111
  let v109 : BitVec 32 := Scalar.addi c0_i32_40 v108
  let c1_i32_43 : BitVec 32 := 1#32
  ⟨v112, v109, c1_i32_43⟩
def k0_off6 (i : grid0.Coords) (k0_t2 : Fin (k0_t2_loop i).trips) : Fin 4 → Nat :=
  let c0_89 : Index := 0#32
  let arg2 : BitVec 32 := BitVec.ofNat 32 (i 2).val
  let c2_i32_87 : BitVec 32 := 2#32
  let v222 : BitVec 32 := Scalar.muli arg2 c2_i32_87
  let c1_i32_88 : BitVec 32 := 1#32
  let v223 : BitVec 32 := Scalar.subi v222 c1_i32_88
  let c0_i32_40 : BitVec 32 := 0#32
  let c2_i32_39 : BitVec 32 := 2#32
  let v107 : BitVec 32 := Scalar.muli arg2 c2_i32_39
  let v108 : BitVec 32 := Scalar.subi v107 c0_i32_40
  let c1_i32_41 : BitVec 32 := 1#32
  let v110 : BitVec 32 := Scalar.divsi v108 c1_i32_41
  let v111 : BitVec 32 := Scalar.muli v110 c1_i32_41
  let v112 : BitVec 32 := Scalar.addi c0_i32_40 v111
  let c1_i32_43 : BitVec 32 := 1#32
  let arg11 : BitVec 32 := Scf.iv v112 c1_i32_43 k0_t2
  let v224 : BitVec 32 := Scalar.subi v223 arg11
  let v225 : Index := Scalar.indexCast v224
  let c0_90 : Index := 0#32
  let c0_91 : Index := 0#32
  ![0, v225.toNat, 0, 0]
def k0_off7 (i : grid0.Coords) (k0_t2 : Fin (k0_t2_loop i).trips) : Fin 3 → Nat :=
  let arg2 : BitVec 32 := BitVec.ofNat 32 (i 2).val
  let c2_i32_87 : BitVec 32 := 2#32
  let v222 : BitVec 32 := Scalar.muli arg2 c2_i32_87
  let c1_i32_88 : BitVec 32 := 1#32
  let v223 : BitVec 32 := Scalar.subi v222 c1_i32_88
  let c0_i32_40 : BitVec 32 := 0#32
  let c2_i32_39 : BitVec 32 := 2#32
  let v107 : BitVec 32 := Scalar.muli arg2 c2_i32_39
  let v108 : BitVec 32 := Scalar.subi v107 c0_i32_40
  let c1_i32_41 : BitVec 32 := 1#32
  let v110 : BitVec 32 := Scalar.divsi v108 c1_i32_41
  let v111 : BitVec 32 := Scalar.muli v110 c1_i32_41
  let v112 : BitVec 32 := Scalar.addi c0_i32_40 v111
  let c1_i32_43 : BitVec 32 := 1#32
  let arg11 : BitVec 32 := Scf.iv v112 c1_i32_43 k0_t2
  let v224 : BitVec 32 := Scalar.subi v223 arg11
  let v253 : Index := Scalar.indexCast v224
  let c0_98 : Index := 0#32
  let c0_99 : Index := 0#32
  ![v253.toNat, 0, 0]
def k0_off8 (i : grid0.Coords) (c1_i32_49 : BitVec 32) : Fin 4 → Nat :=
  let c1 : Index := 1#32
  let arg2 : BitVec 32 := BitVec.ofNat 32 (i 2).val
  let c2_i32_48 : BitVec 32 := 2#32
  let v121 : BitVec 32 := Scalar.muli arg2 c2_i32_48
  let v122 : BitVec 32 := Scalar.addi v121 c1_i32_49
  let v123 : Index := Scalar.indexCast v122
  let c0_50 : Index := 0#32
  let c0_51 : Index := 0#32
  ![1, v123.toNat, 0, 0]
def k0_off9 (i : grid0.Coords) (c1_i32_49 : BitVec 32) : Fin 3 → Nat :=
  let arg2 : BitVec 32 := BitVec.ofNat 32 (i 2).val
  let c2_i32_48 : BitVec 32 := 2#32
  let v121 : BitVec 32 := Scalar.muli arg2 c2_i32_48
  let v122 : BitVec 32 := Scalar.addi v121 c1_i32_49
  let v158 : Index := Scalar.indexCast v122
  let c64 : Index := 64#32
  let c0_61 : Index := 0#32
  ![v158.toNat, 64, 0]
@[reducible] def k0_t3_loop (i : grid0.Coords) : Scf.Loop 32 :=
  let c0_i32_81 : BitVec 32 := 0#32
  let arg2 : BitVec 32 := BitVec.ofNat 32 (i 2).val
  let c2_i32_80 : BitVec 32 := 2#32
  let v211 : BitVec 32 := Scalar.muli arg2 c2_i32_80
  let v212 : BitVec 32 := Scalar.subi v211 c0_i32_81
  let c1_i32_82 : BitVec 32 := 1#32
  let v214 : BitVec 32 := Scalar.divsi v212 c1_i32_82
  let v215 : BitVec 32 := Scalar.muli v214 c1_i32_82
  let v216 : BitVec 32 := Scalar.addi c0_i32_81 v215
  let c1_i32_83 : BitVec 32 := 1#32
  ⟨c0_i32_81, v216, c1_i32_83⟩
def k0_off10 (i : grid0.Coords) (k0_t3 : Fin (k0_t3_loop i).trips) : Fin 4 → Nat :=
  let c1_89 : Index := 1#32
  let arg2 : BitVec 32 := BitVec.ofNat 32 (i 2).val
  let c2_i32_87 : BitVec 32 := 2#32
  let v222 : BitVec 32 := Scalar.muli arg2 c2_i32_87
  let c1_i32_88 : BitVec 32 := 1#32
  let v223 : BitVec 32 := Scalar.subi v222 c1_i32_88
  let c0_i32_81 : BitVec 32 := 0#32
  let c1_i32_83 : BitVec 32 := 1#32
  let arg11 : BitVec 32 := Scf.iv c0_i32_81 c1_i32_83 k0_t3
  let v224 : BitVec 32 := Scalar.subi v223 arg11
  let v225 : Index := Scalar.indexCast v224
  let c0_90 : Index := 0#32
  let c0_91 : Index := 0#32
  ![1, v225.toNat, 0, 0]
def k0_off11 (i : grid0.Coords) (k0_t3 : Fin (k0_t3_loop i).trips) : Fin 3 → Nat :=
  let arg2 : BitVec 32 := BitVec.ofNat 32 (i 2).val
  let c2_i32_87 : BitVec 32 := 2#32
  let v222 : BitVec 32 := Scalar.muli arg2 c2_i32_87
  let c1_i32_88 : BitVec 32 := 1#32
  let v223 : BitVec 32 := Scalar.subi v222 c1_i32_88
  let c0_i32_81 : BitVec 32 := 0#32
  let c1_i32_83 : BitVec 32 := 1#32
  let arg11 : BitVec 32 := Scf.iv c0_i32_81 c1_i32_83 k0_t3
  let v224 : BitVec 32 := Scalar.subi v223 arg11
  let v253 : Index := Scalar.indexCast v224
  let c64_98 : Index := 64#32
  let c0_99 : Index := 0#32
  ![v253.toNat, 64, 0]
@[reducible] def k0_t4_loop (i : grid0.Coords) : Scf.Loop 32 :=
  let c0_i32_81 : BitVec 32 := 0#32
  let arg2 : BitVec 32 := BitVec.ofNat 32 (i 2).val
  let c2_i32_80 : BitVec 32 := 2#32
  let v211 : BitVec 32 := Scalar.muli arg2 c2_i32_80
  let v212 : BitVec 32 := Scalar.subi v211 c0_i32_81
  let c1_i32_82 : BitVec 32 := 1#32
  let v214 : BitVec 32 := Scalar.divsi v212 c1_i32_82
  let v215 : BitVec 32 := Scalar.muli v214 c1_i32_82
  let v216 : BitVec 32 := Scalar.addi c0_i32_81 v215
  let v213 : BitVec 32 := Scalar.addi c0_i32_81 v212
  let c1_i32_84 : BitVec 32 := 1#32
  ⟨v216, v213, c1_i32_84⟩
def k0_off12 (i : grid0.Coords) (k0_t4 : Fin (k0_t4_loop i).trips) : Fin 4 → Nat :=
  let c1_89 : Index := 1#32
  let arg2 : BitVec 32 := BitVec.ofNat 32 (i 2).val
  let c2_i32_87 : BitVec 32 := 2#32
  let v222 : BitVec 32 := Scalar.muli arg2 c2_i32_87
  let c1_i32_88 : BitVec 32 := 1#32
  let v223 : BitVec 32 := Scalar.subi v222 c1_i32_88
  let c0_i32_81 : BitVec 32 := 0#32
  let c2_i32_80 : BitVec 32 := 2#32
  let v211 : BitVec 32 := Scalar.muli arg2 c2_i32_80
  let v212 : BitVec 32 := Scalar.subi v211 c0_i32_81
  let c1_i32_82 : BitVec 32 := 1#32
  let v214 : BitVec 32 := Scalar.divsi v212 c1_i32_82
  let v215 : BitVec 32 := Scalar.muli v214 c1_i32_82
  let v216 : BitVec 32 := Scalar.addi c0_i32_81 v215
  let c1_i32_84 : BitVec 32 := 1#32
  let arg11 : BitVec 32 := Scf.iv v216 c1_i32_84 k0_t4
  let v224 : BitVec 32 := Scalar.subi v223 arg11
  let v225 : Index := Scalar.indexCast v224
  let c0_90 : Index := 0#32
  let c0_91 : Index := 0#32
  ![1, v225.toNat, 0, 0]
def k0_off13 (i : grid0.Coords) (k0_t4 : Fin (k0_t4_loop i).trips) : Fin 3 → Nat :=
  let arg2 : BitVec 32 := BitVec.ofNat 32 (i 2).val
  let c2_i32_87 : BitVec 32 := 2#32
  let v222 : BitVec 32 := Scalar.muli arg2 c2_i32_87
  let c1_i32_88 : BitVec 32 := 1#32
  let v223 : BitVec 32 := Scalar.subi v222 c1_i32_88
  let c0_i32_81 : BitVec 32 := 0#32
  let c2_i32_80 : BitVec 32 := 2#32
  let v211 : BitVec 32 := Scalar.muli arg2 c2_i32_80
  let v212 : BitVec 32 := Scalar.subi v211 c0_i32_81
  let c1_i32_82 : BitVec 32 := 1#32
  let v214 : BitVec 32 := Scalar.divsi v212 c1_i32_82
  let v215 : BitVec 32 := Scalar.muli v214 c1_i32_82
  let v216 : BitVec 32 := Scalar.addi c0_i32_81 v215
  let c1_i32_84 : BitVec 32 := 1#32
  let arg11 : BitVec 32 := Scf.iv v216 c1_i32_84 k0_t4
  let v224 : BitVec 32 := Scalar.subi v223 arg11
  let v253 : Index := Scalar.indexCast v224
  let c64_98 : Index := 64#32
  let c0_99 : Index := 0#32
  ![v253.toNat, 64, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnRefIdeal.lean ====
abbrev S32768x512 : Shape := ⟨2, ![32768, 512]⟩
abbrev S4096x4096 : Shape := ⟨2, ![4096, 4096]⟩
abbrev S1x8 : Shape := ⟨2, ![1, 8]⟩
abbrev S8x4096x8x64 : Shape := ⟨4, ![8, 4096, 8, 64]⟩
abbrev S8x8x64x4096 : Shape := ⟨4, ![8, 8, 64, 4096]⟩
abbrev S8 : Shape := ⟨1, ![8]⟩
abbrev S4096 : Shape := ⟨1, ![4096]⟩
abbrev S8x8x4096x4096 : Shape := ⟨4, ![8, 8, 4096, 4096]⟩
abbrev S_ : Shape := ⟨0, ![]⟩
abbrev S1x8x1x1 : Shape := ⟨4, ![1, 8, 1, 1]⟩
abbrev S1x4096 : Shape := ⟨2, ![1, 4096]⟩
abbrev S4096x1 : Shape := ⟨2, ![4096, 1]⟩

abbrev nBuf : Space → Nat
  | .hbm => 73
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S4096x4096, .f32⟩
  | .hbm, ⟨2, _⟩ => ⟨S4096x4096, .f32⟩
  | .hbm, ⟨3, _⟩ => ⟨S1x8, .f32⟩
  | .hbm, ⟨4, _⟩ => ⟨S8x4096x8x64, .f32⟩
  | .hbm, ⟨5, _⟩ => ⟨S8x8x64x4096, .f32⟩
  | .hbm, ⟨6, _⟩ => ⟨S8x8x64x4096, .f32⟩
  | .hbm, ⟨7, _⟩ => ⟨S8, .f32⟩
  | .hbm, ⟨8, _⟩ => ⟨S4096, .i32⟩
  | .hbm, ⟨9, _⟩ => ⟨S8x8x4096x4096, .f32⟩
  | .hbm, ⟨10, _⟩ => ⟨S_, .f32⟩
  | .hbm, ⟨11, _⟩ => ⟨S8x8x4096x4096, .f32⟩
  | .hbm, ⟨12, _⟩ => ⟨S8x8x4096x4096, .f32⟩
  | .hbm, ⟨13, _⟩ => ⟨S1x8x1x1, .f32⟩
  | .hbm, ⟨14, _⟩ => ⟨S8x8x4096x4096, .f32⟩
  | .hbm, ⟨15, _⟩ => ⟨S8x8x4096x4096, .f32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S8x8x4096x4096, .f32⟩
  | .hbm, ⟨22, _⟩ => ⟨S8x8x4096x4096, .f32⟩
  | .hbm, ⟨23, _⟩ => ⟨S_, .f32⟩
  | .hbm, ⟨24, _⟩ => ⟨S8x8x4096x4096, .f32⟩
  | .hbm, ⟨25, _⟩ => ⟨S8x8x4096x4096, .f32⟩
  | .hbm, ⟨26, _⟩ => ⟨S8x8x4096x4096, .f32⟩
  | .hbm, ⟨27, _⟩ => ⟨S8x8x4096x4096, .f32⟩
  | .hbm, ⟨28, _⟩ => ⟨S8x8x4096x4096, .i1⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S8x8x4096x4096, .f32⟩
  | .hbm, ⟨33, _⟩ => ⟨S8x8x4096x4096, .f32⟩
  | .hbm, ⟨34, _⟩ => ⟨S8x8x4096x4096, .f32⟩
  | .hbm, ⟨35, _⟩ => ⟨S8x8x4096x4096, .f32⟩
  | .hbm, ⟨36, _⟩ => ⟨S8x8x4096x4096, .f32⟩
  | .hbm, ⟨37, _⟩ => ⟨S8x8x4096x4096, .f32⟩
  | .hbm, ⟨38, _⟩ => ⟨S_, .f32⟩
  | .hbm, ⟨39, _⟩ => ⟨S_, .f32⟩
  | .hbm, ⟨40, _⟩ => ⟨S8x8x4096x4096, .i1⟩
  | .hbm, ⟨41, _⟩ => ⟨S8x8x4096x4096, .f32⟩
  | .hbm, ⟨42, _⟩ => ⟨S8x8x4096x4096, .f32⟩
  | .hbm, ⟨43, _⟩ => ⟨S_, .f32⟩
  | .hbm, ⟨44, _⟩ => ⟨S_, .f32⟩
  | .hbm, ⟨45, _⟩ => ⟨S8x8x4096x4096, .f32⟩
  | .hbm, ⟨46, _⟩ => ⟨S8x8x4096x4096, .f32⟩
  | .hbm, ⟨47, _⟩ => ⟨S8x8x4096x4096, .f32⟩
  | .hbm, ⟨48, _⟩ => ⟨S_, .f32⟩
  | .hbm, ⟨49, _⟩ => ⟨S8x8x4096x4096, .f32⟩
  | .hbm, ⟨50, _⟩ => ⟨S8x8x4096x4096, .f32⟩
  | .hbm, ⟨51, _⟩ => ⟨S8x8x4096x4096, .f32⟩
  | .hbm, ⟨52, _⟩ => ⟨S8x8x4096x4096, .f32⟩
  | .hbm, ⟨53, _⟩ => ⟨S8x8x4096x4096, .i1⟩
  | .hbm, ⟨54, _⟩ => ⟨S8x8x4096x4096, .f32⟩
  | .hbm, ⟨55, _⟩ => ⟨S8x8x4096x4096, .f32⟩
  | .hbm, ⟨56, _⟩ => ⟨S8x8x4096x4096, .f32⟩
  | .hbm, ⟨57, _⟩ => ⟨S8x8x4096x4096, .f32⟩
  | .hbm, ⟨58, _⟩ => ⟨S8x8x4096x4096, .f32⟩
  | .hbm, ⟨59, _⟩ => ⟨S8x8x4096x4096, .f32⟩
  | .hbm, ⟨60, _⟩ => ⟨S8x8x4096x4096, .f32⟩
  | .hbm, ⟨61, _⟩ => ⟨S8x8x4096x4096, .f32⟩
  | .hbm, ⟨62, _⟩ => ⟨S8x8x4096x4096, .f32⟩
  | .hbm, ⟨63, _⟩ => ⟨S8x8x4096x4096, .f32⟩
  | .hbm, ⟨64, _⟩ => ⟨S8x8x4096x4096, .f32⟩
  | .hbm, ⟨65, _⟩ => ⟨S_, .f32⟩
  | .hbm, ⟨66, _⟩ => ⟨S_, .f32⟩
  | .hbm, ⟨67, _⟩ => ⟨S8x8x4096x4096, .i1⟩
  | .hbm, ⟨68, _⟩ => ⟨S8x8x4096x4096, .f32⟩
  | .hbm, ⟨69, _⟩ => ⟨S8x8x4096x4096, .f32⟩
  | .hbm, ⟨70, _⟩ => ⟨S8x8x64x4096, .f32⟩
  | .hbm, ⟨71, _⟩ => ⟨S8x4096x8x64, .f32⟩
  | .hbm, ⟨72, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v17 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v18 : Ref sig .tc := ⟨.hbm, 42, rfl⟩
abbrev main_call2_cst : Ref sig .tc := ⟨.hbm, 43, rfl⟩
abbrev main_call2_v0 : Ref sig .tc := ⟨.hbm, 44, rfl⟩
abbrev main_v19 : Ref sig .tc := ⟨.hbm, 45, rfl⟩
abbrev main_v20 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩

abbrev nD : Nat := 1
abbrev τ : Topo := Topo.v7x

variable {F : FTy → Type} [FloatOps F]
-- ==== Proj.lean ====
abbrev S8x4096x1024 : Shape := ⟨3, ![8, 4096, 1024]⟩
abbrev S1x1024 : Shape := ⟨2, ![1, 1024]⟩
abbrev S1x1024x2048 : Shape := ⟨3, ![1, 1024, 2048]⟩
abbrev S1024x2048 : Shape := ⟨2, ![1024, 2048]⟩
abbrev S32768x1024 : Shape := ⟨2, ![32768, 1024]⟩
abbrev S1024 : Shape := ⟨1, ![1024]⟩
abbrev S1024x512 : Shape := ⟨2, ![1024, 512]⟩
abbrev S512x1024 : Shape := ⟨2, ![512, 1024]⟩
abbrev S32768x512 : Shape := ⟨2, ![32768, 512]⟩
abbrev S4096x4096 : Shape := ⟨2, ![4096, 4096]⟩
abbrev S1024x1024 : Shape := ⟨2, ![1024, 1024]⟩
abbrev S1024x1 : Shape := ⟨2, ![1024, 1]⟩

abbrev nBuf : Space → Nat
  | .hbm => 18
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2048, .f32⟩
  | .hbm, ⟨3, _⟩ => ⟨S1024x2048, .f32⟩
  | .hbm, ⟨4, _⟩ => ⟨S1024x2048, .bf16⟩
  | .hbm, ⟨5, _⟩ => ⟨S32768x1024, .f32⟩
  | .hbm, ⟨6, _⟩ => ⟨S1024, .f32⟩
  | .hbm, ⟨7, _⟩ => ⟨S1x1024, .f32⟩
  | .hbm, ⟨8, _⟩ => ⟨S1024x512, .bf16⟩
  | .hbm, ⟨9, _⟩ => ⟨S1024x512, .bf16⟩
  | .hbm, ⟨10, _⟩ => ⟨S1024x512, .bf16⟩
  | .hbm, ⟨11, _⟩ => ⟨S1024x512, .bf16⟩
  | .hbm, ⟨12, _⟩ => ⟨S512x1024, .bf16⟩
  | .hbm, ⟨13, _⟩ => ⟨S512x1024, .bf16⟩
  | .hbm, ⟨14, _⟩ => ⟨S32768x512, .f32⟩
  | .hbm, ⟨15, _⟩ => ⟨S4096x4096, .f32⟩
  | .hbm, ⟨16, _⟩ => ⟨S4096x4096, .f32⟩
  | .hbm, ⟨17, _⟩ => ⟨S32768x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S1024x512, .bf16⟩
  | .local _ .vmem, ⟨7, _⟩ => ⟨S1024x512, .f32⟩
  | .local _ .vmem, ⟨8, _⟩ => ⟨S1024x512, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1024x512, .f32⟩
  | .local _ .vmem, ⟨14, _⟩ => ⟨S1024x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev main_v11_2 : Ref sig .tc := ⟨.hbm, 16, rfl⟩
abbrev main_v11_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

def cc0_transform_8 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjRefIdeal.lean ====
abbrev S8x4096x1024 : Shape := ⟨3, ![8, 4096, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2048 : Shape := ⟨2, ![1024, 2048]⟩
abbrev S8x4096x2048 : Shape := ⟨3, ![8, 4096, 2048]⟩
abbrev S8x4096x512 : Shape := ⟨3, ![8, 4096, 512]⟩
abbrev S8x512x4096 : Shape := ⟨3, ![8, 512, 4096]⟩
abbrev S32768x512 : Shape := ⟨2, ![32768, 512]⟩
abbrev S4096x4096 : Shape := ⟨2, ![4096, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2048, .f32⟩
  | .hbm, ⟨3, _⟩ => ⟨S1024, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S1024x2048, .f32⟩
  | .hbm, ⟨21, _⟩ => ⟨S8x4096x2048, .f32⟩
  | .hbm, ⟨22, _⟩ => ⟨S8x4096x512, .f32⟩
  | .hbm, ⟨23, _⟩ => ⟨S8x4096x512, .f32⟩
  | .hbm, ⟨24, _⟩ => ⟨S8x4096x512, .f32⟩
  | .hbm, ⟨25, _⟩ => ⟨S8x4096x512, .f32⟩
  | .hbm, ⟨26, _⟩ => ⟨S8x512x4096, .f32⟩
  | .hbm, ⟨27, _⟩ => ⟨S8x512x4096, .f32⟩
  | .hbm, ⟨28, _⟩ => ⟨S32768x512, .f32⟩
  | .hbm, ⟨29, _⟩ => ⟨S4096x4096, .f32⟩
  | .hbm, ⟨30, _⟩ => ⟨S4096x4096, .f32⟩
  | .hbm, ⟨31, _⟩ => ⟨S32768x512, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== StepProj.lean ====
abbrev S32x1x1024 : Shape := ⟨3, ![32, 1, 1024]⟩
abbrev S1x1024 : Shape := ⟨2, ![1, 1024]⟩
abbrev S1x1024x2048 : Shape := ⟨3, ![1, 1024, 2048]⟩
abbrev S1024x2048 : Shape := ⟨2, ![1024, 2048]⟩
abbrev S32x1024 : Shape := ⟨2, ![32, 1024]⟩
abbrev S1024 : Shape := ⟨1, ![1024]⟩
abbrev S32x512 : Shape := ⟨2, ![32, 512]⟩
abbrev S32 : Shape := ⟨1, ![32]⟩
abbrev S32x1 : Shape := ⟨2, ![32, 1]⟩
abbrev S1024x512 : Shape := ⟨2, ![1024, 512]⟩

abbrev nBuf : Space → Nat
  | .hbm => 12
  | .vmem => 7
  | .smem => 0
  | _ => 0

abbrev bufTy : (tb : Table) → Fin (tcTables nBuf tb) → BufTy
  | .hbm, ⟨0, _⟩ => ⟨S32x1x1024, .f32⟩
  | .hbm, ⟨1, _⟩ => ⟨S1x1024, .f32⟩
  | .hbm, ⟨2, _⟩ => ⟨S1x1024x2048, .f32⟩
  | .hbm, ⟨3, _⟩ => ⟨S1024x2048, .f32⟩
  | .hbm, ⟨4, _⟩ => ⟨S1024x2048, .bf16⟩
  | .hbm, ⟨5, _⟩ => ⟨S32x1024, .f32⟩
  | .hbm, ⟨6, _⟩ => ⟨S1024, .f32⟩
  | .hbm, ⟨7, _⟩ => ⟨S1x1024, .f32⟩
  | .hbm, ⟨8, _⟩ => ⟨S32x512, .f32⟩
  | .hbm, ⟨9, _⟩ => ⟨S32x512, .f32⟩
  | .hbm, ⟨10, _⟩ => ⟨S32x512, .f32⟩
  | .hbm, ⟨11, _⟩ => ⟨S32x512, .f32⟩
  | .local _ .vmem, ⟨0, _⟩ => ⟨S32x1024, .f32⟩
  | .local _ .vmem, ⟨1, _⟩ => ⟨S1x1024, .f32⟩
  | .local _ .vmem, ⟨2, _⟩ => ⟨S1024x2048, .bf16⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepProjRefIdeal.lean ====
abbrev S32x1x1024 : Shape := ⟨3, ![32, 1, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1024x2048 : Shape := ⟨2, ![1024, 2048]⟩
abbrev S32x1x2048 : Shape := ⟨3, ![32, 1, 2048]⟩
abbrev S32x1x512 : Shape := ⟨3, ![32, 1, 512]⟩
abbrev S32x512 : Shape := ⟨2, ![32, 512]⟩

abbrev nBuf : Space → Nat
  | .hbm => 30
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1x1024, .f32⟩
  | .hbm, ⟨2, _⟩ => ⟨S1x1024x2048, .f32⟩
  | .hbm, ⟨3, _⟩ => ⟨S1024, .f32⟩
  | .hbm, ⟨4, _⟩ => ⟨S32x1x1024, .f32⟩
  | .hbm, ⟨5, _⟩ => ⟨S_, .f32⟩
  | .hbm, ⟨6, _⟩ => ⟨S32x1, .f32⟩
  | .hbm, ⟨7, _⟩ => ⟨S32x1x1, .f32⟩
  | .hbm, ⟨8, _⟩ => ⟨S_, .f32⟩
  | .hbm, ⟨9, _⟩ => ⟨S32x1x1, .f32⟩
  | .hbm, ⟨10, _⟩ => ⟨S32x1x1, .f32⟩
  | .hbm, ⟨11, _⟩ => ⟨S_, .f32⟩
  | .hbm, ⟨12, _⟩ => ⟨S32x1x1, .f32⟩
  | .hbm, ⟨13, _⟩ => ⟨S32x1x1, .f32⟩
  | .hbm, ⟨14, _⟩ => ⟨S32x1x1, .f32⟩
  | .hbm, ⟨15, _⟩ => ⟨S32x1x1024, .f32⟩
  | .hbm, ⟨16, _⟩ => ⟨S32x1x1024, .f32⟩
  | .hbm, ⟨17, _⟩ => ⟨S1x1x1024, .f32⟩
  | .hbm, ⟨18, _⟩ => ⟨S32x1x1024, .f32⟩
  | .hbm, ⟨19, _⟩ => ⟨S32x1x1024, .f32⟩
  | .hbm, ⟨20, _⟩ => ⟨S1024x2048, .f32⟩
  | .hbm, ⟨21, _⟩ => ⟨S32x1x2048, .f32⟩
  | .hbm, ⟨22, _⟩ => ⟨S32x1x512, .f32⟩
  | .hbm, ⟨23, _⟩ => ⟨S32x1x512, .f32⟩
  | .hbm, ⟨24, _⟩ => ⟨S32x1x512, .f32⟩
  | .hbm, ⟨25, _⟩ => ⟨S32x1x512, .f32⟩
  | .hbm, ⟨26, _⟩ => ⟨S32x512, .f32⟩
  | .hbm, ⟨27, _⟩ => ⟨S32x512, .f32⟩
  | .hbm, ⟨28, _⟩ => ⟨S32x512, .f32⟩
  | .hbm, ⟨29, _⟩ => ⟨S32x512, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== StepTail.lean ====
abbrev S32x1x1024 : Shape := ⟨3, ![32, 1, 1024]⟩
abbrev S32x512 : Shape := ⟨2, ![32, 512]⟩
abbrev S1x32x2x2816 : Shape := ⟨4, ![1, 32, 2, 2816]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1024x1024 : Shape := ⟨2, ![1024, 1024]⟩
abbrev S1024x2816 : Shape := ⟨2, ![1024, 2816]⟩
abbrev S2816x1024 : Shape := ⟨2, ![2816, 1024]⟩
abbrev S512 : Shape := ⟨1, ![512]⟩
abbrev S1024 : Shape := ⟨1, ![1024]⟩
abbrev S3x2816 : Shape := ⟨2, ![3, 2816]⟩
abbrev S2816 : Shape := ⟨1, ![2816]⟩
abbrev S32x1024 : Shape := ⟨2, ![32, 1024]⟩
abbrev S32x2x2816 : Shape := ⟨3, ![32, 2, 2816]⟩
abbrev S32x1x2816 : Shape := ⟨3, ![32, 1, 2816]⟩
abbrev S32x2816 : Shape := ⟨2, ![32, 2816]⟩
abbrev S32 : Shape := ⟨1, ![32]⟩
abbrev S32x1 : Shape := ⟨2, ![32, 1]⟩
abbrev S512x1024 : Shape := ⟨2, ![512, 1024]⟩
abbrev S1024x256 : Shape := ⟨2, ![1024, 256]⟩
abbrev S32x256 : Shape := ⟨2, ![32, 256]⟩
abbrev S1x256 : Shape := ⟨2, ![1, 256]⟩
abbrev S256x1024 : Shape := ⟨2, ![256, 1024]⟩

abbrev nBuf : Space → Nat
  | .hbm => 44
  | .vmem => 18
  | .smem => 0
  | _ => 0

abbrev bufTy : (tb : Table) → Fin (tcTables nBuf tb) → BufTy
  | .hbm, ⟨0, _⟩ => ⟨S32x1x1024, .f32⟩
  | .hbm, ⟨1, _⟩ => ⟨S32x512, .f32⟩
  | .hbm, ⟨2, _⟩ => ⟨S32x512, .f32⟩
  | .hbm, ⟨3, _⟩ => ⟨S1x32x2x2816, .f32⟩
  | .hbm, ⟨4, _⟩ => ⟨S1x512, .f32⟩
  | .hbm, ⟨5, _⟩ => ⟨S1x512, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x3x2816, .f32⟩
  | .hbm, ⟨12, _⟩ => ⟨S1x2816, .f32⟩
  | .hbm, ⟨13, _⟩ => ⟨S1x2816x1024, .f32⟩
  | .hbm, ⟨14, _⟩ => ⟨S1x1024, .f32⟩
  | .hbm, ⟨15, _⟩ => ⟨S1024x1024, .f32⟩
  | .hbm, ⟨16, _⟩ => ⟨S1024x1024, .bf16⟩
  | .hbm, ⟨17, _⟩ => ⟨S1024x2816, .f32⟩
  | .hbm, ⟨18, _⟩ => ⟨S1024x2816, .bf16⟩
  | .hbm, ⟨19, _⟩ => ⟨S1024x2816, .f32⟩
  | .hbm, ⟨20, _⟩ => ⟨S1024x2816, .bf16⟩
  | .hbm, ⟨21, _⟩ => ⟨S2816x1024, .f32⟩
  | .hbm, ⟨22, _⟩ => ⟨S2816x1024, .bf16⟩
  | .hbm, ⟨23, _⟩ => ⟨S512, .f32⟩
  | .hbm, ⟨24, _⟩ => ⟨S1x512, .f32⟩
  | .hbm, ⟨25, _⟩ => ⟨S512, .f32⟩
  | .hbm, ⟨26, _⟩ => ⟨S1x512, .f32⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S3x2816, .f32⟩
  | .hbm, ⟨32, _⟩ => ⟨S2816, .f32⟩
  | .hbm, ⟨33, _⟩ => ⟨S1x2816, .f32⟩
  | .hbm, ⟨34, _⟩ => ⟨S1024, .f32⟩
  | .hbm, ⟨35, _⟩ => ⟨S1x1024, .f32⟩
  | .hbm, ⟨36, _⟩ => ⟨S32x1024, .f32⟩
  | .hbm, ⟨37, _⟩ => ⟨S32x2x2816, .f32⟩
  | .hbm, ⟨38, _⟩ => ⟨S32x1x2816, .f32⟩
  | .hbm, ⟨39, _⟩ => ⟨S32x2816, .f32⟩
  | .hbm, ⟨40, _⟩ => ⟨S32x1x2816, .f32⟩
  | .hbm, ⟨41, _⟩ => ⟨S32x2816, .f32⟩
  | .hbm, ⟨42, _⟩ => ⟨S32x1024, .f32⟩
  | .hbm, ⟨43, _⟩ => ⟨S32x2816, .f32⟩
  | .local _ .vmem, ⟨0, _⟩ => ⟨S32x1024, .f32⟩
  | .local _ .vmem, ⟨1, _⟩ => ⟨S32x512, .f32⟩
  | .local _ .vmem, ⟨2, _⟩ => ⟨S32x512, .f32⟩
  | .local _ .vmem, ⟨3, _⟩ => ⟨S1x512, .f32⟩
  | .local _ .vmem, ⟨4, _⟩ => ⟨S1x512, .f32⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S3x2816, .f32⟩
  | .local _ .vmem, ⟨11, _⟩ => ⟨S1x2816, .f32⟩
  | .local _ .vmem, ⟨12, _⟩ => ⟨S2816x1024, .bf16⟩
  | .local _ .vmem, ⟨13, _⟩ => ⟨S1x1024, .f32⟩
  | .local _ .vmem, ⟨14, _⟩ => ⟨S32x2816, .f32⟩
  | .local _ .vmem, ⟨15, _⟩ => ⟨S32x2816, .f32⟩
  | .local _ .vmem, ⟨16, _⟩ => ⟨S32x1024, .f32⟩
  | .local _ .vmem, ⟨17, _⟩ => ⟨S32x2816, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x2816 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S32x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S32x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S32x2816 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== StepTailRefIdeal.lean ====
abbrev S32x1x1024 : Shape := ⟨3, ![32, 1, 1024]⟩
abbrev S32x512 : Shape := ⟨2, ![32, 512]⟩
abbrev S1x32x2x2816 : Shape := ⟨4, ![1, 32, 2, 2816]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S32x1x512 : Shape := ⟨3, ![32, 1, 512]⟩
abbrev S512 : Shape := ⟨1, ![512]⟩
abbrev S_ : Shape := ⟨0, ![]⟩
abbrev S32x1 : Shape := ⟨2, ![32, 1]⟩
abbrev S32x1x1 : Shape := ⟨3, ![32, 1, 1]⟩
abbrev S1x1x512 : Shape := ⟨3, ![1, 1, 512]⟩
abbrev S1024x1024 : Shape := ⟨2, ![1024, 1024]⟩
abbrev S1024 : Shape := ⟨1, ![1024]⟩
abbrev S1x1x1024 : Shape := ⟨3, ![1, 1, 1024]⟩
abbrev S1024x2816 : Shape := ⟨2, ![1024, 2816]⟩
abbrev S32x1x2816 : Shape := ⟨3, ![32, 1, 2816]⟩
abbrev S32x2x2816 : Shape := ⟨3, ![32, 2, 2816]⟩
abbrev S32x3x2816 : Shape := ⟨3, ![32, 3, 2816]⟩
abbrev S2816 : Shape := ⟨1, ![2816]⟩
abbrev S3x2816 : Shape := ⟨2, ![3, 2816]⟩
abbrev S1x1x2816 : Shape := ⟨3, ![1, 1, 2816]⟩
abbrev S2816x1024 : Shape := ⟨2, ![2816, 1024]⟩
abbrev S32x1024 : Shape := ⟨2, ![32, 1024]⟩
abbrev S32x2816 : Shape := ⟨2, ![32, 2816]⟩

abbrev nBuf : Space → Nat
  | .hbm => 166
  | .vmem => 0
  | .smem => 0
  | _ => 0

abbrev hbmTy0_0 (i : Nat) : BufTy := match i % 128 with
  | 0 => ⟨S32x1x1024, .f32⟩
  | 1 => ⟨S32x512, .f32⟩
  | 2 => ⟨S32x512, .f32⟩
  | 3 => ⟨S1x32x2x2816, .f32⟩
  | 4 => ⟨S1x512, .f32⟩
  | 5 => ⟨S1x512, .f32⟩
  | 6 => ⟨S1x1024x1024, .f32⟩
  | 7 => ⟨S1x1024, .f32⟩
  | 8 => ⟨S1x1024, .f32⟩
  | 9 => ⟨S1x1024x2816, .f32⟩
  | 10 => ⟨S1x1024x2816, .f32⟩
  | 11 => ⟨S1x3x2816, .f32⟩
  | 12 => ⟨S1x2816, .f32⟩
  | 13 => ⟨S1x2816x1024, .f32⟩
  | 14 => ⟨S1x1024, .f32⟩
  | 15 => ⟨S32x1x512, .f32⟩
  | 16 => ⟨S32x1x512, .f32⟩
  | 17 => ⟨S512, .f32⟩
  | 18 => ⟨S32x1x512, .f32⟩
  | 19 => ⟨S_, .f32⟩
  | 20 => ⟨S32x1, .f32⟩
  | 21 => ⟨S32x1x1, .f32⟩
  | 22 => ⟨S_, .f32⟩
  | 23 => ⟨S32x1x1, .f32⟩
  | 24 => ⟨S32x1x1, .f32⟩
  | 25 => ⟨S_, .f32⟩
  | 26 => ⟨S32x1x1, .f32⟩
  | 27 => ⟨S32x1x1, .f32⟩
  | 28 => ⟨S32x1x1, .f32⟩
  | 29 => ⟨S32x1x512, .f32⟩
  | 30 => ⟨S32x1x512, .f32⟩
  | 31 => ⟨S1x1x512, .f32⟩
  | 32 => ⟨S32x1x512, .f32⟩
  | 33 => ⟨S32x1x512, .f32⟩
  | 34 => ⟨S512, .f32⟩
  | 35 => ⟨S32x1x512, .f32⟩
  | 36 => ⟨S_, .f32⟩
  | 37 => ⟨S32x1, .f32⟩
  | 38 => ⟨S32x1x1, .f32⟩
  | 39 => ⟨S_, .f32⟩
  | 40 => ⟨S32x1x1, .f32⟩
  | 41 => ⟨S32x1x1, .f32⟩
  | 42 => ⟨S_, .f32⟩
  | 43 => ⟨S32x1x1, .f32⟩
  | 44 => ⟨S32x1x1, .f32⟩
  | 45 => ⟨S32x1x1, .f32⟩
  | 46 => ⟨S32x1x512, .f32⟩
  | 47 => ⟨S32x1x512, .f32⟩
  | 48 => ⟨S1x1x512, .f32⟩
  | 49 => ⟨S32x1x512, .f32⟩
  | 50 => ⟨S32x1x512, .f32⟩
  | 51 => ⟨S32x1x1024, .f32⟩
  | 52 => ⟨S1024x1024, .f32⟩
  | 53 => ⟨S32x1x1024, .f32⟩
  | 54 => ⟨S1024, .f32⟩
  | 55 => ⟨S32x1x1024, .f32⟩
  | 56 => ⟨S_, .f32⟩
  | 57 => ⟨S32x1, .f32⟩
  | 58 => ⟨S32x1x1, .f32⟩
  | 59 => ⟨S_, .f32⟩
  | 60 => ⟨S32x1x1, .f32⟩
  | 61 => ⟨S32x1x1, .f32⟩
  | 62 => ⟨S_, .f32⟩
  | 63 => ⟨S32x1x1, .f32⟩
  | 64 => ⟨S32x1x1, .f32⟩
  | 65 => ⟨S32x1x1, .f32⟩
  | 66 => ⟨S32x1x1024, .f32⟩
  | 67 => ⟨S32x1x1024, .f32⟩
  | 68 => ⟨S1x1x1024, .f32⟩
  | 69 => ⟨S32x1x1024, .f32⟩
  | 70 => ⟨S32x1x1024, .f32⟩
  | 71 => ⟨S32x1x1024, .f32⟩
  | 72 => ⟨S1024, .f32⟩
  | 73 => ⟨S32x1x1024, .f32⟩
  | 74 => ⟨S_, .f32⟩
  | 75 => ⟨S32x1, .f32⟩
  | 76 => ⟨S32x1x1, .f32⟩
  | 77 => ⟨S_, .f32⟩
  | 78 => ⟨S32x1x1, .f32⟩
  | 79 => ⟨S32x1x1, .f32⟩
  | 80 => ⟨S_, .f32⟩
  | 81 => ⟨S32x1x1, .f32⟩
  | 82 => ⟨S32x1x1, .f32⟩
  | 83 => ⟨S32x1x1, .f32⟩
  | 84 => ⟨S32x1x1024, .f32⟩
  | 85 => ⟨S32x1x1024, .f32⟩
  | 86 => ⟨S1x1x1024, .f32⟩
  | 87 => ⟨S32x1x1024, .f32⟩
  | 88 => ⟨S32x1x1024, .f32⟩
  | 89 => ⟨S1024x2816, .f32⟩
  | 90 => ⟨S32x1x2816, .f32⟩
  | 91 => ⟨S1024x2816, .f32⟩
  | 92 => ⟨S32x1x2816, .f32⟩
  | 93 => ⟨S32x2x2816, .f32⟩
  | 94 => ⟨S32x3x2816, .f32⟩
  | 95 => ⟨S2816, .f32⟩
  | 96 => ⟨S32x1x2816, .f32⟩
  | 97 => ⟨S3x2816, .f32⟩
  | 98 => ⟨S1x2816, .f32⟩
  | 99 => ⟨S2816, .f32⟩
  | 100 => ⟨S1x1x2816, .f32⟩
  | 101 => ⟨S32x1x2816, .f32⟩
  | 102 => ⟨S32x1x2816, .f32⟩
  | 103 => ⟨S_, .f32⟩
  | 104 => ⟨S32x1x2816, .f32⟩
  | 105 => ⟨S32x1x2816, .f32⟩
  | 106 => ⟨S32x1x2816, .f32⟩
  | 107 => ⟨S3x2816, .f32⟩
  | 108 => ⟨S1x2816, .f32⟩
  | 109 => ⟨S2816, .f32⟩
  | 110 => ⟨S1x1x2816, .f32⟩
  | 111 => ⟨S32x1x2816, .f32⟩
  | 112 => ⟨S32x1x2816, .f32⟩
  | 113 => ⟨S32x1x2816, .f32⟩
  | 114 => ⟨S32x1x2816, .f32⟩
  | 115 => ⟨S3x2816, .f32⟩
  | 116 => ⟨S1x2816, .f32⟩
  | 117 => ⟨S2816, .f32⟩
  | 118 => ⟨S1x1x2816, .f32⟩
  | 119 => ⟨S32x1x2816, .f32⟩
  | 120 => ⟨S32x1x2816, .f32⟩
  | 121 => ⟨S32x1x2816, .f32⟩
  | 122 => ⟨S1x1x2816, .f32⟩
  | 123 => ⟨S32x1x2816, .f32⟩
  | 124 => ⟨S32x1x2816, .f32⟩
  | 125 => ⟨S32x1x2816, .f32⟩
  | 126 => ⟨S32x1x2816, .f32⟩
  | 127 => ⟨S_, .f32⟩
  | _ => ⟨S32x1x1024, .f32⟩

abbrev hbmTy0_1 (i : Nat) : BufTy := match i % 128 with
  | 0 => ⟨S32x1x2816, .f32⟩
  | 1 => ⟨S32x1x2816, .f32⟩
  | 2 => ⟨S32x1x2816, .f32⟩
  | 3 => ⟨S_, .f32⟩
  | 4 => ⟨S32x1x2816, .f32⟩
  | 5 => ⟨S32x1x2816, .f32⟩
  | 6 => ⟨S32x1x2816, .f32⟩
  | 7 => ⟨S_, .f32⟩
  | 8 => ⟨S32x1x2816, .f32⟩
  | 9 => ⟨S32x1x2816, .f32⟩
  | 10 => ⟨S_, .f32⟩
  | 11 => ⟨S32x1x2816, .f32⟩
  | 12 => ⟨S32x1x2816, .f32⟩
  | 13 => ⟨S32x1x2816, .f32⟩
  | 14 => ⟨S32x1x2816, .f32⟩
  | 15 => ⟨S2816x1024, .f32⟩
  | 16 => ⟨S32x1x1024, .f32⟩
  | 17 => ⟨S1024, .f32⟩
  | 18 => ⟨S32x1x1024, .f32⟩
  | 19 => ⟨S_, .f32⟩
  | 20 => ⟨S32x1, .f32⟩
  | 21 => ⟨S32x1x1, .f32⟩
  | 22 => ⟨S_, .f32⟩
  | 23 => ⟨S32x1x1, .f32⟩
  | 24 => ⟨S32x1x1, .f32⟩
  | 25 => ⟨S_, .f32⟩
  | 26 => ⟨S32x1x1, .f32⟩
  | 27 => ⟨S32x1x1, .f32⟩
  | 28 => ⟨S32x1x1, .f32⟩
  | 29 => ⟨S32x1x1024, .f32⟩
  | 30 => ⟨S32x1x1024, .f32⟩
  | 31 => ⟨S1x1x1024, .f32⟩
  | 32 => ⟨S32x1x1024, .f32⟩
  | 33 => ⟨S32x1x1024, .f32⟩
  | 34 => ⟨S32x1x1024, .f32⟩
  | 35 => ⟨S32x1024, .f32⟩
  | 36 => ⟨S32x1x2816, .f32⟩
  | 37 => ⟨S32x2816, .f32⟩
  | _ => ⟨S32x1x1024, .f32⟩

abbrev hbmTy (i : Nat) : BufTy := match i / 128 with
  | 0 => hbmTy0_0 i
  | 1 => hbmTy0_1 i
  | _ => ⟨S32x1x1024, .f32⟩

abbrev bufTy : (tb : Table) → Fin (tcTables nBuf tb) → BufTy
  | .hbm, ⟨i, _⟩ => hbmTy i
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_11 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_12 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_13 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_14 : Ref sig .tc := ⟨.hbm, 135, rfl⟩
abbrev main_v105 : Ref sig .tc := ⟨.hbm, 136, rfl⟩
abbrev main_v106 : Ref sig .tc := ⟨.hbm, 137, rfl⟩
abbrev main_cst_15 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_16 : Ref sig .tc := ⟨.hbm, 147, rfl⟩
abbrev main_v115 : Ref sig .tc := ⟨.hbm, 148, rfl⟩
abbrev main_v116 : Ref sig .tc := ⟨.hbm, 149, rfl⟩
abbrev main_cst_17 : Ref sig .tc := ⟨.hbm, 150, rfl⟩
abbrev main_v117 : Ref sig .tc := ⟨.hbm, 151, rfl⟩
abbrev main_v118 : Ref sig .tc := ⟨.hbm, 152, rfl⟩
abbrev main_cst_18 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩

abbrev nD : Nat := 1
abbrev τ : Topo := Topo.v7x

variable {F : FTy → Type} [FloatOps F]
-- ==== StepSsm.lean ====
abbrev S32x512 : Shape := ⟨2, ![32, 512]⟩
abbrev S1x32x32x64 : Shape := ⟨4, ![1, 32, 32, 64]⟩
abbrev S512x2048 : Shape := ⟨2, ![512, 2048]⟩
abbrev S2048x512 : Shape := ⟨2, ![2048, 512]⟩
abbrev S2x8x2048 : Shape := ⟨3, ![2, 8, 2048]⟩
abbrev S1x32x16 : Shape := ⟨3, ![1, 32, 16]⟩
abbrev S1x512x512 : Shape := ⟨3, ![1, 512, 512]⟩
abbrev S32x32x64 : Shape := ⟨3, ![32, 32, 64]⟩
abbrev S32x2048 : Shape := ⟨2, ![32, 2048]⟩
abbrev S32x16 : Shape := ⟨2, ![32, 16]⟩
abbrev S1x512 : Shape := ⟨2, ![1, 512]⟩
abbrev S512x512 : Shape := ⟨2, ![512, 512]⟩
abbrev S1x1x2048 : Shape := ⟨3, ![1, 1, 2048]⟩
abbrev S1x2048 : Shape := ⟨2, ![1, 2048]⟩

abbrev nBuf : Space → Nat
  | .hbm => 22
  | .vmem => 14
  | .smem => 0
  | _ => 0

abbrev bufTy : (tb : Table) → Fin (tcTables nBuf tb) → BufTy
  | .hbm, ⟨0, _⟩ => ⟨S32x512, .f32⟩
  | .hbm, ⟨1, _⟩ => ⟨S1x32x32x64, .f32⟩
  | .hbm, ⟨2, _⟩ => ⟨S1x32x32x64, .f32⟩
  | .hbm, ⟨3, _⟩ => ⟨S512x2048, .bf16⟩
  | .hbm, ⟨4, _⟩ => ⟨S512x2048, .bf16⟩
  | .hbm, ⟨5, _⟩ => ⟨S2048x512, .bf16⟩
  | .hbm, ⟨6, _⟩ => ⟨S2048x512, .bf16⟩
  | .hbm, ⟨7, _⟩ => ⟨S2x8x2048, .f32⟩
  | .hbm, ⟨8, _⟩ => ⟨S2x8x2048, .f32⟩
  | .hbm, ⟨9, _⟩ => ⟨S1x32x16, .f32⟩
  | .hbm, ⟨10, _⟩ => ⟨S1x512x512, .f32⟩
  | .hbm, ⟨11, _⟩ => ⟨S32x32x64, .f32⟩
  | .hbm, ⟨12, _⟩ => ⟨S32x2048, .f32⟩
  | .hbm, ⟨13, _⟩ => ⟨S32x32x64, .f32⟩
  | .hbm, ⟨14, _⟩ => ⟨S32x2048, .f32⟩
  | .hbm, ⟨15, _⟩ => ⟨S32x16, .f32⟩
  | .hbm, ⟨16, _⟩ => ⟨S1x512, .f32⟩
  | .hbm, ⟨17, _⟩ => ⟨S512x512, .f32⟩
  | .hbm, ⟨18, _⟩ => ⟨S512x512, .bf16⟩
  | .hbm, ⟨19, _⟩ => ⟨S32x512, .f32⟩
  | .hbm, ⟨20, _⟩ => ⟨S32x2048, .f32⟩
  | .hbm, ⟨21, _⟩ => ⟨S32x2048, .f32⟩
  | .local _ .vmem, ⟨0, _⟩ => ⟨S32x512, .f32⟩
  | .local _ .vmem, ⟨1, _⟩ => ⟨S32x2048, .f32⟩
  | .local _ .vmem, ⟨2, _⟩ => ⟨S32x2048, .f32⟩
  | .local _ .vmem, ⟨3, _⟩ => ⟨S512x2048, .bf16⟩
  | .local _ .vmem, ⟨4, _⟩ => ⟨S512x2048, .bf16⟩
  | .local _ .vmem, ⟨5, _⟩ => ⟨S2048x512, .bf16⟩
  | .local _ .vmem, ⟨6, _⟩ => ⟨S2048x512, .bf16⟩
  | .local _ .vmem, ⟨7, _⟩ => ⟨S2x8x2048, .f32⟩
  | .local _ .vmem, ⟨8, _⟩ => ⟨S2x8x2048, .f32⟩
  | .local _ .vmem, ⟨9, _⟩ => ⟨S1x512, .f32⟩
  | .local _ .vmem, ⟨10, _⟩ => ⟨S512x512, .bf16⟩
  | .local _ .vmem, ⟨11, _⟩ => ⟨S32x512, .f32⟩
  | .local _ .vmem, ⟨12, _⟩ => ⟨S32x2048, .f32⟩
  | .local _ .vmem, ⟨13, _⟩ => ⟨S32x2048, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== StepSsmRefIdeal.lean ====
abbrev S32x512 : Shape := ⟨2, ![32, 512]⟩
abbrev S1x32x32x64 : Shape := ⟨4, ![1, 32, 32, 64]⟩
abbrev S512x2048 : Shape := ⟨2, ![512, 2048]⟩
abbrev S2048x512 : Shape := ⟨2, ![2048, 512]⟩
abbrev S2x8x2048 : Shape := ⟨3, ![2, 8, 2048]⟩
abbrev S1x32x16 : Shape := ⟨3, ![1, 32, 16]⟩
abbrev S1x512x512 : Shape := ⟨3, ![1, 512, 512]⟩
abbrev S32x1x512 : Shape := ⟨3, ![32, 1, 512]⟩
abbrev S32x32x64 : Shape := ⟨3, ![32, 32, 64]⟩
abbrev S32x1x2048 : Shape := ⟨3, ![32, 1, 2048]⟩
abbrev S1x1x2048 : Shape := ⟨3, ![1, 1, 2048]⟩
abbrev S2048 : Shape := ⟨1, ![2048]⟩
abbrev S32x16 : Shape := ⟨2, ![32, 16]⟩
abbrev S512 : Shape := ⟨1, ![512]⟩
abbrev S1x1x512 : Shape := ⟨3, ![1, 1, 512]⟩
abbrev S_ : Shape := ⟨0, ![]⟩
abbrev S512x512 : Shape := ⟨2, ![512, 512]⟩
abbrev S32x2048 : Shape := ⟨2, ![32, 2048]⟩

abbrev nBuf : Space → Nat
  | .hbm => 82
  | .vmem => 0
  | .smem => 0
  | _ => 0

abbrev bufTy : (tb : Table) → Fin (tcTables nBuf tb) → BufTy
  | .hbm, ⟨0, _⟩ => ⟨S32x512, .f32⟩
  | .hbm, ⟨1, _⟩ => ⟨S1x32x32x64, .f32⟩
  | .hbm, ⟨2, _⟩ => ⟨S1x32x32x64, .f32⟩
  | .hbm, ⟨3, _⟩ => ⟨S512x2048, .bf16⟩
  | .hbm, ⟨4, _⟩ => ⟨S512x2048, .bf16⟩
  | .hbm, ⟨5, _⟩ => ⟨S2048x512, .bf16⟩
  | .hbm, ⟨6, _⟩ => ⟨S2048x512, .bf16⟩
  | .hbm, ⟨7, _⟩ => ⟨S2x8x2048, .f32⟩
  | .hbm, ⟨8, _⟩ => ⟨S2x8x2048, .f32⟩
  | .hbm, ⟨9, _⟩ => ⟨S1x32x16, .f32⟩
  | .hbm, ⟨10, _⟩ => ⟨S1x512x512, .f32⟩
  | .hbm, ⟨11, _⟩ => ⟨S32x1x512, .f32⟩
  | .hbm, ⟨12, _⟩ => ⟨S32x32x64, .f32⟩
  | .hbm, ⟨13, _⟩ => ⟨S32x1x2048, .f32⟩
  | .hbm, ⟨14, _⟩ => ⟨S32x32x64, .f32⟩
  | .hbm, ⟨15, _⟩ => ⟨S32x1x2048, .f32⟩
  | .hbm, ⟨16, _⟩ => ⟨S1x1x2048, .f32⟩
  | .hbm, ⟨17, _⟩ => ⟨S2048, .f32⟩
  | .hbm, ⟨18, _⟩ => ⟨S1x1x2048, .f32⟩
  | .hbm, ⟨19, _⟩ => ⟨S2048, .f32⟩
  | .hbm, ⟨20, _⟩ => ⟨S512x2048, .f32⟩
  | .hbm, ⟨21, _⟩ => ⟨S32x1x2048, .f32⟩
  | .hbm, ⟨22, _⟩ => ⟨S1x1x2048, .f32⟩
  | .hbm, ⟨23, _⟩ => ⟨S32x1x2048, .f32⟩
  | .hbm, ⟨24, _⟩ => ⟨S32x1x2048, .f32⟩
  | .hbm, ⟨25, _⟩ => ⟨S1x1x2048, .f32⟩
  | .hbm, ⟨26, _⟩ => ⟨S32x1x2048, .f32⟩
  | .hbm, ⟨27, _⟩ => ⟨S32x1x2048, .f32⟩
  | .hbm, ⟨28, _⟩ => ⟨S32x1x2048, .f32⟩
  | .hbm, ⟨29, _⟩ => ⟨S32x1x2048, .f32⟩
  | .hbm, ⟨30, _⟩ => ⟨S512x2048, .f32⟩
  | .hbm, ⟨31, _⟩ => ⟨S32x1x2048, .f32⟩
  | .hbm, ⟨32, _⟩ => ⟨S1x1x2048, .f32⟩
  | .hbm, ⟨33, _⟩ => ⟨S32x1x2048, .f32⟩
  | .hbm, ⟨34, _⟩ => ⟨S32x1x2048, .f32⟩
  | .hbm, ⟨35, _⟩ => ⟨S1x1x2048, .f32⟩
  | .hbm, ⟨36, _⟩ => ⟨S32x1x2048, .f32⟩
  | .hbm, ⟨37, _⟩ => ⟨S32x1x2048, .f32⟩
  | .hbm, ⟨38, _⟩ => ⟨S32x1x2048, .f32⟩
  | .hbm, ⟨39, _⟩ => ⟨S32x1x2048, .f32⟩
  | .hbm, ⟨40, _⟩ => ⟨S2048x512, .f32⟩
  | .hbm, ⟨41, _⟩ => ⟨S32x1x512, .f32⟩
  | .hbm, ⟨42, _⟩ => ⟨S2048x512, .f32⟩
  | .hbm, ⟨43, _⟩ => ⟨S32x1x512, .f32⟩
  | .hbm, ⟨44, _⟩ => ⟨S32x1x512, .f32⟩
  | .hbm, ⟨45, _⟩ => ⟨S32x16, .f32⟩
  | .hbm, ⟨46, _⟩ => ⟨S512, .f32⟩
  | .hbm, ⟨47, _⟩ => ⟨S1x1x512, .f32⟩
  | .hbm, ⟨48, _⟩ => ⟨S32x1x512, .f32⟩
  | .hbm, ⟨49, _⟩ => ⟨S32x1x512, .f32⟩
  | .hbm, ⟨50, _⟩ => ⟨S32x1x512, .f32⟩
  | .hbm, ⟨51, _⟩ => ⟨S32x1x512, .f32⟩
  | .hbm, ⟨52, _⟩ => ⟨S32x1x512, .f32⟩
  | .hbm, ⟨53, _⟩ => ⟨S_, .f32⟩
  | .hbm, ⟨54, _⟩ => ⟨S32x1x512, .f32⟩
  | .hbm, ⟨55, _⟩ => ⟨S32x1x512, .f32⟩
  | .hbm, ⟨56, _⟩ => ⟨S32x1x512, .f32⟩
  | .hbm, ⟨57, _⟩ => ⟨S_, .f32⟩
  | .hbm, ⟨58, _⟩ => ⟨S32x1x512, .f32⟩
  | .hbm, ⟨59, _⟩ => ⟨S32x1x512, .f32⟩
  | .hbm, ⟨60, _⟩ => ⟨S32x1x512, .f32⟩
  | .hbm, ⟨61, _⟩ => ⟨S_, .f32⟩
  | .hbm, ⟨62, _⟩ => ⟨S32x1x512, .f32⟩
  | .hbm, ⟨63, _⟩ => ⟨S32x1x512, .f32⟩
  | .hbm, ⟨64, _⟩ => ⟨S_, .f32⟩
  | .hbm, ⟨65, _⟩ => ⟨S32x1x512, .f32⟩
  | .hbm, ⟨66, _⟩ => ⟨S32x1x512, .f32⟩
  | .hbm, ⟨67, _⟩ => ⟨S32x1x512, .f32⟩
  | .hbm, ⟨68, _⟩ => ⟨S512x512, .f32⟩
  | .hbm, ⟨69, _⟩ => ⟨S32x1x512, .f32⟩
  | .hbm, ⟨70, _⟩ => ⟨S32x1x512, .f32⟩
  | .hbm, ⟨71, _⟩ => ⟨S32x1x512, .f32⟩
  | .hbm, ⟨72, _⟩ => ⟨S_, .f32⟩
  | .hbm, ⟨73, _⟩ => ⟨S32x1x512, .f32⟩
  | .hbm, ⟨74, _⟩ => ⟨S32x1x512, .f32⟩
  | .hbm, ⟨75, _⟩ => ⟨S_, .f32⟩
  | .hbm, ⟨76, _⟩ => ⟨S32x1x512, .f32⟩
  | .hbm, ⟨77, _⟩ => ⟨S32x1x512, .f32⟩
  | .hbm, ⟨78, _⟩ => ⟨S32x1x512, .f32⟩
  | .hbm, ⟨79, _⟩ => ⟨S32x512, .f32⟩
  | .hbm, ⟨80, _⟩ => ⟨S32x2048, .f32⟩
  | .hbm, ⟨81, _⟩ => ⟨S32x2048, .f32⟩
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_0 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_1 : Ref sig .tc := ⟨.hbm, 61, rfl⟩
abbrev main_v48 : Ref sig .tc := ⟨.hbm, 62, rfl⟩
abbrev main_v49 : Ref sig .tc := ⟨.hbm, 63, rfl⟩
abbrev main_cst_2 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_3 : Ref sig .tc := ⟨.hbm, 72, rfl⟩
abbrev main_v57 : Ref sig .tc := ⟨.hbm, 73, rfl⟩
abbrev main_v58 : Ref sig .tc := ⟨.hbm, 74, rfl⟩
abbrev main_cst_4 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Prep.lean ====
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x1 : Shape := ⟨2, ![32, 1]⟩
abbrev S1x2048 : Shape := ⟨2, ![1, 2048]⟩
abbrev S512x64 : Shape := ⟨2, ![512, 64]⟩
abbrev S1x512x1x64 : Shape := ⟨4, ![1, 512, 1, 64]⟩
abbrev S1x512x32x64 : Shape := ⟨4, ![1, 512, 32, 64]⟩
abbrev S512x2048 : Shape := ⟨2, ![512, 2048]⟩
abbrev S2048x16 : Shape := ⟨2, ![2048, 16]⟩
abbrev S1x2048x1x16 : Shape := ⟨4, ![1, 2048, 1, 16]⟩
abbrev S1x2048x32x16 : Shape := ⟨4, ![1, 2048, 32, 16]⟩
abbrev S2048x512 : Shape := ⟨2, ![2048, 512]⟩
abbrev S2x8x2048 : Shape := ⟨3, ![2, 8, 2048]⟩
abbrev S2x3x8x2048 : Shape := ⟨4, ![2, 3, 8, 2048]⟩
abbrev S4x512x512 : Shape := ⟨3, ![4, 512, 512]⟩
abbrev S1x512 : Shape := ⟨2, ![1, 512]⟩
abbrev S512x512 : Shape := ⟨2, ![512, 512]⟩
abbrev S2x8x512 : Shape := ⟨3, ![2, 8, 512]⟩
abbrev S2x3x8x512 : Shape := ⟨4, ![2, 3, 8, 512]⟩
abbrev S1x512x512 : Shape := ⟨3, ![1, 512, 512]⟩
abbrev S128x512 : Shape := ⟨2, ![128, 512]⟩
abbrev S1x128x512 : Shape := ⟨3, ![1, 128, 512]⟩
abbrev S8x512 : Shape := ⟨2, ![8, 512]⟩
abbrev S1x1x8x512 : Shape := ⟨4, ![1, 1, 8, 512]⟩
abbrev S1x8x512 : Shape := ⟨3, ![1, 8, 512]⟩

abbrev nBuf : Space → Nat
  | .hbm => 49
  | .vmem => 34
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S1x32x16x64, .f32⟩
  | .hbm, ⟨6, _⟩ => ⟨S1x32x16x64, .f32⟩
  | .hbm, ⟨7, _⟩ => ⟨S32x64, .f32⟩
  | .hbm, ⟨8, _⟩ => ⟨S32x64, .f32⟩
  | .hbm, ⟨9, _⟩ => ⟨S32, .f32⟩
  | .hbm, ⟨10, _⟩ => ⟨S32x64x16, .f32⟩
  | .hbm, ⟨11, _⟩ => ⟨S32x64x16, .f32⟩
  | .hbm, ⟨12, _⟩ => ⟨S32x16x64, .f32⟩
  | .hbm, ⟨13, _⟩ => ⟨S32x16x64, .f32⟩
  | .hbm, ⟨14, _⟩ => ⟨S32x1, .f32⟩
  | .hbm, ⟨15, _⟩ => ⟨S32x64, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S32x16x64, .f32⟩
  | .hbm, ⟨20, _⟩ => ⟨S512x64, .f32⟩
  | .hbm, ⟨21, _⟩ => ⟨S1x512x1x64, .f32⟩
  | .hbm, ⟨22, _⟩ => ⟨S1x512x32x64, .f32⟩
  | .hbm, ⟨23, _⟩ => ⟨S512x2048, .f32⟩
  | .hbm, ⟨24, _⟩ => ⟨S32x16x64, .f32⟩
  | .hbm, ⟨25, _⟩ => ⟨S512x64, .f32⟩
  | .hbm, ⟨26, _⟩ => ⟨S1x512x1x64, .f32⟩
  | .hbm, ⟨27, _⟩ => ⟨S1x512x32x64, .f32⟩
  | .hbm, ⟨28, _⟩ => ⟨S512x2048, .f32⟩
  | .hbm, ⟨29, _⟩ => ⟨S32x64x16, .f32⟩
  | .hbm, ⟨30, _⟩ => ⟨S2048x16, .f32⟩
  | .hbm, ⟨31, _⟩ => ⟨S1x2048x1x16, .f32⟩
  | .hbm, ⟨32, _⟩ => ⟨S1x2048x32x16, .f32⟩
  | .hbm, ⟨33, _⟩ => ⟨S2048x512, .f32⟩
  | .hbm, ⟨34, _⟩ => ⟨S32x64x16, .f32⟩
  | .hbm, ⟨35, _⟩ => ⟨S2048x16, .f32⟩
  | .hbm, ⟨36, _⟩ => ⟨S1x2048x1x16, .f32⟩
  | .hbm, ⟨37, _⟩ => ⟨S1x2048x32x16, .f32⟩
  | .hbm, ⟨38, _⟩ => ⟨S2048x512, .f32⟩
  | .hbm, ⟨39, _⟩ => ⟨S512x2048, .bf16⟩
  | .hbm, ⟨40, _⟩ => ⟨S512x2048, .bf16⟩
  | .hbm, ⟨41, _⟩ => ⟨S2048x512, .bf16⟩
  | .hbm, ⟨42, _⟩ => ⟨S2048x512, .bf16⟩
  | .hbm, ⟨43, _⟩ => ⟨S2x8x2048, .f32⟩
  | .hbm, ⟨44, _⟩ => ⟨S2x8x2048, .f32⟩
  | .hbm, ⟨45, _⟩ => ⟨S2x3x8x2048, .f32⟩
  | .hbm, ⟨46, _⟩ => ⟨S2x3x8x2048, .f32⟩
  | .hbm, ⟨47, _⟩ => ⟨S4x512x512, .bf16⟩
  | .hbm, ⟨48, _⟩ => ⟨S4x512x512, .bf16⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S2x8x512, .f32⟩
  | .local _ .vmem, ⟨23, _⟩ => ⟨S2x8x512, .f32⟩
  | .local _ .vmem, ⟨24, _⟩ => ⟨S2x8x512, .f32⟩
  | .local _ .vmem, ⟨25, _⟩ => ⟨S2x8x512, .f32⟩
  | .local _ .vmem, ⟨26, _⟩ => ⟨S2x3x8x512, .f32⟩
  | .local _ .vmem, ⟨27, _⟩ => ⟨S2x3x8x512, .f32⟩
  | .local _ .vmem, ⟨28, _⟩ => ⟨S2x3x8x512, .f32⟩
  | .local _ .vmem, ⟨29, _⟩ => ⟨S2x3x8x512, .f32⟩
  | .local _ .vmem, ⟨30, _⟩ => ⟨S1x512x512, .bf16⟩
  | .local _ .vmem, ⟨31, _⟩ => ⟨S1x512x512, .bf16⟩
  | .local _ .vmem, ⟨32, _⟩ => ⟨S1x512x512, .bf16⟩
  | .local _ .vmem, ⟨33, _⟩ => ⟨S1x512x512, .bf16⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32_0 : Ref sig .tc := ⟨.hbm, 39, rfl⟩
abbrev main_v32_1 : Ref sig .tc := ⟨.hbm, 40, rfl⟩
abbrev main_v32_2 : Ref sig .tc := ⟨.hbm, 41, rfl⟩
abbrev main_v32_3 : Ref sig .tc := ⟨.hbm, 42, rfl⟩
abbrev main_v32_4 : Ref sig .tc := ⟨.hbm, 43, rfl⟩
abbrev main_v32_5 : Ref sig .tc := ⟨.hbm, 44, rfl⟩
abbrev main_v32_6 : Ref sig .tc := ⟨.hbm, 45, rfl⟩
abbrev main_v32_7 : Ref sig .tc := ⟨.hbm, 46, rfl⟩
abbrev main_v32_8 : Ref sig .tc := ⟨.hbm, 47, rfl⟩
abbrev main_v32_9 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨1, ![4], ![false]⟩

def k0_mult1 (i : grid0.Coords) : BitVec 32 :=
  let arg0 : BitVec 32 := BitVec.ofNat 32 (i 0).val
  let c128_i32 : BitVec 32 := 128#32
  let v59 : BitVec 32 := Scalar.muli arg0 c128_i32
  v59
def k0_off1 (i : grid0.Coords) : Fin 2 → Nat :=
  let arg0 : BitVec 32 := BitVec.ofNat 32 (i 0).val
  let c128_i32 : BitVec 32 := 128#32
  let v59 : BitVec 32 := Scalar.muli arg0 c128_i32
  let v60 : BitVec 32 := v59
  let v68 : Index := Scalar.indexCast v60
  let c0_17 : Index := 0#32
  ![v68.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x3x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x3x8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== PrepRefIdeal.lean ====
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S32x64 : Shape := ⟨2, ![32, 64]⟩
abbrev S32 : Shape := ⟨1, ![32]⟩
abbrev S32x1 : Shape := ⟨2, ![32, 1]⟩
abbrev S_ : Shape := ⟨0, ![]⟩
abbrev S32x64x1 : Shape := ⟨3, ![32, 64, 1]⟩
abbrev S32x64x16 : Shape := ⟨3, ![32, 64, 16]⟩
abbrev S32x32 : Shape := ⟨2, ![32, 32]⟩
abbrev S2048 : Shape := ⟨1, ![2048]⟩
abbrev S32x1x32x1 : Shape := ⟨4, ![32, 1, 32, 1]⟩
abbrev S32x16x64 : Shape := ⟨3, ![32, 16, 64]⟩
abbrev S32x16x1x64 : Shape := ⟨4, ![32, 16, 1, 64]⟩
abbrev S32x16x32x64 : Shape := ⟨4, ![32, 16, 32, 64]⟩
abbrev S512x2048 : Shape := ⟨2, ![512, 2048]⟩
abbrev S32x64x1x16 : Shape := ⟨4, ![32, 64, 1, 16]⟩
abbrev S32x64x32x16 : Shape := ⟨4, ![32, 64, 32, 16]⟩
abbrev S2048x512 : Shape := ⟨2, ![2048, 512]⟩
abbrev S1x2048 : Shape := ⟨2, ![1, 2048]⟩
abbrev S16x2048 : Shape := ⟨2, ![16, 2048]⟩
abbrev S2x8x2048 : Shape := ⟨3, ![2, 8, 2048]⟩

abbrev nBuf : Space → Nat
  | .hbm => 230
  | .vmem => 0
  | .smem => 0
  | _ => 0

abbrev hbmTy0_0 (i : Nat) : BufTy := match i % 128 with
  | 0 => ⟨S1x32x64, .f32⟩
  | 1 => ⟨S1x32x64, .f32⟩
  | 2 => ⟨S1x32, .f32⟩
  | 3 => ⟨S1x32x64x16, .f32⟩
  | 4 => ⟨S1x32x64x16, .f32⟩
  | 5 => ⟨S1x32x16x64, .f32⟩
  | 6 => ⟨S1x32x16x64, .f32⟩
  | 7 => ⟨S32x64, .f32⟩
  | 8 => ⟨S32x64, .f32⟩
  | 9 => ⟨S32, .f32⟩
  | 10 => ⟨S32, .f32⟩
  | 11 => ⟨S32x1, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S_, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64x1, .f32⟩
  | 32 => ⟨S32x64, .f32⟩
  | 33 => ⟨S_, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S32x64x1, .f32⟩
  | 40 => ⟨S32x64x16, .f32⟩
  | 41 => ⟨S32x64x16, .f32⟩
  | 42 => ⟨S32x64x16, .f32⟩
  | 43 => ⟨S32x64x16, .f32⟩
  | 44 => ⟨S32x64x16, .f32⟩
  | 45 => ⟨S32x64x16, .f32⟩
  | 46 => ⟨S32x64x16, .f32⟩
  | 47 => ⟨S32x64x16, .f32⟩
  | 48 => ⟨S32x64x16, .f32⟩
  | 49 => ⟨S32x64x16, .f32⟩
  | 50 => ⟨S32x64x16, .f32⟩
  | 51 => ⟨S32x64x16, .f32⟩
  | 52 => ⟨S32x64x16, .f32⟩
  | 53 => ⟨S32x64x16, .f32⟩
  | 54 => ⟨S32, .i32⟩
  | 55 => ⟨S32x1, .i32⟩
  | 56 => ⟨S32, .i32⟩
  | 57 => ⟨S1x32, .i32⟩
  | 58 => ⟨S32x32, .i32⟩
  | 59 => ⟨S32x32, .i32⟩
  | 60 => ⟨S32x32, .i1⟩
  | 61 => ⟨S2048, .f32⟩
  | 62 => ⟨S2048, .f32⟩
  | 63 => ⟨S2048, .f32⟩
  | 64 => ⟨S2048, .f32⟩
  | 65 => ⟨S2048, .f32⟩
  | 66 => ⟨S2048, .f32⟩
  | 67 => ⟨S2048, .f32⟩
  | 68 => ⟨S2048, .f32⟩
  | 69 => ⟨S2048, .f32⟩
  | 70 => ⟨S2048, .f32⟩
  | 71 => ⟨S2048, .f32⟩
  | 72 => ⟨S2048, .f32⟩
  | 73 => ⟨S2048, .f32⟩
  | 74 => ⟨S2048, .f32⟩
  | 75 => ⟨S2048, .f32⟩
  | 76 => ⟨S2048, .f32⟩
  | 77 => ⟨S2048, .f32⟩
  | 78 => ⟨S2048, .f32⟩
  | 79 => ⟨S2048, .f32⟩
  | 80 => ⟨S2048, .f32⟩
  | 81 => ⟨S2048, .f32⟩
  | 82 => ⟨S2048, .f32⟩
  | 83 => ⟨S2048, .f32⟩
  | 84 => ⟨S2048, .f32⟩
  | 85 => ⟨S2048, .f32⟩
  | 86 => ⟨S2048, .f32⟩
  | 87 => ⟨S2048, .f32⟩
  | 88 => ⟨S2048, .f32⟩
  | 89 => ⟨S2048, .f32⟩
  | 90 => ⟨S2048, .f32⟩
  | 91 => ⟨S2048, .f32⟩
  | 92 => ⟨S2048, .f32⟩
  | 93 => ⟨S2048, .f32⟩
  | 94 => ⟨S2048, .f32⟩
  | 95 => ⟨S2048, .f32⟩
  | 96 => ⟨S2048, .f32⟩
  | 97 => ⟨S2048, .f32⟩
  | 98 => ⟨S2048, .f32⟩
  | 99 => ⟨S2048, .f32⟩
  | 100 => ⟨S2048, .f32⟩
  | 101 => ⟨S2048, .f32⟩
  | 102 => ⟨S2048, .f32⟩
  | 103 => ⟨S2048, .f32⟩
  | 104 => ⟨S2048, .f32⟩
  | 105 => ⟨S2048, .f32⟩
  | 106 => ⟨S2048, .f32⟩
  | 107 => ⟨S2048, .f32⟩
  | 108 => ⟨S2048, .f32⟩
  | 109 => ⟨S2048, .f32⟩
  | 110 => ⟨S2048, .f32⟩
  | 111 => ⟨S2048, .f32⟩
  | 112 => ⟨S2048, .f32⟩
  | 113 => ⟨S2048, .f32⟩
  | 114 => ⟨S2048, .f32⟩
  | 115 => ⟨S2048, .f32⟩
  | 116 => ⟨S2048, .f32⟩
  | 117 => ⟨S2048, .f32⟩
  | 118 => ⟨S2048, .f32⟩
  | 119 => ⟨S2048, .f32⟩
  | 120 => ⟨S2048, .f32⟩
  | 121 => ⟨S2048, .f32⟩
  | 122 => ⟨S2048, .f32⟩
  | 123 => ⟨S2048, .f32⟩
  | 124 => ⟨S2048, .f32⟩
  | 125 => ⟨S2048, .f32⟩
  | 126 => ⟨S2048, .f32⟩
  | 127 => ⟨S2048, .f32⟩
  | _ => ⟨S1x32x64, .f32⟩

abbrev hbmTy0_1 (i : Nat) : BufTy := match i % 128 with
  | 0 => ⟨S2048, .f32⟩
  | 1 => ⟨S2048, .f32⟩
  | 2 => ⟨S2048, .f32⟩
  | 3 => ⟨S2048, .f32⟩
  | 4 => ⟨S2048, .f32⟩
  | 5 => ⟨S2048, .f32⟩
  | 6 => ⟨S2048, .f32⟩
  | 7 => ⟨S2048, .f32⟩
  | 8 => ⟨S2048, .f32⟩
  | 9 => ⟨S2048, .f32⟩
  | 10 => ⟨S2048, .f32⟩
  | 11 => ⟨S2048, .f32⟩
  | 12 => ⟨S2048, .f32⟩
  | 13 => ⟨S2048, .f32⟩
  | 14 => ⟨S2048, .f32⟩
  | 15 => ⟨S2048, .f32⟩
  | 16 => ⟨S2048, .f32⟩
  | 17 => ⟨S2048, .f32⟩
  | 18 => ⟨S2048, .f32⟩
  | 19 => ⟨S32x1x32x1, .i1⟩
  | 20 => ⟨S32x16x64, .f32⟩
  | 21 => ⟨S32x16x1x64, .f32⟩
  | 22 => ⟨S_, .f32⟩
  | 23 => ⟨S_, .f32⟩
  | 24 => ⟨S32x16x32x64, .i1⟩
  | 25 => ⟨S32x16x32x64, .f32⟩
  | 26 => ⟨S32x16x32x64, .f32⟩
  | 27 => ⟨S32x16x32x64, .f32⟩
  | 28 => ⟨S512x2048, .f32⟩
  | 29 => ⟨S512x2048, .bf16⟩
  | 30 => ⟨S32x1x32x1, .i1⟩
  | 31 => ⟨S32x16x64, .f32⟩
  | 32 => ⟨S32x16x1x64, .f32⟩
  | 33 => ⟨S_, .f32⟩
  | 34 => ⟨S_, .f32⟩
  | 35 => ⟨S32x16x32x64, .i1⟩
  | 36 => ⟨S32x16x32x64, .f32⟩
  | 37 => ⟨S32x16x32x64, .f32⟩
  | 38 => ⟨S32x16x32x64, .f32⟩
  | 39 => ⟨S512x2048, .f32⟩
  | 40 => ⟨S512x2048, .bf16⟩
  | 41 => ⟨S32x16x64, .f32⟩
  | 42 => ⟨S32x1x32x1, .i1⟩
  | 43 => ⟨S32x64x16, .f32⟩
  | 44 => ⟨S32x64x1x16, .f32⟩
  | 45 => ⟨S_, .f32⟩
  | 46 => ⟨S_, .f32⟩
  | 47 => ⟨S32x64x32x16, .i1⟩
  | 48 => ⟨S32x64x32x16, .f32⟩
  | 49 => ⟨S32x64x32x16, .f32⟩
  | 50 => ⟨S32x64x32x16, .f32⟩
  | 51 => ⟨S2048x512, .f32⟩
  | 52 => ⟨S2048x512, .bf16⟩
  | 53 => ⟨S32x16x64, .f32⟩
  | 54 => ⟨S32x16x64, .f32⟩
  | 55 => ⟨S32x1x32x1, .i1⟩
  | 56 => ⟨S32x64x16, .f32⟩
  | 57 => ⟨S32x64x1x16, .f32⟩
  | 58 => ⟨S_, .f32⟩
  | 59 => ⟨S_, .f32⟩
  | 60 => ⟨S32x64x32x16, .i1⟩
  | 61 => ⟨S32x64x32x16, .f32⟩
  | 62 => ⟨S32x64x32x16, .f32⟩
  | 63 => ⟨S32x64x32x16, .f32⟩
  | 64 => ⟨S2048x512, .f32⟩
  | 65 => ⟨S2048x512, .bf16⟩
  | 66 => ⟨S1x2048, .f32⟩
  | 67 => ⟨S1x2048, .f32⟩
  | 68 => ⟨S1x2048, .f32⟩
  | 69 => ⟨S1x2048, .f32⟩
  | 70 => ⟨S1x2048, .f32⟩
  | 71 => ⟨S1x2048, .f32⟩
  | 72 => ⟨S1x2048, .f32⟩
  | 73 => ⟨S1x2048, .f32⟩
  | 74 => ⟨S1x2048, .f32⟩
  | 75 => ⟨S1x2048, .f32⟩
  | 76 => ⟨S1x2048, .f32⟩
  | 77 => ⟨S1x2048, .f32⟩
  | 78 => ⟨S1x2048, .f32⟩
  | 79 => ⟨S1x2048, .f32⟩
  | 80 => ⟨S1x2048, .f32⟩
  | 81 => ⟨S1x2048, .f32⟩
  | 82 => ⟨S16x2048, .f32⟩
  | 83 => ⟨S2x8x2048, .f32⟩
  | 84 => ⟨S1x2048, .f32⟩
  | 85 => ⟨S1x2048, .f32⟩
  | 86 => ⟨S1x2048, .f32⟩
  | 87 => ⟨S1x2048, .f32⟩
  | 88 => ⟨S1x2048, .f32⟩
  | 89 => ⟨S1x2048, .f32⟩
  | 90 => ⟨S1x2048, .f32⟩
  | 91 => ⟨S1x2048, .f32⟩
  | 92 => ⟨S1x2048, .f32⟩
  | 93 => ⟨S1x2048, .f32⟩
  | 94 => ⟨S1x2048, .f32⟩
  | 95 => ⟨S1x2048, .f32⟩
  | 96 => ⟨S1x2048, .f32⟩
  | 97 => ⟨S1x2048, .f32⟩
  | 98 => ⟨S1x2048, .f32⟩
  | 99 => ⟨S1x2048, .f32⟩
  | 100 => ⟨S16x2048, .f32⟩
  | 101 => ⟨S2x8x2048, .f32⟩
  | _ => ⟨S1x32x64, .f32⟩

abbrev hbmTy (i : Nat) : BufTy := match i / 128 with
  | 0 => hbmTy0_0 i
  | 1 => hbmTy0_1 i
  | _ => ⟨S1x32x64, .f32⟩

abbrev bufTy : (tb : Table) → Fin (tcTables nBuf tb) → BufTy
  | .hbm, ⟨i, _⟩ => hbmTy i
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_cst_1 : Ref sig .tc := ⟨.hbm, 150, rfl⟩
abbrev main_call0_v0 : Ref sig .tc := ⟨.hbm, 151, rfl⟩
abbrev main_call0_v1 : Ref sig .tc := ⟨.hbm, 152, rfl⟩
abbrev main_call0_v2 : Ref sig .tc := ⟨.hbm, 153, rfl⟩
abbrev main_call0_v3 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_cst_2 : Ref sig .tc := ⟨.hbm, 161, rfl⟩
abbrev main_call1_v0 : Ref sig .tc := ⟨.hbm, 162, rfl⟩
abbrev main_call1_v1 : Ref sig .tc := ⟨.hbm, 163, rfl⟩
abbrev main_call1_v2 : Ref sig .tc := ⟨.hbm, 164, rfl⟩
abbrev main_call1_v3 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_cst_3 : Ref sig .tc := ⟨.hbm, 173, rfl⟩
abbrev main_call2_v0 : Ref sig .tc := ⟨.hbm, 174, rfl⟩
abbrev main_call2_v1 : Ref sig .tc := ⟨.hbm, 175, rfl⟩
abbrev main_call2_v2 : Ref sig .tc := ⟨.hbm, 176, rfl⟩
abbrev main_call2_v3 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_cst_4 : Ref sig .tc := ⟨.hbm, 186, rfl⟩
abbrev main_call3_v0 : Ref sig .tc := ⟨.hbm, 187, rfl⟩
abbrev main_call3_v1 : Ref sig .tc := ⟨.hbm, 188, rfl⟩
abbrev main_call3_v2 : Ref sig .tc := ⟨.hbm, 189, rfl⟩
abbrev main_call3_v3 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩

abbrev nD : Nat := 1
abbrev τ : Topo := Topo.v7x

variable {F : FTy → Type} [FloatOps F]
-- ==== Proof.Tail.Body.lean ====
/- What one grid point of the tail kernel computes, written once: the kernel's two sub-blocks of 256 rows each
   run the same eleven column chunks, so both are instances of `half` below. The functions are
   parametric in how an input block is read (`Loads`) and in how the gate scratch is read back (`rc`). -/
module

public import proofs.«01_k».proof.Proof.Gen.TailIdeal.Skeleton
public import Idealize.ShloMosaic.Lib.Pipeline.Value
public import Idealize.ShloMosaic.Lib.Pipeline.ReadBack

@[expose] public section

set_option maxRecDepth 16384

noncomputable section

namespace Cert.TailIdeal.Body

open Idealize.ShloMosaic Idealize.SL.Sem Cert.TailIdeal Cert.TailIdeal.Gen

variable {F : FTy → Type} [FloatOps F]

/-! ## The rectangles -/

theorem inb_w (k : ℕ) (h : k < 11) : ∀ a, (![0, 256 * k] : Fin 2 → ℕ) a + S1024x256.size a ≤ S1024x2816.size a
  | ⟨0, _⟩ => by show 0 + 1024 ≤ 1024; omega
  | ⟨1, _⟩ => by show 256 * k + 256 ≤ 2816; omega
theorem inb_d (k : ℕ) (h : k < 11) : ∀ a, (![256 * k, 0] : Fin 2 → ℕ) a + S256x1024.size a ≤ S2816x1024.size a
  | ⟨0, _⟩ => by show 256 * k + 256 ≤ 2816; omega
  | ⟨1, _⟩ => by show 0 + 1024 ≤ 1024; omega
theorem inb_b (k : ℕ) (h : k < 11) : ∀ a, (![0, 256 * k] : Fin 2 → ℕ) a + S1x256.size a ≤ S1x2816.size a
  | ⟨0, _⟩ => by show 0 + 1 ≤ 1; omega
  | ⟨1, _⟩ => by show 256 * k + 256 ≤ 2816; omega
theorem inb_c (q k : ℕ) (hq : q < 3) (h : k < 11) : ∀ a, (![q, 256 * k] : Fin 2 → ℕ) a + S1x256.size a ≤ S3x2816.size a
  | ⟨0, _⟩ => by show q + 1 ≤ 3; omega
  | ⟨1, _⟩ => by show 256 * k + 256 ≤ 2816; omega
theorem inb_g (b k : ℕ) (hb : b ≤ 264) (h : k < 11) : ∀ a, (![b, 256 * k] : Fin 2 → ℕ) a + S256x256.size a ≤ S520x2816.size a
  | ⟨0, _⟩ => by show b + 256 ≤ 520; omega
  | ⟨1, _⟩ => by show 256 * k + 256 ≤ 2816; omega
theorem inb_x (b : ℕ) (hb : b ≤ 256) : ∀ a, (![b, 0] : Fin 2 → ℕ) a + S256x1024.size a ≤ S512x1024.size a
  | ⟨0, _⟩ => by show b + 256 ≤ 512; omega
  | ⟨1, _⟩ => by show 0 + 1024 ≤ 1024; omega
theorem inb_a (b : ℕ) (hb : b ≤ 256) : ∀ a, (![b, 0] : Fin 2 → ℕ) a + S256x512.size a ≤ S512x512.size a
  | ⟨0, _⟩ => by show b + 256 ≤ 512; omega
  | ⟨1, _⟩ => by show 0 + 512 ≤ 512; omega

/-- Columns `256 k ‥` of the gate or up weights. -/
def rW (k : ℕ) (h : k < 11) : Rect S1024x2816 := Rect.unit ![0, 256 * k] S1024x256.size (inb_w k h)
/-- Rows `256 k ‥` of the down weights. -/
def rD (k : ℕ) (h : k < 11) : Rect S2816x1024 := Rect.unit ![256 * k, 0] S256x1024.size (inb_d k h)
/-- Columns `256 k ‥` of the convolution's bias. -/
def rB (k : ℕ) (h : k < 11) : Rect S1x2816 := Rect.unit ![0, 256 * k] S1x256.size (inb_b k h)
/-- Columns `256 k ‥` of tap `q` of the convolution. -/
def rC (q k : ℕ) (hq : q < 3) (h : k < 11) : Rect S3x2816 := Rect.unit ![q, 256 * k] S1x256.size (inb_c q k hq h)
/-- 256 rows from row `b`, columns `256 k ‥`, of the gate scratch. -/
def rG (b k : ℕ) (hb : b ≤ 264) (h : k < 11) : Rect S520x2816 := Rect.unit ![b, 256 * k] S256x256.size (inb_g b k hb h)
/-- 256 rows from row `b` of the residual block. -/
def rX (b : ℕ) (hb : b ≤ 256) : Rect S512x1024 := Rect.unit ![b, 0] S256x1024.size (inb_x b hb)
/-- 256 rows from row `b` of an attention or recurrence block. -/
def rA (b : ℕ) (hb : b ≤ 256) : Rect S512x512 := Rect.unit ![b, 0] S256x512.size (inb_a b hb)

/-- How each of the fourteen input blocks is read through a rectangle. -/
structure Loads (F : FTy → Type) where
  x : (r : Rect S512x1024) → r.shape.Idx → Elt F .f32
  att : (r : Rect S512x512) → r.shape.Idx → Elt F .f32
  ssm : (r : Rect S512x512) → r.shape.Idx → Elt F .f32
  ga : (r : Rect S1x512) → r.shape.Idx → Elt F .f32
  gs : (r : Rect S1x512) → r.shape.Idx → Elt F .f32
  wo : (r : Rect S1024x1024) → r.shape.Idx → Elt F .bf16
  gpm : (r : Rect S1x1024) → r.shape.Idx → Elt F .f32
  g : (r : Rect S1x1024) → r.shape.Idx → Elt F .f32
  wg : (r : Rect S1024x2816) → r.shape.Idx → Elt F .bf16
  wu : (r : Rect S1024x2816) → r.shape.Idx → Elt F .bf16
  cw : (r : Rect S3x2816) → r.shape.Idx → Elt F .f32
  cb : (r : Rect S1x2816) → r.shape.Idx → Elt F .f32
  wd : (r : Rect S2816x1024) → r.shape.Idx → Elt F .bf16
  gpost : (r : Rect S1x1024) → r.shape.Idx → Elt F .f32

/-! ## One chunk -/

/-- `xn · w` for a chunk of 256 columns of `w`. -/
def proj (xn : FVec F S256x1024 .bf16) (w : Vec F S1024x256 .bf16) : FVec F S256x256 .f32 :=
  matmul dot_S256x1024_S1024x256_S256x256_1_0_0_1_n_n none xn (shapeCast S1024x256 w shapeCasts_S1024x256_S1024x256)
    (constant S256x256 .f32 0x00000000#32)

/-- The causal convolution of a chunk: the bias, the gate two rows back, one row back, and its own row. -/
def conv (gate g1 g2 : FVec F S256x256 .f32) (cb w0 w1 w2 : Vec F S1x256 .f32) : FVec F S256x256 .f32 :=
  addf (addf (addf (broadcastTo S256x256 (shapeCast S1x256 cb shapeCasts_S1x256_S1x256) broadcasts_S1x256_S256x256)
      (mulf g2 (broadcastTo S256x256 (shapeCast S1x256 w0 shapeCasts_S1x256_S1x256) broadcasts_S1x256_S256x256)))
      (mulf g1 (broadcastTo S256x256 (shapeCast S1x256 w1 shapeCasts_S1x256_S1x256) broadcasts_S1x256_S256x256)))
    (mulf gate (broadcastTo S256x256 (shapeCast S1x256 w2 shapeCasts_S1x256_S1x256) broadcasts_S1x256_S256x256))

/-- `gelu (c) * u` for a chunk, in the kernel's spelling. -/
def hid (c u : FVec F S256x256 .f32) : FVec F S256x256 .bf16 :=
  truncf .bf16 (mulf (mulf (mulf (broadcast S256x256 (Scalar.ofBits .f32 0x3F000000#32)) c)
    (addf (broadcast S256x256 (Scalar.ofBits .f32 0x3F800000#32))
      (tanh (mulf (broadcast S256x256 (Scalar.ofBits .f32 0x3F4C422A#32))
        (addf c (mulf (broadcast S256x256 (Scalar.ofBits .f32 0x3D372713#32)) (mulf (mulf c c) c))))))) u) bitsLt_bf16_f32

/-- A chunk's contribution to the down projection. -/
def down (h : FVec F S256x256 .bf16) (w : Vec F S256x1024 .bf16) : FVec F S256x1024 .f32 :=
  matmul dot_S256x256_S256x1024_S256x1024_1_0_0_1_n_n none h (shapeCast S256x1024 w shapeCasts_S256x1024_S256x1024)
    (constant S256x1024 .f32 0x00000000#32)

/-- The scratch after chunk `k` of the sub-block whose rows begin at scratch row `b + 2`. -/
def store (P : Loads F) (b : ℕ) (hb : b + 2 ≤ 264) (xn : FVec F S256x1024 .bf16) (k : ℕ) (h : k < 11)
    (H : List (View.Piece (Elt F) S520x2816 .f32)) : List (View.Piece (Elt F) S520x2816 .f32) :=
  ⟨rG (b + 2) k hb h, shapeCast S256x256 (proj xn (P.wg (rW k h))) shapeCasts_S256x256_S256x256⟩ :: H

/-- The gated unit of chunk `k`, after its gate is stored. -/
def unit (P : Loads F) (rc : List (View.Piece (Elt F) S520x2816 .f32) → (r : Rect S520x2816) → r.shape.Idx → Elt F .f32)
    (b : ℕ) (hb : b + 2 ≤ 264) (xn : FVec F S256x1024 .bf16) (k : ℕ) (h : k < 11)
    (H : List (View.Piece (Elt F) S520x2816 .f32)) : FVec F S256x256 .bf16 :=
  hid (conv (proj xn (P.wg (rW k h))) (rc (store P b hb xn k h H) (rG (b + 1) k (by omega) h))
      (rc (store P b hb xn k h H) (rG b k (by omega) h))
      (P.cb (rB k h)) (P.cw (rC 0 k (by omega) h)) (P.cw (rC 1 k (by omega) h)) (P.cw (rC 2 k (by omega) h)))
    (proj xn (P.wu (rW k h)))

/-- The scratch and the accumulated down projection after a chunk. -/
abbrev State (F : FTy → Type) := List (View.Piece (Elt F) S520x2816 .f32) × FVec F S256x1024 .f32

/-- The first chunk. -/
def first (P : Loads F) (rc : List (View.Piece (Elt F) S520x2816 .f32) → (r : Rect S520x2816) → r.shape.Idx → Elt F .f32)
    (b : ℕ) (hb : b + 2 ≤ 264) (xn : FVec F S256x1024 .bf16) (H : List (View.Piece (Elt F) S520x2816 .f32)) : State F :=
  (store P b hb xn 0 (by omega) H, down (unit P rc b hb xn 0 (by omega) H) (P.wd (rD 0 (by omega))))

/-- A later chunk. -/
def next (P : Loads F) (rc : List (View.Piece (Elt F) S520x2816 .f32) → (r : Rect S520x2816) → r.shape.Idx → Elt F .f32)
    (b : ℕ) (hb : b + 2 ≤ 264) (xn : FVec F S256x1024 .bf16) (k : ℕ) (h : k < 11) (s : State F) : State F :=
  (store P b hb xn k h s.1, addf s.2 (down (unit P rc b hb xn k h s.1) (P.wd (rD k h))))

/-- The eleven chunks. -/
def chunks (P : Loads F) (rc : List (View.Piece (Elt F) S520x2816 .f32) → (r : Rect S520x2816) → r.shape.Idx → Elt F .f32)
    (b : ℕ) (hb : b + 2 ≤ 264) (xn : FVec F S256x1024 .bf16) (H : List (View.Piece (Elt F) S520x2816 .f32)) : State F :=
  next P rc b hb xn 10 (by omega) <| next P rc b hb xn 9 (by omega) <| next P rc b hb xn 8 (by omega) <|
  next P rc b hb xn 7 (by omega) <| next P rc b hb xn 6 (by omega) <| next P rc b hb xn 5 (by omega) <|
  next P rc b hb xn 4 (by omega) <| next P rc b hb xn 3 (by omega) <| next P rc b hb xn 2 (by omega) <|
  next P rc b hb xn 1 (by omega) <| first P rc b hb xn H

/-! ## The rows' normalisations -/

/-- One row's root mean square, over 1024 columns. -/
def rms1024 (y : FVec F S256x1024 .f32) (g : Vec F S1x1024 .f32) : FVec F S256x1024 .f32 :=
  mulf (mulf y (broadcastTo S256x1024 (rsqrt (addf (divf (shapeCast S256x1
      (multiReduction .add [1] S256 (mulf y y) 0x00000000#32 reduces_S256x1024_S256 (.inl rfl) rfl) shapeCasts_S256_S256x1)
      (broadcast S256x1 (Scalar.ofBits .f32 0x44800000#32))) (broadcast S256x1 (Scalar.ofBits .f32 0x358637BD#32))))
      broadcasts_S256x1_S256x1024))
    (broadcastTo S256x1024 (shapeCast S1x1024 g shapeCasts_S1x1024_S1x1024) broadcasts_S1x1024_S256x1024)

/-- The same over 512 columns. -/
def rms512 (y : FVec F S256x512 .f32) (g : Vec F S1x512 .f32) : FVec F S256x512 .f32 :=
  mulf (mulf y (broadcastTo S256x512 (rsqrt (addf (divf (shapeCast S256x1
      (multiReduction .add [1] S256 (mulf y y) 0x00000000#32 reduces_S256x512_S256 (.inl rfl) rfl) shapeCasts_S256_S256x1)
      (broadcast S256x1 (Scalar.ofBits .f32 0x44000000#32))) (broadcast S256x1 (Scalar.ofBits .f32 0x358637BD#32))))
      broadcasts_S256x1_S256x512))
    (broadcastTo S256x512 (shapeCast S1x512 g shapeCasts_S1x512_S1x512) broadcasts_S1x512_S256x512)

/-- The merged branches times half of the output weights. -/
def half (a : FVec F S256x512 .f32) (w : Vec F S512x1024 .bf16) : FVec F S256x1024 .f32 :=
  matmul dot_S256x512_S512x1024_S256x1024_1_0_0_1_n_n none (truncf .bf16 a bitsLt_bf16_f32)
    (shapeCast S512x1024 w shapeCasts_S512x1024_S512x1024) (constant S256x1024 .f32 0x00000000#32)

/-- The residual stream after the mixing branch, rows `b ‥ b + 255` of the block. -/
def mix (P : Loads F) (b : ℕ) (hb : b ≤ 256) : FVec F S256x1024 .f32 :=
  addf (shapeCast S256x1024 (P.x (rX b hb)) shapeCasts_S256x1024_S256x1024)
    (rms1024 (addf
      (half (rms512 (P.att (rA b hb)) (P.ga (Rect.unit ![0, 0] S1x512.size inb_S1x512_S1x512_0_0)))
        (P.wo (Rect.unit ![0, 0] S512x1024.size inb_S1024x1024_S512x1024_0_0)))
      (half (rms512 (P.ssm (rA b hb)) (P.gs (Rect.unit ![0, 0] S1x512.size inb_S1x512_S1x512_0_0)))
        (P.wo (Rect.unit ![512, 0] S512x1024.size inb_S1024x1024_S512x1024_512_0))))
      (P.gpm (Rect.unit ![0, 0] S1x1024.size inb_S1x1024_S1x1024_0_0)))

/-- Its normalisation, which the gated unit reads. -/
def norm (P : Loads F) (b : ℕ) (hb : b ≤ 256) : FVec F S256x1024 .bf16 :=
  truncf .bf16 (rms1024 (mix P b hb) (P.g (Rect.unit ![0, 0] S1x1024.size inb_S1x1024_S1x1024_0_0))) bitsLt_bf16_f32

/-- The stored rows. -/
def fin (P : Loads F) (b : ℕ) (hb : b ≤ 256) (acc : FVec F S256x1024 .f32) : FVec F S256x1024 .f32 :=
  addf (mix P b hb) (rms1024 acc (P.gpost (Rect.unit ![0, 0] S1x1024.size inb_S1x1024_S1x1024_0_0)))

/-- The first sub-block's state after its chunks. -/
def s0 (P : Loads F) (rc : List (View.Piece (Elt F) S520x2816 .f32) → (r : Rect S520x2816) → r.shape.Idx → Elt F .f32)
    (H : List (View.Piece (Elt F) S520x2816 .f32)) : State F :=
  chunks P rc 6 (by omega) (norm P 0 (by omega)) H

/-- The second sub-block's. -/
def s1 (P : Loads F) (rc : List (View.Piece (Elt F) S520x2816 .f32) → (r : Rect S520x2816) → r.shape.Idx → Elt F .f32)
    (H : List (View.Piece (Elt F) S520x2816 .f32)) : State F :=
  chunks P rc 262 (by omega) (norm P 256 (by omega)) (s0 P rc H).1

/-- The stores to the residual stream's block. -/
def out14 (P : Loads F) (rc : List (View.Piece (Elt F) S520x2816 .f32) → (r : Rect S520x2816) → r.shape.Idx → Elt F .f32)
    (H : List (View.Piece (Elt F) S520x2816 .f32)) : List (View.Piece (Elt F) S512x1024 .f32) :=
  [⟨rX 256 (by omega), fin P 256 (by omega) (s1 P rc H).2⟩, ⟨rX 0 (by omega), fin P 0 (by omega) (s0 P rc H).2⟩]

/-- The store to the convolution state's block: the last two gate rows. -/
def out15 (P : Loads F) (rc : List (View.Piece (Elt F) S520x2816 .f32) → (r : Rect S520x2816) → r.shape.Idx → Elt F .f32)
    (H : List (View.Piece (Elt F) S520x2816 .f32)) : List (View.Piece (Elt F) S1x2x2816 .f32) :=
  [⟨Rect.unit ![0, 0, 0] S1x2x2816.size inb_S1x2x2816_S1x2x2816_0_0_0, shapeCast S1x2x2816
    (rc (s1 P rc H).1 (Rect.unit ![518, 0] S2x2816.size inb_S520x2816_S2x2816_518_0)) shapeCasts_S2x2816_S1x2x2816⟩]

/-! ## The same over the blocks' contents -/

/-- The input blocks read from their contents. -/
def Loads.of (x0 : Vec F S512x1024 .f32) (x1 : Vec F S512x512 .f32) (x2 : Vec F S512x512 .f32) (x3 : Vec F S1x512 .f32)
    (x4 : Vec F S1x512 .f32) (x5 : Vec F S1024x1024 .bf16) (x6 : Vec F S1x1024 .f32) (x7 : Vec F S1x1024 .f32)
    (x8 : Vec F S1024x2816 .bf16) (x9 : Vec F S1024x2816 .bf16) (x10 : Vec F S3x2816 .f32) (x11 : Vec F S1x2816 .f32)
    (x12 : Vec F S2816x1024 .bf16) (x13 : Vec F S1x1024 .f32) : Loads F where
  x r := View.ld (Val := Elt F) (e' := .f32) x0 r
  att r := View.ld (Val := Elt F) (e' := .f32) x1 r
  ssm r := View.ld (Val := Elt F) (e' := .f32) x2 r
  ga r := View.ld (Val := Elt F) (e' := .f32) x3 r
  gs r := View.ld (Val := Elt F) (e' := .f32) x4 r
  wo r := View.ld (Val := Elt F) (e' := .bf16) x5 r
  gpm r := View.ld (Val := Elt F) (e' := .f32) x6 r
  g r := View.ld (Val := Elt F) (e' := .f32) x7 r
  wg r := View.ld (Val := Elt F) (e' := .bf16) x8 r
  wu r := View.ld (Val := Elt F) (e' := .bf16) x9 r
  cw r := View.ld (Val := Elt F) (e' := .f32) x10 r
  cb r := View.ld (Val := Elt F) (e' := .f32) x11 r
  wd r := View.ld (Val := Elt F) (e' := .bf16) x12 r
  gpost r := View.ld (Val := Elt F) (e' := .f32) x13 r

/-- The scratch read back from its stores. -/
def rcc (L : List (View.Piece (Elt F) S520x2816 .f32)) (r : Rect S520x2816) : r.shape.Idx → Elt F .f32 :=
  View.ld (View.canon L) r

/-- The scratch's first store at a sequence's first block: eight rows of zeros. -/
def top0 : List (View.Piece (Elt F) S520x2816 .f32) :=
  [⟨Rect.unit ![0, 0] S8x2816.size inb_S520x2816_S8x2816_0_0, k0_pay3⟩]

/-- The scratch's first store at a later block: the last eight rows it held. -/
def topOf (xs0 : Vec F S520x2816 .f32) : List (View.Piece (Elt F) S520x2816 .f32) :=
  [⟨Rect.unit ![0, 0] S8x2816.size inb_S520x2816_S8x2816_0_0,
    k0_pay4 (View.ld (Val := Elt F) (e' := .f32) xs0 (Rect.unit (s := S520x2816) ![512, 0] S8x2816.size inb_S520x2816_S8x2816_512_0))⟩]

end Cert.TailIdeal.Body
-- ==== Proof.Tail.Rows.lean ====
/- The layer's tail, one token's row at a time, over the extended reals: the mixing branch's residual row, its
   normalisation, the gate and up projections, the causal convolution of the gate, the gated unit and the down
   projection's residual row. Both programs are read as these functions. -/
module

public import Idealize.ShloMosaic.PureOps.Ideal
public import Idealize.ShloMosaic.Lib.ValueIdxCore

@[expose] public section

noncomputable section

namespace TailRows

open Idealize.ShloMosaic
open scoped BigOperators

/-- The constants as the programs write them. -/
abbrev c512 : EReal := Ideal.ofBits .f32 0x44000000#32
abbrev c1024 : EReal := Ideal.ofBits .f32 0x44800000#32
abbrev cEps : EReal := Ideal.ofBits .f32 0x358637BD#32
abbrev cHalf : EReal := Ideal.ofBits .f32 0x3F000000#32
abbrev cOne : EReal := Ideal.ofBits .f32 0x3F800000#32
abbrev cTanh : EReal := Ideal.ofBits .f32 0x3F4C422A#32
abbrev cCube : EReal := Ideal.ofBits .f32 0x3D372713#32

/-- The layer's weights as functions of their coordinates. -/
structure Weights where
  ga : Fin 512 → EReal
  gs : Fin 512 → EReal
  wo : Fin 1024 → Fin 1024 → EReal
  gpm : Fin 1024 → EReal
  g : Fin 1024 → EReal
  wg : Fin 1024 → Fin 2816 → EReal
  wu : Fin 1024 → Fin 2816 → EReal
  cw : Fin 3 → Fin 2816 → EReal
  cb : Fin 2816 → EReal
  wd : Fin 2816 → Fin 1024 → EReal
  gpost : Fin 1024 → EReal

/-- A row over its root mean square (`d` is the number of columns as the program writes it), times a gain. -/
def rms {n : ℕ} (d : EReal) (v g : Fin n → EReal) (j : Fin n) : EReal :=
  v j * Ideal.rsqrt (Ideal.div (∑ k, v k * v k) d + cEps) * g j

/-- The output projection of the two normalised branches: each branch meets its half of the weights. -/
def merge (W : Weights) (a s : Fin 512 → EReal) (j : Fin 1024) : EReal :=
  (∑ k : Fin 512, rms c512 a W.ga k * W.wo ⟨k.val, by omega⟩ j) +
    ∑ k : Fin 512, rms c512 s W.gs k * W.wo ⟨512 + k.val, by omega⟩ j

/-- The residual row after the mixing branch. -/
def mix (W : Weights) (x : Fin 1024 → EReal) (a s : Fin 512 → EReal) (j : Fin 1024) : EReal :=
  x j + rms c1024 (merge W a s) W.gpm j

/-- The gate and up projections of a residual row. -/
def gate (W : Weights) (r : Fin 1024 → EReal) (f : Fin 2816) : EReal := ∑ k, rms c1024 r W.g k * W.wg k f
def up (W : Weights) (r : Fin 1024 → EReal) (f : Fin 2816) : EReal := ∑ k, rms c1024 r W.g k * W.wu k f

/-- The convolution at a row: its own gate, the gate one row back and two rows back. -/
def conv (W : Weights) (g0 g1 g2 : Fin 2816 → EReal) (f : Fin 2816) : EReal :=
  W.cb f + g2 f * W.cw 0 f + g1 f * W.cw 1 f + g0 f * W.cw 2 f

/-- The tanh form of gelu. -/
def gelu (c : EReal) : EReal := cHalf * c * (cOne + Ideal.tanh (cTanh * (c + cCube * (c * c * c))))

/-- The gated unit of a row. -/
def hid (W : Weights) (r : Fin 1024 → EReal) (g1 g2 : Fin 2816 → EReal) (f : Fin 2816) : EReal :=
  gelu (conv W (gate W r) g1 g2 f) * up W r f

/-- The row the layer returns. -/
def out (W : Weights) (r : Fin 1024 → EReal) (g1 g2 : Fin 2816 → EReal) (j : Fin 1024) : EReal :=
  r j + rms c1024 (fun j => ∑ f, hid W r g1 g2 f * W.wd f j) W.gpost j

/-- A sum over 2816 columns is the sum of its eleven chunks, added from the left. -/
theorem sum_chunks (A : Fin 2816 → EReal) (D : (k : ℕ) → k < 11 → EReal)
    (h : ∀ k hk, D k hk = ∑ q : Fin 256, A ⟨256 * k + q.val, by omega⟩) :
    ∑ f, A f = D 0 (by omega) + D 1 (by omega) + D 2 (by omega) + D 3 (by omega) + D 4 (by omega) + D 5 (by omega)
      + D 6 (by omega) + D 7 (by omega) + D 8 (by omega) + D 9 (by omega) + D 10 (by omega) := by
  simp only [h]
  obtain ⟨B, hB⟩ : ∃ B : ℕ → EReal, ∀ (n : ℕ) (hn : n < 2816), A ⟨n, hn⟩ = B n :=
    ⟨fun n => if hn : n < 2816 then A ⟨n, hn⟩ else 0, fun n hn => by simp only [hn, dite_true]⟩
  have e0 : ∑ f, A f = ∑ i ∈ Finset.range 2816, B i := by
    rw [Finset.sum_range]; exact Finset.sum_congr rfl fun f _ => hB f.val f.isLt
  have e' : ∀ (k : ℕ) (hk : k < 11), ∑ q : Fin 256, A ⟨256 * k + q.val, by omega⟩ = ∑ q ∈ Finset.range 256, B (256 * k + q) :=
    fun k hk => by rw [Finset.sum_range]; exact Finset.sum_congr rfl fun q _ => hB _ _
  have s : ∀ n, ∑ i ∈ Finset.range (256 * (n + 1)), B i = ∑ i ∈ Finset.range (256 * n), B i + ∑ q ∈ Finset.range 256, B (256 * n + q) :=
    fun n => by rw [Nat.mul_succ, Finset.sum_range_add]
  rw [e0, e' 0 (by omega), e' 1 (by omega), e' 2 (by omega), e' 3 (by omega), e' 4 (by omega), e' 5 (by omega), e' 6 (by omega),
    e' 7 (by omega), e' 8 (by omega), e' 9 (by omega), e' 10 (by omega), show (2816 : ℕ) = 256 * (10 + 1) from rfl, s 10, s 9, s 8, s 7, s 6, s 5, s 4, s 3, s 2, s 1, s 0, Nat.mul_zero,
    Finset.sum_range_zero, zero_add]

end TailRows
-- ==== Proof.Tail.Apply.lean ====
/- The kernel's row functions read at an index, over the extended reals. -/
module

public import proofs.«01_k».proof.Proof.Tail.Body
public import proofs.«01_k».proof.Proof.Tail.Rows
public import Idealize.ShloMosaic.Lib.ValueIdxCore
public import Idealize.ShloMosaic.Lib.MatmulPlain
public import Idealize.ShloMosaic.PureOps.Ideal.Laws

@[expose] public section

set_option maxRecDepth 16384

noncomputable section

namespace Cert.TailIdeal.Body

open Idealize.ShloMosaic Idealize.SL.Sem Cert.TailIdeal Cert.TailIdeal.Gen
open Idealize.ShloMosaic.ValueIdx TailRows
open scoped BigOperators

theorem proj_apply (xn : FVec Ideal S256x1024 .bf16) (w : Vec Ideal S1024x256 .bf16) (i : Fin 256) (q : Fin 256) :
    proj xn w (ix2 i q) = ∑ k : Fin 1024, (xn (ix2 i k) : EReal) * w (ix2 k q) := by
  unfold proj
  rw [shapeCast_self]
  refine (Ideal.matmul_plain_apply none xn w (constant S256x256 .f32 0x00000000#32) i q).trans ?_
  rw [show (constant S256x256 .f32 0x00000000#32 : FVec Ideal S256x256 .f32) (ix2 i q) = (0 : EReal) from Ideal.ofBits_zero_f32, zero_add]

theorem down_apply (h : FVec Ideal S256x256 .bf16) (w : Vec Ideal S256x1024 .bf16) (i : Fin 256) (j : Fin 1024) :
    down h w (ix2 i j) = ∑ q : Fin 256, (h (ix2 i q) : EReal) * w (ix2 q j) := by
  unfold down
  rw [shapeCast_self]
  refine (Ideal.matmul_plain_apply none h w (constant S256x1024 .f32 0x00000000#32) i j).trans ?_
  rw [show (constant S256x1024 .f32 0x00000000#32 : FVec Ideal S256x1024 .f32) (ix2 i j) = (0 : EReal) from Ideal.ofBits_zero_f32, zero_add]

theorem half_apply (a : FVec Ideal S256x512 .f32) (w : Vec Ideal S512x1024 .bf16) (i : Fin 256) (j : Fin 1024) :
    half a w (ix2 i j) = ∑ q : Fin 512, (a (ix2 i q) : EReal) * w (ix2 q j) := by
  unfold half
  rw [shapeCast_self]
  refine (Ideal.matmul_plain_apply none (truncf .bf16 a bitsLt_bf16_f32) w (constant S256x1024 .f32 0x00000000#32) i j).trans ?_
  rw [show (constant S256x1024 .f32 0x00000000#32 : FVec Ideal S256x1024 .f32) (ix2 i j) = (0 : EReal) from Ideal.ofBits_zero_f32, zero_add]
  rfl

theorem rms1024_apply (y : FVec Ideal S256x1024 .f32) (g : Vec Ideal S1x1024 .f32) (i : Fin 256) (j : Fin 1024) :
    rms1024 y g (ix2 i j) = rms c1024 (fun k => y (ix2 i k)) (fun k => g (ix2 0 k)) j := by
  unfold rms1024
  rw [shapeCast_self]
  refine congrArg₂ (fun a b : EReal => y (ix2 i j) * a * b)
    ((broadcastTo_apply _ _ _ (ix2 i 0) (fun a => match a with | ⟨0, _⟩ => rfl | ⟨1, _⟩ => rfl)).trans ?_)
    (broadcastTo_apply _ _ _ (ix2 0 j) (fun a => match a with | ⟨0, _⟩ => rfl | ⟨1, _⟩ => rfl))
  refine congrArg (fun a : EReal => Ideal.rsqrt (Ideal.div a c1024 + cEps)) ?_
  refine (shapeCast_apply _ _ (ix2 i (0 : Fin 1)) (ix1 i) ?_).trans ?_
  · rw [Shape.rowMajor_val_one, Shape.rowMajor_val_two]; show i.val = i.val * 1 + 0; omega
  · refine (Ideal.multiReduction_add_single _ _ _ _ _ _).trans ?_
    refine Finset.sum_congr rfl fun k _ => ?_
    have e : reduces_S256x1024_S256.lift (ix1 i) k = ix2 i k := by
      funext a; match a with | ⟨0, _⟩ => rfl | ⟨1, _⟩ => rfl
    show (y _ : EReal) * y _ = _
    rw [e]
    rfl

theorem rms512_apply (y : FVec Ideal S256x512 .f32) (g : Vec Ideal S1x512 .f32) (i : Fin 256) (j : Fin 512) :
    rms512 y g (ix2 i j) = rms c512 (fun k => y (ix2 i k)) (fun k => g (ix2 0 k)) j := by
  unfold rms512
  rw [shapeCast_self]
  refine congrArg₂ (fun a b : EReal => y (ix2 i j) * a * b)
    ((broadcastTo_apply _ _ _ (ix2 i 0) (fun a => match a with | ⟨0, _⟩ => rfl | ⟨1, _⟩ => rfl)).trans ?_)
    (broadcastTo_apply _ _ _ (ix2 0 j) (fun a => match a with | ⟨0, _⟩ => rfl | ⟨1, _⟩ => rfl))
  refine congrArg (fun a : EReal => Ideal.rsqrt (Ideal.div a c512 + cEps)) ?_
  refine (shapeCast_apply _ _ (ix2 i (0 : Fin 1)) (ix1 i) ?_).trans ?_
  · rw [Shape.rowMajor_val_one, Shape.rowMajor_val_two]; show i.val = i.val * 1 + 0; omega
  · refine (Ideal.multiReduction_add_single _ _ _ _ _ _).trans ?_
    refine Finset.sum_congr rfl fun k _ => ?_
    have e : reduces_S256x512_S256.lift (ix1 i) k = ix2 i k := by
      funext a; match a with | ⟨0, _⟩ => rfl | ⟨1, _⟩ => rfl
    show (y _ : EReal) * y _ = _
    rw [e]
    rfl

theorem conv_apply (gate g1 g2 : FVec Ideal S256x256 .f32) (cb w0 w1 w2 : Vec Ideal S1x256 .f32) (i q : Fin 256) :
    conv gate g1 g2 cb w0 w1 w2 (ix2 i q) = (cb (ix2 0 q) : EReal) + g2 (ix2 i q) * w0 (ix2 0 q) + g1 (ix2 i q) * w1 (ix2 0 q)
      + gate (ix2 i q) * w2 (ix2 0 q) := by
  unfold conv
  simp only [shapeCast_self]
  have b : ∀ w : Vec Ideal S1x256 .f32, broadcastTo S256x256 w broadcasts_S1x256_S256x256 (ix2 i q) = w (ix2 0 q) := fun w =>
    broadcastTo_apply _ _ _ (ix2 0 q) (fun a => match a with | ⟨0, _⟩ => rfl | ⟨1, _⟩ => rfl)
  show ((broadcastTo S256x256 cb broadcasts_S1x256_S256x256 (ix2 i q) : EReal)
    + g2 (ix2 i q) * broadcastTo S256x256 w0 broadcasts_S1x256_S256x256 (ix2 i q)
    + g1 (ix2 i q) * broadcastTo S256x256 w1 broadcasts_S1x256_S256x256 (ix2 i q)
    + gate (ix2 i q) * broadcastTo S256x256 w2 broadcasts_S1x256_S256x256 (ix2 i q)) = _
  rw [b, b, b, b]

theorem hid_apply (c u : FVec Ideal S256x256 .f32) (j : S256x256.Idx) :
    hid c u j = gelu (c j) * (u j : EReal) := rfl

end Cert.TailIdeal.Body
-- ==== Proof.Tail.Scratch.lean ====
/- The chunks' loop over the extended reals. A scratch whose stores are all blocks of one function `Γ` of (row, column)
   reads that function back wherever a store covers, and the eleven chunks add up to the down projection of the whole row. -/
module

public import proofs.«01_k».proof.Proof.Tail.Apply
public import Idealize.ShloMosaic.Lib.Pipeline.ValueKit.Tiles
public import Mathlib.Tactic.IntervalCases

@[expose] public section

set_option maxRecDepth 16384

noncomputable section

namespace Cert.TailIdeal.Body

open Idealize.ShloMosaic Idealize.SL.Sem Cert.TailIdeal Cert.TailIdeal.Gen
open Idealize.ShloMosaic.ValueIdx TailRows
open scoped BigOperators

abbrev Pcs := List (View.Piece (Elt Ideal) S520x2816 .f32)

/-- The scratch's contents as a function of row and column. -/
def G (Γ : ℕ → Fin 2816 → EReal) : S520x2816.Idx → Elt Ideal .f32 := fun y => Γ (y 0).val (y 1)

/-- Some store covers row `r`, column `f`. -/
def Cov (H : Pcs) (r : ℕ) (f : Fin 2816) : Prop := ∃ p ∈ H, ∀ h : r < 520, (ix2 ⟨r, h⟩ f : S520x2816.Idx) ∈ p.1.set

theorem Cov.cons {H : Pcs} {r : ℕ} {f : Fin 2816} (h : Cov H r f) (p) : Cov (p :: H) r f :=
  h.elim fun q hq => ⟨q, List.mem_cons_of_mem _ hq.1, hq.2⟩

/-- A scratch made of blocks of `Γ` reads `Γ` at a covered index. -/
theorem canon_cov {Γ : ℕ → Fin 2816 → EReal} {H : Pcs} (hp : View.PiecesOf (G Γ) H) (r : ℕ) (hr : r < 520) (f : Fin 2816) (h : Cov H r f) :
    View.canon H (ix2 ⟨r, hr⟩ f : S520x2816.Idx) = Γ r f := by
  obtain ⟨p, hm, hc⟩ := h
  exact View.canon_apply_of_pieces (G Γ) H hp.mem _ ⟨p, hm, hc hr⟩

theorem rcc_apply {Γ : ℕ → Fin 2816 → EReal} {H : Pcs} (hp : View.PiecesOf (G Γ) H) (b k : ℕ) (hb : b ≤ 264) (hk : k < 11) (i q : Fin 256)
    (hf : 256 * k + q.val < 2816) (h : Cov H (b + i.val) ⟨256 * k + q.val, hf⟩) :
    rcc H (rG b k hb hk) (ix2 i q) = Γ (b + i.val) ⟨256 * k + q.val, hf⟩ := by
  refine (View.ld_unit_apply_of _ _ _ _ _ (ix2 ⟨b + i.val, by omega⟩ ⟨256 * k + q.val, hf⟩ : S520x2816.Idx) ?_).trans (canon_cov hp _ (by omega) _ h)
  intro a; match a with | ⟨0, _⟩ => rfl | ⟨1, _⟩ => rfl

section chunk

variable (x0 : Vec Ideal S512x1024 .f32) (x1 : Vec Ideal S512x512 .f32) (x2 : Vec Ideal S512x512 .f32) (x3 : Vec Ideal S1x512 .f32)
    (x4 : Vec Ideal S1x512 .f32) (x5 : Vec Ideal S1024x1024 .bf16) (x6 : Vec Ideal S1x1024 .f32) (x7 : Vec Ideal S1x1024 .f32)
    (x8 : Vec Ideal S1024x2816 .bf16) (x9 : Vec Ideal S1024x2816 .bf16) (x10 : Vec Ideal S3x2816 .f32) (x11 : Vec Ideal S1x2816 .f32)
    (x12 : Vec Ideal S2816x1024 .bf16) (x13 : Vec Ideal S1x1024 .f32)

/-- The weights the blocks hold. -/
def Wof : Weights where
  ga k := x3 (ix2 0 k)
  gs k := x4 (ix2 0 k)
  wo k j := x5 (ix2 k j)
  gpm k := x6 (ix2 0 k)
  g k := x7 (ix2 0 k)
  wg k f := x8 (ix2 k f)
  wu k f := x9 (ix2 k f)
  cw q f := x10 (ix2 q f)
  cb f := x11 (ix2 0 f)
  wd f j := x12 (ix2 f j)
  gpost k := x13 (ix2 0 k)

theorem wg_apply (k : ℕ) (hk : k < 11) (c : Fin 1024) (q : Fin 256) : (Loads.of x0 x1 x2 x3 x4 x5 x6 x7 x8 x9 x10 x11 x12 x13).wg (rW k hk) (ix2 c q) = (Wof x3 x4 x5 x6 x7 x8 x9 x10 x11 x12 x13).wg c ⟨256 * k + q.val, by omega⟩ :=
  View.ld_unit_apply_of _ _ _ _ _ (ix2 c ⟨256 * k + q.val, by omega⟩ : S1024x2816.Idx) fun a => match a with | ⟨0, _⟩ => (Nat.zero_add _).symm | ⟨1, _⟩ => rfl
theorem wu_apply (k : ℕ) (hk : k < 11) (c : Fin 1024) (q : Fin 256) : (Loads.of x0 x1 x2 x3 x4 x5 x6 x7 x8 x9 x10 x11 x12 x13).wu (rW k hk) (ix2 c q) = (Wof x3 x4 x5 x6 x7 x8 x9 x10 x11 x12 x13).wu c ⟨256 * k + q.val, by omega⟩ :=
  View.ld_unit_apply_of _ _ _ _ _ (ix2 c ⟨256 * k + q.val, by omega⟩ : S1024x2816.Idx) fun a => match a with | ⟨0, _⟩ => (Nat.zero_add _).symm | ⟨1, _⟩ => rfl
theorem wd_apply (k : ℕ) (hk : k < 11) (q : Fin 256) (j : Fin 1024) : (Loads.of x0 x1 x2 x3 x4 x5 x6 x7 x8 x9 x10 x11 x12 x13).wd (rD k hk) (ix2 q j) = (Wof x3 x4 x5 x6 x7 x8 x9 x10 x11 x12 x13).wd ⟨256 * k + q.val, by omega⟩ j :=
  View.ld_unit_apply_of _ _ _ _ _ (ix2 ⟨256 * k + q.val, by omega⟩ j : S2816x1024.Idx) fun a => match a with | ⟨0, _⟩ => rfl | ⟨1, _⟩ => (Nat.zero_add _).symm
theorem cb_apply (k : ℕ) (hk : k < 11) (q : Fin 256) : (Loads.of x0 x1 x2 x3 x4 x5 x6 x7 x8 x9 x10 x11 x12 x13).cb (rB k hk) (ix2 0 q) = (Wof x3 x4 x5 x6 x7 x8 x9 x10 x11 x12 x13).cb ⟨256 * k + q.val, by omega⟩ :=
  View.ld_unit_apply_of _ _ _ _ _ (ix2 0 ⟨256 * k + q.val, by omega⟩ : S1x2816.Idx) fun a => match a with | ⟨0, _⟩ => rfl | ⟨1, _⟩ => rfl
theorem cw_apply (p k : ℕ) (hp : p < 3) (hk : k < 11) (q : Fin 256) : (Loads.of x0 x1 x2 x3 x4 x5 x6 x7 x8 x9 x10 x11 x12 x13).cw (rC p k hp hk) (ix2 0 q) = (Wof x3 x4 x5 x6 x7 x8 x9 x10 x11 x12 x13).cw ⟨p, hp⟩ ⟨256 * k + q.val, by omega⟩ :=
  View.ld_unit_apply_of _ _ _ _ _ (ix2 ⟨p, hp⟩ ⟨256 * k + q.val, by omega⟩ : S3x2816.Idx) fun a => match a with | ⟨0, _⟩ => rfl | ⟨1, _⟩ => rfl

/-- The normalised rows a sub-block feeds to its chunks are those of the residual rows `r`. -/
def IsNorm (xn : FVec Ideal S256x1024 .bf16) (r : Fin 256 → Fin 1024 → EReal) : Prop :=
  ∀ (i : Fin 256) (k : Fin 1024), xn (ix2 i k) = rms c1024 (r i) (Wof x3 x4 x5 x6 x7 x8 x9 x10 x11 x12 x13).g k

theorem gate_apply {xn : FVec Ideal S256x1024 .bf16} {r : Fin 256 → Fin 1024 → EReal}
    (hx : IsNorm x3 x4 x5 x6 x7 x8 x9 x10 x11 x12 x13 xn r) (k : ℕ) (hk : k < 11) (i q : Fin 256) :
    proj xn ((Loads.of x0 x1 x2 x3 x4 x5 x6 x7 x8 x9 x10 x11 x12 x13).wg (rW k hk)) (ix2 i q) = gate (Wof x3 x4 x5 x6 x7 x8 x9 x10 x11 x12 x13) (r i) ⟨256 * k + q.val, by omega⟩ := by
  refine (proj_apply xn _ i q).trans (Finset.sum_congr rfl fun c _ => ?_)
  exact congrArg₂ (fun a b : EReal => a * b) (hx i c) (wg_apply x0 x1 x2 x3 x4 x5 x6 x7 x8 x9 x10 x11 x12 x13 k hk c q)
theorem up_apply {xn : FVec Ideal S256x1024 .bf16} {r : Fin 256 → Fin 1024 → EReal}
    (hx : IsNorm x3 x4 x5 x6 x7 x8 x9 x10 x11 x12 x13 xn r) (k : ℕ) (hk : k < 11) (i q : Fin 256) :
    proj xn ((Loads.of x0 x1 x2 x3 x4 x5 x6 x7 x8 x9 x10 x11 x12 x13).wu (rW k hk)) (ix2 i q) = up (Wof x3 x4 x5 x6 x7 x8 x9 x10 x11 x12 x13) (r i) ⟨256 * k + q.val, by omega⟩ := by
  refine (proj_apply xn _ i q).trans (Finset.sum_congr rfl fun c _ => ?_)
  exact congrArg₂ (fun a b : EReal => a * b) (hx i c) (wu_apply x0 x1 x2 x3 x4 x5 x6 x7 x8 x9 x10 x11 x12 x13 k hk c q)

/-- Before chunk `k` of the sub-block whose rows begin at `b + 2`: every store is a block of `Γ`, the two rows above are covered, and so are
    the sub-block's rows at the columns of the chunks done. -/
structure Inv (Γ : ℕ → Fin 2816 → EReal) (b k : ℕ) (H : Pcs) : Prop where
  pieces : View.PiecesOf (G Γ) H
  top0 : ∀ f, Cov H b f
  top1 : ∀ f, Cov H (b + 1) f
  done : ∀ (i : Fin 256) (f : Fin 2816), f.val < 256 * k → Cov H (b + 2 + i.val) f

variable {Γ : ℕ → Fin 2816 → EReal} {b : ℕ} {xn : FVec Ideal S256x1024 .bf16} {r : Fin 256 → Fin 1024 → EReal}

theorem Inv.store (hb : b + 2 ≤ 264) (hx : IsNorm x3 x4 x5 x6 x7 x8 x9 x10 x11 x12 x13 xn r) (hΓ : ∀ i : Fin 256, Γ (b + 2 + i.val) = gate (Wof x3 x4 x5 x6 x7 x8 x9 x10 x11 x12 x13) (r i))
    {k : ℕ} (hk : k < 11) {H : Pcs} (h : Inv Γ b k H) : Inv Γ b (k + 1) (Body.store (Loads.of x0 x1 x2 x3 x4 x5 x6 x7 x8 x9 x10 x11 x12 x13) b hb xn k hk H) where
  pieces := by
    refine ⟨fun x => ?_, h.pieces⟩
    obtain ⟨i, q, rfl⟩ : ∃ (i q : Fin 256), x = ix2 i q := ⟨_, _, eq_ix2 x⟩
    refine (congrFun (shapeCast_self _ _) _).trans ((gate_apply x0 x1 x2 x3 x4 x5 x6 x7 x8 x9 x10 x11 x12 x13 hx k hk i q).trans ?_)
    have e0 : (((rG (b + 2) k hb hk).emb (ix2 i q : Shape.Idx _)) 0).val = b + 2 + i.val := Rect.idx_unit_val _ _ _ _ 0
    have e1 : ((rG (b + 2) k hb hk).emb (ix2 i q : Shape.Idx _)) 1 = (⟨256 * k + q.val, by omega⟩ : Fin 2816) := Fin.ext (Rect.idx_unit_val _ _ _ _ 1)
    exact (congrArg₂ Γ e0 e1).trans (congrFun (hΓ i) _) |>.symm
  top0 f := (h.top0 f).cons _
  top1 f := (h.top1 f).cons _
  done i f hf := by
    by_cases hc : f.val < 256 * k
    · exact (h.done i f hc).cons _
    · refine ⟨_, List.mem_cons_self, fun hr => (Rect.mem_set_unit (inb := inb_g (b + 2) k hb hk)).mpr fun a => ?_⟩
      match a with
      | ⟨0, _⟩ => show b + 2 ≤ b + 2 + i.val ∧ b + 2 + i.val < b + 2 + 256; omega
      | ⟨1, _⟩ => show 256 * k ≤ f.val ∧ f.val < 256 * k + 256; omega

/-- The gated unit of a chunk is the rows' gated unit at the chunk's columns. -/
theorem unit_apply (hb : b + 2 ≤ 264) (hx : IsNorm x3 x4 x5 x6 x7 x8 x9 x10 x11 x12 x13 xn r) (hΓ : ∀ i : Fin 256, Γ (b + 2 + i.val) = gate (Wof x3 x4 x5 x6 x7 x8 x9 x10 x11 x12 x13) (r i))
    {k : ℕ} (hk : k < 11) {H : Pcs} (h : Inv Γ b k H) (i q : Fin 256) :
    unit (Loads.of x0 x1 x2 x3 x4 x5 x6 x7 x8 x9 x10 x11 x12 x13) rcc b hb xn k hk H (ix2 i q) = TailRows.hid (Wof x3 x4 x5 x6 x7 x8 x9 x10 x11 x12 x13) (r i) (Γ (b + 1 + i.val)) (Γ (b + i.val)) ⟨256 * k + q.val, by omega⟩ := by
  have h' := h.store x0 x1 x2 x3 x4 x5 x6 x7 x8 x9 x10 x11 x12 x13 hb hx hΓ hk
  have c2 : Cov (Body.store (Loads.of x0 x1 x2 x3 x4 x5 x6 x7 x8 x9 x10 x11 x12 x13) b hb xn k hk H) (b + i.val) ⟨256 * k + q.val, by omega⟩ := by
    obtain hi | hi | hi : i.val = 0 ∨ i.val = 1 ∨ 2 ≤ i.val := by omega
    · rw [hi]; exact h'.top0 _
    · rw [hi]; exact h'.top1 _
    · have := h'.done ⟨i.val - 2, by omega⟩ ⟨256 * k + q.val, by omega⟩ (by show 256 * k + q.val < 256 * (k + 1); omega)
      rwa [show b + 2 + (i.val - 2) = b + i.val by omega] at this
  have c1 : Cov (Body.store (Loads.of x0 x1 x2 x3 x4 x5 x6 x7 x8 x9 x10 x11 x12 x13) b hb xn k hk H) (b + 1 + i.val) ⟨256 * k + q.val, by omega⟩ := by
    obtain hi | hi : i.val = 0 ∨ 1 ≤ i.val := by omega
    · rw [hi]; exact h'.top1 _
    · have := h'.done ⟨i.val - 1, by omega⟩ ⟨256 * k + q.val, by omega⟩ (by show 256 * k + q.val < 256 * (k + 1); omega)
      rwa [show b + 2 + (i.val - 1) = b + 1 + i.val by omega] at this
  unfold unit
  have a (x y u v : EReal) (h : x = y) (h' : u = v) : x + u = y + v := congrArg₂ (fun a b : EReal => a + b) h h'
  have m (x y u v : EReal) (h : x = y) (h' : u = v) : x * u = y * v := congrArg₂ (fun a b : EReal => a * b) h h'
  refine congrArg₂ (fun a b : EReal => gelu a * b) ((conv_apply _ _ _ _ _ _ _ i q).trans ?_) (up_apply x0 x1 x2 x3 x4 x5 x6 x7 x8 x9 x10 x11 x12 x13 hx k hk i q)
  exact a _ _ _ _ (a _ _ _ _ (a _ _ _ _ (cb_apply x0 x1 x2 x3 x4 x5 x6 x7 x8 x9 x10 x11 x12 x13 k hk q)
    (m _ _ _ _ (rcc_apply h'.pieces _ k _ hk i q _ c2) (cw_apply x0 x1 x2 x3 x4 x5 x6 x7 x8 x9 x10 x11 x12 x13 0 k _ hk q)))
    (m _ _ _ _ (rcc_apply h'.pieces _ k _ hk i q _ c1) (cw_apply x0 x1 x2 x3 x4 x5 x6 x7 x8 x9 x10 x11 x12 x13 1 k _ hk q)))
    (m _ _ _ _ (gate_apply x0 x1 x2 x3 x4 x5 x6 x7 x8 x9 x10 x11 x12 x13 hx k hk i q) (cw_apply x0 x1 x2 x3 x4 x5 x6 x7 x8 x9 x10 x11 x12 x13 2 k _ hk q))

/-- A chunk's contribution to a row's down projection. -/
def part (Γ : ℕ → Fin 2816 → EReal) (b : ℕ) (r : Fin 256 → Fin 1024 → EReal) (i : Fin 256) (j : Fin 1024) (f : Fin 2816) : EReal :=
  TailRows.hid (Wof x3 x4 x5 x6 x7 x8 x9 x10 x11 x12 x13) (r i) (Γ (b + 1 + i.val)) (Γ (b + i.val)) f * (Wof x3 x4 x5 x6 x7 x8 x9 x10 x11 x12 x13).wd f j

theorem down_part (hb : b + 2 ≤ 264) (hx : IsNorm x3 x4 x5 x6 x7 x8 x9 x10 x11 x12 x13 xn r) (hΓ : ∀ i : Fin 256, Γ (b + 2 + i.val) = gate (Wof x3 x4 x5 x6 x7 x8 x9 x10 x11 x12 x13) (r i))
    {k : ℕ} (hk : k < 11) {H : Pcs} (h : Inv Γ b k H) (i : Fin 256) (j : Fin 1024) :
    down (unit (Loads.of x0 x1 x2 x3 x4 x5 x6 x7 x8 x9 x10 x11 x12 x13) rcc b hb xn k hk H) ((Loads.of x0 x1 x2 x3 x4 x5 x6 x7 x8 x9 x10 x11 x12 x13).wd (rD k hk)) (ix2 i j)
      = ∑ q : Fin 256, part x3 x4 x5 x6 x7 x8 x9 x10 x11 x12 x13 Γ b r i j ⟨256 * k + q.val, by omega⟩ := by
  refine (down_apply _ _ i j).trans (Finset.sum_congr rfl fun q _ => ?_)
  exact congrArg₂ (fun a b : EReal => a * b) (unit_apply x0 x1 x2 x3 x4 x5 x6 x7 x8 x9 x10 x11 x12 x13 hb hx hΓ hk h i q) (wd_apply x0 x1 x2 x3 x4 x5 x6 x7 x8 x9 x10 x11 x12 x13 k hk q j)

/-- After the eleven chunks every row of the sub-block is stored, and the sum is the whole row's down projection. -/
theorem chunks_spec (hb : b + 2 ≤ 264) (hx : IsNorm x3 x4 x5 x6 x7 x8 x9 x10 x11 x12 x13 xn r) (hΓ : ∀ i : Fin 256, Γ (b + 2 + i.val) = gate (Wof x3 x4 x5 x6 x7 x8 x9 x10 x11 x12 x13) (r i))
    {H : Pcs} (h : Inv Γ b 0 H) :
    Inv Γ b 11 (chunks (Loads.of x0 x1 x2 x3 x4 x5 x6 x7 x8 x9 x10 x11 x12 x13) rcc b hb xn H).1 ∧
    (∀ (i : Fin 256) (j : Fin 1024), (chunks (Loads.of x0 x1 x2 x3 x4 x5 x6 x7 x8 x9 x10 x11 x12 x13) rcc b hb xn H).2 (ix2 i j)
      = ∑ f, part x3 x4 x5 x6 x7 x8 x9 x10 x11 x12 x13 Γ b r i j f) ∧
    (∀ (n : ℕ) (f : Fin 2816), Cov H n f → Cov (chunks (Loads.of x0 x1 x2 x3 x4 x5 x6 x7 x8 x9 x10 x11 x12 x13) rcc b hb xn H).1 n f) := by
  have st := fun {k : ℕ} (hk : k < 11) {H : Pcs} (h : Inv Γ b k H) => h.store x0 x1 x2 x3 x4 x5 x6 x7 x8 x9 x10 x11 x12 x13 hb hx hΓ hk
  have h1 := st (k := 0) (by omega) h
  have h2 := st (k := 1) (by omega) h1
  have h3 := st (k := 2) (by omega) h2
  have h4 := st (k := 3) (by omega) h3
  have h5 := st (k := 4) (by omega) h4
  have h6 := st (k := 5) (by omega) h5
  have h7 := st (k := 6) (by omega) h6
  have h8 := st (k := 7) (by omega) h7
  have h9 := st (k := 8) (by omega) h8
  have h10 := st (k := 9) (by omega) h9
  have h11 := st (k := 10) (by omega) h10
  refine ⟨h11, fun i j => ?_, fun n f hc => ?_⟩
  · have d := fun {k : ℕ} (hk : k < 11) {H : Pcs} (h : Inv Γ b k H) => down_part x0 x1 x2 x3 x4 x5 x6 x7 x8 x9 x10 x11 x12 x13 hb hx hΓ hk h i j
    rw [sum_chunks _ (fun k hk => ∑ q : Fin 256, part x3 x4 x5 x6 x7 x8 x9 x10 x11 x12 x13 Γ b r i j ⟨256 * k + q.val, by omega⟩) fun _ _ => rfl]
    simp only [← d (k := 0) (by omega) h, ← d (k := 1) (by omega) h1, ← d (k := 2) (by omega) h2, ← d (k := 3) (by omega) h3,
      ← d (k := 4) (by omega) h4, ← d (k := 5) (by omega) h5, ← d (k := 6) (by omega) h6, ← d (k := 7) (by omega) h7,
      ← d (k := 8) (by omega) h8, ← d (k := 9) (by omega) h9, ← d (k := 10) (by omega) h10]
    rfl
  · exact hc.cons _ |>.cons _ |>.cons _ |>.cons _ |>.cons _ |>.cons _ |>.cons _ |>.cons _ |>.cons _ |>.cons _ |>.cons _

end chunk

end Cert.TailIdeal.Body
-- ==== Proof.Tail.Block.lean ====
/- One grid point of the tail kernel over the extended reals: what its stores leave in the residual block, in the
   convolution state's block and in the gate scratch, by rows of the layer. -/
module

public import proofs.«01_k».proof.Proof.Tail.Scratch

@[expose] public section

set_option maxRecDepth 16384

noncomputable section

namespace Cert.TailIdeal.Body

open Idealize.ShloMosaic Idealize.SL.Sem Cert.TailIdeal Cert.TailIdeal.Gen
open Idealize.ShloMosaic.ValueIdx TailRows
open scoped BigOperators

variable (x0 : Vec Ideal S512x1024 .f32) (x1 : Vec Ideal S512x512 .f32) (x2 : Vec Ideal S512x512 .f32) (x3 : Vec Ideal S1x512 .f32)
    (x4 : Vec Ideal S1x512 .f32) (x5 : Vec Ideal S1024x1024 .bf16) (x6 : Vec Ideal S1x1024 .f32) (x7 : Vec Ideal S1x1024 .f32)
    (x8 : Vec Ideal S1024x2816 .bf16) (x9 : Vec Ideal S1024x2816 .bf16) (x10 : Vec Ideal S3x2816 .f32) (x11 : Vec Ideal S1x2816 .f32)
    (x12 : Vec Ideal S2816x1024 .bf16) (x13 : Vec Ideal S1x1024 .f32)

/-- The residual row `n` of the block after the mixing branch. -/
def rowB (n : Fin 512) : Fin 1024 → EReal :=
  TailRows.mix (Wof x3 x4 x5 x6 x7 x8 x9 x10 x11 x12 x13) (fun k => x0 (ix2 n k)) (fun k => x1 (ix2 n k)) (fun k => x2 (ix2 n k))

theorem x_ld (b : ℕ) (hb : b ≤ 256) (i : Fin 256) (k : Fin 1024) : (Loads.of x0 x1 x2 x3 x4 x5 x6 x7 x8 x9 x10 x11 x12 x13).x (rX b hb) (ix2 i k) = x0 (ix2 ⟨b + i.val, by omega⟩ k) :=
  View.ld_unit_apply_of _ _ _ _ _ (ix2 ⟨b + i.val, by omega⟩ k : S512x1024.Idx) fun a => match a with | ⟨0, _⟩ => rfl | ⟨1, _⟩ => (Nat.zero_add _).symm
theorem att_ld (b : ℕ) (hb : b ≤ 256) (i : Fin 256) (k : Fin 512) : (Loads.of x0 x1 x2 x3 x4 x5 x6 x7 x8 x9 x10 x11 x12 x13).att (rA b hb) (ix2 i k) = x1 (ix2 ⟨b + i.val, by omega⟩ k) :=
  View.ld_unit_apply_of _ _ _ _ _ (ix2 ⟨b + i.val, by omega⟩ k : S512x512.Idx) fun a => match a with | ⟨0, _⟩ => rfl | ⟨1, _⟩ => (Nat.zero_add _).symm
theorem ssm_ld (b : ℕ) (hb : b ≤ 256) (i : Fin 256) (k : Fin 512) : (Loads.of x0 x1 x2 x3 x4 x5 x6 x7 x8 x9 x10 x11 x12 x13).ssm (rA b hb) (ix2 i k) = x2 (ix2 ⟨b + i.val, by omega⟩ k) :=
  View.ld_unit_apply_of _ _ _ _ _ (ix2 ⟨b + i.val, by omega⟩ k : S512x512.Idx) fun a => match a with | ⟨0, _⟩ => rfl | ⟨1, _⟩ => (Nat.zero_add _).symm
theorem row512_ld (x : Vec Ideal S1x512 .f32) (k : Fin 512) :
    View.ld (Val := Elt Ideal) (e' := .f32) x (Rect.unit ![0, 0] S1x512.size inb_S1x512_S1x512_0_0) (ix2 0 k) = x (ix2 0 k) :=
  View.ld_unit_apply_of _ _ _ _ _ (ix2 0 k : S1x512.Idx) fun a => match a with | ⟨0, _⟩ => rfl | ⟨1, _⟩ => (Nat.zero_add _).symm
theorem row1024_ld (x : Vec Ideal S1x1024 .f32) (k : Fin 1024) :
    View.ld (Val := Elt Ideal) (e' := .f32) x (Rect.unit ![0, 0] S1x1024.size inb_S1x1024_S1x1024_0_0) (ix2 0 k) = x (ix2 0 k) :=
  View.ld_unit_apply_of _ _ _ _ _ (ix2 0 k : S1x1024.Idx) fun a => match a with | ⟨0, _⟩ => rfl | ⟨1, _⟩ => (Nat.zero_add _).symm
theorem wo0_ld (k : Fin 512) (j : Fin 1024) :
    (Loads.of x0 x1 x2 x3 x4 x5 x6 x7 x8 x9 x10 x11 x12 x13).wo (Rect.unit ![0, 0] S512x1024.size inb_S1024x1024_S512x1024_0_0) (ix2 k j) = x5 (ix2 ⟨k.val, by omega⟩ j) :=
  View.ld_unit_apply_of _ _ _ _ _ (ix2 ⟨k.val, by omega⟩ j : S1024x1024.Idx) fun a => match a with | ⟨0, _⟩ => (Nat.zero_add _).symm | ⟨1, _⟩ => (Nat.zero_add _).symm
theorem wo1_ld (k : Fin 512) (j : Fin 1024) :
    (Loads.of x0 x1 x2 x3 x4 x5 x6 x7 x8 x9 x10 x11 x12 x13).wo (Rect.unit ![512, 0] S512x1024.size inb_S1024x1024_S512x1024_512_0) (ix2 k j) = x5 (ix2 ⟨512 + k.val, by omega⟩ j) :=
  View.ld_unit_apply_of _ _ _ _ _ (ix2 ⟨512 + k.val, by omega⟩ j : S1024x1024.Idx) fun a => match a with | ⟨0, _⟩ => rfl | ⟨1, _⟩ => (Nat.zero_add _).symm

theorem mix_apply (b : ℕ) (hb : b ≤ 256) (i : Fin 256) (j : Fin 1024) :
    mix (Loads.of x0 x1 x2 x3 x4 x5 x6 x7 x8 x9 x10 x11 x12 x13) b hb (ix2 i j) = rowB x0 x1 x2 x3 x4 x5 x6 x7 x8 x9 x10 x11 x12 x13 ⟨b + i.val, by omega⟩ j := by
  have m (x y u v : EReal) (h : x = y) (h' : u = v) : x * u = y * v := congrArg₂ (fun a b : EReal => a * b) h h'
  refine congrArg₂ (fun a b : EReal => a + b) ((congrFun (shapeCast_self _ _) _).trans (x_ld x0 x1 x2 x3 x4 x5 x6 x7 x8 x9 x10 x11 x12 x13 b hb i j)) ?_
  refine (rms1024_apply _ _ i j).trans ?_
  refine congrArg₂ (fun v g => rms c1024 v g j) (funext fun k => ?_) (funext fun k => row1024_ld x6 k)
  refine congrArg₂ (fun a b : EReal => a + b) ((half_apply _ _ i k).trans (Finset.sum_congr rfl fun q _ => ?_))
    ((half_apply _ _ i k).trans (Finset.sum_congr rfl fun q _ => ?_))
  · refine m _ _ _ _ ((rms512_apply _ _ i q).trans ?_) (wo0_ld x0 x1 x2 x3 x4 x5 x6 x7 x8 x9 x10 x11 x12 x13 q k)
    exact congrArg₂ (fun v g => rms c512 v g q) (funext fun k => att_ld x0 x1 x2 x3 x4 x5 x6 x7 x8 x9 x10 x11 x12 x13 b hb i k)
      (funext fun k => row512_ld x3 k)
  · refine m _ _ _ _ ((rms512_apply _ _ i q).trans ?_) (wo1_ld x0 x1 x2 x3 x4 x5 x6 x7 x8 x9 x10 x11 x12 x13 q k)
    exact congrArg₂ (fun v g => rms c512 v g q) (funext fun k => ssm_ld x0 x1 x2 x3 x4 x5 x6 x7 x8 x9 x10 x11 x12 x13 b hb i k)
      (funext fun k => row512_ld x4 k)

theorem norm_isNorm (b : ℕ) (hb : b ≤ 256) :
    IsNorm x3 x4 x5 x6 x7 x8 x9 x10 x11 x12 x13 (norm (Loads.of x0 x1 x2 x3 x4 x5 x6 x7 x8 x9 x10 x11 x12 x13) b hb) fun i => rowB x0 x1 x2 x3 x4 x5 x6 x7 x8 x9 x10 x11 x12 x13 ⟨b + i.val, by omega⟩ :=
  fun i k => (rms1024_apply _ _ i k).trans (congrArg₂ (fun v g => rms c1024 v g k)
    (funext fun q => mix_apply x0 x1 x2 x3 x4 x5 x6 x7 x8 x9 x10 x11 x12 x13 b hb i q) (funext fun q => row1024_ld x7 q))

variable {Γ : ℕ → Fin 2816 → EReal}

theorem fin_apply (b : ℕ) (hb : b ≤ 256) (acc : FVec Ideal S256x1024 .f32)
    (ha : ∀ (i : Fin 256) (j : Fin 1024), acc (ix2 i j) = ∑ f, part x3 x4 x5 x6 x7 x8 x9 x10 x11 x12 x13 Γ (b + 6)
      (fun i => rowB x0 x1 x2 x3 x4 x5 x6 x7 x8 x9 x10 x11 x12 x13 ⟨b + i.val, by omega⟩) i j f) (i : Fin 256) (j : Fin 1024) :
    fin (Loads.of x0 x1 x2 x3 x4 x5 x6 x7 x8 x9 x10 x11 x12 x13) b hb acc (ix2 i j) = out (Wof x3 x4 x5 x6 x7 x8 x9 x10 x11 x12 x13) (rowB x0 x1 x2 x3 x4 x5 x6 x7 x8 x9 x10 x11 x12 x13 ⟨b + i.val, by omega⟩)
      (Γ (b + 6 + 1 + i.val)) (Γ (b + 6 + i.val)) j := by
  refine congrArg₂ (fun a b : EReal => a + b) (mix_apply x0 x1 x2 x3 x4 x5 x6 x7 x8 x9 x10 x11 x12 x13 b hb i j) ?_
  refine (rms1024_apply _ _ i j).trans ?_
  exact congrArg₂ (fun v g => rms c1024 v g j) (funext fun k => ha i k) (funext fun k => row1024_ld x13 k)

/-- The convolution state's block holds the scratch's last two rows. -/
theorem last_rows (L : Pcs) (p : Fin 2) (f : Fin 2816) :
    View.canon [(⟨Rect.unit ![0, 0, 0] S1x2x2816.size inb_S1x2x2816_S1x2x2816_0_0_0, shapeCast S1x2x2816
      (rcc L (Rect.unit ![518, 0] S2x2816.size inb_S520x2816_S2x2816_518_0)) shapeCasts_S2x2816_S1x2x2816⟩ :
        View.Piece (Elt Ideal) S1x2x2816 .f32)] (ix3 0 p f : S1x2x2816.Idx)
      = View.canon L (ix2 ⟨518 + p.val, by omega⟩ f : S520x2816.Idx) := by
  let Y : S1x2x2816.Idx → Elt Ideal .f32 := fun y => View.canon L (ix2 ⟨518 + (y 1).val, by have h : (y 1).val < 2 := (y 1).isLt; omega⟩ (y 2) : S520x2816.Idx)
  refine View.canon_apply_of_pieces Y [_] (View.PiecesOf.mem (L := [_]) ⟨fun x => ?_, trivial⟩) _
    ⟨_, List.mem_cons_self, (Rect.mem_set_unit (inb := inb_S1x2x2816_S1x2x2816_0_0_0)).mpr fun a => ?_⟩
  · obtain ⟨u, p, f, rfl⟩ : ∃ (u : Fin 1) (p : Fin 2) (f : Fin 2816), x = ix3 u p f := ⟨_, _, _, eq_ix3 x⟩
    have e : (Rect.unit ![0, 0, 0] S1x2x2816.size inb_S1x2x2816_S1x2x2816_0_0_0).emb (ix3 u p f : Shape.Idx _) = (ix3 u p f : S1x2x2816.Idx) := by
      funext a; match a with
      | ⟨0, _⟩ => exact Fin.ext ((Rect.idx_unit_val _ _ _ _ 0).trans (Nat.zero_add _))
      | ⟨1, _⟩ => exact Fin.ext ((Rect.idx_unit_val _ _ _ _ 1).trans (Nat.zero_add _))
      | ⟨2, _⟩ => exact Fin.ext ((Rect.idx_unit_val _ _ _ _ 2).trans (Nat.zero_add _))
    refine (shapeCast_apply (rcc L (Rect.unit ![518, 0] S2x2816.size inb_S520x2816_S2x2816_518_0))
      shapeCasts_S2x2816_S1x2x2816 (ix3 u p f) (ix2 p f) ?_).trans (Eq.trans ?_ (congrArg Y e).symm)
    · have : u.val = 0 := by omega
      rw [Shape.rowMajor_val_two, Shape.rowMajor_val_three]
      show p.val * 2816 + f.val = (u.val * 2 + p.val) * 2816 + f.val
      omega
    · refine View.ld_unit_apply_of _ _ _ _ _ (ix2 ⟨518 + p.val, by omega⟩ f : S520x2816.Idx) ?_
      intro a; match a with | ⟨0, _⟩ => rfl | ⟨1, _⟩ => exact (Nat.zero_add _).symm
  · match a with
    | ⟨0, _⟩ => show 0 ≤ 0 ∧ 0 < 0 + 1; omega
    | ⟨1, _⟩ => show 0 ≤ p.val ∧ p.val < 0 + 2; omega
    | ⟨2, _⟩ => show 0 ≤ f.val ∧ f.val < 0 + 2816; omega

/-- ONE POINT: over a first store of rows of `Γ`, `Γ`'s other rows being the gates of the block's rows, the scratch ends
    holding `Γ`, the residual block the layer's rows, the convolution state's block `Γ`'s last two rows. -/
theorem block_spec {H : Pcs} (hp : View.PiecesOf (G Γ) H) (hc : ∀ n f, n < 8 → Cov H n f)
    (hΓ : ∀ n : Fin 512, Γ (8 + n.val) = gate (Wof x3 x4 x5 x6 x7 x8 x9 x10 x11 x12 x13) (rowB x0 x1 x2 x3 x4 x5 x6 x7 x8 x9 x10 x11 x12 x13 n)) :
    (∀ (n : ℕ) (hn : n < 520) (f : Fin 2816), View.canon (s1 (Loads.of x0 x1 x2 x3 x4 x5 x6 x7 x8 x9 x10 x11 x12 x13) rcc H).1 (ix2 ⟨n, hn⟩ f : S520x2816.Idx) = Γ n f) ∧
    (∀ (n : Fin 512) (j : Fin 1024), View.canon (out14 (Loads.of x0 x1 x2 x3 x4 x5 x6 x7 x8 x9 x10 x11 x12 x13) rcc H) (ix2 n j : S512x1024.Idx)
      = out (Wof x3 x4 x5 x6 x7 x8 x9 x10 x11 x12 x13) (rowB x0 x1 x2 x3 x4 x5 x6 x7 x8 x9 x10 x11 x12 x13 n) (Γ (7 + n.val)) (Γ (6 + n.val)) j) ∧
    (∀ (p : Fin 2) (f : Fin 2816), View.canon (out15 (Loads.of x0 x1 x2 x3 x4 x5 x6 x7 x8 x9 x10 x11 x12 x13) rcc H) (ix3 0 p f : S1x2x2816.Idx) = Γ (518 + p.val) f) := by
  have g0 : ∀ i : Fin 256, Γ (6 + 2 + i.val) = gate (Wof x3 x4 x5 x6 x7 x8 x9 x10 x11 x12 x13) (rowB x0 x1 x2 x3 x4 x5 x6 x7 x8 x9 x10 x11 x12 x13 ⟨0 + i.val, by omega⟩) := fun i => by
    have := hΓ ⟨0 + i.val, by omega⟩
    rwa [show 8 + (0 + i.val) = 6 + 2 + i.val by omega] at this
  have g1 : ∀ i : Fin 256, Γ (262 + 2 + i.val) = gate (Wof x3 x4 x5 x6 x7 x8 x9 x10 x11 x12 x13) (rowB x0 x1 x2 x3 x4 x5 x6 x7 x8 x9 x10 x11 x12 x13 ⟨256 + i.val, by omega⟩) := fun i => by
    have := hΓ ⟨256 + i.val, by omega⟩
    rwa [show 8 + (256 + i.val) = 262 + 2 + i.val by omega] at this
  obtain ⟨i0, d0, c0⟩ := chunks_spec x0 x1 x2 x3 x4 x5 x6 x7 x8 x9 x10 x11 x12 x13 (by omega)
    (norm_isNorm x0 x1 x2 x3 x4 x5 x6 x7 x8 x9 x10 x11 x12 x13 0 (by omega)) g0 (H := H)
    ⟨hp, fun f => hc _ f (by omega), fun f => hc _ f (by omega), fun i f h => absurd h (by omega)⟩
  have e0 : ∀ n f, 8 ≤ n → n < 264 → Cov (s0 (Loads.of x0 x1 x2 x3 x4 x5 x6 x7 x8 x9 x10 x11 x12 x13) rcc H).1 n f := fun n f h h' => by
    have := i0.done ⟨n - 8, by omega⟩ f (by omega)
    rwa [show 6 + 2 + (n - 8) = n by omega] at this
  obtain ⟨i1, d1, c1⟩ := chunks_spec x0 x1 x2 x3 x4 x5 x6 x7 x8 x9 x10 x11 x12 x13 (by omega)
    (norm_isNorm x0 x1 x2 x3 x4 x5 x6 x7 x8 x9 x10 x11 x12 x13 256 (by omega)) g1 (H := (s0 (Loads.of x0 x1 x2 x3 x4 x5 x6 x7 x8 x9 x10 x11 x12 x13) rcc H).1)
    ⟨i0.pieces, fun f => e0 _ f (by omega) (by omega), fun f => e0 _ f (by omega) (by omega), fun i f h => absurd h (by omega)⟩
  have all : ∀ n f, n < 520 → Cov (s1 (Loads.of x0 x1 x2 x3 x4 x5 x6 x7 x8 x9 x10 x11 x12 x13) rcc H).1 n f := fun n f hn => by
    obtain h | h | h : n < 8 ∨ (8 ≤ n ∧ n < 264) ∨ 264 ≤ n := by omega
    · exact c1 n f (c0 n f (hc n f h))
    · exact c1 n f (e0 n f h.1 h.2)
    · have := i1.done ⟨n - 264, by omega⟩ f (by omega)
      rwa [show 262 + 2 + (n - 264) = n by omega] at this
  refine ⟨fun n hn f => canon_cov i1.pieces n hn f (all n f hn), fun n j => ?_, fun p f => ?_⟩
  · let Y : S512x1024.Idx → Elt Ideal .f32 := fun y => out (Wof x3 x4 x5 x6 x7 x8 x9 x10 x11 x12 x13) (rowB x0 x1 x2 x3 x4 x5 x6 x7 x8 x9 x10 x11 x12 x13 (y 0)) (Γ (7 + (y 0).val)) (Γ (6 + (y 0).val)) (y 1)
    have key : ∀ (b : ℕ) (hb : b ≤ 256) (acc : FVec Ideal S256x1024 .f32),
        (∀ (i : Fin 256) (j : Fin 1024), acc (ix2 i j) = ∑ f, part x3 x4 x5 x6 x7 x8 x9 x10 x11 x12 x13 Γ (b + 6)
          (fun i => rowB x0 x1 x2 x3 x4 x5 x6 x7 x8 x9 x10 x11 x12 x13 ⟨b + i.val, by omega⟩) i j f) →
        ∀ x : S256x1024.Idx, fin (Loads.of x0 x1 x2 x3 x4 x5 x6 x7 x8 x9 x10 x11 x12 x13) b hb acc x = Y ((rX b hb).emb x) := fun b hb acc ha x => by
      obtain ⟨i, q, rfl⟩ : ∃ (i : Fin 256) (q : Fin 1024), x = ix2 i q := ⟨_, _, eq_ix2 x⟩
      have e : (rX b hb).emb (ix2 i q : Shape.Idx _) = (ix2 ⟨b + i.val, by omega⟩ q : S512x1024.Idx) := by
        funext a; match a with
        | ⟨0, _⟩ => exact Fin.ext (Rect.idx_unit_val _ _ _ _ 0)
        | ⟨1, _⟩ => exact Fin.ext ((Rect.idx_unit_val _ _ _ _ 1).trans (Nat.zero_add _))
      refine (fin_apply x0 x1 x2 x3 x4 x5 x6 x7 x8 x9 x10 x11 x12 x13 b hb acc ha i q).trans (Eq.trans ?_ (congrArg Y e).symm)
      show out (Wof x3 x4 x5 x6 x7 x8 x9 x10 x11 x12 x13) _ (Γ (b + 6 + 1 + i.val)) (Γ (b + 6 + i.val)) q = out (Wof x3 x4 x5 x6 x7 x8 x9 x10 x11 x12 x13) _ (Γ (7 + (b + i.val))) (Γ (6 + (b + i.val))) q
      rw [show b + 6 + 1 + i.val = 7 + (b + i.val) by omega, show b + 6 + i.val = 6 + (b + i.val) by omega]
    refine View.canon_apply_of_pieces Y (out14 (Loads.of x0 x1 x2 x3 x4 x5 x6 x7 x8 x9 x10 x11 x12 x13) rcc H) (View.PiecesOf.mem ⟨key 256 (by omega) _ d1, key 0 (by omega) _ d0, trivial⟩) _ ?_
    by_cases h : n.val < 256
    · refine ⟨_, List.mem_cons_of_mem _ List.mem_cons_self, (Rect.mem_set_unit (inb := inb_x 0 (by omega))).mpr fun a => ?_⟩
      match a with
      | ⟨0, _⟩ => show 0 ≤ n.val ∧ n.val < 0 + 256; omega
      | ⟨1, _⟩ => show 0 ≤ j.val ∧ j.val < 0 + 1024; omega
    · refine ⟨_, List.mem_cons_self, (Rect.mem_set_unit (inb := inb_x 256 (by omega))).mpr fun a => ?_⟩
      match a with
      | ⟨0, _⟩ => show 256 ≤ n.val ∧ n.val < 256 + 256; omega
      | ⟨1, _⟩ => show 0 ≤ j.val ∧ j.val < 0 + 1024; omega
  · exact (last_rows _ p f).trans (canon_cov i1.pieces _ (by omega) f (all _ f (by omega)))

end Cert.TailIdeal.Body
-- ==== Proof.Tail.RunA.lean ====
/- The stores that case A of a grid point makes are those of `Body`, with the scratch's first rows as that case leaves them. -/
module

public import proofs.«01_k».proof.Proof.Gen.TailIdeal.Frame.RunA
public import proofs.«01_k».proof.Proof.Gen.TailIdeal.Frame
public import proofs.«01_k».proof.Proof.Tail.Body

@[expose] public section

set_option maxRecDepth 65536
set_option maxHeartbeats 4000000

noncomputable section

namespace Cert.TailIdeal.Body

open Idealize.ShloMosaic Idealize.SL.Sem Cert.TailIdeal Cert.TailIdeal.Gen

variable {F : FTy → Type} [FloatOps F]

variable (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x2816 .bf16) (harg9 : arg9.IsWhole) (arg10 : Memref sig .tc .vmem S1024x2816 .bf16) (harg10 : arg10.IsWhole) (arg11 : Memref sig .tc .vmem S3x2816 .f32) (harg11 : arg11.IsWhole) (arg12 : Memref sig .tc .vmem S1x2816 .f32) (harg12 : arg12.IsWhole) (arg13 : Memref sig .tc .vmem S2816x1024 .bf16) (harg13 : arg13.IsWhole) (arg14 : Memref sig .tc .vmem S1x1024 .f32) (harg14 : arg14.IsWhole) (arg15 : Memref sig .tc .vmem S512x1024 .f32) (harg15 : arg15.IsWhole) (arg16 : Memref sig .tc .vmem S1x2x2816 .f32) (harg16 : arg16.IsWhole) (arg17 : Memref sig .tc .vmem S520x2816 .f32) (harg17 : arg17.IsWhole) (hc0 : cond0_0 i) (hc1 : ¬cond0_1 i)
  (x0 : Vec F S512x1024 .f32) (x1 : Vec F S512x512 .f32) (x2 : Vec F S512x512 .f32) (x3 : Vec F S1x512 .f32) (x4 : Vec F S1x512 .f32) (x5 : Vec F S1024x1024 .bf16) (x6 : Vec F S1x1024 .f32) (x7 : Vec F S1x1024 .f32) (x8 : Vec F S1024x2816 .bf16) (x9 : Vec F S1024x2816 .bf16) (x10 : Vec F S3x2816 .f32) (x11 : Vec F S1x2816 .f32) (x12 : Vec F S2816x1024 .bf16) (x13 : Vec F S1x1024 .f32)

theorem out14_A :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13).1 =
      out14 { x := fun r => View.readAt (Elt F) arg1.view r.toLoadRect (harg1.unread x0), att := fun r => View.readAt (Elt F) arg2.view r.toLoadRect (harg2.unread x1), ssm := fun r => View.readAt (Elt F) arg3.view r.toLoadRect (harg3.unread x2), ga := fun r => View.readAt (Elt F) arg4.view r.toLoadRect (harg4.unread x3), gs := fun r => View.readAt (Elt F) arg5.view r.toLoadRect (harg5.unread x4), wo := fun r => View.readAt (Elt F) arg6.view r.toLoadRect (harg6.unread x5), gpm := fun r => View.readAt (Elt F) arg7.view r.toLoadRect (harg7.unread x6), g := fun r => View.readAt (Elt F) arg8.view r.toLoadRect (harg8.unread x7), wg := fun r => View.readAt (Elt F) arg9.view r.toLoadRect (harg9.unread x8), wu := fun r => View.readAt (Elt F) arg10.view r.toLoadRect (harg10.unread x9), cw := fun r => View.readAt (Elt F) arg11.view r.toLoadRect (harg11.unread x10), cb := fun r => View.readAt (Elt F) arg12.view r.toLoadRect (harg12.unread x11), wd := fun r => View.readAt (Elt F) arg13.view r.toLoadRect (harg13.unread x12), gpost := fun r => View.readAt (Elt F) arg14.view r.toLoadRect (harg14.unread x13) } (fun L r => arg17.view.readCov L r.toLoadRect) [⟨Rect.unit ![0, 0] S8x2816.size inb_S520x2816_S8x2816_0_0, k0_pay3⟩] := by
  sl_kernel_rfl

theorem out15_A :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13).2.1 =
      out15 { x := fun r => View.readAt (Elt F) arg1.view r.toLoadRect (harg1.unread x0), att := fun r => View.readAt (Elt F) arg2.view r.toLoadRect (harg2.unread x1), ssm := fun r => View.readAt (Elt F) arg3.view r.toLoadRect (harg3.unread x2), ga := fun r => View.readAt (Elt F) arg4.view r.toLoadRect (harg4.unread x3), gs := fun r => View.readAt (Elt F) arg5.view r.toLoadRect (harg5.unread x4), wo := fun r => View.readAt (Elt F) arg6.view r.toLoadRect (harg6.unread x5), gpm := fun r => View.readAt (Elt F) arg7.view r.toLoadRect (harg7.unread x6), g := fun r => View.readAt (Elt F) arg8.view r.toLoadRect (harg8.unread x7), wg := fun r => View.readAt (Elt F) arg9.view r.toLoadRect (harg9.unread x8), wu := fun r => View.readAt (Elt F) arg10.view r.toLoadRect (harg10.unread x9), cw := fun r => View.readAt (Elt F) arg11.view r.toLoadRect (harg11.unread x10), cb := fun r => View.readAt (Elt F) arg12.view r.toLoadRect (harg12.unread x11), wd := fun r => View.readAt (Elt F) arg13.view r.toLoadRect (harg13.unread x12), gpost := fun r => View.readAt (Elt F) arg14.view r.toLoadRect (harg14.unread x13) } (fun L r => arg17.view.readCov L r.toLoadRect) [⟨Rect.unit ![0, 0] S8x2816.size inb_S520x2816_S8x2816_0_0, k0_pay3⟩] := by
  sl_kernel_rfl

theorem scr_A :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13).2.2.1 =
      (s1 { x := fun r => View.readAt (Elt F) arg1.view r.toLoadRect (harg1.unread x0), att := fun r => View.readAt (Elt F) arg2.view r.toLoadRect (harg2.unread x1), ssm := fun r => View.readAt (Elt F) arg3.view r.toLoadRect (harg3.unread x2), ga := fun r => View.readAt (Elt F) arg4.view r.toLoadRect (harg4.unread x3), gs := fun r => View.readAt (Elt F) arg5.view r.toLoadRect (harg5.unread x4), wo := fun r => View.readAt (Elt F) arg6.view r.toLoadRect (harg6.unread x5), gpm := fun r => View.readAt (Elt F) arg7.view r.toLoadRect (harg7.unread x6), g := fun r => View.readAt (Elt F) arg8.view r.toLoadRect (harg8.unread x7), wg := fun r => View.readAt (Elt F) arg9.view r.toLoadRect (harg9.unread x8), wu := fun r => View.readAt (Elt F) arg10.view r.toLoadRect (harg10.unread x9), cw := fun r => View.readAt (Elt F) arg11.view r.toLoadRect (harg11.unread x10), cb := fun r => View.readAt (Elt F) arg12.view r.toLoadRect (harg12.unread x11), wd := fun r => View.readAt (Elt F) arg13.view r.toLoadRect (harg13.unread x12), gpost := fun r => View.readAt (Elt F) arg14.view r.toLoadRect (harg14.unread x13) } (fun L r => arg17.view.readCov L r.toLoadRect) [⟨Rect.unit ![0, 0] S8x2816.size inb_S520x2816_S8x2816_0_0, k0_pay3⟩]).1 := by
  sl_kernel_rfl

theorem out14_A_eq :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 = View.canon (out14 (Loads.of x0 x1 x2 x3 x4 x5 x6 x7 x8 x9 x10 x11 x12 x13) rcc (top0)) := by
  unfold out0_A_14
  rw [View.read_writes_junk_eq_canon, out14_A]
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  rfl

theorem out15_A_eq :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 = View.canon (out15 (Loads.of x0 x1 x2 x3 x4 x5 x6 x7 x8 x9 x10 x11 x12 x13) rcc (top0)) := by
  unfold out0_A_15
  rw [View.read_writes_junk_eq_canon, out15_A]
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  rfl

theorem scr_A_eq :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 = View.canon ((s1 (Loads.of x0 x1 x2 x3 x4 x5 x6 x7 x8 x9 x10 x11 x12 x13) rcc (top0)).1) := by
  unfold sout0_A_0
  rw [View.read_writes_junk_eq_canon, scr_A]
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  rfl

end Cert.TailIdeal.Body
-- ==== Proof.Tail.RunB.lean ====
/- The stores that case B of a grid point makes are those of `Body`, with the scratch's first rows as that case leaves them. -/
module

public import proofs.«01_k».proof.Proof.Gen.TailIdeal.Frame.RunB
public import proofs.«01_k».proof.Proof.Gen.TailIdeal.Frame
public import proofs.«01_k».proof.Proof.Tail.Body

@[expose] public section

set_option maxRecDepth 65536
set_option maxHeartbeats 4000000

noncomputable section

namespace Cert.TailIdeal.Body

open Idealize.ShloMosaic Idealize.SL.Sem Cert.TailIdeal Cert.TailIdeal.Gen

variable {F : FTy → Type} [FloatOps F]

variable (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x2816 .bf16) (harg9 : arg9.IsWhole) (arg10 : Memref sig .tc .vmem S1024x2816 .bf16) (harg10 : arg10.IsWhole) (arg11 : Memref sig .tc .vmem S3x2816 .f32) (harg11 : arg11.IsWhole) (arg12 : Memref sig .tc .vmem S1x2816 .f32) (harg12 : arg12.IsWhole) (arg13 : Memref sig .tc .vmem S2816x1024 .bf16) (harg13 : arg13.IsWhole) (arg14 : Memref sig .tc .vmem S1x1024 .f32) (harg14 : arg14.IsWhole) (arg15 : Memref sig .tc .vmem S512x1024 .f32) (harg15 : arg15.IsWhole) (arg16 : Memref sig .tc .vmem S1x2x2816 .f32) (harg16 : arg16.IsWhole) (arg17 : Memref sig .tc .vmem S520x2816 .f32) (harg17 : arg17.IsWhole) (hc0 : ¬cond0_0 i) (hc1 : cond0_1 i)
  (x0 : Vec F S512x1024 .f32) (x1 : Vec F S512x512 .f32) (x2 : Vec F S512x512 .f32) (x3 : Vec F S1x512 .f32) (x4 : Vec F S1x512 .f32) (x5 : Vec F S1024x1024 .bf16) (x6 : Vec F S1x1024 .f32) (x7 : Vec F S1x1024 .f32) (x8 : Vec F S1024x2816 .bf16) (x9 : Vec F S1024x2816 .bf16) (x10 : Vec F S3x2816 .f32) (x11 : Vec F S1x2816 .f32) (x12 : Vec F S2816x1024 .bf16) (x13 : Vec F S1x1024 .f32) (xs0 : Vec F S520x2816 .f32)

theorem out14_B :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0).1 =
      out14 { x := fun r => View.readAt (Elt F) arg1.view r.toLoadRect (harg1.unread x0), att := fun r => View.readAt (Elt F) arg2.view r.toLoadRect (harg2.unread x1), ssm := fun r => View.readAt (Elt F) arg3.view r.toLoadRect (harg3.unread x2), ga := fun r => View.readAt (Elt F) arg4.view r.toLoadRect (harg4.unread x3), gs := fun r => View.readAt (Elt F) arg5.view r.toLoadRect (harg5.unread x4), wo := fun r => View.readAt (Elt F) arg6.view r.toLoadRect (harg6.unread x5), gpm := fun r => View.readAt (Elt F) arg7.view r.toLoadRect (harg7.unread x6), g := fun r => View.readAt (Elt F) arg8.view r.toLoadRect (harg8.unread x7), wg := fun r => View.readAt (Elt F) arg9.view r.toLoadRect (harg9.unread x8), wu := fun r => View.readAt (Elt F) arg10.view r.toLoadRect (harg10.unread x9), cw := fun r => View.readAt (Elt F) arg11.view r.toLoadRect (harg11.unread x10), cb := fun r => View.readAt (Elt F) arg12.view r.toLoadRect (harg12.unread x11), wd := fun r => View.readAt (Elt F) arg13.view r.toLoadRect (harg13.unread x12), gpost := fun r => View.readAt (Elt F) arg14.view r.toLoadRect (harg14.unread x13) } (fun L r => arg17.view.readCov L r.toLoadRect) [⟨Rect.unit ![0, 0] S8x2816.size inb_S520x2816_S8x2816_0_0, k0_pay4 (View.readAt (Elt F) arg17.view (Rect.unit (s := S520x2816) ![512, 0] S8x2816.size inb_S520x2816_S8x2816_512_0).toLoadRect (harg17.unread xs0))⟩] := by
  sl_kernel_rfl

theorem out15_B :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0).2.1 =
      out15 { x := fun r => View.readAt (Elt F) arg1.view r.toLoadRect (harg1.unread x0), att := fun r => View.readAt (Elt F) arg2.view r.toLoadRect (harg2.unread x1), ssm := fun r => View.readAt (Elt F) arg3.view r.toLoadRect (harg3.unread x2), ga := fun r => View.readAt (Elt F) arg4.view r.toLoadRect (harg4.unread x3), gs := fun r => View.readAt (Elt F) arg5.view r.toLoadRect (harg5.unread x4), wo := fun r => View.readAt (Elt F) arg6.view r.toLoadRect (harg6.unread x5), gpm := fun r => View.readAt (Elt F) arg7.view r.toLoadRect (harg7.unread x6), g := fun r => View.readAt (Elt F) arg8.view r.toLoadRect (harg8.unread x7), wg := fun r => View.readAt (Elt F) arg9.view r.toLoadRect (harg9.unread x8), wu := fun r => View.readAt (Elt F) arg10.view r.toLoadRect (harg10.unread x9), cw := fun r => View.readAt (Elt F) arg11.view r.toLoadRect (harg11.unread x10), cb := fun r => View.readAt (Elt F) arg12.view r.toLoadRect (harg12.unread x11), wd := fun r => View.readAt (Elt F) arg13.view r.toLoadRect (harg13.unread x12), gpost := fun r => View.readAt (Elt F) arg14.view r.toLoadRect (harg14.unread x13) } (fun L r => arg17.view.readCov L r.toLoadRect) [⟨Rect.unit ![0, 0] S8x2816.size inb_S520x2816_S8x2816_0_0, k0_pay4 (View.readAt (Elt F) arg17.view (Rect.unit (s := S520x2816) ![512, 0] S8x2816.size inb_S520x2816_S8x2816_512_0).toLoadRect (harg17.unread xs0))⟩] := by
  sl_kernel_rfl

theorem scr_B :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0).2.2.1 =
      (s1 { x := fun r => View.readAt (Elt F) arg1.view r.toLoadRect (harg1.unread x0), att := fun r => View.readAt (Elt F) arg2.view r.toLoadRect (harg2.unread x1), ssm := fun r => View.readAt (Elt F) arg3.view r.toLoadRect (harg3.unread x2), ga := fun r => View.readAt (Elt F) arg4.view r.toLoadRect (harg4.unread x3), gs := fun r => View.readAt (Elt F) arg5.view r.toLoadRect (harg5.unread x4), wo := fun r => View.readAt (Elt F) arg6.view r.toLoadRect (harg6.unread x5), gpm := fun r => View.readAt (Elt F) arg7.view r.toLoadRect (harg7.unread x6), g := fun r => View.readAt (Elt F) arg8.view r.toLoadRect (harg8.unread x7), wg := fun r => View.readAt (Elt F) arg9.view r.toLoadRect (harg9.unread x8), wu := fun r => View.readAt (Elt F) arg10.view r.toLoadRect (harg10.unread x9), cw := fun r => View.readAt (Elt F) arg11.view r.toLoadRect (harg11.unread x10), cb := fun r => View.readAt (Elt F) arg12.view r.toLoadRect (harg12.unread x11), wd := fun r => View.readAt (Elt F) arg13.view r.toLoadRect (harg13.unread x12), gpost := fun r => View.readAt (Elt F) arg14.view r.toLoadRect (harg14.unread x13) } (fun L r => arg17.view.readCov L r.toLoadRect) [⟨Rect.unit ![0, 0] S8x2816.size inb_S520x2816_S8x2816_0_0, k0_pay4 (View.readAt (Elt F) arg17.view (Rect.unit (s := S520x2816) ![512, 0] S8x2816.size inb_S520x2816_S8x2816_512_0).toLoadRect (harg17.unread xs0))⟩]).1 := by
  sl_kernel_rfl

theorem out14_B_eq :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 = View.canon (out14 (Loads.of x0 x1 x2 x3 x4 x5 x6 x7 x8 x9 x10 x11 x12 x13) rcc (topOf xs0)) := by
  unfold out0_B_14
  rw [View.read_writes_junk_eq_canon, out14_B]
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread]
  rfl

theorem out15_B_eq :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 = View.canon (out15 (Loads.of x0 x1 x2 x3 x4 x5 x6 x7 x8 x9 x10 x11 x12 x13) rcc (topOf xs0)) := by
  unfold out0_B_15
  rw [View.read_writes_junk_eq_canon, out15_B]
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread]
  rfl

theorem scr_B_eq :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 = View.canon ((s1 (Loads.of x0 x1 x2 x3 x4 x5 x6 x7 x8 x9 x10 x11 x12 x13) rcc (topOf xs0)).1) := by
  unfold sout0_B_0
  rw [View.read_writes_junk_eq_canon, scr_B]
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread]
  rfl

end Cert.TailIdeal.Body
-- ==== Proof.Tail.Entry.lean ====
/- The tail kernel's input blocks, read at an index, as elements of the program's arguments. -/
module

public import proofs.«01_k».proof.Proof.Gen.TailIdeal.Frame
public import Idealize.ShloMosaic.PureOps.Ideal
public import Idealize.ShloMosaic.Lib.Claim
public import Idealize.ShloMosaic.Lib.ValueIdxCore
public import Idealize.ShloMosaic.Lib.Pipeline.ValueKit.Geometry

@[expose] public section

set_option maxRecDepth 16384

noncomputable section

namespace Cert.TailIdeal.Entry

open Idealize.ShloMosaic Idealize.ShloMosaic.TcCoe Idealize.SL.Sem Cert.TailIdeal Cert.TailIdeal.Gen
open Idealize.ShloMosaic.ValueIdx

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)

/-! The three blocks of rows move with the point. -/

theorem iblk0 (t : Fin cfg0.N) (i : Fin 512) (j : Fin 1024) (n : Fin 32768) (h : n.val = 512 * t.val + i.val)
    (p : Fin 8) (q : Fin 4096) (h' : n.val = 4096 * p.val + q.val) :
    iblk m c 0 t (ix2 i j) = m ((c : Thread nD τ).loc main_arg0) (ix3 p q j) := by
  have e := idx0 t
  have e0 : (((cfg0.win 0).blk t).view.emb (ix2 i j)) = (ix2 n j : S32768x1024.Idx) := by
    refine Shape.idx_ext₂ ?_ ?_
    · blk_simp [e.1]; show t.val * 512 + i.val = n.val; omega
    · blk_simp [e.2]
  unfold iblk
  rw [View.read_apply, cast_eq]
  entry_read
  refine (congrArg _ e0).trans (shapeCast_apply _ shapeCasts_S8x4096x1024_S32768x1024 (ix2 n j : S32768x1024.Idx) (ix3 p q j) ?_)
  rw [Shape.rowMajor_val_two, Shape.rowMajor_val_three]
  show (p.val * 4096 + q.val) * 1024 + j.val = n.val * 1024 + j.val
  omega

theorem iblk1 (t : Fin cfg0.N) (i : Fin 512) (j : Fin 512) (n : Fin 32768) (h : n.val = 512 * t.val + i.val) :
    iblk m c 1 t (ix2 i j) = m ((c : Thread nD τ).loc main_arg1) (ix2 n j) := by
  have e := idx1 t
  unfold iblk
  rw [View.read_apply, cast_eq]
  entry_read
  refine congrArg _ (Shape.idx_ext₂ ?_ ?_)
  · blk_simp [e.1]; show t.val * 512 + i.val = n.val; omega
  · blk_simp [e.2]

theorem iblk2 (t : Fin cfg0.N) (i : Fin 512) (j : Fin 512) (n : Fin 32768) (h : n.val = 512 * t.val + i.val) :
    iblk m c 2 t (ix2 i j) = m ((c : Thread nD τ).loc main_arg2) (ix2 n j) := by
  have e := idx2 t
  unfold iblk
  rw [View.read_apply, cast_eq]
  entry_read
  refine congrArg _ (Shape.idx_ext₂ ?_ ?_)
  · blk_simp [e.1]; show t.val * 512 + i.val = n.val; omega
  · blk_simp [e.2]

/-! The weights stay. -/

theorem iblk3 (t : Fin cfg0.N) (j : Fin 512) : iblk m c 3 t (ix2 0 j) = m ((c : Thread nD τ).loc main_arg3) (ix2 0 j) := by
  have e := idx3 t
  have e0 : (((cfg0.win 3).blk t).view.emb (ix2 0 j)) = (ix2 0 j : S1x512.Idx) := by
    refine Shape.idx_ext₂ ?_ ?_
    · blk_simp [e.1]
    · blk_simp [e.2]
  unfold iblk
  rw [View.read_apply, cast_eq]
  entry_read
  refine (congrArg _ e0).trans ((shapeCast_apply _ _ (ix2 0 j : S1x512.Idx) (ix1 j) ?_).trans (shapeCast_apply _ _ (ix1 j) (ix2 0 j) ?_))
  all_goals
    rw [Shape.rowMajor_val_one, Shape.rowMajor_val_two]
  · show j.val = 0 * 512 + j.val; omega
  · show 0 * 512 + j.val = j.val; omega

theorem iblk4 (t : Fin cfg0.N) (j : Fin 512) : iblk m c 4 t (ix2 0 j) = m ((c : Thread nD τ).loc main_arg4) (ix2 0 j) := by
  have e := idx4 t
  have e0 : (((cfg0.win 4).blk t).view.emb (ix2 0 j)) = (ix2 0 j : S1x512.Idx) := by
    refine Shape.idx_ext₂ ?_ ?_
    · blk_simp [e.1]
    · blk_simp [e.2]
  unfold iblk
  rw [View.read_apply, cast_eq]
  entry_read
  refine (congrArg _ e0).trans ((shapeCast_apply _ _ (ix2 0 j : S1x512.Idx) (ix1 j) ?_).trans (shapeCast_apply _ _ (ix1 j) (ix2 0 j) ?_))
  all_goals
    rw [Shape.rowMajor_val_one, Shape.rowMajor_val_two]
  · show j.val = 0 * 512 + j.val; omega
  · show 0 * 512 + j.val = j.val; omega

theorem iblk6 (t : Fin cfg0.N) (j : Fin 1024) : iblk m c 6 t (ix2 0 j) = m ((c : Thread nD τ).loc main_arg6) (ix2 0 j) := by
  have e := idx6 t
  have e0 : (((cfg0.win 6).blk t).view.emb (ix2 0 j)) = (ix2 0 j : S1x1024.Idx) := by
    refine Shape.idx_ext₂ ?_ ?_
    · blk_simp [e.1]
    · blk_simp [e.2]
  unfold iblk
  rw [View.read_apply, cast_eq]
  entry_read
  refine (congrArg _ e0).trans ((shapeCast_apply _ _ (ix2 0 j : S1x1024.Idx) (ix1 j) ?_).trans (shapeCast_apply _ _ (ix1 j) (ix2 0 j) ?_))
  all_goals
    rw [Shape.rowMajor_val_one, Shape.rowMajor_val_two]
  · show j.val = 0 * 1024 + j.val; omega
  · show 0 * 1024 + j.val = j.val; omega

theorem iblk7 (t : Fin cfg0.N) (j : Fin 1024) : iblk m c 7 t (ix2 0 j) = m ((c : Thread nD τ).loc main_arg7) (ix2 0 j) := by
  have e := idx7 t
  have e0 : (((cfg0.win 7).blk t).view.emb (ix2 0 j)) = (ix2 0 j : S1x1024.Idx) := by
    refine Shape.idx_ext₂ ?_ ?_
    · blk_simp [e.1]
    · blk_simp [e.2]
  unfold iblk
  rw [View.read_apply, cast_eq]
  entry_read
  refine (congrArg _ e0).trans ((shapeCast_apply _ _ (ix2 0 j : S1x1024.Idx) (ix1 j) ?_).trans (shapeCast_apply _ _ (ix1 j) (ix2 0 j) ?_))
  all_goals
    rw [Shape.rowMajor_val_one, Shape.rowMajor_val_two]
  · show j.val = 0 * 1024 + j.val; omega
  · show 0 * 1024 + j.val = j.val; omega

theorem iblk11 (t : Fin cfg0.N) (j : Fin 2816) : iblk m c 11 t (ix2 0 j) = m ((c : Thread nD τ).loc main_arg11) (ix2 0 j) := by
  have e := idx11 t
  have e0 : (((cfg0.win 11).blk t).view.emb (ix2 0 j)) = (ix2 0 j : S1x2816.Idx) := by
    refine Shape.idx_ext₂ ?_ ?_
    · blk_simp [e.1]
    · blk_simp [e.2]
  unfold iblk
  rw [View.read_apply, cast_eq]
  entry_read
  refine (congrArg _ e0).trans ((shapeCast_apply _ _ (ix2 0 j : S1x2816.Idx) (ix1 j) ?_).trans (shapeCast_apply _ _ (ix1 j) (ix2 0 j) ?_))
  all_goals
    rw [Shape.rowMajor_val_one, Shape.rowMajor_val_two]
  · show j.val = 0 * 2816 + j.val; omega
  · show 0 * 2816 + j.val = j.val; omega

theorem iblk13 (t : Fin cfg0.N) (j : Fin 1024) : iblk m c 13 t (ix2 0 j) = m ((c : Thread nD τ).loc main_arg13) (ix2 0 j) := by
  have e := idx13 t
  have e0 : (((cfg0.win 13).blk t).view.emb (ix2 0 j)) = (ix2 0 j : S1x1024.Idx) := by
    refine Shape.idx_ext₂ ?_ ?_
    · blk_simp [e.1]
    · blk_simp [e.2]
  unfold iblk
  rw [View.read_apply, cast_eq]
  entry_read
  refine (congrArg _ e0).trans ((shapeCast_apply _ _ (ix2 0 j : S1x1024.Idx) (ix1 j) ?_).trans (shapeCast_apply _ _ (ix1 j) (ix2 0 j) ?_))
  all_goals
    rw [Shape.rowMajor_val_one, Shape.rowMajor_val_two]
  · show j.val = 0 * 1024 + j.val; omega
  · show 0 * 1024 + j.val = j.val; omega

theorem iblk5 (t : Fin cfg0.N) (i : Fin 1024) (j : Fin 1024) :
    iblk m c 5 t (ix2 i j) = m ((c : Thread nD τ).loc main_arg5) (ix3 0 i j) := by
  have e := idx5 t
  have e0 : (((cfg0.win 5).blk t).view.emb (ix2 i j)) = (ix2 i j : S1024x1024.Idx) := by
    refine Shape.idx_ext₂ ?_ ?_
    · blk_simp [e.1]
    · blk_simp [e.2]
  unfold iblk
  rw [View.read_apply, cast_eq]
  entry_read
  refine (congrArg _ e0).trans (shapeCast_apply _ shapeCasts_S1x1024x1024_S1024x1024 (ix2 i j : S1024x1024.Idx) (ix3 0 i j) ?_)
  rw [Shape.rowMajor_val_two, Shape.rowMajor_val_three]
  show (0 * 1024 + i.val) * 1024 + j.val = i.val * 1024 + j.val
  omega

theorem iblk8 (t : Fin cfg0.N) (i : Fin 1024) (j : Fin 2816) :
    iblk m c 8 t (ix2 i j) = m ((c : Thread nD τ).loc main_arg8) (ix3 0 i j) := by
  have e := idx8 t
  have e0 : (((cfg0.win 8).blk t).view.emb (ix2 i j)) = (ix2 i j : S1024x2816.Idx) := by
    refine Shape.idx_ext₂ ?_ ?_
    · blk_simp [e.1]
    · blk_simp [e.2]
  unfold iblk
  rw [View.read_apply, cast_eq]
  entry_read
  refine (congrArg _ e0).trans (shapeCast_apply _ shapeCasts_S1x1024x2816_S1024x2816 (ix2 i j : S1024x2816.Idx) (ix3 0 i j) ?_)
  rw [Shape.rowMajor_val_two, Shape.rowMajor_val_three]
  show (0 * 1024 + i.val) * 2816 + j.val = i.val * 2816 + j.val
  omega

theorem iblk9 (t : Fin cfg0.N) (i : Fin 1024) (j : Fin 2816) :
    iblk m c 9 t (ix2 i j) = m ((c : Thread nD τ).loc main_arg9) (ix3 0 i j) := by
  have e := idx9 t
  have e0 : (((cfg0.win 9).blk t).view.emb (ix2 i j)) = (ix2 i j : S1024x2816.Idx) := by
    refine Shape.idx_ext₂ ?_ ?_
    · blk_simp [e.1]
    · blk_simp [e.2]
  unfold iblk
  rw [View.read_apply, cast_eq]
  entry_read
  refine (congrArg _ e0).trans (shapeCast_apply _ shapeCasts_S1x1024x2816_S1024x2816 (ix2 i j : S1024x2816.Idx) (ix3 0 i j) ?_)
  rw [Shape.rowMajor_val_two, Shape.rowMajor_val_three]
  show (0 * 1024 + i.val) * 2816 + j.val = i.val * 2816 + j.val
  omega

theorem iblk10 (t : Fin cfg0.N) (i : Fin 3) (j : Fin 2816) :
    iblk m c 10 t (ix2 i j) = m ((c : Thread nD τ).loc main_arg10) (ix3 0 i j) := by
  have e := idx10 t
  have e0 : (((cfg0.win 10).blk t).view.emb (ix2 i j)) = (ix2 i j : S3x2816.Idx) := by
    refine Shape.idx_ext₂ ?_ ?_
    · blk_simp [e.1]
    · blk_simp [e.2]
  unfold iblk
  rw [View.read_apply, cast_eq]
  entry_read
  refine (congrArg _ e0).trans (shapeCast_apply _ shapeCasts_S1x3x2816_S3x2816 (ix2 i j : S3x2816.Idx) (ix3 0 i j) ?_)
  rw [Shape.rowMajor_val_two, Shape.rowMajor_val_three]
  show (0 * 3 + i.val) * 2816 + j.val = i.val * 2816 + j.val
  omega

theorem iblk12 (t : Fin cfg0.N) (i : Fin 2816) (j : Fin 1024) :
    iblk m c 12 t (ix2 i j) = m ((c : Thread nD τ).loc main_arg12) (ix3 0 i j) := by
  have e := idx12 t
  have e0 : (((cfg0.win 12).blk t).view.emb (ix2 i j)) = (ix2 i j : S2816x1024.Idx) := by
    refine Shape.idx_ext₂ ?_ ?_
    · blk_simp [e.1]
    · blk_simp [e.2]
  unfold iblk
  rw [View.read_apply, cast_eq]
  entry_read
  refine (congrArg _ e0).trans (shapeCast_apply _ shapeCasts_S1x2816x1024_S2816x1024 (ix2 i j : S2816x1024.Idx) (ix3 0 i j) ?_)
  rw [Shape.rowMajor_val_two, Shape.rowMajor_val_three]
  show (0 * 2816 + i.val) * 1024 + j.val = i.val * 1024 + j.val
  omega

end Cert.TailIdeal.Entry
-- ==== Proof.Tail.Layer.lean ====
/- The layer's tail over all the tokens, as functions of the program's arguments. The rows are numbered through the
   eight sequences of 4096 tokens; the convolution does not look across a sequence's first token. -/
module

public import proofs.«01_k».proof.Proof.Tail.Rows
public import Idealize.ShloMosaic.Lib.ValueIdxCore

@[expose] public section

noncomputable section

namespace TailRows

open Idealize.ShloMosaic

/-- The tail's arguments: the residual stream by sequence and token, the two branches by row, the weights. -/
structure Args where
  x : Fin 8 → Fin 4096 → Fin 1024 → EReal
  a : Fin 32768 → Fin 512 → EReal
  s : Fin 32768 → Fin 512 → EReal
  W : Weights

/-- Row `n` after the mixing branch. -/
def Args.row (A : Args) (n : ℕ) : Fin 1024 → EReal :=
  TailRows.mix A.W (A.x ⟨n / 4096 % 8, Nat.mod_lt _ (by decide)⟩ ⟨n % 4096, Nat.mod_lt _ (by decide)⟩)
    (A.a ⟨n % 32768, Nat.mod_lt _ (by decide)⟩) (A.s ⟨n % 32768, Nat.mod_lt _ (by decide)⟩)

/-- Row `n`'s gate. -/
def Args.gate (A : Args) (n : ℕ) : Fin 2816 → EReal := TailRows.gate A.W (A.row n)

/-- The gate `k` rows back in the same sequence, zero before its first token. -/
def Args.back (A : Args) (n k : ℕ) : Fin 2816 → EReal := if n % 4096 < k then fun _ => 0 else A.gate (n - k)

/-- Row `n` of the layer's result. -/
def Args.y (A : Args) (n : ℕ) : Fin 1024 → EReal := out A.W (A.row n) (A.back n 1) (A.back n 2)

/-- What the kernel's scratch holds after point `t`: eight rows of the point before (zeros at a sequence's first
    point), then the point's 512 rows of gates. -/
def Args.scr (A : Args) (t r : ℕ) : Fin 2816 → EReal := if r < 8 ∧ t % 8 = 0 then fun _ => 0 else A.gate (512 * t + r - 8)

theorem Args.scr_own (A : Args) (t n : ℕ) : A.scr t (8 + n) = A.gate (512 * t + n) := by
  unfold Args.scr
  rw [if_neg (by omega), show 512 * t + (8 + n) - 8 = 512 * t + n by omega]

theorem Args.scr_prev (A : Args) (t r : ℕ) (h0 : ¬t % 8 = 0) (hr : r < 8) : A.scr t r = A.scr (t - 1) (512 + r) := by
  unfold Args.scr
  rw [if_neg (fun h => h0 h.2), if_neg (by omega)]
  congr 1; omega

theorem Args.scr_zero (A : Args) (t r : ℕ) (h0 : t % 8 = 0) (hr : r < 8) : A.scr t r = fun _ => 0 := if_pos ⟨hr, h0⟩

theorem Args.scr_back (A : Args) (t n k : ℕ) (hn : n < 512) (hk : k ≤ 8) : A.scr t (8 - k + n) = A.back (512 * t + n) k := by
  unfold Args.scr Args.back
  by_cases h : (512 * t + n) % 4096 < k
  · rw [if_pos h, if_pos (by omega)]
  · rw [if_neg h, if_neg (by omega)]
    congr 1; omega

end TailRows
-- ==== Proof.Tail.Point.lean ====
/- What the tail kernel's output blocks and scratch hold after each grid point: the layer's rows of the arguments. -/
module

public import proofs.«01_k».proof.Proof.Tail.Block
public import proofs.«01_k».proof.Proof.Tail.RunA
public import proofs.«01_k».proof.Proof.Tail.RunB
public import proofs.«01_k».proof.Proof.Tail.Entry
public import proofs.«01_k».proof.Proof.Tail.Layer

@[expose] public section

set_option maxRecDepth 16384

noncomputable section

namespace Cert.TailIdeal.Point

open Idealize.ShloMosaic Idealize.ShloMosaic.TcCoe Idealize.SL.Sem Cert.TailIdeal Cert.TailIdeal.Gen
open Idealize.ShloMosaic.ValueIdx TailRows Cert.TailIdeal.Body Cert.TailIdeal.Entry

variable (m : (ℓ : Loc nD τ sig) → Buf (Elt Ideal) ℓ) (c : Dev nD)

/-- The program's arguments. -/
def args : Args where
  x p q k := m ((c : Thread nD τ).loc main_arg0) (ix3 p q k)
  a n k := m ((c : Thread nD τ).loc main_arg1) (ix2 n k)
  s n k := m ((c : Thread nD τ).loc main_arg2) (ix2 n k)
  W := {
    ga k := m ((c : Thread nD τ).loc main_arg3) (ix2 0 k)
    gs k := m ((c : Thread nD τ).loc main_arg4) (ix2 0 k)
    wo k j := m ((c : Thread nD τ).loc main_arg5) (ix3 0 k j)
    gpm k := m ((c : Thread nD τ).loc main_arg6) (ix2 0 k)
    g k := m ((c : Thread nD τ).loc main_arg7) (ix2 0 k)
    wg k f := m ((c : Thread nD τ).loc main_arg8) (ix3 0 k f)
    wu k f := m ((c : Thread nD τ).loc main_arg9) (ix3 0 k f)
    cw q f := m ((c : Thread nD τ).loc main_arg10) (ix3 0 q f)
    cb f := m ((c : Thread nD τ).loc main_arg11) (ix2 0 f)
    wd f j := m ((c : Thread nD τ).loc main_arg12) (ix3 0 f j)
    gpost k := m ((c : Thread nD τ).loc main_arg13) (ix2 0 k) }

/-- The weights' blocks are the weights, at every point. -/
theorem weights (t : Fin cfg0.N) :
    Wof (iblk m c 3 t) (iblk m c 4 t) (iblk m c 5 t) (iblk m c 6 t) (iblk m c 7 t) (iblk m c 8 t) (iblk m c 9 t) (iblk m c 10 t)
      (iblk m c 11 t) (iblk m c 12 t) (iblk m c 13 t) = (args m c).W := by
  unfold Wof args
  congr 1
  · exact funext fun k => iblk3 m c t k
  · exact funext fun k => iblk4 m c t k
  · exact funext fun k => funext fun j => iblk5 m c t k j
  · exact funext fun k => iblk6 m c t k
  · exact funext fun k => iblk7 m c t k
  · exact funext fun k => funext fun j => iblk8 m c t k j
  · exact funext fun k => funext fun j => iblk9 m c t k j
  · exact funext fun k => funext fun j => iblk10 m c t k j
  · exact funext fun k => iblk11 m c t k
  · exact funext fun k => funext fun j => iblk12 m c t k j
  · exact funext fun k => iblk13 m c t k

/-- Row `n` of the block at point `t` is row `512 t + n`. -/
theorem rows (t : Fin cfg0.N) (n : Fin 512) :
    rowB (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) n = (args m c).row (512 * t.val + n.val) := by
  have ht : t.val < 64 := lt_of_lt_of_eq t.isLt (show cfg0.N = 64 from N_0)
  unfold rowB
  rw [weights]
  unfold Args.row
  congr 1
  · exact funext fun k => iblk0 m c t n k ⟨512 * t.val + n.val, by omega⟩ rfl _ _ (by show 512 * t.val + n.val = 4096 * ((512 * t.val + n.val) / 4096 % 8) + (512 * t.val + n.val) % 4096; omega)
  · exact funext fun k => iblk1 m c t n k _ (by show (512 * t.val + n.val) % 32768 = _; omega)
  · exact funext fun k => iblk2 m c t n k _ (by show (512 * t.val + n.val) % 32768 = _; omega)

/-- What point `t` leaves, in its three blocks. -/
def Leaves (t : ℕ) (o : Vec Ideal S512x1024 .f32 × Vec Ideal S1x2x2816 .f32 × Vec Ideal S520x2816 .f32) : Prop :=
  (∀ (n : ℕ) (hn : n < 520) (f : Fin 2816), o.2.2 (ix2 ⟨n, hn⟩ f : S520x2816.Idx) = (args m c).scr t n f) ∧
  (∀ (n : Fin 512) (j : Fin 1024), o.1 (ix2 n j : S512x1024.Idx) = (args m c).y (512 * t + n.val) j) ∧
  (∀ (p : Fin 2) (f : Fin 2816), o.2.1 (ix3 0 p f : S1x2x2816.Idx) = (args m c).gate (512 * t + 510 + p.val) f)

/-- The first store decides the rest. -/
theorem leaves_of (t : Fin cfg0.N) (H : Pcs) (hp : View.PiecesOf (G ((args m c).scr t.val)) H) (hc : ∀ n f, n < 8 → Cov H n f)
    (o : Vec Ideal S512x1024 .f32 × Vec Ideal S1x2x2816 .f32 × Vec Ideal S520x2816 .f32)
    (e1 : o.1 = View.canon (out14 (Loads.of (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t)) rcc H))
    (e2 : o.2.1 = View.canon (out15 (Loads.of (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t)) rcc H))
    (e3 : o.2.2 = View.canon (s1 (Loads.of (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t)) rcc H).1) :
    Leaves m c t.val o := by
  obtain ⟨s, y, cn⟩ := block_spec (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) hp hc fun n => by
        rw [rows, weights]; exact (args m c).scr_own t.val n.val
  refine ⟨fun n hn f => by rw [e3]; exact s n hn f, fun n j => ?_, fun p f => ?_⟩
  · rw [e1]
    refine (y n j).trans ?_
    rw [rows, weights]
    exact congrArg₂ (fun a b => out (args m c).W _ a b j) ((args m c).scr_back t.val n.val 1 n.isLt (by omega)) ((args m c).scr_back t.val n.val 2 n.isLt (by omega))
  · rw [e2]
    refine (cn p f).trans ?_
    have := (args m c).scr_own t.val (510 + p.val)
    rw [show 8 + (510 + p.val) = 518 + p.val by omega, ← Nat.add_assoc] at this
    exact congrFun this f

theorem cov8 (pay : S8x2816.Idx → Elt Ideal .f32) (n : ℕ) (f : Fin 2816) (hn : n < 8) :
    Cov [⟨Rect.unit ![0, 0] S8x2816.size inb_S520x2816_S8x2816_0_0, pay⟩] n f :=
  ⟨_, List.mem_cons_self, fun hr => (Rect.mem_set_unit (inb := inb_S520x2816_S8x2816_0_0)).mpr fun a => match a with
    | ⟨0, _⟩ => by show 0 ≤ n ∧ n < 0 + 8; omega
    | ⟨1, _⟩ => by show 0 ≤ f.val ∧ f.val < 0 + 2816; omega⟩

theorem pieces8 (Γ : ℕ → Fin 2816 → EReal) (pay : S8x2816.Idx → Elt Ideal .f32) (h : ∀ (n : Fin 8) (f : Fin 2816), pay (ix2 n f) = Γ n.val f) :
    View.PiecesOf (G Γ) [⟨Rect.unit ![0, 0] S8x2816.size inb_S520x2816_S8x2816_0_0, pay⟩] := by
  refine ⟨fun x => ?_, trivial⟩
  obtain ⟨i, q, rfl⟩ : ∃ (i : Fin 8) (q : Fin 2816), x = ix2 i q := ⟨_, _, eq_ix2 x⟩
  have e : (Rect.unit (s := S520x2816) ![0, 0] S8x2816.size inb_S520x2816_S8x2816_0_0).emb (ix2 i q : Shape.Idx _) = (ix2 ⟨i.val, by omega⟩ q : S520x2816.Idx) := by
    funext a; match a with
    | ⟨0, _⟩ => exact Fin.ext ((Rect.idx_unit_val _ _ _ _ 0).trans (Nat.zero_add _))
    | ⟨1, _⟩ => exact Fin.ext ((Rect.idx_unit_val _ _ _ _ 1).trans (Nat.zero_add _))
  exact (h i q).trans (congrArg (G Γ) e).symm

theorem pay3_apply (x : S8x2816.Idx) : (k0_pay3 : FVec Ideal S8x2816 .f32) x = (0 : EReal) := by
  unfold k0_pay3
  exact (congrFun (shapeCast_self _ _) _).trans Ideal.ofBits_zero_f32

theorem pay4_apply (v : Vec Ideal S8x2816 .f32) (x : S8x2816.Idx) : k0_pay4 v x = v x := by
  unfold k0_pay4
  exact congrFun (shapeCast_self _ _) _

theorem at_A_out14 (t : Fin cfg0.N) (h0 : t.val % 8 = 0) (h1 : ¬¬(t.val % 8 = 0)) :
    (outsAt0 m c t.val t.isLt).1 = View.canon (out14 (Loads.of (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t)) rcc top0) := by
  rw [outsAt0_A m c t h0 h1]
  dsimp only
  rw [out14_A_eq]

theorem at_A_out15 (t : Fin cfg0.N) (h0 : t.val % 8 = 0) (h1 : ¬¬(t.val % 8 = 0)) :
    (outsAt0 m c t.val t.isLt).2.1 = View.canon (out15 (Loads.of (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t)) rcc top0) := by
  rw [outsAt0_A m c t h0 h1]
  dsimp only
  rw [out15_A_eq]

theorem at_A_scr (t : Fin cfg0.N) (h0 : t.val % 8 = 0) (h1 : ¬¬(t.val % 8 = 0)) :
    (outsAt0 m c t.val t.isLt).2.2 = View.canon (s1 (Loads.of (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t)) rcc top0).1 := by
  rw [outsAt0_A m c t h0 h1]
  dsimp only
  rw [scr_A_eq]

theorem at_B_out14 (t : Fin cfg0.N) (h0 : ¬t.val % 8 = 0) (h1 : ¬(t.val % 8 = 0)) :
    (outsAt0 m c t.val t.isLt).1 = View.canon (out14 (Loads.of (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t)) rcc (topOf (outsAt0 m c (t.val - 1) (Nat.lt_of_le_of_lt (Nat.sub_le _ _) t.isLt)).2.2)) := by
  rw [outsAt0_B m c t h0 h1]
  dsimp only
  rw [out14_B_eq]

theorem at_B_out15 (t : Fin cfg0.N) (h0 : ¬t.val % 8 = 0) (h1 : ¬(t.val % 8 = 0)) :
    (outsAt0 m c t.val t.isLt).2.1 = View.canon (out15 (Loads.of (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t)) rcc (topOf (outsAt0 m c (t.val - 1) (Nat.lt_of_le_of_lt (Nat.sub_le _ _) t.isLt)).2.2)) := by
  rw [outsAt0_B m c t h0 h1]
  dsimp only
  rw [out15_B_eq]

theorem at_B_scr (t : Fin cfg0.N) (h0 : ¬t.val % 8 = 0) (h1 : ¬(t.val % 8 = 0)) :
    (outsAt0 m c t.val t.isLt).2.2 = View.canon (s1 (Loads.of (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t)) rcc (topOf (outsAt0 m c (t.val - 1) (Nat.lt_of_le_of_lt (Nat.sub_le _ _) t.isLt)).2.2)).1 := by
  rw [outsAt0_B m c t h0 h1]
  dsimp only
  rw [scr_B_eq]

/-- Every point leaves the layer's rows. -/
theorem leaves : ∀ (n : ℕ) (hn : n < cfg0.N), Leaves m c n (outsAt0 m c n hn) := by
  intro n
  induction n using Nat.strong_induction_on with
  | _ n ih =>
    intro hn
    by_cases h0 : n % 8 = 0
    · refine leaves_of m c ⟨n, hn⟩ top0 (pieces8 _ _ fun i f => ?_) (cov8 _) _ (at_A_out14 m c ⟨n, hn⟩ h0 (fun h => h h0))
        (at_A_out15 m c ⟨n, hn⟩ h0 (fun h => h h0)) (at_A_scr m c ⟨n, hn⟩ h0 (fun h => h h0))
      rw [(args m c).scr_zero n i.val h0 i.isLt]
      exact pay3_apply _
    · have hp := (ih (n - 1) (by omega) (by omega)).1
      refine leaves_of m c ⟨n, hn⟩ (topOf (outsAt0 m c (n - 1) (by omega)).2.2) (pieces8 _ _ fun i f => ?_) (cov8 _) _
        (at_B_out14 m c ⟨n, hn⟩ h0 h0) (at_B_out15 m c ⟨n, hn⟩ h0 h0) (at_B_scr m c ⟨n, hn⟩ h0 h0)
      refine Eq.trans ?_ ((hp (512 + i.val) (by omega) f).trans (congrFun ((args m c).scr_prev n i.val h0 i.isLt).symm f))
      refine (pay4_apply _ _).trans (View.ld_unit_apply_of (S := S520x2816) _ ![512, 0] S8x2816.size inb_S520x2816_S8x2816_512_0 (ix2 i f) (ix2 ⟨512 + i.val, by omega⟩ f : S520x2816.Idx) ?_)
      intro a; match a with | ⟨0, _⟩ => rfl | ⟨1, _⟩ => exact (Nat.zero_add _).symm

end Cert.TailIdeal.Point
-- ==== Proof.Tail.RefNorm.lean ====
/- The reference's five normalisations, read at an index as a row over its root mean square. -/
module

public import proofs.«01_k».proof.Proof.Gen.TailRefIdeal.Read
public import proofs.«01_k».proof.Proof.Tail.Layer
public import Idealize.ShloMosaic.Lib.Pipeline.Value
public import Idealize.ShloMosaic.PureOps.Ideal.Laws

@[expose] public section

set_option maxRecDepth 16384

noncomputable section

namespace Cert.TailRefIdeal.Rows

open Idealize.ShloMosaic Cert.TailRefIdeal Cert.TailRefIdeal.Gen Cert.TailRefIdeal.Read
open Idealize.ShloMosaic.ValueIdx TailRows
open scoped BigOperators

variable (x0 : (⟨S8x4096x1024, .f32⟩ : BufTy).Contents (Elt Ideal)) (x1 x2 : (⟨S32768x512, .f32⟩ : BufTy).Contents (Elt Ideal))
    (x3 x4 : (⟨S1x512, .f32⟩ : BufTy).Contents (Elt Ideal)) (x5 : (⟨S1x1024x1024, .f32⟩ : BufTy).Contents (Elt Ideal))
    (x6 x7 : (⟨S1x1024, .f32⟩ : BufTy).Contents (Elt Ideal)) (x8 x9 : (⟨S1x1024x2816, .f32⟩ : BufTy).Contents (Elt Ideal))
    (x10 : (⟨S1x3x2816, .f32⟩ : BufTy).Contents (Elt Ideal)) (x11 : (⟨S1x2816, .f32⟩ : BufTy).Contents (Elt Ideal))
    (x12 : (⟨S1x2816x1024, .f32⟩ : BufTy).Contents (Elt Ideal)) (x13 : (⟨S1x1024, .f32⟩ : BufTy).Contents (Elt Ideal))

theorem rms_v15 (p : Fin 8) (q : Fin 4096) (k : Fin 512) : val_main_v15 (F := Ideal) x1 x3 (ix3 p q k)
    = rms c512 (fun k => val_main_v0 (F := Ideal) x1 (ix3 p q k)) (fun k => x3 (ix2 0 k)) k := by
  have e1 : ∀ k' : Fin 512, idx_main_v4 (idx_main_v5 (idx_main_v11 (ix3 p q k))) k' = ix3 p q k' := fun k' => by
    funext a; match a with | ⟨0, _⟩ => rfl | ⟨1, _⟩ => rfl | ⟨2, _⟩ => rfl
  have e2 : idx_main_v2 (idx_main_v13 (idx_main_v14 (ix3 p q k))) = ix2 0 k := by
    funext a; match a with | ⟨0, _⟩ => rfl | ⟨1, _⟩ => exact Fin.ext (Nat.mod_eq_of_lt k.isLt)
  rw [val_main_v15_apply, val_main_v12_apply, val_main_v11_apply, val_main_v10_apply, val_main_v9_apply, val_main_v7_apply, val_main_v5_apply, val_main_v4_apply,
    val_main_v6_apply, val_main_v8_apply, val_main_v14_apply, val_main_v13_apply, val_main_v2_apply, e2]
  simp only [e1, val_main_v3_apply]
  rw [show (val_main_cst (F := Ideal)) (Shape.Idx.first h_S_) = (0 : EReal) from Ideal.ofBits_zero_f32, zero_add]
  rfl

theorem rms_v29 (p : Fin 8) (q : Fin 4096) (k : Fin 512) : val_main_v29 (F := Ideal) x2 x4 (ix3 p q k)
    = rms c512 (fun k => val_main_v1 (F := Ideal) x2 (ix3 p q k)) (fun k => x4 (ix2 0 k)) k := by
  have e1 : ∀ k' : Fin 512, idx_main_v18 (idx_main_v19 (idx_main_v25 (ix3 p q k))) k' = ix3 p q k' := fun k' => by
    funext a; match a with | ⟨0, _⟩ => rfl | ⟨1, _⟩ => rfl | ⟨2, _⟩ => rfl
  have e2 : idx_main_v16 (idx_main_v27 (idx_main_v28 (ix3 p q k))) = ix2 0 k := by
    funext a; match a with | ⟨0, _⟩ => rfl | ⟨1, _⟩ => exact Fin.ext (Nat.mod_eq_of_lt k.isLt)
  rw [val_main_v29_apply, val_main_v26_apply, val_main_v25_apply, val_main_v24_apply, val_main_v23_apply, val_main_v21_apply, val_main_v19_apply, val_main_v18_apply,
    val_main_v20_apply, val_main_v22_apply, val_main_v28_apply, val_main_v27_apply, val_main_v16_apply, e2]
  simp only [e1, val_main_v17_apply]
  rw [show (val_main_cst_2 (F := Ideal)) (Shape.Idx.first h_S_) = (0 : EReal) from Ideal.ofBits_zero_f32, zero_add]
  rfl

theorem rms_v46 (p : Fin 8) (q : Fin 4096) (k : Fin 1024) : val_main_v46 (F := Ideal) x1 x2 x3 x4 x5 x6 (ix3 p q k)
    = rms c1024 (fun k => val_main_v32 (F := Ideal) x1 x2 x3 x4 x5 (ix3 p q k)) (fun k => x6 (ix2 0 k)) k := by
  have e1 : ∀ k' : Fin 1024, idx_main_v35 (idx_main_v36 (idx_main_v42 (ix3 p q k))) k' = ix3 p q k' := fun k' => by
    funext a; match a with | ⟨0, _⟩ => rfl | ⟨1, _⟩ => rfl | ⟨2, _⟩ => rfl
  have e2 : idx_main_v33 (idx_main_v44 (idx_main_v45 (ix3 p q k))) = ix2 0 k := by
    funext a; match a with | ⟨0, _⟩ => rfl | ⟨1, _⟩ => exact Fin.ext (Nat.mod_eq_of_lt k.isLt)
  rw [val_main_v46_apply, val_main_v43_apply, val_main_v42_apply, val_main_v41_apply, val_main_v40_apply, val_main_v38_apply, val_main_v36_apply, val_main_v35_apply,
    val_main_v37_apply, val_main_v39_apply, val_main_v45_apply, val_main_v44_apply, val_main_v33_apply, e2]
  simp only [e1, val_main_v34_apply]
  rw [show (val_main_cst_5 (F := Ideal)) (Shape.Idx.first h_S_) = (0 : EReal) from Ideal.ofBits_zero_f32, zero_add]
  rfl

theorem rms_v61 (p : Fin 8) (q : Fin 4096) (k : Fin 1024) : val_main_v61 (F := Ideal) x0 x1 x2 x3 x4 x5 x6 x7 (ix3 p q k)
    = rms c1024 (fun k => val_main_v47 (F := Ideal) x0 x1 x2 x3 x4 x5 x6 (ix3 p q k)) (fun k => x7 (ix2 0 k)) k := by
  have e1 : ∀ k' : Fin 1024, idx_main_v50 (idx_main_v51 (idx_main_v57 (ix3 p q k))) k' = ix3 p q k' := fun k' => by
    funext a; match a with | ⟨0, _⟩ => rfl | ⟨1, _⟩ => rfl | ⟨2, _⟩ => rfl
  have e2 : idx_main_v48 (idx_main_v59 (idx_main_v60 (ix3 p q k))) = ix2 0 k := by
    funext a; match a with | ⟨0, _⟩ => rfl | ⟨1, _⟩ => exact Fin.ext (Nat.mod_eq_of_lt k.isLt)
  rw [val_main_v61_apply, val_main_v58_apply, val_main_v57_apply, val_main_v56_apply, val_main_v55_apply, val_main_v53_apply, val_main_v51_apply, val_main_v50_apply,
    val_main_v52_apply, val_main_v54_apply, val_main_v60_apply, val_main_v59_apply, val_main_v48_apply, e2]
  simp only [e1, val_main_v49_apply]
  rw [show (val_main_cst_8 (F := Ideal)) (Shape.Idx.first h_S_) = (0 : EReal) from Ideal.ofBits_zero_f32, zero_add]
  rfl

theorem rms_v126 (p : Fin 8) (q : Fin 4096) (k : Fin 1024) : val_main_v126 (F := Ideal) x0 x1 x2 x3 x4 x5 x6 x7 x8 x9 x10 x11 x12 x13 (ix3 p q k)
    = rms c1024 (fun k => val_main_v112 (F := Ideal) x0 x1 x2 x3 x4 x5 x6 x7 x8 x9 x10 x11 x12 (ix3 p q k)) (fun k => x13 (ix2 0 k)) k := by
  have e1 : ∀ k' : Fin 1024, idx_main_v115 (idx_main_v116 (idx_main_v122 (ix3 p q k))) k' = ix3 p q k' := fun k' => by
    funext a; match a with | ⟨0, _⟩ => rfl | ⟨1, _⟩ => rfl | ⟨2, _⟩ => rfl
  have e2 : idx_main_v113 (idx_main_v124 (idx_main_v125 (ix3 p q k))) = ix2 0 k := by
    funext a; match a with | ⟨0, _⟩ => rfl | ⟨1, _⟩ => exact Fin.ext (Nat.mod_eq_of_lt k.isLt)
  rw [val_main_v126_apply, val_main_v123_apply, val_main_v122_apply, val_main_v121_apply, val_main_v120_apply, val_main_v118_apply, val_main_v116_apply, val_main_v115_apply,
    val_main_v117_apply, val_main_v119_apply, val_main_v125_apply, val_main_v124_apply, val_main_v113_apply, e2]
  simp only [e1, val_main_v114_apply]
  rw [show (val_main_cst_17 (F := Ideal)) (Shape.Idx.first h_S_) = (0 : EReal) from Ideal.ofBits_zero_f32, zero_add]
  rfl

end Cert.TailRefIdeal.Rows
-- ==== Proof.Tail.Ref.lean ====
/- The reference's results, read at an index as the layer's rows. -/
module

public import proofs.«01_k».proof.Proof.Gen.TailRefIdeal.Read
public import proofs.«01_k».proof.Proof.Tail.Layer
public import Idealize.ShloMosaic.Lib.Pipeline.Value
public import Idealize.ShloMosaic.PureOps.Ideal.Laws
public import proofs.«01_k».proof.Proof.Tail.RefNorm

@[expose] public section

set_option maxRecDepth 16384

noncomputable section

namespace Cert.TailRefIdeal.Rows

open Idealize.ShloMosaic Cert.TailRefIdeal Cert.TailRefIdeal.Gen Cert.TailRefIdeal.Read
open Idealize.ShloMosaic.ValueIdx TailRows
open scoped BigOperators

theorem sum_halves (A : Fin 1024 → EReal) : ∑ k, A k = (∑ k : Fin 512, A ⟨k.val, by omega⟩) + ∑ k : Fin 512, A ⟨512 + k.val, by omega⟩ :=
  Fin.sum_univ_add (a := 512) (b := 512) A

variable (x0 : (⟨S8x4096x1024, .f32⟩ : BufTy).Contents (Elt Ideal)) (x1 x2 : (⟨S32768x512, .f32⟩ : BufTy).Contents (Elt Ideal))
    (x3 x4 : (⟨S1x512, .f32⟩ : BufTy).Contents (Elt Ideal)) (x5 : (⟨S1x1024x1024, .f32⟩ : BufTy).Contents (Elt Ideal))
    (x6 x7 : (⟨S1x1024, .f32⟩ : BufTy).Contents (Elt Ideal)) (x8 x9 : (⟨S1x1024x2816, .f32⟩ : BufTy).Contents (Elt Ideal))
    (x10 : (⟨S1x3x2816, .f32⟩ : BufTy).Contents (Elt Ideal)) (x11 : (⟨S1x2816, .f32⟩ : BufTy).Contents (Elt Ideal))
    (x12 : (⟨S1x2816x1024, .f32⟩ : BufTy).Contents (Elt Ideal)) (x13 : (⟨S1x1024, .f32⟩ : BufTy).Contents (Elt Ideal))

/-- The reference's arguments. -/
def argsOf : Args where
  x p q k := x0 (ix3 p q k)
  a n k := x1 (ix2 n k)
  s n k := x2 (ix2 n k)
  W := {
    ga k := x3 (ix2 0 k)
    gs k := x4 (ix2 0 k)
    wo k j := x5 (ix3 0 k j)
    gpm k := x6 (ix2 0 k)
    g k := x7 (ix2 0 k)
    wg k f := x8 (ix3 0 k f)
    wu k f := x9 (ix3 0 k f)
    cw q f := x10 (ix3 0 q f)
    cb f := x11 (ix2 0 f)
    wd f j := x12 (ix3 0 f j)
    gpost k := x13 (ix2 0 k) }

theorem row_eq (p : Fin 8) (q : Fin 4096) : (argsOf x0 x1 x2 x3 x4 x5 x6 x7 x8 x9 x10 x11 x12 x13).row (4096 * p.val + q.val)
    = TailRows.mix (argsOf x0 x1 x2 x3 x4 x5 x6 x7 x8 x9 x10 x11 x12 x13).W (fun k => x0 (ix3 p q k)) (fun k => x1 (ix2 ⟨4096 * p.val + q.val, by omega⟩ k)) (fun k => x2 (ix2 ⟨4096 * p.val + q.val, by omega⟩ k)) := by
  have h0 : (⟨(4096 * p.val + q.val) / 4096 % 8, Nat.mod_lt _ (by decide)⟩ : Fin 8) = p := Fin.ext (by show (4096 * p.val + q.val) / 4096 % 8 = p.val; omega)
  have h1 : (⟨(4096 * p.val + q.val) % 4096, Nat.mod_lt _ (by decide)⟩ : Fin 4096) = q := Fin.ext (by show (4096 * p.val + q.val) % 4096 = q.val; omega)
  have h2 : (⟨(4096 * p.val + q.val) % 32768, Nat.mod_lt _ (by decide)⟩ : Fin 32768) = ⟨4096 * p.val + q.val, by omega⟩ :=
    Fin.ext (Nat.mod_eq_of_lt (by omega))
  unfold Args.row
  rw [h0, h1, h2]
  rfl

theorem v0_row (p : Fin 8) (q : Fin 4096) (k : Fin 512) : val_main_v0 (F := Ideal) x1 (ix3 p q k) = x1 (ix2 ⟨4096 * p.val + q.val, by omega⟩ k) := by
  rw [val_main_v0_apply]
  refine congrArg x1 (Shape.idx_ext₂ ?_ ?_)
  · show ((p.val * 4096 + q.val) * 512 + k.val) / 512 = 4096 * p.val + q.val; omega
  · show ((p.val * 4096 + q.val) * 512 + k.val) % 512 = k.val; omega

theorem v1_row (p : Fin 8) (q : Fin 4096) (k : Fin 512) : val_main_v1 (F := Ideal) x2 (ix3 p q k) = x2 (ix2 ⟨4096 * p.val + q.val, by omega⟩ k) := by
  rw [val_main_v1_apply]
  refine congrArg x2 (Shape.idx_ext₂ ?_ ?_)
  · show ((p.val * 4096 + q.val) * 512 + k.val) / 512 = 4096 * p.val + q.val; omega
  · show ((p.val * 4096 + q.val) * 512 + k.val) % 512 = k.val; omega

theorem v30_left (p : Fin 8) (q : Fin 4096) (k : Fin 512) : val_main_v30 (F := Ideal) x1 x2 x3 x4 (ix3 p q ⟨k.val, by omega⟩) = val_main_v15 (F := Ideal) x1 x3 (ix3 p q k) := by
  unfold val_main_v30
  exact concatenate_pair_apply_left (t := S8x4096x1024) (s₁ := S8x4096x512) (s₂ := S8x4096x512) 2 _ _ _ _ rfl (ix3 p q k) fun b => match b with | ⟨0, _⟩ => rfl | ⟨1, _⟩ => rfl | ⟨2, _⟩ => rfl

theorem v30_right (p : Fin 8) (q : Fin 4096) (k : Fin 512) : val_main_v30 (F := Ideal) x1 x2 x3 x4 (ix3 p q ⟨512 + k.val, by omega⟩) = val_main_v29 (F := Ideal) x2 x4 (ix3 p q k) := by
  unfold val_main_v30
  exact concatenate_pair_apply_right (t := S8x4096x1024) (s₁ := S8x4096x512) (s₂ := S8x4096x512) 2 _ _ _ _ rfl rfl (ix3 p q k) (fun b hb => match b with | ⟨0, _⟩ => rfl | ⟨1, _⟩ => rfl | ⟨2, _⟩ => absurd rfl hb) (by show k.val + 512 = 512 + k.val; omega)

theorem w31 (k : Fin 1024) (j : Fin 1024) : val_main_v31 (F := Ideal) x5 (ix2 k j) = x5 (ix3 0 k j) := by
  rw [val_main_v31_apply]
  refine congrArg x5 ?_
  funext a; match a with
  | ⟨0, _⟩ => rfl
  | ⟨1, _⟩ => exact Fin.ext (by show (k.val * 1024 + j.val) / 1024 % 1024 = k.val; omega)
  | ⟨2, _⟩ => exact Fin.ext (by show (k.val * 1024 + j.val) % 1024 = j.val; omega)

theorem w62 (k : Fin 1024) (j : Fin 2816) : val_main_v62 (F := Ideal) x8 (ix2 k j) = x8 (ix3 0 k j) := by
  rw [val_main_v62_apply]
  refine congrArg x8 ?_
  funext a; match a with
  | ⟨0, _⟩ => rfl
  | ⟨1, _⟩ => exact Fin.ext (by show (k.val * 2816 + j.val) / 2816 % 1024 = k.val; omega)
  | ⟨2, _⟩ => exact Fin.ext (by show (k.val * 2816 + j.val) % 2816 = j.val; omega)

theorem w64 (k : Fin 1024) (j : Fin 2816) : val_main_v64 (F := Ideal) x9 (ix2 k j) = x9 (ix3 0 k j) := by
  rw [val_main_v64_apply]
  refine congrArg x9 ?_
  funext a; match a with
  | ⟨0, _⟩ => rfl
  | ⟨1, _⟩ => exact Fin.ext (by show (k.val * 2816 + j.val) / 2816 % 1024 = k.val; omega)
  | ⟨2, _⟩ => exact Fin.ext (by show (k.val * 2816 + j.val) % 2816 = j.val; omega)

theorem w111 (k : Fin 2816) (j : Fin 1024) : val_main_v111 (F := Ideal) x12 (ix2 k j) = x12 (ix3 0 k j) := by
  rw [val_main_v111_apply]
  refine congrArg x12 ?_
  funext a; match a with
  | ⟨0, _⟩ => rfl
  | ⟨1, _⟩ => exact Fin.ext (by show (k.val * 1024 + j.val) / 1024 % 2816 = k.val; omega)
  | ⟨2, _⟩ => exact Fin.ext (by show (k.val * 1024 + j.val) % 1024 = j.val; omega)

theorem merge_v32 (p : Fin 8) (q : Fin 4096) (j : Fin 1024) : val_main_v32 (F := Ideal) x1 x2 x3 x4 x5 (ix3 p q j)
    = merge (argsOf x0 x1 x2 x3 x4 x5 x6 x7 x8 x9 x10 x11 x12 x13).W (fun k => x1 (ix2 ⟨4096 * p.val + q.val, by omega⟩ k)) (fun k => x2 (ix2 ⟨4096 * p.val + q.val, by omega⟩ k)) j := by
  have el : ∀ k, lidx_main_v32 (ix3 p q j) k = ix3 p q k := fun k => by
    funext a; match a with | ⟨0, _⟩ => rfl | ⟨1, _⟩ => rfl | ⟨2, _⟩ => rfl
  have er : ∀ k, ridx_main_v32 (ix3 p q j) k = ix2 k j := fun k => by
    funext a; match a with | ⟨0, _⟩ => rfl | ⟨1, _⟩ => rfl
  rw [val_main_v32_apply]
  simp only [el, er]
  rw [sum_halves]
  simp only [v30_left, v30_right, w31, rms_v15, rms_v29, v0_row, v1_row]
  rfl

theorem row_v47 (p : Fin 8) (q : Fin 4096) (j : Fin 1024) : val_main_v47 (F := Ideal) x0 x1 x2 x3 x4 x5 x6 (ix3 p q j) = (argsOf x0 x1 x2 x3 x4 x5 x6 x7 x8 x9 x10 x11 x12 x13).row (4096 * p.val + q.val) j := by
  rw [row_eq, val_main_v47_apply, rms_v46]
  refine congrArg (fun v => x0 (ix3 p q j) + rms c1024 v (fun k => x6 (ix2 0 k)) j) (funext fun k => ?_)
  exact merge_v32 x0 x1 x2 x3 x4 x5 x6 x7 x8 x9 x10 x11 x12 x13 p q k

theorem norm_v61 (p : Fin 8) (q : Fin 4096) (j : Fin 1024) : val_main_v61 (F := Ideal) x0 x1 x2 x3 x4 x5 x6 x7 (ix3 p q j)
    = rms c1024 ((argsOf x0 x1 x2 x3 x4 x5 x6 x7 x8 x9 x10 x11 x12 x13).row (4096 * p.val + q.val)) (argsOf x0 x1 x2 x3 x4 x5 x6 x7 x8 x9 x10 x11 x12 x13).W.g j := by
  rw [rms_v61]
  refine congrArg (fun v => rms c1024 v (fun k => x7 (ix2 0 k)) j) (funext fun k => ?_)
  exact row_v47 x0 x1 x2 x3 x4 x5 x6 x7 x8 x9 x10 x11 x12 x13 p q k

theorem gate_v63 (p : Fin 8) (q : Fin 4096) (f : Fin 2816) : val_main_v63 (F := Ideal) x0 x1 x2 x3 x4 x5 x6 x7 x8 (ix3 p q f) = (argsOf x0 x1 x2 x3 x4 x5 x6 x7 x8 x9 x10 x11 x12 x13).gate (4096 * p.val + q.val) f := by
  have el : ∀ k, lidx_main_v63 (ix3 p q f) k = ix3 p q k := fun k => by
    funext a; match a with | ⟨0, _⟩ => rfl | ⟨1, _⟩ => rfl | ⟨2, _⟩ => rfl
  have er : ∀ k, ridx_main_v63 (ix3 p q f) k = ix2 k f := fun k => by
    funext a; match a with | ⟨0, _⟩ => rfl | ⟨1, _⟩ => rfl
  rw [val_main_v63_apply]
  simp only [el, er]
  simp only [norm_v61 x0 x1 x2 x3 x4 x5 x6 x7 x8 x9 x10 x11 x12 x13, w62]
  rfl

theorem up_v65 (p : Fin 8) (q : Fin 4096) (f : Fin 2816) : val_main_v65 (F := Ideal) x0 x1 x2 x3 x4 x5 x6 x7 x9 (ix3 p q f) = up (argsOf x0 x1 x2 x3 x4 x5 x6 x7 x8 x9 x10 x11 x12 x13).W ((argsOf x0 x1 x2 x3 x4 x5 x6 x7 x8 x9 x10 x11 x12 x13).row (4096 * p.val + q.val)) f := by
  have el : ∀ k, lidx_main_v65 (ix3 p q f) k = ix3 p q k := fun k => by
    funext a; match a with | ⟨0, _⟩ => rfl | ⟨1, _⟩ => rfl | ⟨2, _⟩ => rfl
  have er : ∀ k, ridx_main_v65 (ix3 p q f) k = ix2 k f := fun k => by
    funext a; match a with | ⟨0, _⟩ => rfl | ⟨1, _⟩ => rfl
  rw [val_main_v65_apply]
  simp only [el, er]
  simp only [norm_v61 x0 x1 x2 x3 x4 x5 x6 x7 x8 x9 x10 x11 x12 x13, w64]
  rfl

/-- The padded gates hold, `2 - k` rows on, the gate `k` rows back. -/
theorem back_v67 (p : Fin 8) (q : Fin 4096) (f : Fin 2816) (k : ℕ) (hk : k ≤ 2) (n : Fin 4098) (h : n.val + k = q.val + 2) :
    val_main_v67 (F := Ideal) x0 x1 x2 x3 x4 x5 x6 x7 x8 (ix3 p n f) = (argsOf x0 x1 x2 x3 x4 x5 x6 x7 x8 x9 x10 x11 x12 x13).back (4096 * p.val + q.val) k f := by
  unfold val_main_v67 Args.back
  by_cases hq : q.val < k
  · rw [if_pos (by omega)]
    refine (concatenate_pair_apply_left (t := S8x4098x2816) (s₁ := S8x2x2816) (s₂ := S8x4096x2816) 1 _ _ _ _ rfl (ix3 p ⟨n.val, by omega⟩ f) fun b => match b with | ⟨0, _⟩ => rfl | ⟨1, _⟩ => rfl | ⟨2, _⟩ => rfl).trans ?_
    rw [val_main_v66_apply]
    exact Ideal.ofBits_zero_f32
  · rw [if_neg (by omega)]
    refine (concatenate_pair_apply_right (t := S8x4098x2816) (s₁ := S8x2x2816) (s₂ := S8x4096x2816) 1 _ _ _ _ rfl rfl (ix3 p ⟨q.val - k, by omega⟩ f)
      (fun b hb => match b with | ⟨0, _⟩ => rfl | ⟨1, _⟩ => absurd rfl hb | ⟨2, _⟩ => rfl) (by show q.val - k + 2 = n.val; omega)).trans ?_
    refine (gate_v63 x0 x1 x2 x3 x4 x5 x6 x7 x8 x9 x10 x11 x12 x13 p ⟨q.val - k, by omega⟩ f).trans ?_
    show (argsOf x0 x1 x2 x3 x4 x5 x6 x7 x8 x9 x10 x11 x12 x13).gate (4096 * p.val + (q.val - k)) f = _
    rw [show 4096 * p.val + (q.val - k) = 4096 * p.val + q.val - k by omega]

theorem tap0 (p : Fin 8) (q : Fin 4096) (f : Fin 2816) : val_main_v74 (F := Ideal) x10 (ix3 p q f) = x10 (ix3 0 0 f) := by
  rw [val_main_v74_apply, val_main_v73_apply, val_main_v72_apply, val_main_v71_apply, val_main_v70_apply]
  refine congrArg x10 ?_
  funext a; match a with
  | ⟨0, _⟩ => rfl
  | ⟨1, _⟩ => exact Fin.ext (by show (0 * 2816 + f.val % 2816) / 2816 % 3 = 0; omega)
  | ⟨2, _⟩ => exact Fin.ext (by show ((0) * 2816 + f.val % 2816) % 2816 = f.val; omega)

theorem slice0 (p : Fin 8) (q : Fin 4096) (f : Fin 2816) : val_main_v69 (F := Ideal) x0 x1 x2 x3 x4 x5 x6 x7 x8 (ix3 p q f) = (argsOf x0 x1 x2 x3 x4 x5 x6 x7 x8 x9 x10 x11 x12 x13).back (4096 * p.val + q.val) 2 f := by
  rw [val_main_v69_apply]
  have e : idx_main_v69 (ix3 p q f) = ix3 p ⟨q.val + 0, by omega⟩ f := by
    funext a; match a with | ⟨0, _⟩ => rfl | ⟨1, _⟩ => exact Fin.ext (by show q.val = q.val + 0; omega) | ⟨2, _⟩ => rfl
  rw [e]
  exact back_v67 x0 x1 x2 x3 x4 x5 x6 x7 x8 x9 x10 x11 x12 x13 p q f 2 (by omega) _ (by show q.val + 0 + 2 = q.val + 2; omega)

theorem tap1 (p : Fin 8) (q : Fin 4096) (f : Fin 2816) : val_main_v83 (F := Ideal) x10 (ix3 p q f) = x10 (ix3 0 1 f) := by
  rw [val_main_v83_apply, val_main_v82_apply, val_main_v81_apply, val_main_v80_apply, val_main_v79_apply]
  refine congrArg x10 ?_
  funext a; match a with
  | ⟨0, _⟩ => rfl
  | ⟨1, _⟩ => exact Fin.ext (by show ((1 + 0) * 2816 + f.val % 2816) / 2816 % 3 = 1; omega)
  | ⟨2, _⟩ => exact Fin.ext (by show ((1 + 0) * 2816 + f.val % 2816) % 2816 = f.val; omega)

theorem slice1 (p : Fin 8) (q : Fin 4096) (f : Fin 2816) : val_main_v78 (F := Ideal) x0 x1 x2 x3 x4 x5 x6 x7 x8 (ix3 p q f) = (argsOf x0 x1 x2 x3 x4 x5 x6 x7 x8 x9 x10 x11 x12 x13).back (4096 * p.val + q.val) 1 f := by
  rw [val_main_v78_apply]
  have e : idx_main_v78 (ix3 p q f) = ix3 p ⟨q.val + 1, by omega⟩ f := by
    funext a; match a with | ⟨0, _⟩ => rfl | ⟨1, _⟩ => exact Fin.ext (by show 1 + q.val = q.val + 1; omega) | ⟨2, _⟩ => rfl
  rw [e]
  exact back_v67 x0 x1 x2 x3 x4 x5 x6 x7 x8 x9 x10 x11 x12 x13 p q f 1 (by omega) _ (by show q.val + 1 + 1 = q.val + 2; omega)

theorem tap2 (p : Fin 8) (q : Fin 4096) (f : Fin 2816) : val_main_v91 (F := Ideal) x10 (ix3 p q f) = x10 (ix3 0 2 f) := by
  rw [val_main_v91_apply, val_main_v90_apply, val_main_v89_apply, val_main_v88_apply, val_main_v87_apply]
  refine congrArg x10 ?_
  funext a; match a with
  | ⟨0, _⟩ => rfl
  | ⟨1, _⟩ => exact Fin.ext (by show ((2 + 0) * 2816 + f.val % 2816) / 2816 % 3 = 2; omega)
  | ⟨2, _⟩ => exact Fin.ext (by show ((2 + 0) * 2816 + f.val % 2816) % 2816 = f.val; omega)

theorem slice2 (p : Fin 8) (q : Fin 4096) (f : Fin 2816) : val_main_v86 (F := Ideal) x0 x1 x2 x3 x4 x5 x6 x7 x8 (ix3 p q f) = (argsOf x0 x1 x2 x3 x4 x5 x6 x7 x8 x9 x10 x11 x12 x13).back (4096 * p.val + q.val) 0 f := by
  rw [val_main_v86_apply]
  have e : idx_main_v86 (ix3 p q f) = ix3 p ⟨q.val + 2, by omega⟩ f := by
    funext a; match a with | ⟨0, _⟩ => rfl | ⟨1, _⟩ => exact Fin.ext (by show 2 + q.val = q.val + 2; omega) | ⟨2, _⟩ => rfl
  rw [e]
  exact back_v67 x0 x1 x2 x3 x4 x5 x6 x7 x8 x9 x10 x11 x12 x13 p q f 0 (by omega) _ (by show q.val + 2 + 0 = q.val + 2; omega)

theorem bias (p : Fin 8) (q : Fin 4096) (f : Fin 2816) : val_main_v95 (F := Ideal) x11 (ix3 p q f) = x11 (ix2 0 f) := by
  rw [val_main_v95_apply, val_main_v94_apply, val_main_v68_apply]
  refine congrArg x11 ?_
  funext a; match a with
  | ⟨0, _⟩ => rfl
  | ⟨1, _⟩ => exact Fin.ext (Nat.mod_eq_of_lt f.isLt)

theorem conv_v96 (p : Fin 8) (q : Fin 4096) (f : Fin 2816) : val_main_v96 (F := Ideal) x0 x1 x2 x3 x4 x5 x6 x7 x8 x10 x11 (ix3 p q f)
    = conv (argsOf x0 x1 x2 x3 x4 x5 x6 x7 x8 x9 x10 x11 x12 x13).W ((argsOf x0 x1 x2 x3 x4 x5 x6 x7 x8 x9 x10 x11 x12 x13).gate (4096 * p.val + q.val)) ((argsOf x0 x1 x2 x3 x4 x5 x6 x7 x8 x9 x10 x11 x12 x13).back (4096 * p.val + q.val) 1) ((argsOf x0 x1 x2 x3 x4 x5 x6 x7 x8 x9 x10 x11 x12 x13).back (4096 * p.val + q.val) 2) f := by
  have h0 : (argsOf x0 x1 x2 x3 x4 x5 x6 x7 x8 x9 x10 x11 x12 x13).back (4096 * p.val + q.val) 0 = (argsOf x0 x1 x2 x3 x4 x5 x6 x7 x8 x9 x10 x11 x12 x13).gate (4096 * p.val + q.val) := if_neg (by omega)
  rw [val_main_v96_apply, val_main_v93_apply, val_main_v85_apply, val_main_v77_apply, val_main_v75_apply, val_main_v84_apply, val_main_v92_apply,
    val_main_v76_apply, bias, tap0, tap1, tap2, slice0 x0 x1 x2 x3 x4 x5 x6 x7 x8 x9 x10 x11 x12 x13, slice1 x0 x1 x2 x3 x4 x5 x6 x7 x8 x9 x10 x11 x12 x13,
    slice2 x0 x1 x2 x3 x4 x5 x6 x7 x8 x9 x10 x11 x12 x13, h0]
  show (x11 (ix2 0 f) : EReal) + (((Ideal.ofBits .f32 0x00000000#32 + (argsOf x0 x1 x2 x3 x4 x5 x6 x7 x8 x9 x10 x11 x12 x13).back (4096 * p.val + q.val) 2 f * x10 (ix3 0 0 f))
    + (argsOf x0 x1 x2 x3 x4 x5 x6 x7 x8 x9 x10 x11 x12 x13).back (4096 * p.val + q.val) 1 f * x10 (ix3 0 1 f)) + (argsOf x0 x1 x2 x3 x4 x5 x6 x7 x8 x9 x10 x11 x12 x13).gate (4096 * p.val + q.val) f * x10 (ix3 0 2 f)) = _
  rw [Ideal.ofBits_zero_f32, zero_add, ← add_assoc, ← add_assoc]
  rfl

theorem hid_v110 (p : Fin 8) (q : Fin 4096) (f : Fin 2816) : val_main_v110 (F := Ideal) x0 x1 x2 x3 x4 x5 x6 x7 x8 x9 x10 x11 (ix3 p q f)
    = hid (argsOf x0 x1 x2 x3 x4 x5 x6 x7 x8 x9 x10 x11 x12 x13).W ((argsOf x0 x1 x2 x3 x4 x5 x6 x7 x8 x9 x10 x11 x12 x13).row (4096 * p.val + q.val)) ((argsOf x0 x1 x2 x3 x4 x5 x6 x7 x8 x9 x10 x11 x12 x13).back (4096 * p.val + q.val) 1) ((argsOf x0 x1 x2 x3 x4 x5 x6 x7 x8 x9 x10 x11 x12 x13).back (4096 * p.val + q.val) 2) f := by
  rw [val_main_v110_apply, val_main_v109_apply, val_main_v108_apply, val_main_v107_apply, val_main_v106_apply, val_main_v105_apply, val_main_v104_apply,
    val_main_v103_apply, val_main_v102_apply, val_main_v101_apply, val_main_v100_apply, val_main_v99_apply, val_main_v98_apply, val_main_v97_apply,
    up_v65 x0 x1 x2 x3 x4 x5 x6 x7 x8 x9 x10 x11 x12 x13, conv_v96 x0 x1 x2 x3 x4 x5 x6 x7 x8 x9 x10 x11 x12 x13]
  unfold hid
  refine congrArg (fun a : EReal => a * up (argsOf x0 x1 x2 x3 x4 x5 x6 x7 x8 x9 x10 x11 x12 x13).W ((argsOf x0 x1 x2 x3 x4 x5 x6 x7 x8 x9 x10 x11 x12 x13).row (4096 * p.val + q.val)) f) ?_
  unfold gelu
  exact (mul_left_comm _ _ _).trans (mul_assoc _ _ _).symm

theorem y_v127 (p : Fin 8) (q : Fin 4096) (j : Fin 1024) : val_main_v127 (F := Ideal) x0 x1 x2 x3 x4 x5 x6 x7 x8 x9 x10 x11 x12 x13 (ix3 p q j) = (argsOf x0 x1 x2 x3 x4 x5 x6 x7 x8 x9 x10 x11 x12 x13).y (4096 * p.val + q.val) j := by
  rw [val_main_v127_apply, rms_v126, row_v47 x0 x1 x2 x3 x4 x5 x6 x7 x8 x9 x10 x11 x12 x13]
  refine congrArg (fun v => (argsOf x0 x1 x2 x3 x4 x5 x6 x7 x8 x9 x10 x11 x12 x13).row (4096 * p.val + q.val) j + rms c1024 v (fun k => x13 (ix2 0 k)) j) (funext fun j => ?_)
  have el : ∀ k, lidx_main_v112 (ix3 p q j) k = ix3 p q k := fun k => by
    funext a; match a with | ⟨0, _⟩ => rfl | ⟨1, _⟩ => rfl | ⟨2, _⟩ => rfl
  have er : ∀ k, ridx_main_v112 (ix3 p q j) k = ix2 k j := fun k => by
    funext a; match a with | ⟨0, _⟩ => rfl | ⟨1, _⟩ => rfl
  rw [val_main_v112_apply]
  simp only [el, er]
  simp only [hid_v110 x0 x1 x2 x3 x4 x5 x6 x7 x8 x9 x10 x11 x12 x13, w111]
  rfl

/-- The first result, by rows. -/
theorem y_v128 (n : Fin 32768) (j : Fin 1024) : val_main_v128 (F := Ideal) x0 x1 x2 x3 x4 x5 x6 x7 x8 x9 x10 x11 x12 x13 (ix2 n j) = (argsOf x0 x1 x2 x3 x4 x5 x6 x7 x8 x9 x10 x11 x12 x13).y n.val j := by
  rw [val_main_v128_apply]
  have e : idx_main_v128 (ix2 n j) = ix3 ⟨n.val / 4096, by omega⟩ ⟨n.val % 4096, by omega⟩ j := by
    funext a; match a with
    | ⟨0, _⟩ => exact Fin.ext (by show (n.val * 1024 + j.val) / 4194304 = n.val / 4096; omega)
    | ⟨1, _⟩ => exact Fin.ext (by show (n.val * 1024 + j.val) / 1024 % 4096 = n.val % 4096; omega)
    | ⟨2, _⟩ => exact Fin.ext (by show (n.val * 1024 + j.val) % 1024 = j.val; omega)
  rw [e, y_v127 x0 x1 x2 x3 x4 x5 x6 x7 x8 x9 x10 x11 x12 x13]
  show (argsOf x0 x1 x2 x3 x4 x5 x6 x7 x8 x9 x10 x11 x12 x13).y (4096 * (n.val / 4096) + n.val % 4096) j = _
  rw [Nat.div_add_mod]

/-- The second result: each sequence's last two gates. -/
theorem cn_v129 (p : Fin 8) (r : Fin 2) (f : Fin 2816) : val_main_v129 (F := Ideal) x0 x1 x2 x3 x4 x5 x6 x7 x8 (ix3 p r f) = (argsOf x0 x1 x2 x3 x4 x5 x6 x7 x8 x9 x10 x11 x12 x13).gate (4096 * p.val + 4094 + r.val) f := by
  rw [val_main_v129_apply]
  have e : idx_main_v129 (ix3 p r f) = ix3 p ⟨4096 + r.val, by omega⟩ f := by
    funext a; match a with | ⟨0, _⟩ => rfl | ⟨1, _⟩ => rfl | ⟨2, _⟩ => rfl
  rw [e]
  refine (back_v67 x0 x1 x2 x3 x4 x5 x6 x7 x8 x9 x10 x11 x12 x13 p ⟨4094 + r.val, by omega⟩ f 0 (by omega) _ (by show 4096 + r.val + 0 = 4094 + r.val + 2; omega)).trans ?_
  unfold Args.back
  rw [if_neg (by omega)]
  show (argsOf x0 x1 x2 x3 x4 x5 x6 x7 x8 x9 x10 x11 x12 x13).gate (4096 * p.val + (4094 + r.val) - 0) f = _
  rw [show 4096 * p.val + (4094 + r.val) - 0 = 4096 * p.val + 4094 + r.val by omega]

end Cert.TailRefIdeal.Rows
-- ==== Proof.Tail.Final.lean ====
/- The tail kernel's two result arrays are the reference's: both read, at every index, as the layer's rows of the arguments. -/
module

public import proofs.«01_k».proof.Defs
public import proofs.«01_k».proof.Proof.Gen.TailIdeal.Value
public import proofs.«01_k».proof.Proof.Gen.TailRefIdeal.Run
public import proofs.«01_k».proof.Proof.Tail.Point
public import proofs.«01_k».proof.Proof.Tail.Ref

@[expose] public section

set_option maxRecDepth 16384

noncomputable section

namespace Cert.TailIdeal.Final

open Idealize.ShloMosaic Idealize.ShloMosaic.TcCoe Idealize.SL.Sem Cert.TailIdeal Cert.TailIdeal.Gen
open Idealize.ShloMosaic.ValueIdx TailRows Cert.TailIdeal.Point Cert.TailRefIdeal.Read Idealize.ShloMosaic.StableHlo

variable (m : (ℓ : Loc nD τ sig) → Buf (Elt Ideal) ℓ) (c : Dev nD)

/-- The kernel's first result, by rows. -/
theorem G14_row (n : Fin 32768) (j : Fin 1024) : Value.G14 m c (ix2 n j : S32768x1024.Idx) = (args m c).y n.val j := by
  have hp : Value.pt14Of (ix2 n j : S32768x1024.Idx) = n.val / 512 := by
    show 1 * (n.val / 512 - 0) + 1 * (j.val / 1024 - 0) = n.val / 512
    omega
  have hlt : Value.pt14Of (ix2 n j : S32768x1024.Idx) < cfg0.N := by
    rw [hp]; exact lt_of_lt_of_eq (by omega) N_0.symm
  have hl : Value.loc14Of (ix2 n j : S32768x1024.Idx) = ix2 ⟨n.val % 512, Nat.mod_lt _ (by decide)⟩ j := by
    funext a; match a with
    | ⟨0, _⟩ => rfl
    | ⟨1, _⟩ => exact Fin.ext (Nat.mod_eq_of_lt j.isLt)
  unfold Value.G14
  rw [dif_pos hlt, ← Value.outsAt0_sweep m c _ hlt, hl]
  refine ((leaves m c _ hlt).2.1 _ j).trans ?_
  show (args m c).y (512 * (Value.pt14Of (ix2 n j : S32768x1024.Idx)) + n.val % 512) j = _
  rw [hp, Nat.div_add_mod]

/-- The kernel's second result: each sequence's last two gates. -/
theorem G15_row (p : Fin 8) (r : Fin 2) (f : Fin 2816) : Value.G15 m c (ix3 p r f : S8x2x2816.Idx) = (args m c).gate (4096 * p.val + 4094 + r.val) f := by
  have hp : Value.pt15Of (ix3 p r f : S8x2x2816.Idx) = 8 * p.val + 7 := by
    show 8 * (1 * (p.val / 1 - 0) + 1 * (r.val / 2 - 0) + 1 * (f.val / 2816 - 0)) + 7 = 8 * p.val + 7
    omega
  have hlt : Value.pt15Of (ix3 p r f : S8x2x2816.Idx) < cfg0.N := by
    rw [hp]; exact lt_of_lt_of_eq (by omega) N_0.symm
  have hl : Value.loc15Of (ix3 p r f : S8x2x2816.Idx) = ix3 0 r f := by
    funext a; match a with
    | ⟨0, _⟩ => exact Fin.ext (Nat.mod_one _)
    | ⟨1, _⟩ => exact Fin.ext (Nat.mod_eq_of_lt r.isLt)
    | ⟨2, _⟩ => exact Fin.ext (Nat.mod_eq_of_lt f.isLt)
  unfold Value.G15
  rw [dif_pos hlt, ← Value.outsAt0_sweep m c _ hlt, hl]
  refine ((leaves m c _ hlt).2.2 r f).trans ?_
  show (args m c).gate (512 * (Value.pt15Of (ix3 p r f : S8x2x2816.Idx)) + 510 + r.val) f = _
  rw [hp, show 512 * (8 * p.val + 7) + 510 + r.val = 4096 * p.val + 4094 + r.val by omega]

variable {x0 : (⟨TailRefIdeal.S8x4096x1024, .f32⟩ : BufTy).Contents (Elt Ideal)} {x1 x2 : (⟨TailRefIdeal.S32768x512, .f32⟩ : BufTy).Contents (Elt Ideal)}
    {x3 x4 : (⟨TailRefIdeal.S1x512, .f32⟩ : BufTy).Contents (Elt Ideal)} {x5 : (⟨TailRefIdeal.S1x1024x1024, .f32⟩ : BufTy).Contents (Elt Ideal)}
    {x6 x7 : (⟨TailRefIdeal.S1x1024, .f32⟩ : BufTy).Contents (Elt Ideal)} {x8 x9 : (⟨TailRefIdeal.S1x1024x2816, .f32⟩ : BufTy).Contents (Elt Ideal)}
    {x10 : (⟨TailRefIdeal.S1x3x2816, .f32⟩ : BufTy).Contents (Elt Ideal)} {x11 : (⟨TailRefIdeal.S1x2816, .f32⟩ : BufTy).Contents (Elt Ideal)}
    {x12 : (⟨TailRefIdeal.S1x2816x1024, .f32⟩ : BufTy).Contents (Elt Ideal)} {x13 : (⟨TailRefIdeal.S1x1024, .f32⟩ : BufTy).Contents (Elt Ideal)}

/-- The reference's two results from equal arguments. -/
theorem same (h0 : x0 = m ((c.tc : Thread nD τ).loc main_arg0)) (h1 : x1 = m ((c.tc : Thread nD τ).loc main_arg1))
    (h2 : x2 = m ((c.tc : Thread nD τ).loc main_arg2)) (h3 : x3 = m ((c.tc : Thread nD τ).loc main_arg3))
    (h4 : x4 = m ((c.tc : Thread nD τ).loc main_arg4)) (h5 : x5 = m ((c.tc : Thread nD τ).loc main_arg5))
    (h6 : x6 = m ((c.tc : Thread nD τ).loc main_arg6)) (h7 : x7 = m ((c.tc : Thread nD τ).loc main_arg7))
    (h8 : x8 = m ((c.tc : Thread nD τ).loc main_arg8)) (h9 : x9 = m ((c.tc : Thread nD τ).loc main_arg9))
    (h10 : x10 = m ((c.tc : Thread nD τ).loc main_arg10)) (h11 : x11 = m ((c.tc : Thread nD τ).loc main_arg11))
    (h12 : x12 = m ((c.tc : Thread nD τ).loc main_arg12)) (h13 : x13 = m ((c.tc : Thread nD τ).loc main_arg13)) :
    val_main_v128 (F := Ideal) x0 x1 x2 x3 x4 x5 x6 x7 x8 x9 x10 x11 x12 x13 = Value.G14 m c ∧ val_main_v129 (F := Ideal) x0 x1 x2 x3 x4 x5 x6 x7 x8 = Value.G15 m c := by
  have e : TailRefIdeal.Rows.argsOf x0 x1 x2 x3 x4 x5 x6 x7 x8 x9 x10 x11 x12 x13 = args m c := by rw [h0, h1, h2, h3, h4, h5, h6, h7, h8, h9, h10, h11, h12, h13]; rfl
  refine ⟨?_, ?_⟩ <;> funext i
  · obtain ⟨n, j, rfl⟩ : ∃ (n : Fin 32768) (j : Fin 1024), i = ix2 n j := ⟨_, _, eq_ix2 i⟩
    refine (TailRefIdeal.Rows.y_v128 x0 x1 x2 x3 x4 x5 x6 x7 x8 x9 x10 x11 x12 x13 n j).trans ?_
    rw [e]
    exact (G14_row m c n j).symm
  · obtain ⟨p, r, f, rfl⟩ : ∃ (p : Fin 8) (r : Fin 2) (f : Fin 2816), i = ix3 p r f := ⟨_, _, _, eq_ix3 i⟩
    refine (TailRefIdeal.Rows.cn_v129 x0 x1 x2 x3 x4 x5 x6 x7 x8 x9 x10 x11 x12 x13 p r f).trans ?_
    rw [e]
    exact (G15_row m c p r f).symm

theorem algebraic : Cert.algebraic_TailIdeal_TailRefIdeal := by
  intro m g m' g' _ hag
  refine ⟨fun c => Value.G14 m c, fun c => Value.G15 m c, Value.run m g, ?_⟩
  refine (θ_run _ _ _).mono (fun r h c => ?_) (TailRefIdeal.Value.run m' g')
  obtain ⟨a0, a1, a2, a3, a4, a5, a6, a7, a8, a9, a10, a11, a12, a13⟩ := hag c
  obtain ⟨h0, h1, hr⟩ := h c
  obtain ⟨s0, s1⟩ := same m c a0 a1 a2 a3 a4 a5 a6 a7 a8 a9 a10 a11 a12 a13
  exact ⟨(h0.trans (val_main_v128_eq (launchContents m' c))).trans s0, (h1.trans (val_main_v129_eq (launchContents m' c))).trans s1, hr⟩

end Cert.TailIdeal.Final
-- ==== Proof.Attn.Body.lean ====
/- One tile of the attention in plain form: the scores of 128 keys against 256 queries, the logarithm of what each key lets
   pass, its sums over the later keys of the tile, the weights, and what the tile adds to the output and to the carried sum. -/
module

public import proofs.«01_k».proof.Proof.Gen.AttnIdeal.Frame

@[expose] public section

set_option maxRecDepth 65536
set_option maxHeartbeats 4000000

noncomputable section

namespace Cert.AttnIdeal.Body

open Idealize.ShloMosaic Idealize.SL.Sem Cert.AttnIdeal Cert.AttnIdeal.Gen

variable {F : FTy → Type} [FloatOps F]

/-- The carried pair: the output so far (feature by query) and the sum of what later keys let pass (by query). -/
abbrev Pair (F : FTy → Type) [FloatOps F] : Type := FVec F S64x256 .f32 × FVec F S1x256 .f32

def zero : F .f32 := Scalar.ofBits .f32 0x00000000#32
def one : F .f32 := Scalar.ofBits .f32 0x3F800000#32

def scores (qb : FVec F S256x128 .bf16) (bias : Elt F .f32) (kt : Vec F S1x1x128x128 .bf16) : FVec F S128x256 .f32 :=
  addf (matmul dot_S128x128_S256x128_S128x256_1_1_0_0_n_n none (shapeCast S128x128 kt shapeCasts_S1x1x128x128_S128x128 : FVec F S128x128 .bf16) qb (constant S128x256 .f32 0x00000000#32)) (broadcast S128x256 bias)
def keepMax (z : FVec F S128x256 .f32) : FVec F S128x256 .f32 := maximumf z (broadcast S128x256 zero)
def keepLog (z : FVec F S128x256 .f32) : FVec F S128x256 .f32 :=
  log (addf (broadcast S128x256 one) (exp (subf (broadcast S128x256 zero) (absf z))))
def logKeep (z : FVec F S128x256 .f32) : FVec F S128x256 .f32 := subf (broadcast S128x256 zero) (addf (keepMax z) (keepLog z))
def hi (l : FVec F S128x256 .f32) : FVec F S128x256 .bf16 := truncf .bf16 l bitsLt_bf16_f32
def lo (l : FVec F S128x256 .f32) : FVec F S128x256 .bf16 := truncf .bf16 (subf l (extf .f32 (hi l) bitsLt_bf16_f32)) bitsLt_bf16_f32
def both (l : FVec F S128x256 .f32) : FVec F S256x256 .bf16 :=
  concatenate S256x256 0 [⟨S128x256, hi l⟩, ⟨S128x256, lo l⟩] concatenates_S128x256_S128x256_S256x256_d0
def sums (uu : FVec F S128x256 .bf16) (l : FVec F S128x256 .f32) : FVec F S128x256 .f32 :=
  matmul dot_S128x256_S256x256_S128x256_1_0_0_1_n_n none uu (both l) (constant S128x256 .f32 0x00000000#32)
def weigh (z s : FVec F S128x256 .f32) (carry : FVec F S1x256 .f32) : FVec F S128x256 .f32 :=
  exp (addf (addf z s) (broadcastTo S128x256 carry broadcasts_S1x256_S128x256))
def addV (acc : FVec F S64x256 .f32) (vt : Vec F S1x64x128 .bf16) (w : FVec F S128x256 .f32) : FVec F S64x256 .f32 :=
  addf acc (matmul dot_S64x128_S128x256_S64x256_1_0_0_1_n_n none (shapeCast S64x128 vt shapeCasts_S1x64x128_S64x128 : FVec F S64x128 .bf16) (truncf .bf16 w bitsLt_bf16_f32 : FVec F S128x256 .bf16) (constant S64x256 .f32 0x00000000#32))
def addC (carry : FVec F S1x256 .f32) (s : FVec F S128x256 .f32) : FVec F S1x256 .f32 :=
  addf carry (extractStridedSlice S1x256 ![0, 0] s slices_S128x256_o0_0_S1x256)
def rowI : IVec S128x256 32 := iota .tc S128x256 32 [0] iota_S128x256_d0_w32
def colI : IVec S128x256 32 := iota .tc S128x256 32 [1] iota_S128x256_d1_w32
def seen (d : BitVec 32) : IVec S128x256 1 := cmpi .slt (addi rowI (broadcast S128x256 d)) colI
def masked (d : BitVec 32) (x : FVec F S128x256 .f32) : FVec F S128x256 .f32 := select (seen d) x (broadcast S128x256 zero)

/-- A tile all of whose keys come before all the queries. -/
def step (qb : FVec F S256x128 .bf16) (uu : FVec F S128x256 .bf16) (bias : Elt F .f32) (kt : Vec F S1x1x128x128 .bf16) (vt : Vec F S1x64x128 .bf16) (s : Pair F) : Pair F :=
  (addV s.1 vt (weigh (scores qb bias kt) (sums uu (logKeep (scores qb bias kt))) s.2), addC s.2 (sums uu (logKeep (scores qb bias kt))))
/-- A tile that meets the queries: key row `r` counts for query column `q` when `r + d < q`. -/
def stepD (d : BitVec 32) (qb : FVec F S256x128 .bf16) (uu : FVec F S128x256 .bf16) (bias : Elt F .f32) (kt : Vec F S1x1x128x128 .bf16) (vt : Vec F S1x64x128 .bf16) (s : Pair F) : Pair F :=
  (addV s.1 vt (masked d (weigh (scores qb bias kt) (sums uu (masked d (logKeep (scores qb bias kt)))) s.2)), addC s.2 (sums uu (masked d (logKeep (scores qb bias kt)))))

def start : Pair F := (broadcast S64x256 zero, broadcast S1x256 zero)
/-- The two tiles at the queries' own positions, the later one first. -/
def diag (qb : FVec F S256x128 .bf16) (uu : FVec F S128x256 .bf16) (bias : Elt F .f32) (k1 k0 : Vec F S1x1x128x128 .bf16) (v1 v0 : Vec F S1x64x128 .bf16) : Pair F :=
  stepD 0#32 qb uu bias k0 v0 (stepD 128#32 qb uu bias k1 v1 start)

def qOf (x1 : Vec F S256x128 .f32) : FVec F S256x128 .bf16 := truncf .bf16 (mulf x1 (broadcast S256x128 (Scalar.ofBits .f32 0x3E000000#32 : F .f32))) bitsLt_bf16_f32

/-- One head's keys of a tile: the transposed columns with the other head's lanes set to zero. -/
def keyTile (h : Bool) (x : Vec F S128x128 .f32) : FVec F S1x1x128x128 .bf16 :=
  shapeCast S1x1x128x128 (truncf .bf16 (select (cmpi (if h then .sge else .slt) (iota .tc S128x128 32 [1] iota_S128x128_d1_w32) (broadcast S128x128 64#32))
    (transpose S128x128 [1, 0] x transposes_S128x128_p1_0_S128x128 : FVec F S128x128 .f32) (broadcast S128x128 zero)) bitsLt_bf16_f32 : FVec F S128x128 .bf16) shapeCasts_S128x128_S1x1x128x128
def valTile (x : Vec F S128x128 .f32) : FVec F S1x128x128 .bf16 :=
  shapeCast S1x128x128 (truncf .bf16 x bitsLt_bf16_f32 : FVec F S128x128 .bf16) shapeCasts_S128x128_S1x128x128

theorem col_inb (j : ℕ) (hj : j < 32) : ∀ a, (![0, 128 * j] : Fin 2 → ℕ) a + S128x128.size a ≤ S128x4096.size a := fun a =>
  match a with | ⟨0, _⟩ => (by show 0 + 128 ≤ 128; omega) | ⟨1, _⟩ => (by show 128 * j + 128 ≤ 4096; omega)
theorem kb_inb (h j : ℕ) (hh : h < 2) (hj : j < 32) : ∀ a, (![h, j, 0, 0] : Fin 4 → ℕ) a + S1x1x128x128.size a ≤ S2x32x128x128.size a := fun a =>
  match a with | ⟨0, _⟩ => (by show h + 1 ≤ 2; omega) | ⟨1, _⟩ => (by show j + 1 ≤ 32; omega) | ⟨2, _⟩ => (by show 0 + 128 ≤ 128; omega) | ⟨3, _⟩ => (by show 0 + 128 ≤ 128; omega)
theorem vb_inb (j : ℕ) (hj : j < 32) : ∀ a, (![j, 0, 0] : Fin 3 → ℕ) a + S1x128x128.size a ≤ S32x128x128.size a := fun a =>
  match a with | ⟨0, _⟩ => (by show j + 1 ≤ 32; omega) | ⟨1, _⟩ => (by show 0 + 128 ≤ 128; omega) | ⟨2, _⟩ => (by show 0 + 128 ≤ 128; omega)

abbrev cols (j : ℕ) (hj : j < 32) : Rect S128x4096 := Rect.unit ![0, 128 * j] S128x128.size (col_inb j hj)

/-- The stores of the first `n` tiles' keys, last first, from the columns `ld` reads. -/
def kPieces (ld : (r : Rect S128x4096) → r.shape.Idx → Elt F .f32) : (n : ℕ) → n ≤ 32 → List (View.Piece (Elt F) S2x32x128x128 .bf16)
  | 0, _ => []
  | n + 1, h => ⟨Rect.unit ![1, n, 0, 0] S1x1x128x128.size (kb_inb 1 n (by omega) h), keyTile true (ld (cols n h))⟩ ::
      ⟨Rect.unit ![0, n, 0, 0] S1x1x128x128.size (kb_inb 0 n (by omega) h), keyTile false (ld (cols n h))⟩ :: kPieces ld n (by omega)
/-- The stores of the first `n` tiles' values, last first. -/
def vPieces (ld : (r : Rect S128x4096) → r.shape.Idx → Elt F .f32) : (n : ℕ) → n ≤ 32 → List (View.Piece (Elt F) S32x128x128 .bf16)
  | 0, _ => []
  | n + 1, h => ⟨Rect.unit ![n, 0, 0] S1x128x128.size (vb_inb n h), valTile (ld (cols n h))⟩ :: vPieces ld n (by omega)

end Cert.AttnIdeal.Body
-- ==== Proof.Attn.Loops.lean ====
/- One trip of each of the four loops over the earlier tiles is a `step` of `Body`. -/
module

public import proofs.«01_k».proof.Proof.Gen.AttnIdeal.Frame
public import proofs.«01_k».proof.Proof.Attn.Body

@[expose] public section

set_option maxRecDepth 65536
set_option maxHeartbeats 4000000

noncomputable section

namespace Cert.AttnIdeal.Body

open Idealize.ShloMosaic Idealize.SL.Sem Cert.AttnIdeal Cert.AttnIdeal.Gen

variable {F : FTy → Type} [FloatOps F]

theorem trip1 (c : Dev nD) (i : grid0.Coords) (arg3 : Memref sig .tc .smem S8 .f32) (harg3 : arg3.IsWhole) (arg4 : Memref sig .tc .vmem S256x128 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x256 .bf16) (harg7 : arg7.IsWhole) (arg8 : Memref sig .tc .vmem S256x128 .f32) (harg8 : arg8.IsWhole) (arg9 : Memref sig .tc .vmem S2x32x128x128 .bf16) (harg9 : arg9.IsWhole) (arg10 : Memref sig .tc .vmem S32x128x128 .bf16) (harg10 : arg10.IsWhole) (arg1 arg2 : BitVec 32) (v6 : FVec F S256x128 .bf16) (v8 : FVec F S128x256 .bf16) (v9 : IVec S128x256 32) (v10 : IVec S128x256 32) (v14 : Elt F .f32) (v59 : FVec F S64x256 .f32) (v61 : FVec F S1x256 .f32) (v63 : BitVec 32) (v69 : FVec F S128x256 .f32) (v71 : FVec F S128x256 .f32) (v78 : FVec F S128x256 .f32) (X9 : BufTy.Contents (Elt F) arg9.view.ty) (X10 : BufTy.Contents (Elt F) arg10.view.ty) (k : Fin (k0_t1_loop i).trips) (acc : Pair F) :
    tripR_k0_t1 Variants.none c none i arg3 harg3 arg4 harg4 arg5 harg5 arg6 harg6 arg7 harg7 arg8 harg8 arg9 harg9 arg10 harg10 arg1 arg2 v6 v8 v9 v10 v14 v59 v61 v63 v69 v71 v78 X9 X10 k acc =
      step v6 v8 v14 (View.readAt (Elt F) arg9.view (Rect.unit (s := S2x32x128x128) (k0_off4 i k) S1x1x128x128.size (k0_off4_inb i k)).toLoadRect X9) (View.readAt (Elt F) arg10.view (Rect.unit (s := S32x128x128) (k0_off5 i k) S1x64x128.size (k0_off5_inb i k)).toLoadRect X10) acc := by
  unfold tripR_k0_t1 trip_k0_t1
  rfl

theorem trip2 (c : Dev nD) (i : grid0.Coords) (arg3 : Memref sig .tc .smem S8 .f32) (harg3 : arg3.IsWhole) (arg4 : Memref sig .tc .vmem S256x128 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x256 .bf16) (harg7 : arg7.IsWhole) (arg8 : Memref sig .tc .vmem S256x128 .f32) (harg8 : arg8.IsWhole) (arg9 : Memref sig .tc .vmem S2x32x128x128 .bf16) (harg9 : arg9.IsWhole) (arg10 : Memref sig .tc .vmem S32x128x128 .bf16) (harg10 : arg10.IsWhole) (arg1 arg2 : BitVec 32) (v6 : FVec F S256x128 .bf16) (v8 : FVec F S128x256 .bf16) (v9 : IVec S128x256 32) (v10 : IVec S128x256 32) (v14 : Elt F .f32) (v59 : FVec F S64x256 .f32) (v61 : FVec F S1x256 .f32) (v63 : BitVec 32) (v69 : FVec F S128x256 .f32) (v71 : FVec F S128x256 .f32) (v78 : FVec F S128x256 .f32) (X9 : BufTy.Contents (Elt F) arg9.view.ty) (X10 : BufTy.Contents (Elt F) arg10.view.ty) (k : Fin (k0_t2_loop i).trips) (acc : Pair F) :
    tripR_k0_t2 Variants.none c none i arg3 harg3 arg4 harg4 arg5 harg5 arg6 harg6 arg7 harg7 arg8 harg8 arg9 harg9 arg10 harg10 arg1 arg2 v6 v8 v9 v10 v14 v59 v61 v63 v69 v71 v78 X9 X10 k acc =
      step v6 v8 v14 (View.readAt (Elt F) arg9.view (Rect.unit (s := S2x32x128x128) (k0_off6 i k) S1x1x128x128.size (k0_off6_inb i k)).toLoadRect X9) (View.readAt (Elt F) arg10.view (Rect.unit (s := S32x128x128) (k0_off7 i k) S1x64x128.size (k0_off7_inb i k)).toLoadRect X10) acc := by
  unfold tripR_k0_t2 trip_k0_t2
  rfl

theorem trip3 (c : Dev nD) (i : grid0.Coords) (arg3 : Memref sig .tc .smem S8 .f32) (harg3 : arg3.IsWhole) (arg4 : Memref sig .tc .vmem S256x128 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x256 .bf16) (harg7 : arg7.IsWhole) (arg8 : Memref sig .tc .vmem S256x128 .f32) (harg8 : arg8.IsWhole) (arg9 : Memref sig .tc .vmem S2x32x128x128 .bf16) (harg9 : arg9.IsWhole) (arg10 : Memref sig .tc .vmem S32x128x128 .bf16) (harg10 : arg10.IsWhole) (v6 : FVec F S256x128 .bf16) (v8 : FVec F S128x256 .bf16) (v118 : Elt F .f32) (X9 : BufTy.Contents (Elt F) arg9.view.ty) (X10 : BufTy.Contents (Elt F) arg10.view.ty) (k : Fin (k0_t3_loop i).trips) (acc : Pair F) :
    tripR_k0_t3 Variants.none c none i arg3 harg3 arg4 harg4 arg5 harg5 arg6 harg6 arg7 harg7 arg8 harg8 arg9 harg9 arg10 harg10 v6 v8 v118 X9 X10 k acc =
      step v6 v8 v118 (View.readAt (Elt F) arg9.view (Rect.unit (s := S2x32x128x128) (k0_off10 i k) S1x1x128x128.size (k0_off10_inb i k)).toLoadRect X9) (View.readAt (Elt F) arg10.view (Rect.unit (s := S32x128x128) (k0_off11 i k) S1x64x128.size (k0_off11_inb i k)).toLoadRect X10) acc := by
  unfold tripR_k0_t3 trip_k0_t3
  rfl

theorem trip4 (c : Dev nD) (i : grid0.Coords) (arg3 : Memref sig .tc .smem S8 .f32) (harg3 : arg3.IsWhole) (arg4 : Memref sig .tc .vmem S256x128 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x256 .bf16) (harg7 : arg7.IsWhole) (arg8 : Memref sig .tc .vmem S256x128 .f32) (harg8 : arg8.IsWhole) (arg9 : Memref sig .tc .vmem S2x32x128x128 .bf16) (harg9 : arg9.IsWhole) (arg10 : Memref sig .tc .vmem S32x128x128 .bf16) (harg10 : arg10.IsWhole) (v6 : FVec F S256x128 .bf16) (v8 : FVec F S128x256 .bf16) (v118 : Elt F .f32) (X9 : BufTy.Contents (Elt F) arg9.view.ty) (X10 : BufTy.Contents (Elt F) arg10.view.ty) (k : Fin (k0_t4_loop i).trips) (acc : Pair F) :
    tripR_k0_t4 Variants.none c none i arg3 harg3 arg4 harg4 arg5 harg5 arg6 harg6 arg7 harg7 arg8 harg8 arg9 harg9 arg10 harg10 v6 v8 v118 X9 X10 k acc =
      step v6 v8 v118 (View.readAt (Elt F) arg9.view (Rect.unit (s := S2x32x128x128) (k0_off12 i k) S1x1x128x128.size (k0_off12_inb i k)).toLoadRect X9) (View.readAt (Elt F) arg10.view (Rect.unit (s := S32x128x128) (k0_off13 i k) S1x64x128.size (k0_off13_inb i k)).toLoadRect X10) acc := by
  unfold tripR_k0_t4 trip_k0_t4
  rfl

end Cert.AttnIdeal.Body
-- ==== Proof.Attn.Heads.lean ====
/- The result of a grid point in plain form, from what it loads and the contents of the two scratch buffers. -/
module

public import proofs.«01_k».proof.Proof.Attn.Loops

@[expose] public section

set_option maxRecDepth 65536
set_option maxHeartbeats 4000000

noncomputable section

namespace Cert.AttnIdeal.Body

open Idealize.ShloMosaic Idealize.SL.Sem Cert.AttnIdeal Cert.AttnIdeal.Gen

variable {F : FTy → Type} [FloatOps F]

section heads

variable (c : Dev nD) (i : grid0.Coords) (arg3 : Memref sig .tc .smem S8 .f32) (harg3 : arg3.IsWhole) (arg4 : Memref sig .tc .vmem S256x128 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x256 .bf16) (harg7 : arg7.IsWhole) (arg8 : Memref sig .tc .vmem S256x128 .f32) (harg8 : arg8.IsWhole) (arg9 : Memref sig .tc .vmem S2x32x128x128 .bf16) (harg9 : arg9.IsWhole) (arg10 : Memref sig .tc .vmem S32x128x128 .bf16) (harg10 : arg10.IsWhole)

/-- What the first head's two loops leave: the fold of their trips from the two tiles at the queries' own positions. -/
def head0 (qb : FVec F S256x128 .bf16) (uu : FVec F S128x256 .bf16) (bias : Elt F .f32) (v59 : FVec F S64x256 .f32) (v61 : FVec F S1x256 .f32) (v69 v71 v78 : FVec F S128x256 .f32) (X9 : BufTy.Contents (Elt F) arg9.view.ty) (X10 : BufTy.Contents (Elt F) arg10.view.ty) (init : Pair F) : Pair F :=
  st_k0_t2 Variants.none c none i arg3 harg3 arg4 harg4 arg5 harg5 arg6 harg6 arg7 harg7 arg8 harg8 arg9 harg9 arg10 harg10 (BitVec.ofNat 32 (i 1).val) (BitVec.ofNat 32 (i 2).val) qb uu rowI colI bias v59 v61 (Scalar.addi (Scalar.muli (BitVec.ofNat 32 (i 2).val) 2#32) 0#32) v69 v71 v78 X9 X10
    (st_k0_t1 Variants.none c none i arg3 harg3 arg4 harg4 arg5 harg5 arg6 harg6 arg7 harg7 arg8 harg8 arg9 harg9 arg10 harg10 (BitVec.ofNat 32 (i 1).val) (BitVec.ofNat 32 (i 2).val) qb uu rowI colI bias v59 v61 (Scalar.addi (Scalar.muli (BitVec.ofNat 32 (i 2).val) 2#32) 0#32) v69 v71 v78 X9 X10
      init (Scf.trips (k0_t1_loop i).lb (k0_t1_loop i).ub (k0_t1_loop i).st)) (Scf.trips (k0_t2_loop i).lb (k0_t2_loop i).ub (k0_t2_loop i).st)
def head1 (qb : FVec F S256x128 .bf16) (uu : FVec F S128x256 .bf16) (bias : Elt F .f32) (X9 : BufTy.Contents (Elt F) arg9.view.ty) (X10 : BufTy.Contents (Elt F) arg10.view.ty) (init : Pair F) : Pair F :=
  st_k0_t4 Variants.none c none i arg3 harg3 arg4 harg4 arg5 harg5 arg6 harg6 arg7 harg7 arg8 harg8 arg9 harg9 arg10 harg10 qb uu bias X9 X10
    (st_k0_t3 Variants.none c none i arg3 harg3 arg4 harg4 arg5 harg5 arg6 harg6 arg7 harg7 arg8 harg8 arg9 harg9 arg10 harg10 qb uu bias X9 X10
      init (Scf.trips (k0_t3_loop i).lb (k0_t3_loop i).ub (k0_t3_loop i).st)) (Scf.trips (k0_t4_loop i).lb (k0_t4_loop i).ub (k0_t4_loop i).st)

variable (x0 : Vec F S8 .f32) (x1 : Vec F S256x128 .f32) (x4 : Vec F S128x256 .bf16)

/-- The scaled queries, the table of suffix ones, and the two heads' biases, as the point loads them. -/
def rq : FVec F S256x128 .bf16 := (qOf (View.readAt (Elt F) arg4.view (Rect.unit (s := S256x128) ![0, 0] S256x128.size inb_S256x128_S256x128_0_0).toLoadRect (harg4.unread x1)))
def ru : FVec F S128x256 .bf16 := (shapeCast S128x256 (View.readAt (Elt F) arg7.view (Rect.unit (s := S128x256) ![0, 0] S128x256.size inb_S128x256_S128x256_0_0).toLoadRect (harg7.unread x4)) shapeCasts_S128x256_S128x256 : FVec F S128x256 .bf16)
def rb0 : Elt F .f32 := View.readAt (Elt F) arg3.view (Rect.unit (s := S8) (k0_off1 i 0#32) S1.size (k0_off1_inb i 0)).toLoadRect (harg3.unread x0) (Shape.Idx.first (numel1_S1.symm ▸ Nat.one_pos))
def rb1 : Elt F .f32 := View.readAt (Elt F) arg3.view (Rect.unit (s := S8) (k0_off1 i 1#32) S1.size (k0_off1_inb i 1)).toLoadRect (harg3.unread x0) (Shape.Idx.first (numel1_S1.symm ▸ Nat.one_pos))

end heads

/-- The first head's tiles at the queries' own positions. -/
def diag0 (i : grid0.Coords) (arg3 : Memref sig .tc .smem S8 .f32) (harg3 : arg3.IsWhole) (arg4 : Memref sig .tc .vmem S256x128 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x256 .bf16) (harg7 : arg7.IsWhole) (arg8 : Memref sig .tc .vmem S256x128 .f32) (harg8 : arg8.IsWhole) (arg9 : Memref sig .tc .vmem S2x32x128x128 .bf16) (harg9 : arg9.IsWhole) (arg10 : Memref sig .tc .vmem S32x128x128 .bf16) (harg10 : arg10.IsWhole) (x0 : Vec F S8 .f32) (x1 : Vec F S256x128 .f32) (x4 : Vec F S128x256 .bf16) (X9 : BufTy.Contents (Elt F) arg9.view.ty) (X10 : BufTy.Contents (Elt F) arg10.view.ty) : Pair F := diag (rq arg4 harg4 x1) (ru arg7 harg7 x4) (rb0 i arg3 harg3 x0) (View.readAt (Elt F) arg9.view (Rect.unit (s := S2x32x128x128) (k0_off2 i 1#32) S1x1x128x128.size (k0_off2_inb i 1)).toLoadRect X9) (View.readAt (Elt F) arg9.view (Rect.unit (s := S2x32x128x128) (k0_off2 i 0#32) S1x1x128x128.size (k0_off2_inb i 0)).toLoadRect X9) (View.readAt (Elt F) arg10.view (Rect.unit (s := S32x128x128) (k0_off3 i 1#32) S1x64x128.size (k0_off3_inb i 1)).toLoadRect X10) (View.readAt (Elt F) arg10.view (Rect.unit (s := S32x128x128) (k0_off3 i 0#32) S1x64x128.size (k0_off3_inb i 0)).toLoadRect X10)
def late0 (i : grid0.Coords) (arg3 : Memref sig .tc .smem S8 .f32) (harg3 : arg3.IsWhole) (arg4 : Memref sig .tc .vmem S256x128 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x256 .bf16) (harg7 : arg7.IsWhole) (arg8 : Memref sig .tc .vmem S256x128 .f32) (harg8 : arg8.IsWhole) (arg9 : Memref sig .tc .vmem S2x32x128x128 .bf16) (harg9 : arg9.IsWhole) (arg10 : Memref sig .tc .vmem S32x128x128 .bf16) (harg10 : arg10.IsWhole) (x0 : Vec F S8 .f32) (x1 : Vec F S256x128 .f32) (x4 : Vec F S128x256 .bf16) (X9 : BufTy.Contents (Elt F) arg9.view.ty) (X10 : BufTy.Contents (Elt F) arg10.view.ty) : Pair F := stepD 128#32 (rq arg4 harg4 x1) (ru arg7 harg7 x4) (rb0 i arg3 harg3 x0) (View.readAt (Elt F) arg9.view (Rect.unit (s := S2x32x128x128) (k0_off2 i 1#32) S1x1x128x128.size (k0_off2_inb i 1)).toLoadRect X9) (View.readAt (Elt F) arg10.view (Rect.unit (s := S32x128x128) (k0_off3 i 1#32) S1x64x128.size (k0_off3_inb i 1)).toLoadRect X10) start
def diag1 (i : grid0.Coords) (arg3 : Memref sig .tc .smem S8 .f32) (harg3 : arg3.IsWhole) (arg4 : Memref sig .tc .vmem S256x128 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x256 .bf16) (harg7 : arg7.IsWhole) (arg8 : Memref sig .tc .vmem S256x128 .f32) (harg8 : arg8.IsWhole) (arg9 : Memref sig .tc .vmem S2x32x128x128 .bf16) (harg9 : arg9.IsWhole) (arg10 : Memref sig .tc .vmem S32x128x128 .bf16) (harg10 : arg10.IsWhole) (x0 : Vec F S8 .f32) (x1 : Vec F S256x128 .f32) (x4 : Vec F S128x256 .bf16) (X9 : BufTy.Contents (Elt F) arg9.view.ty) (X10 : BufTy.Contents (Elt F) arg10.view.ty) : Pair F := diag (rq arg4 harg4 x1) (ru arg7 harg7 x4) (rb1 i arg3 harg3 x0) (View.readAt (Elt F) arg9.view (Rect.unit (s := S2x32x128x128) (k0_off8 i 1#32) S1x1x128x128.size (k0_off8_inb i 1)).toLoadRect X9) (View.readAt (Elt F) arg9.view (Rect.unit (s := S2x32x128x128) (k0_off8 i 0#32) S1x1x128x128.size (k0_off8_inb i 0)).toLoadRect X9) (View.readAt (Elt F) arg10.view (Rect.unit (s := S32x128x128) (k0_off9 i 1#32) S1x64x128.size (k0_off9_inb i 1)).toLoadRect X10) (View.readAt (Elt F) arg10.view (Rect.unit (s := S32x128x128) (k0_off9 i 0#32) S1x64x128.size (k0_off9_inb i 0)).toLoadRect X10)
def score0 (i : grid0.Coords) (arg3 : Memref sig .tc .smem S8 .f32) (harg3 : arg3.IsWhole) (arg4 : Memref sig .tc .vmem S256x128 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x256 .bf16) (harg7 : arg7.IsWhole) (arg8 : Memref sig .tc .vmem S256x128 .f32) (harg8 : arg8.IsWhole) (arg9 : Memref sig .tc .vmem S2x32x128x128 .bf16) (harg9 : arg9.IsWhole) (arg10 : Memref sig .tc .vmem S32x128x128 .bf16) (harg10 : arg10.IsWhole) (x0 : Vec F S8 .f32) (x1 : Vec F S256x128 .f32) (x4 : Vec F S128x256 .bf16) (X9 : BufTy.Contents (Elt F) arg9.view.ty) (X10 : BufTy.Contents (Elt F) arg10.view.ty) : FVec F S128x256 .f32 := scores (rq arg4 harg4 x1) (rb0 i arg3 harg3 x0) (View.readAt (Elt F) arg9.view (Rect.unit (s := S2x32x128x128) (k0_off2 i 0#32) S1x1x128x128.size (k0_off2_inb i 0)).toLoadRect X9)
/-- The point's result: the two heads' outputs, one below the other, transposed. -/
def outT (c : Dev nD) (i : grid0.Coords) (arg3 : Memref sig .tc .smem S8 .f32) (harg3 : arg3.IsWhole) (arg4 : Memref sig .tc .vmem S256x128 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x256 .bf16) (harg7 : arg7.IsWhole) (arg8 : Memref sig .tc .vmem S256x128 .f32) (harg8 : arg8.IsWhole) (arg9 : Memref sig .tc .vmem S2x32x128x128 .bf16) (harg9 : arg9.IsWhole) (arg10 : Memref sig .tc .vmem S32x128x128 .bf16) (harg10 : arg10.IsWhole) (x0 : Vec F S8 .f32) (x1 : Vec F S256x128 .f32) (x4 : Vec F S128x256 .bf16) (X9 : BufTy.Contents (Elt F) arg9.view.ty) (X10 : BufTy.Contents (Elt F) arg10.view.ty) : FVec F S256x128 .f32 :=
  transpose S256x128 [1, 0] (concatenate S128x256 0
    [⟨S64x256, (head0 c i arg3 harg3 arg4 harg4 arg5 harg5 arg6 harg6 arg7 harg7 arg8 harg8 arg9 harg9 arg10 harg10 (rq arg4 harg4 x1) (ru arg7 harg7 x4) (rb0 i arg3 harg3 x0) (late0 i arg3 harg3 arg4 harg4 arg5 harg5 arg6 harg6 arg7 harg7 arg8 harg8 arg9 harg9 arg10 harg10 x0 x1 x4 X9 X10).1 (late0 i arg3 harg3 arg4 harg4 arg5 harg5 arg6 harg6 arg7 harg7 arg8 harg8 arg9 harg9 arg10 harg10 x0 x1 x4 X9 X10).2 (score0 i arg3 harg3 arg4 harg4 arg5 harg5 arg6 harg6 arg7 harg7 arg8 harg8 arg9 harg9 arg10 harg10 x0 x1 x4 X9 X10) (keepMax (score0 i arg3 harg3 arg4 harg4 arg5 harg5 arg6 harg6 arg7 harg7 arg8 harg8 arg9 harg9 arg10 harg10 x0 x1 x4 X9 X10)) (keepLog (score0 i arg3 harg3 arg4 harg4 arg5 harg5 arg6 harg6 arg7 harg7 arg8 harg8 arg9 harg9 arg10 harg10 x0 x1 x4 X9 X10)) X9 X10 (diag0 i arg3 harg3 arg4 harg4 arg5 harg5 arg6 harg6 arg7 harg7 arg8 harg8 arg9 harg9 arg10 harg10 x0 x1 x4 X9 X10)).1⟩,
     ⟨S64x256, (head1 c i arg3 harg3 arg4 harg4 arg5 harg5 arg6 harg6 arg7 harg7 arg8 harg8 arg9 harg9 arg10 harg10 (rq arg4 harg4 x1) (ru arg7 harg7 x4) (rb1 i arg3 harg3 x0) X9 X10 (diag1 i arg3 harg3 arg4 harg4 arg5 harg5 arg6 harg6 arg7 harg7 arg8 harg8 arg9 harg9 arg10 harg10 x0 x1 x4 X9 X10)).1⟩] concatenates_S64x256_S64x256_S128x256_d0) transposes_S128x256_p1_0_S256x128

end Cert.AttnIdeal.Body
-- ==== Proof.Attn.FillA.lean ====
/- The stores of the first point of a run into the two scratch buffers. -/
module

public import proofs.«01_k».proof.Proof.Gen.AttnIdeal.Frame.RunA
public import proofs.«01_k».proof.Proof.Attn.Heads

@[expose] public section

set_option maxRecDepth 65536
set_option maxHeartbeats 4000000

noncomputable section

namespace Cert.AttnIdeal.Body

open Idealize.ShloMosaic Idealize.SL.Sem Cert.AttnIdeal Cert.AttnIdeal.Gen

variable {F : FTy → Type} [FloatOps F]

theorem keys_A (c : Dev nD) (i : grid0.Coords) (arg3 : Memref sig .tc .smem S8 .f32) (harg3 : arg3.IsWhole) (arg4 : Memref sig .tc .vmem S256x128 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x256 .bf16) (harg7 : arg7.IsWhole) (arg8 : Memref sig .tc .vmem S256x128 .f32) (harg8 : arg8.IsWhole) (arg9 : Memref sig .tc .vmem S2x32x128x128 .bf16) (harg9 : arg9.IsWhole) (arg10 : Memref sig .tc .vmem S32x128x128 .bf16) (harg10 : arg10.IsWhole) (hc0 : cond0_0 i) (x0 : Vec F S8 .f32) (x1 : Vec F S256x128 .f32) (x2 : Vec F S128x4096 .f32) (x3 : Vec F S128x4096 .f32) (x4 : Vec F S128x256 .bf16) :
    (kernelRun0_A c i arg3 harg3 arg4 harg4 arg5 harg5 arg6 harg6 arg7 harg7 arg8 harg8 arg9 harg9 arg10 harg10 hc0 x0 x1 x2 x3 x4).2.1 = kPieces (fun r => View.readAt (Elt F) arg5.view r.toLoadRect (harg5.unread x2)) 32 le_rfl := by
  sl_kernel_rfl

theorem vals_A (c : Dev nD) (i : grid0.Coords) (arg3 : Memref sig .tc .smem S8 .f32) (harg3 : arg3.IsWhole) (arg4 : Memref sig .tc .vmem S256x128 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x256 .bf16) (harg7 : arg7.IsWhole) (arg8 : Memref sig .tc .vmem S256x128 .f32) (harg8 : arg8.IsWhole) (arg9 : Memref sig .tc .vmem S2x32x128x128 .bf16) (harg9 : arg9.IsWhole) (arg10 : Memref sig .tc .vmem S32x128x128 .bf16) (harg10 : arg10.IsWhole) (hc0 : cond0_0 i) (x0 : Vec F S8 .f32) (x1 : Vec F S256x128 .f32) (x2 : Vec F S128x4096 .f32) (x3 : Vec F S128x4096 .f32) (x4 : Vec F S128x256 .bf16) :
    (kernelRun0_A c i arg3 harg3 arg4 harg4 arg5 harg5 arg6 harg6 arg7 harg7 arg8 harg8 arg9 harg9 arg10 harg10 hc0 x0 x1 x2 x3 x4).2.2.1 = vPieces (fun r => View.readAt (Elt F) arg6.view r.toLoadRect (harg6.unread x3)) 32 le_rfl := by
  sl_kernel_rfl

end Cert.AttnIdeal.Body
-- ==== Proof.Attn.RunA.lean ====
/- The one store of a grid point's result, in case A. -/
module

public import proofs.«01_k».proof.Proof.Gen.AttnIdeal.Frame.RunA
public import proofs.«01_k».proof.Proof.Attn.Heads

@[expose] public section

set_option maxRecDepth 65536
set_option maxHeartbeats 4000000

noncomputable section

namespace Cert.AttnIdeal.Body

open Idealize.ShloMosaic Idealize.SL.Sem Cert.AttnIdeal Cert.AttnIdeal.Gen

variable {F : FTy → Type} [FloatOps F]

theorem run_A (c : Dev nD) (i : grid0.Coords) (arg3 : Memref sig .tc .smem S8 .f32) (harg3 : arg3.IsWhole) (arg4 : Memref sig .tc .vmem S256x128 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x256 .bf16) (harg7 : arg7.IsWhole) (arg8 : Memref sig .tc .vmem S256x128 .f32) (harg8 : arg8.IsWhole) (arg9 : Memref sig .tc .vmem S2x32x128x128 .bf16) (harg9 : arg9.IsWhole) (arg10 : Memref sig .tc .vmem S32x128x128 .bf16) (harg10 : arg10.IsWhole) (hc0 : cond0_0 i) (x0 : Vec F S8 .f32) (x1 : Vec F S256x128 .f32) (x2 : Vec F S128x4096 .f32) (x3 : Vec F S128x4096 .f32) (x4 : Vec F S128x256 .bf16) :
    (kernelRun0_A c i arg3 harg3 arg4 harg4 arg5 harg5 arg6 harg6 arg7 harg7 arg8 harg8 arg9 harg9 arg10 harg10 hc0 x0 x1 x2 x3 x4).1 = [⟨Rect.unit ![0, 0] S256x128.size inb_S256x128_S256x128_0_0, outT c i arg3 harg3 arg4 harg4 arg5 harg5 arg6 harg6 arg7 harg7 arg8 harg8 arg9 harg9 arg10 harg10 x0 x1 x4 (arg9.view.writes (Elt F) arg9.view.junk (kernelRun0_A c i arg3 harg3 arg4 harg4 arg5 harg5 arg6 harg6 arg7 harg7 arg8 harg8 arg9 harg9 arg10 harg10 hc0 x0 x1 x2 x3 x4).2.1) (arg10.view.writes (Elt F) arg10.view.junk (kernelRun0_A c i arg3 harg3 arg4 harg4 arg5 harg5 arg6 harg6 arg7 harg7 arg8 harg8 arg9 harg9 arg10 harg10 hc0 x0 x1 x2 x3 x4).2.2.1)⟩] := by
  sl_kernel_rfl

end Cert.AttnIdeal.Body
-- ==== Proof.Attn.RunB.lean ====
/- The one store of a grid point's result, in case B. -/
module

public import proofs.«01_k».proof.Proof.Gen.AttnIdeal.Frame.RunB
public import proofs.«01_k».proof.Proof.Attn.Heads

@[expose] public section

set_option maxRecDepth 65536
set_option maxHeartbeats 4000000

noncomputable section

namespace Cert.AttnIdeal.Body

open Idealize.ShloMosaic Idealize.SL.Sem Cert.AttnIdeal Cert.AttnIdeal.Gen

variable {F : FTy → Type} [FloatOps F]

theorem run_B (c : Dev nD) (i : grid0.Coords) (arg3 : Memref sig .tc .smem S8 .f32) (harg3 : arg3.IsWhole) (arg4 : Memref sig .tc .vmem S256x128 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x256 .bf16) (harg7 : arg7.IsWhole) (arg8 : Memref sig .tc .vmem S256x128 .f32) (harg8 : arg8.IsWhole) (arg9 : Memref sig .tc .vmem S2x32x128x128 .bf16) (harg9 : arg9.IsWhole) (arg10 : Memref sig .tc .vmem S32x128x128 .bf16) (harg10 : arg10.IsWhole) (hc0 : ¬cond0_0 i) (x0 : Vec F S8 .f32) (x1 : Vec F S256x128 .f32) (x2 : Vec F S128x4096 .f32) (x3 : Vec F S128x4096 .f32) (x4 : Vec F S128x256 .bf16) (xs0 : Vec F S2x32x128x128 .bf16) (xs1 : Vec F S32x128x128 .bf16) :
    (kernelRun0_B c i arg3 harg3 arg4 harg4 arg5 harg5 arg6 harg6 arg7 harg7 arg8 harg8 arg9 harg9 arg10 harg10 hc0 x0 x1 x2 x3 x4 xs0 xs1).1 = [⟨Rect.unit ![0, 0] S256x128.size inb_S256x128_S256x128_0_0, outT c i arg3 harg3 arg4 harg4 arg5 harg5 arg6 harg6 arg7 harg7 arg8 harg8 arg9 harg9 arg10 harg10 x0 x1 x4 (harg9.unread xs0) (harg10.unread xs1)⟩] := by
  sl_kernel_rfl

end Cert.AttnIdeal.Body
-- ==== Proof.Attn.Math.lean ====
/- The stick-breaking weights over the extended reals, and the sums over later keys a tile at a time. -/
module

public import Idealize.ShloMosaic.PureOps.Ideal
public import Idealize.ShloMosaic.PureOps.Ideal.Laws

@[expose] public section

noncomputable section

namespace StickBreak

open Idealize.ShloMosaic
open scoped BigOperators

theorem coe_max' (a b : ℝ) : ((max a b : ℝ) : EReal) = max (a : EReal) (b : EReal) := EReal.coe_strictMono.monotone.map_max

/-- `log (1 + exp z)`, the way both programs compute it. -/
def sp (z : EReal) : EReal := max z 0 + Ideal.log (1 + Ideal.exp (-(max z (-z))))

theorem one_add_exp (r : ℝ) : ∃ s : ℝ, 0 ≤ s ∧ Ideal.log (1 + Ideal.exp (-(max (r : EReal) (-(r : EReal))))) = (s : EReal) := by
  have h : -(max (r : EReal) (-(r : EReal))) = ((-(max r (-r)) : ℝ) : EReal) := by
    rw [EReal.coe_neg, coe_max', EReal.coe_neg]
  have h1 : (1 : EReal) + ((Real.exp (-(max r (-r))) : ℝ) : EReal) = ((1 + Real.exp (-(max r (-r))) : ℝ) : EReal) := by
    rw [EReal.coe_add, EReal.coe_one]
  have hp : 0 < Real.exp (-(max r (-r))) := Real.exp_pos _
  refine ⟨Real.log (1 + Real.exp (-(max r (-r)))), Real.log_nonneg (by linarith), ?_⟩
  rw [h, Ideal.exp_coe, h1, Ideal.log_coe, if_neg (by linarith)]

theorem log_one : Ideal.log 1 = 0 := by
  show Ideal.log ((1 : ℝ) : EReal) = 0
  rw [Ideal.log_coe, if_neg (by norm_num), Real.log_one, EReal.coe_zero]

theorem sp_coe (r : ℝ) : ∃ s : ℝ, 0 ≤ s ∧ sp r = ((max r 0 + s : ℝ) : EReal) ∧ sp (-(r : EReal)) = ((max (-r) 0 + s : ℝ) : EReal) := by
  obtain ⟨s, hs, h⟩ := one_add_exp r
  refine ⟨s, hs, ?_, ?_⟩
  · unfold sp
    rw [h, EReal.coe_add, coe_max', EReal.coe_zero]
  · unfold sp
    rw [neg_neg, max_comm (-(r : EReal)) r, h, EReal.coe_add, coe_max', EReal.coe_zero, EReal.coe_neg]

theorem sp_top : sp ⊤ = ⊤ := by
  unfold sp
  rw [EReal.neg_top, max_eq_left bot_le, EReal.neg_top, Ideal.exp_bot, add_zero, log_one, add_zero, max_eq_left le_top]
theorem sp_bot : sp ⊥ = 0 := by
  unfold sp
  rw [EReal.neg_bot, max_eq_right bot_le, max_eq_right bot_le, EReal.neg_top, Ideal.exp_bot, add_zero, log_one, add_zero]

/-- The logarithm of what a key at score `z` lets pass. -/
def lk (z : EReal) : EReal := -sp z

theorem lk_ne_top (z : EReal) : lk z ≠ ⊤ := by
  unfold lk
  induction z using EReal.rec with
  | bot => rw [sp_bot, neg_zero]; exact EReal.zero_ne_top
  | top => rw [sp_top, EReal.neg_top]; exact bot_ne_top
  | coe r =>
    obtain ⟨s, hs, h, _⟩ := sp_coe r
    rw [h, ← EReal.coe_neg]; exact EReal.coe_ne_top _

/-- Taking the key's own term out of the sum and adding the logarithm of its weight is adding its score. -/
theorem own_term (z C : EReal) : -sp (-z) + ((lk z + C) - lk z) = z + (lk z + C) := by
  unfold lk
  induction z using EReal.rec with
  | bot => rw [EReal.neg_bot, sp_top, EReal.neg_top, EReal.bot_add, EReal.bot_add]
  | top => rw [EReal.neg_top, sp_top, sp_bot, EReal.neg_top, EReal.bot_add, neg_zero, sub_eq_add_neg, EReal.bot_add, zero_add, EReal.add_bot]
  | coe r =>
    obtain ⟨s, hs, h, h'⟩ := sp_coe r
    rw [h, h']
    have e : ((-(max r 0 + s : ℝ) : ℝ) : EReal) + C - ((-(max r 0 + s : ℝ) : ℝ) : EReal) = C := by
      rw [add_comm]; exact EReal.add_sub_cancel_right
    rw [← EReal.coe_neg, ← EReal.coe_neg, e, ← add_assoc, ← EReal.coe_add]
    congr 2
    rcases le_total r 0 with hr | hr
    · rw [max_eq_right hr, max_eq_left (by linarith)]; ring
    · rw [max_eq_left hr, max_eq_right (by linarith)]; ring

/-- What key `p` lets pass of query `s`: nothing is held back at or after the query's own position. -/
def keep (Z : ℕ → EReal) (s p : ℕ) : EReal := if p < s then lk (Z p) else 0
theorem keep_ne_top (Z : ℕ → EReal) (s p : ℕ) : keep Z s p ≠ ⊤ := by
  unfold keep; split
  · exact lk_ne_top _
  · exact EReal.zero_ne_top

def later (Z : ℕ → EReal) (s N p : ℕ) : EReal := ∑ j ∈ Finset.Ico p N, keep Z s j
def weight (Z : ℕ → EReal) (s N p : ℕ) : EReal := if p < s then Ideal.exp (Z p + later Z s N p) else 0
def outSum (Z V : ℕ → EReal) (s N b : ℕ) : EReal := ∑ p ∈ Finset.Ico b N, V p * weight Z s N p

theorem later_beyond (Z : ℕ → EReal) (s N p : ℕ) (h : s ≤ p) : later Z s N p = 0 :=
  Finset.sum_eq_zero fun j hj => if_neg (by have := (Finset.mem_Ico.mp hj).1; omega)

theorem later_end (Z : ℕ → EReal) (s N M p : ℕ) (h : s ≤ N) (hNM : N ≤ M) : later Z s M p = later Z s N p := by
  unfold later
  refine (Finset.sum_subset (Finset.Ico_subset_Ico le_rfl hNM) fun j hj hn => if_neg ?_).symm
  rw [Finset.mem_Ico] at hj hn; omega

theorem weight_end (Z : ℕ → EReal) (s N M p : ℕ) (h : s ≤ N) (hNM : N ≤ M) : weight Z s M p = weight Z s N p := by
  unfold weight; rw [later_end Z s N M p h hNM]

theorem outSum_end (Z V : ℕ → EReal) (s N M : ℕ) (h : s ≤ N) (hNM : N ≤ M) : outSum Z V s M 0 = outSum Z V s N 0 := by
  unfold outSum
  simp only [weight_end Z s N M _ h hNM]
  refine (Finset.sum_subset (Finset.Ico_subset_Ico le_rfl hNM) fun j hj hn => ?_).symm
  rw [Finset.mem_Ico] at hj hn
  unfold weight
  rw [if_neg (by omega), mul_zero]

theorem outSum_fin (Z V : ℕ → EReal) (s N : ℕ) : outSum Z V s N 0 = ∑ p : Fin N, V p.val * weight Z s N p.val := by
  unfold outSum
  rw [← Finset.range_eq_Ico, Finset.sum_range]

/-- The weight with the key's own term taken out of the running sum, as the reference has it. -/
theorem weight_own (Z : ℕ → EReal) (s M p : ℕ) (hp : p < M) :
    (if p < s then Ideal.exp (-sp (-(Z p)) + (later Z s M p - keep Z s p)) else 0) = weight Z s M p := by
  unfold weight
  split
  · next h =>
    have e : later Z s M p = lk (Z p) + later Z s M (p + 1) := by
      unfold later
      rw [Finset.sum_eq_sum_Ico_succ_bot hp, keep, if_pos h]
    have k : keep Z s p = lk (Z p) := if_pos h
    rw [e, k, own_term]
  · rfl

theorem Ico_tile (f : ℕ → EReal) (b : ℕ) : ∑ j ∈ Finset.Ico b (b + 128), f j = ∑ l : Fin 128, f (b + l.val) := by
  rw [Finset.sum_Ico_eq_sum_range, Nat.add_sub_cancel_left, Finset.sum_range]

/-- A tile's own later keys, then the keys of the later tiles. -/
theorem later_tile (Z : ℕ → EReal) (s N b r : ℕ) (hr : r < 128) (hb : b + 128 ≤ N) :
    later Z s N (b + r) = (∑ l : Fin 128, if r ≤ l.val then keep Z s (b + l.val) else 0) + later Z s N (b + 128) := by
  unfold later
  rw [← Finset.sum_Ico_consecutive _ (show b + r ≤ b + 128 by omega) hb]
  congr 1
  rw [← Ico_tile (fun j => if b + r ≤ j then keep Z s j else 0) b |>.trans (Finset.sum_congr rfl fun l _ => by
    simp only [Nat.add_le_add_iff_left])]
  rw [← Finset.sum_filter]
  refine Finset.sum_congr (Finset.ext fun j => ?_) fun _ _ => rfl
  rw [Finset.mem_filter, Finset.mem_Ico, Finset.mem_Ico]; omega

theorem outSum_tile (Z V : ℕ → EReal) (s N b : ℕ) (hb : b + 128 ≤ N) :
    outSum Z V s N b = outSum Z V s N (b + 128) + ∑ l : Fin 128, V (b + l.val) * weight Z s N (b + l.val) := by
  unfold outSum
  rw [← Finset.sum_Ico_consecutive _ (show b ≤ b + 128 by omega) hb, Ico_tile, add_comm]

theorem add_sub_self (x : EReal) (h : x ≠ ⊤) : x + (x - x) = x := by
  induction x using EReal.rec with
  | bot => rw [EReal.bot_add]
  | top => exact absurd rfl h
  | coe r => rw [← EReal.coe_sub, sub_self, EReal.coe_zero, add_zero]

/-- Summing a column and its (zero) remainder after rounding, each against the same 0/1 row. -/
theorem sum_both (u : Fin 256 → EReal) (P : Fin 128 → Prop) [DecidablePred P] (x : Fin 128 → EReal) (hx : ∀ l, x l ≠ ⊤) (y : Fin 256 → EReal)
    (hu0 : ∀ l : Fin 128, u ⟨l.val, by omega⟩ = if P l then 1 else 0) (hu1 : ∀ l : Fin 128, u ⟨128 + l.val, by omega⟩ = if P l then 1 else 0)
    (hy0 : ∀ l : Fin 128, y ⟨l.val, by omega⟩ = x l) (hy1 : ∀ l : Fin 128, y ⟨128 + l.val, by omega⟩ = x l - x l) :
    ∑ k, u k * y k = ∑ l : Fin 128, if P l then x l else 0 := by
  rw [Fin.sum_univ_add (a := 128) (b := 128) (fun k => u k * y k), ← Finset.sum_add_distrib]
  refine Finset.sum_congr rfl fun l _ => ?_
  refine (congrArg₂ (fun a b : EReal => a + b) (congrArg₂ (fun a b : EReal => a * b) (hu0 l) (hy0 l))
    (congrArg₂ (fun a b : EReal => a * b) (hu1 l) (hy1 l))).trans ?_
  show (if P l then (1 : EReal) else 0) * x l + (if P l then (1 : EReal) else 0) * (x l - x l) = _
  split
  · rw [one_mul, one_mul, add_sub_self _ (hx l)]
  · rw [zero_mul, zero_mul, add_zero]

theorem sum_mul_const {ι : Type} (S : Finset ι) (f : ι → EReal) (c : EReal) (h0 : 0 ≤ c) (h1 : c ≠ ⊤) :
    (∑ i ∈ S, f i) * c = ∑ i ∈ S, f i * c := by
  classical
  induction S using Finset.induction_on with
  | empty => rw [Finset.sum_empty, Finset.sum_empty, zero_mul]
  | insert a S ha ih => rw [Finset.sum_insert ha, Finset.sum_insert ha, EReal.right_distrib_of_nonneg_of_ne_top h0 h1, ih]

theorem foldl_sum {ι : Type} (g : ι → EReal) (L : List ι) (r : EReal) : L.foldl (fun r n => r + g n) r = r + (L.map g).sum := by
  induction L generalizing r with
  | nil => simp
  | cons a L ih => rw [List.foldl_cons, ih, List.map_cons, List.sum_cons, add_assoc]

/-- A window as long as the row, padded behind: the sum from the place to the row's end. -/
theorem window_sum (f : ℕ → EReal) (s : ℕ) (hs : s ≤ 4096) :
    ∑ k : Fin 4096, (if s + k.val < 4096 then f (s + k.val) else 0) = ∑ j ∈ Finset.Ico s 4096, f j := by
  rw [← Finset.sum_range (fun k => if s + k < 4096 then f (s + k) else 0), Finset.sum_Ico_eq_sum_range, ← Finset.sum_filter]
  refine Finset.sum_congr (Finset.ext fun j => ?_) fun _ _ => rfl
  rw [Finset.mem_filter, Finset.mem_range, Finset.mem_range]; omega

end StickBreak
-- ==== Proof.Attn.Apply.lean ====
/- The tile's functions read at an index over the extended reals, and what one tile adds to a query's carried pair. -/
module

public import proofs.«01_k».proof.Proof.Attn.Body
public import proofs.«01_k».proof.Proof.Attn.Math
public import Idealize.ShloMosaic.Lib.ValueIdxCore
public import Idealize.ShloMosaic.Lib.MatmulPlain
public import Idealize.ShloMosaic.Lib.Pipeline.Value
public import Idealize.ShloMosaic.Lib.IdealHost
public import Idealize.ShloMosaic.PureOps.Ideal.Laws

@[expose] public section

set_option maxRecDepth 16384

noncomputable section

namespace Cert.AttnIdeal.Body

open Idealize.ShloMosaic Idealize.SL.Sem Cert.AttnIdeal Cert.AttnIdeal.Gen
open Idealize.ShloMosaic.ValueIdx StickBreak
open scoped BigOperators

theorem scores_apply (qb : FVec Ideal S256x128 .bf16) (bias : Elt Ideal .f32) (kt : Vec Ideal S1x1x128x128 .bf16) (r : Fin 128) (q : Fin 256) :
    scores qb bias kt (ix2 r q) = (∑ l : Fin 128, (kt (ix4 0 0 r l) : EReal) * qb (ix2 q l)) + (bias : EReal) := by
  refine congrArg (fun a : EReal => a + (bias : EReal)) ?_
  refine (Ideal.matmul_transposedRhs_apply none (shapeCast S128x128 kt shapeCasts_S1x1x128x128_S128x128 : FVec Ideal S128x128 .bf16) qb (constant S128x256 .f32 0x00000000#32) r q).trans ?_
  rw [show (constant S128x256 .f32 0x00000000#32 : FVec Ideal S128x256 .f32) (ix2 r q) = (0 : EReal) from Ideal.ofBits_zero_f32, zero_add]
  refine Finset.sum_congr rfl fun l _ => congrArg (fun a : EReal => a * (qb (ix2 q l) : EReal)) ?_
  refine shapeCast_apply _ _ (ix2 r l) (ix4 0 0 r l) ?_
  rw [Shape.rowMajor_val_four, Shape.rowMajor_val_two]
  show ((0 * 1 + 0) * 128 + r.val) * 128 + l.val = r.val * 128 + l.val
  omega

theorem logKeep_apply (z : FVec Ideal S128x256 .f32) (x : S128x256.Idx) : logKeep z x = lk (z x) := by
  show (Ideal.ofBits .f32 0x00000000#32 : EReal) - (max (z x) (Ideal.ofBits .f32 0x00000000#32) + Ideal.log ((Ideal.ofBits .f32 0x3F800000#32 : EReal)
    + Ideal.exp ((Ideal.ofBits .f32 0x00000000#32 : EReal) - max (z x) (-(z x : EReal))))) = _
  rw [Ideal.ofBits_zero_f32, Ideal.ofBits_one_f32, zero_sub, zero_sub]
  rfl

theorem both_top (l : FVec Ideal S128x256 .f32) (r : Fin 128) (q : Fin 256) : both l (ix2 (⟨r.val, by omega⟩ : Fin 256) q) = l (ix2 r q) := by
  unfold both
  exact concatenate_pair_apply_left (t := S256x256) (s₁ := S128x256) (s₂ := S128x256) 0 _ _ _ _ rfl (ix2 r q) fun b => match b with | ⟨0, _⟩ => rfl | ⟨1, _⟩ => rfl

theorem both_bot (l : FVec Ideal S128x256 .f32) (r : Fin 128) (q : Fin 256) :
    both l (ix2 (⟨128 + r.val, by omega⟩ : Fin 256) q) = (l (ix2 r q) : EReal) - l (ix2 r q) := by
  unfold both
  exact concatenate_pair_apply_right (t := S256x256) (s₁ := S128x256) (s₂ := S128x256) 0 _ _ _ _ rfl rfl (ix2 r q)
    (fun b hb => match b with | ⟨0, _⟩ => absurd rfl hb | ⟨1, _⟩ => rfl) (by show r.val + 128 = 128 + r.val; omega)

/-- The table of suffix ones, twice side by side. -/
def Ones (uu : FVec Ideal S128x256 .bf16) : Prop := ∀ (r : Fin 128) (k : Fin 256), uu (ix2 r k) = if r.val ≤ k.val % 128 then (1 : EReal) else 0

theorem sums_apply (uu : FVec Ideal S128x256 .bf16) (hu : Ones uu) (l : FVec Ideal S128x256 .f32) (hl : ∀ r q, (l (ix2 r q) : EReal) ≠ ⊤) (r : Fin 128) (q : Fin 256) :
    sums uu l (ix2 r q) = ∑ k : Fin 128, if r.val ≤ k.val then (l (ix2 k q) : EReal) else 0 := by
  refine (Ideal.matmul_plain_apply none uu (both l) (constant S128x256 .f32 0x00000000#32) r q).trans ?_
  rw [show (constant S128x256 .f32 0x00000000#32 : FVec Ideal S128x256 .f32) (ix2 r q) = (0 : EReal) from Ideal.ofBits_zero_f32, zero_add]
  refine sum_both (fun k => uu (ix2 r k)) (fun k => r.val ≤ k.val) (fun k => l (ix2 k q)) (fun k => hl k q) (fun k => both l (ix2 k q)) (fun k => ?_) (fun k => ?_)
    (fun k => both_top l k q) (fun k => both_bot l k q)
  · refine (hu _ _).trans ?_
    rw [show k.val % 128 = k.val from Nat.mod_eq_of_lt k.isLt]
  · refine (hu _ _).trans ?_
    rw [show (128 + k.val) % 128 = k.val by omega]

theorem weigh_apply (z s : FVec Ideal S128x256 .f32) (carry : FVec Ideal S1x256 .f32) (r : Fin 128) (q : Fin 256) :
    weigh z s carry (ix2 r q) = Ideal.exp (((z (ix2 r q) : EReal) + s (ix2 r q)) + carry (ix2 0 q)) := by
  refine congrArg (fun a : EReal => Ideal.exp (((z (ix2 r q) : EReal) + s (ix2 r q)) + a)) ?_
  exact broadcastTo_apply _ _ _ (ix2 0 q) (fun a => match a with | ⟨0, _⟩ => rfl | ⟨1, _⟩ => rfl)

theorem addV_apply (acc : FVec Ideal S64x256 .f32) (vt : Vec Ideal S1x64x128 .bf16) (w : FVec Ideal S128x256 .f32) (d : Fin 64) (q : Fin 256) :
    addV acc vt w (ix2 d q) = (acc (ix2 d q) : EReal) + ∑ l : Fin 128, (vt (ix3 0 d l) : EReal) * w (ix2 l q) := by
  refine congrArg (fun a : EReal => (acc (ix2 d q) : EReal) + a) ?_
  refine (Ideal.matmul_plain_apply none (shapeCast S64x128 vt shapeCasts_S1x64x128_S64x128 : FVec Ideal S64x128 .bf16) (truncf .bf16 w bitsLt_bf16_f32 : FVec Ideal S128x256 .bf16) (constant S64x256 .f32 0x00000000#32) d q).trans ?_
  rw [show (constant S64x256 .f32 0x00000000#32 : FVec Ideal S64x256 .f32) (ix2 d q) = (0 : EReal) from Ideal.ofBits_zero_f32, zero_add]
  refine Finset.sum_congr rfl fun l _ => congrArg (fun a : EReal => a * (w (ix2 l q) : EReal)) ?_
  refine shapeCast_apply _ _ (ix2 d l) (ix3 0 d l) ?_
  rw [Shape.rowMajor_val_three, Shape.rowMajor_val_two]
  show (0 * 64 + d.val) * 128 + l.val = d.val * 128 + l.val
  omega

theorem addC_apply (carry : FVec Ideal S1x256 .f32) (s : FVec Ideal S128x256 .f32) (q : Fin 256) :
    addC carry s (ix2 0 q) = (carry (ix2 0 q) : EReal) + s (ix2 0 q) := by
  refine congrArg (fun a : EReal => (carry (ix2 0 q) : EReal) + a) ?_
  refine congrArg s ?_
  funext a; match a with | ⟨0, _⟩ => rfl | ⟨1, _⟩ => exact Fin.ext (Nat.zero_add _)

theorem seen_apply (d : ℕ) (hd : d ≤ 128) (r : Fin 128) (q : Fin 256) : seen (BitVec.ofNat 32 d) (ix2 r q) = BitVec.ofBool (decide (r.val + d < q.val)) := by
  have e : ∀ n : ℕ, n < 1024 → (BitVec.ofNat 32 n).toInt = (n : ℤ) := fun n hn => by
    rw [BitVec.toInt_eq_toNat_cond, BitVec.toNat_ofNat]; omega
  show BitVec.ofBool (BitVec.slt (BitVec.ofNat 32 (0 * 128 + r.val) + BitVec.ofNat 32 d) (BitVec.ofNat 32 (0 * 256 + q.val))) = _
  refine congrArg BitVec.ofBool ?_
  rw [zero_mul, zero_mul, zero_add, zero_add]
  rw [← BitVec.ofNat_add]
  unfold BitVec.slt
  rw [e _ (by omega), e _ (by omega)]
  exact decide_eq_decide.mpr (by omega)

theorem masked_apply (d : ℕ) (hd : d ≤ 128) (x : FVec Ideal S128x256 .f32) (r : Fin 128) (q : Fin 256) :
    masked (BitVec.ofNat 32 d) x (ix2 r q) = if r.val + d < q.val then (x (ix2 r q) : EReal) else 0 := by
  show Scalar.select (seen (BitVec.ofNat 32 d) (ix2 r q)) (x (ix2 r q)) (Ideal.ofBits .f32 0x00000000#32 : EReal) = _
  rw [seen_apply d hd, Ideal.ofBits_zero_f32]
  by_cases h : r.val + d < q.val
  · rw [if_pos h, decide_eq_true h]; rfl
  · rw [if_neg h, decide_eq_false h]; rfl

/-- Per query column: the carried sum and the output so far are those of the keys from place `b` on. -/
def Inv (Z : Fin 256 → ℕ → EReal) (V : Fin 64 → ℕ → EReal) (s : Fin 256 → ℕ) (N b : ℕ) (st : Pair Ideal) : Prop :=
  (∀ q, (st.2 (ix2 0 q) : EReal) = later (Z q) (s q) N b) ∧ ∀ d q, (st.1 (ix2 d q) : EReal) = outSum (Z q) (V d) (s q) N b

section step
variable (Z : Fin 256 → ℕ → EReal) (V : Fin 64 → ℕ → EReal) (s : Fin 256 → ℕ) (N b : ℕ)

/-- The tile's sums and the carried sum make the sum of the later keys. -/
theorem sums_later (hb : b + 128 ≤ N) (q : Fin 256) (S : Fin 128 → EReal) (cr : EReal) (hc : cr = later (Z q) (s q) N (b + 128))
    (hS : ∀ r, S r = ∑ k : Fin 128, if r.val ≤ k.val then keep (Z q) (s q) (b + k.val) else 0) (r : Fin 128) : S r + cr = later (Z q) (s q) N (b + r.val) := by
  rw [hS, hc, later_tile _ _ _ _ _ r.isLt hb]

theorem inv_of (hb : b + 128 ≤ N) (S : FVec Ideal S128x256 .f32) (W : FVec Ideal S128x256 .f32) (vt : Vec Ideal S1x64x128 .bf16) (st : Pair Ideal)
    (hst : Inv Z V s N (b + 128) st) (hv : ∀ d r, (vt (ix3 0 d r) : EReal) = V d (b + r.val))
    (hS : ∀ q r, (S (ix2 r q) : EReal) = ∑ k : Fin 128, if r.val ≤ k.val then keep (Z q) (s q) (b + k.val) else 0)
    (hW : ∀ q r, (W (ix2 r q) : EReal) = weight (Z q) (s q) N (b + r.val)) : Inv Z V s N b (addV st.1 vt W, addC st.2 S) := by
  refine ⟨fun q => ?_, fun d q => ?_⟩
  · refine (addC_apply _ _ _).trans ?_
    rw [add_comm]
    exact sums_later Z s N b hb q (fun r => S (ix2 r q)) _ (hst.1 q) (hS q) 0
  · refine (addV_apply _ _ _ _ _).trans ?_
    rw [outSum_tile _ _ _ _ _ hb]
    exact congrArg₂ (fun a b : EReal => a + b) (hst.2 d q) (Finset.sum_congr rfl fun l _ => congrArg₂ (fun a b : EReal => a * b) (hv d l) (hW q l))

variable (qb : FVec Ideal S256x128 .bf16) (uu : FVec Ideal S128x256 .bf16) (bias : Elt Ideal .f32) (kt : Vec Ideal S1x1x128x128 .bf16) (vt : Vec Ideal S1x64x128 .bf16) (st : Pair Ideal)

/-- A tile before all the queries. -/
theorem step_inv (hu : Ones uu) (hb : b + 128 ≤ N) (hs : ∀ q, b + 128 ≤ s q) (hz : ∀ q r, (scores qb bias kt (ix2 r q) : EReal) = Z q (b + r.val))
    (hv : ∀ d r, (vt (ix3 0 d r) : EReal) = V d (b + r.val)) (hst : Inv Z V s N (b + 128) st) : Inv Z V s N b (step qb uu bias kt vt st) := by
  have hk : ∀ (q : Fin 256) (r : Fin 128), (logKeep (scores qb bias kt) (ix2 r q) : EReal) = keep (Z q) (s q) (b + r.val) := fun q r => by
    rw [logKeep_apply, hz]
    exact (if_pos (by have := hs q; have := r.isLt; omega)).symm
  have hS : ∀ (q : Fin 256) (r : Fin 128), (sums uu (logKeep (scores qb bias kt)) (ix2 r q) : EReal) = ∑ k : Fin 128, if r.val ≤ k.val then keep (Z q) (s q) (b + k.val) else 0 := fun q r => by
    rw [sums_apply uu hu _ fun r q => by rw [hk]; exact keep_ne_top _ _ _]
    exact Finset.sum_congr rfl fun k _ => by rw [hk]
  refine inv_of Z V s N b hb _ _ vt st hst hv hS fun q r => ?_
  rw [weigh_apply, hz, add_assoc, sums_later Z s N b hb q (fun r => sums uu (logKeep (scores qb bias kt)) (ix2 r q)) _ (hst.1 q) (hS q) r]
  exact (if_pos (by have := hs q; have := r.isLt; omega)).symm

/-- A tile that meets the queries. -/
theorem stepD_inv (d : ℕ) (hd : d ≤ 128) (hu : Ones uu) (hb : b + 128 ≤ N) (hs : ∀ q : Fin 256, s q + d = b + q.val)
    (hz : ∀ q r, (scores qb bias kt (ix2 r q) : EReal) = Z q (b + r.val))
    (hv : ∀ d r, (vt (ix3 0 d r) : EReal) = V d (b + r.val)) (hst : Inv Z V s N (b + 128) st) : Inv Z V s N b (stepD (BitVec.ofNat 32 d) qb uu bias kt vt st) := by
  have hlt : ∀ (q : Fin 256) (r : Fin 128), (r.val + d < q.val) = (b + r.val < s q) := fun q r => propext (by have := hs q; omega)
  have hk : ∀ (q : Fin 256) (r : Fin 128), (masked (BitVec.ofNat 32 d) (logKeep (scores qb bias kt)) (ix2 r q) : EReal) = keep (Z q) (s q) (b + r.val) := fun q r => by
    rw [masked_apply d hd, logKeep_apply, hz]
    unfold keep
    simp only [hlt]
  have hS : ∀ (q : Fin 256) (r : Fin 128), (sums uu (masked (BitVec.ofNat 32 d) (logKeep (scores qb bias kt))) (ix2 r q) : EReal) = ∑ k : Fin 128, if r.val ≤ k.val then keep (Z q) (s q) (b + k.val) else 0 := fun q r => by
    rw [sums_apply uu hu _ fun r q => by rw [hk]; exact keep_ne_top _ _ _]
    exact Finset.sum_congr rfl fun k _ => by rw [hk]
  refine inv_of Z V s N b hb _ _ vt st hst hv hS fun q r => ?_
  rw [masked_apply d hd, weigh_apply, hz, add_assoc, sums_later Z s N b hb q (fun r => sums uu (masked (BitVec.ofNat 32 d) (logKeep (scores qb bias kt))) (ix2 r q)) _ (hst.1 q) (hS q) r]
  unfold weight
  simp only [hlt]

theorem start_inv : Inv Z V s N N start := by
  refine ⟨fun q => ?_, fun d q => ?_⟩
  · unfold later; rw [Finset.Ico_self]; exact Ideal.ofBits_zero_f32
  · unfold outSum; rw [Finset.Ico_self]; exact Ideal.ofBits_zero_f32

end step

/-- The two tiles at the queries' own positions: from nothing to the sums from place `B` on. -/
theorem diag_inv (Z : Fin 256 → ℕ → EReal) (V : Fin 64 → ℕ → EReal) (B : ℕ) (qb : FVec Ideal S256x128 .bf16) (uu : FVec Ideal S128x256 .bf16) (bias : Elt Ideal .f32)
    (k1 k0 : Vec Ideal S1x1x128x128 .bf16) (v1 v0 : Vec Ideal S1x64x128 .bf16) (hu : Ones uu)
    (hz1 : ∀ q r, (scores qb bias k1 (ix2 r q) : EReal) = Z q (B + 128 + r.val)) (hv1 : ∀ d r, (v1 (ix3 0 d r) : EReal) = V d (B + 128 + r.val))
    (hz0 : ∀ q r, (scores qb bias k0 (ix2 r q) : EReal) = Z q (B + r.val)) (hv0 : ∀ d r, (v0 (ix3 0 d r) : EReal) = V d (B + r.val)) :
    Inv Z V (fun q => B + q.val) (B + 256) B (diag qb uu bias k1 k0 v1 v0) :=
  stepD_inv Z V _ _ B qb uu bias k0 v0 _ 0 (by omega) hu (by omega) (fun q => rfl) hz0 hv0
    (stepD_inv Z V _ _ (B + 128) qb uu bias k1 v1 _ 128 (by omega) hu (by omega) (fun q => by show B + q.val + 128 = B + 128 + q.val; omega) hz1 hv1
      (start_inv Z V _ (B + 128 + 128)))

end Cert.AttnIdeal.Body
-- ==== Proof.Attn.Spec.lean ====
/- The loops over the earlier tiles, over the extended reals: from the sums of the keys at the queries' own positions on to the
   sums of all the keys. -/
module

public import proofs.«01_k».proof.Proof.Attn.Heads
public import proofs.«01_k».proof.Proof.Attn.Apply
public import Idealize.ShloMosaic.Lib.Pipeline.ValueKit.Tiles

@[expose] public section

set_option maxRecDepth 65536
set_option maxHeartbeats 4000000

noncomputable section

namespace Cert.AttnIdeal.Body

open Idealize.ShloMosaic Idealize.SL.Sem Cert.AttnIdeal Cert.AttnIdeal.Gen
open Idealize.ShloMosaic.ValueIdx StickBreak
open scoped BigOperators

theorem tripsA : ∀ a : Fin 16, Scf.trips 0#32 (Scalar.addi 0#32 (Scalar.muli (Scalar.divsi (Scalar.subi (Scalar.muli (BitVec.ofNat 32 a.val) 2#32) 0#32) 1#32) 1#32)) 1#32 = 2 * a.val := by decide +kernel
theorem tripsB : ∀ a : Fin 16, Scf.trips (Scalar.addi 0#32 (Scalar.muli (Scalar.divsi (Scalar.subi (Scalar.muli (BitVec.ofNat 32 a.val) 2#32) 0#32) 1#32) 1#32)) (Scalar.addi 0#32 (Scalar.subi (Scalar.muli (BitVec.ofNat 32 a.val) 2#32) 0#32)) 1#32 = 0 := by decide +kernel
theorem tileWord : ∀ (a : Fin 16) (k : Fin 32), k.val < 2 * a.val →
    (Scalar.indexCast (Scalar.subi (Scalar.subi (Scalar.muli (BitVec.ofNat 32 a.val) 2#32) 1#32) (Scf.iv 0#32 1#32 k.val)) : Index).toNat = 2 * a.val - 1 - k.val := by decide +kernel
theorem diagWord0 : ∀ a : Fin 16, (Scalar.indexCast (Scalar.addi (Scalar.muli (BitVec.ofNat 32 a.val) 2#32) 0#32) : Index).toNat = 2 * a.val := by decide +kernel
theorem diagWord1 : ∀ a : Fin 16, (Scalar.indexCast (Scalar.addi (Scalar.muli (BitVec.ofNat 32 a.val) 2#32) 1#32) : Index).toNat = 2 * a.val + 1 := by decide +kernel

theorem trips1 (i : grid0.Coords) : (k0_t1_loop i).trips = 2 * (i 2).val := tripsA (i 2)
theorem trips2 (i : grid0.Coords) : (k0_t2_loop i).trips = 0 := tripsB (i 2)
theorem trips3 (i : grid0.Coords) : (k0_t3_loop i).trips = 2 * (i 2).val := tripsA (i 2)
theorem trips4 (i : grid0.Coords) : (k0_t4_loop i).trips = 0 := tripsB (i 2)

/-- A tile of keys, loaded. -/
theorem ld_key (kb : Vec Ideal S2x32x128x128 .bf16) (off : Fin 4 → ℕ) (inb : ∀ a, off a + S1x1x128x128.size a ≤ S2x32x128x128.size a) (h : Fin 2) (j : Fin 32)
    (ho : off = ![h.val, j.val, 0, 0]) (r l : Fin 128) :
    View.ld (Val := Elt Ideal) (e' := .bf16) kb (Rect.unit (s := S2x32x128x128) off S1x1x128x128.size inb) (ix4 0 0 r l) = kb (ix4 h j r l) := by
  subst ho
  exact View.ld_unit_apply_of kb ![h.val, j.val, 0, 0] S1x1x128x128.size inb (ix4 0 0 r l : S1x1x128x128.Idx) (ix4 h j r l) fun a => match a with
    | ⟨0, _⟩ => rfl | ⟨1, _⟩ => rfl | ⟨2, _⟩ => (Nat.zero_add _).symm | ⟨3, _⟩ => (Nat.zero_add _).symm

/-- One head's half of a tile of values, loaded. -/
theorem ld_val (vb : Vec Ideal S32x128x128 .bf16) (off : Fin 3 → ℕ) (inb : ∀ a, off a + S1x64x128.size a ≤ S32x128x128.size a) (j : Fin 32) (o : ℕ) (hlt : o ≤ 64)
    (ho : off = ![j.val, o, 0]) (d : Fin 64) (r : Fin 128) :
    View.ld (Val := Elt Ideal) (e' := .bf16) vb (Rect.unit (s := S32x128x128) off S1x64x128.size inb) (ix3 0 d r) = vb (ix3 j (⟨o + d.val, by omega⟩ : Fin 128) r) := by
  subst ho
  exact View.ld_unit_apply_of vb ![j.val, o, 0] S1x64x128.size inb (ix3 0 d r : S1x64x128.Idx) (ix3 j (⟨o + d.val, by omega⟩ : Fin 128) r) fun a => match a with
    | ⟨0, _⟩ => rfl | ⟨1, _⟩ => rfl | ⟨2, _⟩ => (Nat.zero_add _).symm

section loops
variable (c : Dev nD) (i : grid0.Coords) (arg3 : Memref sig .tc .smem S8 .f32) (harg3 : arg3.IsWhole) (arg4 : Memref sig .tc .vmem S256x128 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x256 .bf16) (harg7 : arg7.IsWhole) (arg8 : Memref sig .tc .vmem S256x128 .f32) (harg8 : arg8.IsWhole) (arg9 : Memref sig .tc .vmem S2x32x128x128 .bf16) (harg9 : arg9.IsWhole) (arg10 : Memref sig .tc .vmem S32x128x128 .bf16) (harg10 : arg10.IsWhole)
variable (Z : Fin 256 → ℕ → EReal) (V : Fin 64 → ℕ → EReal) (qb : FVec Ideal S256x128 .bf16) (uu : FVec Ideal S128x256 .bf16) (bias : Elt Ideal .f32)
variable (X9 : BufTy.Contents (Elt Ideal) arg9.view.ty) (X10 : BufTy.Contents (Elt Ideal) arg10.view.ty)

theorem loop1 (v59 : FVec Ideal S64x256 .f32) (v61 : FVec Ideal S1x256 .f32) (v63 : BitVec 32) (v69 v71 v78 : FVec Ideal S128x256 .f32) (init : Pair Ideal) (hu : Ones uu)
    (hz : ∀ (j : Fin 32) (q : Fin 256) (r : Fin 128), (∑ l : Fin 128, ((arg9.view.read (Elt Ideal) X9 : Vec Ideal S2x32x128x128 .bf16) (ix4 (0 : Fin 2) j r l) : EReal) * qb (ix2 q l)) + (bias : EReal) = Z q (128 * j.val + r.val))
    (hv : ∀ (j : Fin 32) (d : Fin 64) (r : Fin 128), ((arg10.view.read (Elt Ideal) X10 : Vec Ideal S32x128x128 .bf16) (ix3 j (⟨0 + d.val, by omega⟩ : Fin 128) r) : EReal) = V d (128 * j.val + r.val))
    (hi : Inv Z V (fun q => 256 * (i 2).val + q.val) (256 * (i 2).val + 256) (256 * (i 2).val) init) (k : ℕ) (hk : k ≤ 2 * (i 2).val) :
    Inv Z V (fun q => 256 * (i 2).val + q.val) (256 * (i 2).val + 256) (128 * (2 * (i 2).val - k))
      (st_k0_t1 Variants.none c none i arg3 harg3 arg4 harg4 arg5 harg5 arg6 harg6 arg7 harg7 arg8 harg8 arg9 harg9 arg10 harg10 (BitVec.ofNat 32 (i 1).val) (BitVec.ofNat 32 (i 2).val) qb uu rowI colI bias v59 v61 v63 v69 v71 v78 X9 X10 init k) := by
  have ha : (i 2).val < 16 := (i 2).isLt
  induction k with
  | zero => exact (show 128 * (2 * (i 2).val - 0) = 256 * (i 2).val by omega) ▸ hi
  | succ k ih =>
    have ht : k < (k0_t1_loop i).trips := by rw [trips1]; omega
    rw [show k + 1 = (⟨k, ht⟩ : Fin (k0_t1_loop i).trips).val + 1 from rfl, st_k0_t1_succ, trip1]
    have hw := tileWord (i 2) ⟨k, by omega⟩ (by show k < 2 * (i 2).val; omega)
    have o1 : k0_off4 i ⟨k, ht⟩ = ![0, 2 * (i 2).val - 1 - k, 0, 0] := congrArg (fun n => ![0, n, 0, 0]) hw
    have o2 : k0_off5 i ⟨k, ht⟩ = ![2 * (i 2).val - 1 - k, 0, 0] := congrArg (fun n => ![n, 0, 0]) hw
    have hj : 2 * (i 2).val - 1 - k < 32 := by omega
    refine step_inv Z V _ _ _ qb uu bias _ _ _ hu (by omega) (fun q => by show _ ≤ 256 * (i 2).val + q.val; omega) (fun q r => ?_) (fun d r => ?_) ?_
    · rw [scores_apply]
      refine (congrArg (fun a : EReal => a + (bias : EReal)) (Finset.sum_congr rfl fun l _ => congrArg (fun a : EReal => a * (qb (ix2 q l) : EReal)) ?_)).trans
        ((hz ⟨_, hj⟩ q r).trans (congrArg (Z q) (by show 128 * (2 * (i 2).val - 1 - k) + r.val = 128 * (2 * (i 2).val - (k + 1)) + r.val; omega)))
      exact ld_key _ _ _ (0 : Fin 2) ⟨_, hj⟩ o1 r l
    · refine (ld_val _ _ _ ⟨_, hj⟩ 0 (by omega) o2 d r).trans
        ((hv ⟨_, hj⟩ d r).trans (congrArg (V d) (by show 128 * (2 * (i 2).val - 1 - k) + r.val = 128 * (2 * (i 2).val - (k + 1)) + r.val; omega)))
    · exact (show 128 * (2 * (i 2).val - (k + 1)) + 128 = 128 * (2 * (i 2).val - k) by omega) ▸ ih (by omega)

theorem loop3  (init : Pair Ideal) (hu : Ones uu)
    (hz : ∀ (j : Fin 32) (q : Fin 256) (r : Fin 128), (∑ l : Fin 128, ((arg9.view.read (Elt Ideal) X9 : Vec Ideal S2x32x128x128 .bf16) (ix4 (1 : Fin 2) j r l) : EReal) * qb (ix2 q l)) + (bias : EReal) = Z q (128 * j.val + r.val))
    (hv : ∀ (j : Fin 32) (d : Fin 64) (r : Fin 128), ((arg10.view.read (Elt Ideal) X10 : Vec Ideal S32x128x128 .bf16) (ix3 j (⟨64 + d.val, by omega⟩ : Fin 128) r) : EReal) = V d (128 * j.val + r.val))
    (hi : Inv Z V (fun q => 256 * (i 2).val + q.val) (256 * (i 2).val + 256) (256 * (i 2).val) init) (k : ℕ) (hk : k ≤ 2 * (i 2).val) :
    Inv Z V (fun q => 256 * (i 2).val + q.val) (256 * (i 2).val + 256) (128 * (2 * (i 2).val - k))
      (st_k0_t3 Variants.none c none i arg3 harg3 arg4 harg4 arg5 harg5 arg6 harg6 arg7 harg7 arg8 harg8 arg9 harg9 arg10 harg10 qb uu bias X9 X10 init k) := by
  have ha : (i 2).val < 16 := (i 2).isLt
  induction k with
  | zero => exact (show 128 * (2 * (i 2).val - 0) = 256 * (i 2).val by omega) ▸ hi
  | succ k ih =>
    have ht : k < (k0_t3_loop i).trips := by rw [trips3]; omega
    rw [show k + 1 = (⟨k, ht⟩ : Fin (k0_t3_loop i).trips).val + 1 from rfl, st_k0_t3_succ, trip3]
    have hw := tileWord (i 2) ⟨k, by omega⟩ (by show k < 2 * (i 2).val; omega)
    have o1 : k0_off10 i ⟨k, ht⟩ = ![1, 2 * (i 2).val - 1 - k, 0, 0] := congrArg (fun n => ![1, n, 0, 0]) hw
    have o2 : k0_off11 i ⟨k, ht⟩ = ![2 * (i 2).val - 1 - k, 64, 0] := congrArg (fun n => ![n, 64, 0]) hw
    have hj : 2 * (i 2).val - 1 - k < 32 := by omega
    refine step_inv Z V _ _ _ qb uu bias _ _ _ hu (by omega) (fun q => by show _ ≤ 256 * (i 2).val + q.val; omega) (fun q r => ?_) (fun d r => ?_) ?_
    · rw [scores_apply]
      refine (congrArg (fun a : EReal => a + (bias : EReal)) (Finset.sum_congr rfl fun l _ => congrArg (fun a : EReal => a * (qb (ix2 q l) : EReal)) ?_)).trans
        ((hz ⟨_, hj⟩ q r).trans (congrArg (Z q) (by show 128 * (2 * (i 2).val - 1 - k) + r.val = 128 * (2 * (i 2).val - (k + 1)) + r.val; omega)))
      exact ld_key _ _ _ (1 : Fin 2) ⟨_, hj⟩ o1 r l
    · refine (ld_val _ _ _ ⟨_, hj⟩ 64 (by omega) o2 d r).trans
        ((hv ⟨_, hj⟩ d r).trans (congrArg (V d) (by show 128 * (2 * (i 2).val - 1 - k) + r.val = 128 * (2 * (i 2).val - (k + 1)) + r.val; omega)))
    · exact (show 128 * (2 * (i 2).val - (k + 1)) + 128 = 128 * (2 * (i 2).val - k) by omega) ▸ ih (by omega)

/-- The head's output from its two tiles at the queries' own positions: every key's. -/
theorem head0_inv (v59 : FVec Ideal S64x256 .f32) (v61 : FVec Ideal S1x256 .f32) (v69 v71 v78 : FVec Ideal S128x256 .f32) (init : Pair Ideal) (hu : Ones uu)
    (hz : ∀ (j : Fin 32) (q : Fin 256) (r : Fin 128), (∑ l : Fin 128, ((arg9.view.read (Elt Ideal) X9 : Vec Ideal S2x32x128x128 .bf16) (ix4 (0 : Fin 2) j r l) : EReal) * qb (ix2 q l)) + (bias : EReal) = Z q (128 * j.val + r.val))
    (hv : ∀ (j : Fin 32) (d : Fin 64) (r : Fin 128), ((arg10.view.read (Elt Ideal) X10 : Vec Ideal S32x128x128 .bf16) (ix3 j (⟨0 + d.val, by omega⟩ : Fin 128) r) : EReal) = V d (128 * j.val + r.val))
    (hi : Inv Z V (fun q => 256 * (i 2).val + q.val) (256 * (i 2).val + 256) (256 * (i 2).val) init) :
    Inv Z V (fun q => 256 * (i 2).val + q.val) (256 * (i 2).val + 256) 0 (head0 c i arg3 harg3 arg4 harg4 arg5 harg5 arg6 harg6 arg7 harg7 arg8 harg8 arg9 harg9 arg10 harg10 qb uu bias v59 v61 v69 v71 v78 X9 X10 init) := by
  unfold head0
  rw [show Scf.trips (k0_t2_loop i).lb (k0_t2_loop i).ub (k0_t2_loop i).st = 0 from trips2 i, st_k0_t2_zero,
    show Scf.trips (k0_t1_loop i).lb (k0_t1_loop i).ub (k0_t1_loop i).st = 2 * (i 2).val from trips1 i]
  have := loop1 c i arg3 harg3 arg4 harg4 arg5 harg5 arg6 harg6 arg7 harg7 arg8 harg8 arg9 harg9 arg10 harg10 Z V qb uu bias X9 X10 v59 v61 (Scalar.addi (Scalar.muli (BitVec.ofNat 32 (i 2).val) 2#32) 0#32) v69 v71 v78 init hu hz hv hi (2 * (i 2).val) le_rfl
  rwa [Nat.sub_self, Nat.mul_zero] at this

/-- The head's output from its two tiles at the queries' own positions: every key's. -/
theorem head1_inv  (init : Pair Ideal) (hu : Ones uu)
    (hz : ∀ (j : Fin 32) (q : Fin 256) (r : Fin 128), (∑ l : Fin 128, ((arg9.view.read (Elt Ideal) X9 : Vec Ideal S2x32x128x128 .bf16) (ix4 (1 : Fin 2) j r l) : EReal) * qb (ix2 q l)) + (bias : EReal) = Z q (128 * j.val + r.val))
    (hv : ∀ (j : Fin 32) (d : Fin 64) (r : Fin 128), ((arg10.view.read (Elt Ideal) X10 : Vec Ideal S32x128x128 .bf16) (ix3 j (⟨64 + d.val, by omega⟩ : Fin 128) r) : EReal) = V d (128 * j.val + r.val))
    (hi : Inv Z V (fun q => 256 * (i 2).val + q.val) (256 * (i 2).val + 256) (256 * (i 2).val) init) :
    Inv Z V (fun q => 256 * (i 2).val + q.val) (256 * (i 2).val + 256) 0 (head1 c i arg3 harg3 arg4 harg4 arg5 harg5 arg6 harg6 arg7 harg7 arg8 harg8 arg9 harg9 arg10 harg10 qb uu bias  X9 X10 init) := by
  unfold head1
  rw [show Scf.trips (k0_t4_loop i).lb (k0_t4_loop i).ub (k0_t4_loop i).st = 0 from trips4 i, st_k0_t4_zero,
    show Scf.trips (k0_t3_loop i).lb (k0_t3_loop i).ub (k0_t3_loop i).st = 2 * (i 2).val from trips3 i]
  have := loop3 c i arg3 harg3 arg4 harg4 arg5 harg5 arg6 harg6 arg7 harg7 arg8 harg8 arg9 harg9 arg10 harg10 Z V qb uu bias X9 X10  init hu hz hv hi (2 * (i 2).val) le_rfl
  rwa [Nat.sub_self, Nat.mul_zero] at this

theorem diag0_inv (hu : Ones uu)
    (hz : ∀ (j : Fin 32) (q : Fin 256) (r : Fin 128), (∑ l : Fin 128, ((arg9.view.read (Elt Ideal) X9 : Vec Ideal S2x32x128x128 .bf16) (ix4 (0 : Fin 2) j r l) : EReal) * qb (ix2 q l)) + (bias : EReal) = Z q (128 * j.val + r.val))
    (hv : ∀ (j : Fin 32) (d : Fin 64) (r : Fin 128), ((arg10.view.read (Elt Ideal) X10 : Vec Ideal S32x128x128 .bf16) (ix3 j (⟨0 + d.val, by omega⟩ : Fin 128) r) : EReal) = V d (128 * j.val + r.val)) :
    Inv Z V (fun q => 256 * (i 2).val + q.val) (256 * (i 2).val + 256) (256 * (i 2).val)
      (diag qb uu bias (View.readAt (Elt Ideal) arg9.view (Rect.unit (s := S2x32x128x128) (k0_off2 i 1#32) S1x1x128x128.size (k0_off2_inb i 1)).toLoadRect X9)
        (View.readAt (Elt Ideal) arg9.view (Rect.unit (s := S2x32x128x128) (k0_off2 i 0#32) S1x1x128x128.size (k0_off2_inb i 0)).toLoadRect X9)
        (View.readAt (Elt Ideal) arg10.view (Rect.unit (s := S32x128x128) (k0_off3 i 1#32) S1x64x128.size (k0_off3_inb i 1)).toLoadRect X10)
        (View.readAt (Elt Ideal) arg10.view (Rect.unit (s := S32x128x128) (k0_off3 i 0#32) S1x64x128.size (k0_off3_inb i 0)).toLoadRect X10)) := by
  have ha : (i 2).val < 16 := (i 2).isLt
  exact diag_inv Z V (256 * (i 2).val) qb uu bias _ _ _ _ hu
    (fun q r => by
      rw [scores_apply]
      refine (congrArg (fun a : EReal => a + (bias : EReal)) (Finset.sum_congr rfl fun l _ => congrArg (fun a : EReal => a * (qb (ix2 q l) : EReal)) ?_)).trans
        ((hz ⟨2 * (i 2).val + 1, by omega⟩ q r).trans (congrArg (Z q) (by show 128 * (2 * (i 2).val + 1) + r.val = _; omega)))
      exact ld_key _ _ _ (0 : Fin 2) ⟨2 * (i 2).val + 1, by omega⟩ (congrArg (fun n => ![0, n, 0, 0]) (diagWord1 (i 2))) r l)
    (fun d r => (ld_val _ _ _ ⟨2 * (i 2).val + 1, by omega⟩ 0 (by omega) (congrArg (fun n => ![n, 0, 0]) (diagWord1 (i 2))) d r).trans
        ((hv ⟨2 * (i 2).val + 1, by omega⟩ d r).trans (congrArg (V d) (by show 128 * (2 * (i 2).val + 1) + r.val = _; omega))))
    (fun q r => by
      rw [scores_apply]
      refine (congrArg (fun a : EReal => a + (bias : EReal)) (Finset.sum_congr rfl fun l _ => congrArg (fun a : EReal => a * (qb (ix2 q l) : EReal)) ?_)).trans
        ((hz ⟨2 * (i 2).val, by omega⟩ q r).trans (congrArg (Z q) (by show 128 * (2 * (i 2).val) + r.val = _; omega)))
      exact ld_key _ _ _ (0 : Fin 2) ⟨2 * (i 2).val, by omega⟩ (congrArg (fun n => ![0, n, 0, 0]) (diagWord0 (i 2))) r l)
    (fun d r => (ld_val _ _ _ ⟨2 * (i 2).val, by omega⟩ 0 (by omega) (congrArg (fun n => ![n, 0, 0]) (diagWord0 (i 2))) d r).trans
        ((hv ⟨2 * (i 2).val, by omega⟩ d r).trans (congrArg (V d) (by show 128 * (2 * (i 2).val) + r.val = _; omega))))

theorem diag1_inv (hu : Ones uu)
    (hz : ∀ (j : Fin 32) (q : Fin 256) (r : Fin 128), (∑ l : Fin 128, ((arg9.view.read (Elt Ideal) X9 : Vec Ideal S2x32x128x128 .bf16) (ix4 (1 : Fin 2) j r l) : EReal) * qb (ix2 q l)) + (bias : EReal) = Z q (128 * j.val + r.val))
    (hv : ∀ (j : Fin 32) (d : Fin 64) (r : Fin 128), ((arg10.view.read (Elt Ideal) X10 : Vec Ideal S32x128x128 .bf16) (ix3 j (⟨64 + d.val, by omega⟩ : Fin 128) r) : EReal) = V d (128 * j.val + r.val)) :
    Inv Z V (fun q => 256 * (i 2).val + q.val) (256 * (i 2).val + 256) (256 * (i 2).val)
      (diag qb uu bias (View.readAt (Elt Ideal) arg9.view (Rect.unit (s := S2x32x128x128) (k0_off8 i 1#32) S1x1x128x128.size (k0_off8_inb i 1)).toLoadRect X9)
        (View.readAt (Elt Ideal) arg9.view (Rect.unit (s := S2x32x128x128) (k0_off8 i 0#32) S1x1x128x128.size (k0_off8_inb i 0)).toLoadRect X9)
        (View.readAt (Elt Ideal) arg10.view (Rect.unit (s := S32x128x128) (k0_off9 i 1#32) S1x64x128.size (k0_off9_inb i 1)).toLoadRect X10)
        (View.readAt (Elt Ideal) arg10.view (Rect.unit (s := S32x128x128) (k0_off9 i 0#32) S1x64x128.size (k0_off9_inb i 0)).toLoadRect X10)) := by
  have ha : (i 2).val < 16 := (i 2).isLt
  exact diag_inv Z V (256 * (i 2).val) qb uu bias _ _ _ _ hu
    (fun q r => by
      rw [scores_apply]
      refine (congrArg (fun a : EReal => a + (bias : EReal)) (Finset.sum_congr rfl fun l _ => congrArg (fun a : EReal => a * (qb (ix2 q l) : EReal)) ?_)).trans
        ((hz ⟨2 * (i 2).val + 1, by omega⟩ q r).trans (congrArg (Z q) (by show 128 * (2 * (i 2).val + 1) + r.val = _; omega)))
      exact ld_key _ _ _ (1 : Fin 2) ⟨2 * (i 2).val + 1, by omega⟩ (congrArg (fun n => ![1, n, 0, 0]) (diagWord1 (i 2))) r l)
    (fun d r => (ld_val _ _ _ ⟨2 * (i 2).val + 1, by omega⟩ 64 (by omega) (congrArg (fun n => ![n, 64, 0]) (diagWord1 (i 2))) d r).trans
        ((hv ⟨2 * (i 2).val + 1, by omega⟩ d r).trans (congrArg (V d) (by show 128 * (2 * (i 2).val + 1) + r.val = _; omega))))
    (fun q r => by
      rw [scores_apply]
      refine (congrArg (fun a : EReal => a + (bias : EReal)) (Finset.sum_congr rfl fun l _ => congrArg (fun a : EReal => a * (qb (ix2 q l) : EReal)) ?_)).trans
        ((hz ⟨2 * (i 2).val, by omega⟩ q r).trans (congrArg (Z q) (by show 128 * (2 * (i 2).val) + r.val = _; omega)))
      exact ld_key _ _ _ (1 : Fin 2) ⟨2 * (i 2).val, by omega⟩ (congrArg (fun n => ![1, n, 0, 0]) (diagWord0 (i 2))) r l)
    (fun d r => (ld_val _ _ _ ⟨2 * (i 2).val, by omega⟩ 64 (by omega) (congrArg (fun n => ![n, 64, 0]) (diagWord0 (i 2))) d r).trans
        ((hv ⟨2 * (i 2).val, by omega⟩ d r).trans (congrArg (V d) (by show 128 * (2 * (i 2).val) + r.val = _; omega))))

end loops

end Cert.AttnIdeal.Body
-- ==== Proof.Attn.Layer.lean ====
/- The attention as a function of its arguments: scores, values and the weighted sum at one row and feature. -/
module

public import proofs.«01_k».proof.Proof.Attn.Math
public import Idealize.ShloMosaic.Lib.ValueIdxCore
public import Idealize.ShloMosaic.Lib.IdealHost

@[expose] public section

noncomputable section

namespace StickBreak

open Idealize.ShloMosaic Idealize.ShloMosaic.ValueIdx
open scoped BigOperators

/-- A matrix read at two natural numbers; outside the matrix, zero. -/
def at2 {m n : ℕ} (x : (⟨2, ![m, n]⟩ : Shape).Idx → EReal) (i j : ℕ) : EReal :=
  if h : i < m ∧ j < n then x (ix2 ⟨i, h.1⟩ ⟨j, h.2⟩) else 0

theorem at2_ix2 {m n : ℕ} (x : (⟨2, ![m, n]⟩ : Shape).Idx → EReal) (i : Fin m) (j : Fin n) : x (ix2 i j) = at2 x i.val j.val := by
  unfold at2
  rw [dif_pos ⟨i.isLt, j.isLt⟩]

theorem at2_of {m n : ℕ} (x : (⟨2, ![m, n]⟩ : Shape).Idx → EReal) (k : (⟨2, ![m, n]⟩ : Shape).Idx) (i j : ℕ)
    (hi : (k 0).val = i) (hj : (k 1).val = j) : x k = at2 x i j := by
  obtain ⟨a, b, rfl⟩ : ∃ (a : Fin m) (b : Fin n), k = ix2 a b := ⟨_, _, eq_ix2 k⟩
  refine (at2_ix2 x a b).trans ?_
  exact congrArg₂ (at2 x) hi hj

/-- The factor on the scores, one eighth. -/
def eighth : EReal := Ideal.ofBits .f32 0x3E000000#32
theorem eighth_eq : eighth = ((1 / 8 : ℝ) : EReal) := by
  unfold eighth
  simp [Ideal.ofBits, Ideal.ieee, -EReal.coe_mul]; norm_num
theorem eighth_nonneg : 0 ≤ eighth := by rw [eighth_eq]; exact EReal.coe_nonneg.mpr (by norm_num)
theorem eighth_ne_top : eighth ≠ ⊤ := by rw [eighth_eq]; exact EReal.coe_ne_top _

variable (x0 : (⟨2, ![32768, 512]⟩ : Shape).Idx → EReal) (x1 x2 : (⟨2, ![4096, 4096]⟩ : Shape).Idx → EReal) (x3 : (⟨2, ![1, 8]⟩ : Shape).Idx → EReal)

/-- The score of key `p` for query `s` of sequence `b` at head `h`. -/
def scoreOf (b h s p : ℕ) : EReal :=
  (∑ d : Fin 64, at2 x0 (b * 4096 + s) (h * 64 + d.val) * at2 x1 ((b * 8 + h) * 64 + d.val) p) * eighth + at2 x3 0 h
def valueOf (b h d p : ℕ) : EReal := at2 x2 ((b * 8 + h) * 64 + d) p
/-- Feature `d` of head `h` at query `s` of sequence `b`. -/
def result (b h s d : ℕ) : EReal := outSum (scoreOf x0 x1 x3 b h s) (valueOf x2 b h d) s 4096 0

end StickBreak
-- ==== Proof.Attn.Block.lean ====
/- The result of a grid point read at an index: each head's weighted sum over the keys before the query, from the point's blocks. -/
module

public import proofs.«01_k».proof.Proof.Attn.Spec
public import proofs.«01_k».proof.Proof.Attn.Layer

@[expose] public section

set_option maxRecDepth 65536
set_option maxHeartbeats 4000000

noncomputable section

namespace Cert.AttnIdeal.Body

open Idealize.ShloMosaic Idealize.SL.Sem Cert.AttnIdeal Cert.AttnIdeal.Gen
open Idealize.ShloMosaic.ValueIdx StickBreak
open scoped BigOperators

/-- A head's score from the two blocks: its own lanes only. -/
def blockScore (x0 : Vec Ideal S8 .f32) (x1 : Vec Ideal S256x128 .f32) (x2 : Vec Ideal S128x4096 .f32) (hd : Fin 8) (hh : ℕ) (q : Fin 256) (p : ℕ) : EReal :=
  (∑ d : Fin 64, at2 x1 q.val (64 * hh + d.val) * at2 x2 (64 * hh + d.val) p) * eighth + (x0 (ix1 hd) : EReal)

/-- What the two scratch buffers hold of the point's keys and values. -/
def Keys (x2 : Vec Ideal S128x4096 .f32) (kb : Vec Ideal S2x32x128x128 .bf16) : Prop :=
  ∀ (h : Fin 2) (j : Fin 32) (r l : Fin 128), (kb (ix4 h j r l) : EReal) = if l.val / 64 = h.val then at2 x2 l.val (128 * j.val + r.val) else 0
def Vals (x3 : Vec Ideal S128x4096 .f32) (vb : Vec Ideal S32x128x128 .bf16) : Prop :=
  ∀ (j : Fin 32) (d r : Fin 128), (vb (ix3 j d r) : EReal) = at2 x3 d.val (128 * j.val + r.val)

theorem lanes_sum (h : Fin 2) (k q : ℕ → EReal) :
    (∑ l : Fin 128, (if l.val / 64 = h.val then k l.val else 0) * (q l.val * eighth)) = (∑ d : Fin 64, q (64 * h.val + d.val) * k (64 * h.val + d.val)) * eighth := by
  rw [Fin.sum_univ_add (a := 64) (b := 64) (fun l : Fin (64 + 64) => (if l.val / 64 = h.val then k l.val else 0) * (q l.val * eighth)),
    sum_mul_const _ _ _ eighth_nonneg eighth_ne_top]
  have e0 (d : Fin 64) : (Fin.castAdd 64 d).val / 64 = 0 := Nat.div_eq_of_lt d.isLt
  have e1 (d : Fin 64) : (Fin.natAdd 64 d).val / 64 = 1 := by show (64 + d.val) / 64 = 1; omega
  have hsw (a b : EReal) : a * (b * eighth) = b * a * eighth := by rw [← mul_assoc, mul_comm a b]
  match h with
  | ⟨0, _⟩ =>
    rw [Finset.sum_eq_zero (s := Finset.univ) (f := fun d : Fin 64 => (if (Fin.natAdd 64 d).val / 64 = 0 then k (Fin.natAdd 64 d).val else 0) * (q (Fin.natAdd 64 d).val * eighth))
      (fun d _ => by rw [e1, if_neg (by decide), zero_mul]), add_zero]
    refine Finset.sum_congr rfl fun d _ => ?_
    show (if (Fin.castAdd 64 d).val / 64 = 0 then k d.val else 0) * (q d.val * eighth) = q (64 * 0 + d.val) * k (64 * 0 + d.val) * eighth
    rw [e0, if_pos rfl, hsw, Nat.mul_zero, Nat.zero_add]
  | ⟨1, _⟩ =>
    rw [Finset.sum_eq_zero (s := Finset.univ) (f := fun d : Fin 64 => (if (Fin.castAdd 64 d).val / 64 = 1 then k (Fin.castAdd 64 d).val else 0) * (q (Fin.castAdd 64 d).val * eighth))
      (fun d _ => by rw [e0, if_neg (by decide), zero_mul]), zero_add]
    refine Finset.sum_congr rfl fun d _ => ?_
    show (if (Fin.natAdd 64 d).val / 64 = 1 then k (64 + d.val) else 0) * (q (64 + d.val) * eighth) = q (64 * 1 + d.val) * k (64 * 1 + d.val) * eighth
    rw [e1, if_pos rfl, hsw, Nat.mul_one]

theorem biasWord0 : ∀ a : Fin 4, (Scalar.indexCast (Scalar.addi (Scalar.muli 2#32 (BitVec.ofNat 32 a.val)) 0#32) : Index).toNat = 2 * a.val := by decide +kernel
theorem biasWord1 : ∀ a : Fin 4, (Scalar.indexCast (Scalar.addi (Scalar.muli 2#32 (BitVec.ofNat 32 a.val)) 1#32) : Index).toNat = 2 * a.val + 1 := by decide +kernel

section point
variable (c : Dev nD) (i : grid0.Coords) (arg3 : Memref sig .tc .smem S8 .f32) (harg3 : arg3.IsWhole) (arg4 : Memref sig .tc .vmem S256x128 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x256 .bf16) (harg7 : arg7.IsWhole) (arg8 : Memref sig .tc .vmem S256x128 .f32) (harg8 : arg8.IsWhole) (arg9 : Memref sig .tc .vmem S2x32x128x128 .bf16) (harg9 : arg9.IsWhole) (arg10 : Memref sig .tc .vmem S32x128x128 .bf16) (harg10 : arg10.IsWhole)
variable (x0 : Vec Ideal S8 .f32) (x1 : Vec Ideal S256x128 .f32) (x2 x3 : Vec Ideal S128x4096 .f32) (x4 : Vec Ideal S128x256 .bf16)
variable (X9 : BufTy.Contents (Elt Ideal) arg9.view.ty) (X10 : BufTy.Contents (Elt Ideal) arg10.view.ty)

theorem rq_apply (q : Fin 256) (l : Fin 128) : (rq arg4 harg4 x1 (ix2 q l) : EReal) = at2 x1 q.val l.val * eighth := by
  unfold rq
  rw [View.readAt_eq_ld, harg4.read_unread]
  refine congrArg (fun a : EReal => a * eighth) ?_
  rw [← at2_ix2 x1 q l]
  exact View.ld_unit_apply_of x1 ![0, 0] S256x128.size inb_S256x128_S256x128_0_0 (ix2 q l : S256x128.Idx) (ix2 q l) fun a => match a with
    | ⟨0, _⟩ => (Nat.zero_add _).symm | ⟨1, _⟩ => (Nat.zero_add _).symm

theorem ru_eq : ru arg7 harg7 x4 = x4 := by
  unfold ru
  refine (shapeCast_self (View.readAt (Elt Ideal) arg7.view (Rect.unit (s := S128x256) ![0, 0] S128x256.size inb_S128x256_S128x256_0_0).toLoadRect (harg7.unread x4)) _).trans ?_
  rw [View.readAt_eq_ld, harg7.read_unread]
  funext x
  exact View.ld_unit_apply_of x4 ![0, 0] S128x256.size inb_S128x256_S128x256_0_0 x x fun a => match a with
    | ⟨0, _⟩ => (Nat.zero_add _).symm | ⟨1, _⟩ => (Nat.zero_add _).symm

theorem rb0_eq (h : 2 * (i 1).val < 8) : rb0 i arg3 harg3 x0 = x0 (ix1 ⟨2 * (i 1).val, h⟩) := by
  unfold rb0
  rw [View.readAt_eq_ld, harg3.read_unread]
  exact View.ld_unit_apply_of x0 (k0_off1 i 0#32) S1.size (k0_off1_inb i 0) _ (ix1 ⟨2 * (i 1).val, h⟩) fun a => match a with
    | ⟨0, _⟩ => (biasWord0 (i 1)).symm

theorem rb1_eq (h : 2 * (i 1).val + 1 < 8) : rb1 i arg3 harg3 x0 = x0 (ix1 ⟨2 * (i 1).val + 1, h⟩) := by
  unfold rb1
  rw [View.readAt_eq_ld, harg3.read_unread]
  exact View.ld_unit_apply_of x0 (k0_off1 i 1#32) S1.size (k0_off1_inb i 1) _ (ix1 ⟨2 * (i 1).val + 1, h⟩) fun a => match a with
    | ⟨0, _⟩ => (biasWord1 (i 1)).symm

theorem score_sum (kb : Vec Ideal S2x32x128x128 .bf16) (hk : Keys x2 kb) (h : Fin 2) (hd : Fin 8) (j : Fin 32) (q : Fin 256) (r : Fin 128) :
    (∑ l : Fin 128, (kb (ix4 h j r l) : EReal) * rq arg4 harg4 x1 (ix2 q l)) + (x0 (ix1 hd) : EReal) = blockScore x0 x1 x2 hd h.val q (128 * j.val + r.val) := by
  unfold blockScore
  refine congrArg (fun a : EReal => a + (x0 (ix1 hd) : EReal)) ?_
  refine Eq.trans (Finset.sum_congr rfl fun l _ => congrArg₂ (fun a b : EReal => a * b) (hk h j r l) (rq_apply arg4 harg4 x1 q l)) ?_
  exact lanes_sum h (fun l => at2 x2 l (128 * j.val + r.val)) (fun l => at2 x1 q.val l)

theorem out_head0 (hk : Keys x2 (arg9.view.read (Elt Ideal) X9)) (hv : Vals x3 (arg10.view.read (Elt Ideal) X10)) (hu : Ones x4) (hd : Fin 8) (hhd : hd.val = 2 * (i 1).val) (d : Fin 64) (q : Fin 256) :
    ((head0 c i arg3 harg3 arg4 harg4 arg5 harg5 arg6 harg6 arg7 harg7 arg8 harg8 arg9 harg9 arg10 harg10 (rq arg4 harg4 x1) (ru arg7 harg7 x4) (rb0 i arg3 harg3 x0) (late0 i arg3 harg3 arg4 harg4 arg5 harg5 arg6 harg6 arg7 harg7 arg8 harg8 arg9 harg9 arg10 harg10 x0 x1 x4 X9 X10).1 (late0 i arg3 harg3 arg4 harg4 arg5 harg5 arg6 harg6 arg7 harg7 arg8 harg8 arg9 harg9 arg10 harg10 x0 x1 x4 X9 X10).2 (score0 i arg3 harg3 arg4 harg4 arg5 harg5 arg6 harg6 arg7 harg7 arg8 harg8 arg9 harg9 arg10 harg10 x0 x1 x4 X9 X10) (keepMax (score0 i arg3 harg3 arg4 harg4 arg5 harg5 arg6 harg6 arg7 harg7 arg8 harg8 arg9 harg9 arg10 harg10 x0 x1 x4 X9 X10)) (keepLog (score0 i arg3 harg3 arg4 harg4 arg5 harg5 arg6 harg6 arg7 harg7 arg8 harg8 arg9 harg9 arg10 harg10 x0 x1 x4 X9 X10)) X9 X10 (diag0 i arg3 harg3 arg4 harg4 arg5 harg5 arg6 harg6 arg7 harg7 arg8 harg8 arg9 harg9 arg10 harg10 x0 x1 x4 X9 X10)).1 (ix2 d q) : EReal)
      = outSum (blockScore x0 x1 x2 hd 0 q) (fun p => at2 x3 (64 * 0 + d.val) p) (256 * (i 2).val + q.val) 4096 0 := by
  have ha : (i 2).val < 16 := (i 2).isLt
  have hb : 2 * (i 1).val < 8 := hhd ▸ hd.isLt
  obtain rfl : hd = ⟨2 * (i 1).val, hb⟩ := Fin.ext hhd
  have hu' : Ones (ru arg7 harg7 x4) := by rw [ru_eq]; exact hu
  have hz : ∀ (j : Fin 32) (q : Fin 256) (r : Fin 128), (∑ l : Fin 128, ((arg9.view.read (Elt Ideal) X9 : Vec Ideal S2x32x128x128 .bf16) (ix4 (0 : Fin 2) j r l) : EReal) * rq arg4 harg4 x1 (ix2 q l)) + (rb0 i arg3 harg3 x0 : EReal)
      = blockScore x0 x1 x2 ⟨2 * (i 1).val, hb⟩ 0 q (128 * j.val + r.val) := fun j q r => by
    rw [rb0_eq i arg3 harg3 x0 hb]
    exact score_sum arg4 harg4 x0 x1 x2 _ hk 0 ⟨2 * (i 1).val, hb⟩ j q r
  have hw : ∀ (j : Fin 32) (d : Fin 64) (r : Fin 128), ((arg10.view.read (Elt Ideal) X10 : Vec Ideal S32x128x128 .bf16) (ix3 j (⟨0 + d.val, by omega⟩ : Fin 128) r) : EReal)
      = (fun (d : Fin 64) (p : ℕ) => at2 x3 (64 * 0 + d.val) p) d (128 * j.val + r.val) := fun j d r => by
    refine (hv j _ r).trans ?_
    show at2 x3 (0 + d.val) _ = at2 x3 (64 * 0 + d.val) _
    rfl
  have := head0_inv c i arg3 harg3 arg4 harg4 arg5 harg5 arg6 harg6 arg7 harg7 arg8 harg8 arg9 harg9 arg10 harg10 (fun q => blockScore x0 x1 x2 ⟨2 * (i 1).val, hb⟩ 0 q) (fun d p => at2 x3 (64 * 0 + d.val) p) (rq arg4 harg4 x1) (ru arg7 harg7 x4) (rb0 i arg3 harg3 x0) X9 X10
    (late0 i arg3 harg3 arg4 harg4 arg5 harg5 arg6 harg6 arg7 harg7 arg8 harg8 arg9 harg9 arg10 harg10 x0 x1 x4 X9 X10).1 (late0 i arg3 harg3 arg4 harg4 arg5 harg5 arg6 harg6 arg7 harg7 arg8 harg8 arg9 harg9 arg10 harg10 x0 x1 x4 X9 X10).2 (score0 i arg3 harg3 arg4 harg4 arg5 harg5 arg6 harg6 arg7 harg7 arg8 harg8 arg9 harg9 arg10 harg10 x0 x1 x4 X9 X10) (keepMax (score0 i arg3 harg3 arg4 harg4 arg5 harg5 arg6 harg6 arg7 harg7 arg8 harg8 arg9 harg9 arg10 harg10 x0 x1 x4 X9 X10)) (keepLog (score0 i arg3 harg3 arg4 harg4 arg5 harg5 arg6 harg6 arg7 harg7 arg8 harg8 arg9 harg9 arg10 harg10 x0 x1 x4 X9 X10)) (diag0 i arg3 harg3 arg4 harg4 arg5 harg5 arg6 harg6 arg7 harg7 arg8 harg8 arg9 harg9 arg10 harg10 x0 x1 x4 X9 X10) hu' hz hw
    (diag0_inv i  arg9 arg10 (fun q => blockScore x0 x1 x2 ⟨2 * (i 1).val, hb⟩ 0 q) (fun d p => at2 x3 (64 * 0 + d.val) p) (rq arg4 harg4 x1) (ru arg7 harg7 x4) (rb0 i arg3 harg3 x0) X9 X10 hu' hz hw)
  refine (this.2 d q).trans ?_
  exact (outSum_end _ _ _ (256 * (i 2).val + 256) 4096 (by show 256 * (i 2).val + q.val ≤ _; omega) (by omega)).symm

theorem out_head1 (hk : Keys x2 (arg9.view.read (Elt Ideal) X9)) (hv : Vals x3 (arg10.view.read (Elt Ideal) X10)) (hu : Ones x4) (hd : Fin 8) (hhd : hd.val = 2 * (i 1).val + 1) (d : Fin 64) (q : Fin 256) :
    ((head1 c i arg3 harg3 arg4 harg4 arg5 harg5 arg6 harg6 arg7 harg7 arg8 harg8 arg9 harg9 arg10 harg10 (rq arg4 harg4 x1) (ru arg7 harg7 x4) (rb1 i arg3 harg3 x0)  X9 X10 (diag1 i arg3 harg3 arg4 harg4 arg5 harg5 arg6 harg6 arg7 harg7 arg8 harg8 arg9 harg9 arg10 harg10 x0 x1 x4 X9 X10)).1 (ix2 d q) : EReal)
      = outSum (blockScore x0 x1 x2 hd 1 q) (fun p => at2 x3 (64 * 1 + d.val) p) (256 * (i 2).val + q.val) 4096 0 := by
  have ha : (i 2).val < 16 := (i 2).isLt
  have hb : 2 * (i 1).val + 1 < 8 := hhd ▸ hd.isLt
  obtain rfl : hd = ⟨2 * (i 1).val + 1, hb⟩ := Fin.ext hhd
  have hu' : Ones (ru arg7 harg7 x4) := by rw [ru_eq]; exact hu
  have hz : ∀ (j : Fin 32) (q : Fin 256) (r : Fin 128), (∑ l : Fin 128, ((arg9.view.read (Elt Ideal) X9 : Vec Ideal S2x32x128x128 .bf16) (ix4 (1 : Fin 2) j r l) : EReal) * rq arg4 harg4 x1 (ix2 q l)) + (rb1 i arg3 harg3 x0 : EReal)
      = blockScore x0 x1 x2 ⟨2 * (i 1).val + 1, hb⟩ 1 q (128 * j.val + r.val) := fun j q r => by
    rw [rb1_eq i arg3 harg3 x0 hb]
    exact score_sum arg4 harg4 x0 x1 x2 _ hk 1 ⟨2 * (i 1).val + 1, hb⟩ j q r
  have hw : ∀ (j : Fin 32) (d : Fin 64) (r : Fin 128), ((arg10.view.read (Elt Ideal) X10 : Vec Ideal S32x128x128 .bf16) (ix3 j (⟨64 + d.val, by omega⟩ : Fin 128) r) : EReal)
      = (fun (d : Fin 64) (p : ℕ) => at2 x3 (64 * 1 + d.val) p) d (128 * j.val + r.val) := fun j d r => by
    refine (hv j _ r).trans ?_
    show at2 x3 (64 + d.val) _ = at2 x3 (64 * 1 + d.val) _
    rfl
  have := head1_inv c i arg3 harg3 arg4 harg4 arg5 harg5 arg6 harg6 arg7 harg7 arg8 harg8 arg9 harg9 arg10 harg10 (fun q => blockScore x0 x1 x2 ⟨2 * (i 1).val + 1, hb⟩ 1 q) (fun d p => at2 x3 (64 * 1 + d.val) p) (rq arg4 harg4 x1) (ru arg7 harg7 x4) (rb1 i arg3 harg3 x0) X9 X10
     (diag1 i arg3 harg3 arg4 harg4 arg5 harg5 arg6 harg6 arg7 harg7 arg8 harg8 arg9 harg9 arg10 harg10 x0 x1 x4 X9 X10) hu' hz hw
    (diag1_inv i  arg9 arg10 (fun q => blockScore x0 x1 x2 ⟨2 * (i 1).val + 1, hb⟩ 1 q) (fun d p => at2 x3 (64 * 1 + d.val) p) (rq arg4 harg4 x1) (ru arg7 harg7 x4) (rb1 i arg3 harg3 x0) X9 X10 hu' hz hw)
  refine (this.2 d q).trans ?_
  exact (outSum_end _ _ _ (256 * (i 2).val + 256) 4096 (by show 256 * (i 2).val + q.val ≤ _; omega) (by omega)).symm

/-- The point's result: query `q`, feature `d` of head `hh`. -/
theorem outT_apply (hk : Keys x2 (arg9.view.read (Elt Ideal) X9)) (hv : Vals x3 (arg10.view.read (Elt Ideal) X10)) (hu : Ones x4) (hh : Fin 2) (hd : Fin 8) (hhd : hd.val = 2 * (i 1).val + hh.val) (d : Fin 64) (q : Fin 256)
    (l : Fin 128) (hl : l.val = 64 * hh.val + d.val) :
    (outT c i arg3 harg3 arg4 harg4 arg5 harg5 arg6 harg6 arg7 harg7 arg8 harg8 arg9 harg9 arg10 harg10 x0 x1 x4 X9 X10 (ix2 q l) : EReal)
      = outSum (blockScore x0 x1 x2 hd hh.val q) (fun p => at2 x3 (64 * hh.val + d.val) p) (256 * (i 2).val + q.val) 4096 0 := by
  unfold outT
  refine (transpose_apply [1, 0] _ _ (ix2 q l) (ix2 l q) (fun b => match b with | ⟨0, _⟩ => rfl | ⟨1, _⟩ => rfl)).trans ?_
  match hh, hhd, hl with
  | ⟨0, _⟩, hhd, hl =>
    refine Eq.trans ?_ (out_head0 c i arg3 harg3 arg4 harg4 arg5 harg5 arg6 harg6 arg7 harg7 arg8 harg8 arg9 harg9 arg10 harg10 x0 x1 x2 x3 x4 X9 X10 hk hv hu hd hhd d q)
    exact concatenate_pair_apply_left (t := S128x256) (s₁ := S64x256) (s₂ := S64x256) 0 _ _ _ _ rfl (ix2 d q) fun b => match b with
      | ⟨0, _⟩ => (by show d.val = l.val; rw [hl]; show d.val = 64 * 0 + d.val; omega) | ⟨1, _⟩ => rfl
  | ⟨1, _⟩, hhd, hl =>
    refine Eq.trans ?_ (out_head1 c i arg3 harg3 arg4 harg4 arg5 harg5 arg6 harg6 arg7 harg7 arg8 harg8 arg9 harg9 arg10 harg10 x0 x1 x2 x3 x4 X9 X10 hk hv hu hd hhd d q)
    exact concatenate_pair_apply_right (t := S128x256) (s₁ := S64x256) (s₂ := S64x256) 0 _ _ _ _ rfl rfl (ix2 d q)
      (fun b hb => match b with | ⟨0, _⟩ => absurd rfl hb | ⟨1, _⟩ => rfl) (by show d.val + 64 = l.val; rw [hl]; show d.val + 64 = 64 * 1 + d.val; omega)

end point

end Cert.AttnIdeal.Body
-- ==== Proof.Attn.Scratch.lean ====
/- What the first point of a run of sixteen leaves in the two scratch buffers: each head's keys of every tile with the other head's
   lanes zero, and the values of every tile. -/
module

public import proofs.«01_k».proof.Proof.Attn.Block
public import Idealize.ShloMosaic.Lib.Pipeline.ReadBack

@[expose] public section

set_option maxRecDepth 65536
set_option maxHeartbeats 4000000

noncomputable section

namespace Cert.AttnIdeal.Body

open Idealize.ShloMosaic Idealize.SL.Sem Cert.AttnIdeal Cert.AttnIdeal.Gen
open Idealize.ShloMosaic.ValueIdx StickBreak
open scoped BigOperators

theorem lane_lt : ∀ l : Fin 128, IntOp.cmpi .slt (BitVec.ofNat 32 l.val) 64#32 = if l.val / 64 = 0 then 1#1 else 0#1 := by decide +kernel
theorem lane_ge : ∀ l : Fin 128, IntOp.cmpi .sge (BitVec.ofNat 32 l.val) 64#32 = if l.val / 64 = 1 then 1#1 else 0#1 := by decide +kernel

theorem keyTile_apply (b : Bool) (x : Vec Ideal S128x128 .f32) (r l : Fin 128) :
    (keyTile b x (ix4 0 0 r l) : EReal) = if l.val / 64 = (if b then 1 else 0) then x (ix2 l r) else 0 := by
  unfold keyTile
  refine (shapeCast_apply _ _ (ix4 0 0 r l) (ix2 r l) ?_).trans ?_
  · rw [Shape.rowMajor_val_four, Shape.rowMajor_val_two]
    show r.val * 128 + l.val = ((0 * 1 + 0) * 128 + r.val) * 128 + l.val
    omega
  · have e : transpose S128x128 [1, 0] x transposes_S128x128_p1_0_S128x128 (ix2 r l) = x (ix2 l r) :=
      transpose_apply [1, 0] _ _ (ix2 r l) (ix2 l r) (fun b => match b with | ⟨0, _⟩ => rfl | ⟨1, _⟩ => rfl)
    show Scalar.select (IntOp.cmpi (if b then .sge else .slt) (BitVec.ofNat 32 (0 * 128 + l.val)) 64#32)
      (transpose S128x128 [1, 0] x transposes_S128x128_p1_0_S128x128 (ix2 r l)) (Ideal.ofBits .f32 0x00000000#32 : EReal) = _
    rw [e, Ideal.ofBits_zero_f32, zero_mul, zero_add]
    cases b
    · show Scalar.select (IntOp.cmpi .slt (BitVec.ofNat 32 l.val) 64#32) _ _ = if l.val / 64 = 0 then _ else _
      rw [lane_lt]
      by_cases h : l.val / 64 = 0
      · rw [if_pos h, if_pos h]; rfl
      · rw [if_neg h, if_neg h]; rfl
    · show Scalar.select (IntOp.cmpi .sge (BitVec.ofNat 32 l.val) 64#32) _ _ = if l.val / 64 = 1 then _ else _
      rw [lane_ge]
      by_cases h : l.val / 64 = 1
      · rw [if_pos h, if_pos h]; rfl
      · rw [if_neg h, if_neg h]; rfl

theorem valTile_apply (x : Vec Ideal S128x128 .f32) (d r : Fin 128) : (valTile x (ix3 0 d r) : EReal) = x (ix2 d r) := by
  unfold valTile
  refine (shapeCast_apply _ _ (ix3 0 d r) (ix2 d r) ?_).trans rfl
  rw [Shape.rowMajor_val_three, Shape.rowMajor_val_two]
  show d.val * 128 + r.val = (0 * 128 + d.val) * 128 + r.val
  omega

/-- The scratch buffers' contents as functions of the index. -/
def GK (x2 : Vec Ideal S128x4096 .f32) : S2x32x128x128.Idx → Elt Ideal .bf16 := fun y =>
  (if (y 3).val / 64 = (y 0).val then at2 x2 (y 3).val (128 * (y 1).val + (y 2).val) else 0 : EReal)
def GV (x3 : Vec Ideal S128x4096 .f32) : S32x128x128.Idx → Elt Ideal .bf16 := fun y => at2 x3 (y 1).val (128 * (y 0).val + (y 2).val)

theorem cols_apply (x : Vec Ideal S128x4096 .f32) (n : ℕ) (h : n < 32) (l r : Fin 128) :
    (View.ld (Val := Elt Ideal) (e' := .f32) x (cols n h) (ix2 l r) : EReal) = at2 x l.val (128 * n + r.val) := by
  rw [← at2_ix2 x l (⟨128 * n + r.val, by omega⟩ : Fin 4096)]
  exact View.ld_unit_apply_of x ![0, 128 * n] S128x128.size (col_inb n h) (ix2 l r : S128x128.Idx) (ix2 l ⟨128 * n + r.val, by omega⟩) fun a => match a with
    | ⟨0, _⟩ => (Nat.zero_add _).symm | ⟨1, _⟩ => rfl

theorem emb_key (h n : ℕ) (hh : h < 2) (hn : n < 32) (a b : Fin 1) (r l : Fin 128) :
    (Rect.unit (s := S2x32x128x128) ![h, n, 0, 0] S1x1x128x128.size (kb_inb h n hh hn)).emb (ix4 a b r l : Shape.Idx _) = (ix4 ⟨h, hh⟩ ⟨n, hn⟩ r l : S2x32x128x128.Idx) := by
  funext x; match x with
  | ⟨0, _⟩ => exact Fin.ext ((Rect.idx_unit_val _ _ _ _ 0).trans (by show h + a.val = h; omega))
  | ⟨1, _⟩ => exact Fin.ext ((Rect.idx_unit_val _ _ _ _ 1).trans (by show n + b.val = n; omega))
  | ⟨2, _⟩ => exact Fin.ext ((Rect.idx_unit_val _ _ _ _ 2).trans (Nat.zero_add _))
  | ⟨3, _⟩ => exact Fin.ext ((Rect.idx_unit_val _ _ _ _ 3).trans (Nat.zero_add _))

theorem emb_val (n : ℕ) (hn : n < 32) (a : Fin 1) (d r : Fin 128) :
    (Rect.unit (s := S32x128x128) ![n, 0, 0] S1x128x128.size (vb_inb n hn)).emb (ix3 a d r : Shape.Idx _) = (ix3 ⟨n, hn⟩ d r : S32x128x128.Idx) := by
  funext x; match x with
  | ⟨0, _⟩ => exact Fin.ext ((Rect.idx_unit_val _ _ _ _ 0).trans (by show n + a.val = n; omega))
  | ⟨1, _⟩ => exact Fin.ext ((Rect.idx_unit_val _ _ _ _ 1).trans (Nat.zero_add _))
  | ⟨2, _⟩ => exact Fin.ext ((Rect.idx_unit_val _ _ _ _ 2).trans (Nat.zero_add _))

theorem key_piece (x2 : Vec Ideal S128x4096 .f32) (b : Bool) (h n : ℕ) (hh : h < 2) (hb : (if b then 1 else 0) = h) (hn : n < 32) (x : S1x1x128x128.Idx) :
    keyTile b (View.ld (Val := Elt Ideal) (e' := .f32) x2 (cols n hn)) x
      = GK x2 ((Rect.unit (s := S2x32x128x128) ![h, n, 0, 0] S1x1x128x128.size (kb_inb h n hh hn)).emb x) := by
  obtain ⟨a, c, r, l, rfl⟩ : ∃ (a c : Fin 1) (r l : Fin 128), x = ix4 a c r l := ⟨_, _, _, _, eq_ix4 x⟩
  rw [emb_key h n hh hn, show a = 0 from Subsingleton.elim _ _, show c = 0 from Subsingleton.elim _ _]
  refine (keyTile_apply _ _ r l).trans ?_
  rw [hb, cols_apply]
  rfl

theorem val_piece (x3 : Vec Ideal S128x4096 .f32) (n : ℕ) (hn : n < 32) (x : S1x128x128.Idx) :
    valTile (View.ld (Val := Elt Ideal) (e' := .f32) x3 (cols n hn)) x
      = GV x3 ((Rect.unit (s := S32x128x128) ![n, 0, 0] S1x128x128.size (vb_inb n hn)).emb x) := by
  obtain ⟨a, d, r, rfl⟩ : ∃ (a : Fin 1) (d r : Fin 128), x = ix3 a d r := ⟨_, _, _, eq_ix3 x⟩
  rw [emb_val n hn, show a = 0 from Subsingleton.elim _ _]
  exact (valTile_apply _ d r).trans (cols_apply x3 n hn d r)

theorem kPieces_of (x2 : Vec Ideal S128x4096 .f32) : ∀ (n : ℕ) (h : n ≤ 32), View.PiecesOf (GK x2) (kPieces (fun r => View.ld (Val := Elt Ideal) (e' := .f32) x2 r) n h)
  | 0, _ => trivial
  | n + 1, h => ⟨fun x => key_piece x2 true 1 n (by omega) rfl h x, fun x => key_piece x2 false 0 n (by omega) rfl h x, kPieces_of x2 n (by omega)⟩

theorem vPieces_of (x3 : Vec Ideal S128x4096 .f32) : ∀ (n : ℕ) (h : n ≤ 32), View.PiecesOf (GV x3) (vPieces (fun r => View.ld (Val := Elt Ideal) (e' := .f32) x3 r) n h)
  | 0, _ => trivial
  | n + 1, h => ⟨fun x => val_piece x3 n h x, vPieces_of x3 n (by omega)⟩

theorem kPieces_cov (ld : (r : Rect S128x4096) → r.shape.Idx → Elt Ideal .f32) (a : Fin 2) (j : Fin 32) (r l : Fin 128) :
    ∀ (n : ℕ) (h : n ≤ 32), j.val < n → ∃ p ∈ kPieces ld n h, (ix4 a j r l : S2x32x128x128.Idx) ∈ p.1.set
  | 0, _, hj => absurd hj (by omega)
  | n + 1, h, hj => by
    by_cases e : j.val = n
    · have hm (h' : ℕ) (hh : h' < 2) (ha : a.val = h') : (ix4 a j r l : S2x32x128x128.Idx) ∈ (Rect.unit (s := S2x32x128x128) ![h', n, 0, 0] S1x1x128x128.size (kb_inb h' n hh h)).set :=
        (Rect.mem_set_unit (inb := kb_inb h' n hh h)).mpr fun b => match b with
          | ⟨0, _⟩ => by show h' ≤ a.val ∧ a.val < h' + 1; omega
          | ⟨1, _⟩ => by show n ≤ j.val ∧ j.val < n + 1; omega
          | ⟨2, _⟩ => by show 0 ≤ r.val ∧ r.val < 0 + 128; omega
          | ⟨3, _⟩ => by show 0 ≤ l.val ∧ l.val < 0 + 128; omega
      by_cases ha : a.val = 1
      · exact ⟨_, List.mem_cons_self, hm 1 (by omega) ha⟩
      · exact ⟨_, List.mem_cons_of_mem _ List.mem_cons_self, hm 0 (by omega) (by omega)⟩
    · obtain ⟨p, hp, hs⟩ := kPieces_cov ld a j r l n (by omega) (by omega)
      exact ⟨p, List.mem_cons_of_mem _ (List.mem_cons_of_mem _ hp), hs⟩

theorem vPieces_cov (ld : (r : Rect S128x4096) → r.shape.Idx → Elt Ideal .f32) (j : Fin 32) (d r : Fin 128) :
    ∀ (n : ℕ) (h : n ≤ 32), j.val < n → ∃ p ∈ vPieces ld n h, (ix3 j d r : S32x128x128.Idx) ∈ p.1.set
  | 0, _, hj => absurd hj (by omega)
  | n + 1, h, hj => by
    by_cases e : j.val = n
    · exact ⟨_, List.mem_cons_self, (Rect.mem_set_unit (inb := vb_inb n h)).mpr fun b => match b with
          | ⟨0, _⟩ => by show n ≤ j.val ∧ j.val < n + 1; omega
          | ⟨1, _⟩ => by show 0 ≤ d.val ∧ d.val < 0 + 128; omega
          | ⟨2, _⟩ => by show 0 ≤ r.val ∧ r.val < 0 + 128; omega⟩
    · obtain ⟨p, hp, hs⟩ := vPieces_cov ld j d r n (by omega) (by omega)
      exact ⟨p, List.mem_cons_of_mem _ hp, hs⟩

theorem keys_canon (x2 : Vec Ideal S128x4096 .f32) : Keys x2 (View.canon (kPieces (fun r => View.ld (Val := Elt Ideal) (e' := .f32) x2 r) 32 le_rfl)) := fun a j r l =>
  View.canon_apply_of_pieces (GK x2) _ (kPieces_of x2 32 le_rfl).mem _ (kPieces_cov _ a j r l 32 le_rfl j.isLt)

theorem vals_canon (x3 : Vec Ideal S128x4096 .f32) : Vals x3 (View.canon (vPieces (fun r => View.ld (Val := Elt Ideal) (e' := .f32) x3 r) 32 le_rfl)) := fun j d r =>
  View.canon_apply_of_pieces (GV x3) _ (vPieces_of x3 32 le_rfl).mem _ (vPieces_cov _ j d r 32 le_rfl j.isLt)

end Cert.AttnIdeal.Body
-- ==== Proof.Attn.Cases.lean ====
/- The two cases of a grid point: what each leaves in the scratch buffers and in the result's block. -/
module

public import proofs.«01_k».proof.Proof.Gen.AttnIdeal.Frame
public import proofs.«01_k».proof.Proof.Attn.FillA
public import proofs.«01_k».proof.Proof.Attn.RunA
public import proofs.«01_k».proof.Proof.Attn.RunB
public import proofs.«01_k».proof.Proof.Attn.Block
public import proofs.«01_k».proof.Proof.Attn.Scratch
public import Idealize.ShloMosaic.Lib.Pipeline.ValueKit.Basic

@[expose] public section

set_option maxRecDepth 65536
set_option maxHeartbeats 4000000

noncomputable section

namespace Cert.AttnIdeal.Body

open Idealize.ShloMosaic Idealize.SL.Sem Cert.AttnIdeal Cert.AttnIdeal.Gen
open Idealize.ShloMosaic.ValueIdx StickBreak

variable (c : Dev nD) (i : grid0.Coords) (arg3 : Memref sig .tc .smem S8 .f32) (harg3 : arg3.IsWhole) (arg4 : Memref sig .tc .vmem S256x128 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x256 .bf16) (harg7 : arg7.IsWhole) (arg8 : Memref sig .tc .vmem S256x128 .f32) (harg8 : arg8.IsWhole) (arg9 : Memref sig .tc .vmem S2x32x128x128 .bf16) (harg9 : arg9.IsWhole) (arg10 : Memref sig .tc .vmem S32x128x128 .bf16) (harg10 : arg10.IsWhole)

/-- The pieces case A writes to the keys' scratch, read back: the point's keys, head by head. -/
theorem keysOf_A (hc0 : cond0_0 i) (x0 : Vec Ideal S8 .f32) (x1 : Vec Ideal S256x128 .f32) (x2 : Vec Ideal S128x4096 .f32) (x3 : Vec Ideal S128x4096 .f32) (x4 : Vec Ideal S128x256 .bf16) : Keys x2 (View.canon (kernelRun0_A (F := Ideal) c i arg3 harg3 arg4 harg4 arg5 harg5 arg6 harg6 arg7 harg7 arg8 harg8 arg9 harg9 arg10 harg10 hc0 x0 x1 x2 x3 x4).2.1) := by
  have e : (kernelRun0_A (F := Ideal) c i arg3 harg3 arg4 harg4 arg5 harg5 arg6 harg6 arg7 harg7 arg8 harg8 arg9 harg9 arg10 harg10 hc0 x0 x1 x2 x3 x4).2.1 = kPieces (fun r => View.ld (Val := Elt Ideal) (e' := .f32) x2 r) 32 le_rfl := by
    refine (keys_A c i arg3 harg3 arg4 harg4 arg5 harg5 arg6 harg6 arg7 harg7 arg8 harg8 arg9 harg9 arg10 harg10 hc0 x0 x1 x2 x3 x4).trans ?_
    refine congrArg (fun f => kPieces f 32 le_rfl) ?_
    funext r
    rw [View.readAt_eq_ld, harg5.read_unread]
  rw [e]
  exact keys_canon x2

/-- The pieces case A writes to the values' scratch, read back: the point's values. -/
theorem valsOf_A (hc0 : cond0_0 i) (x0 : Vec Ideal S8 .f32) (x1 : Vec Ideal S256x128 .f32) (x2 : Vec Ideal S128x4096 .f32) (x3 : Vec Ideal S128x4096 .f32) (x4 : Vec Ideal S128x256 .bf16) : Vals x3 (View.canon (kernelRun0_A (F := Ideal) c i arg3 harg3 arg4 harg4 arg5 harg5 arg6 harg6 arg7 harg7 arg8 harg8 arg9 harg9 arg10 harg10 hc0 x0 x1 x2 x3 x4).2.2.1) := by
  have e : (kernelRun0_A (F := Ideal) c i arg3 harg3 arg4 harg4 arg5 harg5 arg6 harg6 arg7 harg7 arg8 harg8 arg9 harg9 arg10 harg10 hc0 x0 x1 x2 x3 x4).2.2.1 = vPieces (fun r => View.ld (Val := Elt Ideal) (e' := .f32) x3 r) 32 le_rfl := by
    refine (vals_A c i arg3 harg3 arg4 harg4 arg5 harg5 arg6 harg6 arg7 harg7 arg8 harg8 arg9 harg9 arg10 harg10 hc0 x0 x1 x2 x3 x4).trans ?_
    refine congrArg (fun f => vPieces f 32 le_rfl) ?_
    funext r
    rw [View.readAt_eq_ld, harg6.read_unread]
  rw [e]
  exact vals_canon x3

theorem scratch0_A (hc0 : cond0_0 i) (x0 : Vec Ideal S8 .f32) (x1 : Vec Ideal S256x128 .f32) (x2 : Vec Ideal S128x4096 .f32) (x3 : Vec Ideal S128x4096 .f32) (x4 : Vec Ideal S128x256 .bf16) : Keys x2 (sout0_A_0 (F := Ideal) c i arg3 harg3 arg4 harg4 arg5 harg5 arg6 harg6 arg7 harg7 arg8 harg8 arg9 harg9 arg10 harg10 hc0 x0 x1 x2 x3 x4) := by
  unfold sout0_A_0
  rw [View.read_writes_junk_eq_canon]
  exact keysOf_A c i arg3 harg3 arg4 harg4 arg5 harg5 arg6 harg6 arg7 harg7 arg8 harg8 arg9 harg9 arg10 harg10 hc0 x0 x1 x2 x3 x4

theorem scratch1_A (hc0 : cond0_0 i) (x0 : Vec Ideal S8 .f32) (x1 : Vec Ideal S256x128 .f32) (x2 : Vec Ideal S128x4096 .f32) (x3 : Vec Ideal S128x4096 .f32) (x4 : Vec Ideal S128x256 .bf16) : Vals x3 (sout0_A_1 (F := Ideal) c i arg3 harg3 arg4 harg4 arg5 harg5 arg6 harg6 arg7 harg7 arg8 harg8 arg9 harg9 arg10 harg10 hc0 x0 x1 x2 x3 x4) := by
  unfold sout0_A_1
  rw [View.read_writes_junk_eq_canon]
  exact valsOf_A c i arg3 harg3 arg4 harg4 arg5 harg5 arg6 harg6 arg7 harg7 arg8 harg8 arg9 harg9 arg10 harg10 hc0 x0 x1 x2 x3 x4

/-- A point of case A: its result's block at query `q` and lane `l`, which is feature `d` of the pair's head `hh`. -/
theorem out_A (hc0 : cond0_0 i) (x0 : Vec Ideal S8 .f32) (x1 : Vec Ideal S256x128 .f32) (x2 : Vec Ideal S128x4096 .f32) (x3 : Vec Ideal S128x4096 .f32) (x4 : Vec Ideal S128x256 .bf16) (hu : Ones x4) (hh : Fin 2) (hd : Fin 8) (hhd : hd.val = 2 * (i 1).val + hh.val) (d : Fin 64) (q : Fin 256) (l : Fin 128) (hl : l.val = 64 * hh.val + d.val) :
    (out0_A_5 (F := Ideal) c i arg3 harg3 arg4 harg4 arg5 harg5 arg6 harg6 arg7 harg7 arg8 harg8 arg9 harg9 arg10 harg10 hc0 x0 x1 x2 x3 x4 (ix2 q l) : EReal) = outSum (blockScore x0 x1 x2 hd hh.val q) (fun p => at2 x3 (64 * hh.val + d.val) p) (256 * (i 2).val + q.val) 4096 0 := by
  unfold out0_A_5
  rw [View.read_writes_junk_eq_canon, run_A c i arg3 harg3 arg4 harg4 arg5 harg5 arg6 harg6 arg7 harg7 arg8 harg8 arg9 harg9 arg10 harg10 hc0 x0 x1 x2 x3 x4, View.canon_cons_unit_lit _ _ _ (by decide)]
  refine outT_apply c i arg3 harg3 arg4 harg4 arg5 harg5 arg6 harg6 arg7 harg7 arg8 harg8 arg9 harg9 arg10 harg10 x0 x1 x2 x3 x4 _ _ ?_ ?_ hu hh hd hhd d q l hl
  · rw [View.read_writes_junk_eq_canon]; exact keysOf_A c i arg3 harg3 arg4 harg4 arg5 harg5 arg6 harg6 arg7 harg7 arg8 harg8 arg9 harg9 arg10 harg10 hc0 x0 x1 x2 x3 x4
  · rw [View.read_writes_junk_eq_canon]; exact valsOf_A c i arg3 harg3 arg4 harg4 arg5 harg5 arg6 harg6 arg7 harg7 arg8 harg8 arg9 harg9 arg10 harg10 hc0 x0 x1 x2 x3 x4

/-- A point of case B, over what the scratch buffers hold already. -/
theorem out_B (hc0 : ¬cond0_0 i) (x0 : Vec Ideal S8 .f32) (x1 : Vec Ideal S256x128 .f32) (x2 : Vec Ideal S128x4096 .f32) (x3 : Vec Ideal S128x4096 .f32) (x4 : Vec Ideal S128x256 .bf16) (xs0 : Vec Ideal S2x32x128x128 .bf16) (xs1 : Vec Ideal S32x128x128 .bf16) (hk : Keys x2 xs0) (hv : Vals x3 xs1) (hu : Ones x4) (hh : Fin 2) (hd : Fin 8) (hhd : hd.val = 2 * (i 1).val + hh.val) (d : Fin 64) (q : Fin 256) (l : Fin 128) (hl : l.val = 64 * hh.val + d.val) :
    (out0_B_5 (F := Ideal) c i arg3 harg3 arg4 harg4 arg5 harg5 arg6 harg6 arg7 harg7 arg8 harg8 arg9 harg9 arg10 harg10 hc0 x0 x1 x2 x3 x4 xs0 xs1 (ix2 q l) : EReal) = outSum (blockScore x0 x1 x2 hd hh.val q) (fun p => at2 x3 (64 * hh.val + d.val) p) (256 * (i 2).val + q.val) 4096 0 := by
  unfold out0_B_5
  rw [View.read_writes_junk_eq_canon, run_B c i arg3 harg3 arg4 harg4 arg5 harg5 arg6 harg6 arg7 harg7 arg8 harg8 arg9 harg9 arg10 harg10 hc0 x0 x1 x2 x3 x4 xs0 xs1, View.canon_cons_unit_lit _ _ _ (by decide)]
  refine outT_apply c i arg3 harg3 arg4 harg4 arg5 harg5 arg6 harg6 arg7 harg7 arg8 harg8 arg9 harg9 arg10 harg10 x0 x1 x2 x3 x4 _ _ ?_ ?_ hu hh hd hhd d q l hl
  · rw [harg9.read_unread]; exact hk
  · rw [harg10.read_unread]; exact hv

end Cert.AttnIdeal.Body
-- ==== Proof.Attn.Entry.lean ====
/- The attention kernel's input blocks, read at an index, as elements of the program's arguments; and the grid point's coordinates. -/
module

public import proofs.«01_k».proof.Proof.Gen.AttnIdeal.Frame
public import proofs.«01_k».proof.Proof.Attn.Block
public import Idealize.ShloMosaic.PureOps.Ideal
public import Idealize.ShloMosaic.Lib.Claim
public import Idealize.ShloMosaic.Lib.ValueIdxCore
public import Idealize.ShloMosaic.Lib.Pipeline.ValueKit.Geometry

@[expose] public section

set_option maxRecDepth 16384

noncomputable section

namespace Cert.AttnIdeal.Entry

open Idealize.ShloMosaic Idealize.ShloMosaic.TcCoe Idealize.SL.Sem Cert.AttnIdeal Cert.AttnIdeal.Gen
open Idealize.ShloMosaic.ValueIdx StickBreak

variable (m : (ℓ : Loc nD τ sig) → Buf (Elt Ideal) ℓ) (c : Dev nD)

theorem coord1 : ∀ t : Fin cfg0.N, (grid0.coords t 1).val = t.val / 16 % 4 := (by decide +kernel : ∀ t : Fin grid0.N, _)
theorem coord2 : ∀ t : Fin cfg0.N, (grid0.coords t 2).val = t.val % 16 := (by decide +kernel : ∀ t : Fin grid0.N, _)
theorem idx0 : ∀ t : Fin cfg0.N, win0_0.index t (0 : Fin 1) = 0 := (by decide +kernel : ∀ t : Fin grid0.N, _)
theorem idx1 : ∀ t : Fin cfg0.N, win0_1.index t (0 : Fin 2) = t.val / 64 * 16 + t.val % 16 ∧ win0_1.index t (1 : Fin 2) = t.val / 16 % 4 :=
  (by decide +kernel : ∀ t : Fin grid0.N, _)
theorem idx2 : ∀ t : Fin cfg0.N, win0_2.index t (0 : Fin 2) = t.val / 16 ∧ win0_2.index t (1 : Fin 2) = 0 :=
  (by decide +kernel : ∀ t : Fin grid0.N, _)
theorem idx3 : ∀ t : Fin cfg0.N, win0_3.index t (0 : Fin 2) = t.val / 16 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)

theorem iblk0 (t : Fin cfg0.N) (j : Fin 8) : iblk m c 0 t (ix1 j) = m ((c : Thread nD τ).loc main_arg3) (ix2 0 j) := by
  have e := idx0 t
  have e0 : (((cfg0.win 0).blk t).view.emb (ix1 j)) = (ix1 j : S8.Idx) := by
    funext a; match a with
    | ⟨0, _⟩ => refine Fin.ext ?_; blk_simp [e]
  unfold iblk
  rw [View.read_apply, cast_eq]
  entry_read
  refine (congrArg _ e0).trans (shapeCast_apply _ shapeCasts_S1x8_S8 (ix1 j : S8.Idx) (ix2 0 j) ?_)
  rw [Shape.rowMajor_val_one, Shape.rowMajor_val_two]
  show 0 * 8 + j.val = j.val
  omega

theorem iblk1 (t : Fin cfg0.N) (i : Fin 256) (j : Fin 128) (n : Fin 32768) (k : Fin 512) (h : n.val = 256 * (t.val / 64 * 16 + t.val % 16) + i.val) (h' : k.val = 128 * (t.val / 16 % 4) + j.val) :
    iblk m c 1 t (ix2 i j) = m ((c : Thread nD τ).loc main_arg0) (ix2 n k) := by
  have e := idx1 t
  unfold iblk
  rw [View.read_apply, cast_eq]
  entry_read
  refine congrArg _ (Shape.idx_ext₂ ?_ ?_)
  · blk_simp [e.1]; show (t.val / 64 * 16 + t.val % 16) * 256 + i.val = n.val; omega
  · blk_simp [e.2]; show (t.val / 16 % 4) * 128 + j.val = k.val; omega

theorem iblk2 (t : Fin cfg0.N) (i : Fin 128) (j : Fin 4096) (n : Fin 4096) (h : n.val = 128 * (t.val / 16) + i.val) :
    iblk m c 2 t (ix2 i j) = m ((c : Thread nD τ).loc main_arg1) (ix2 n j) := by
  have e := idx2 t
  unfold iblk
  rw [View.read_apply, cast_eq]
  entry_read
  refine congrArg _ (Shape.idx_ext₂ ?_ ?_)
  · blk_simp [e.1]; show (t.val / 16) * 128 + i.val = n.val; omega
  · blk_simp [e.2]

theorem iblk3 (t : Fin cfg0.N) (i : Fin 128) (j : Fin 4096) (n : Fin 4096) (h : n.val = 128 * (t.val / 16) + i.val) :
    iblk m c 3 t (ix2 i j) = m ((c : Thread nD τ).loc main_arg2) (ix2 n j) := by
  have e := idx3 t
  unfold iblk
  rw [View.read_apply, cast_eq]
  entry_read
  refine congrArg _ (Shape.idx_ext₂ ?_ ?_)
  · blk_simp [e.1]; show (t.val / 16) * 128 + i.val = n.val; omega
  · blk_simp [e.2]

/-- The position within a tile, as the host computes it: the remainder by 128, made nonnegative. -/
def place (k : BitVec 32) : BitVec 32 :=
  let d : BitVec 32 := Scalar.select (IntOp.cmpi .eq 128#32 0#32) 1#32 128#32
  let x : BitVec 32 := IntOp.remsi .host k d
  Scalar.select (IntOp.andi (IntOp.cmpi .ne (IntOp.cmpi .slt x 0#32) (IntOp.cmpi .slt d 0#32)) (IntOp.cmpi .ne x 0#32)) (IntOp.addi x d) x

/-- It is the remainder. -/
theorem place_eq (k : Fin 256) : place (BitVec.ofNat 32 k.val) = BitVec.ofNat 32 (k.val % 128) := by
  revert k
  decide +kernel

/-- The host's comparison of two small words. -/
theorem sge_eq (a b : Fin 128) : IntOp.cmpi .sge (BitVec.ofNat 32 a.val) (BitVec.ofNat 32 b.val) = if b.val ≤ a.val then 1#1 else 0#1 := by
  revert a b
  decide +kernel

/-- The host's table of ones: row `r` has a one at the places from `r` on, in each half. -/
theorem table (r : Fin 128) (k : Fin 256) : (V m c main_v9 : Vec Ideal S128x256 .bf16) (ix2 r k) = (if r.val ≤ k.val % 128 then 1 else 0 : EReal) := by
  have e : (V m c main_v9 : Vec Ideal S128x256 .bf16) (ix2 r k)
      = FloatOps.uitofp (F := Ideal) .bf16 (IntOp.cmpi .sge (place (BitVec.ofNat 32 k.val)) (BitVec.ofNat 32 r.val)) := by
    simp only [V, hostOps0, hostOps0_1, hostOps0_2, List.flatten_cons, List.flatten_nil, List.append_nil, List.cons_append, List.nil_append]
    entry_read
    rfl
  rw [e, place_eq k, sge_eq ⟨k.val % 128, Nat.mod_lt _ (by decide)⟩ r]
  by_cases h : r.val ≤ k.val % 128
  · rw [if_pos h, if_pos h]
    show (((1#1 : BitVec 1).toNat : ℝ) : EReal) = 1
    simp
  · rw [if_neg h, if_neg h]
    show (((0#1 : BitVec 1).toNat : ℝ) : EReal) = 0
    simp

theorem ones (t : Fin cfg0.N) : Body.Ones (iblk m c 4 t) := by
  intro r k
  have e := idx4 t
  have e0 : (((cfg0.win 4).blk t).view.emb (ix2 r k)) = (ix2 r k : S128x256.Idx) := by
    refine Shape.idx_ext₂ ?_ ?_
    · blk_simp [e.1]
    · blk_simp [e.2]
  unfold iblk
  rw [View.read_apply, cast_eq]
  exact (congrArg (V m c main_v9) e0).trans (table m c r k)

end Cert.AttnIdeal.Entry
-- ==== Proof.Attn.Point.lean ====
/- What every grid point leaves: the keys and values of its head pair in the scratch buffers, and its block of the result as the layer's rows of the arguments. -/
module

public import proofs.«01_k».proof.Proof.Attn.Cases
public import proofs.«01_k».proof.Proof.Attn.Entry

@[expose] public section

set_option maxRecDepth 16384
set_option maxHeartbeats 1000000

noncomputable section

namespace Cert.AttnIdeal.Point

open Idealize.ShloMosaic Idealize.ShloMosaic.TcCoe Idealize.SL.Sem Cert.AttnIdeal Cert.AttnIdeal.Gen
open Idealize.ShloMosaic.ValueIdx StickBreak Body
open scoped BigOperators

variable (m : (ℓ : Loc nD τ sig) → Buf (Elt Ideal) ℓ) (c : Dev nD)

/-- The program's arguments. -/
def argQ : (⟨2, ![32768, 512]⟩ : Shape).Idx → EReal := m ((c : Thread nD τ).loc main_arg0)
def argK : (⟨2, ![4096, 4096]⟩ : Shape).Idx → EReal := m ((c : Thread nD τ).loc main_arg1)
def argV : (⟨2, ![4096, 4096]⟩ : Shape).Idx → EReal := m ((c : Thread nD τ).loc main_arg2)
def argB : (⟨2, ![1, 8]⟩ : Shape).Idx → EReal := m ((c : Thread nD τ).loc main_arg3)

/-- A point's blocks as parts of the arguments. -/
theorem blockQ (t : Fin cfg0.N) (i j : ℕ) (hi : i < 256) (hj : j < 128) :
    at2 (m := 256) (n := 128) (iblk m c 1 t) i j = at2 (argQ m c) (256 * (t.val / 64 * 16 + t.val % 16) + i) (128 * (t.val / 16 % 4) + j) := by
  have ht : t.val < 512 := lt_of_lt_of_eq t.isLt N_0
  refine (at2_ix2 (m := 256) (n := 128) (iblk m c 1 t) ⟨i, hi⟩ ⟨j, hj⟩).symm.trans ?_
  refine (Entry.iblk1 m c t ⟨i, hi⟩ ⟨j, hj⟩ ⟨256 * (t.val / 64 * 16 + t.val % 16) + i, by omega⟩ ⟨128 * (t.val / 16 % 4) + j, by omega⟩ rfl rfl).trans ?_
  exact at2_ix2 (argQ m c) _ _

theorem blockK (t : Fin cfg0.N) (i p : ℕ) (hi : i < 128) : at2 (m := 128) (n := 4096) (iblk m c 2 t) i p = at2 (argK m c) (128 * (t.val / 16) + i) p := by
  have ht : t.val < 512 := lt_of_lt_of_eq t.isLt N_0
  by_cases hp : p < 4096
  · refine (at2_ix2 (m := 128) (n := 4096) (iblk m c 2 t) ⟨i, hi⟩ ⟨p, hp⟩).symm.trans ?_
    refine (Entry.iblk2 m c t ⟨i, hi⟩ ⟨p, hp⟩ ⟨128 * (t.val / 16) + i, by omega⟩ rfl).trans ?_
    exact at2_ix2 (argK m c) _ _
  · unfold at2
    rw [dif_neg (fun h => hp h.2), dif_neg (fun h => hp h.2)]

theorem blockV (t : Fin cfg0.N) (i p : ℕ) (hi : i < 128) : at2 (m := 128) (n := 4096) (iblk m c 3 t) i p = at2 (argV m c) (128 * (t.val / 16) + i) p := by
  have ht : t.val < 512 := lt_of_lt_of_eq t.isLt N_0
  by_cases hp : p < 4096
  · refine (at2_ix2 (m := 128) (n := 4096) (iblk m c 3 t) ⟨i, hi⟩ ⟨p, hp⟩).symm.trans ?_
    refine (Entry.iblk3 m c t ⟨i, hi⟩ ⟨p, hp⟩ ⟨128 * (t.val / 16) + i, by omega⟩ rfl).trans ?_
    exact at2_ix2 (argV m c) _ _
  · unfold at2
    rw [dif_neg (fun h => hp h.2), dif_neg (fun h => hp h.2)]

/-- Two points of one head pair have the same keys and values. -/
theorem keys_of (t t' : Fin cfg0.N) (h : t.val / 16 = t'.val / 16) (kb : Vec Ideal S2x32x128x128 .bf16) (hk : Keys (iblk m c 2 t) kb) : Keys (iblk m c 2 t') kb := by
  intro hh j r l
  refine (hk hh j r l).trans ?_
  rw [blockK m c t l.val _ l.isLt, blockK m c t' l.val _ l.isLt, h]

theorem vals_of (t t' : Fin cfg0.N) (h : t.val / 16 = t'.val / 16) (vb : Vec Ideal S32x128x128 .bf16) (hv : Vals (iblk m c 3 t) vb) : Vals (iblk m c 3 t') vb := by
  intro j d r
  refine (hv j d r).trans ?_
  rw [blockV m c t d.val _ d.isLt, blockV m c t' d.val _ d.isLt, h]

theorem scratch_A (t : Fin cfg0.N) (h0 : t.val % 16 = 0) : Keys (iblk m c 2 t) (outsAt0 m c t.val t.isLt).2.1 ∧ Vals (iblk m c 3 t) (outsAt0 m c t.val t.isLt).2.2 := by
  rw [outsAt0_A m c t h0]
  have e0 := scratch0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)
  have e1 := scratch1_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)
  dsimp only
  constructor
  · generalize sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t) = kb at e0 ⊢
    exact e0
  · generalize sout0_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t) = vb at e1 ⊢
    exact e1

theorem scratch_B (t : Fin cfg0.N) (h0 : ¬t.val % 16 = 0) (hk : Keys (iblk m c 2 t) (outsAt0 m c (t.val - 1) (Nat.lt_of_le_of_lt (Nat.sub_le _ _) t.isLt)).2.1) (hv : Vals (iblk m c 3 t) (outsAt0 m c (t.val - 1) (Nat.lt_of_le_of_lt (Nat.sub_le _ _) t.isLt)).2.2) :
    Keys (iblk m c 2 t) (outsAt0 m c t.val t.isLt).2.1 ∧ Vals (iblk m c 3 t) (outsAt0 m c t.val t.isLt).2.2 := by
  rw [outsAt0_B m c t h0]
  exact ⟨hk, hv⟩

/-- Every point leaves its keys and values in the scratch buffers. -/
theorem scratch (n : ℕ) : ∀ hn : n < cfg0.N, Keys (iblk m c 2 ⟨n, hn⟩) (outsAt0 m c n hn).2.1 ∧ Vals (iblk m c 3 ⟨n, hn⟩) (outsAt0 m c n hn).2.2 := by
  induction n with
  | zero => exact fun hn => scratch_A m c ⟨0, hn⟩ (Nat.zero_mod 16)
  | succ k ih =>
    intro hn
    by_cases h0 : (k + 1) % 16 = 0
    · exact scratch_A m c ⟨k + 1, hn⟩ h0
    · have hk : k < cfg0.N := Nat.lt_of_succ_lt hn
      have hd : k / 16 = (k + 1) / 16 := by omega
      exact scratch_B m c ⟨k + 1, hn⟩ h0 (keys_of m c ⟨k, hk⟩ ⟨k + 1, hn⟩ hd _ (ih hk).1) (vals_of m c ⟨k, hk⟩ ⟨k + 1, hn⟩ hd _ (ih hk).2)

/-- A point's result block, from its blocks. -/
theorem block (t : Fin cfg0.N) (hh : Fin 2) (hd : Fin 8) (hhd : hd.val = 2 * (t.val / 16 % 4) + hh.val) (d : Fin 64) (q : Fin 256) (l : Fin 128) (hl : l.val = 64 * hh.val + d.val) :
    ((outsAt0 m c t.val t.isLt).1 (ix2 q l) : EReal)
      = outSum (blockScore (iblk m c 0 t) (iblk m c 1 t) (iblk m c 2 t) hd hh.val q) (fun p => at2 (m := 128) (n := 4096) (iblk m c 3 t) (64 * hh.val + d.val) p) (256 * (t.val % 16) + q.val) 4096 0 := by
  have h1 : hd.val = 2 * (grid0.coords t 1).val + hh.val := by rw [Entry.coord1 t]; exact hhd
  rw [← Entry.coord2 t]
  by_cases h0 : t.val % 16 = 0
  · rw [outsAt0_A m c t h0]
    exact out_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t) (Entry.ones m c t) hh hd h1 d q l hl
  · rw [outsAt0_B m c t h0]
    have hp : t.val - 1 < cfg0.N := Nat.lt_of_le_of_lt (Nat.sub_le _ _) t.isLt
    have hdv : (⟨t.val - 1, hp⟩ : Fin cfg0.N).val / 16 = t.val / 16 := by
      show (t.val - 1) / 16 = t.val / 16
      omega
    exact out_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) _ _ (keys_of m c ⟨t.val - 1, hp⟩ t hdv _ (scratch m c _ hp).1) (vals_of m c ⟨t.val - 1, hp⟩ t hdv _ (scratch m c _ hp).2) (Entry.ones m c t) hh hd h1 d q l hl

/-- A point's result block, from the program's arguments: head `2·pair + hh` of the point's sequence, at its queries. -/
theorem leaves (t : Fin cfg0.N) (hh : Fin 2) (d : Fin 64) (q : Fin 256) (l : Fin 128) (hl : l.val = 64 * hh.val + d.val) :
    ((outsAt0 m c t.val t.isLt).1 (ix2 q l) : EReal)
      = result (argQ m c) (argK m c) (argV m c) (argB m c) (t.val / 64) (2 * (t.val / 16 % 4) + hh.val) (256 * (t.val % 16) + q.val) d.val := by
  have ht : t.val < 512 := lt_of_lt_of_eq t.isLt N_0
  have hd8 : 2 * (t.val / 16 % 4) + hh.val < 8 := by omega
  refine (block m c t hh ⟨2 * (t.val / 16 % 4) + hh.val, hd8⟩ rfl d q l hl).trans ?_
  unfold result
  refine congrArg₂ (fun f g => outSum f g (256 * (t.val % 16) + q.val) 4096 0) (funext fun p => ?_) (funext fun p => ?_)
  · unfold blockScore scoreOf
    refine congrArg₂ (fun a b : EReal => a * eighth + b) (Finset.sum_congr rfl fun e _ => ?_) ?_
    · rw [blockQ m c t q.val (64 * hh.val + e.val) q.isLt (by omega), blockK m c t (64 * hh.val + e.val) p (by omega)]
      refine congrArg₂ (fun a b : EReal => a * b) (congrArg₂ (at2 (argQ m c)) (by omega) (by omega)) (congrArg (fun a => at2 (argK m c) a p) (by omega))
    · refine (Entry.iblk0 m c t ⟨2 * (t.val / 16 % 4) + hh.val, hd8⟩).trans ?_
      exact at2_ix2 (argB m c) (0 : Fin 1) (⟨2 * (t.val / 16 % 4) + hh.val, hd8⟩ : Fin 8)
  · unfold valueOf
    refine (blockV m c t (64 * hh.val + d.val) p (by omega)).trans ?_
    exact congrArg (fun a => at2 (argV m c) a p) (by omega)

end Cert.AttnIdeal.Point
-- ==== Proof.Attn.Ref.lean ====
/- The reference's result at an index is the layer's. -/
module

public import proofs.«01_k».proof.Proof.Gen.AttnRefIdeal.Read
public import proofs.«01_k».proof.Proof.Attn.Layer
public import Idealize.ShloMosaic.Lib.Pipeline.Value

@[expose] public section

set_option maxRecDepth 16384
set_option maxHeartbeats 1000000

noncomputable section

namespace Cert.AttnRefIdeal.Rows

open Idealize.ShloMosaic Cert.AttnRefIdeal Cert.AttnRefIdeal.Gen Cert.AttnRefIdeal.Read
open Idealize.ShloMosaic.ValueIdx StickBreak
open scoped BigOperators

variable (x0 : (⟨S32768x512, .f32⟩ : BufTy).Contents (Elt Ideal)) (x1 x2 : (⟨S4096x4096, .f32⟩ : BufTy).Contents (Elt Ideal))
    (x3 : (⟨S1x8, .f32⟩ : BufTy).Contents (Elt Ideal))

theorem q_at (b : Fin 8) (s : Fin 4096) (h : Fin 8) (d : Fin 64) : val_main_v0 (F := Ideal) x0 (ix4 b s h d) = at2 x0 (b.val * 4096 + s.val) (h.val * 64 + d.val) := by
  rw [val_main_v0_apply]
  refine at2_of x0 _ _ _ ?_ ?_
  · show (((b.val * 4096 + s.val) * 8 + h.val) * 64 + d.val) / 512 = _; omega
  · show (((b.val * 4096 + s.val) * 8 + h.val) * 64 + d.val) % 512 = _; omega
theorem k_at (b h : Fin 8) (d : Fin 64) (p : Fin 4096) : val_main_v1 (F := Ideal) x1 (ix4 b h d p) = at2 x1 ((b.val * 8 + h.val) * 64 + d.val) p.val := by
  rw [val_main_v1_apply]
  refine at2_of x1 _ _ _ ?_ ?_
  · show (((b.val * 8 + h.val) * 64 + d.val) * 4096 + p.val) / 4096 = _; omega
  · show (((b.val * 8 + h.val) * 64 + d.val) * 4096 + p.val) % 4096 = _; omega
theorem v_at (b h : Fin 8) (d : Fin 64) (p : Fin 4096) : val_main_v2 (F := Ideal) x2 (ix4 b h d p) = at2 x2 ((b.val * 8 + h.val) * 64 + d.val) p.val := by
  rw [val_main_v2_apply]
  refine at2_of x2 _ _ _ ?_ ?_
  · show (((b.val * 8 + h.val) * 64 + d.val) * 4096 + p.val) / 4096 = _; omega
  · show (((b.val * 8 + h.val) * 64 + d.val) * 4096 + p.val) % 4096 = _; omega

theorem score_at (b h : Fin 8) (s p : Fin 4096) : val_main_v10 (F := Ideal) x0 x1 x3 (ix4 b h s p) = scoreOf x0 x1 x3 b.val h.val s.val p.val := by
  rw [val_main_v10_apply, val_main_v7_apply, val_main_v5_apply, val_main_v6_apply, val_main_cst_apply, val_main_v9_apply, val_main_v8_apply, val_main_v3_apply]
  unfold scoreOf
  refine congrArg₂ (fun a b : EReal => a + b) (congrArg (fun a : EReal => a * eighth) (Finset.sum_congr rfl fun d _ =>
    congrArg₂ (fun a b : EReal => a * b) (q_at x0 b s h d) (k_at x1 b h d p))) (at2_of x3 _ _ _ ?_ ?_)
  · exact Fin.val_eq_zero _
  · show h.val % 8 = h.val; exact Nat.mod_eq_of_lt h.isLt

theorem seen_at (s p : Fin 4096) : val_main_v15 (F := Ideal) (ix2 s p) = if p.val < s.val then 1#1 else 0#1 := by
  rw [val_main_v15_apply, val_main_v13_apply, val_main_v14_apply, val_main_v11_apply, val_main_v12_apply, val_main_v4_apply, val_main_v4_apply]
  show IntOp.cmpi .slt (BitVec.ofNat 32 p.val) (BitVec.ofNat 32 s.val) = _
  have hp : p.val < 4096 := p.isLt
  have hs : s.val < 4096 := s.isLt
  have e (n : ℕ) (hn : n < 4096) : (BitVec.ofNat 32 n).toInt = n := by
    rw [BitVec.toInt_eq_toNat_of_lt (by rw [BitVec.toNat_ofNat]; omega), BitVec.toNat_ofNat, Nat.mod_eq_of_lt (by omega)]
  show BitVec.ofBool (BitVec.slt (BitVec.ofNat 32 p.val) (BitVec.ofNat 32 s.val)) = _
  have : BitVec.slt (BitVec.ofNat 32 p.val) (BitVec.ofNat 32 s.val) = decide (p.val < s.val) := by
    unfold BitVec.slt; rw [e _ hp, e _ hs]; exact decide_eq_decide.mpr (by omega)
  rw [this]
  by_cases h : p.val < s.val
  · rw [if_pos h, decide_eq_true h]; rfl
  · rw [if_neg h, decide_eq_false h]; rfl

theorem sel_self (a b z : EReal) : Scalar.select (FloatOps.cmpf (F := Ideal) (φ := .f32) .une z z) a b = b := by
  have : FloatOps.cmpf (F := Ideal) (φ := .f32) .une z z = 0#1 := by
    show BitVec.ofBool (decide (z ≠ z)) = 0#1
    rw [decide_eq_false (by exact fun h => h rfl)]; rfl
  rw [this]; rfl

theorem pass_at (i : S8x8x4096x4096.Idx) : val_main_v17 (F := Ideal) x0 x1 x3 i = lk (val_main_v10 (F := Ideal) x0 x1 x3 i) := by
  rw [val_main_v17_apply, val_main_call0_v1_apply, val_main_call0_call0_v4_apply, sel_self, val_main_call0_call0_v11_apply, val_main_call0_call0_v10_apply, val_main_call0_call0_v9_apply, val_main_call0_call0_v8_apply, val_main_call0_call0_v7_apply, val_main_call0_call0_v1_apply, val_main_call0_call0_v3_apply, val_main_call0_call0_v0_apply, val_main_call0_call0_v2_apply, val_main_call0_call0_cst_apply, val_main_call0_v0_apply, val_main_v16_apply]
  generalize val_main_v10 (F := Ideal) x0 x1 x3 i = z
  have e0 : (FloatOps.ofBits (F := Ideal) .f32 0x00000000#32 : EReal) = 0 := Ideal.ofBits_zero_f32
  rw [e0]
  show -(max (- -z) (0 : EReal) + Ideal.log (1 + Ideal.exp (-(max (- -z - 0) (-(- -z - 0)))))) = lk z
  rw [sub_zero, neg_neg]
  rfl

theorem own_at (i : S8x8x4096x4096.Idx) : val_main_v21 (F := Ideal) x0 x1 x3 i = -sp (-(val_main_v10 (F := Ideal) x0 x1 x3 i)) := by
  rw [val_main_v21_apply, val_main_call3_v1_apply, val_main_call3_call0_v4_apply, sel_self, val_main_call3_call0_v11_apply, val_main_call3_call0_v10_apply, val_main_call3_call0_v9_apply, val_main_call3_call0_v8_apply, val_main_call3_call0_v7_apply, val_main_call3_call0_v1_apply, val_main_call3_call0_v3_apply, val_main_call3_call0_v0_apply, val_main_call3_call0_v2_apply, val_main_call3_call0_cst_apply, val_main_call3_v0_apply]
  generalize val_main_v10 (F := Ideal) x0 x1 x3 i = z
  have e0 : (FloatOps.ofBits (F := Ideal) .f32 0x00000000#32 : EReal) = 0 := Ideal.ofBits_zero_f32
  rw [e0]
  show -(max (-z) (0 : EReal) + Ideal.log (1 + Ideal.exp (-(max (-z - 0) (-(-z - 0)))))) = _
  rw [sub_zero]
  rfl

theorem keep_at (b h : Fin 8) (s p : Fin 4096) : val_main_v18 (F := Ideal) x0 x1 x3 (ix4 b h s p) = keep (scoreOf x0 x1 x3 b.val h.val s.val) s.val p.val := by
  rw [val_main_v18_apply, val_main_call1_v1_apply, val_main_call1_v2_apply, pass_at, score_at]
  refine (congrArg (fun c => Scalar.select c _ _) (seen_at s p)).trans ?_
  unfold keep
  by_cases h : p.val < s.val
  · rw [if_pos h, if_pos h]; rfl
  · rw [if_neg h, if_neg h]; exact Ideal.ofBits_zero_f32

/-- A row as a function of a natural number. -/
def row4 (x : S8x8x4096x4096.Idx → EReal) (b h : Fin 8) (s : Fin 4096) (p : ℕ) : EReal := if hp : p < 4096 then x (ix4 b h s ⟨p, hp⟩) else 0

abbrev Win : Shape := ⟨4, ![1, 1, 1, 4096]⟩

def winAt (k : Fin 4096) : Win.Idx := ix4 (0 : Fin 1) (0 : Fin 1) (0 : Fin 1) k

theorem foldl_shape (W : Shape) (g : W.Idx → EReal) : (List.finRange W.numel).foldl (fun r n => r + g (W.rowMajor.symm n)) 0 = ∑ w, g w := by
  rw [foldl_sum (fun n => g (W.rowMajor.symm n)), zero_add, ← Fin.sum_univ_def, Equiv.sum_comp W.rowMajor.symm g]

theorem reduceWindow_sum {s t u : Shape} {ι : Type} [Fintype ι] (window strides lo hi : Fin s.rank → ℕ) (x : s.Idx → EReal) (v : u.Idx → EReal)
    (h : s.ReduceWindows window strides lo hi t) (hu : 0 < u.numel)
    (hv : ∀ i, v i = 0) (j : t.Idx) (e : ι ≃ (⟨s.rank, window⟩ : Shape).Idx) (G : ι → EReal)
    (h1 : ∀ (k : ι) (hin : ∀ a, lo a ≤ (j (a.cast h.1.symm)).val * strides a + (e k a).val ∧ (j (a.cast h.1.symm)).val * strides a + (e k a).val - lo a < s.size a),
      x (fun a => ⟨(j (a.cast h.1.symm)).val * strides a + (e k a).val - lo a, (hin a).2⟩) = G k)
    (h0 : ∀ (k : ι), ¬ (∀ a, lo a ≤ (j (a.cast h.1.symm)).val * strides a + (e k a).val ∧ (j (a.cast h.1.symm)).val * strides a + (e k a).val - lo a < s.size a) → 0 = G k) :
    Host.reduceWindow (fun a b : EReal => a + b) window strides lo hi x v h hu j = ∑ k, G k := by
  have h1' : ∀ (w : (⟨s.rank, window⟩ : Shape).Idx) (hin : ∀ a, lo a ≤ (j (a.cast h.1.symm)).val * strides a + (w a).val ∧ (j (a.cast h.1.symm)).val * strides a + (w a).val - lo a < s.size a),
      x (fun a => ⟨(j (a.cast h.1.symm)).val * strides a + (w a).val - lo a, (hin a).2⟩) = G (e.symm w) := by
    intro w
    obtain ⟨k, rfl⟩ := e.surjective w
    intro hin
    rw [e.symm_apply_apply]
    exact h1 k hin
  have h0' : ∀ (w : (⟨s.rank, window⟩ : Shape).Idx), ¬ (∀ a, lo a ≤ (j (a.cast h.1.symm)).val * strides a + (w a).val ∧ (j (a.cast h.1.symm)).val * strides a + (w a).val - lo a < s.size a) → 0 = G (e.symm w) := by
    intro w
    obtain ⟨k, rfl⟩ := e.surjective w
    rw [e.symm_apply_apply]
    exact h0 k
  unfold Host.reduceWindow
  rw [hv]
  have key := foldl_shape (⟨s.rank, window⟩ : Shape) (fun w => G (e.symm w))
  rw [Equiv.sum_comp e.symm G] at key
  rw [← key]
  dsimp only
  congr 1
  funext r n
  congr 1
  split
  · exact h1' _ ‹_›
  · exact h0' _ ‹_›

theorem reduceWindowAdd_sum {s t u : Shape} {ι : Type} [Fintype ι] (window strides lo hi : Fin s.rank → ℕ) (x : s.Idx → EReal) (v : u.Idx → EReal)
    (h : s.ReduceWindows window strides lo hi t) (hu : 0 < u.numel)
    (hv : ∀ i, v i = 0) (j : t.Idx) (e : ι ≃ (⟨s.rank, window⟩ : Shape).Idx) (G : ι → EReal)
    (h1 : ∀ (k : ι) (hin : ∀ a, lo a ≤ (j (a.cast h.1.symm)).val * strides a + (e k a).val ∧ (j (a.cast h.1.symm)).val * strides a + (e k a).val - lo a < s.size a),
      x (fun a => ⟨(j (a.cast h.1.symm)).val * strides a + (e k a).val - lo a, (hin a).2⟩) = G k)
    (h0 : ∀ (k : ι), ¬ (∀ a, lo a ≤ (j (a.cast h.1.symm)).val * strides a + (e k a).val ∧ (j (a.cast h.1.symm)).val * strides a + (e k a).val - lo a < s.size a) → 0 = G k) :
    Host.reduceWindowAdd (F := Ideal) (φ := .f32) window strides lo hi x v h hu j = ∑ k, G k := by
  unfold Host.reduceWindowAdd
  rw [Ideal.hostReduceWindowAdd_def]
  unfold Ideal.hostReduceWindowAdd
  exact reduceWindow_sum window strides lo hi x _ h _ (fun _ => hv _) j e G h1 h0

theorem fin1 (a : Fin 1) : (0 : Fin 1) = a := Fin.ext (by omega)
def winEquiv : Fin 4096 ≃ Win.Idx where
  toFun := winAt
  invFun w := w 3
  left_inv _ := rfl
  right_inv w := funext fun a => match a with
    | ⟨0, _⟩ => fin1 (w 0)
    | ⟨1, _⟩ => fin1 (w 1)
    | ⟨2, _⟩ => fin1 (w 2)
    | ⟨3, _⟩ => rfl

/-- The window sum that runs to the row's end. -/
theorem window_at (x : S8x8x4096x4096.Idx → EReal) (v : S_.Idx → EReal) (hv : ∀ i, v i = 0)
    (hw : S8x8x4096x4096.ReduceWindows ![1, 1, 1, 4096] ![1, 1, 1, 1] ![0, 0, 0, 0] ![0, 0, 0, 4095] S8x8x4096x4096) (hu : 0 < S_.numel)
    (b h : Fin 8) (s p : Fin 4096) :
    Host.reduceWindowAdd (F := Ideal) (φ := .f32) ![1, 1, 1, 4096] ![1, 1, 1, 1] ![0, 0, 0, 0] ![0, 0, 0, 4095] x v hw hu (ix4 b h s p)
      = ∑ j ∈ Finset.Ico p.val 4096, row4 x b h s j := by
  rw [← window_sum _ p.val p.isLt.le]
  refine reduceWindowAdd_sum _ _ _ _ x v hw hu hv (ix4 b h s p) winEquiv (fun k : Fin 4096 => if p.val + k.val < 4096 then row4 x b h s (p.val + k.val) else 0) (fun k hin => ?_) (fun k hn => ?_)
  · have hk : p.val + k.val < 4096 := by
      have h3 : p.val * 1 + k.val - 0 < 4096 := (hin (3 : Fin 4)).2
      omega
    rw [if_pos hk]
    unfold row4
    rw [dif_pos hk]
    refine congrArg x (funext fun a => Fin.ext ?_)
    match a with
    | ⟨0, _⟩ => show b.val * 1 + 0 - 0 = b.val; omega
    | ⟨1, _⟩ => show h.val * 1 + 0 - 0 = h.val; omega
    | ⟨2, _⟩ => show s.val * 1 + 0 - 0 = s.val; omega
    | ⟨3, _⟩ => show p.val * 1 + k.val - 0 = p.val + k.val; omega
  · refine (if_neg fun hk => hn fun a => ?_).symm
    match a with
    | ⟨0, _⟩ => exact ⟨Nat.zero_le _, by show b.val * 1 + 0 - 0 < 8; omega⟩
    | ⟨1, _⟩ => exact ⟨Nat.zero_le _, by show h.val * 1 + 0 - 0 < 8; omega⟩
    | ⟨2, _⟩ => exact ⟨Nat.zero_le _, by show s.val * 1 + 0 - 0 < 4096; omega⟩
    | ⟨3, _⟩ => exact ⟨Nat.zero_le _, by show p.val * 1 + k.val - 0 < 4096; omega⟩

theorem weight_at (b h : Fin 8) (s p : Fin 4096) :
    val_main_v24 (F := Ideal) x0 x1 x3 (ix4 b h s p) = weight (scoreOf x0 x1 x3 b.val h.val s.val) s.val 4096 p.val := by
  have hc : val_main_v19 (F := Ideal) x0 x1 x3 (ix4 b h s p) = later (scoreOf x0 x1 x3 b.val h.val s.val) s.val 4096 p.val := by
    unfold val_main_v19
    refine (window_at _ _ (fun i => ?_) _ _ b h s p).trans ?_
    · rw [val_main_call2_v0_apply, val_main_call2_cst_apply]; exact Ideal.ofBits_zero_f32
    · unfold later
      refine Finset.sum_congr rfl fun j hj => ?_
      unfold row4
      rw [dif_pos (Finset.mem_Ico.mp hj).2]
      exact keep_at x0 x1 x3 b h s ⟨j, (Finset.mem_Ico.mp hj).2⟩
  rw [← weight_own _ _ _ _ p.isLt, val_main_v24_apply, val_main_call4_v1_apply, val_main_call4_v2_apply, val_main_v23_apply, val_main_v22_apply, val_main_v20_apply, hc, keep_at,
    own_at, score_at]
  refine (congrArg (fun c => Scalar.select c _ _) (seen_at s p)).trans ?_
  by_cases h : p.val < s.val
  · rw [if_pos h, if_pos h]; rfl
  · rw [if_neg h, if_neg h]; exact Ideal.ofBits_zero_f32

theorem out_at (b h : Fin 8) (d : Fin 64) (s : Fin 4096) : val_main_v25 (F := Ideal) x0 x1 x2 x3 (ix4 b h d s) = result x0 x1 x2 x3 b.val h.val s.val d.val := by
  rw [val_main_v25_apply]
  unfold result
  rw [outSum_fin]
  refine Finset.sum_congr rfl fun p _ => ?_
  have el : lidx_main_v25 (ix4 b h d s) p = ix4 b h d p := by
    funext a; match a with | ⟨0, _⟩ => rfl | ⟨1, _⟩ => rfl | ⟨2, _⟩ => rfl | ⟨3, _⟩ => rfl
  have er : ridx_main_v25 (ix4 b h d s) p = ix4 b h s p := by
    funext a; match a with | ⟨0, _⟩ => rfl | ⟨1, _⟩ => rfl | ⟨2, _⟩ => rfl | ⟨3, _⟩ => rfl
  rw [el, er, v_at, weight_at]
  rfl

/-- The reference's result. -/
theorem ref_at (n : Fin 32768) (k : Fin 512) :
    val_main_v27 (F := Ideal) x0 x1 x2 x3 (ix2 n k) = result x0 x1 x2 x3 (n.val / 4096) (k.val / 64) (n.val % 4096) (k.val % 64) := by
  have hn := n.isLt
  have hk := k.isLt
  have e : idx_main_v26 (idx_main_v27 (ix2 n k)) = ix4 (⟨n.val / 4096, by omega⟩ : Fin 8) (⟨k.val / 64, by omega⟩ : Fin 8) (⟨k.val % 64, by omega⟩ : Fin 64) (⟨n.val % 4096, by omega⟩ : Fin 4096) := by
    funext a
    match a with
    | ⟨0, _⟩ => exact Fin.ext (by show (n.val * 512 + k.val) / 2097152 = n.val / 4096; omega)
    | ⟨1, _⟩ => exact Fin.ext (by show (n.val * 512 + k.val) / 64 % 8 = k.val / 64; omega)
    | ⟨2, _⟩ => exact Fin.ext (by show (n.val * 512 + k.val) % 64 = k.val % 64; omega)
    | ⟨3, _⟩ => exact Fin.ext (by show (n.val * 512 + k.val) / 512 % 4096 = n.val % 4096; omega)
  rw [val_main_v27_apply, val_main_v26_apply, e, out_at]

end Cert.AttnRefIdeal.Rows
-- ==== Proof.Attn.Final.lean ====
/- The attention kernel's result array is the reference's: both read, at every index, as the layer's weighted sum over the keys. -/
module

public import proofs.«01_k».proof.Defs
public import proofs.«01_k».proof.Proof.Gen.AttnIdeal.Value
public import proofs.«01_k».proof.Proof.Gen.AttnRefIdeal.Run
public import proofs.«01_k».proof.Proof.Attn.Point
public import proofs.«01_k».proof.Proof.Attn.Ref

@[expose] public section

set_option maxRecDepth 16384

noncomputable section

namespace Cert.AttnIdeal.Final

open Idealize.ShloMosaic Idealize.ShloMosaic.TcCoe Idealize.SL.Sem Cert.AttnIdeal Cert.AttnIdeal.Gen
open Idealize.ShloMosaic.ValueIdx StickBreak Cert.AttnIdeal.Point Cert.AttnRefIdeal.Read

variable (m : (ℓ : Loc nD τ sig) → Buf (Elt Ideal) ℓ) (c : Dev nD)

/-- The layer's attention as an array: row `n` is query `n % 4096` of sequence `n / 4096`, column `k` feature `k % 64` of head `k / 64`. -/
def attention : Buf (Elt Ideal) ((c : Thread nD τ).loc main_v10) := fun i : S32768x512.Idx =>
  result (argQ m c) (argK m c) (argV m c) (argB m c) ((i 0).val / 4096) ((i 1).val / 64) ((i 0).val % 4096) ((i 1).val % 64)

theorem idx5 : ∀ t : Fin cfg0.N, win0_5.index t (0 : Fin 2) = t.val / 64 * 16 + t.val % 16 ∧ win0_5.index t (1 : Fin 2) = t.val / 16 % 4 :=
  (by decide +kernel : ∀ t : Fin grid0.N, _)

/-- What a point writes back is its block of the layer's attention. -/
theorem flushed (t : Fin cfg0.N) : (dats m 0 c).flushed 5 t = ((cfg0.win 5).blk t).view.read (Elt Ideal) (attention m c) := by
  rw [Value.flushed5]
  have ht : t.val < 512 := lt_of_lt_of_eq t.isLt N_0
  obtain ⟨e0, e1⟩ := idx5 t
  funext y
  have hy0 : (y 0).val < 256 := (y 0).isLt
  have hy1 : (y 1).val < 128 := (y 1).isLt
  have hb0 : (((cfg0.win 5).blk t).view.emb y 0).val = win0_5.index t (0 : Fin 2) * 256 + 1 * (y 0).val := rfl
  have hb1 : (((cfg0.win 5).blk t).view.emb y 1).val = win0_5.index t (1 : Fin 2) * 128 + 1 * (y 1).val := rfl
  have hx : (cfg0.win 5).xinj (grid0.coords t) y = (ix2 ⟨(y 0).val, hy0⟩ ⟨(y 1).val, hy1⟩ : S256x128.Idx) := by
    funext a
    match a with
    | ⟨0, _⟩ => rfl
    | ⟨1, _⟩ => rfl
  show (outsAt0 m c t.val t.isLt).1 ((cfg0.win 5).xinj (grid0.coords t) y) = attention m c (((cfg0.win 5).blk t).view.emb y)
  rw [hx]
  refine (leaves m c t ⟨(y 1).val / 64, by omega⟩ ⟨(y 1).val % 64, by omega⟩ ⟨(y 0).val, hy0⟩ ⟨(y 1).val, hy1⟩ ?_).trans ?_
  · show (y 1).val = 64 * ((y 1).val / 64) + (y 1).val % 64
    omega
  · show result (argQ m c) (argK m c) (argV m c) (argB m c) (t.val / 64) (2 * (t.val / 16 % 4) + (y 1).val / 64) (256 * (t.val % 16) + (y 0).val) ((y 1).val % 64)
      = result (argQ m c) (argK m c) (argV m c) (argB m c) ((((cfg0.win 5).blk t).view.emb y 0).val / 4096) ((((cfg0.win 5).blk t).view.emb y 1).val / 64)
        ((((cfg0.win 5).blk t).view.emb y 0).val % 4096) ((((cfg0.win 5).blk t).view.emb y 1).val % 64)
    rw [hb0, hb1, e0, e1]
    have k0 : ((t.val / 64 * 16 + t.val % 16) * 256 + 1 * (y 0).val) / 4096 = t.val / 64 := by omega
    have k1 : ((t.val / 64 * 16 + t.val % 16) * 256 + 1 * (y 0).val) % 4096 = 256 * (t.val % 16) + (y 0).val := by omega
    have k2 : (t.val / 16 % 4 * 128 + 1 * (y 1).val) / 64 = 2 * (t.val / 16 % 4) + (y 1).val / 64 := by omega
    have k3 : (t.val / 16 % 4 * 128 + 1 * (y 1).val) % 64 = (y 1).val % 64 := by omega
    rw [k0, k1, k2, k3]

/-- An index is in a point's block when each coordinate is in the block's range. -/
theorem mem_block (t : Fin cfg0.N) (i : S32768x512.Idx) :
    i ∈ ((cfg0.win 5).blk t).view.set ↔ ∀ a : Fin 2, win0_5.index t a * S256x128.size a ≤ (i a).val ∧ (i a).val < win0_5.index t a * S256x128.size a + S256x128.size a := by
  show i ∈ ((View.whole main_v10).slice (win0_5.rect t)).set ↔ _
  rw [View.set_slice_whole, Rect.mem_set_unit]
  exact Iff.rfl

/-- The array after the run is the layer's attention: the points' blocks tile it. -/
theorem final : (dats m 0 c).arrAt 5 cfg0.N = attention m c := by
  refine (dats m 0 c).arrAt_eq_of_cover 5 _ (fun t hf => flushed m c t) (fun i => ?_)
  have h0 : (i 0).val < 32768 := (i 0).isLt
  have h1 : (i 1).val < 512 := (i 1).isLt
  have hp : (i 0).val / 4096 * 64 + (i 1).val / 128 * 16 + (i 0).val % 4096 / 256 < cfg0.N := lt_of_lt_of_eq (by omega) N_0.symm
  obtain ⟨e0, e1⟩ := idx5 ⟨_, hp⟩
  refine ⟨⟨_, hp⟩, flush0_5 _, (mem_block ⟨_, hp⟩ i).mpr fun a => ?_⟩
  match a with
  | ⟨0, _⟩ =>
    show win0_5.index ⟨_, hp⟩ (0 : Fin 2) * 256 ≤ (i 0).val ∧ (i 0).val < win0_5.index ⟨_, hp⟩ (0 : Fin 2) * 256 + 256
    rw [e0]; dsimp only; omega
  | ⟨1, _⟩ =>
    show win0_5.index ⟨_, hp⟩ (1 : Fin 2) * 128 ≤ (i 1).val ∧ (i 1).val < win0_5.index ⟨_, hp⟩ (1 : Fin 2) * 128 + 128
    rw [e1]; dsimp only; omega

variable (m' : (ℓ : Loc AttnRefIdeal.nD AttnRefIdeal.τ AttnRefIdeal.sig) → Buf (Elt Ideal) ℓ)

/-- The reference's result from equal arguments. -/
theorem same
    (h0 : m' ((c.tc : Thread AttnRefIdeal.nD AttnRefIdeal.τ).loc AttnRefIdeal.main_arg0) = m ((c.tc : Thread nD τ).loc main_arg0))
    (h1 : m' ((c.tc : Thread AttnRefIdeal.nD AttnRefIdeal.τ).loc AttnRefIdeal.main_arg1) = m ((c.tc : Thread nD τ).loc main_arg1))
    (h2 : m' ((c.tc : Thread AttnRefIdeal.nD AttnRefIdeal.τ).loc AttnRefIdeal.main_arg2) = m ((c.tc : Thread nD τ).loc main_arg2))
    (h3 : m' ((c.tc : Thread AttnRefIdeal.nD AttnRefIdeal.τ).loc AttnRefIdeal.main_arg3) = m ((c.tc : Thread nD τ).loc main_arg3)) :
    val_main_v27 (F := Ideal) (m' ((c.tc : Thread AttnRefIdeal.nD AttnRefIdeal.τ).loc AttnRefIdeal.main_arg0)) (m' ((c.tc : Thread AttnRefIdeal.nD AttnRefIdeal.τ).loc AttnRefIdeal.main_arg1)) (m' ((c.tc : Thread AttnRefIdeal.nD AttnRefIdeal.τ).loc AttnRefIdeal.main_arg2)) (m' ((c.tc : Thread AttnRefIdeal.nD AttnRefIdeal.τ).loc AttnRefIdeal.main_arg3)) = attention m c := by
  rw [h0, h1, h2, h3]
  funext i
  obtain ⟨n, k, rfl⟩ : ∃ (n : Fin 32768) (k : Fin 512), i = ix2 n k := ⟨_, _, eq_ix2 i⟩
  exact AttnRefIdeal.Rows.ref_at (m ((c.tc : Thread nD τ).loc main_arg0)) (m ((c.tc : Thread nD τ).loc main_arg1)) (m ((c.tc : Thread nD τ).loc main_arg2)) (m ((c.tc : Thread nD τ).loc main_arg3)) n k

theorem algebraic : Cert.algebraic_AttnIdeal_AttnRefIdeal := by
  intro m g m' g' _ hag
  refine ⟨fun c => attention m c, (θ_run _ _ _).mono (fun r h c => ?_) (Value.run_blocks m g), ?_⟩
  · obtain ⟨h0, hr⟩ := h c
    exact ⟨h0.trans (final m c), hr⟩
  · refine (θ_run _ _ _).mono (fun r h c => ?_) (AttnRefIdeal.Value.run m' g')
    obtain ⟨a0, a1, a2, a3⟩ := hag c
    obtain ⟨h0, hr⟩ := h c
    exact ⟨(h0.trans (val_main_v27_eq m' c)).trans (same m c m' a0 a1 a2 a3), hr⟩

end Cert.AttnIdeal.Final
-- ==== Proof.Proj.Layer.lean ====
/- The layer's input projections of one token: its row over its root mean square, times the gain, meets the weights. -/
module

public import proofs.«01_k».proof.Proof.Tail.Rows

@[expose] public section

noncomputable section

namespace InProj

open Idealize.ShloMosaic TailRows
open scoped BigOperators

/-- Column `j` of the projection of a row `x` by weights of `n` columns. -/
def proj {n : ℕ} (x g : Fin 1024 → EReal) (w : Fin 1024 → Fin n → EReal) (j : Fin n) : EReal := ∑ k, rms c1024 x g k * w k j

/-- The arguments as functions of their coordinates: `x` by the token's row, the gain, and the weights of all four projections. -/
structure Args where
  x : ℕ → Fin 1024 → EReal
  g : Fin 1024 → EReal
  w : Fin 1024 → Fin 2048 → EReal

/-- Column `j` of the four projections of the token in row `n`, side by side. -/
def Args.at (A : Args) (n : ℕ) (j : Fin 2048) : EReal := proj (A.x n) A.g A.w j

end InProj
-- ==== Proof.Proj.Apply.lean ====
/- One grid point of the prompt's projection kernel over the extended reals: its four blocks, read at an index. -/
module

public import proofs.«01_k».proof.Proof.Gen.ProjIdeal.Frame
public import proofs.«01_k».proof.Proof.Proj.Layer
public import Idealize.ShloMosaic.Lib.ValueIdxCore
public import Idealize.ShloMosaic.Lib.MatmulPlain
public import Idealize.ShloMosaic.PureOps.Ideal.Laws
public import Idealize.ShloMosaic.Lib.Pipeline.ValueKit.Basic

@[expose] public section

set_option maxRecDepth 16384

noncomputable section

namespace Cert.ProjIdeal.Apply

open Idealize.ShloMosaic Idealize.SL.Sem Cert.ProjIdeal Cert.ProjIdeal.Gen
open Idealize.ShloMosaic.ValueIdx TailRows InProj
open scoped BigOperators

theorem norm_apply (x0 : Vec Ideal S1024x1024 .f32) (x1 : Vec Ideal S1x1024 .f32) (i j : Fin 1024) :
    k0_pay2 x0 x1 (ix2 i j) = rms c1024 (fun k => x0 (ix2 i k)) (fun k => x1 (ix2 0 k)) j := by
  unfold k0_pay2
  dsimp only
  rw [shapeCast_self, shapeCast_self]
  refine congrArg₂ (fun a b : EReal => x0 (ix2 i j) * a * b)
    ((broadcastTo_apply _ _ _ (ix2 i 0) (fun a => match a with | ⟨0, _⟩ => rfl | ⟨1, _⟩ => rfl)).trans ?_)
    (broadcastTo_apply _ _ _ (ix2 0 j) (fun a => match a with | ⟨0, _⟩ => rfl | ⟨1, _⟩ => rfl))
  refine congrArg (fun a : EReal => Ideal.rsqrt (Ideal.div a c1024 + cEps)) ?_
  refine (shapeCast_apply _ _ (ix2 i (0 : Fin 1)) (ix1 i) ?_).trans ?_
  · rw [Shape.rowMajor_val_one, Shape.rowMajor_val_two]; show i.val = i.val * 1 + 0; omega
  · refine (Ideal.multiReduction_add_single _ _ _ _ _ _).trans ?_
    refine Finset.sum_congr rfl fun k _ => ?_
    have e : reduces_S1024x1024_S1024.lift (ix1 i) k = ix2 i k := by
      funext a; match a with | ⟨0, _⟩ => rfl | ⟨1, _⟩ => rfl
    show (x0 _ : EReal) * x0 _ = _
    rw [e]
    rfl

/-- A product of the normalised block by weights held column by column. -/
theorem rows_apply (x0 : Vec Ideal S1024x1024 .f32) (x1 : Vec Ideal S1x1024 .f32) (w : Vec Ideal S1024x512 .bf16) (i : Fin 1024) (j : Fin 512) :
    matmul (F := Ideal) (φ₁ := .bf16) (φ₂ := .bf16) dot_S1024x1024_S1024x512_S1024x512_1_0_0_1_n_n none (k0_pay2 x0 x1) w (constant S1024x512 .f32 0x00000000#32) (ix2 i j)
      = proj (fun k => x0 (ix2 i k)) (fun k => x1 (ix2 0 k)) (fun k j => w (ix2 k j)) j := by
  refine (Ideal.matmul_plain_apply none (k0_pay2 x0 x1) w (constant S1024x512 .f32 0x00000000#32) i j).trans ?_
  rw [show (constant S1024x512 .f32 0x00000000#32 : FVec Ideal S1024x512 .f32) (ix2 i j) = (0 : EReal) from Ideal.ofBits_zero_f32, zero_add]
  exact Finset.sum_congr rfl fun k _ => congrArg (fun a : EReal => a * w (ix2 k j)) (norm_apply x0 x1 i k)

/-- A product of transposed weights by the normalised block's transpose. -/
theorem cols_apply (x0 : Vec Ideal S1024x1024 .f32) (x1 : Vec Ideal S1x1024 .f32) (w : Vec Ideal S512x1024 .bf16) (j : Fin 512) (i : Fin 1024) :
    matmul (F := Ideal) (φ₁ := .bf16) (φ₂ := .bf16) dot_S512x1024_S1024x1024_S512x1024_1_1_0_0_n_n none w (k0_pay2 x0 x1) (constant S512x1024 .f32 0x00000000#32) (ix2 j i)
      = proj (fun k => x0 (ix2 i k)) (fun k => x1 (ix2 0 k)) (fun k j => w (ix2 j k)) j := by
  refine (Ideal.matmul_transposedRhs_apply none w (k0_pay2 x0 x1) (constant S512x1024 .f32 0x00000000#32) j i).trans ?_
  rw [show (constant S512x1024 .f32 0x00000000#32 : FVec Ideal S512x1024 .f32) (ix2 j i) = (0 : EReal) from Ideal.ofBits_zero_f32, zero_add]
  refine Finset.sum_congr rfl fun k _ => ?_
  show (w (ix2 j k) : EReal) * k0_pay2 x0 x1 (ix2 i k) = _
  rw [norm_apply x0 x1 i k]
  exact mul_comm (G := EReal) _ _

variable (x0 : Vec Ideal S1024x1024 .f32) (x1 : Vec Ideal S1x1024 .f32) (x2 : Vec Ideal S1024x512 .bf16) (x3 x4 : Vec Ideal S512x1024 .bf16) (x5 : Vec Ideal S1024x512 .bf16)

theorem out6 (i : Fin 1024) (j : Fin 512) : out0_6 x0 x1 x2 x3 x4 x5 (ix2 i j) = proj (fun k => x0 (ix2 i k)) (fun k => x1 (ix2 0 k)) (fun k j => x2 (ix2 k j)) j := by
  unfold out0_6 k0_pay3
  rw [View.canon_cons_unit_lit _ _ _ (by decide), View.ld_unit_lit _ _ (by decide), View.ld_unit_lit _ _ (by decide), View.ld_unit_lit _ _ (by decide), shapeCast_self]
  exact rows_apply x0 x1 x2 i j

theorem out7 (j : Fin 512) (i : Fin 1024) : out0_7 x0 x1 x2 x3 x4 x5 (ix2 j i) = proj (fun k => x0 (ix2 i k)) (fun k => x1 (ix2 0 k)) (fun k j => x3 (ix2 j k)) j := by
  unfold out0_7 k0_pay4
  rw [View.canon_cons_unit_lit _ _ _ (by decide), View.ld_unit_lit _ _ (by decide), View.ld_unit_lit _ _ (by decide), View.ld_unit_lit _ _ (by decide), shapeCast_self]
  exact cols_apply x0 x1 x3 j i

theorem out8 (j : Fin 512) (i : Fin 1024) : out0_8 x0 x1 x2 x3 x4 x5 (ix2 j i) = proj (fun k => x0 (ix2 i k)) (fun k => x1 (ix2 0 k)) (fun k j => x4 (ix2 j k)) j := by
  unfold out0_8 k0_pay5
  rw [View.canon_cons_unit_lit _ _ _ (by decide), View.ld_unit_lit _ _ (by decide), View.ld_unit_lit _ _ (by decide), View.ld_unit_lit _ _ (by decide), shapeCast_self]
  exact cols_apply x0 x1 x4 j i

theorem out9 (i : Fin 1024) (j : Fin 512) : out0_9 x0 x1 x2 x3 x4 x5 (ix2 i j) = proj (fun k => x0 (ix2 i k)) (fun k => x1 (ix2 0 k)) (fun k j => x5 (ix2 k j)) j := by
  unfold out0_9 k0_pay1 k0_pay6
  rw [View.canon_cons_unit_lit _ _ _ (by decide), View.ld_unit_lit _ _ (by decide), View.ld_unit_lit _ _ (by decide), View.ld_unit_lit _ _ (by decide), shapeCast_self]
  exact rows_apply x0 x1 x5 i j

end Cert.ProjIdeal.Apply
-- ==== Proof.Proj.Entry.lean ====
/- The prompt's projection kernel's input blocks, read at an index, as elements of the program's arguments. -/
module

public import proofs.«01_k».proof.Proof.Gen.ProjIdeal.Frame
public import Idealize.ShloMosaic.PureOps.Ideal
public import Idealize.ShloMosaic.Lib.Claim
public import Idealize.ShloMosaic.Lib.ValueIdxCore
public import Idealize.ShloMosaic.Lib.Pipeline.ValueKit.Geometry

@[expose] public section

set_option maxRecDepth 16384

noncomputable section

namespace Cert.ProjIdeal.Entry

open Idealize.ShloMosaic Idealize.ShloMosaic.TcCoe Idealize.SL.Sem Cert.ProjIdeal Cert.ProjIdeal.Gen
open Idealize.ShloMosaic.ValueIdx

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

/-- The block of tokens moves with the point. -/
theorem iblk0 (t : Fin cfg0.N) (i : Fin 1024) (j : Fin 1024) (n : Fin 32768) (h : n.val = 1024 * t.val + i.val)
    (p : Fin 8) (q : Fin 4096) (h' : n.val = 4096 * p.val + q.val) :
    iblk m c 0 t (ix2 i j) = m ((c : Thread nD τ).loc main_arg0) (ix3 p q j) := by
  have e := idx0 t
  have e0 : (((cfg0.win 0).blk t).view.emb (ix2 i j)) = (ix2 n j : S32768x1024.Idx) := by
    refine Shape.idx_ext₂ ?_ ?_
    · blk_simp [e.1]
      show t.val * 1024 + i.val = n.val
      omega
    · blk_simp [e.2]
  unfold iblk
  rw [View.read_apply, cast_eq]
  entry_read
  refine (congrArg _ e0).trans (shapeCast_apply _ shapeCasts_S8x4096x1024_S32768x1024 (ix2 n j : S32768x1024.Idx) (ix3 p q j) ?_)
  rw [Shape.rowMajor_val_two, Shape.rowMajor_val_three]
  show (p.val * 4096 + q.val) * 1024 + j.val = n.val * 1024 + j.val
  omega

theorem iblk1 (t : Fin cfg0.N) (j : Fin 1024) : iblk m c 1 t (ix2 0 j) = m ((c : Thread nD τ).loc main_arg1) (ix2 0 j) := by
  have e := idx1 t
  have e0 : (((cfg0.win 1).blk t).view.emb (ix2 0 j)) = (ix2 0 j : S1x1024.Idx) := by
    refine Shape.idx_ext₂ ?_ ?_
    · blk_simp [e.1]
    · blk_simp [e.2]
  unfold iblk
  rw [View.read_apply, cast_eq]
  entry_read
  refine (congrArg _ e0).trans ((shapeCast_apply _ _ (ix2 0 j : S1x1024.Idx) (ix1 j) ?_).trans (shapeCast_apply _ _ (ix1 j) (ix2 0 j) ?_))
  all_goals
    rw [Shape.rowMajor_val_one, Shape.rowMajor_val_two]
  · show j.val = 0 * 1024 + j.val; omega
  · show 0 * 1024 + j.val = j.val; omega

/-- The weights as a matrix. -/
theorem weights (x : (⟨S1x1024x2048, .f32⟩ : BufTy).Contents (Elt Ideal)) (k : Fin 1024) (j : Fin 2048) :
    shapeCast S1024x2048 x shapeCasts_S1x1024x2048_S1024x2048 (ix2 k j : S1024x2048.Idx) = x (ix3 0 k j) := by
  refine shapeCast_apply x shapeCasts_S1x1024x2048_S1024x2048 (ix2 k j : S1024x2048.Idx) (ix3 0 k j) ?_
  rw [Shape.rowMajor_val_two, Shape.rowMajor_val_three]
  show (0 * 1024 + k.val) * 2048 + j.val = k.val * 2048 + j.val
  omega

/-- Columns 0 to 511 of the weights. -/
theorem iblk2 (t : Fin cfg0.N) (k : Fin 1024) (j : Fin 512) :
    iblk m c 2 t (ix2 k j) = m ((c : Thread nD τ).loc main_arg2) (ix3 0 k (⟨0 + j.val, by omega⟩ : Fin 2048)) := by
  have e := idx2 t
  have e0 : (((cfg0.win 2).blk t).view.emb (ix2 k j)) = (ix2 k j : S1024x512.Idx) := by
    refine Shape.idx_ext₂ ?_ ?_
    · blk_simp [e.1]
    · blk_simp [e.2]
  unfold iblk
  rw [View.read_apply, cast_eq]
  entry_read
  refine (congrArg _ e0).trans ((extractStridedSlice_apply ![0, 0] _ slices_S1024x2048_S1024x512_0_0 (ix2 k j : S1024x512.Idx) (ix2 k (⟨0 + j.val, by omega⟩ : Fin 2048)) (fun a => ?_)).trans (weights _ k _))
  match a with
  | ⟨0, _⟩ => show k.val = 0 + k.val; omega
  | ⟨1, _⟩ => show 0 + j.val = 0 + j.val; omega

/-- Columns 1536 to 2047 of the weights. -/
theorem iblk5 (t : Fin cfg0.N) (k : Fin 1024) (j : Fin 512) :
    iblk m c 5 t (ix2 k j) = m ((c : Thread nD τ).loc main_arg2) (ix3 0 k (⟨1536 + j.val, by omega⟩ : Fin 2048)) := by
  have e := idx5 t
  have e0 : (((cfg0.win 5).blk t).view.emb (ix2 k j)) = (ix2 k j : S1024x512.Idx) := by
    refine Shape.idx_ext₂ ?_ ?_
    · blk_simp [e.1]
    · blk_simp [e.2]
  unfold iblk
  rw [View.read_apply, cast_eq]
  entry_read
  refine (congrArg _ e0).trans ((extractStridedSlice_apply ![0, 1536] _ slices_S1024x2048_S1024x512_0_1536 (ix2 k j : S1024x512.Idx) (ix2 k (⟨1536 + j.val, by omega⟩ : Fin 2048)) (fun a => ?_)).trans (weights _ k _))
  match a with
  | ⟨0, _⟩ => show k.val = 0 + k.val; omega
  | ⟨1, _⟩ => show 1536 + j.val = 1536 + j.val; omega

/-- Columns 512 to 1023 of the weights, as rows. -/
theorem iblk3 (t : Fin cfg0.N) (j : Fin 512) (k : Fin 1024) :
    iblk m c 3 t (ix2 j k) = m ((c : Thread nD τ).loc main_arg2) (ix3 0 k (⟨512 + j.val, by omega⟩ : Fin 2048)) := by
  have e := idx3 t
  have e0 : (((cfg0.win 3).blk t).view.emb (ix2 j k)) = (ix2 j k : S512x1024.Idx) := by
    refine Shape.idx_ext₂ ?_ ?_
    · blk_simp [e.1]
    · blk_simp [e.2]
  unfold iblk
  rw [View.read_apply, cast_eq]
  entry_read
  refine (congrArg _ e0).trans ((transpose_apply [1, 0] _ transposes_S1024x512_S512x1024_1_0 (ix2 j k : S512x1024.Idx) (ix2 k j) (fun b => match b with | ⟨0, _⟩ => rfl | ⟨1, _⟩ => rfl)).trans
    ((extractStridedSlice_apply ![0, 512] _ slices_S1024x2048_S1024x512_0_512 (ix2 k j : S1024x512.Idx) (ix2 k (⟨512 + j.val, by omega⟩ : Fin 2048)) (fun a => ?_)).trans (weights _ k _)))
  match a with
  | ⟨0, _⟩ => show k.val = 0 + k.val; omega
  | ⟨1, _⟩ => show 512 + j.val = 512 + j.val; omega

/-- Columns 1024 to 1535 of the weights, as rows. -/
theorem iblk4 (t : Fin cfg0.N) (j : Fin 512) (k : Fin 1024) :
    iblk m c 4 t (ix2 j k) = m ((c : Thread nD τ).loc main_arg2) (ix3 0 k (⟨1024 + j.val, by omega⟩ : Fin 2048)) := by
  have e := idx4 t
  have e0 : (((cfg0.win 4).blk t).view.emb (ix2 j k)) = (ix2 j k : S512x1024.Idx) := by
    refine Shape.idx_ext₂ ?_ ?_
    · blk_simp [e.1]
    · blk_simp [e.2]
  unfold iblk
  rw [View.read_apply, cast_eq]
  entry_read
  refine (congrArg _ e0).trans ((transpose_apply [1, 0] _ transposes_S1024x512_S512x1024_1_0 (ix2 j k : S512x1024.Idx) (ix2 k j) (fun b => match b with | ⟨0, _⟩ => rfl | ⟨1, _⟩ => rfl)).trans
    ((extractStridedSlice_apply ![0, 1024] _ slices_S1024x2048_S1024x512_0_1024 (ix2 k j : S1024x512.Idx) (ix2 k (⟨1024 + j.val, by omega⟩ : Fin 2048)) (fun a => ?_)).trans (weights _ k _)))
  match a with
  | ⟨0, _⟩ => show k.val = 0 + k.val; omega
  | ⟨1, _⟩ => show 1024 + j.val = 1024 + j.val; omega

end Cert.ProjIdeal.Entry
-- ==== Proof.Proj.Ref.lean ====
/- The prompt's projections in the reference, read at an index. -/
module

public import proofs.«01_k».proof.Proof.Gen.ProjRefIdeal.Read
public import proofs.«01_k».proof.Proof.Proj.Layer
public import Idealize.ShloMosaic.Lib.Pipeline.Value
public import Idealize.ShloMosaic.PureOps.Ideal.Laws

@[expose] public section

set_option maxRecDepth 16384

noncomputable section

namespace Cert.ProjRefIdeal.Rows

open Idealize.ShloMosaic Cert.ProjRefIdeal Cert.ProjRefIdeal.Gen Cert.ProjRefIdeal.Read
open Idealize.ShloMosaic.ValueIdx TailRows InProj
open scoped BigOperators

variable (x0 : (⟨S8x4096x1024, .f32⟩ : BufTy).Contents (Elt Ideal)) (x1 : (⟨S1x1024, .f32⟩ : BufTy).Contents (Elt Ideal)) (x2 : (⟨S1x1024x2048, .f32⟩ : BufTy).Contents (Elt Ideal))

/-- The reference's arguments. -/
def argsOf : Args where
  x n k := x0 (ix3 (⟨n / 4096 % 8, Nat.mod_lt _ (by decide)⟩ : Fin 8) (⟨n % 4096, Nat.mod_lt _ (by decide)⟩ : Fin 4096) k)
  g k := x1 (ix2 0 k)
  w k j := x2 (ix3 0 k j)

theorem norm (p : Fin 8) (q : Fin 4096) (k : Fin 1024) : val_main_v13 (F := Ideal) x0 x1 (ix3 p q k)
    = rms c1024 (fun k => x0 (ix3 p q k)) (fun k => x1 (ix2 0 k)) k := by
  have e1 : ∀ k' : Fin 1024, idx_main_v2 (idx_main_v3 (idx_main_v9 (ix3 p q k))) k' = ix3 p q k' := fun k' => by
    funext a; match a with | ⟨0, _⟩ => rfl | ⟨1, _⟩ => rfl | ⟨2, _⟩ => rfl
  have e2 : idx_main_v0 (idx_main_v11 (idx_main_v12 (ix3 p q k))) = ix2 0 k := by
    funext a; match a with | ⟨0, _⟩ => rfl | ⟨1, _⟩ => exact Fin.ext (Nat.mod_eq_of_lt k.isLt)
  rw [val_main_v13_apply, val_main_v10_apply, val_main_v9_apply, val_main_v8_apply, val_main_v7_apply, val_main_v5_apply, val_main_v3_apply, val_main_v2_apply,
    val_main_v4_apply, val_main_v6_apply, val_main_v12_apply, val_main_v11_apply, val_main_v0_apply, e2]
  simp only [e1, val_main_v1_apply]
  rw [show (val_main_cst (F := Ideal)) (Shape.Idx.first h_S_) = (0 : EReal) from Ideal.ofBits_zero_f32, zero_add]
  rfl

theorem weight (k : Fin 1024) (j : Fin 2048) : val_main_v14 (F := Ideal) x2 (ix2 k j) = x2 (ix3 0 k j) := by
  rw [val_main_v14_apply]
  refine congrArg x2 (funext fun a => ?_)
  match a with
  | ⟨0, _⟩ => rfl
  | ⟨1, _⟩ => exact Fin.ext (by show (k.val * 2048 + j.val) / 2048 % 1024 = k.val; omega)
  | ⟨2, _⟩ => exact Fin.ext (by show (k.val * 2048 + j.val) % 2048 = j.val; omega)

/-- The four projections side by side. -/
theorem all_at (p : Fin 8) (q : Fin 4096) (j : Fin 2048) : val_main_v15 (F := Ideal) x0 x1 x2 (ix3 p q j) = (argsOf x0 x1 x2).at (4096 * p.val + q.val) j := by
  have h0 : (⟨(4096 * p.val + q.val) / 4096 % 8, Nat.mod_lt _ (by decide)⟩ : Fin 8) = p := Fin.ext (by show (4096 * p.val + q.val) / 4096 % 8 = p.val; omega)
  have h1 : (⟨(4096 * p.val + q.val) % 4096, Nat.mod_lt _ (by decide)⟩ : Fin 4096) = q := Fin.ext (by show (4096 * p.val + q.val) % 4096 = q.val; omega)
  rw [val_main_v15_apply]
  unfold Args.at proj
  refine Finset.sum_congr rfl fun k _ => ?_
  have el : lidx_main_v15 (ix3 p q j) k = ix3 p q k := by
    funext a; match a with | ⟨0, _⟩ => rfl | ⟨1, _⟩ => rfl | ⟨2, _⟩ => rfl
  have er : ridx_main_v15 (ix3 p q j) k = ix2 k j := by
    funext a; match a with | ⟨0, _⟩ => rfl | ⟨1, _⟩ => rfl
  rw [el, er, norm, weight]
  show _ = rms c1024 (fun k => x0 (ix3 (⟨(4096 * p.val + q.val) / 4096 % 8, Nat.mod_lt _ (by decide)⟩ : Fin 8) (⟨(4096 * p.val + q.val) % 4096, Nat.mod_lt _ (by decide)⟩ : Fin 4096) k)) (fun k => x1 (ix2 0 k)) k * x2 (ix3 0 k j)
  rw [h0, h1]

theorem query_at (n : Fin 32768) (j : Fin 512) : val_main_v22 (F := Ideal) x0 x1 x2 (ix2 n j) = (argsOf x0 x1 x2).at n.val ⟨0 + j.val, by omega⟩ := by
  have e : idx_main_v16 (idx_main_v22 (ix2 n j)) = ix3 (⟨n.val / 4096, by omega⟩ : Fin 8) (⟨n.val % 4096, Nat.mod_lt _ (by decide)⟩ : Fin 4096) (⟨0 + j.val, by omega⟩ : Fin 2048) := by
    funext a
    match a with
    | ⟨0, _⟩ => exact Fin.ext (by change (n.val * 512 + j.val) / 2097152 = n.val / 4096; omega)
    | ⟨1, _⟩ => exact Fin.ext (by change (n.val * 512 + j.val) / 512 % 4096 = n.val % 4096; omega)
    | ⟨2, _⟩ => exact Fin.ext (by change (n.val * 512 + j.val) % 512 = 0 + j.val; omega)
  rw [val_main_v22_apply, val_main_v16_apply, e, all_at]
  exact congrArg (fun n => (argsOf x0 x1 x2).at n _) (by show 4096 * (n.val / 4096) + n.val % 4096 = n.val; omega)

theorem key_at (n : Fin 4096) (i : Fin 4096) : val_main_v23 (F := Ideal) x0 x1 x2 (ix2 n i) = (argsOf x0 x1 x2).at (4096 * (n.val / 512) + i.val) ⟨512 + n.val % 512, by omega⟩ := by
  have e : idx_main_v17 (idx_main_v20 (idx_main_v23 (ix2 n i))) = ix3 (⟨n.val / 512, by omega⟩ : Fin 8) i (⟨512 + n.val % 512, by omega⟩ : Fin 2048) := by
    funext a
    match a with
    | ⟨0, _⟩ => exact Fin.ext (by change (n.val * 4096 + i.val) / 2097152 = n.val / 512; omega)
    | ⟨1, _⟩ => exact Fin.ext (by change (n.val * 4096 + i.val) % 4096 = i.val; omega)
    | ⟨2, _⟩ => exact Fin.ext (by change 512 + (n.val * 4096 + i.val) / 4096 % 512 = 512 + n.val % 512; omega)
  rw [val_main_v23_apply, val_main_v20_apply, val_main_v17_apply, e, all_at]

theorem value_at (n : Fin 4096) (i : Fin 4096) : val_main_v24 (F := Ideal) x0 x1 x2 (ix2 n i) = (argsOf x0 x1 x2).at (4096 * (n.val / 512) + i.val) ⟨1024 + n.val % 512, by omega⟩ := by
  have e : idx_main_v18 (idx_main_v21 (idx_main_v24 (ix2 n i))) = ix3 (⟨n.val / 512, by omega⟩ : Fin 8) i (⟨1024 + n.val % 512, by omega⟩ : Fin 2048) := by
    funext a
    match a with
    | ⟨0, _⟩ => exact Fin.ext (by change (n.val * 4096 + i.val) / 2097152 = n.val / 512; omega)
    | ⟨1, _⟩ => exact Fin.ext (by change (n.val * 4096 + i.val) % 4096 = i.val; omega)
    | ⟨2, _⟩ => exact Fin.ext (by change 1024 + (n.val * 4096 + i.val) / 4096 % 512 = 1024 + n.val % 512; omega)
  rw [val_main_v24_apply, val_main_v21_apply, val_main_v18_apply, e, all_at]

theorem input_at (n : Fin 32768) (j : Fin 512) : val_main_v25 (F := Ideal) x0 x1 x2 (ix2 n j) = (argsOf x0 x1 x2).at n.val ⟨1536 + j.val, by omega⟩ := by
  have e : idx_main_v19 (idx_main_v25 (ix2 n j)) = ix3 (⟨n.val / 4096, by omega⟩ : Fin 8) (⟨n.val % 4096, Nat.mod_lt _ (by decide)⟩ : Fin 4096) (⟨1536 + j.val, by omega⟩ : Fin 2048) := by
    funext a
    match a with
    | ⟨0, _⟩ => exact Fin.ext (by change (n.val * 512 + j.val) / 2097152 = n.val / 4096; omega)
    | ⟨1, _⟩ => exact Fin.ext (by change (n.val * 512 + j.val) / 512 % 4096 = n.val % 4096; omega)
    | ⟨2, _⟩ => exact Fin.ext (by change 1536 + (n.val * 512 + j.val) % 512 = 1536 + j.val; omega)
  rw [val_main_v25_apply, val_main_v19_apply, e, all_at]
  exact congrArg (fun n => (argsOf x0 x1 x2).at n _) (by show 4096 * (n.val / 4096) + n.val % 4096 = n.val; omega)

end Cert.ProjRefIdeal.Rows
-- ==== Proof.Proj.Final.lean ====
/- The four result arrays of the prompt's projections are the reference's: both read, at every index, as the layer's projections. -/
module

public import proofs.«01_k».proof.Defs
public import proofs.«01_k».proof.Proof.Gen.ProjIdeal.Value
public import proofs.«01_k».proof.Proof.Gen.ProjRefIdeal.Run
public import proofs.«01_k».proof.Proof.Proj.Apply
public import proofs.«01_k».proof.Proof.Proj.Entry
public import proofs.«01_k».proof.Proof.Proj.Ref

@[expose] public section

set_option maxRecDepth 16384

noncomputable section

namespace Cert.ProjIdeal.Final

open Idealize.ShloMosaic Idealize.ShloMosaic.TcCoe Idealize.SL.Sem Cert.ProjIdeal Cert.ProjIdeal.Gen
open Idealize.ShloMosaic.ValueIdx TailRows InProj Cert.ProjRefIdeal.Read
open scoped BigOperators

variable (m : (ℓ : Loc nD τ sig) → Buf (Elt Ideal) ℓ) (c : Dev nD)

/-- The program's arguments. -/
def args : Args := ProjRefIdeal.Rows.argsOf (m ((c : Thread nD τ).loc main_arg0)) (m ((c : Thread nD τ).loc main_arg1)) (m ((c : Thread nD τ).loc main_arg2))

theorem row_eq (t : Fin cfg0.N) (i : Fin 1024) : (fun k => iblk m c 0 t (ix2 i k)) = (args m c).x (1024 * t.val + i.val) := by
  have ht : t.val < 32 := lt_of_lt_of_eq t.isLt N_0
  funext k
  refine (Entry.iblk0 m c t i k ⟨1024 * t.val + i.val, by omega⟩ rfl ⟨(1024 * t.val + i.val) / 4096 % 8, Nat.mod_lt _ (by decide)⟩ ⟨(1024 * t.val + i.val) % 4096, Nat.mod_lt _ (by decide)⟩ ?_).trans rfl
  show 1024 * t.val + i.val = 4096 * ((1024 * t.val + i.val) / 4096 % 8) + (1024 * t.val + i.val) % 4096
  omega

theorem gain_eq (t : Fin cfg0.N) : (fun k => iblk m c 1 t (ix2 0 k)) = (args m c).g := funext fun k => Entry.iblk1 m c t k

theorem point6 (t : Fin cfg0.N) (i : Fin 1024) (j : Fin 512) : out0_6 (F := Ideal) (iblk m c 0 t) (iblk m c 1 t) (iblk m c 2 t) (iblk m c 3 t) (iblk m c 4 t) (iblk m c 5 t) (ix2 i j) = (args m c).at (1024 * t.val + i.val) ⟨0 + j.val, by omega⟩ := by
  refine (Apply.out6 _ _ _ _ _ _ i j).trans ?_
  rw [row_eq, gain_eq]
  unfold Args.at proj
  exact Finset.sum_congr rfl fun k _ => congrArg (fun a : EReal => rms c1024 _ _ k * a) (Entry.iblk2 m c t k j)

theorem point7 (t : Fin cfg0.N) (j : Fin 512) (i : Fin 1024) : out0_7 (F := Ideal) (iblk m c 0 t) (iblk m c 1 t) (iblk m c 2 t) (iblk m c 3 t) (iblk m c 4 t) (iblk m c 5 t) (ix2 j i) = (args m c).at (1024 * t.val + i.val) ⟨512 + j.val, by omega⟩ := by
  refine (Apply.out7 _ _ _ _ _ _ j i).trans ?_
  rw [row_eq, gain_eq]
  unfold Args.at proj
  exact Finset.sum_congr rfl fun k _ => congrArg (fun a : EReal => rms c1024 _ _ k * a) (Entry.iblk3 m c t j k)

theorem point8 (t : Fin cfg0.N) (j : Fin 512) (i : Fin 1024) : out0_8 (F := Ideal) (iblk m c 0 t) (iblk m c 1 t) (iblk m c 2 t) (iblk m c 3 t) (iblk m c 4 t) (iblk m c 5 t) (ix2 j i) = (args m c).at (1024 * t.val + i.val) ⟨1024 + j.val, by omega⟩ := by
  refine (Apply.out8 _ _ _ _ _ _ j i).trans ?_
  rw [row_eq, gain_eq]
  unfold Args.at proj
  exact Finset.sum_congr rfl fun k _ => congrArg (fun a : EReal => rms c1024 _ _ k * a) (Entry.iblk4 m c t j k)

theorem point9 (t : Fin cfg0.N) (i : Fin 1024) (j : Fin 512) : out0_9 (F := Ideal) (iblk m c 0 t) (iblk m c 1 t) (iblk m c 2 t) (iblk m c 3 t) (iblk m c 4 t) (iblk m c 5 t) (ix2 i j) = (args m c).at (1024 * t.val + i.val) ⟨1536 + j.val, by omega⟩ := by
  refine (Apply.out9 _ _ _ _ _ _ i j).trans ?_
  rw [row_eq, gain_eq]
  unfold Args.at proj
  exact Finset.sum_congr rfl fun k _ => congrArg (fun a : EReal => rms c1024 _ _ k * a) (Entry.iblk5 m c t k j)

/-- The layer's query as an array: row `n` is token `n`, column `j` column `0 + j` of the projections. -/
def query : Buf (Elt Ideal) ((c : Thread nD τ).loc main_v11_0) := fun i : S32768x512.Idx =>
  (args m c).at (i 0).val ⟨0 + (i 1).val, by have h : (i 1).val < 512 := (i 1).isLt; omega⟩

theorem idx6 : ∀ t : Fin cfg0.N, win0_6.index t (0 : Fin 2) = t.val ∧ win0_6.index t (1 : Fin 2) = 0 :=
  (by decide +kernel : ∀ t : Fin grid0.N, _)

/-- What a point writes back is its block of the query. -/
theorem flushed6 (t : Fin cfg0.N) : (dats m 0 c).flushed 6 t = ((cfg0.win 6).blk t).view.read (Elt Ideal) (query m c) := by
  rw [Value.flushed6]
  have ht : t.val < 32 := lt_of_lt_of_eq t.isLt N_0
  obtain ⟨e0, e1⟩ := idx6 t
  funext y
  have hy0 : (y 0).val < 1024 := (y 0).isLt
  have hy1 : (y 1).val < 512 := (y 1).isLt
  have hb0 : (((cfg0.win 6).blk t).view.emb y 0).val = win0_6.index t (0 : Fin 2) * 1024 + 1 * (y 0).val := rfl
  have hb1 : (((cfg0.win 6).blk t).view.emb y 1).val = win0_6.index t (1 : Fin 2) * 512 + 1 * (y 1).val := rfl
  have hx : (cfg0.win 6).xinj (grid0.coords t) y = (ix2 ⟨(y 0).val, hy0⟩ ⟨(y 1).val, hy1⟩ : S1024x512.Idx) := by
    funext a
    match a with
    | ⟨0, _⟩ => rfl
    | ⟨1, _⟩ => rfl
  show out0_6 (iblk m c 0 t) (iblk m c 1 t) (iblk m c 2 t) (iblk m c 3 t) (iblk m c 4 t) (iblk m c 5 t) ((cfg0.win 6).xinj (grid0.coords t) y) = query m c (((cfg0.win 6).blk t).view.emb y)
  rw [hx]
  refine (point6 m c t ⟨(y 0).val, hy0⟩ ⟨(y 1).val, hy1⟩).trans ?_
  unfold query
  have k0 : 1024 * t.val + (y 0).val = (((cfg0.win 6).blk t).view.emb y 0).val := by rw [hb0, e0]; omega
  have k1 : 0 + (y 1).val = 0 + (((cfg0.win 6).blk t).view.emb y 1).val := by rw [hb1, e1]; omega
  exact congrArg₂ (args m c).at k0 (Fin.ext k1)

/-- An index is in a point's block when each coordinate is in the block's range. -/
theorem mem_block6 (t : Fin cfg0.N) (i : S32768x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v11_0).slice (win0_6.rect t)).set ↔ _
  rw [View.set_slice_whole, Rect.mem_set_unit]
  exact Iff.rfl

/-- The array after the run is the layer's query: the points' blocks tile it. -/
theorem final6 : (dats m 0 c).arrAt 6 cfg0.N = query m c := by
  refine (dats m 0 c).arrAt_eq_of_cover 6 _ (fun t hf => flushed6 m c t) (fun i => ?_)
  have h0 : (i 0).val < 32768 := (i 0).isLt
  have h1 : (i 1).val < 512 := (i 1).isLt
  have hp : (i 0).val / 1024 < cfg0.N := lt_of_lt_of_eq (by omega) N_0.symm
  obtain ⟨e0, e1⟩ := idx6 ⟨_, hp⟩
  refine ⟨⟨_, hp⟩, flush0_6 _, (mem_block6 ⟨_, hp⟩ i).mpr fun a => ?_⟩
  match a with
  | ⟨0, _⟩ =>
    show win0_6.index ⟨_, hp⟩ (0 : Fin 2) * 1024 ≤ (i 0).val ∧ (i 0).val < win0_6.index ⟨_, hp⟩ (0 : Fin 2) * 1024 + 1024
    rw [e0]; dsimp only; omega
  | ⟨1, _⟩ =>
    show win0_6.index ⟨_, hp⟩ (1 : Fin 2) * 512 ≤ (i 1).val ∧ (i 1).val < win0_6.index ⟨_, hp⟩ (1 : Fin 2) * 512 + 512
    rw [e1]; dsimp only; omega

/-- The layer's key as an array: row `n` is column `512 + n % 512` of the projections, column `i` token `i` of sequence `n / 512`. -/
def key : Buf (Elt Ideal) ((c : Thread nD τ).loc main_v11_1) := fun i : S4096x4096.Idx =>
  (args m c).at (4096 * ((i 0).val / 512) + (i 1).val) ⟨512 + (i 0).val % 512, by omega⟩

theorem idx7 : ∀ t : Fin cfg0.N, win0_7.index t (0 : Fin 2) = t.val / 4 ∧ win0_7.index t (1 : Fin 2) = t.val % 4 :=
  (by decide +kernel : ∀ t : Fin grid0.N, _)

/-- What a point writes back is its block of the key. -/
theorem flushed7 (t : Fin cfg0.N) : (dats m 0 c).flushed 7 t = ((cfg0.win 7).blk t).view.read (Elt Ideal) (key m c) := by
  rw [Value.flushed7]
  have ht : t.val < 32 := lt_of_lt_of_eq t.isLt N_0
  obtain ⟨e0, e1⟩ := idx7 t
  funext y
  have hy0 : (y 0).val < 512 := (y 0).isLt
  have hy1 : (y 1).val < 1024 := (y 1).isLt
  have hb0 : (((cfg0.win 7).blk t).view.emb y 0).val = win0_7.index t (0 : Fin 2) * 512 + 1 * (y 0).val := rfl
  have hb1 : (((cfg0.win 7).blk t).view.emb y 1).val = win0_7.index t (1 : Fin 2) * 1024 + 1 * (y 1).val := rfl
  have hx : (cfg0.win 7).xinj (grid0.coords t) y = (ix2 ⟨(y 0).val, hy0⟩ ⟨(y 1).val, hy1⟩ : S512x1024.Idx) := by
    funext a
    match a with
    | ⟨0, _⟩ => rfl
    | ⟨1, _⟩ => rfl
  show out0_7 (iblk m c 0 t) (iblk m c 1 t) (iblk m c 2 t) (iblk m c 3 t) (iblk m c 4 t) (iblk m c 5 t) ((cfg0.win 7).xinj (grid0.coords t) y) = key m c (((cfg0.win 7).blk t).view.emb y)
  rw [hx]
  refine (point7 m c t ⟨(y 0).val, hy0⟩ ⟨(y 1).val, hy1⟩).trans ?_
  unfold key
  have k0 : 1024 * t.val + (y 1).val = 4096 * ((((cfg0.win 7).blk t).view.emb y 0).val / 512) + (((cfg0.win 7).blk t).view.emb y 1).val := by rw [hb0, hb1, e0, e1]; omega
  have k1 : 512 + (y 0).val = 512 + (((cfg0.win 7).blk t).view.emb y 0).val % 512 := by rw [hb0, e0]; omega
  exact congrArg₂ (args m c).at k0 (Fin.ext k1)

/-- An index is in a point's block when each coordinate is in the block's range. -/
theorem mem_block7 (t : Fin cfg0.N) (i : S4096x4096.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v11_1).slice (win0_7.rect t)).set ↔ _
  rw [View.set_slice_whole, Rect.mem_set_unit]
  exact Iff.rfl

/-- The array after the run is the layer's key: the points' blocks tile it. -/
theorem final7 : (dats m 0 c).arrAt 7 cfg0.N = key m c := by
  refine (dats m 0 c).arrAt_eq_of_cover 7 _ (fun t hf => flushed7 m c t) (fun i => ?_)
  have h0 : (i 0).val < 4096 := (i 0).isLt
  have h1 : (i 1).val < 4096 := (i 1).isLt
  have hp : (i 0).val / 512 * 4 + (i 1).val / 1024 < cfg0.N := lt_of_lt_of_eq (by omega) N_0.symm
  obtain ⟨e0, e1⟩ := idx7 ⟨_, hp⟩
  refine ⟨⟨_, hp⟩, flush0_7 _, (mem_block7 ⟨_, hp⟩ i).mpr fun a => ?_⟩
  match a with
  | ⟨0, _⟩ =>
    show win0_7.index ⟨_, hp⟩ (0 : Fin 2) * 512 ≤ (i 0).val ∧ (i 0).val < win0_7.index ⟨_, hp⟩ (0 : Fin 2) * 512 + 512
    rw [e0]; dsimp only; omega
  | ⟨1, _⟩ =>
    show win0_7.index ⟨_, hp⟩ (1 : Fin 2) * 1024 ≤ (i 1).val ∧ (i 1).val < win0_7.index ⟨_, hp⟩ (1 : Fin 2) * 1024 + 1024
    rw [e1]; dsimp only; omega

/-- The layer's value as an array: row `n` is column `1024 + n % 512` of the projections, column `i` token `i` of sequence `n / 512`. -/
def value : Buf (Elt Ideal) ((c : Thread nD τ).loc main_v11_2) := fun i : S4096x4096.Idx =>
  (args m c).at (4096 * ((i 0).val / 512) + (i 1).val) ⟨1024 + (i 0).val % 512, by omega⟩

theorem idx8 : ∀ t : Fin cfg0.N, win0_8.index t (0 : Fin 2) = t.val / 4 ∧ win0_8.index t (1 : Fin 2) = t.val % 4 :=
  (by decide +kernel : ∀ t : Fin grid0.N, _)

/-- What a point writes back is its block of the value. -/
theorem flushed8 (t : Fin cfg0.N) : (dats m 0 c).flushed 8 t = ((cfg0.win 8).blk t).view.read (Elt Ideal) (value m c) := by
  rw [Value.flushed8]
  have ht : t.val < 32 := lt_of_lt_of_eq t.isLt N_0
  obtain ⟨e0, e1⟩ := idx8 t
  funext y
  have hy0 : (y 0).val < 512 := (y 0).isLt
  have hy1 : (y 1).val < 1024 := (y 1).isLt
  have hb0 : (((cfg0.win 8).blk t).view.emb y 0).val = win0_8.index t (0 : Fin 2) * 512 + 1 * (y 0).val := rfl
  have hb1 : (((cfg0.win 8).blk t).view.emb y 1).val = win0_8.index t (1 : Fin 2) * 1024 + 1 * (y 1).val := rfl
  have hx : (cfg0.win 8).xinj (grid0.coords t) y = (ix2 ⟨(y 0).val, hy0⟩ ⟨(y 1).val, hy1⟩ : S512x1024.Idx) := by
    funext a
    match a with
    | ⟨0, _⟩ => rfl
    | ⟨1, _⟩ => rfl
  show out0_8 (iblk m c 0 t) (iblk m c 1 t) (iblk m c 2 t) (iblk m c 3 t) (iblk m c 4 t) (iblk m c 5 t) ((cfg0.win 8).xinj (grid0.coords t) y) = value m c (((cfg0.win 8).blk t).view.emb y)
  rw [hx]
  refine (point8 m c t ⟨(y 0).val, hy0⟩ ⟨(y 1).val, hy1⟩).trans ?_
  unfold value
  have k0 : 1024 * t.val + (y 1).val = 4096 * ((((cfg0.win 8).blk t).view.emb y 0).val / 512) + (((cfg0.win 8).blk t).view.emb y 1).val := by rw [hb0, hb1, e0, e1]; omega
  have k1 : 1024 + (y 0).val = 1024 + (((cfg0.win 8).blk t).view.emb y 0).val % 512 := by rw [hb0, e0]; omega
  exact congrArg₂ (args m c).at k0 (Fin.ext k1)

/-- An index is in a point's block when each coordinate is in the block's range. -/
theorem mem_block8 (t : Fin cfg0.N) (i : S4096x4096.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v11_2).slice (win0_8.rect t)).set ↔ _
  rw [View.set_slice_whole, Rect.mem_set_unit]
  exact Iff.rfl

/-- The array after the run is the layer's value: the points' blocks tile it. -/
theorem final8 : (dats m 0 c).arrAt 8 cfg0.N = value m c := by
  refine (dats m 0 c).arrAt_eq_of_cover 8 _ (fun t hf => flushed8 m c t) (fun i => ?_)
  have h0 : (i 0).val < 4096 := (i 0).isLt
  have h1 : (i 1).val < 4096 := (i 1).isLt
  have hp : (i 0).val / 512 * 4 + (i 1).val / 1024 < cfg0.N := lt_of_lt_of_eq (by omega) N_0.symm
  obtain ⟨e0, e1⟩ := idx8 ⟨_, hp⟩
  refine ⟨⟨_, hp⟩, flush0_8 _, (mem_block8 ⟨_, hp⟩ i).mpr fun a => ?_⟩
  match a with
  | ⟨0, _⟩ =>
    show win0_8.index ⟨_, hp⟩ (0 : Fin 2) * 512 ≤ (i 0).val ∧ (i 0).val < win0_8.index ⟨_, hp⟩ (0 : Fin 2) * 512 + 512
    rw [e0]; dsimp only; omega
  | ⟨1, _⟩ =>
    show win0_8.index ⟨_, hp⟩ (1 : Fin 2) * 1024 ≤ (i 1).val ∧ (i 1).val < win0_8.index ⟨_, hp⟩ (1 : Fin 2) * 1024 + 1024
    rw [e1]; dsimp only; omega

/-- The layer's input as an array: row `n` is token `n`, column `j` column `1536 + j` of the projections. -/
def input : Buf (Elt Ideal) ((c : Thread nD τ).loc main_v11_3) := fun i : S32768x512.Idx =>
  (args m c).at (i 0).val ⟨1536 + (i 1).val, by have h : (i 1).val < 512 := (i 1).isLt; omega⟩

theorem idx9 : ∀ t : Fin cfg0.N, win0_9.index t (0 : Fin 2) = t.val ∧ win0_9.index t (1 : Fin 2) = 0 :=
  (by decide +kernel : ∀ t : Fin grid0.N, _)

/-- What a point writes back is its block of the input. -/
theorem flushed9 (t : Fin cfg0.N) : (dats m 0 c).flushed 9 t = ((cfg0.win 9).blk t).view.read (Elt Ideal) (input m c) := by
  rw [Value.flushed9]
  have ht : t.val < 32 := lt_of_lt_of_eq t.isLt N_0
  obtain ⟨e0, e1⟩ := idx9 t
  funext y
  have hy0 : (y 0).val < 1024 := (y 0).isLt
  have hy1 : (y 1).val < 512 := (y 1).isLt
  have hb0 : (((cfg0.win 9).blk t).view.emb y 0).val = win0_9.index t (0 : Fin 2) * 1024 + 1 * (y 0).val := rfl
  have hb1 : (((cfg0.win 9).blk t).view.emb y 1).val = win0_9.index t (1 : Fin 2) * 512 + 1 * (y 1).val := rfl
  have hx : (cfg0.win 9).xinj (grid0.coords t) y = (ix2 ⟨(y 0).val, hy0⟩ ⟨(y 1).val, hy1⟩ : S1024x512.Idx) := by
    funext a
    match a with
    | ⟨0, _⟩ => rfl
    | ⟨1, _⟩ => rfl
  show out0_9 (iblk m c 0 t) (iblk m c 1 t) (iblk m c 2 t) (iblk m c 3 t) (iblk m c 4 t) (iblk m c 5 t) ((cfg0.win 9).xinj (grid0.coords t) y) = input m c (((cfg0.win 9).blk t).view.emb y)
  rw [hx]
  refine (point9 m c t ⟨(y 0).val, hy0⟩ ⟨(y 1).val, hy1⟩).trans ?_
  unfold input
  have k0 : 1024 * t.val + (y 0).val = (((cfg0.win 9).blk t).view.emb y 0).val := by rw [hb0, e0]; omega
  have k1 : 1536 + (y 1).val = 1536 + (((cfg0.win 9).blk t).view.emb y 1).val := by rw [hb1, e1]; omega
  exact congrArg₂ (args m c).at k0 (Fin.ext k1)

/-- An index is in a point's block when each coordinate is in the block's range. -/
theorem mem_block9 (t : Fin cfg0.N) (i : S32768x512.Idx) :
    i ∈ ((cfg0.win 9).blk t).view.set ↔ ∀ a : Fin 2, win0_9.index t a * S1024x512.size a ≤ (i a).val ∧ (i a).val < win0_9.index t a * S1024x512.size a + S1024x512.size a := by
  show i ∈ ((View.whole main_v11_3).slice (win0_9.rect t)).set ↔ _
  rw [View.set_slice_whole, Rect.mem_set_unit]
  exact Iff.rfl

/-- The array after the run is the layer's input: the points' blocks tile it. -/
theorem final9 : (dats m 0 c).arrAt 9 cfg0.N = input m c := by
  refine (dats m 0 c).arrAt_eq_of_cover 9 _ (fun t hf => flushed9 m c t) (fun i => ?_)
  have h0 : (i 0).val < 32768 := (i 0).isLt
  have h1 : (i 1).val < 512 := (i 1).isLt
  have hp : (i 0).val / 1024 < cfg0.N := lt_of_lt_of_eq (by omega) N_0.symm
  obtain ⟨e0, e1⟩ := idx9 ⟨_, hp⟩
  refine ⟨⟨_, hp⟩, flush0_9 _, (mem_block9 ⟨_, hp⟩ i).mpr fun a => ?_⟩
  match a with
  | ⟨0, _⟩ =>
    show win0_9.index ⟨_, hp⟩ (0 : Fin 2) * 1024 ≤ (i 0).val ∧ (i 0).val < win0_9.index ⟨_, hp⟩ (0 : Fin 2) * 1024 + 1024
    rw [e0]; dsimp only; omega
  | ⟨1, _⟩ =>
    show win0_9.index ⟨_, hp⟩ (1 : Fin 2) * 512 ≤ (i 1).val ∧ (i 1).val < win0_9.index ⟨_, hp⟩ (1 : Fin 2) * 512 + 512
    rw [e1]; dsimp only; omega

variable {x0 : (⟨ProjRefIdeal.S8x4096x1024, .f32⟩ : BufTy).Contents (Elt Ideal)} {x1 : (⟨ProjRefIdeal.S1x1024, .f32⟩ : BufTy).Contents (Elt Ideal)} {x2 : (⟨ProjRefIdeal.S1x1024x2048, .f32⟩ : BufTy).Contents (Elt Ideal)}

/-- The reference's four results from equal arguments. -/
theorem same (h0 : x0 = m ((c.tc : Thread nD τ).loc main_arg0)) (h1 : x1 = m ((c.tc : Thread nD τ).loc main_arg1))
    (h2 : x2 = m ((c.tc : Thread nD τ).loc main_arg2)) :
    val_main_v22 (F := Ideal) x0 x1 x2 = query m c ∧ val_main_v23 (F := Ideal) x0 x1 x2 = key m c ∧ val_main_v24 (F := Ideal) x0 x1 x2 = value m c ∧ val_main_v25 (F := Ideal) x0 x1 x2 = input m c := by
  subst h0 h1 h2
  refine ⟨?_, ?_, ?_, ?_⟩ <;> funext i <;> rw [eq_ix2 i]
  · exact ProjRefIdeal.Rows.query_at _ _ _ _ _
  · exact ProjRefIdeal.Rows.key_at _ _ _ _ _
  · exact ProjRefIdeal.Rows.value_at _ _ _ _ _
  · exact ProjRefIdeal.Rows.input_at _ _ _ _ _

theorem algebraic : Cert.algebraic_ProjIdeal_ProjRefIdeal := by
  intro m g m' g' _ hag
  refine ⟨fun c => query m c, fun c => key m c, fun c => value m c, fun c => input m c, (θ_run _ _ _).mono (fun r h c => ?_) (Value.run_blocks m g), ?_⟩
  · obtain ⟨h0, h1, h2, h3, hr⟩ := h c
    exact ⟨h0.trans (final6 m c), h1.trans (final7 m c), h2.trans (final8 m c), h3.trans (final9 m c), hr⟩
  · refine (θ_run _ _ _).mono (fun r h c => ?_) (ProjRefIdeal.Value.run m' g')
    obtain ⟨a0, a1, a2⟩ := hag c
    obtain ⟨h0, h1, h2, h3, hr⟩ := h c
    obtain ⟨s0, s1, s2, s3⟩ := same m c a0 a1 a2
    exact ⟨(h0.trans (val_main_v22_eq _ _ _)).trans s0, (h1.trans (val_main_v23_eq _ _ _)).trans s1, (h2.trans (val_main_v24_eq _ _ _)).trans s2, (h3.trans (val_main_v25_eq _ _ _)).trans s3, hr⟩

end Cert.ProjIdeal.Final
-- ==== Proof.StepProj.Apply.lean ====
/- The sample's projection kernel over the extended reals: its four blocks, read at an index. -/
module

public import proofs.«01_k».proof.Proof.Gen.StepProjIdeal.Frame
public import proofs.«01_k».proof.Proof.Proj.Layer
public import Idealize.ShloMosaic.Lib.ValueIdxCore
public import Idealize.ShloMosaic.Lib.MatmulPlain
public import Idealize.ShloMosaic.PureOps.Ideal.Laws
public import Idealize.ShloMosaic.Lib.Pipeline.ValueKit.Basic
public import Idealize.ShloMosaic.Lib.Pipeline.ValueKit.Tiles

@[expose] public section

set_option maxRecDepth 16384

noncomputable section

namespace Cert.StepProjIdeal.Apply

open Idealize.ShloMosaic Idealize.SL.Sem Cert.StepProjIdeal Cert.StepProjIdeal.Gen
open Idealize.ShloMosaic.ValueIdx TailRows InProj
open scoped BigOperators

theorem norm_apply (x0 : Vec Ideal S32x1024 .f32) (x1 : Vec Ideal S1x1024 .f32) (i : Fin 32) (j : Fin 1024) :
    k0_pay2 x0 x1 (ix2 i j) = rms c1024 (fun k => x0 (ix2 i k)) (fun k => x1 (ix2 0 k)) j := by
  unfold k0_pay2
  dsimp only
  rw [shapeCast_self, shapeCast_self]
  refine congrArg₂ (fun a b : EReal => x0 (ix2 i j) * a * b)
    ((broadcastTo_apply _ _ _ (ix2 i 0) (fun a => match a with | ⟨0, _⟩ => rfl | ⟨1, _⟩ => rfl)).trans ?_)
    (broadcastTo_apply _ _ _ (ix2 0 j) (fun a => match a with | ⟨0, _⟩ => rfl | ⟨1, _⟩ => rfl))
  refine congrArg (fun a : EReal => Ideal.rsqrt (Ideal.div a c1024 + cEps)) ?_
  refine (shapeCast_apply _ _ (ix2 i (0 : Fin 1)) (ix1 i) ?_).trans ?_
  · rw [Shape.rowMajor_val_one, Shape.rowMajor_val_two]; show i.val = i.val * 1 + 0; omega
  · refine (Ideal.multiReduction_add_single _ _ _ _ _ _).trans ?_
    refine Finset.sum_congr rfl fun k _ => ?_
    have e : reduces_S32x1024_S32.lift (ix1 i) k = ix2 i k := by
      funext a; match a with | ⟨0, _⟩ => rfl | ⟨1, _⟩ => rfl
    show (x0 _ : EReal) * x0 _ = _
    rw [e]
    rfl

/-- A product of the normalised block by weights held column by column. -/
theorem rows_apply (x0 : Vec Ideal S32x1024 .f32) (x1 : Vec Ideal S1x1024 .f32) (w : Vec Ideal S1024x512 .bf16) (i : Fin 32) (j : Fin 512) :
    matmul (F := Ideal) (φ₁ := .bf16) (φ₂ := .bf16) dot_S32x1024_S1024x512_S32x512_1_0_0_1_n_n none (k0_pay2 x0 x1) w (constant S32x512 .f32 0x00000000#32) (ix2 i j)
      = proj (fun k => x0 (ix2 i k)) (fun k => x1 (ix2 0 k)) (fun k j => w (ix2 k j)) j := by
  refine (Ideal.matmul_plain_apply none (k0_pay2 x0 x1) w (constant S32x512 .f32 0x00000000#32) i j).trans ?_
  rw [show (constant S32x512 .f32 0x00000000#32 : FVec Ideal S32x512 .f32) (ix2 i j) = (0 : EReal) from Ideal.ofBits_zero_f32, zero_add]
  exact Finset.sum_congr rfl fun k _ => congrArg (fun a : EReal => a * w (ix2 k j)) (norm_apply x0 x1 i k)

variable (x0 : Vec Ideal S32x1024 .f32) (x1 : Vec Ideal S1x1024 .f32) (x2 : Vec Ideal S1024x2048 .bf16)

theorem out3 (i : Fin 32) (j : Fin 512) : out0_3 x0 x1 x2 (ix2 i j) = proj (fun k => x0 (ix2 i k)) (fun k => x1 (ix2 0 k)) (fun k j => x2 (ix2 k j)) (⟨0 + j.val, by omega⟩ : Fin 2048) := by
  unfold out0_3 k0_pay3
  rw [View.canon_cons_unit_lit _ _ _ (by decide), View.ld_unit_lit _ _ (by decide), View.ld_unit_lit _ _ (by decide), shapeCast_self]
  refine (rows_apply x0 x1 (View.ld x2 r0_2) i j).trans (Finset.sum_congr rfl fun k _ => ?_)
  refine congrArg (fun a : EReal => rms c1024 _ _ k * a) (View.ld_unit_apply_of _ _ _ _ _ (ix2 k (⟨0 + j.val, by omega⟩ : Fin 2048) : S1024x2048.Idx) (fun a => ?_))
  match a with
  | ⟨0, _⟩ => show k.val = 0 + k.val; omega
  | ⟨1, _⟩ => show 0 + j.val = 0 + j.val; omega

theorem out4 (i : Fin 32) (j : Fin 512) : out0_4 x0 x1 x2 (ix2 i j) = proj (fun k => x0 (ix2 i k)) (fun k => x1 (ix2 0 k)) (fun k j => x2 (ix2 k j)) (⟨512 + j.val, by omega⟩ : Fin 2048) := by
  unfold out0_4 k0_pay4
  rw [View.canon_cons_unit_lit _ _ _ (by decide), View.ld_unit_lit _ _ (by decide), View.ld_unit_lit _ _ (by decide), shapeCast_self]
  refine (rows_apply x0 x1 (View.ld x2 r0_4) i j).trans (Finset.sum_congr rfl fun k _ => ?_)
  refine congrArg (fun a : EReal => rms c1024 _ _ k * a) (View.ld_unit_apply_of _ _ _ _ _ (ix2 k (⟨512 + j.val, by omega⟩ : Fin 2048) : S1024x2048.Idx) (fun a => ?_))
  match a with
  | ⟨0, _⟩ => show k.val = 0 + k.val; omega
  | ⟨1, _⟩ => show 512 + j.val = 512 + j.val; omega

theorem out5 (i : Fin 32) (j : Fin 512) : out0_5 x0 x1 x2 (ix2 i j) = proj (fun k => x0 (ix2 i k)) (fun k => x1 (ix2 0 k)) (fun k j => x2 (ix2 k j)) (⟨1024 + j.val, by omega⟩ : Fin 2048) := by
  unfold out0_5 k0_pay5
  rw [View.canon_cons_unit_lit _ _ _ (by decide), View.ld_unit_lit _ _ (by decide), View.ld_unit_lit _ _ (by decide), shapeCast_self]
  refine (rows_apply x0 x1 (View.ld x2 r0_5) i j).trans (Finset.sum_congr rfl fun k _ => ?_)
  refine congrArg (fun a : EReal => rms c1024 _ _ k * a) (View.ld_unit_apply_of _ _ _ _ _ (ix2 k (⟨1024 + j.val, by omega⟩ : Fin 2048) : S1024x2048.Idx) (fun a => ?_))
  match a with
  | ⟨0, _⟩ => show k.val = 0 + k.val; omega
  | ⟨1, _⟩ => show 1024 + j.val = 1024 + j.val; omega

theorem out6 (i : Fin 32) (j : Fin 512) : out0_6 x0 x1 x2 (ix2 i j) = proj (fun k => x0 (ix2 i k)) (fun k => x1 (ix2 0 k)) (fun k j => x2 (ix2 k j)) (⟨1536 + j.val, by omega⟩ : Fin 2048) := by
  unfold out0_6 k0_pay1 k0_pay6
  rw [View.canon_cons_unit_lit _ _ _ (by decide), View.ld_unit_lit _ _ (by decide), View.ld_unit_lit _ _ (by decide), shapeCast_self]
  refine (rows_apply x0 x1 (View.ld x2 r0_6) i j).trans (Finset.sum_congr rfl fun k _ => ?_)
  refine congrArg (fun a : EReal => rms c1024 _ _ k * a) (View.ld_unit_apply_of _ _ _ _ _ (ix2 k (⟨1536 + j.val, by omega⟩ : Fin 2048) : S1024x2048.Idx) (fun a => ?_))
  match a with
  | ⟨0, _⟩ => show k.val = 0 + k.val; omega
  | ⟨1, _⟩ => show 1536 + j.val = 1536 + j.val; omega

end Cert.StepProjIdeal.Apply
-- ==== Proof.StepProj.Entry.lean ====
/- The sample's projection kernel's input blocks, read at an index, as elements of the program's arguments. -/
module

public import proofs.«01_k».proof.Proof.Gen.StepProjIdeal.Frame
public import Idealize.ShloMosaic.PureOps.Ideal
public import Idealize.ShloMosaic.Lib.Claim
public import Idealize.ShloMosaic.Lib.ValueIdxCore
public import Idealize.ShloMosaic.Lib.Pipeline.ValueKit.Geometry

@[expose] public section

set_option maxRecDepth 16384

noncomputable section

namespace Cert.StepProjIdeal.Entry

open Idealize.ShloMosaic Idealize.ShloMosaic.TcCoe Idealize.SL.Sem Cert.StepProjIdeal Cert.StepProjIdeal.Gen
open Idealize.ShloMosaic.ValueIdx

variable (m : (ℓ : Loc nD τ sig) → Buf (Elt Ideal) ℓ) (c : Dev nD)

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)

theorem iblk0 (t : Fin cfg0.N) (i : Fin 32) (j : Fin 1024) : iblk m c 0 t (ix2 i j) = m ((c : Thread nD τ).loc main_arg0) (ix3 i 0 j) := by
  have e := idx0 t
  have e0 : (((cfg0.win 0).blk t).view.emb (ix2 i j)) = (ix2 i j : S32x1024.Idx) := by
    refine Shape.idx_ext₂ ?_ ?_
    · blk_simp [e.1]
    · blk_simp [e.2]
  unfold iblk
  rw [View.read_apply, cast_eq]
  entry_read
  refine (congrArg _ e0).trans (shapeCast_apply _ shapeCasts_S32x1x1024_S32x1024 (ix2 i j : S32x1024.Idx) (ix3 i 0 j) ?_)
  rw [Shape.rowMajor_val_two, Shape.rowMajor_val_three]
  show (i.val * 1 + 0) * 1024 + j.val = i.val * 1024 + j.val
  omega

theorem iblk1 (t : Fin cfg0.N) (j : Fin 1024) : iblk m c 1 t (ix2 0 j) = m ((c : Thread nD τ).loc main_arg1) (ix2 0 j) := by
  have e := idx1 t
  have e0 : (((cfg0.win 1).blk t).view.emb (ix2 0 j)) = (ix2 0 j : S1x1024.Idx) := by
    refine Shape.idx_ext₂ ?_ ?_
    · blk_simp [e.1]
    · blk_simp [e.2]
  unfold iblk
  rw [View.read_apply, cast_eq]
  entry_read
  refine (congrArg _ e0).trans ((shapeCast_apply _ _ (ix2 0 j : S1x1024.Idx) (ix1 j) ?_).trans (shapeCast_apply _ _ (ix1 j) (ix2 0 j) ?_))
  all_goals
    rw [Shape.rowMajor_val_one, Shape.rowMajor_val_two]
  · show j.val = 0 * 1024 + j.val; omega
  · show 0 * 1024 + j.val = j.val; omega

/-- The weights as a matrix. -/
theorem weights (x : (⟨S1x1024x2048, .f32⟩ : BufTy).Contents (Elt Ideal)) (k : Fin 1024) (j : Fin 2048) :
    shapeCast S1024x2048 x shapeCasts_S1x1024x2048_S1024x2048 (ix2 k j : S1024x2048.Idx) = x (ix3 0 k j) := by
  refine shapeCast_apply x shapeCasts_S1x1024x2048_S1024x2048 (ix2 k j : S1024x2048.Idx) (ix3 0 k j) ?_
  rw [Shape.rowMajor_val_two, Shape.rowMajor_val_three]
  show (0 * 1024 + k.val) * 2048 + j.val = k.val * 2048 + j.val
  omega

theorem iblk2 (t : Fin cfg0.N) (k : Fin 1024) (j : Fin 2048) : iblk m c 2 t (ix2 k j) = m ((c : Thread nD τ).loc main_arg2) (ix3 0 k j) := by
  have e := idx2 t
  have e0 : (((cfg0.win 2).blk t).view.emb (ix2 k j)) = (ix2 k j : S1024x2048.Idx) := by
    refine Shape.idx_ext₂ ?_ ?_
    · blk_simp [e.1]
    · blk_simp [e.2]
  unfold iblk
  rw [View.read_apply, cast_eq]
  entry_read
  exact (congrArg _ e0).trans (weights _ k j)

end Cert.StepProjIdeal.Entry
-- ==== Proof.StepProj.Ref.lean ====
/- The sample's projections in the reference, read at an index. -/
module

public import proofs.«01_k».proof.Proof.Gen.StepProjRefIdeal.Read
public import proofs.«01_k».proof.Proof.Proj.Layer
public import Idealize.ShloMosaic.Lib.Pipeline.Value
public import Idealize.ShloMosaic.PureOps.Ideal.Laws

@[expose] public section

set_option maxRecDepth 16384

noncomputable section

namespace Cert.StepProjRefIdeal.Rows

open Idealize.ShloMosaic Cert.StepProjRefIdeal Cert.StepProjRefIdeal.Gen Cert.StepProjRefIdeal.Read
open Idealize.ShloMosaic.ValueIdx TailRows InProj
open scoped BigOperators

variable (x0 : (⟨S32x1x1024, .f32⟩ : BufTy).Contents (Elt Ideal)) (x1 : (⟨S1x1024, .f32⟩ : BufTy).Contents (Elt Ideal)) (x2 : (⟨S1x1024x2048, .f32⟩ : BufTy).Contents (Elt Ideal))

/-- The reference's arguments. -/
def argsOf : Args where
  x n k := x0 (ix3 (⟨n / 1 % 32, Nat.mod_lt _ (by decide)⟩ : Fin 32) (⟨n % 1, Nat.mod_lt _ (by decide)⟩ : Fin 1) k)
  g k := x1 (ix2 0 k)
  w k j := x2 (ix3 0 k j)

theorem norm (p : Fin 32) (q : Fin 1) (k : Fin 1024) : val_main_v13 (F := Ideal) x0 x1 (ix3 p q k)
    = rms c1024 (fun k => x0 (ix3 p q k)) (fun k => x1 (ix2 0 k)) k := by
  have e1 : ∀ k' : Fin 1024, idx_main_v2 (idx_main_v3 (idx_main_v9 (ix3 p q k))) k' = ix3 p q k' := fun k' => by
    funext a; match a with | ⟨0, _⟩ => rfl | ⟨1, _⟩ => exact Subsingleton.elim (α := Fin 1) _ _ | ⟨2, _⟩ => rfl
  have e2 : idx_main_v0 (idx_main_v11 (idx_main_v12 (ix3 p q k))) = ix2 0 k := by
    funext a; match a with | ⟨0, _⟩ => rfl | ⟨1, _⟩ => exact Fin.ext (Nat.mod_eq_of_lt k.isLt)
  rw [val_main_v13_apply, val_main_v10_apply, val_main_v9_apply, val_main_v8_apply, val_main_v7_apply, val_main_v5_apply, val_main_v3_apply, val_main_v2_apply,
    val_main_v4_apply, val_main_v6_apply, val_main_v12_apply, val_main_v11_apply, val_main_v0_apply, e2]
  simp only [e1, val_main_v1_apply]
  rw [show (val_main_cst (F := Ideal)) (Shape.Idx.first h_S_) = (0 : EReal) from Ideal.ofBits_zero_f32, zero_add]
  rfl

theorem weight (k : Fin 1024) (j : Fin 2048) : val_main_v14 (F := Ideal) x2 (ix2 k j) = x2 (ix3 0 k j) := by
  rw [val_main_v14_apply]
  refine congrArg x2 (funext fun a => ?_)
  match a with
  | ⟨0, _⟩ => rfl
  | ⟨1, _⟩ => exact Fin.ext (by show (k.val * 2048 + j.val) / 2048 % 1024 = k.val; omega)
  | ⟨2, _⟩ => exact Fin.ext (by show (k.val * 2048 + j.val) % 2048 = j.val; omega)

/-- The four projections side by side. -/
theorem all_at (p : Fin 32) (q : Fin 1) (j : Fin 2048) : val_main_v15 (F := Ideal) x0 x1 x2 (ix3 p q j) = (argsOf x0 x1 x2).at (1 * p.val + q.val) j := by
  have h0 : (⟨(1 * p.val + q.val) / 1 % 32, Nat.mod_lt _ (by decide)⟩ : Fin 32) = p := Fin.ext (by show (1 * p.val + q.val) / 1 % 32 = p.val; omega)
  have h1 : (⟨(1 * p.val + q.val) % 1, Nat.mod_lt _ (by decide)⟩ : Fin 1) = q := Fin.ext (by show (1 * p.val + q.val) % 1 = q.val; omega)
  rw [val_main_v15_apply]
  unfold Args.at proj
  refine Finset.sum_congr rfl fun k _ => ?_
  have el : lidx_main_v15 (ix3 p q j) k = ix3 p q k := by
    funext a; match a with | ⟨0, _⟩ => rfl | ⟨1, _⟩ => rfl | ⟨2, _⟩ => rfl
  have er : ridx_main_v15 (ix3 p q j) k = ix2 k j := by
    funext a; match a with | ⟨0, _⟩ => rfl | ⟨1, _⟩ => rfl
  rw [el, er, norm, weight]
  show _ = rms c1024 (fun k => x0 (ix3 (⟨(1 * p.val + q.val) / 1 % 32, Nat.mod_lt _ (by decide)⟩ : Fin 32) (⟨(1 * p.val + q.val) % 1, Nat.mod_lt _ (by decide)⟩ : Fin 1) k)) (fun k => x1 (ix2 0 k)) k * x2 (ix3 0 k j)
  rw [h0, h1]

theorem query_at (n : Fin 32) (j : Fin 512) : val_main_v20 (F := Ideal) x0 x1 x2 (ix2 n j) = (argsOf x0 x1 x2).at n.val ⟨0 + j.val, by omega⟩ := by
  have e : idx_main_v16 (idx_main_v20 (ix2 n j)) = ix3 (⟨n.val / 1, by omega⟩ : Fin 32) (⟨n.val % 1, Nat.mod_lt _ (by decide)⟩ : Fin 1) (⟨0 + j.val, by omega⟩ : Fin 2048) := by
    funext a
    match a with
    | ⟨0, _⟩ => exact Fin.ext (by change (n.val * 512 + j.val) / 512 = n.val / 1; omega)
    | ⟨1, _⟩ => exact Fin.ext (by change 0 = n.val % 1; omega)
    | ⟨2, _⟩ => exact Fin.ext (by change (n.val * 512 + j.val) % 512 = 0 + j.val; omega)
  rw [val_main_v20_apply, val_main_v16_apply, e, all_at]
  exact congrArg (fun n => (argsOf x0 x1 x2).at n _) (by show 1 * (n.val / 1) + n.val % 1 = n.val; omega)

theorem key_at (n : Fin 32) (j : Fin 512) : val_main_v21 (F := Ideal) x0 x1 x2 (ix2 n j) = (argsOf x0 x1 x2).at n.val ⟨512 + j.val, by omega⟩ := by
  have e : idx_main_v17 (idx_main_v21 (ix2 n j)) = ix3 (⟨n.val / 1, by omega⟩ : Fin 32) (⟨n.val % 1, Nat.mod_lt _ (by decide)⟩ : Fin 1) (⟨512 + j.val, by omega⟩ : Fin 2048) := by
    funext a
    match a with
    | ⟨0, _⟩ => exact Fin.ext (by change (n.val * 512 + j.val) / 512 = n.val / 1; omega)
    | ⟨1, _⟩ => exact Fin.ext (by change 0 = n.val % 1; omega)
    | ⟨2, _⟩ => exact Fin.ext (by change 512 + (n.val * 512 + j.val) % 512 = 512 + j.val; omega)
  rw [val_main_v21_apply, val_main_v17_apply, e, all_at]
  exact congrArg (fun n => (argsOf x0 x1 x2).at n _) (by show 1 * (n.val / 1) + n.val % 1 = n.val; omega)

theorem value_at (n : Fin 32) (j : Fin 512) : val_main_v22 (F := Ideal) x0 x1 x2 (ix2 n j) = (argsOf x0 x1 x2).at n.val ⟨1024 + j.val, by omega⟩ := by
  have e : idx_main_v18 (idx_main_v22 (ix2 n j)) = ix3 (⟨n.val / 1, by omega⟩ : Fin 32) (⟨n.val % 1, Nat.mod_lt _ (by decide)⟩ : Fin 1) (⟨1024 + j.val, by omega⟩ : Fin 2048) := by
    funext a
    match a with
    | ⟨0, _⟩ => exact Fin.ext (by change (n.val * 512 + j.val) / 512 = n.val / 1; omega)
    | ⟨1, _⟩ => exact Fin.ext (by change 0 = n.val % 1; omega)
    | ⟨2, _⟩ => exact Fin.ext (by change 1024 + (n.val * 512 + j.val) % 512 = 1024 + j.val; omega)
  rw [val_main_v22_apply, val_main_v18_apply, e, all_at]
  exact congrArg (fun n => (argsOf x0 x1 x2).at n _) (by show 1 * (n.val / 1) + n.val % 1 = n.val; omega)

theorem input_at (n : Fin 32) (j : Fin 512) : val_main_v23 (F := Ideal) x0 x1 x2 (ix2 n j) = (argsOf x0 x1 x2).at n.val ⟨1536 + j.val, by omega⟩ := by
  have e : idx_main_v19 (idx_main_v23 (ix2 n j)) = ix3 (⟨n.val / 1, by omega⟩ : Fin 32) (⟨n.val % 1, Nat.mod_lt _ (by decide)⟩ : Fin 1) (⟨1536 + j.val, by omega⟩ : Fin 2048) := by
    funext a
    match a with
    | ⟨0, _⟩ => exact Fin.ext (by change (n.val * 512 + j.val) / 512 = n.val / 1; omega)
    | ⟨1, _⟩ => exact Fin.ext (by change 0 = n.val % 1; omega)
    | ⟨2, _⟩ => exact Fin.ext (by change 1536 + (n.val * 512 + j.val) % 512 = 1536 + j.val; omega)
  rw [val_main_v23_apply, val_main_v19_apply, e, all_at]
  exact congrArg (fun n => (argsOf x0 x1 x2).at n _) (by show 1 * (n.val / 1) + n.val % 1 = n.val; omega)

end Cert.StepProjRefIdeal.Rows
-- ==== Proof.StepProj.Final.lean ====
/- The four result arrays of the sample's projections are the reference's: both read, at every index, as the layer's projections. -/
module

public import proofs.«01_k».proof.Defs
public import proofs.«01_k».proof.Proof.Gen.StepProjIdeal.Value
public import proofs.«01_k».proof.Proof.Gen.StepProjRefIdeal.Run
public import proofs.«01_k».proof.Proof.StepProj.Apply
public import proofs.«01_k».proof.Proof.StepProj.Entry
public import proofs.«01_k».proof.Proof.StepProj.Ref

@[expose] public section

set_option maxRecDepth 16384

noncomputable section

namespace Cert.StepProjIdeal.Final

open Idealize.ShloMosaic Idealize.ShloMosaic.TcCoe Idealize.SL.Sem Cert.StepProjIdeal Cert.StepProjIdeal.Gen
open Idealize.ShloMosaic.ValueIdx TailRows InProj Cert.StepProjRefIdeal.Read
open scoped BigOperators

variable (m : (ℓ : Loc nD τ sig) → Buf (Elt Ideal) ℓ) (c : Dev nD)

/-- The program's arguments. -/
def args : Args := StepProjRefIdeal.Rows.argsOf (m ((c : Thread nD τ).loc main_arg0)) (m ((c : Thread nD τ).loc main_arg1)) (m ((c : Thread nD τ).loc main_arg2))

theorem row_eq (t : Fin cfg0.N) (i : Fin 32) : (fun k => iblk m c 0 t (ix2 i k)) = (args m c).x (32 * t.val + i.val) := by
  have ht : t.val < 1 := lt_of_lt_of_eq t.isLt N_0
  funext k
  refine (Entry.iblk0 m c t i k).trans (congrArg (m ((c : Thread nD τ).loc main_arg0)) (funext fun a => ?_))
  match a with
  | ⟨0, _⟩ => exact Fin.ext (by show i.val = (32 * t.val + i.val) / 1 % 32; omega)
  | ⟨1, _⟩ => exact Fin.ext (by show 0 = (32 * t.val + i.val) % 1; omega)
  | ⟨2, _⟩ => rfl

theorem gain_eq (t : Fin cfg0.N) : (fun k => iblk m c 1 t (ix2 0 k)) = (args m c).g := funext fun k => Entry.iblk1 m c t k

theorem point3 (t : Fin cfg0.N) (i : Fin 32) (j : Fin 512) : out0_3 (F := Ideal) (iblk m c 0 t) (iblk m c 1 t) (iblk m c 2 t) (ix2 i j) = (args m c).at (32 * t.val + i.val) ⟨0 + j.val, by omega⟩ := by
  refine (Apply.out3 _ _ _ i j).trans ?_
  rw [row_eq, gain_eq]
  unfold Args.at proj
  exact Finset.sum_congr rfl fun k _ => congrArg (fun a : EReal => rms c1024 _ _ k * a) (Entry.iblk2 m c t k _)

theorem point4 (t : Fin cfg0.N) (i : Fin 32) (j : Fin 512) : out0_4 (F := Ideal) (iblk m c 0 t) (iblk m c 1 t) (iblk m c 2 t) (ix2 i j) = (args m c).at (32 * t.val + i.val) ⟨512 + j.val, by omega⟩ := by
  refine (Apply.out4 _ _ _ i j).trans ?_
  rw [row_eq, gain_eq]
  unfold Args.at proj
  exact Finset.sum_congr rfl fun k _ => congrArg (fun a : EReal => rms c1024 _ _ k * a) (Entry.iblk2 m c t k _)

theorem point5 (t : Fin cfg0.N) (i : Fin 32) (j : Fin 512) : out0_5 (F := Ideal) (iblk m c 0 t) (iblk m c 1 t) (iblk m c 2 t) (ix2 i j) = (args m c).at (32 * t.val + i.val) ⟨1024 + j.val, by omega⟩ := by
  refine (Apply.out5 _ _ _ i j).trans ?_
  rw [row_eq, gain_eq]
  unfold Args.at proj
  exact Finset.sum_congr rfl fun k _ => congrArg (fun a : EReal => rms c1024 _ _ k * a) (Entry.iblk2 m c t k _)

theorem point6 (t : Fin cfg0.N) (i : Fin 32) (j : Fin 512) : out0_6 (F := Ideal) (iblk m c 0 t) (iblk m c 1 t) (iblk m c 2 t) (ix2 i j) = (args m c).at (32 * t.val + i.val) ⟨1536 + j.val, by omega⟩ := by
  refine (Apply.out6 _ _ _ i j).trans ?_
  rw [row_eq, gain_eq]
  unfold Args.at proj
  exact Finset.sum_congr rfl fun k _ => congrArg (fun a : EReal => rms c1024 _ _ k * a) (Entry.iblk2 m c t k _)

/-- The layer's query as an array: row `n` is token `n`, column `j` column `0 + j` of the projections. -/
def query : Buf (Elt Ideal) ((c : Thread nD τ).loc main_v5_0) := fun i : S32x512.Idx =>
  (args m c).at (i 0).val ⟨0 + (i 1).val, by have h : (i 1).val < 512 := (i 1).isLt; omega⟩

theorem idx3 : ∀ (t : Fin cfg0.N) (a : Fin 2), win0_3.index t a = 0 :=
  (by decide +kernel : ∀ (t : Fin grid0.N) (a : Fin 2), _)

/-- What a point writes back is its block of the query. -/
theorem flushed3 (t : Fin cfg0.N) : (dats m 0 c).flushed 3 t = ((cfg0.win 3).blk t).view.read (Elt Ideal) (query m c) := by
  rw [Value.flushed3]
  have ht : t.val < 1 := lt_of_lt_of_eq t.isLt N_0
  have e0 := idx3 t 0
  have e1 := idx3 t 1
  funext y
  have hy0 : (y 0).val < 32 := (y 0).isLt
  have hy1 : (y 1).val < 512 := (y 1).isLt
  have hb0 : (((cfg0.win 3).blk t).view.emb y 0).val = win0_3.index t (0 : Fin 2) * 32 + 1 * (y 0).val := rfl
  have hb1 : (((cfg0.win 3).blk t).view.emb y 1).val = win0_3.index t (1 : Fin 2) * 512 + 1 * (y 1).val := rfl
  have hx : (cfg0.win 3).xinj (grid0.coords t) y = (ix2 ⟨(y 0).val, hy0⟩ ⟨(y 1).val, hy1⟩ : S32x512.Idx) := by
    funext a
    match a with
    | ⟨0, _⟩ => rfl
    | ⟨1, _⟩ => rfl
  show out0_3 (iblk m c 0 t) (iblk m c 1 t) (iblk m c 2 t) ((cfg0.win 3).xinj (grid0.coords t) y) = query m c (((cfg0.win 3).blk t).view.emb y)
  rw [hx]
  refine (point3 m c t ⟨(y 0).val, hy0⟩ ⟨(y 1).val, hy1⟩).trans ?_
  unfold query
  have k0 : 32 * t.val + (y 0).val = (((cfg0.win 3).blk t).view.emb y 0).val := by rw [hb0, e0]; omega
  have k1 : 0 + (y 1).val = 0 + (((cfg0.win 3).blk t).view.emb y 1).val := by rw [hb1, e1]; omega
  exact congrArg₂ (args m c).at k0 (Fin.ext k1)

/-- An index is in a point's block when each coordinate is in the block's range. -/
theorem mem_block3 (t : Fin cfg0.N) (i : S32x512.Idx) :
    i ∈ ((cfg0.win 3).blk t).view.set ↔ ∀ a : Fin 2, win0_3.index t a * S32x512.size a ≤ (i a).val ∧ (i a).val < win0_3.index t a * S32x512.size a + S32x512.size a := by
  show i ∈ ((View.whole main_v5_0).slice (win0_3.rect t)).set ↔ _
  rw [View.set_slice_whole, Rect.mem_set_unit]
  exact Iff.rfl

/-- The array after the run is the layer's query: the points' blocks tile it. -/
theorem final3 : (dats m 0 c).arrAt 3 cfg0.N = query m c := by
  refine (dats m 0 c).arrAt_eq_of_cover 3 _ (fun t hf => flushed3 m c t) (fun i => ?_)
  have hp : 0 < cfg0.N := lt_of_lt_of_eq (by omega) N_0.symm
  refine ⟨⟨_, hp⟩, flush0_3 _, (mem_block3 ⟨_, hp⟩ i).mpr fun a => ?_⟩
  rw [idx3, Nat.zero_mul, Nat.zero_add]
  exact ⟨Nat.zero_le _, (i a).isLt⟩

/-- The layer's key as an array: row `n` is token `n`, column `j` column `512 + j` of the projections. -/
def key : Buf (Elt Ideal) ((c : Thread nD τ).loc main_v5_1) := fun i : S32x512.Idx =>
  (args m c).at (i 0).val ⟨512 + (i 1).val, by have h : (i 1).val < 512 := (i 1).isLt; omega⟩

theorem idx4 : ∀ (t : Fin cfg0.N) (a : Fin 2), win0_4.index t a = 0 :=
  (by decide +kernel : ∀ (t : Fin grid0.N) (a : Fin 2), _)

/-- What a point writes back is its block of the key. -/
theorem flushed4 (t : Fin cfg0.N) : (dats m 0 c).flushed 4 t = ((cfg0.win 4).blk t).view.read (Elt Ideal) (key m c) := by
  rw [Value.flushed4]
  have ht : t.val < 1 := lt_of_lt_of_eq t.isLt N_0
  have e0 := idx4 t 0
  have e1 := idx4 t 1
  funext y
  have hy0 : (y 0).val < 32 := (y 0).isLt
  have hy1 : (y 1).val < 512 := (y 1).isLt
  have hb0 : (((cfg0.win 4).blk t).view.emb y 0).val = win0_4.index t (0 : Fin 2) * 32 + 1 * (y 0).val := rfl
  have hb1 : (((cfg0.win 4).blk t).view.emb y 1).val = win0_4.index t (1 : Fin 2) * 512 + 1 * (y 1).val := rfl
  have hx : (cfg0.win 4).xinj (grid0.coords t) y = (ix2 ⟨(y 0).val, hy0⟩ ⟨(y 1).val, hy1⟩ : S32x512.Idx) := by
    funext a
    match a with
    | ⟨0, _⟩ => rfl
    | ⟨1, _⟩ => rfl
  show out0_4 (iblk m c 0 t) (iblk m c 1 t) (iblk m c 2 t) ((cfg0.win 4).xinj (grid0.coords t) y) = key m c (((cfg0.win 4).blk t).view.emb y)
  rw [hx]
  refine (point4 m c t ⟨(y 0).val, hy0⟩ ⟨(y 1).val, hy1⟩).trans ?_
  unfold key
  have k0 : 32 * t.val + (y 0).val = (((cfg0.win 4).blk t).view.emb y 0).val := by rw [hb0, e0]; omega
  have k1 : 512 + (y 1).val = 512 + (((cfg0.win 4).blk t).view.emb y 1).val := by rw [hb1, e1]; omega
  exact congrArg₂ (args m c).at k0 (Fin.ext k1)

/-- An index is in a point's block when each coordinate is in the block's range. -/
theorem mem_block4 (t : Fin cfg0.N) (i : S32x512.Idx) :
    i ∈ ((cfg0.win 4).blk t).view.set ↔ ∀ a : Fin 2, win0_4.index t a * S32x512.size a ≤ (i a).val ∧ (i a).val < win0_4.index t a * S32x512.size a + S32x512.size a := by
  show i ∈ ((View.whole main_v5_1).slice (win0_4.rect t)).set ↔ _
  rw [View.set_slice_whole, Rect.mem_set_unit]
  exact Iff.rfl

/-- The array after the run is the layer's key: the points' blocks tile it. -/
theorem final4 : (dats m 0 c).arrAt 4 cfg0.N = key m c := by
  refine (dats m 0 c).arrAt_eq_of_cover 4 _ (fun t hf => flushed4 m c t) (fun i => ?_)
  have hp : 0 < cfg0.N := lt_of_lt_of_eq (by omega) N_0.symm
  refine ⟨⟨_, hp⟩, flush0_4 _, (mem_block4 ⟨_, hp⟩ i).mpr fun a => ?_⟩
  rw [idx4, Nat.zero_mul, Nat.zero_add]
  exact ⟨Nat.zero_le _, (i a).isLt⟩

/-- The layer's value as an array: row `n` is token `n`, column `j` column `1024 + j` of the projections. -/
def value : Buf (Elt Ideal) ((c : Thread nD τ).loc main_v5_2) := fun i : S32x512.Idx =>
  (args m c).at (i 0).val ⟨1024 + (i 1).val, by have h : (i 1).val < 512 := (i 1).isLt; omega⟩

theorem idx5 : ∀ (t : Fin cfg0.N) (a : Fin 2), win0_5.index t a = 0 :=
  (by decide +kernel : ∀ (t : Fin grid0.N) (a : Fin 2), _)

/-- What a point writes back is its block of the value. -/
theorem flushed5 (t : Fin cfg0.N) : (dats m 0 c).flushed 5 t = ((cfg0.win 5).blk t).view.read (Elt Ideal) (value m c) := by
  rw [Value.flushed5]
  have ht : t.val < 1 := lt_of_lt_of_eq t.isLt N_0
  have e0 := idx5 t 0
  have e1 := idx5 t 1
  funext y
  have hy0 : (y 0).val < 32 := (y 0).isLt
  have hy1 : (y 1).val < 512 := (y 1).isLt
  have hb0 : (((cfg0.win 5).blk t).view.emb y 0).val = win0_5.index t (0 : Fin 2) * 32 + 1 * (y 0).val := rfl
  have hb1 : (((cfg0.win 5).blk t).view.emb y 1).val = win0_5.index t (1 : Fin 2) * 512 + 1 * (y 1).val := rfl
  have hx : (cfg0.win 5).xinj (grid0.coords t) y = (ix2 ⟨(y 0).val, hy0⟩ ⟨(y 1).val, hy1⟩ : S32x512.Idx) := by
    funext a
    match a with
    | ⟨0, _⟩ => rfl
    | ⟨1, _⟩ => rfl
  show out0_5 (iblk m c 0 t) (iblk m c 1 t) (iblk m c 2 t) ((cfg0.win 5).xinj (grid0.coords t) y) = value m c (((cfg0.win 5).blk t).view.emb y)
  rw [hx]
  refine (point5 m c t ⟨(y 0).val, hy0⟩ ⟨(y 1).val, hy1⟩).trans ?_
  unfold value
  have k0 : 32 * t.val + (y 0).val = (((cfg0.win 5).blk t).view.emb y 0).val := by rw [hb0, e0]; omega
  have k1 : 1024 + (y 1).val = 1024 + (((cfg0.win 5).blk t).view.emb y 1).val := by rw [hb1, e1]; omega
  exact congrArg₂ (args m c).at k0 (Fin.ext k1)

/-- An index is in a point's block when each coordinate is in the block's range. -/
theorem mem_block5 (t : Fin cfg0.N) (i : S32x512.Idx) :
    i ∈ ((cfg0.win 5).blk t).view.set ↔ ∀ a : Fin 2, win0_5.index t a * S32x512.size a ≤ (i a).val ∧ (i a).val < win0_5.index t a * S32x512.size a + S32x512.size a := by
  show i ∈ ((View.whole main_v5_2).slice (win0_5.rect t)).set ↔ _
  rw [View.set_slice_whole, Rect.mem_set_unit]
  exact Iff.rfl

/-- The array after the run is the layer's value: the points' blocks tile it. -/
theorem final5 : (dats m 0 c).arrAt 5 cfg0.N = value m c := by
  refine (dats m 0 c).arrAt_eq_of_cover 5 _ (fun t hf => flushed5 m c t) (fun i => ?_)
  have hp : 0 < cfg0.N := lt_of_lt_of_eq (by omega) N_0.symm
  refine ⟨⟨_, hp⟩, flush0_5 _, (mem_block5 ⟨_, hp⟩ i).mpr fun a => ?_⟩
  rw [idx5, Nat.zero_mul, Nat.zero_add]
  exact ⟨Nat.zero_le _, (i a).isLt⟩

/-- The layer's input as an array: row `n` is token `n`, column `j` column `1536 + j` of the projections. -/
def input : Buf (Elt Ideal) ((c : Thread nD τ).loc main_v5_3) := fun i : S32x512.Idx =>
  (args m c).at (i 0).val ⟨1536 + (i 1).val, by have h : (i 1).val < 512 := (i 1).isLt; omega⟩

theorem idx6 : ∀ (t : Fin cfg0.N) (a : Fin 2), win0_6.index t a = 0 :=
  (by decide +kernel : ∀ (t : Fin grid0.N) (a : Fin 2), _)

/-- What a point writes back is its block of the input. -/
theorem flushed6 (t : Fin cfg0.N) : (dats m 0 c).flushed 6 t = ((cfg0.win 6).blk t).view.read (Elt Ideal) (input m c) := by
  rw [Value.flushed6]
  have ht : t.val < 1 := lt_of_lt_of_eq t.isLt N_0
  have e0 := idx6 t 0
  have e1 := idx6 t 1
  funext y
  have hy0 : (y 0).val < 32 := (y 0).isLt
  have hy1 : (y 1).val < 512 := (y 1).isLt
  have hb0 : (((cfg0.win 6).blk t).view.emb y 0).val = win0_6.index t (0 : Fin 2) * 32 + 1 * (y 0).val := rfl
  have hb1 : (((cfg0.win 6).blk t).view.emb y 1).val = win0_6.index t (1 : Fin 2) * 512 + 1 * (y 1).val := rfl
  have hx : (cfg0.win 6).xinj (grid0.coords t) y = (ix2 ⟨(y 0).val, hy0⟩ ⟨(y 1).val, hy1⟩ : S32x512.Idx) := by
    funext a
    match a with
    | ⟨0, _⟩ => rfl
    | ⟨1, _⟩ => rfl
  show out0_6 (iblk m c 0 t) (iblk m c 1 t) (iblk m c 2 t) ((cfg0.win 6).xinj (grid0.coords t) y) = input m c (((cfg0.win 6).blk t).view.emb y)
  rw [hx]
  refine (point6 m c t ⟨(y 0).val, hy0⟩ ⟨(y 1).val, hy1⟩).trans ?_
  unfold input
  have k0 : 32 * t.val + (y 0).val = (((cfg0.win 6).blk t).view.emb y 0).val := by rw [hb0, e0]; omega
  have k1 : 1536 + (y 1).val = 1536 + (((cfg0.win 6).blk t).view.emb y 1).val := by rw [hb1, e1]; omega
  exact congrArg₂ (args m c).at k0 (Fin.ext k1)

/-- An index is in a point's block when each coordinate is in the block's range. -/
theorem mem_block6 (t : Fin cfg0.N) (i : S32x512.Idx) :
    i ∈ ((cfg0.win 6).blk t).view.set ↔ ∀ a : Fin 2, win0_6.index t a * S32x512.size a ≤ (i a).val ∧ (i a).val < win0_6.index t a * S32x512.size a + S32x512.size a := by
  show i ∈ ((View.whole main_v5_3).slice (win0_6.rect t)).set ↔ _
  rw [View.set_slice_whole, Rect.mem_set_unit]
  exact Iff.rfl

/-- The array after the run is the layer's input: the points' blocks tile it. -/
theorem final6 : (dats m 0 c).arrAt 6 cfg0.N = input m c := by
  refine (dats m 0 c).arrAt_eq_of_cover 6 _ (fun t hf => flushed6 m c t) (fun i => ?_)
  have hp : 0 < cfg0.N := lt_of_lt_of_eq (by omega) N_0.symm
  refine ⟨⟨_, hp⟩, flush0_6 _, (mem_block6 ⟨_, hp⟩ i).mpr fun a => ?_⟩
  rw [idx6, Nat.zero_mul, Nat.zero_add]
  exact ⟨Nat.zero_le _, (i a).isLt⟩

variable {x0 : (⟨StepProjRefIdeal.S32x1x1024, .f32⟩ : BufTy).Contents (Elt Ideal)} {x1 : (⟨StepProjRefIdeal.S1x1024, .f32⟩ : BufTy).Contents (Elt Ideal)} {x2 : (⟨StepProjRefIdeal.S1x1024x2048, .f32⟩ : BufTy).Contents (Elt Ideal)}

/-- The reference's four results from equal arguments. -/
theorem same (h0 : x0 = m ((c.tc : Thread nD τ).loc main_arg0)) (h1 : x1 = m ((c.tc : Thread nD τ).loc main_arg1))
    (h2 : x2 = m ((c.tc : Thread nD τ).loc main_arg2)) :
    val_main_v20 (F := Ideal) x0 x1 x2 = query m c ∧ val_main_v21 (F := Ideal) x0 x1 x2 = key m c ∧ val_main_v22 (F := Ideal) x0 x1 x2 = value m c ∧ val_main_v23 (F := Ideal) x0 x1 x2 = input m c := by
  subst h0 h1 h2
  refine ⟨?_, ?_, ?_, ?_⟩ <;> funext i <;> rw [eq_ix2 i]
  · exact StepProjRefIdeal.Rows.query_at _ _ _ _ _
  · exact StepProjRefIdeal.Rows.key_at _ _ _ _ _
  · exact StepProjRefIdeal.Rows.value_at _ _ _ _ _
  · exact StepProjRefIdeal.Rows.input_at _ _ _ _ _

theorem algebraic : Cert.algebraic_StepProjIdeal_StepProjRefIdeal := by
  intro m g m' g' _ hag
  refine ⟨fun c => query m c, fun c => key m c, fun c => value m c, fun c => input m c, (θ_run _ _ _).mono (fun r h c => ?_) (Value.run_blocks m g), ?_⟩
  · obtain ⟨h0, h1, h2, h3, hr⟩ := h c
    exact ⟨h0.trans (final3 m c), h1.trans (final4 m c), h2.trans (final5 m c), h3.trans (final6 m c), hr⟩
  · refine (θ_run _ _ _).mono (fun r h c => ?_) (StepProjRefIdeal.Value.run m' g')
    obtain ⟨a0, a1, a2⟩ := hag c
    obtain ⟨h0, h1, h2, h3, hr⟩ := h c
    obtain ⟨s0, s1, s2, s3⟩ := same m c a0 a1 a2
    exact ⟨(h0.trans (val_main_v20_eq _ _ _)).trans s0, (h1.trans (val_main_v21_eq _ _ _)).trans s1, (h2.trans (val_main_v22_eq _ _ _)).trans s2, (h3.trans (val_main_v23_eq _ _ _)).trans s3, hr⟩

end Cert.StepProjIdeal.Final
-- ==== Proof.StepTail.Body.lean ====
/- What the sample's tail kernel computes, written once: the mixing branch of its 32 rows, eleven column chunks of the
   gated unit, each with its own gate store and its share of the down projection, and the residual rows. -/
module

public import proofs.«01_k».proof.Proof.Gen.StepTailIdeal.Frame
public import Idealize.ShloMosaic.Lib.Pipeline.Value
public import Idealize.ShloMosaic.Lib.Pipeline.ReadBack

@[expose] public section

set_option maxRecDepth 65536
set_option maxHeartbeats 4000000

noncomputable section

namespace Cert.StepTailIdeal.Body

open Idealize.ShloMosaic Idealize.SL.Sem Cert.StepTailIdeal Cert.StepTailIdeal.Gen

variable {F : FTy → Type} [FloatOps F]

/-! ## The rectangles -/

theorem inb_w (k : ℕ) (h : k < 11) : ∀ a, (![0, 256 * k] : Fin 2 → ℕ) a + S1024x256.size a ≤ S1024x2816.size a
  | ⟨0, _⟩ => by show 0 + 1024 ≤ 1024; omega
  | ⟨1, _⟩ => by show 256 * k + 256 ≤ 2816; omega
theorem inb_d (k : ℕ) (h : k < 11) : ∀ a, (![256 * k, 0] : Fin 2 → ℕ) a + S256x1024.size a ≤ S2816x1024.size a
  | ⟨0, _⟩ => by show 256 * k + 256 ≤ 2816; omega
  | ⟨1, _⟩ => by show 0 + 1024 ≤ 1024; omega
theorem inb_b (k : ℕ) (h : k < 11) : ∀ a, (![0, 256 * k] : Fin 2 → ℕ) a + S1x256.size a ≤ S1x2816.size a
  | ⟨0, _⟩ => by show 0 + 1 ≤ 1; omega
  | ⟨1, _⟩ => by show 256 * k + 256 ≤ 2816; omega
theorem inb_c (q k : ℕ) (hq : q < 3) (h : k < 11) : ∀ a, (![q, 256 * k] : Fin 2 → ℕ) a + S1x256.size a ≤ S3x2816.size a
  | ⟨0, _⟩ => by show q + 1 ≤ 3; omega
  | ⟨1, _⟩ => by show 256 * k + 256 ≤ 2816; omega
theorem inb_g (k : ℕ) (h : k < 11) : ∀ a, (![0, 256 * k] : Fin 2 → ℕ) a + S32x256.size a ≤ S32x2816.size a
  | ⟨0, _⟩ => by show 0 + 32 ≤ 32; omega
  | ⟨1, _⟩ => by show 256 * k + 256 ≤ 2816; omega

/-- Columns `256 k ‥` of the gate or up weights. -/
def rW (k : ℕ) (h : k < 11) : Rect S1024x2816 := Rect.unit ![0, 256 * k] S1024x256.size (inb_w k h)
/-- Rows `256 k ‥` of the down weights. -/
def rD (k : ℕ) (h : k < 11) : Rect S2816x1024 := Rect.unit ![256 * k, 0] S256x1024.size (inb_d k h)
/-- Columns `256 k ‥` of the convolution's bias. -/
def rB (k : ℕ) (h : k < 11) : Rect S1x2816 := Rect.unit ![0, 256 * k] S1x256.size (inb_b k h)
/-- Columns `256 k ‥` of tap `q` of the convolution. -/
def rC (q k : ℕ) (hq : q < 3) (h : k < 11) : Rect S3x2816 := Rect.unit ![q, 256 * k] S1x256.size (inb_c q k hq h)
/-- Columns `256 k ‥` of the stored gate rows, and of the new ones. -/
def rG (k : ℕ) (h : k < 11) : Rect S32x2816 := Rect.unit ![0, 256 * k] S32x256.size (inb_g k h)

/-- The sixteen input blocks. -/
structure In (F : FTy → Type) where
  x : Vec F S32x1024 .f32
  att : Vec F S32x512 .f32
  ssm : Vec F S32x512 .f32
  ga : Vec F S1x512 .f32
  gs : Vec F S1x512 .f32
  wo : Vec F S1024x1024 .bf16
  gpm : Vec F S1x1024 .f32
  g : Vec F S1x1024 .f32
  wg : Vec F S1024x2816 .bf16
  wu : Vec F S1024x2816 .bf16
  cw : Vec F S3x2816 .f32
  cb : Vec F S1x2816 .f32
  wd : Vec F S2816x1024 .bf16
  gpost : Vec F S1x1024 .f32
  p0 : Vec F S32x2816 .f32
  p1 : Vec F S32x2816 .f32

/-! ## One chunk -/

/-- `xn · w` for a chunk of 256 columns of `w`. -/
def proj (xn : FVec F S32x1024 .bf16) (w : Vec F S1024x256 .bf16) : FVec F S32x256 .f32 :=
  matmul dot_S32x1024_S1024x256_S32x256_1_0_0_1_n_n none xn (shapeCast S1024x256 w shapeCasts_S1024x256_S1024x256)
    (constant S32x256 .f32 0x00000000#32)

/-- The causal convolution of a chunk: the bias, the gate two rows back, one row back, and its own row. -/
def conv (gate g1 g2 : FVec F S32x256 .f32) (cb w0 w1 w2 : Vec F S1x256 .f32) : FVec F S32x256 .f32 :=
  addf (addf (addf (broadcastTo S32x256 (shapeCast S1x256 cb shapeCasts_S1x256_S1x256) broadcasts_S1x256_S32x256)
      (mulf g2 (broadcastTo S32x256 (shapeCast S1x256 w0 shapeCasts_S1x256_S1x256) broadcasts_S1x256_S32x256)))
      (mulf g1 (broadcastTo S32x256 (shapeCast S1x256 w1 shapeCasts_S1x256_S1x256) broadcasts_S1x256_S32x256)))
    (mulf gate (broadcastTo S32x256 (shapeCast S1x256 w2 shapeCasts_S1x256_S1x256) broadcasts_S1x256_S32x256))

/-- `gelu (c) * u` for a chunk, in the kernel's spelling. -/
def hid (c u : FVec F S32x256 .f32) : FVec F S32x256 .bf16 :=
  truncf .bf16 (mulf (mulf (mulf (broadcast S32x256 (Scalar.ofBits .f32 0x3F000000#32)) c)
    (addf (broadcast S32x256 (Scalar.ofBits .f32 0x3F800000#32))
      (tanh (mulf (broadcast S32x256 (Scalar.ofBits .f32 0x3F4C422A#32))
        (addf c (mulf (broadcast S32x256 (Scalar.ofBits .f32 0x3D372713#32)) (mulf (mulf c c) c))))))) u) bitsLt_bf16_f32

/-- A chunk's contribution to the down projection. -/
def down (h : FVec F S32x256 .bf16) (w : Vec F S256x1024 .bf16) : FVec F S32x1024 .f32 :=
  matmul dot_S32x256_S256x1024_S32x1024_1_0_0_1_n_n none h (shapeCast S256x1024 w shapeCasts_S256x1024_S256x1024)
    (constant S32x1024 .f32 0x00000000#32)

/-- The gated unit of chunk `k`: the older stored gate row is two steps back, the newer one step back. -/
def unit (P : In F) (xn : FVec F S32x1024 .bf16) (k : ℕ) (h : k < 11) : FVec F S32x256 .bf16 :=
  hid (conv (proj xn (View.ld P.wg (rW k h)))
      (shapeCast S32x256 (View.ld P.p1 (rG k h)) shapeCasts_S32x256_S32x256)
      (shapeCast S32x256 (View.ld P.p0 (rG k h)) shapeCasts_S32x256_S32x256)
      (View.ld P.cb (rB k h)) (View.ld P.cw (rC 0 k (by omega) h)) (View.ld P.cw (rC 1 k (by omega) h)) (View.ld P.cw (rC 2 k (by omega) h)))
    (proj xn (View.ld P.wu (rW k h)))

/-- Its share of the down projection. -/
def part (P : In F) (xn : FVec F S32x1024 .bf16) (k : ℕ) (h : k < 11) : FVec F S32x1024 .f32 :=
  down (unit P xn k h) (View.ld P.wd (rD k h))

/-- The eleven shares, added from the left. -/
def acc (P : In F) (xn : FVec F S32x1024 .bf16) : FVec F S32x1024 .f32 :=
  addf (addf (addf (addf (addf (addf (addf (addf (addf (addf (part P xn 0 (by omega)) (part P xn 1 (by omega))) (part P xn 2 (by omega)))
    (part P xn 3 (by omega))) (part P xn 4 (by omega))) (part P xn 5 (by omega))) (part P xn 6 (by omega))) (part P xn 7 (by omega)))
    (part P xn 8 (by omega))) (part P xn 9 (by omega))) (part P xn 10 (by omega))

/-- The store of chunk `k`'s gate. -/
def piece (P : In F) (xn : FVec F S32x1024 .bf16) (k : ℕ) (h : k < 11) : View.Piece (Elt F) S32x2816 .f32 :=
  ⟨rG k h, proj xn (View.ld P.wg (rW k h))⟩

/-! ## The rows' normalisations -/

/-- One row's root mean square, over 1024 columns. -/
def rms1024 (y : FVec F S32x1024 .f32) (g : Vec F S1x1024 .f32) : FVec F S32x1024 .f32 :=
  mulf (mulf y (broadcastTo S32x1024 (rsqrt (addf (divf (shapeCast S32x1
      (multiReduction .add [1] S32 (mulf y y) 0x00000000#32 reduces_S32x1024_S32 (.inl rfl) rfl) shapeCasts_S32_S32x1)
      (broadcast S32x1 (Scalar.ofBits .f32 0x44800000#32))) (broadcast S32x1 (Scalar.ofBits .f32 0x358637BD#32))))
      broadcasts_S32x1_S32x1024))
    (broadcastTo S32x1024 (shapeCast S1x1024 g shapeCasts_S1x1024_S1x1024) broadcasts_S1x1024_S32x1024)

/-- The same over 512 columns. -/
def rms512 (y : FVec F S32x512 .f32) (g : Vec F S1x512 .f32) : FVec F S32x512 .f32 :=
  mulf (mulf y (broadcastTo S32x512 (rsqrt (addf (divf (shapeCast S32x1
      (multiReduction .add [1] S32 (mulf y y) 0x00000000#32 reduces_S32x512_S32 (.inl rfl) rfl) shapeCasts_S32_S32x1)
      (broadcast S32x1 (Scalar.ofBits .f32 0x44000000#32))) (broadcast S32x1 (Scalar.ofBits .f32 0x358637BD#32))))
      broadcasts_S32x1_S32x512))
    (broadcastTo S32x512 (shapeCast S1x512 g shapeCasts_S1x512_S1x512) broadcasts_S1x512_S32x512)

/-- The merged branches times half of the output weights. -/
def half (a : FVec F S32x512 .f32) (w : Vec F S512x1024 .bf16) : FVec F S32x1024 .f32 :=
  matmul dot_S32x512_S512x1024_S32x1024_1_0_0_1_n_n none (truncf .bf16 a bitsLt_bf16_f32)
    (shapeCast S512x1024 w shapeCasts_S512x1024_S512x1024) (constant S32x1024 .f32 0x00000000#32)

/-- The residual stream after the mixing branch. -/
def mix (P : In F) : FVec F S32x1024 .f32 :=
  addf (shapeCast S32x1024 (View.ld P.x (Rect.unit ![0, 0] S32x1024.size inb_S32x1024_S32x1024_0_0)) shapeCasts_S32x1024_S32x1024)
    (rms1024 (addf
      (half (rms512 (View.ld P.att (Rect.unit ![0, 0] S32x512.size inb_S32x512_S32x512_0_0))
        (View.ld P.ga (Rect.unit ![0, 0] S1x512.size inb_S1x512_S1x512_0_0)))
        (View.ld P.wo (Rect.unit ![0, 0] S512x1024.size inb_S1024x1024_S512x1024_0_0)))
      (half (rms512 (View.ld P.ssm (Rect.unit ![0, 0] S32x512.size inb_S32x512_S32x512_0_0))
        (View.ld P.gs (Rect.unit ![0, 0] S1x512.size inb_S1x512_S1x512_0_0)))
        (View.ld P.wo (Rect.unit ![512, 0] S512x1024.size inb_S1024x1024_S512x1024_512_0))))
      (View.ld P.gpm (Rect.unit ![0, 0] S1x1024.size inb_S1x1024_S1x1024_0_0)))

/-- Its normalisation, which the gated unit reads. -/
def norm (P : In F) : FVec F S32x1024 .bf16 :=
  truncf .bf16 (rms1024 (mix P) (View.ld P.g (Rect.unit ![0, 0] S1x1024.size inb_S1x1024_S1x1024_0_0))) bitsLt_bf16_f32

/-- The stored rows. -/
def fin (P : In F) : FVec F S32x1024 .f32 :=
  addf (mix P) (rms1024 (acc P (norm P)) (View.ld P.gpost (Rect.unit ![0, 0] S1x1024.size inb_S1x1024_S1x1024_0_0)))

/-- The stores to the gates' block, the last first. -/
def gates (P : In F) : List (View.Piece (Elt F) S32x2816 .f32) :=
  [piece P (norm P) 10 (by omega), piece P (norm P) 9 (by omega), piece P (norm P) 8 (by omega), piece P (norm P) 7 (by omega),
    piece P (norm P) 6 (by omega), piece P (norm P) 5 (by omega), piece P (norm P) 4 (by omega), piece P (norm P) 3 (by omega),
    piece P (norm P) 2 (by omega), piece P (norm P) 1 (by omega), piece P (norm P) 0 (by omega)]

/-! ## The kernel's stores are these -/

theorem out17_eq (x0 : Vec F S32x1024 .f32) (x1 : Vec F S32x512 .f32) (x2 : Vec F S32x512 .f32) (x3 : Vec F S1x512 .f32) (x4 : Vec F S1x512 .f32) (x5 : Vec F S1024x1024 .bf16) (x6 : Vec F S1x1024 .f32) (x7 : Vec F S1x1024 .f32) (x8 : Vec F S1024x2816 .bf16) (x9 : Vec F S1024x2816 .bf16) (x10 : Vec F S3x2816 .f32) (x11 : Vec F S1x2816 .f32) (x12 : Vec F S2816x1024 .bf16) (x13 : Vec F S1x1024 .f32) (x14 : Vec F S32x2816 .f32) (x15 : Vec F S32x2816 .f32) :
    out0_17 x0 x1 x2 x3 x4 x5 x6 x7 x8 x9 x10 x11 x12 x13 x14 x15 = View.canon (gates ⟨x0, x1, x2, x3, x4, x5, x6, x7, x8, x9, x10, x11, x12, x13, x14, x15⟩) := by
  sl_kernel_rfl

theorem out16_eq (x0 : Vec F S32x1024 .f32) (x1 : Vec F S32x512 .f32) (x2 : Vec F S32x512 .f32) (x3 : Vec F S1x512 .f32) (x4 : Vec F S1x512 .f32) (x5 : Vec F S1024x1024 .bf16) (x6 : Vec F S1x1024 .f32) (x7 : Vec F S1x1024 .f32) (x8 : Vec F S1024x2816 .bf16) (x9 : Vec F S1024x2816 .bf16) (x10 : Vec F S3x2816 .f32) (x11 : Vec F S1x2816 .f32) (x12 : Vec F S2816x1024 .bf16) (x13 : Vec F S1x1024 .f32) (x14 : Vec F S32x2816 .f32) (x15 : Vec F S32x2816 .f32) :
    out0_16 x0 x1 x2 x3 x4 x5 x6 x7 x8 x9 x10 x11 x12 x13 x14 x15 = View.canon [⟨Rect.unit ![0, 0] S32x1024.size inb_S32x1024_S32x1024_0_0, fin ⟨x0, x1, x2, x3, x4, x5, x6, x7, x8, x9, x10, x11, x12, x13, x14, x15⟩⟩] := by
  sl_kernel_rfl

end Cert.StepTailIdeal.Body
-- ==== Proof.StepTail.Apply.lean ====
/- The sample's row functions read at an index, over the extended reals. -/
module

public import proofs.«01_k».proof.Proof.StepTail.Body
public import proofs.«01_k».proof.Proof.Tail.Rows
public import Idealize.ShloMosaic.Lib.ValueIdxCore
public import Idealize.ShloMosaic.Lib.MatmulPlain
public import Idealize.ShloMosaic.PureOps.Ideal.Laws

@[expose] public section

set_option maxRecDepth 16384

noncomputable section

namespace Cert.StepTailIdeal.Body

open Idealize.ShloMosaic Idealize.SL.Sem Cert.StepTailIdeal Cert.StepTailIdeal.Gen
open Idealize.ShloMosaic.ValueIdx TailRows
open scoped BigOperators

theorem proj_apply (xn : FVec Ideal S32x1024 .bf16) (w : Vec Ideal S1024x256 .bf16) (i : Fin 32) (q : Fin 256) :
    proj xn w (ix2 i q) = ∑ k : Fin 1024, (xn (ix2 i k) : EReal) * w (ix2 k q) := by
  unfold proj
  rw [shapeCast_self]
  refine (Ideal.matmul_plain_apply none xn w (constant S32x256 .f32 0x00000000#32) i q).trans ?_
  rw [show (constant S32x256 .f32 0x00000000#32 : FVec Ideal S32x256 .f32) (ix2 i q) = (0 : EReal) from Ideal.ofBits_zero_f32, zero_add]

theorem down_apply (h : FVec Ideal S32x256 .bf16) (w : Vec Ideal S256x1024 .bf16) (i : Fin 32) (j : Fin 1024) :
    down h w (ix2 i j) = ∑ q : Fin 256, (h (ix2 i q) : EReal) * w (ix2 q j) := by
  unfold down
  rw [shapeCast_self]
  refine (Ideal.matmul_plain_apply none h w (constant S32x1024 .f32 0x00000000#32) i j).trans ?_
  rw [show (constant S32x1024 .f32 0x00000000#32 : FVec Ideal S32x1024 .f32) (ix2 i j) = (0 : EReal) from Ideal.ofBits_zero_f32, zero_add]

theorem half_apply (a : FVec Ideal S32x512 .f32) (w : Vec Ideal S512x1024 .bf16) (i : Fin 32) (j : Fin 1024) :
    half a w (ix2 i j) = ∑ q : Fin 512, (a (ix2 i q) : EReal) * w (ix2 q j) := by
  unfold half
  rw [shapeCast_self]
  refine (Ideal.matmul_plain_apply none (truncf .bf16 a bitsLt_bf16_f32) w (constant S32x1024 .f32 0x00000000#32) i j).trans ?_
  rw [show (constant S32x1024 .f32 0x00000000#32 : FVec Ideal S32x1024 .f32) (ix2 i j) = (0 : EReal) from Ideal.ofBits_zero_f32, zero_add]
  rfl

theorem rms1024_apply (y : FVec Ideal S32x1024 .f32) (g : Vec Ideal S1x1024 .f32) (i : Fin 32) (j : Fin 1024) :
    rms1024 y g (ix2 i j) = rms c1024 (fun k => y (ix2 i k)) (fun k => g (ix2 0 k)) j := by
  unfold rms1024
  rw [shapeCast_self]
  refine congrArg₂ (fun a b : EReal => y (ix2 i j) * a * b)
    ((broadcastTo_apply _ _ _ (ix2 i 0) (fun a => match a with | ⟨0, _⟩ => rfl | ⟨1, _⟩ => rfl)).trans ?_)
    (broadcastTo_apply _ _ _ (ix2 0 j) (fun a => match a with | ⟨0, _⟩ => rfl | ⟨1, _⟩ => rfl))
  refine congrArg (fun a : EReal => Ideal.rsqrt (Ideal.div a c1024 + cEps)) ?_
  refine (shapeCast_apply _ _ (ix2 i (0 : Fin 1)) (ix1 i) ?_).trans ?_
  · rw [Shape.rowMajor_val_one, Shape.rowMajor_val_two]; show i.val = i.val * 1 + 0; omega
  · refine (Ideal.multiReduction_add_single _ _ _ _ _ _).trans ?_
    refine Finset.sum_congr rfl fun k _ => ?_
    have e : reduces_S32x1024_S32.lift (ix1 i) k = ix2 i k := by
      funext a; match a with | ⟨0, _⟩ => rfl | ⟨1, _⟩ => rfl
    show (y _ : EReal) * y _ = _
    rw [e]
    rfl

theorem rms512_apply (y : FVec Ideal S32x512 .f32) (g : Vec Ideal S1x512 .f32) (i : Fin 32) (j : Fin 512) :
    rms512 y g (ix2 i j) = rms c512 (fun k => y (ix2 i k)) (fun k => g (ix2 0 k)) j := by
  unfold rms512
  rw [shapeCast_self]
  refine congrArg₂ (fun a b : EReal => y (ix2 i j) * a * b)
    ((broadcastTo_apply _ _ _ (ix2 i 0) (fun a => match a with | ⟨0, _⟩ => rfl | ⟨1, _⟩ => rfl)).trans ?_)
    (broadcastTo_apply _ _ _ (ix2 0 j) (fun a => match a with | ⟨0, _⟩ => rfl | ⟨1, _⟩ => rfl))
  refine congrArg (fun a : EReal => Ideal.rsqrt (Ideal.div a c512 + cEps)) ?_
  refine (shapeCast_apply _ _ (ix2 i (0 : Fin 1)) (ix1 i) ?_).trans ?_
  · rw [Shape.rowMajor_val_one, Shape.rowMajor_val_two]; show i.val = i.val * 1 + 0; omega
  · refine (Ideal.multiReduction_add_single _ _ _ _ _ _).trans ?_
    refine Finset.sum_congr rfl fun k _ => ?_
    have e : reduces_S32x512_S32.lift (ix1 i) k = ix2 i k := by
      funext a; match a with | ⟨0, _⟩ => rfl | ⟨1, _⟩ => rfl
    show (y _ : EReal) * y _ = _
    rw [e]
    rfl

theorem conv_apply (gate g1 g2 : FVec Ideal S32x256 .f32) (cb w0 w1 w2 : Vec Ideal S1x256 .f32) (i : Fin 32) (q : Fin 256) :
    conv gate g1 g2 cb w0 w1 w2 (ix2 i q) = (cb (ix2 0 q) : EReal) + g2 (ix2 i q) * w0 (ix2 0 q) + g1 (ix2 i q) * w1 (ix2 0 q)
      + gate (ix2 i q) * w2 (ix2 0 q) := by
  unfold conv
  simp only [shapeCast_self]
  have b : ∀ w : Vec Ideal S1x256 .f32, broadcastTo S32x256 w broadcasts_S1x256_S32x256 (ix2 i q) = w (ix2 0 q) := fun w =>
    broadcastTo_apply _ _ _ (ix2 0 q) (fun a => match a with | ⟨0, _⟩ => rfl | ⟨1, _⟩ => rfl)
  show ((broadcastTo S32x256 cb broadcasts_S1x256_S32x256 (ix2 i q) : EReal)
    + g2 (ix2 i q) * broadcastTo S32x256 w0 broadcasts_S1x256_S32x256 (ix2 i q)
    + g1 (ix2 i q) * broadcastTo S32x256 w1 broadcasts_S1x256_S32x256 (ix2 i q)
    + gate (ix2 i q) * broadcastTo S32x256 w2 broadcasts_S1x256_S32x256 (ix2 i q)) = _
  rw [b, b, b, b]

theorem hid_apply (c u : FVec Ideal S32x256 .f32) (j : S32x256.Idx) :
    hid c u j = gelu (c j) * (u j : EReal) := rfl

end Cert.StepTailIdeal.Body
-- ==== Proof.StepTail.Point.lean ====
/- The sample's tail over the extended reals: what the kernel's stores leave in its two result blocks, by rows of the layer. -/
module

public import proofs.«01_k».proof.Proof.StepTail.Apply
public import Idealize.ShloMosaic.Lib.Pipeline.ValueKit.Tiles

@[expose] public section

set_option maxRecDepth 16384

noncomputable section

namespace Cert.StepTailIdeal.Body

open Idealize.ShloMosaic Idealize.SL.Sem Cert.StepTailIdeal Cert.StepTailIdeal.Gen
open Idealize.ShloMosaic.ValueIdx TailRows
open scoped BigOperators

/-- The weights the blocks hold. -/
def In.W (P : In Ideal) : Weights where
  ga k := P.ga (ix2 0 k)
  gs k := P.gs (ix2 0 k)
  wo k j := P.wo (ix2 k j)
  gpm k := P.gpm (ix2 0 k)
  g k := P.g (ix2 0 k)
  wg k f := P.wg (ix2 k f)
  wu k f := P.wu (ix2 k f)
  cw q f := P.cw (ix2 q f)
  cb f := P.cb (ix2 0 f)
  wd f j := P.wd (ix2 f j)
  gpost k := P.gpost (ix2 0 k)

variable (P : In Ideal)

/-- The residual row `n` after the mixing branch. -/
def In.row (n : Fin 32) : Fin 1024 → EReal :=
  TailRows.mix P.W (fun k => P.x (ix2 n k)) (fun k => P.att (ix2 n k)) (fun k => P.ssm (ix2 n k))

/-! ## The blocks read through their rectangles -/

theorem wg_apply (k : ℕ) (hk : k < 11) (c : Fin 1024) (q : Fin 256) : View.ld P.wg (rW k hk) (ix2 c q) = P.W.wg c ⟨256 * k + q.val, by omega⟩ :=
  View.ld_unit_apply_of _ _ _ _ _ (ix2 c ⟨256 * k + q.val, by omega⟩ : S1024x2816.Idx) fun a => match a with | ⟨0, _⟩ => (Nat.zero_add _).symm | ⟨1, _⟩ => rfl
theorem wu_apply (k : ℕ) (hk : k < 11) (c : Fin 1024) (q : Fin 256) : View.ld P.wu (rW k hk) (ix2 c q) = P.W.wu c ⟨256 * k + q.val, by omega⟩ :=
  View.ld_unit_apply_of _ _ _ _ _ (ix2 c ⟨256 * k + q.val, by omega⟩ : S1024x2816.Idx) fun a => match a with | ⟨0, _⟩ => (Nat.zero_add _).symm | ⟨1, _⟩ => rfl
theorem wd_apply (k : ℕ) (hk : k < 11) (q : Fin 256) (j : Fin 1024) : View.ld P.wd (rD k hk) (ix2 q j) = P.W.wd ⟨256 * k + q.val, by omega⟩ j :=
  View.ld_unit_apply_of _ _ _ _ _ (ix2 ⟨256 * k + q.val, by omega⟩ j : S2816x1024.Idx) fun a => match a with | ⟨0, _⟩ => rfl | ⟨1, _⟩ => (Nat.zero_add _).symm
theorem cb_apply (k : ℕ) (hk : k < 11) (q : Fin 256) : View.ld P.cb (rB k hk) (ix2 0 q) = P.W.cb ⟨256 * k + q.val, by omega⟩ :=
  View.ld_unit_apply_of _ _ _ _ _ (ix2 0 ⟨256 * k + q.val, by omega⟩ : S1x2816.Idx) fun a => match a with | ⟨0, _⟩ => rfl | ⟨1, _⟩ => rfl
theorem cw_apply (p k : ℕ) (hp : p < 3) (hk : k < 11) (q : Fin 256) : View.ld P.cw (rC p k hp hk) (ix2 0 q) = P.W.cw ⟨p, hp⟩ ⟨256 * k + q.val, by omega⟩ :=
  View.ld_unit_apply_of _ _ _ _ _ (ix2 ⟨p, hp⟩ ⟨256 * k + q.val, by omega⟩ : S3x2816.Idx) fun a => match a with | ⟨0, _⟩ => rfl | ⟨1, _⟩ => rfl
theorem prev_apply (x : Vec Ideal S32x2816 .f32) (k : ℕ) (hk : k < 11) (i : Fin 32) (q : Fin 256) :
    shapeCast S32x256 (View.ld x (rG k hk)) shapeCasts_S32x256_S32x256 (ix2 i q) = x (ix2 i ⟨256 * k + q.val, by omega⟩) :=
  (congrFun (shapeCast_self _ _) _).trans <| View.ld_unit_apply_of _ _ _ _ _ (ix2 i ⟨256 * k + q.val, by omega⟩ : S32x2816.Idx) fun a => match a with | ⟨0, _⟩ => (Nat.zero_add _).symm | ⟨1, _⟩ => rfl
theorem x_ld (i : Fin 32) (k : Fin 1024) : View.ld P.x (Rect.unit ![0, 0] S32x1024.size inb_S32x1024_S32x1024_0_0) (ix2 i k) = P.x (ix2 i k) :=
  View.ld_unit_apply_of _ _ _ _ _ (ix2 i k : S32x1024.Idx) fun a => match a with | ⟨0, _⟩ => (Nat.zero_add _).symm | ⟨1, _⟩ => (Nat.zero_add _).symm
theorem rows512_ld (x : Vec Ideal S32x512 .f32) (i : Fin 32) (k : Fin 512) : View.ld (Val := Elt Ideal) (e' := .f32) x (Rect.unit ![0, 0] S32x512.size inb_S32x512_S32x512_0_0) (ix2 i k) = x (ix2 i k) :=
  View.ld_unit_apply_of _ _ _ _ _ (ix2 i k : S32x512.Idx) fun a => match a with | ⟨0, _⟩ => (Nat.zero_add _).symm | ⟨1, _⟩ => (Nat.zero_add _).symm
theorem row512_ld (x : Vec Ideal S1x512 .f32) (k : Fin 512) :
    View.ld (Val := Elt Ideal) (e' := .f32) x (Rect.unit ![0, 0] S1x512.size inb_S1x512_S1x512_0_0) (ix2 0 k) = x (ix2 0 k) :=
  View.ld_unit_apply_of _ _ _ _ _ (ix2 0 k : S1x512.Idx) fun a => match a with | ⟨0, _⟩ => rfl | ⟨1, _⟩ => (Nat.zero_add _).symm
theorem row1024_ld (x : Vec Ideal S1x1024 .f32) (k : Fin 1024) :
    View.ld (Val := Elt Ideal) (e' := .f32) x (Rect.unit ![0, 0] S1x1024.size inb_S1x1024_S1x1024_0_0) (ix2 0 k) = x (ix2 0 k) :=
  View.ld_unit_apply_of _ _ _ _ _ (ix2 0 k : S1x1024.Idx) fun a => match a with | ⟨0, _⟩ => rfl | ⟨1, _⟩ => (Nat.zero_add _).symm
theorem wo0_ld (k : Fin 512) (j : Fin 1024) :
    View.ld P.wo (Rect.unit ![0, 0] S512x1024.size inb_S1024x1024_S512x1024_0_0) (ix2 k j) = P.wo (ix2 ⟨k.val, by omega⟩ j) :=
  View.ld_unit_apply_of _ _ _ _ _ (ix2 ⟨k.val, by omega⟩ j : S1024x1024.Idx) fun a => match a with | ⟨0, _⟩ => (Nat.zero_add _).symm | ⟨1, _⟩ => (Nat.zero_add _).symm
theorem wo1_ld (k : Fin 512) (j : Fin 1024) :
    View.ld P.wo (Rect.unit ![512, 0] S512x1024.size inb_S1024x1024_S512x1024_512_0) (ix2 k j) = P.wo (ix2 ⟨512 + k.val, by omega⟩ j) :=
  View.ld_unit_apply_of _ _ _ _ _ (ix2 ⟨512 + k.val, by omega⟩ j : S1024x1024.Idx) fun a => match a with | ⟨0, _⟩ => rfl | ⟨1, _⟩ => (Nat.zero_add _).symm

/-! ## The rows -/

theorem mix_apply (i : Fin 32) (j : Fin 1024) : mix P (ix2 i j) = P.row i j := by
  have m (x y u v : EReal) (h : x = y) (h' : u = v) : x * u = y * v := congrArg₂ (fun a b : EReal => a * b) h h'
  refine congrArg₂ (fun a b : EReal => a + b) ((congrFun (shapeCast_self _ _) _).trans (x_ld P i j)) ?_
  refine (rms1024_apply _ _ i j).trans ?_
  refine congrArg₂ (fun v g => rms c1024 v g j) (funext fun k => ?_) (funext fun k => row1024_ld P.gpm k)
  refine congrArg₂ (fun a b : EReal => a + b) ((half_apply _ _ i k).trans (Finset.sum_congr rfl fun q _ => ?_))
    ((half_apply _ _ i k).trans (Finset.sum_congr rfl fun q _ => ?_))
  · refine m _ _ _ _ ((rms512_apply _ _ i q).trans ?_) (wo0_ld P q k)
    exact congrArg₂ (fun v g => rms c512 v g q) (funext fun k => rows512_ld P.att i k) (funext fun k => row512_ld P.ga k)
  · refine m _ _ _ _ ((rms512_apply _ _ i q).trans ?_) (wo1_ld P q k)
    exact congrArg₂ (fun v g => rms c512 v g q) (funext fun k => rows512_ld P.ssm i k) (funext fun k => row512_ld P.gs k)

theorem norm_apply (i : Fin 32) (k : Fin 1024) : norm P (ix2 i k) = rms c1024 (P.row i) P.W.g k :=
  (rms1024_apply _ _ i k).trans (congrArg₂ (fun v g => rms c1024 v g k) (funext fun q => mix_apply P i q) (funext fun q => row1024_ld P.g q))

theorem gate_apply (k : ℕ) (hk : k < 11) (i : Fin 32) (q : Fin 256) :
    proj (norm P) (View.ld P.wg (rW k hk)) (ix2 i q) = gate P.W (P.row i) ⟨256 * k + q.val, by omega⟩ := by
  refine (proj_apply (norm P) _ i q).trans (Finset.sum_congr rfl fun c _ => ?_)
  exact congrArg₂ (fun a b : EReal => a * b) (norm_apply P i c) (wg_apply P k hk c q)

theorem up_apply (k : ℕ) (hk : k < 11) (i : Fin 32) (q : Fin 256) :
    proj (norm P) (View.ld P.wu (rW k hk)) (ix2 i q) = up P.W (P.row i) ⟨256 * k + q.val, by omega⟩ := by
  refine (proj_apply (norm P) _ i q).trans (Finset.sum_congr rfl fun c _ => ?_)
  exact congrArg₂ (fun a b : EReal => a * b) (norm_apply P i c) (wu_apply P k hk c q)

/-- The gated unit of a chunk is the rows' gated unit at the chunk's columns. -/
theorem unit_apply (k : ℕ) (hk : k < 11) (i : Fin 32) (q : Fin 256) :
    unit P (norm P) k hk (ix2 i q)
      = TailRows.hid P.W (P.row i) (fun f => P.p1 (ix2 i f)) (fun f => P.p0 (ix2 i f)) ⟨256 * k + q.val, by omega⟩ := by
  unfold unit
  have a (x y u v : EReal) (h : x = y) (h' : u = v) : x + u = y + v := congrArg₂ (fun a b : EReal => a + b) h h'
  have m (x y u v : EReal) (h : x = y) (h' : u = v) : x * u = y * v := congrArg₂ (fun a b : EReal => a * b) h h'
  refine congrArg₂ (fun a b : EReal => gelu a * b) ((conv_apply _ _ _ _ _ _ _ i q).trans ?_) (up_apply P k hk i q)
  exact a _ _ _ _ (a _ _ _ _ (a _ _ _ _ (cb_apply P k hk q)
    (m _ _ _ _ (prev_apply P.p0 k hk i q) (cw_apply P 0 k _ hk q)))
    (m _ _ _ _ (prev_apply P.p1 k hk i q) (cw_apply P 1 k _ hk q)))
    (m _ _ _ _ (gate_apply P k hk i q) (cw_apply P 2 k _ hk q))

theorem part_apply (k : ℕ) (hk : k < 11) (i : Fin 32) (j : Fin 1024) :
    part P (norm P) k hk (ix2 i j) = ∑ q : Fin 256,
      TailRows.hid P.W (P.row i) (fun f => P.p1 (ix2 i f)) (fun f => P.p0 (ix2 i f)) ⟨256 * k + q.val, by omega⟩ * P.W.wd ⟨256 * k + q.val, by omega⟩ j := by
  refine (down_apply _ _ i j).trans (Finset.sum_congr rfl fun q _ => ?_)
  exact congrArg₂ (fun a b : EReal => a * b) (unit_apply P k hk i q) (wd_apply P k hk q j)

theorem acc_apply (i : Fin 32) (j : Fin 1024) :
    acc P (norm P) (ix2 i j) = ∑ f, TailRows.hid P.W (P.row i) (fun f => P.p1 (ix2 i f)) (fun f => P.p0 (ix2 i f)) f * P.W.wd f j :=
  (sum_chunks (fun f => TailRows.hid P.W (P.row i) (fun f => P.p1 (ix2 i f)) (fun f => P.p0 (ix2 i f)) f * P.W.wd f j)
    (fun k hk => part P (norm P) k hk (ix2 i j)) (fun k hk => part_apply P k hk i j)).symm

/-- The rows the kernel stores are the layer's. -/
theorem fin_apply (i : Fin 32) (j : Fin 1024) :
    fin P (ix2 i j) = TailRows.out P.W (P.row i) (fun f => P.p1 (ix2 i f)) (fun f => P.p0 (ix2 i f)) j := by
  refine congrArg₂ (fun a b : EReal => a + b) (mix_apply P i j) ?_
  refine (rms1024_apply _ _ i j).trans ?_
  exact congrArg₂ (fun v g => rms c1024 v g j) (funext fun k => acc_apply P i k) (funext fun k => row1024_ld P.gpost k)

/-- The rows' gates as an array. -/
def In.gateRows : S32x2816.Idx → Elt Ideal .f32 := fun y => gate P.W (P.row (y 0)) (y 1)

/-- A chunk's piece is a block of the rows' gates. -/
theorem piece_apply (k : ℕ) (hk : k < 11) (x : S32x256.Idx) :
    proj (norm P) (View.ld P.wg (rW k hk)) x
      = P.gateRows ((rG k hk).emb x) := by
  obtain ⟨i, q, rfl⟩ : ∃ (i : Fin 32) (q : Fin 256), x = ix2 i q := ⟨_, _, eq_ix2 x⟩
  have e : (rG k hk).emb (ix2 i q : Shape.Idx _) = (ix2 i ⟨256 * k + q.val, by omega⟩ : S32x2816.Idx) := by
    funext a; match a with
    | ⟨0, _⟩ => exact Fin.ext ((Rect.idx_unit_val _ _ _ _ 0).trans (Nat.zero_add _))
    | ⟨1, _⟩ => exact Fin.ext (Rect.idx_unit_val _ _ _ _ 1)
  exact (gate_apply P k hk i q).trans (congrArg P.gateRows e).symm

theorem mem_piece (k : ℕ) (hk : k < 11) (i : Fin 32) (f : Fin 2816) (h : f.val / 256 = k) : (ix2 i f : S32x2816.Idx) ∈ (rG k hk).set :=
  (Rect.mem_set_unit (inb := inb_g k hk)).mpr fun a => match a with
    | ⟨0, _⟩ => by show 0 ≤ i.val ∧ i.val < 0 + 32; omega
    | ⟨1, _⟩ => by show 256 * k ≤ f.val ∧ f.val < 256 * k + 256; omega

/-- The gates' block holds the rows' gates. -/
theorem gates_apply (i : Fin 32) (f : Fin 2816) : View.canon (gates P) (ix2 i f : S32x2816.Idx) = gate P.W (P.row i) f := by
  refine View.canon_apply_of_pieces P.gateRows (gates P)
    (View.PiecesOf.mem (G := P.gateRows) (L := gates P) ⟨piece_apply P 10 _, piece_apply P 9 _, piece_apply P 8 _, piece_apply P 7 _, piece_apply P 6 _, piece_apply P 5 _,
      piece_apply P 4 _, piece_apply P 3 _, piece_apply P 2 _, piece_apply P 1 _, piece_apply P 0 _, trivial⟩) _ ?_
  have m (k : ℕ) (hk : k < 11) (h : f.val / 256 = k) (hm : piece P (norm P) k hk ∈ gates P) :
      ∃ p ∈ gates P, (ix2 i f : S32x2816.Idx) ∈ p.1.set := ⟨_, hm, mem_piece k hk i f h⟩
  have hf : f.val / 256 < 11 := by omega
  obtain h | h | h | h | h | h | h | h | h | h | h : f.val / 256 = 10 ∨ f.val / 256 = 9 ∨ f.val / 256 = 8 ∨ f.val / 256 = 7 ∨ f.val / 256 = 6
    ∨ f.val / 256 = 5 ∨ f.val / 256 = 4 ∨ f.val / 256 = 3 ∨ f.val / 256 = 2 ∨ f.val / 256 = 1 ∨ f.val / 256 = 0 := by omega
  · exact m 10 (by omega) h (by simp [gates])
  · exact m 9 (by omega) h (by simp [gates])
  · exact m 8 (by omega) h (by simp [gates])
  · exact m 7 (by omega) h (by simp [gates])
  · exact m 6 (by omega) h (by simp [gates])
  · exact m 5 (by omega) h (by simp [gates])
  · exact m 4 (by omega) h (by simp [gates])
  · exact m 3 (by omega) h (by simp [gates])
  · exact m 2 (by omega) h (by simp [gates])
  · exact m 1 (by omega) h (by simp [gates])
  · exact m 0 (by omega) h (by simp [gates])

end Cert.StepTailIdeal.Body
-- ==== Proof.StepTail.Entry.lean ====
/- The sample's tail kernel's input blocks, read at an index, as elements of the program's arguments. -/
module

public import proofs.«01_k».proof.Proof.Gen.StepTailIdeal.Frame
public import Idealize.ShloMosaic.PureOps.Ideal
public import Idealize.ShloMosaic.Lib.Claim
public import Idealize.ShloMosaic.Lib.ValueIdxCore
public import Idealize.ShloMosaic.Lib.Pipeline.ValueKit.Geometry

@[expose] public section

set_option maxRecDepth 16384

noncomputable section

namespace Cert.StepTailIdeal.Entry

open Idealize.ShloMosaic Idealize.ShloMosaic.TcCoe Idealize.SL.Sem Cert.StepTailIdeal Cert.StepTailIdeal.Gen
open Idealize.ShloMosaic.ValueIdx

variable (m : (ℓ : Loc nD τ sig) → Buf (Elt Ideal) ℓ) (c : Dev nD)

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)

/-! The rows. -/

theorem iblk0 (t : Fin cfg0.N) (i : Fin 32) (j : Fin 1024) : iblk m c 0 t (ix2 i j) = m ((c : Thread nD τ).loc main_arg0) (ix3 i 0 j) := by
  have e := idx0 t
  have e0 : (((cfg0.win 0).blk t).view.emb (ix2 i j)) = (ix2 i j : S32x1024.Idx) := by
    refine Shape.idx_ext₂ ?_ ?_
    · blk_simp [e.1]
    · blk_simp [e.2]
  unfold iblk
  rw [View.read_apply, cast_eq]
  entry_read
  refine (congrArg _ e0).trans (shapeCast_apply _ shapeCasts_S32x1x1024_S32x1024 (ix2 i j : S32x1024.Idx) (ix3 i 0 j) ?_)
  rw [Shape.rowMajor_val_two, Shape.rowMajor_val_three]
  show (i.val * 1 + 0) * 1024 + j.val = i.val * 1024 + j.val
  omega

theorem iblk1 (t : Fin cfg0.N) (i : Fin 32) (j : Fin 512) : iblk m c 1 t (ix2 i j) = m ((c : Thread nD τ).loc main_arg1) (ix2 i j) := by
  have e := idx1 t
  unfold iblk
  rw [View.read_apply, cast_eq]
  entry_read
  refine congrArg _ (Shape.idx_ext₂ ?_ ?_)
  · blk_simp [e.1]
  · blk_simp [e.2]

theorem iblk2 (t : Fin cfg0.N) (i : Fin 32) (j : Fin 512) : iblk m c 2 t (ix2 i j) = m ((c : Thread nD τ).loc main_arg2) (ix2 i j) := by
  have e := idx2 t
  unfold iblk
  rw [View.read_apply, cast_eq]
  entry_read
  refine congrArg _ (Shape.idx_ext₂ ?_ ?_)
  · blk_simp [e.1]
  · blk_simp [e.2]

/-- The older stored gate rows. -/
theorem iblk14 (t : Fin cfg0.N) (i : Fin 32) (j : Fin 2816) : iblk m c 14 t (ix2 i j) = m ((c : Thread nD τ).loc main_arg3) (ix4 0 i 0 j) := by
  have e := idx14 t
  have e0 : (((cfg0.win 14).blk t).view.emb (ix2 i j)) = (ix2 i j : S32x2816.Idx) := by
    refine Shape.idx_ext₂ ?_ ?_
    · blk_simp [e.1]
    · blk_simp [e.2]
  unfold iblk
  rw [View.read_apply, cast_eq]
  entry_read
  refine (congrArg _ e0).trans ((shapeCast_apply _ shapeCasts_S32x1x2816_S32x2816 (ix2 i j : S32x2816.Idx) (ix3 i 0 j) ?_).trans
    ((extractStridedSlice_apply _ _ _ (ix3 i 0 j) (ix3 i 0 j) fun a => match a with
      | ⟨0, _⟩ => (Nat.zero_add _).symm | ⟨1, _⟩ => rfl | ⟨2, _⟩ => (Nat.zero_add _).symm).trans
    (shapeCast_apply _ shapeCasts_S1x32x2x2816_S32x2x2816 (ix3 i 0 j) (ix4 0 i 0 j) ?_)))
  · rw [Shape.rowMajor_val_two, Shape.rowMajor_val_three]
    show (i.val * 1 + 0) * 2816 + j.val = i.val * 2816 + j.val
    omega
  · rw [Shape.rowMajor_val_three, Shape.rowMajor_val_four]
    show ((0 * 32 + i.val) * 2 + 0) * 2816 + j.val = (i.val * 2 + 0) * 2816 + j.val
    omega

/-- The newer stored gate rows. -/
theorem iblk15 (t : Fin cfg0.N) (i : Fin 32) (j : Fin 2816) : iblk m c 15 t (ix2 i j) = m ((c : Thread nD τ).loc main_arg3) (ix4 0 i 1 j) := by
  have e := idx15 t
  have e0 : (((cfg0.win 15).blk t).view.emb (ix2 i j)) = (ix2 i j : S32x2816.Idx) := by
    refine Shape.idx_ext₂ ?_ ?_
    · blk_simp [e.1]
    · blk_simp [e.2]
  unfold iblk
  rw [View.read_apply, cast_eq]
  entry_read
  refine (congrArg _ e0).trans ((shapeCast_apply _ shapeCasts_S32x1x2816_S32x2816 (ix2 i j : S32x2816.Idx) (ix3 i 0 j) ?_).trans
    ((extractStridedSlice_apply _ _ _ (ix3 i 0 j) (ix3 i 1 j) fun a => match a with
      | ⟨0, _⟩ => (Nat.zero_add _).symm | ⟨1, _⟩ => rfl | ⟨2, _⟩ => (Nat.zero_add _).symm).trans
    (shapeCast_apply _ shapeCasts_S1x32x2x2816_S32x2x2816 (ix3 i 1 j) (ix4 0 i 1 j) ?_)))
  · rw [Shape.rowMajor_val_two, Shape.rowMajor_val_three]
    show (i.val * 1 + 0) * 2816 + j.val = i.val * 2816 + j.val
    omega
  · rw [Shape.rowMajor_val_three, Shape.rowMajor_val_four]
    show ((0 * 32 + i.val) * 2 + 1) * 2816 + j.val = (i.val * 2 + 1) * 2816 + j.val
    omega

/-! The weights. -/

theorem iblk3 (t : Fin cfg0.N) (j : Fin 512) : iblk m c 3 t (ix2 0 j) = m ((c : Thread nD τ).loc main_arg4) (ix2 0 j) := by
  have e := idx3 t
  have e0 : (((cfg0.win 3).blk t).view.emb (ix2 0 j)) = (ix2 0 j : S1x512.Idx) := by
    refine Shape.idx_ext₂ ?_ ?_
    · blk_simp [e.1]
    · blk_simp [e.2]
  unfold iblk
  rw [View.read_apply, cast_eq]
  entry_read
  refine (congrArg _ e0).trans ((shapeCast_apply _ _ (ix2 0 j : S1x512.Idx) (ix1 j) ?_).trans (shapeCast_apply _ _ (ix1 j) (ix2 0 j) ?_))
  all_goals
    rw [Shape.rowMajor_val_one, Shape.rowMajor_val_two]
  · show j.val = 0 * 512 + j.val; omega
  · show 0 * 512 + j.val = j.val; omega

theorem iblk4 (t : Fin cfg0.N) (j : Fin 512) : iblk m c 4 t (ix2 0 j) = m ((c : Thread nD τ).loc main_arg5) (ix2 0 j) := by
  have e := idx4 t
  have e0 : (((cfg0.win 4).blk t).view.emb (ix2 0 j)) = (ix2 0 j : S1x512.Idx) := by
    refine Shape.idx_ext₂ ?_ ?_
    · blk_simp [e.1]
    · blk_simp [e.2]
  unfold iblk
  rw [View.read_apply, cast_eq]
  entry_read
  refine (congrArg _ e0).trans ((shapeCast_apply _ _ (ix2 0 j : S1x512.Idx) (ix1 j) ?_).trans (shapeCast_apply _ _ (ix1 j) (ix2 0 j) ?_))
  all_goals
    rw [Shape.rowMajor_val_one, Shape.rowMajor_val_two]
  · show j.val = 0 * 512 + j.val; omega
  · show 0 * 512 + j.val = j.val; omega

theorem iblk6 (t : Fin cfg0.N) (j : Fin 1024) : iblk m c 6 t (ix2 0 j) = m ((c : Thread nD τ).loc main_arg7) (ix2 0 j) := by
  have e := idx6 t
  have e0 : (((cfg0.win 6).blk t).view.emb (ix2 0 j)) = (ix2 0 j : S1x1024.Idx) := by
    refine Shape.idx_ext₂ ?_ ?_
    · blk_simp [e.1]
    · blk_simp [e.2]
  unfold iblk
  rw [View.read_apply, cast_eq]
  entry_read
  refine (congrArg _ e0).trans ((shapeCast_apply _ _ (ix2 0 j : S1x1024.Idx) (ix1 j) ?_).trans (shapeCast_apply _ _ (ix1 j) (ix2 0 j) ?_))
  all_goals
    rw [Shape.rowMajor_val_one, Shape.rowMajor_val_two]
  · show j.val = 0 * 1024 + j.val; omega
  · show 0 * 1024 + j.val = j.val; omega

theorem iblk7 (t : Fin cfg0.N) (j : Fin 1024) : iblk m c 7 t (ix2 0 j) = m ((c : Thread nD τ).loc main_arg8) (ix2 0 j) := by
  have e := idx7 t
  have e0 : (((cfg0.win 7).blk t).view.emb (ix2 0 j)) = (ix2 0 j : S1x1024.Idx) := by
    refine Shape.idx_ext₂ ?_ ?_
    · blk_simp [e.1]
    · blk_simp [e.2]
  unfold iblk
  rw [View.read_apply, cast_eq]
  entry_read
  refine (congrArg _ e0).trans ((shapeCast_apply _ _ (ix2 0 j : S1x1024.Idx) (ix1 j) ?_).trans (shapeCast_apply _ _ (ix1 j) (ix2 0 j) ?_))
  all_goals
    rw [Shape.rowMajor_val_one, Shape.rowMajor_val_two]
  · show j.val = 0 * 1024 + j.val; omega
  · show 0 * 1024 + j.val = j.val; omega

theorem iblk11 (t : Fin cfg0.N) (j : Fin 2816) : iblk m c 11 t (ix2 0 j) = m ((c : Thread nD τ).loc main_arg12) (ix2 0 j) := by
  have e := idx11 t
  have e0 : (((cfg0.win 11).blk t).view.emb (ix2 0 j)) = (ix2 0 j : S1x2816.Idx) := by
    refine Shape.idx_ext₂ ?_ ?_
    · blk_simp [e.1]
    · blk_simp [e.2]
  unfold iblk
  rw [View.read_apply, cast_eq]
  entry_read
  refine (congrArg _ e0).trans ((shapeCast_apply _ _ (ix2 0 j : S1x2816.Idx) (ix1 j) ?_).trans (shapeCast_apply _ _ (ix1 j) (ix2 0 j) ?_))
  all_goals
    rw [Shape.rowMajor_val_one, Shape.rowMajor_val_two]
  · show j.val = 0 * 2816 + j.val; omega
  · show 0 * 2816 + j.val = j.val; omega

theorem iblk13 (t : Fin cfg0.N) (j : Fin 1024) : iblk m c 13 t (ix2 0 j) = m ((c : Thread nD τ).loc main_arg14) (ix2 0 j) := by
  have e := idx13 t
  have e0 : (((cfg0.win 13).blk t).view.emb (ix2 0 j)) = (ix2 0 j : S1x1024.Idx) := by
    refine Shape.idx_ext₂ ?_ ?_
    · blk_simp [e.1]
    · blk_simp [e.2]
  unfold iblk
  rw [View.read_apply, cast_eq]
  entry_read
  refine (congrArg _ e0).trans ((shapeCast_apply _ _ (ix2 0 j : S1x1024.Idx) (ix1 j) ?_).trans (shapeCast_apply _ _ (ix1 j) (ix2 0 j) ?_))
  all_goals
    rw [Shape.rowMajor_val_one, Shape.rowMajor_val_two]
  · show j.val = 0 * 1024 + j.val; omega
  · show 0 * 1024 + j.val = j.val; omega

theorem iblk5 (t : Fin cfg0.N) (i : Fin 1024) (j : Fin 1024) :
    iblk m c 5 t (ix2 i j) = m ((c : Thread nD τ).loc main_arg6) (ix3 0 i j) := by
  have e := idx5 t
  have e0 : (((cfg0.win 5).blk t).view.emb (ix2 i j)) = (ix2 i j : S1024x1024.Idx) := by
    refine Shape.idx_ext₂ ?_ ?_
    · blk_simp [e.1]
    · blk_simp [e.2]
  unfold iblk
  rw [View.read_apply, cast_eq]
  entry_read
  refine (congrArg _ e0).trans (shapeCast_apply _ shapeCasts_S1x1024x1024_S1024x1024 (ix2 i j : S1024x1024.Idx) (ix3 0 i j) ?_)
  rw [Shape.rowMajor_val_two, Shape.rowMajor_val_three]
  show (0 * 1024 + i.val) * 1024 + j.val = i.val * 1024 + j.val
  omega

theorem iblk8 (t : Fin cfg0.N) (i : Fin 1024) (j : Fin 2816) :
    iblk m c 8 t (ix2 i j) = m ((c : Thread nD τ).loc main_arg9) (ix3 0 i j) := by
  have e := idx8 t
  have e0 : (((cfg0.win 8).blk t).view.emb (ix2 i j)) = (ix2 i j : S1024x2816.Idx) := by
    refine Shape.idx_ext₂ ?_ ?_
    · blk_simp [e.1]
    · blk_simp [e.2]
  unfold iblk
  rw [View.read_apply, cast_eq]
  entry_read
  refine (congrArg _ e0).trans (shapeCast_apply _ shapeCasts_S1x1024x2816_S1024x2816 (ix2 i j : S1024x2816.Idx) (ix3 0 i j) ?_)
  rw [Shape.rowMajor_val_two, Shape.rowMajor_val_three]
  show (0 * 1024 + i.val) * 2816 + j.val = i.val * 2816 + j.val
  omega

theorem iblk9 (t : Fin cfg0.N) (i : Fin 1024) (j : Fin 2816) :
    iblk m c 9 t (ix2 i j) = m ((c : Thread nD τ).loc main_arg10) (ix3 0 i j) := by
  have e := idx9 t
  have e0 : (((cfg0.win 9).blk t).view.emb (ix2 i j)) = (ix2 i j : S1024x2816.Idx) := by
    refine Shape.idx_ext₂ ?_ ?_
    · blk_simp [e.1]
    · blk_simp [e.2]
  unfold iblk
  rw [View.read_apply, cast_eq]
  entry_read
  refine (congrArg _ e0).trans (shapeCast_apply _ shapeCasts_S1x1024x2816_S1024x2816 (ix2 i j : S1024x2816.Idx) (ix3 0 i j) ?_)
  rw [Shape.rowMajor_val_two, Shape.rowMajor_val_three]
  show (0 * 1024 + i.val) * 2816 + j.val = i.val * 2816 + j.val
  omega

theorem iblk10 (t : Fin cfg0.N) (i : Fin 3) (j : Fin 2816) :
    iblk m c 10 t (ix2 i j) = m ((c : Thread nD τ).loc main_arg11) (ix3 0 i j) := by
  have e := idx10 t
  have e0 : (((cfg0.win 10).blk t).view.emb (ix2 i j)) = (ix2 i j : S3x2816.Idx) := by
    refine Shape.idx_ext₂ ?_ ?_
    · blk_simp [e.1]
    · blk_simp [e.2]
  unfold iblk
  rw [View.read_apply, cast_eq]
  entry_read
  refine (congrArg _ e0).trans (shapeCast_apply _ shapeCasts_S1x3x2816_S3x2816 (ix2 i j : S3x2816.Idx) (ix3 0 i j) ?_)
  rw [Shape.rowMajor_val_two, Shape.rowMajor_val_three]
  show (0 * 3 + i.val) * 2816 + j.val = i.val * 2816 + j.val
  omega

theorem iblk12 (t : Fin cfg0.N) (i : Fin 2816) (j : Fin 1024) :
    iblk m c 12 t (ix2 i j) = m ((c : Thread nD τ).loc main_arg13) (ix3 0 i j) := by
  have e := idx12 t
  have e0 : (((cfg0.win 12).blk t).view.emb (ix2 i j)) = (ix2 i j : S2816x1024.Idx) := by
    refine Shape.idx_ext₂ ?_ ?_
    · blk_simp [e.1]
    · blk_simp [e.2]
  unfold iblk
  rw [View.read_apply, cast_eq]
  entry_read
  refine (congrArg _ e0).trans (shapeCast_apply _ shapeCasts_S1x2816x1024_S2816x1024 (ix2 i j : S2816x1024.Idx) (ix3 0 i j) ?_)
  rw [Shape.rowMajor_val_two, Shape.rowMajor_val_three]
  show (0 * 2816 + i.val) * 1024 + j.val = i.val * 1024 + j.val
  omega

end Cert.StepTailIdeal.Entry
-- ==== Proof.StepTail.Layer.lean ====
/- The layer's tail over the sample's tokens, one for each of the 32 sequences: the convolution looks back at the two gate
   rows the sequence has stored. -/
module

public import proofs.«01_k».proof.Proof.Tail.Rows

@[expose] public section

noncomputable section

namespace TailRows

/-- The tail's arguments for the sample: the residual stream and the two branches by sequence, the stored gates (row 0 two
    steps back, row 1 one step back), the weights. -/
structure Step where
  x : Fin 32 → Fin 1024 → EReal
  a : Fin 32 → Fin 512 → EReal
  s : Fin 32 → Fin 512 → EReal
  prev : Fin 2 → Fin 32 → Fin 2816 → EReal
  W : Weights

/-- Sequence `n`'s row after the mixing branch. -/
def Step.row (A : Step) (n : Fin 32) : Fin 1024 → EReal := TailRows.mix A.W (A.x n) (A.a n) (A.s n)

/-- Its new gate. -/
def Step.gate (A : Step) (n : Fin 32) : Fin 2816 → EReal := TailRows.gate A.W (A.row n)

/-- Its row of the layer's result. -/
def Step.y (A : Step) (n : Fin 32) : Fin 1024 → EReal := out A.W (A.row n) (A.prev 1 n) (A.prev 0 n)

end TailRows
-- ==== Proof.StepTail.RefNorm.lean ====
/- The sample's tail reference's five normalisations, read at an index as a row over its root mean square. -/
module

public import proofs.«01_k».proof.Proof.Gen.StepTailRefIdeal.Read
public import proofs.«01_k».proof.Proof.Tail.Rows
public import Idealize.ShloMosaic.Lib.Pipeline.Value
public import Idealize.ShloMosaic.PureOps.Ideal.Laws

@[expose] public section

set_option maxRecDepth 16384

noncomputable section

namespace Cert.StepTailRefIdeal.Rows

open Idealize.ShloMosaic Cert.StepTailRefIdeal Cert.StepTailRefIdeal.Gen Cert.StepTailRefIdeal.Read
open Idealize.ShloMosaic.ValueIdx TailRows
open scoped BigOperators

variable (x0 : (⟨S32x1x1024, .f32⟩ : BufTy).Contents (Elt Ideal)) (x1 x2 : (⟨S32x512, .f32⟩ : BufTy).Contents (Elt Ideal))
    (x3 : (⟨S1x32x2x2816, .f32⟩ : BufTy).Contents (Elt Ideal))
    (x4 x5 : (⟨S1x512, .f32⟩ : BufTy).Contents (Elt Ideal)) (x6 : (⟨S1x1024x1024, .f32⟩ : BufTy).Contents (Elt Ideal))
    (x7 x8 : (⟨S1x1024, .f32⟩ : BufTy).Contents (Elt Ideal)) (x9 x10 : (⟨S1x1024x2816, .f32⟩ : BufTy).Contents (Elt Ideal))
    (x11 : (⟨S1x3x2816, .f32⟩ : BufTy).Contents (Elt Ideal)) (x12 : (⟨S1x2816, .f32⟩ : BufTy).Contents (Elt Ideal))
    (x13 : (⟨S1x2816x1024, .f32⟩ : BufTy).Contents (Elt Ideal)) (x14 : (⟨S1x1024, .f32⟩ : BufTy).Contents (Elt Ideal))

theorem rms_v15 (p : Fin 32) (k : Fin 512) : val_main_v15 (F := Ideal) x1 x4 (ix3 p 0 k)
    = rms c512 (fun k => val_main_v0 (F := Ideal) x1 (ix3 p 0 k)) (fun k => x4 (ix2 0 k)) k := by
  have e1 : ∀ k' : Fin 512, idx_main_v4 (idx_main_v5 (idx_main_v11 (ix3 p 0 k))) k' = ix3 p 0 k' := fun k' => by
    funext a; match a with | ⟨0, _⟩ => rfl | ⟨1, _⟩ => rfl | ⟨2, _⟩ => rfl
  have e2 : idx_main_v2 (idx_main_v13 (idx_main_v14 (ix3 p 0 k))) = ix2 0 k := by
    funext a; match a with | ⟨0, _⟩ => rfl | ⟨1, _⟩ => exact Fin.ext (Nat.mod_eq_of_lt k.isLt)
  rw [val_main_v15_apply, val_main_v12_apply, val_main_v11_apply, val_main_v10_apply, val_main_v9_apply, val_main_v7_apply, val_main_v5_apply, val_main_v4_apply,
    val_main_v6_apply, val_main_v8_apply, val_main_v14_apply, val_main_v13_apply, val_main_v2_apply, e2]
  simp only [e1, val_main_v3_apply]
  rw [show (val_main_cst (F := Ideal)) (Shape.Idx.first h_S_) = (0 : EReal) from Ideal.ofBits_zero_f32, zero_add]
  rfl

theorem rms_v29 (p : Fin 32) (k : Fin 512) : val_main_v29 (F := Ideal) x2 x5 (ix3 p 0 k)
    = rms c512 (fun k => val_main_v1 (F := Ideal) x2 (ix3 p 0 k)) (fun k => x5 (ix2 0 k)) k := by
  have e1 : ∀ k' : Fin 512, idx_main_v18 (idx_main_v19 (idx_main_v25 (ix3 p 0 k))) k' = ix3 p 0 k' := fun k' => by
    funext a; match a with | ⟨0, _⟩ => rfl | ⟨1, _⟩ => rfl | ⟨2, _⟩ => rfl
  have e2 : idx_main_v16 (idx_main_v27 (idx_main_v28 (ix3 p 0 k))) = ix2 0 k := by
    funext a; match a with | ⟨0, _⟩ => rfl | ⟨1, _⟩ => exact Fin.ext (Nat.mod_eq_of_lt k.isLt)
  rw [val_main_v29_apply, val_main_v26_apply, val_main_v25_apply, val_main_v24_apply, val_main_v23_apply, val_main_v21_apply, val_main_v19_apply, val_main_v18_apply,
    val_main_v20_apply, val_main_v22_apply, val_main_v28_apply, val_main_v27_apply, val_main_v16_apply, e2]
  simp only [e1, val_main_v17_apply]
  rw [show (val_main_cst_2 (F := Ideal)) (Shape.Idx.first h_S_) = (0 : EReal) from Ideal.ofBits_zero_f32, zero_add]
  rfl

theorem rms_v46 (p : Fin 32) (k : Fin 1024) : val_main_v46 (F := Ideal) x1 x2 x4 x5 x6 x7 (ix3 p 0 k)
    = rms c1024 (fun k => val_main_v32 (F := Ideal) x1 x2 x4 x5 x6 (ix3 p 0 k)) (fun k => x7 (ix2 0 k)) k := by
  have e1 : ∀ k' : Fin 1024, idx_main_v35 (idx_main_v36 (idx_main_v42 (ix3 p 0 k))) k' = ix3 p 0 k' := fun k' => by
    funext a; match a with | ⟨0, _⟩ => rfl | ⟨1, _⟩ => rfl | ⟨2, _⟩ => rfl
  have e2 : idx_main_v33 (idx_main_v44 (idx_main_v45 (ix3 p 0 k))) = ix2 0 k := by
    funext a; match a with | ⟨0, _⟩ => rfl | ⟨1, _⟩ => exact Fin.ext (Nat.mod_eq_of_lt k.isLt)
  rw [val_main_v46_apply, val_main_v43_apply, val_main_v42_apply, val_main_v41_apply, val_main_v40_apply, val_main_v38_apply, val_main_v36_apply, val_main_v35_apply,
    val_main_v37_apply, val_main_v39_apply, val_main_v45_apply, val_main_v44_apply, val_main_v33_apply, e2]
  simp only [e1, val_main_v34_apply]
  rw [show (val_main_cst_5 (F := Ideal)) (Shape.Idx.first h_S_) = (0 : EReal) from Ideal.ofBits_zero_f32, zero_add]
  rfl

theorem rms_v61 (p : Fin 32) (k : Fin 1024) : val_main_v61 (F := Ideal) x0 x1 x2 x4 x5 x6 x7 x8 (ix3 p 0 k)
    = rms c1024 (fun k => val_main_v47 (F := Ideal) x0 x1 x2 x4 x5 x6 x7 (ix3 p 0 k)) (fun k => x8 (ix2 0 k)) k := by
  have e1 : ∀ k' : Fin 1024, idx_main_v50 (idx_main_v51 (idx_main_v57 (ix3 p 0 k))) k' = ix3 p 0 k' := fun k' => by
    funext a; match a with | ⟨0, _⟩ => rfl | ⟨1, _⟩ => rfl | ⟨2, _⟩ => rfl
  have e2 : idx_main_v48 (idx_main_v59 (idx_main_v60 (ix3 p 0 k))) = ix2 0 k := by
    funext a; match a with | ⟨0, _⟩ => rfl | ⟨1, _⟩ => exact Fin.ext (Nat.mod_eq_of_lt k.isLt)
  rw [val_main_v61_apply, val_main_v58_apply, val_main_v57_apply, val_main_v56_apply, val_main_v55_apply, val_main_v53_apply, val_main_v51_apply, val_main_v50_apply,
    val_main_v52_apply, val_main_v54_apply, val_main_v60_apply, val_main_v59_apply, val_main_v48_apply, e2]
  simp only [e1, val_main_v49_apply]
  rw [show (val_main_cst_8 (F := Ideal)) (Shape.Idx.first h_S_) = (0 : EReal) from Ideal.ofBits_zero_f32, zero_add]
  rfl

theorem rms_v126 (p : Fin 32) (k : Fin 1024) : val_main_v126 (F := Ideal) x0 x1 x2 x3 x4 x5 x6 x7 x8 x9 x10 x11 x12 x13 x14 (ix3 p 0 k)
    = rms c1024 (fun k => val_main_v112 (F := Ideal) x0 x1 x2 x3 x4 x5 x6 x7 x8 x9 x10 x11 x12 x13 (ix3 p 0 k)) (fun k => x14 (ix2 0 k)) k := by
  have e1 : ∀ k' : Fin 1024, idx_main_v115 (idx_main_v116 (idx_main_v122 (ix3 p 0 k))) k' = ix3 p 0 k' := fun k' => by
    funext a; match a with | ⟨0, _⟩ => rfl | ⟨1, _⟩ => rfl | ⟨2, _⟩ => rfl
  have e2 : idx_main_v113 (idx_main_v124 (idx_main_v125 (ix3 p 0 k))) = ix2 0 k := by
    funext a; match a with | ⟨0, _⟩ => rfl | ⟨1, _⟩ => exact Fin.ext (Nat.mod_eq_of_lt k.isLt)
  rw [val_main_v126_apply, val_main_v123_apply, val_main_v122_apply, val_main_v121_apply, val_main_v120_apply, val_main_v118_apply, val_main_v116_apply, val_main_v115_apply,
    val_main_v117_apply, val_main_v119_apply, val_main_v125_apply, val_main_v124_apply, val_main_v113_apply, e2]
  simp only [e1, val_main_v114_apply]
  rw [show (val_main_cst_16 (F := Ideal)) (Shape.Idx.first h_S_) = (0 : EReal) from Ideal.ofBits_zero_f32, zero_add]
  rfl

end Cert.StepTailRefIdeal.Rows
-- ==== Proof.StepTail.Ref.lean ====
/- The sample's tail reference's results, read at an index as the layer's rows. -/
module

public import proofs.«01_k».proof.Proof.Gen.StepTailRefIdeal.Read
public import proofs.«01_k».proof.Proof.StepTail.Layer
public import Idealize.ShloMosaic.Lib.Pipeline.Value
public import Idealize.ShloMosaic.PureOps.Ideal.Laws
public import proofs.«01_k».proof.Proof.StepTail.RefNorm

@[expose] public section

set_option maxRecDepth 16384

noncomputable section

namespace Cert.StepTailRefIdeal.Rows

open Idealize.ShloMosaic Cert.StepTailRefIdeal Cert.StepTailRefIdeal.Gen Cert.StepTailRefIdeal.Read
open Idealize.ShloMosaic.ValueIdx TailRows
open scoped BigOperators

theorem sum_halves (A : Fin 1024 → EReal) : ∑ k, A k = (∑ k : Fin 512, A ⟨k.val, by omega⟩) + ∑ k : Fin 512, A ⟨512 + k.val, by omega⟩ :=
  Fin.sum_univ_add (a := 512) (b := 512) A

variable (x0 : (⟨S32x1x1024, .f32⟩ : BufTy).Contents (Elt Ideal)) (x1 x2 : (⟨S32x512, .f32⟩ : BufTy).Contents (Elt Ideal))
    (x3 : (⟨S1x32x2x2816, .f32⟩ : BufTy).Contents (Elt Ideal))
    (x4 x5 : (⟨S1x512, .f32⟩ : BufTy).Contents (Elt Ideal)) (x6 : (⟨S1x1024x1024, .f32⟩ : BufTy).Contents (Elt Ideal))
    (x7 x8 : (⟨S1x1024, .f32⟩ : BufTy).Contents (Elt Ideal)) (x9 x10 : (⟨S1x1024x2816, .f32⟩ : BufTy).Contents (Elt Ideal))
    (x11 : (⟨S1x3x2816, .f32⟩ : BufTy).Contents (Elt Ideal)) (x12 : (⟨S1x2816, .f32⟩ : BufTy).Contents (Elt Ideal))
    (x13 : (⟨S1x2816x1024, .f32⟩ : BufTy).Contents (Elt Ideal)) (x14 : (⟨S1x1024, .f32⟩ : BufTy).Contents (Elt Ideal))

/-- The reference's arguments. -/
def argsOf : Step where
  x p k := x0 (ix3 p 0 k)
  a n k := x1 (ix2 n k)
  s n k := x2 (ix2 n k)
  prev q n f := x3 (ix4 0 n q f)
  W := {
    ga k := x4 (ix2 0 k)
    gs k := x5 (ix2 0 k)
    wo k j := x6 (ix3 0 k j)
    gpm k := x7 (ix2 0 k)
    g k := x8 (ix2 0 k)
    wg k f := x9 (ix3 0 k f)
    wu k f := x10 (ix3 0 k f)
    cw q f := x11 (ix3 0 q f)
    cb f := x12 (ix2 0 f)
    wd f j := x13 (ix3 0 f j)
    gpost k := x14 (ix2 0 k) }

theorem v0_row (p : Fin 32) (k : Fin 512) : val_main_v0 (F := Ideal) x1 (ix3 p 0 k) = x1 (ix2 p k) := by
  rw [val_main_v0_apply]
  refine congrArg x1 (Shape.idx_ext₂ ?_ ?_)
  · show ((p.val * 1 + 0) * 512 + k.val) / 512 = p.val; omega
  · show ((p.val * 1 + 0) * 512 + k.val) % 512 = k.val; omega

theorem v1_row (p : Fin 32) (k : Fin 512) : val_main_v1 (F := Ideal) x2 (ix3 p 0 k) = x2 (ix2 p k) := by
  rw [val_main_v1_apply]
  refine congrArg x2 (Shape.idx_ext₂ ?_ ?_)
  · show ((p.val * 1 + 0) * 512 + k.val) / 512 = p.val; omega
  · show ((p.val * 1 + 0) * 512 + k.val) % 512 = k.val; omega

theorem v30_left (p : Fin 32) (k : Fin 512) : val_main_v30 (F := Ideal) x1 x2 x4 x5 (ix3 p 0 ⟨k.val, by omega⟩) = val_main_v15 (F := Ideal) x1 x4 (ix3 p 0 k) := by
  unfold val_main_v30
  exact concatenate_pair_apply_left (t := S32x1x1024) (s₁ := S32x1x512) (s₂ := S32x1x512) 2 _ _ _ _ rfl (ix3 p 0 k) fun b => match b with | ⟨0, _⟩ => rfl | ⟨1, _⟩ => rfl | ⟨2, _⟩ => rfl

theorem v30_right (p : Fin 32) (k : Fin 512) : val_main_v30 (F := Ideal) x1 x2 x4 x5 (ix3 p 0 ⟨512 + k.val, by omega⟩) = val_main_v29 (F := Ideal) x2 x5 (ix3 p 0 k) := by
  unfold val_main_v30
  exact concatenate_pair_apply_right (t := S32x1x1024) (s₁ := S32x1x512) (s₂ := S32x1x512) 2 _ _ _ _ rfl rfl (ix3 p 0 k) (fun b hb => match b with | ⟨0, _⟩ => rfl | ⟨1, _⟩ => rfl | ⟨2, _⟩ => absurd rfl hb) (by show k.val + 512 = 512 + k.val; omega)

theorem w31 (k : Fin 1024) (j : Fin 1024) : val_main_v31 (F := Ideal) x6 (ix2 k j) = x6 (ix3 0 k j) := by
  rw [val_main_v31_apply]
  refine congrArg x6 ?_
  funext a; match a with
  | ⟨0, _⟩ => rfl
  | ⟨1, _⟩ => exact Fin.ext (by show (k.val * 1024 + j.val) / 1024 % 1024 = k.val; omega)
  | ⟨2, _⟩ => exact Fin.ext (by show (k.val * 1024 + j.val) % 1024 = j.val; omega)

theorem w62 (k : Fin 1024) (j : Fin 2816) : val_main_v62 (F := Ideal) x9 (ix2 k j) = x9 (ix3 0 k j) := by
  rw [val_main_v62_apply]
  refine congrArg x9 ?_
  funext a; match a with
  | ⟨0, _⟩ => rfl
  | ⟨1, _⟩ => exact Fin.ext (by show (k.val * 2816 + j.val) / 2816 % 1024 = k.val; omega)
  | ⟨2, _⟩ => exact Fin.ext (by show (k.val * 2816 + j.val) % 2816 = j.val; omega)

theorem w64 (k : Fin 1024) (j : Fin 2816) : val_main_v64 (F := Ideal) x10 (ix2 k j) = x10 (ix3 0 k j) := by
  rw [val_main_v64_apply]
  refine congrArg x10 ?_
  funext a; match a with
  | ⟨0, _⟩ => rfl
  | ⟨1, _⟩ => exact Fin.ext (by show (k.val * 2816 + j.val) / 2816 % 1024 = k.val; omega)
  | ⟨2, _⟩ => exact Fin.ext (by show (k.val * 2816 + j.val) % 2816 = j.val; omega)

theorem w111 (k : Fin 2816) (j : Fin 1024) : val_main_v111 (F := Ideal) x13 (ix2 k j) = x13 (ix3 0 k j) := by
  rw [val_main_v111_apply]
  refine congrArg x13 ?_
  funext a; match a with
  | ⟨0, _⟩ => rfl
  | ⟨1, _⟩ => exact Fin.ext (by show (k.val * 1024 + j.val) / 1024 % 2816 = k.val; omega)
  | ⟨2, _⟩ => exact Fin.ext (by show (k.val * 1024 + j.val) % 1024 = j.val; omega)

theorem merge_v32 (p : Fin 32) (j : Fin 1024) : val_main_v32 (F := Ideal) x1 x2 x4 x5 x6 (ix3 p 0 j)
    = merge (argsOf x0 x1 x2 x3 x4 x5 x6 x7 x8 x9 x10 x11 x12 x13 x14).W (fun k => x1 (ix2 p k)) (fun k => x2 (ix2 p k)) j := by
  have el : ∀ k, lidx_main_v32 (ix3 p 0 j) k = ix3 p 0 k := fun k => by
    funext a; match a with | ⟨0, _⟩ => rfl | ⟨1, _⟩ => rfl | ⟨2, _⟩ => rfl
  have er : ∀ k, ridx_main_v32 (ix3 p 0 j) k = ix2 k j := fun k => by
    funext a; match a with | ⟨0, _⟩ => rfl | ⟨1, _⟩ => rfl
  rw [val_main_v32_apply]
  simp only [el, er]
  rw [sum_halves]
  simp only [v30_left, v30_right, w31, rms_v15, rms_v29, v0_row, v1_row]
  rfl

theorem row_v47 (p : Fin 32) (j : Fin 1024) : val_main_v47 (F := Ideal) x0 x1 x2 x4 x5 x6 x7 (ix3 p 0 j) = (argsOf x0 x1 x2 x3 x4 x5 x6 x7 x8 x9 x10 x11 x12 x13 x14).row p j := by
  rw [val_main_v47_apply, rms_v46]
  refine congrArg (fun v => x0 (ix3 p 0 j) + rms c1024 v (fun k => x7 (ix2 0 k)) j) (funext fun k => ?_)
  exact merge_v32 x0 x1 x2 x3 x4 x5 x6 x7 x8 x9 x10 x11 x12 x13 x14 p k

theorem norm_v61 (p : Fin 32) (j : Fin 1024) : val_main_v61 (F := Ideal) x0 x1 x2 x4 x5 x6 x7 x8 (ix3 p 0 j)
    = rms c1024 ((argsOf x0 x1 x2 x3 x4 x5 x6 x7 x8 x9 x10 x11 x12 x13 x14).row p) (argsOf x0 x1 x2 x3 x4 x5 x6 x7 x8 x9 x10 x11 x12 x13 x14).W.g j := by
  rw [rms_v61]
  refine congrArg (fun v => rms c1024 v (fun k => x8 (ix2 0 k)) j) (funext fun k => ?_)
  exact row_v47 x0 x1 x2 x3 x4 x5 x6 x7 x8 x9 x10 x11 x12 x13 x14 p k

theorem gate_v63 (p : Fin 32) (f : Fin 2816) : val_main_v63 (F := Ideal) x0 x1 x2 x4 x5 x6 x7 x8 x9 (ix3 p 0 f) = (argsOf x0 x1 x2 x3 x4 x5 x6 x7 x8 x9 x10 x11 x12 x13 x14).gate p f := by
  have el : ∀ k, lidx_main_v63 (ix3 p 0 f) k = ix3 p 0 k := fun k => by
    funext a; match a with | ⟨0, _⟩ => rfl | ⟨1, _⟩ => rfl | ⟨2, _⟩ => rfl
  have er : ∀ k, ridx_main_v63 (ix3 p 0 f) k = ix2 k f := fun k => by
    funext a; match a with | ⟨0, _⟩ => rfl | ⟨1, _⟩ => rfl
  rw [val_main_v63_apply]
  simp only [el, er]
  simp only [norm_v61 x0 x1 x2 x3 x4 x5 x6 x7 x8 x9 x10 x11 x12 x13 x14, w62]
  rfl

theorem up_v65 (p : Fin 32) (f : Fin 2816) : val_main_v65 (F := Ideal) x0 x1 x2 x4 x5 x6 x7 x8 x10 (ix3 p 0 f) = up (argsOf x0 x1 x2 x3 x4 x5 x6 x7 x8 x9 x10 x11 x12 x13 x14).W ((argsOf x0 x1 x2 x3 x4 x5 x6 x7 x8 x9 x10 x11 x12 x13 x14).row p) f := by
  have el : ∀ k, lidx_main_v65 (ix3 p 0 f) k = ix3 p 0 k := fun k => by
    funext a; match a with | ⟨0, _⟩ => rfl | ⟨1, _⟩ => rfl | ⟨2, _⟩ => rfl
  have er : ∀ k, ridx_main_v65 (ix3 p 0 f) k = ix2 k f := fun k => by
    funext a; match a with | ⟨0, _⟩ => rfl | ⟨1, _⟩ => rfl
  rw [val_main_v65_apply]
  simp only [el, er]
  simp only [norm_v61 x0 x1 x2 x3 x4 x5 x6 x7 x8 x9 x10 x11 x12 x13 x14, w64]
  rfl

/-- The joined gates hold the two stored rows, … -/
theorem prev_v67 (p : Fin 32) (q : Fin 2) (f : Fin 2816) :
    val_main_v67 (F := Ideal) x0 x1 x2 x3 x4 x5 x6 x7 x8 x9 (ix3 p ⟨q.val, by omega⟩ f) = (argsOf x0 x1 x2 x3 x4 x5 x6 x7 x8 x9 x10 x11 x12 x13 x14).prev q p f := by
  unfold val_main_v67
  refine (concatenate_pair_apply_left (t := S32x3x2816) (s₁ := S32x2x2816) (s₂ := S32x1x2816) 1 _ _ _ _ rfl (ix3 p q f) fun b => match b with | ⟨0, _⟩ => rfl | ⟨1, _⟩ => rfl | ⟨2, _⟩ => rfl).trans ?_
  rw [val_main_v66_apply]
  refine congrArg x3 ?_
  funext a; match a with
  | ⟨0, _⟩ => rfl
  | ⟨1, _⟩ => exact Fin.ext (by show ((p.val * 2 + q.val) * 2816 + f.val) / 5632 % 32 = p.val; omega)
  | ⟨2, _⟩ => exact Fin.ext (by show ((p.val * 2 + q.val) * 2816 + f.val) / 2816 % 2 = q.val; omega)
  | ⟨3, _⟩ => exact Fin.ext (by show ((p.val * 2 + q.val) * 2816 + f.val) % 2816 = f.val; omega)

/-- … then the new one. -/
theorem new_v67 (p : Fin 32) (f : Fin 2816) :
    val_main_v67 (F := Ideal) x0 x1 x2 x3 x4 x5 x6 x7 x8 x9 (ix3 p 2 f) = (argsOf x0 x1 x2 x3 x4 x5 x6 x7 x8 x9 x10 x11 x12 x13 x14).gate p f := by
  unfold val_main_v67
  refine (concatenate_pair_apply_right (t := S32x3x2816) (s₁ := S32x2x2816) (s₂ := S32x1x2816) 1 _ _ _ _ rfl rfl (ix3 p 0 f)
    (fun b hb => match b with | ⟨0, _⟩ => rfl | ⟨1, _⟩ => absurd rfl hb | ⟨2, _⟩ => rfl) (by show 0 + 2 = 2; omega)).trans ?_
  exact gate_v63 x0 x1 x2 x3 x4 x5 x6 x7 x8 x9 x10 x11 x12 x13 x14 p f

theorem tap0 (p : Fin 32) (f : Fin 2816) : val_main_v74 (F := Ideal) x11 (ix3 p 0 f) = x11 (ix3 0 0 f) := by
  rw [val_main_v74_apply, val_main_v73_apply, val_main_v72_apply, val_main_v71_apply, val_main_v70_apply]
  refine congrArg x11 ?_
  funext a; match a with
  | ⟨0, _⟩ => rfl
  | ⟨1, _⟩ => exact Fin.ext (by show (0 * 2816 + f.val % 2816) / 2816 % 3 = 0; omega)
  | ⟨2, _⟩ => exact Fin.ext (by show ((0) * 2816 + f.val % 2816) % 2816 = f.val; omega)

theorem slice0 (p : Fin 32) (f : Fin 2816) : val_main_v69 (F := Ideal) x0 x1 x2 x3 x4 x5 x6 x7 x8 x9 (ix3 p 0 f) = (argsOf x0 x1 x2 x3 x4 x5 x6 x7 x8 x9 x10 x11 x12 x13 x14).prev 0 p f := by
  rw [val_main_v69_apply]
  have e : idx_main_v69 (ix3 p 0 f) = ix3 p 0 f := by
    funext a; match a with | ⟨0, _⟩ => rfl | ⟨1, _⟩ => rfl | ⟨2, _⟩ => rfl
  rw [e]
  exact prev_v67 x0 x1 x2 x3 x4 x5 x6 x7 x8 x9 x10 x11 x12 x13 x14 p 0 f

theorem tap1 (p : Fin 32) (f : Fin 2816) : val_main_v83 (F := Ideal) x11 (ix3 p 0 f) = x11 (ix3 0 1 f) := by
  rw [val_main_v83_apply, val_main_v82_apply, val_main_v81_apply, val_main_v80_apply, val_main_v79_apply]
  refine congrArg x11 ?_
  funext a; match a with
  | ⟨0, _⟩ => rfl
  | ⟨1, _⟩ => exact Fin.ext (by show ((1 + 0) * 2816 + f.val % 2816) / 2816 % 3 = 1; omega)
  | ⟨2, _⟩ => exact Fin.ext (by show ((1 + 0) * 2816 + f.val % 2816) % 2816 = f.val; omega)

theorem slice1 (p : Fin 32) (f : Fin 2816) : val_main_v78 (F := Ideal) x0 x1 x2 x3 x4 x5 x6 x7 x8 x9 (ix3 p 0 f) = (argsOf x0 x1 x2 x3 x4 x5 x6 x7 x8 x9 x10 x11 x12 x13 x14).prev 1 p f := by
  rw [val_main_v78_apply]
  have e : idx_main_v78 (ix3 p 0 f) = ix3 p 1 f := by
    funext a; match a with | ⟨0, _⟩ => rfl | ⟨1, _⟩ => rfl | ⟨2, _⟩ => rfl
  rw [e]
  exact prev_v67 x0 x1 x2 x3 x4 x5 x6 x7 x8 x9 x10 x11 x12 x13 x14 p 1 f

theorem tap2 (p : Fin 32) (f : Fin 2816) : val_main_v91 (F := Ideal) x11 (ix3 p 0 f) = x11 (ix3 0 2 f) := by
  rw [val_main_v91_apply, val_main_v90_apply, val_main_v89_apply, val_main_v88_apply, val_main_v87_apply]
  refine congrArg x11 ?_
  funext a; match a with
  | ⟨0, _⟩ => rfl
  | ⟨1, _⟩ => exact Fin.ext (by show ((2 + 0) * 2816 + f.val % 2816) / 2816 % 3 = 2; omega)
  | ⟨2, _⟩ => exact Fin.ext (by show ((2 + 0) * 2816 + f.val % 2816) % 2816 = f.val; omega)

theorem slice2 (p : Fin 32) (f : Fin 2816) : val_main_v86 (F := Ideal) x0 x1 x2 x3 x4 x5 x6 x7 x8 x9 (ix3 p 0 f) = (argsOf x0 x1 x2 x3 x4 x5 x6 x7 x8 x9 x10 x11 x12 x13 x14).gate p f := by
  rw [val_main_v86_apply]
  have e : idx_main_v86 (ix3 p 0 f) = ix3 p 2 f := by
    funext a; match a with | ⟨0, _⟩ => rfl | ⟨1, _⟩ => rfl | ⟨2, _⟩ => rfl
  rw [e]
  exact new_v67 x0 x1 x2 x3 x4 x5 x6 x7 x8 x9 x10 x11 x12 x13 x14 p f

theorem bias (p : Fin 32) (f : Fin 2816) : val_main_v95 (F := Ideal) x12 (ix3 p 0 f) = x12 (ix2 0 f) := by
  rw [val_main_v95_apply, val_main_v94_apply, val_main_v68_apply]
  refine congrArg x12 ?_
  funext a; match a with
  | ⟨0, _⟩ => rfl
  | ⟨1, _⟩ => exact Fin.ext (Nat.mod_eq_of_lt f.isLt)

theorem conv_v96 (p : Fin 32) (f : Fin 2816) : val_main_v96 (F := Ideal) x0 x1 x2 x3 x4 x5 x6 x7 x8 x9 x11 x12 (ix3 p 0 f)
    = conv (argsOf x0 x1 x2 x3 x4 x5 x6 x7 x8 x9 x10 x11 x12 x13 x14).W ((argsOf x0 x1 x2 x3 x4 x5 x6 x7 x8 x9 x10 x11 x12 x13 x14).gate p) ((argsOf x0 x1 x2 x3 x4 x5 x6 x7 x8 x9 x10 x11 x12 x13 x14).prev 1 p) ((argsOf x0 x1 x2 x3 x4 x5 x6 x7 x8 x9 x10 x11 x12 x13 x14).prev 0 p) f := by
  rw [val_main_v96_apply, val_main_v93_apply, val_main_v85_apply, val_main_v77_apply, val_main_v75_apply, val_main_v84_apply, val_main_v92_apply,
    val_main_v76_apply, bias, tap0, tap1, tap2, slice0 x0 x1 x2 x3 x4 x5 x6 x7 x8 x9 x10 x11 x12 x13 x14, slice1 x0 x1 x2 x3 x4 x5 x6 x7 x8 x9 x10 x11 x12 x13 x14,
    slice2 x0 x1 x2 x3 x4 x5 x6 x7 x8 x9 x10 x11 x12 x13 x14]
  show (x12 (ix2 0 f) : EReal) + (((Ideal.ofBits .f32 0x00000000#32 + (argsOf x0 x1 x2 x3 x4 x5 x6 x7 x8 x9 x10 x11 x12 x13 x14).prev 0 p f * x11 (ix3 0 0 f))
    + (argsOf x0 x1 x2 x3 x4 x5 x6 x7 x8 x9 x10 x11 x12 x13 x14).prev 1 p f * x11 (ix3 0 1 f)) + (argsOf x0 x1 x2 x3 x4 x5 x6 x7 x8 x9 x10 x11 x12 x13 x14).gate p f * x11 (ix3 0 2 f)) = _
  rw [Ideal.ofBits_zero_f32, zero_add, ← add_assoc, ← add_assoc]
  rfl

theorem hid_v110 (p : Fin 32) (f : Fin 2816) : val_main_v110 (F := Ideal) x0 x1 x2 x3 x4 x5 x6 x7 x8 x9 x10 x11 x12 (ix3 p 0 f)
    = hid (argsOf x0 x1 x2 x3 x4 x5 x6 x7 x8 x9 x10 x11 x12 x13 x14).W ((argsOf x0 x1 x2 x3 x4 x5 x6 x7 x8 x9 x10 x11 x12 x13 x14).row p) ((argsOf x0 x1 x2 x3 x4 x5 x6 x7 x8 x9 x10 x11 x12 x13 x14).prev 1 p) ((argsOf x0 x1 x2 x3 x4 x5 x6 x7 x8 x9 x10 x11 x12 x13 x14).prev 0 p) f := by
  rw [val_main_v110_apply, val_main_v109_apply, val_main_v108_apply, val_main_v107_apply, val_main_v106_apply, val_main_v105_apply, val_main_v104_apply,
    val_main_v103_apply, val_main_v102_apply, val_main_v101_apply, val_main_v100_apply, val_main_v99_apply, val_main_v98_apply, val_main_v97_apply,
    up_v65 x0 x1 x2 x3 x4 x5 x6 x7 x8 x9 x10 x11 x12 x13 x14, conv_v96 x0 x1 x2 x3 x4 x5 x6 x7 x8 x9 x10 x11 x12 x13 x14]
  unfold hid
  refine congrArg (fun a : EReal => a * up (argsOf x0 x1 x2 x3 x4 x5 x6 x7 x8 x9 x10 x11 x12 x13 x14).W ((argsOf x0 x1 x2 x3 x4 x5 x6 x7 x8 x9 x10 x11 x12 x13 x14).row p) f) ?_
  unfold gelu
  exact (mul_left_comm _ _ _).trans (mul_assoc _ _ _).symm

theorem y_v127 (p : Fin 32) (j : Fin 1024) : val_main_v127 (F := Ideal) x0 x1 x2 x3 x4 x5 x6 x7 x8 x9 x10 x11 x12 x13 x14 (ix3 p 0 j) = (argsOf x0 x1 x2 x3 x4 x5 x6 x7 x8 x9 x10 x11 x12 x13 x14).y p j := by
  rw [val_main_v127_apply, rms_v126, row_v47 x0 x1 x2 x3 x4 x5 x6 x7 x8 x9 x10 x11 x12 x13 x14]
  refine congrArg (fun v => (argsOf x0 x1 x2 x3 x4 x5 x6 x7 x8 x9 x10 x11 x12 x13 x14).row p j + rms c1024 v (fun k => x14 (ix2 0 k)) j) (funext fun j => ?_)
  have el : ∀ k, lidx_main_v112 (ix3 p 0 j) k = ix3 p 0 k := fun k => by
    funext a; match a with | ⟨0, _⟩ => rfl | ⟨1, _⟩ => rfl | ⟨2, _⟩ => rfl
  have er : ∀ k, ridx_main_v112 (ix3 p 0 j) k = ix2 k j := fun k => by
    funext a; match a with | ⟨0, _⟩ => rfl | ⟨1, _⟩ => rfl
  rw [val_main_v112_apply]
  simp only [el, er]
  simp only [hid_v110 x0 x1 x2 x3 x4 x5 x6 x7 x8 x9 x10 x11 x12 x13 x14, w111]
  rfl

/-- The first result, by rows. -/
theorem y_v128 (n : Fin 32) (j : Fin 1024) : val_main_v128 (F := Ideal) x0 x1 x2 x3 x4 x5 x6 x7 x8 x9 x10 x11 x12 x13 x14 (ix2 n j) = (argsOf x0 x1 x2 x3 x4 x5 x6 x7 x8 x9 x10 x11 x12 x13 x14).y n j := by
  rw [val_main_v128_apply]
  have e : idx_main_v128 (ix2 n j) = ix3 n 0 j := by
    funext a; match a with
    | ⟨0, _⟩ => exact Fin.ext (by show (n.val * 1024 + j.val) / 1024 = n.val; omega)
    | ⟨1, _⟩ => rfl
    | ⟨2, _⟩ => exact Fin.ext (by show (n.val * 1024 + j.val) % 1024 = j.val; omega)
  rw [e, y_v127 x0 x1 x2 x3 x4 x5 x6 x7 x8 x9 x10 x11 x12 x13 x14]

/-- The second result: each sequence's new gate. -/
theorem gate_v130 (n : Fin 32) (f : Fin 2816) : val_main_v130 (F := Ideal) x0 x1 x2 x3 x4 x5 x6 x7 x8 x9 (ix2 n f) = (argsOf x0 x1 x2 x3 x4 x5 x6 x7 x8 x9 x10 x11 x12 x13 x14).gate n f := by
  rw [val_main_v130_apply, val_main_v129_apply]
  have e : idx_main_v129 (idx_main_v130 (ix2 n f)) = ix3 n 2 f := by
    funext a; match a with
    | ⟨0, _⟩ => exact Fin.ext (by show (n.val * 2816 + f.val) / 2816 = n.val; omega)
    | ⟨1, _⟩ => rfl
    | ⟨2, _⟩ => exact Fin.ext (by show (n.val * 2816 + f.val) % 2816 = f.val; omega)
  rw [e]
  exact new_v67 x0 x1 x2 x3 x4 x5 x6 x7 x8 x9 x10 x11 x12 x13 x14 n f

end Cert.StepTailRefIdeal.Rows
-- ==== Proof.StepTail.Final.lean ====
/- The two result arrays of the sample's tail are the reference's: both read, at every index, as the layer's tail. -/
module

public import proofs.«01_k».proof.Defs
public import proofs.«01_k».proof.Proof.Gen.StepTailIdeal.Value
public import proofs.«01_k».proof.Proof.Gen.StepTailRefIdeal.Run
public import proofs.«01_k».proof.Proof.StepTail.Point
public import proofs.«01_k».proof.Proof.StepTail.Entry
public import proofs.«01_k».proof.Proof.StepTail.Ref

@[expose] public section

set_option maxRecDepth 16384

noncomputable section

namespace Cert.StepTailIdeal.Final

open Idealize.ShloMosaic Idealize.ShloMosaic.TcCoe Idealize.SL.Sem Cert.StepTailIdeal Cert.StepTailIdeal.Gen
open Idealize.ShloMosaic.ValueIdx TailRows Cert.StepTailRefIdeal.Read Idealize.ShloMosaic.StableHlo
open scoped BigOperators

variable (m : (ℓ : Loc nD τ sig) → Buf (Elt Ideal) ℓ) (c : Dev nD)

/-- The program's arguments. -/
def args : Step := StepTailRefIdeal.Rows.argsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- The blocks a point reads. -/
def blocks (t : Fin cfg0.N) : Body.In Ideal := ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t⟩

theorem x_eq (t : Fin cfg0.N) (i : Fin 32) : (fun k => iblk m c 0 t (ix2 i k)) = (args m c).x i := funext fun k => Entry.iblk0 m c t i k
theorem a_eq (t : Fin cfg0.N) (i : Fin 32) : (fun k => iblk m c 1 t (ix2 i k)) = (args m c).a i := funext fun k => Entry.iblk1 m c t i k
theorem s_eq (t : Fin cfg0.N) (i : Fin 32) : (fun k => iblk m c 2 t (ix2 i k)) = (args m c).s i := funext fun k => Entry.iblk2 m c t i k

theorem weights_ext {A B : Weights} (h0 : A.ga = B.ga) (h1 : A.gs = B.gs) (h2 : A.wo = B.wo) (h3 : A.gpm = B.gpm) (h4 : A.g = B.g) (h5 : A.wg = B.wg) (h6 : A.wu = B.wu) (h7 : A.cw = B.cw) (h8 : A.cb = B.cb) (h9 : A.wd = B.wd) (h10 : A.gpost = B.gpost) : A = B := by
  cases A; cases B; simp only at h0 h1 h2 h3 h4 h5 h6 h7 h8 h9 h10; subst h0 h1 h2 h3 h4 h5 h6 h7 h8 h9 h10; rfl

theorem ga_eq (t : Fin cfg0.N) : (blocks m c t).W.ga = (args m c).W.ga := funext fun j => Entry.iblk3 m c t j
theorem gs_eq (t : Fin cfg0.N) : (blocks m c t).W.gs = (args m c).W.gs := funext fun j => Entry.iblk4 m c t j
theorem wo_eq (t : Fin cfg0.N) : (blocks m c t).W.wo = (args m c).W.wo := funext fun i => funext fun j => Entry.iblk5 m c t i j
theorem gpm_eq (t : Fin cfg0.N) : (blocks m c t).W.gpm = (args m c).W.gpm := funext fun j => Entry.iblk6 m c t j
theorem g_eq (t : Fin cfg0.N) : (blocks m c t).W.g = (args m c).W.g := funext fun j => Entry.iblk7 m c t j
theorem wg_eq (t : Fin cfg0.N) : (blocks m c t).W.wg = (args m c).W.wg := funext fun i => funext fun j => Entry.iblk8 m c t i j
theorem wu_eq (t : Fin cfg0.N) : (blocks m c t).W.wu = (args m c).W.wu := funext fun i => funext fun j => Entry.iblk9 m c t i j
theorem cw_eq (t : Fin cfg0.N) : (blocks m c t).W.cw = (args m c).W.cw := funext fun i => funext fun j => Entry.iblk10 m c t i j
theorem cb_eq (t : Fin cfg0.N) : (blocks m c t).W.cb = (args m c).W.cb := funext fun j => Entry.iblk11 m c t j
theorem wd_eq (t : Fin cfg0.N) : (blocks m c t).W.wd = (args m c).W.wd := funext fun i => funext fun j => Entry.iblk12 m c t i j
theorem gpost_eq (t : Fin cfg0.N) : (blocks m c t).W.gpost = (args m c).W.gpost := funext fun j => Entry.iblk13 m c t j

theorem W_eq (t : Fin cfg0.N) : (blocks m c t).W = (args m c).W :=
  weights_ext (ga_eq m c t) (gs_eq m c t) (wo_eq m c t) (gpm_eq m c t) (g_eq m c t) (wg_eq m c t) (wu_eq m c t) (cw_eq m c t) (cb_eq m c t) (wd_eq m c t) (gpost_eq m c t)

theorem row_eq (t : Fin cfg0.N) (i : Fin 32) : (blocks m c t).row i = (args m c).row i := by
  unfold Body.In.row Step.row
  rw [W_eq]
  exact congr (congr (congrArg (TailRows.mix (args m c).W) (x_eq m c t i)) (a_eq m c t i)) (s_eq m c t i)

theorem prev0_eq (t : Fin cfg0.N) (i : Fin 32) : (fun f => (blocks m c t).p0 (ix2 i f)) = (args m c).prev 0 i := funext fun f => Entry.iblk14 m c t i f
theorem prev1_eq (t : Fin cfg0.N) (i : Fin 32) : (fun f => (blocks m c t).p1 (ix2 i f)) = (args m c).prev 1 i := funext fun f => Entry.iblk15 m c t i f

theorem point16 (t : Fin cfg0.N) (i : Fin 32) (j : Fin 1024) : out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 i j) = (args m c).y i j := by
  rw [Body.out16_eq]
  refine (congrFun (View.canon_cons_unit_lit _ _ _ (by decide)) (ix2 i j)).trans ?_
  refine (Body.fin_apply (blocks m c t) i j).trans ?_
  rw [W_eq, row_eq, prev0_eq, prev1_eq]
  rfl

theorem point17 (t : Fin cfg0.N) (i : Fin 32) (f : Fin 2816) : out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 i f) = (args m c).gate i f := by
  rw [Body.out17_eq]
  refine (Body.gates_apply (blocks m c t) i f).trans ?_
  rw [W_eq, row_eq]
  rfl

/-- The layer's result as an array: row `n` is sequence `n`'s token. -/
def result : Buf (Elt Ideal) ((c : Thread nD τ).loc main_v27_0) := fun i : S32x1024.Idx => (args m c).y (i 0) (i 1)

theorem idx16 : ∀ (t : Fin cfg0.N) (a : Fin 2), win0_16.index t a = 0 :=
  (by decide +kernel : ∀ (t : Fin grid0.N) (a : Fin 2), _)

/-- What the point writes back is its block of it. -/
theorem flushed16 (t : Fin cfg0.N) : (dats m 0 c).flushed 16 t = ((cfg0.win 16).blk t).view.read (Elt Ideal) (result m c) := by
  rw [Value.flushed16]
  have e0 := idx16 t 0
  have e1 := idx16 t 1
  funext y
  have hy0 : (y 0).val < 32 := (y 0).isLt
  have hy1 : (y 1).val < 1024 := (y 1).isLt
  have hb0 : (((cfg0.win 16).blk t).view.emb y 0).val = win0_16.index t (0 : Fin 2) * 32 + 1 * (y 0).val := rfl
  have hb1 : (((cfg0.win 16).blk t).view.emb y 1).val = win0_16.index t (1 : Fin 2) * 1024 + 1 * (y 1).val := rfl
  have hx : (cfg0.win 16).xinj (grid0.coords t) y = (ix2 ⟨(y 0).val, hy0⟩ ⟨(y 1).val, hy1⟩ : S32x1024.Idx) := by
    funext a
    match a with
    | ⟨0, _⟩ => rfl
    | ⟨1, _⟩ => rfl
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) ((cfg0.win 16).xinj (grid0.coords t) y) = result m c (((cfg0.win 16).blk t).view.emb y)
  rw [hx]
  refine (point16 m c t ⟨(y 0).val, hy0⟩ ⟨(y 1).val, hy1⟩).trans ?_
  unfold result
  have k0 : (⟨(y 0).val, hy0⟩ : Fin 32) = ((cfg0.win 16).blk t).view.emb y 0 := Fin.ext (by show (y 0).val = _; rw [hb0, e0]; omega)
  have k1 : (⟨(y 1).val, hy1⟩ : Fin 1024) = ((cfg0.win 16).blk t).view.emb y 1 := Fin.ext (by show (y 1).val = _; rw [hb1, e1]; omega)
  exact congrArg₂ (args m c).y k0 k1

/-- An index is in the point's block when each coordinate is in the block's range. -/
theorem mem_block16 (t : Fin cfg0.N) (i : S32x1024.Idx) :
    i ∈ ((cfg0.win 16).blk t).view.set ↔ ∀ a : Fin 2, win0_16.index t a * S32x1024.size a ≤ (i a).val ∧ (i a).val < win0_16.index t a * S32x1024.size a + S32x1024.size a := by
  show i ∈ ((View.whole main_v27_0).slice (win0_16.rect t)).set ↔ _
  rw [View.set_slice_whole, Rect.mem_set_unit]
  exact Iff.rfl

/-- The array after the run: the one point's block is all of it. -/
theorem final16 : (dats m 0 c).arrAt 16 cfg0.N = result m c := by
  refine (dats m 0 c).arrAt_eq_of_cover 16 _ (fun t hf => flushed16 m c t) (fun i => ?_)
  have hp : 0 < cfg0.N := lt_of_lt_of_eq (by omega) N_0.symm
  refine ⟨⟨_, hp⟩, flush0_16 _, (mem_block16 ⟨_, hp⟩ i).mpr fun a => ?_⟩
  rw [idx16, Nat.zero_mul, Nat.zero_add]
  exact ⟨Nat.zero_le _, (i a).isLt⟩

/-- The new gates as an array: row `n` is sequence `n`'s. -/
def newGates : Buf (Elt Ideal) ((c : Thread nD τ).loc main_v27_1) := fun i : S32x2816.Idx => (args m c).gate (i 0) (i 1)

theorem idx17 : ∀ (t : Fin cfg0.N) (a : Fin 2), win0_17.index t a = 0 :=
  (by decide +kernel : ∀ (t : Fin grid0.N) (a : Fin 2), _)

/-- What the point writes back is its block of it. -/
theorem flushed17 (t : Fin cfg0.N) : (dats m 0 c).flushed 17 t = ((cfg0.win 17).blk t).view.read (Elt Ideal) (newGates m c) := by
  rw [Value.flushed17]
  have e0 := idx17 t 0
  have e1 := idx17 t 1
  funext y
  have hy0 : (y 0).val < 32 := (y 0).isLt
  have hy1 : (y 1).val < 2816 := (y 1).isLt
  have hb0 : (((cfg0.win 17).blk t).view.emb y 0).val = win0_17.index t (0 : Fin 2) * 32 + 1 * (y 0).val := rfl
  have hb1 : (((cfg0.win 17).blk t).view.emb y 1).val = win0_17.index t (1 : Fin 2) * 2816 + 1 * (y 1).val := rfl
  have hx : (cfg0.win 17).xinj (grid0.coords t) y = (ix2 ⟨(y 0).val, hy0⟩ ⟨(y 1).val, hy1⟩ : S32x2816.Idx) := by
    funext a
    match a with
    | ⟨0, _⟩ => rfl
    | ⟨1, _⟩ => rfl
  show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) ((cfg0.win 17).xinj (grid0.coords t) y) = newGates m c (((cfg0.win 17).blk t).view.emb y)
  rw [hx]
  refine (point17 m c t ⟨(y 0).val, hy0⟩ ⟨(y 1).val, hy1⟩).trans ?_
  unfold newGates
  have k0 : (⟨(y 0).val, hy0⟩ : Fin 32) = ((cfg0.win 17).blk t).view.emb y 0 := Fin.ext (by show (y 0).val = _; rw [hb0, e0]; omega)
  have k1 : (⟨(y 1).val, hy1⟩ : Fin 2816) = ((cfg0.win 17).blk t).view.emb y 1 := Fin.ext (by show (y 1).val = _; rw [hb1, e1]; omega)
  exact congrArg₂ (args m c).gate k0 k1

/-- An index is in the point's block when each coordinate is in the block's range. -/
theorem mem_block17 (t : Fin cfg0.N) (i : S32x2816.Idx) :
    i ∈ ((cfg0.win 17).blk t).view.set ↔ ∀ a : Fin 2, win0_17.index t a * S32x2816.size a ≤ (i a).val ∧ (i a).val < win0_17.index t a * S32x2816.size a + S32x2816.size a := by
  show i ∈ ((View.whole main_v27_1).slice (win0_17.rect t)).set ↔ _
  rw [View.set_slice_whole, Rect.mem_set_unit]
  exact Iff.rfl

/-- The array after the run: the one point's block is all of it. -/
theorem final17 : (dats m 0 c).arrAt 17 cfg0.N = newGates m c := by
  refine (dats m 0 c).arrAt_eq_of_cover 17 _ (fun t hf => flushed17 m c t) (fun i => ?_)
  have hp : 0 < cfg0.N := lt_of_lt_of_eq (by omega) N_0.symm
  refine ⟨⟨_, hp⟩, flush0_17 _, (mem_block17 ⟨_, hp⟩ i).mpr fun a => ?_⟩
  rw [idx17, Nat.zero_mul, Nat.zero_add]
  exact ⟨Nat.zero_le _, (i a).isLt⟩

variable {x0 : (⟨StepTailRefIdeal.S32x1x1024, .f32⟩ : BufTy).Contents (Elt Ideal)} {x1 x2 : (⟨StepTailRefIdeal.S32x512, .f32⟩ : BufTy).Contents (Elt Ideal)}
    {x3 : (⟨StepTailRefIdeal.S1x32x2x2816, .f32⟩ : BufTy).Contents (Elt Ideal)}
    {x4 x5 : (⟨StepTailRefIdeal.S1x512, .f32⟩ : BufTy).Contents (Elt Ideal)} {x6 : (⟨StepTailRefIdeal.S1x1024x1024, .f32⟩ : BufTy).Contents (Elt Ideal)}
    {x7 x8 : (⟨StepTailRefIdeal.S1x1024, .f32⟩ : BufTy).Contents (Elt Ideal)} {x9 x10 : (⟨StepTailRefIdeal.S1x1024x2816, .f32⟩ : BufTy).Contents (Elt Ideal)}
    {x11 : (⟨StepTailRefIdeal.S1x3x2816, .f32⟩ : BufTy).Contents (Elt Ideal)} {x12 : (⟨StepTailRefIdeal.S1x2816, .f32⟩ : BufTy).Contents (Elt Ideal)}
    {x13 : (⟨StepTailRefIdeal.S1x2816x1024, .f32⟩ : BufTy).Contents (Elt Ideal)} {x14 : (⟨StepTailRefIdeal.S1x1024, .f32⟩ : BufTy).Contents (Elt Ideal)}

/-- The reference's two results from equal arguments. -/
theorem same (h0 : x0 = m ((c.tc : Thread nD τ).loc main_arg0)) (h1 : x1 = m ((c.tc : Thread nD τ).loc main_arg1))
    (h2 : x2 = m ((c.tc : Thread nD τ).loc main_arg2)) (h3 : x3 = m ((c.tc : Thread nD τ).loc main_arg3))
    (h4 : x4 = m ((c.tc : Thread nD τ).loc main_arg4)) (h5 : x5 = m ((c.tc : Thread nD τ).loc main_arg5))
    (h6 : x6 = m ((c.tc : Thread nD τ).loc main_arg6)) (h7 : x7 = m ((c.tc : Thread nD τ).loc main_arg7))
    (h8 : x8 = m ((c.tc : Thread nD τ).loc main_arg8)) (h9 : x9 = m ((c.tc : Thread nD τ).loc main_arg9))
    (h10 : x10 = m ((c.tc : Thread nD τ).loc main_arg10)) (h11 : x11 = m ((c.tc : Thread nD τ).loc main_arg11))
    (h12 : x12 = m ((c.tc : Thread nD τ).loc main_arg12)) (h13 : x13 = m ((c.tc : Thread nD τ).loc main_arg13))
    (h14 : x14 = m ((c.tc : Thread nD τ).loc main_arg14)) :
    val_main_v128 (F := Ideal) x0 x1 x2 x3 x4 x5 x6 x7 x8 x9 x10 x11 x12 x13 x14 = result m c ∧ val_main_v130 (F := Ideal) x0 x1 x2 x3 x4 x5 x6 x7 x8 x9 = newGates m c := by
  have e : StepTailRefIdeal.Rows.argsOf x0 x1 x2 x3 x4 x5 x6 x7 x8 x9 x10 x11 x12 x13 x14 = args m c := by rw [h0, h1, h2, h3, h4, h5, h6, h7, h8, h9, h10, h11, h12, h13, h14]; rfl
  refine ⟨?_, ?_⟩ <;> funext i
  · obtain ⟨n, j, rfl⟩ : ∃ (n : Fin 32) (j : Fin 1024), i = ix2 n j := ⟨_, _, eq_ix2 i⟩
    exact (StepTailRefIdeal.Rows.y_v128 x0 x1 x2 x3 x4 x5 x6 x7 x8 x9 x10 x11 x12 x13 x14 n j).trans (by rw [e]; rfl)
  · obtain ⟨n, f, rfl⟩ : ∃ (n : Fin 32) (f : Fin 2816), i = ix2 n f := ⟨_, _, eq_ix2 i⟩
    exact (StepTailRefIdeal.Rows.gate_v130 x0 x1 x2 x3 x4 x5 x6 x7 x8 x9 x10 x11 x12 x13 x14 n f).trans (by rw [e]; rfl)

theorem algebraic : Cert.algebraic_StepTailIdeal_StepTailRefIdeal := by
  intro m g m' g' _ hag
  refine ⟨fun c => result m c, fun c => newGates m c, (θ_run _ _ _).mono (fun r h c => ?_) (Value.run_blocks m g), ?_⟩
  · obtain ⟨h0, h1, hr⟩ := h c
    exact ⟨h0.trans (final16 m c), h1.trans (final17 m c), hr⟩
  · refine (θ_run _ _ _).mono (fun r h c => ?_) (StepTailRefIdeal.Value.run m' g')
    obtain ⟨a0, a1, a2, a3, a4, a5, a6, a7, a8, a9, a10, a11, a12, a13, a14⟩ := hag c
    obtain ⟨h0, h1, hr⟩ := h c
    obtain ⟨s0, s1⟩ := same m c a0 a1 a2 a3 a4 a5 a6 a7 a8 a9 a10 a11 a12 a13 a14
    exact ⟨(h0.trans (val_main_v128_eq (launchContents m' c))).trans s0,
      (h1.trans (val_main_v130_eq (launchContents m' c))).trans s1, hr⟩

end Cert.StepTailIdeal.Final
-- ==== Proof.StepSsm.Layer.lean ====
/- The recurrence's one step as functions of rows: the state's real and imaginary parts, the read-out, its gated unit. -/
module

public import proofs.«01_k».proof.Proof.Tail.Rows

@[expose] public section

noncomputable section

namespace SsmStep

open Idealize.ShloMosaic TailRows
open scoped BigOperators

/-- What the step is made from: the new inputs and the stored states of the 32 sequences, the matrices that read the input
and the state, the factors the state is carried with, and the weights of the input's own term and of the gate. A complex
number is a pair of its real and imaginary parts. -/
structure Args where
  u : Fin 32 → Fin 512 → EReal
  hr : Fin 32 → Fin 2048 → EReal
  hi : Fin 32 → Fin 2048 → EReal
  br : Fin 512 → Fin 2048 → EReal
  bi : Fin 512 → Fin 2048 → EReal
  cr : Fin 2048 → Fin 512 → EReal
  ci : Fin 2048 → Fin 512 → EReal
  ar : Fin 2048 → EReal
  ai : Fin 2048 → EReal
  d : Fin 512 → EReal
  w : Fin 512 → Fin 512 → EReal

variable (A : Args)

/-- The new state's real part. -/
def Args.re (n : Fin 32) (k : Fin 2048) : EReal :=
  (∑ q : Fin 512, A.u n q * A.br q k) + (A.ar k * A.hr n k - A.ai k * A.hi n k)

/-- The new state's imaginary part. -/
def Args.im (n : Fin 32) (k : Fin 2048) : EReal :=
  (∑ q : Fin 512, A.u n q * A.bi q k) + (A.ar k * A.hi n k + A.ai k * A.hr n k)

/-- The read-out: the state's, plus the input's own term. -/
def Args.y (n : Fin 32) (j : Fin 512) : EReal :=
  ((∑ k : Fin 2048, A.re n k * A.cr k j) + ∑ k : Fin 2048, A.im n k * A.ci k j) + A.d j * A.u n j

/-- The read-out after its nonlinearity. -/
def Args.z (n : Fin 32) (j : Fin 512) : EReal := gelu (A.y n j)

/-- The logistic function. -/
def logistic (x : EReal) : EReal := Ideal.div cOne (cOne + Ideal.exp (-x))

/-- The result: the read-out times its gate. -/
def Args.out (n : Fin 32) (j : Fin 512) : EReal := A.z n j * logistic (∑ k : Fin 512, A.z n k * A.w k j)

end SsmStep
-- ==== Proof.StepSsm.Apply.lean ====
/- The step kernel's three results at an index, in its blocks. -/
module

public import proofs.«01_k».proof.Proof.Gen.StepSsmIdeal.Frame
public import proofs.«01_k».proof.Proof.StepSsm.Layer
public import Idealize.ShloMosaic.Lib.ValueIdxCore
public import Idealize.ShloMosaic.Lib.MatmulPlain
public import Idealize.ShloMosaic.Lib.Pipeline.ValueKit.Tiles
public import Idealize.ShloMosaic.PureOps.Ideal.Laws

@[expose] public section

set_option maxRecDepth 16384

noncomputable section

namespace Cert.StepSsmIdeal.Apply

open Idealize.ShloMosaic Idealize.SL.Sem Cert.StepSsmIdeal Cert.StepSsmIdeal.Gen
open Idealize.ShloMosaic.ValueIdx TailRows SsmStep
open scoped BigOperators

/-! A product into zeros, and a row repeated, at an index. -/

theorem mm_in (a : FVec Ideal S32x512 .bf16) (w : FVec Ideal S512x2048 .bf16) (n : Fin 32) (k : Fin 2048) :
    matmul dot_S32x512_S512x2048_S32x2048_1_0_0_1_n_n none a w (constant S32x2048 .f32 0x00000000#32) (ix2 n k)
      = ∑ q : Fin 512, (a (ix2 n q) : EReal) * w (ix2 q k) := by
  refine (Ideal.matmul_plain_apply none a w (constant S32x2048 .f32 0x00000000#32) n k).trans ?_
  rw [show (constant S32x2048 .f32 0x00000000#32 : FVec Ideal S32x2048 .f32) (ix2 n k) = (0 : EReal) from Ideal.ofBits_zero_f32, zero_add]

theorem mm_out (a : FVec Ideal S32x2048 .bf16) (w : FVec Ideal S2048x512 .bf16) (n : Fin 32) (j : Fin 512) :
    matmul dot_S32x2048_S2048x512_S32x512_1_0_0_1_n_n none a w (constant S32x512 .f32 0x00000000#32) (ix2 n j)
      = ∑ k : Fin 2048, (a (ix2 n k) : EReal) * w (ix2 k j) := by
  refine (Ideal.matmul_plain_apply none a w (constant S32x512 .f32 0x00000000#32) n j).trans ?_
  rw [show (constant S32x512 .f32 0x00000000#32 : FVec Ideal S32x512 .f32) (ix2 n j) = (0 : EReal) from Ideal.ofBits_zero_f32, zero_add]

theorem mm_gate (a : FVec Ideal S32x512 .bf16) (w : FVec Ideal S512x512 .bf16) (n : Fin 32) (j : Fin 512) :
    matmul dot_S32x512_S512x512_S32x512_1_0_0_1_n_n none a w (constant S32x512 .f32 0x00000000#32) (ix2 n j)
      = ∑ k : Fin 512, (a (ix2 n k) : EReal) * w (ix2 k j) := by
  refine (Ideal.matmul_plain_apply none a w (constant S32x512 .f32 0x00000000#32) n j).trans ?_
  rw [show (constant S32x512 .f32 0x00000000#32 : FVec Ideal S32x512 .f32) (ix2 n j) = (0 : EReal) from Ideal.ofBits_zero_f32, zero_add]

theorem row_state (w : Vec Ideal S1x1x2048 .f32) (n : Fin 32) (k : Fin 2048) :
    broadcastTo S32x2048 (shapeCast S1x2048 w shapeCasts_S1x1x2048_S1x2048) broadcasts_S1x2048_S32x2048 (ix2 n k) = w (ix3 0 0 k) := by
  refine (broadcastTo_apply _ _ _ (ix2 0 k) (fun a => match a with | ⟨0, _⟩ => rfl | ⟨1, _⟩ => rfl)).trans ?_
  refine shapeCast_apply _ _ (ix2 0 k : S1x2048.Idx) (ix3 0 0 k) ?_
  rw [Shape.rowMajor_val_two, Shape.rowMajor_val_three]
  show (0 * 1 + 0) * 2048 + k.val = 0 * 2048 + k.val
  omega

theorem row_input (w : Vec Ideal S1x512 .f32) (n : Fin 32) (j : Fin 512) :
    broadcastTo S32x512 w broadcasts_S1x512_S32x512 (ix2 n j) = w (ix2 0 j) :=
  broadcastTo_apply _ _ _ (ix2 0 j) (fun a => match a with | ⟨0, _⟩ => rfl | ⟨1, _⟩ => rfl)

/-! Each load of a whole block is the block; the factors' load is their first row. -/

theorem ld_u (x : Vec Ideal S32x512 .f32) : View.ld x r0_0 = x := by
  funext y
  exact View.ld_unit_apply_of _ _ _ _ _ y fun a => match a with | ⟨0, _⟩ => (Nat.zero_add _).symm | ⟨1, _⟩ => (Nat.zero_add _).symm

theorem ld_p (x : Vec Ideal S2x8x2048 .f32) (k : Fin 2048) : View.ld x r0_1 (ix3 0 0 k : S1x1x2048.Idx) = x (ix3 0 0 k) :=
  View.ld_unit_apply_of _ _ _ _ _ (ix3 0 0 k) fun a => match a with | ⟨0, _⟩ => rfl | ⟨1, _⟩ => rfl | ⟨2, _⟩ => (Nat.zero_add _).symm

theorem ld_h (x : Vec Ideal S32x2048 .f32) : View.ld x r0_2 = x := by
  funext y
  exact View.ld_unit_apply_of _ _ _ _ _ y fun a => match a with | ⟨0, _⟩ => (Nat.zero_add _).symm | ⟨1, _⟩ => (Nat.zero_add _).symm

theorem ld_b (x : Vec Ideal S512x2048 .bf16) : View.ld x r0_3 = x := by
  funext y
  exact View.ld_unit_apply_of _ _ _ _ _ y fun a => match a with | ⟨0, _⟩ => (Nat.zero_add _).symm | ⟨1, _⟩ => (Nat.zero_add _).symm

theorem ld_c (x : Vec Ideal S2048x512 .bf16) : View.ld x r0_4 = x := by
  funext y
  exact View.ld_unit_apply_of _ _ _ _ _ y fun a => match a with | ⟨0, _⟩ => (Nat.zero_add _).symm | ⟨1, _⟩ => (Nat.zero_add _).symm

theorem ld_d (x : Vec Ideal S1x512 .f32) : View.ld x r0_5 = x := by
  funext y
  exact View.ld_unit_apply_of _ _ _ _ _ y fun a => match a with | ⟨0, _⟩ => (Nat.zero_add _).symm | ⟨1, _⟩ => (Nat.zero_add _).symm

theorem ld_w (x : Vec Ideal S512x512 .bf16) : View.ld x r0_6 = x := by
  funext y
  exact View.ld_unit_apply_of _ _ _ _ _ y fun a => match a with | ⟨0, _⟩ => (Nat.zero_add _).symm | ⟨1, _⟩ => (Nat.zero_add _).symm

/-! The three results. -/

variable (x0 : Vec Ideal S32x512 .f32) (x1 x2 : Vec Ideal S32x2048 .f32) (x3 x4 : Vec Ideal S512x2048 .bf16)
  (x5 x6 : Vec Ideal S2048x512 .bf16) (x7 x8 : Vec Ideal S2x8x2048 .f32) (x9 : Vec Ideal S1x512 .f32) (x10 : Vec Ideal S512x512 .bf16)

/-- The step's arguments, from the blocks. -/
def ofBlocks : Args where
  u n q := x0 (ix2 n q)
  hr n k := x1 (ix2 n k)
  hi n k := x2 (ix2 n k)
  br q k := x3 (ix2 q k)
  bi q k := x4 (ix2 q k)
  cr k j := x5 (ix2 k j)
  ci k j := x6 (ix2 k j)
  ar k := x7 (ix3 0 0 k)
  ai k := x8 (ix3 0 0 k)
  d j := x9 (ix2 0 j)
  w k j := x10 (ix2 k j)

/-- The new state's real part. -/
theorem re_apply (n : Fin 32) (k : Fin 2048) :
    k0_pay7 x0 (View.ld x7 r0_1) (View.ld x8 r0_1) x1 x2 x3 (ix2 n k) = (ofBlocks x0 x1 x2 x3 x4 x5 x6 x7 x8 x9 x10).re n k := by
  unfold k0_pay7 k0_pay3 k0_pay4 k0_pay5 k0_pay6 k0_pay2
  simp only [shapeCast_self]
  exact congrArg₂ (fun a b : EReal => a + b) (mm_in _ x3 n k)
    (congrArg₂ (fun a b : EReal => a * x1 (ix2 n k) - b * x2 (ix2 n k)) ((row_state _ n k).trans (ld_p x7 k)) ((row_state _ n k).trans (ld_p x8 k)))

/-- The new state's imaginary part. -/
theorem im_apply (n : Fin 32) (k : Fin 2048) :
    k0_pay8 x0 (View.ld x7 r0_1) (View.ld x8 r0_1) x1 x2 x4 (ix2 n k) = (ofBlocks x0 x1 x2 x3 x4 x5 x6 x7 x8 x9 x10).im n k := by
  unfold k0_pay8 k0_pay3 k0_pay4 k0_pay5 k0_pay6 k0_pay2
  simp only [shapeCast_self]
  exact congrArg₂ (fun a b : EReal => a + b) (mm_in _ x4 n k)
    (congrArg₂ (fun a b : EReal => a * x2 (ix2 n k) + b * x1 (ix2 n k)) ((row_state _ n k).trans (ld_p x7 k)) ((row_state _ n k).trans (ld_p x8 k)))

/-- The read-out as the kernel sums it. -/
def readout (v0 v30 : FVec Ideal S32x512 .f32) (v31 : FVec Ideal S32x2048 .bf16) (v32 : FVec Ideal S2048x512 .bf16) (v35 : FVec Ideal S1x512 .f32) : FVec Ideal S32x512 .f32 :=
  addf (addf v30 (matmul dot_S32x2048_S2048x512_S32x512_1_0_0_1_n_n none v31 v32 (constant S32x512 .f32 0x00000000#32)))
    (mulf (broadcastTo S32x512 v35 broadcasts_S1x512_S32x512) v0)

/-- The stored result, from the read-out. -/
theorem gated_apply (v0 v30 : FVec Ideal S32x512 .f32) (v31 : FVec Ideal S32x2048 .bf16) (v32 : FVec Ideal S2048x512 .bf16)
    (v35 : FVec Ideal S1x512 .f32) (v54 : FVec Ideal S512x512 .bf16) (n : Fin 32) (j : Fin 512) :
    k0_pay1 v0 v30 v31 v32 v35 v54 (ix2 n j) = gelu (readout v0 v30 v31 v32 v35 (ix2 n j))
      * logistic (∑ k : Fin 512, gelu (readout v0 v30 v31 v32 v35 (ix2 n k)) * (v54 (ix2 k j) : EReal)) := by
  unfold k0_pay1
  simp only [shapeCast_self]
  refine congrArg (fun a : EReal => gelu (readout v0 v30 v31 v32 v35 (ix2 n j)) * Ideal.div cOne (cOne + Ideal.exp a)) ?_
  refine (congrArg (fun a : EReal => Ideal.ofBits .f32 0x00000000#32 - a) (mm_gate _ v54 n j)).trans ?_
  rw [Ideal.ofBits_zero_f32, zero_sub]
  rfl

theorem readout_apply (n : Fin 32) (j : Fin 512) :
    readout x0 (k0_pay9 x0 (View.ld x7 r0_1) (View.ld x8 r0_1) x1 x2 x3 x5) (k0_pay10 x0 (View.ld x7 r0_1) (View.ld x8 r0_1) x1 x2 x4) x6 x9 (ix2 n j)
      = (ofBlocks x0 x1 x2 x3 x4 x5 x6 x7 x8 x9 x10).y n j := by
  refine congrArg₂ (fun a b : EReal => a + b) (congrArg₂ (fun a b : EReal => a + b) ?_ ?_) (congrArg (fun a : EReal => a * x0 (ix2 n j)) (row_input x9 n j))
  · exact (mm_out _ x5 n j).trans (Finset.sum_congr rfl fun k _ => congrArg (fun a : EReal => a * x5 (ix2 k j)) (re_apply x0 x1 x2 x3 x4 x5 x6 x7 x8 x9 x10 n k))
  · exact (mm_out _ x6 n j).trans (Finset.sum_congr rfl fun k _ => congrArg (fun a : EReal => a * x6 (ix2 k j)) (im_apply x0 x1 x2 x3 x4 x5 x6 x7 x8 x9 x10 n k))

theorem out11_apply (n : Fin 32) (j : Fin 512) :
    out0_11 x0 x1 x2 x3 x4 x5 x6 x7 x8 x9 x10 (ix2 n j) = (ofBlocks x0 x1 x2 x3 x4 x5 x6 x7 x8 x9 x10).out n j := by
  unfold out0_11
  refine (congrFun (View.canon_cons_unit_lit _ _ _ (by decide)) (ix2 n j)).trans ?_
  rw [ld_u, ld_h, ld_h, ld_b, ld_b, ld_c, ld_c, ld_d, ld_w]
  refine (gated_apply _ _ _ _ _ _ n j).trans ?_
  simp only [readout_apply x0 x1 x2 x3 x4 x5 x6 x7 x8 x9 x10]
  rfl

theorem out12_apply (n : Fin 32) (k : Fin 2048) :
    out0_12 x0 x1 x2 x3 x4 x5 x6 x7 x8 x9 x10 (ix2 n k) = (ofBlocks x0 x1 x2 x3 x4 x5 x6 x7 x8 x9 x10).re n k := by
  unfold out0_12
  refine (congrFun (View.canon_cons_unit_lit _ _ _ (by decide)) (ix2 n k)).trans ?_
  rw [ld_u, ld_h, ld_h, ld_b]
  exact re_apply x0 x1 x2 x3 x4 x5 x6 x7 x8 x9 x10 n k

theorem out13_apply (n : Fin 32) (k : Fin 2048) :
    out0_13 x0 x1 x2 x3 x4 x5 x6 x7 x8 x9 x10 (ix2 n k) = (ofBlocks x0 x1 x2 x3 x4 x5 x6 x7 x8 x9 x10).im n k := by
  unfold out0_13
  refine (congrFun (View.canon_cons_unit_lit _ _ _ (by decide)) (ix2 n k)).trans ?_
  rw [ld_u, ld_h, ld_h, ld_b]
  exact im_apply x0 x1 x2 x3 x4 x5 x6 x7 x8 x9 x10 n k

end Cert.StepSsmIdeal.Apply
-- ==== Proof.StepSsm.Entry.lean ====
/- The step kernel's input blocks, read at an index, as elements of the program's arguments. -/
module

public import proofs.«01_k».proof.Proof.Gen.StepSsmIdeal.Frame
public import proofs.«01_k».proof.Proof.StepSsm.Layer
public import Idealize.ShloMosaic.PureOps.Ideal
public import Idealize.ShloMosaic.Lib.Claim
public import Idealize.ShloMosaic.Lib.ValueIdxCore
public import Idealize.ShloMosaic.Lib.Pipeline.ValueKit.Geometry

@[expose] public section

set_option maxRecDepth 16384

noncomputable section

namespace Cert.StepSsmIdeal.Entry

open Idealize.ShloMosaic Idealize.ShloMosaic.TcCoe Idealize.SL.Sem Cert.StepSsmIdeal Cert.StepSsmIdeal.Gen
open Idealize.ShloMosaic.ValueIdx

variable (m : (ℓ : Loc nD τ sig) → Buf (Elt Ideal) ℓ) (c : Dev nD)

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)
theorem idx8 : ∀ t : Fin cfg0.N, win0_8.index t (0 : Fin 3) = 0 ∧ win0_8.index t (1 : Fin 3) = 0 ∧ win0_8.index t (2 : Fin 3) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)

theorem iblk0 (t : Fin cfg0.N) (i : Fin 32) (j : Fin 512) : iblk m c 0 t (ix2 i j) = m ((c : Thread nD τ).loc main_arg0) (ix2 i j) := by
  have e := idx0 t
  unfold iblk
  rw [View.read_apply, cast_eq]
  entry_read
  refine congrArg _ (Shape.idx_ext₂ ?_ ?_)
  · blk_simp [e.1]
  · blk_simp [e.2]

theorem iblk3 (t : Fin cfg0.N) (i : Fin 512) (j : Fin 2048) : iblk m c 3 t (ix2 i j) = m ((c : Thread nD τ).loc main_arg3) (ix2 i j) := by
  have e := idx3 t
  unfold iblk
  rw [View.read_apply, cast_eq]
  entry_read
  refine congrArg _ (Shape.idx_ext₂ ?_ ?_)
  · blk_simp [e.1]
  · blk_simp [e.2]

theorem iblk4 (t : Fin cfg0.N) (i : Fin 512) (j : Fin 2048) : iblk m c 4 t (ix2 i j) = m ((c : Thread nD τ).loc main_arg4) (ix2 i j) := by
  have e := idx4 t
  unfold iblk
  rw [View.read_apply, cast_eq]
  entry_read
  refine congrArg _ (Shape.idx_ext₂ ?_ ?_)
  · blk_simp [e.1]
  · blk_simp [e.2]

theorem iblk5 (t : Fin cfg0.N) (i : Fin 2048) (j : Fin 512) : iblk m c 5 t (ix2 i j) = m ((c : Thread nD τ).loc main_arg5) (ix2 i j) := by
  have e := idx5 t
  unfold iblk
  rw [View.read_apply, cast_eq]
  entry_read
  refine congrArg _ (Shape.idx_ext₂ ?_ ?_)
  · blk_simp [e.1]
  · blk_simp [e.2]

theorem iblk6 (t : Fin cfg0.N) (i : Fin 2048) (j : Fin 512) : iblk m c 6 t (ix2 i j) = m ((c : Thread nD τ).loc main_arg6) (ix2 i j) := by
  have e := idx6 t
  unfold iblk
  rw [View.read_apply, cast_eq]
  entry_read
  refine congrArg _ (Shape.idx_ext₂ ?_ ?_)
  · blk_simp [e.1]
  · blk_simp [e.2]

theorem iblk7 (t : Fin cfg0.N) (p : Fin 2) (i : Fin 8) (j : Fin 2048) : iblk m c 7 t (ix3 p i j) = m ((c : Thread nD τ).loc main_arg7) (ix3 p i j) := by
  obtain ⟨e0, e1, e2⟩ := idx7 t
  unfold iblk
  rw [View.read_apply, cast_eq]
  entry_read
  refine congrArg _ (funext fun a => ?_)
  match a with
  | ⟨0, _⟩ => exact Fin.ext (by blk_simp [e0])
  | ⟨1, _⟩ => exact Fin.ext (by blk_simp [e1])
  | ⟨2, _⟩ => exact Fin.ext (by blk_simp [e2])

theorem iblk8 (t : Fin cfg0.N) (p : Fin 2) (i : Fin 8) (j : Fin 2048) : iblk m c 8 t (ix3 p i j) = m ((c : Thread nD τ).loc main_arg8) (ix3 p i j) := by
  obtain ⟨e0, e1, e2⟩ := idx8 t
  unfold iblk
  rw [View.read_apply, cast_eq]
  entry_read
  refine congrArg _ (funext fun a => ?_)
  match a with
  | ⟨0, _⟩ => exact Fin.ext (by blk_simp [e0])
  | ⟨1, _⟩ => exact Fin.ext (by blk_simp [e1])
  | ⟨2, _⟩ => exact Fin.ext (by blk_simp [e2])

theorem iblk1 (t : Fin cfg0.N) (i : Fin 32) (j : Fin 2048) :
    iblk m c 1 t (ix2 i j) = m ((c : Thread nD τ).loc main_arg1) (ix4 0 i ⟨j.val / 64, by omega⟩ ⟨j.val % 64, by omega⟩) := by
  have e := idx1 t
  have e0 : (((cfg0.win 1).blk t).view.emb (ix2 i j)) = (ix2 i j : S32x2048.Idx) := by
    refine Shape.idx_ext₂ ?_ ?_
    · blk_simp [e.1]
    · blk_simp [e.2]
  unfold iblk
  rw [View.read_apply, cast_eq]
  entry_read
  refine (congrArg _ e0).trans ((shapeCast_apply _ shapeCasts_S32x32x64_S32x2048 (ix2 i j : S32x2048.Idx) (ix3 i ⟨j.val / 64, by omega⟩ ⟨j.val % 64, by omega⟩) ?_).trans
    (shapeCast_apply _ shapeCasts_S1x32x32x64_S32x32x64 (ix3 i ⟨j.val / 64, by omega⟩ ⟨j.val % 64, by omega⟩ : S32x32x64.Idx) (ix4 0 i ⟨j.val / 64, by omega⟩ ⟨j.val % 64, by omega⟩) ?_))
  · rw [Shape.rowMajor_val_two, Shape.rowMajor_val_three]
    show (i.val * 32 + j.val / 64) * 64 + j.val % 64 = i.val * 2048 + j.val
    omega
  · rw [Shape.rowMajor_val_three, Shape.rowMajor_val_four]
    show ((0 * 32 + i.val) * 32 + j.val / 64) * 64 + j.val % 64 = (i.val * 32 + j.val / 64) * 64 + j.val % 64
    omega

theorem iblk2 (t : Fin cfg0.N) (i : Fin 32) (j : Fin 2048) :
    iblk m c 2 t (ix2 i j) = m ((c : Thread nD τ).loc main_arg2) (ix4 0 i ⟨j.val / 64, by omega⟩ ⟨j.val % 64, by omega⟩) := by
  have e := idx2 t
  have e0 : (((cfg0.win 2).blk t).view.emb (ix2 i j)) = (ix2 i j : S32x2048.Idx) := by
    refine Shape.idx_ext₂ ?_ ?_
    · blk_simp [e.1]
    · blk_simp [e.2]
  unfold iblk
  rw [View.read_apply, cast_eq]
  entry_read
  refine (congrArg _ e0).trans ((shapeCast_apply _ shapeCasts_S32x32x64_S32x2048 (ix2 i j : S32x2048.Idx) (ix3 i ⟨j.val / 64, by omega⟩ ⟨j.val % 64, by omega⟩) ?_).trans
    (shapeCast_apply _ shapeCasts_S1x32x32x64_S32x32x64 (ix3 i ⟨j.val / 64, by omega⟩ ⟨j.val % 64, by omega⟩ : S32x32x64.Idx) (ix4 0 i ⟨j.val / 64, by omega⟩ ⟨j.val % 64, by omega⟩) ?_))
  · rw [Shape.rowMajor_val_two, Shape.rowMajor_val_three]
    show (i.val * 32 + j.val / 64) * 64 + j.val % 64 = i.val * 2048 + j.val
    omega
  · rw [Shape.rowMajor_val_three, Shape.rowMajor_val_four]
    show ((0 * 32 + i.val) * 32 + j.val / 64) * 64 + j.val % 64 = (i.val * 32 + j.val / 64) * 64 + j.val % 64
    omega

theorem iblk9 (t : Fin cfg0.N) (j : Fin 512) :
    iblk m c 9 t (ix2 0 j) = m ((c : Thread nD τ).loc main_arg9) (ix3 0 ⟨j.val / 16, by omega⟩ ⟨j.val % 16, by omega⟩) := by
  have e := idx9 t
  have e0 : (((cfg0.win 9).blk t).view.emb (ix2 0 j)) = (ix2 0 j : S1x512.Idx) := by
    refine Shape.idx_ext₂ ?_ ?_
    · blk_simp [e.1]
    · blk_simp [e.2]
  unfold iblk
  rw [View.read_apply, cast_eq]
  entry_read
  refine (congrArg _ e0).trans ((shapeCast_apply _ shapeCasts_S32x16_S1x512 (ix2 0 j : S1x512.Idx) (ix2 ⟨j.val / 16, by omega⟩ ⟨j.val % 16, by omega⟩) ?_).trans
    (shapeCast_apply _ shapeCasts_S1x32x16_S32x16 (ix2 ⟨j.val / 16, by omega⟩ ⟨j.val % 16, by omega⟩ : S32x16.Idx) (ix3 0 ⟨j.val / 16, by omega⟩ ⟨j.val % 16, by omega⟩) ?_))
  · rw [Shape.rowMajor_val_two, Shape.rowMajor_val_two]
    show j.val / 16 * 16 + j.val % 16 = 0 * 512 + j.val
    omega
  · rw [Shape.rowMajor_val_three, Shape.rowMajor_val_two]
    show (0 * 32 + j.val / 16) * 16 + j.val % 16 = j.val / 16 * 16 + j.val % 16
    omega

theorem iblk10 (t : Fin cfg0.N) (i : Fin 512) (j : Fin 512) :
    iblk m c 10 t (ix2 i j) = m ((c : Thread nD τ).loc main_arg10) (ix3 0 i j) := by
  have e := idx10 t
  have e0 : (((cfg0.win 10).blk t).view.emb (ix2 i j)) = (ix2 i j : S512x512.Idx) := by
    refine Shape.idx_ext₂ ?_ ?_
    · blk_simp [e.1]
    · blk_simp [e.2]
  unfold iblk
  rw [View.read_apply, cast_eq]
  entry_read
  refine (congrArg _ e0).trans (shapeCast_apply _ shapeCasts_S1x512x512_S512x512 (ix2 i j : S512x512.Idx) (ix3 0 i j) ?_)
  rw [Shape.rowMajor_val_two, Shape.rowMajor_val_three]
  show (0 * 512 + i.val) * 512 + j.val = i.val * 512 + j.val
  omega

end Cert.StepSsmIdeal.Entry
-- ==== Proof.StepSsm.Ref.lean ====
/- The reference's three results at an index: the step of rows. -/
module

public import proofs.«01_k».proof.Proof.Gen.StepSsmRefIdeal.Read
public import proofs.«01_k».proof.Proof.StepSsm.Layer
public import Idealize.ShloMosaic.Lib.ValueIdxCore
public import Idealize.ShloMosaic.PureOps.Ideal.Laws

@[expose] public section

set_option maxRecDepth 16384

noncomputable section

namespace Cert.StepSsmRefIdeal.Rows

open Idealize.ShloMosaic Idealize.SL.Sem Cert.StepSsmRefIdeal Cert.StepSsmRefIdeal.Gen Cert.StepSsmRefIdeal.Read
open Idealize.ShloMosaic.ValueIdx TailRows SsmStep
open scoped BigOperators

variable (x0 : (⟨S32x512, .f32⟩ : BufTy).Contents (Elt Ideal)) (x1 x2 : (⟨S1x32x32x64, .f32⟩ : BufTy).Contents (Elt Ideal))
    (x3 x4 : (⟨S512x2048, .bf16⟩ : BufTy).Contents (Elt Ideal)) (x5 x6 : (⟨S2048x512, .bf16⟩ : BufTy).Contents (Elt Ideal))
    (x7 x8 : (⟨S2x8x2048, .f32⟩ : BufTy).Contents (Elt Ideal)) (x9 : (⟨S1x32x16, .f32⟩ : BufTy).Contents (Elt Ideal))
    (x10 : (⟨S1x512x512, .f32⟩ : BufTy).Contents (Elt Ideal))

/-- The step's arguments, from the reference's: element `k` of a state is element `k % 64` of group `k / 64`, element `j` of
the input's own weights is element `j % 16` of group `j / 16`, and the factors are the powers' first row. -/
def argsOf : Args where
  u n q := x0 (ix2 n q)
  hr n k := x1 (ix4 0 n ⟨k.val / 64, by omega⟩ ⟨k.val % 64, by omega⟩)
  hi n k := x2 (ix4 0 n ⟨k.val / 64, by omega⟩ ⟨k.val % 64, by omega⟩)
  br q k := x3 (ix2 q k)
  bi q k := x4 (ix2 q k)
  cr k j := x5 (ix2 k j)
  ci k j := x6 (ix2 k j)
  ar k := x7 (ix3 0 0 k)
  ai k := x8 (ix3 0 0 k)
  d j := x9 (ix3 0 ⟨j.val / 16, by omega⟩ ⟨j.val % 16, by omega⟩)
  w k j := x10 (ix3 0 k j)

theorem v0_row (n : Fin 32) (q : Fin 512) : val_main_v0 (F := Ideal) x0 (ix3 n 0 q) = x0 (ix2 n q) := by
  rw [val_main_v0_apply]
  refine congrArg x0 (Shape.idx_ext₂ ?_ ?_)
  · show ((n.val * 1 + 0) * 512 + q.val) / 512 = n.val; omega
  · show ((n.val * 1 + 0) * 512 + q.val) % 512 = q.val; omega

theorem v2_row (n : Fin 32) (k : Fin 2048) :
    val_main_v2 (F := Ideal) x1 (ix3 n 0 k) = x1 (ix4 0 n ⟨k.val / 64, by omega⟩ ⟨k.val % 64, by omega⟩) := by
  unfold val_main_v2 val_main_v1
  refine (shapeCast_apply _ shapeCasts_S32x32x64_S32x1x2048 (ix3 n 0 k : S32x1x2048.Idx) (ix3 n ⟨k.val / 64, by omega⟩ ⟨k.val % 64, by omega⟩) ?_).trans
    (shapeCast_apply _ shapeCasts_S1x32x32x64_S32x32x64 (ix3 n ⟨k.val / 64, by omega⟩ ⟨k.val % 64, by omega⟩ : S32x32x64.Idx) (ix4 0 n ⟨k.val / 64, by omega⟩ ⟨k.val % 64, by omega⟩) ?_)
  · rw [Shape.rowMajor_val_three, Shape.rowMajor_val_three]
    show (n.val * 32 + k.val / 64) * 64 + k.val % 64 = (n.val * 1 + 0) * 2048 + k.val
    omega
  · rw [Shape.rowMajor_val_three, Shape.rowMajor_val_four]
    show ((0 * 32 + n.val) * 32 + k.val / 64) * 64 + k.val % 64 = (n.val * 32 + k.val / 64) * 64 + k.val % 64
    omega

theorem v4_row (n : Fin 32) (k : Fin 2048) :
    val_main_v4 (F := Ideal) x2 (ix3 n 0 k) = x2 (ix4 0 n ⟨k.val / 64, by omega⟩ ⟨k.val % 64, by omega⟩) := by
  unfold val_main_v4 val_main_v3
  refine (shapeCast_apply _ shapeCasts_S32x32x64_S32x1x2048 (ix3 n 0 k : S32x1x2048.Idx) (ix3 n ⟨k.val / 64, by omega⟩ ⟨k.val % 64, by omega⟩) ?_).trans
    (shapeCast_apply _ shapeCasts_S1x32x32x64_S32x32x64 (ix3 n ⟨k.val / 64, by omega⟩ ⟨k.val % 64, by omega⟩ : S32x32x64.Idx) (ix4 0 n ⟨k.val / 64, by omega⟩ ⟨k.val % 64, by omega⟩) ?_)
  · rw [Shape.rowMajor_val_three, Shape.rowMajor_val_three]
    show (n.val * 32 + k.val / 64) * 64 + k.val % 64 = (n.val * 1 + 0) * 2048 + k.val
    omega
  · rw [Shape.rowMajor_val_three, Shape.rowMajor_val_four]
    show ((0 * 32 + n.val) * 32 + k.val / 64) * 64 + k.val % 64 = (n.val * 32 + k.val / 64) * 64 + k.val % 64
    omega

theorem v12_row (n : Fin 32) (k : Fin 2048) : val_main_v12 (F := Ideal) x7 (ix3 n 0 k) = x7 (ix3 0 0 k) := by
  rw [val_main_v12_apply, val_main_v11_apply, val_main_v6_apply, val_main_v5_apply]
  refine congrArg x7 (funext fun a => ?_)
  match a with
  | ⟨0, _⟩ => rfl
  | ⟨1, _⟩ => rfl
  | ⟨2, _⟩ => exact Fin.ext (Nat.mod_eq_of_lt k.isLt)

theorem v15_row (n : Fin 32) (k : Fin 2048) : val_main_v15 (F := Ideal) x8 (ix3 n 0 k) = x8 (ix3 0 0 k) := by
  rw [val_main_v15_apply, val_main_v14_apply, val_main_v8_apply, val_main_v7_apply]
  refine congrArg x8 (funext fun a => ?_)
  match a with
  | ⟨0, _⟩ => rfl
  | ⟨1, _⟩ => rfl
  | ⟨2, _⟩ => exact Fin.ext (Nat.mod_eq_of_lt k.isLt)

theorem v22_row (n : Fin 32) (k : Fin 2048) : val_main_v22 (F := Ideal) x7 (ix3 n 0 k) = x7 (ix3 0 0 k) := by
  rw [val_main_v22_apply, val_main_v21_apply, val_main_v6_apply, val_main_v5_apply]
  refine congrArg x7 (funext fun a => ?_)
  match a with
  | ⟨0, _⟩ => rfl
  | ⟨1, _⟩ => rfl
  | ⟨2, _⟩ => exact Fin.ext (Nat.mod_eq_of_lt k.isLt)

theorem v25_row (n : Fin 32) (k : Fin 2048) : val_main_v25 (F := Ideal) x8 (ix3 n 0 k) = x8 (ix3 0 0 k) := by
  rw [val_main_v25_apply, val_main_v24_apply, val_main_v8_apply, val_main_v7_apply]
  refine congrArg x8 (funext fun a => ?_)
  match a with
  | ⟨0, _⟩ => rfl
  | ⟨1, _⟩ => rfl
  | ⟨2, _⟩ => exact Fin.ext (Nat.mod_eq_of_lt k.isLt)

theorem v37_row (n : Fin 32) (j : Fin 512) :
    val_main_v37 (F := Ideal) x9 (ix3 n 0 j) = x9 (ix3 0 ⟨j.val / 16, by omega⟩ ⟨j.val % 16, by omega⟩) := by
  rw [val_main_v37_apply, val_main_v36_apply, val_main_v35_apply, val_main_v34_apply]
  refine congrArg x9 (funext fun a => ?_)
  match a with
  | ⟨0, _⟩ => rfl
  | ⟨1, _⟩ => exact Fin.ext (by show (j.val / 16 * 16 + j.val % 16) / 16 % 32 = j.val / 16; omega)
  | ⟨2, _⟩ => exact Fin.ext (by show (j.val / 16 * 16 + j.val % 16) % 16 = j.val % 16; omega)

theorem w53 (k j : Fin 512) : val_main_v53 (F := Ideal) x10 (ix2 k j) = x10 (ix3 0 k j) := by
  rw [val_main_v53_apply]
  refine congrArg x10 (funext fun a => ?_)
  match a with
  | ⟨0, _⟩ => rfl
  | ⟨1, _⟩ => exact Fin.ext (by show (k.val * 512 + j.val) / 512 % 512 = k.val; omega)
  | ⟨2, _⟩ => exact Fin.ext (by show (k.val * 512 + j.val) % 512 = j.val; omega)

/-! The products of the input with the matrices that read it. -/

theorem v10_row (n : Fin 32) (k : Fin 2048) : val_main_v10 (F := Ideal) x0 x3 (ix3 n 0 k) = ∑ q : Fin 512, x0 (ix2 n q) * x3 (ix2 q k) := by
  have el : ∀ q, lidx_main_v10 (ix3 n 0 k) q = ix3 n 0 q := fun q => by
    funext a; match a with | ⟨0, _⟩ => rfl | ⟨1, _⟩ => rfl | ⟨2, _⟩ => rfl
  have er : ∀ q, ridx_main_v10 (ix3 n 0 k) q = ix2 q k := fun q => by
    funext a; match a with | ⟨0, _⟩ => rfl | ⟨1, _⟩ => rfl
  rw [val_main_v10_apply]
  simp only [el, er]
  simp only [v0_row]
  rfl

theorem v20_row (n : Fin 32) (k : Fin 2048) : val_main_v20 (F := Ideal) x0 x4 (ix3 n 0 k) = ∑ q : Fin 512, x0 (ix2 n q) * x4 (ix2 q k) := by
  have el : ∀ q, lidx_main_v20 (ix3 n 0 k) q = ix3 n 0 q := fun q => by
    funext a; match a with | ⟨0, _⟩ => rfl | ⟨1, _⟩ => rfl | ⟨2, _⟩ => rfl
  have er : ∀ q, ridx_main_v20 (ix3 n 0 k) q = ix2 q k := fun q => by
    funext a; match a with | ⟨0, _⟩ => rfl | ⟨1, _⟩ => rfl
  rw [val_main_v20_apply]
  simp only [el, er]
  simp only [v0_row]
  rfl

/-- The new state's real part. -/
theorem re_v18 (n : Fin 32) (k : Fin 2048) : val_main_v18 (F := Ideal) x0 x1 x2 x3 x7 x8 (ix3 n 0 k) = (argsOf x0 x1 x2 x3 x4 x5 x6 x7 x8 x9 x10).re n k := by
  rw [val_main_v18_apply, val_main_v17_apply, val_main_v16_apply, val_main_v13_apply, v10_row, v12_row, v15_row, v2_row, v4_row]
  rfl

/-- The new state's imaginary part. -/
theorem im_v28 (n : Fin 32) (k : Fin 2048) : val_main_v28 (F := Ideal) x0 x1 x2 x4 x7 x8 (ix3 n 0 k) = (argsOf x0 x1 x2 x3 x4 x5 x6 x7 x8 x9 x10).im n k := by
  rw [val_main_v28_apply, val_main_v27_apply, val_main_v26_apply, val_main_v23_apply, v20_row, v22_row, v25_row, v2_row, v4_row]
  rfl

/-! The read-out's two products. -/

theorem v30_row (n : Fin 32) (j : Fin 512) : val_main_v30 (F := Ideal) x0 x1 x2 x3 x5 x7 x8 (ix3 n 0 j) = ∑ k : Fin 2048, (argsOf x0 x1 x2 x3 x4 x5 x6 x7 x8 x9 x10).re n k * x5 (ix2 k j) := by
  have el : ∀ k, lidx_main_v30 (ix3 n 0 j) k = ix3 n 0 k := fun k => by
    funext a; match a with | ⟨0, _⟩ => rfl | ⟨1, _⟩ => rfl | ⟨2, _⟩ => rfl
  have er : ∀ k, ridx_main_v30 (ix3 n 0 j) k = ix2 k j := fun k => by
    funext a; match a with | ⟨0, _⟩ => rfl | ⟨1, _⟩ => rfl
  rw [val_main_v30_apply]
  simp only [el, er]
  simp only [re_v18 x0 x1 x2 x3 x4 x5 x6 x7 x8 x9 x10]
  rfl

theorem v32_row (n : Fin 32) (j : Fin 512) : val_main_v32 (F := Ideal) x0 x1 x2 x4 x6 x7 x8 (ix3 n 0 j) = ∑ k : Fin 2048, (argsOf x0 x1 x2 x3 x4 x5 x6 x7 x8 x9 x10).im n k * x6 (ix2 k j) := by
  have el : ∀ k, lidx_main_v32 (ix3 n 0 j) k = ix3 n 0 k := fun k => by
    funext a; match a with | ⟨0, _⟩ => rfl | ⟨1, _⟩ => rfl | ⟨2, _⟩ => rfl
  have er : ∀ k, ridx_main_v32 (ix3 n 0 j) k = ix2 k j := fun k => by
    funext a; match a with | ⟨0, _⟩ => rfl | ⟨1, _⟩ => rfl
  rw [val_main_v32_apply]
  simp only [el, er]
  simp only [im_v28 x0 x1 x2 x3 x4 x5 x6 x7 x8 x9 x10]
  rfl

/-- The read-out. -/
theorem y_v39 (n : Fin 32) (j : Fin 512) : val_main_v39 (F := Ideal) x0 x1 x2 x3 x4 x5 x6 x7 x8 x9 (ix3 n 0 j) = (argsOf x0 x1 x2 x3 x4 x5 x6 x7 x8 x9 x10).y n j := by
  rw [val_main_v39_apply, val_main_v38_apply, val_main_v33_apply, v30_row x0 x1 x2 x3 x4 x5 x6 x7 x8 x9 x10, v32_row x0 x1 x2 x3 x4 x5 x6 x7 x8 x9 x10, v37_row, v0_row]
  rfl

/-- The read-out after its nonlinearity. -/
theorem z_v52 (n : Fin 32) (j : Fin 512) : val_main_v52 (F := Ideal) x0 x1 x2 x3 x4 x5 x6 x7 x8 x9 (ix3 n 0 j) = (argsOf x0 x1 x2 x3 x4 x5 x6 x7 x8 x9 x10).z n j := by
  rw [val_main_v52_apply, val_main_v51_apply, val_main_v50_apply, val_main_v49_apply, val_main_v48_apply, val_main_v47_apply, val_main_v46_apply,
    val_main_v45_apply, val_main_v44_apply, val_main_v43_apply, val_main_v42_apply, val_main_v41_apply, val_main_v40_apply,
    y_v39 x0 x1 x2 x3 x4 x5 x6 x7 x8 x9 x10]
  unfold Args.z gelu
  exact (mul_left_comm _ _ _).trans (mul_assoc _ _ _).symm

/-- The gate's product. -/
theorem v54_row (n : Fin 32) (j : Fin 512) : val_main_v54 (F := Ideal) x0 x1 x2 x3 x4 x5 x6 x7 x8 x9 x10 (ix3 n 0 j) = ∑ k : Fin 512, (argsOf x0 x1 x2 x3 x4 x5 x6 x7 x8 x9 x10).z n k * (argsOf x0 x1 x2 x3 x4 x5 x6 x7 x8 x9 x10).w k j := by
  have el : ∀ k, lidx_main_v54 (ix3 n 0 j) k = ix3 n 0 k := fun k => by
    funext a; match a with | ⟨0, _⟩ => rfl | ⟨1, _⟩ => rfl | ⟨2, _⟩ => rfl
  have er : ∀ k, ridx_main_v54 (ix3 n 0 j) k = ix2 k j := fun k => by
    funext a; match a with | ⟨0, _⟩ => rfl | ⟨1, _⟩ => rfl
  rw [val_main_v54_apply]
  simp only [el, er]
  simp only [z_v52 x0 x1 x2 x3 x4 x5 x6 x7 x8 x9 x10, w53]
  rfl

theorem out_v61 (n : Fin 32) (j : Fin 512) : val_main_v61 (F := Ideal) x0 x1 x2 x3 x4 x5 x6 x7 x8 x9 x10 (ix3 n 0 j) = (argsOf x0 x1 x2 x3 x4 x5 x6 x7 x8 x9 x10).out n j := by
  rw [val_main_v61_apply, val_main_v60_apply, val_main_v59_apply, val_main_v58_apply, val_main_v57_apply, val_main_v56_apply, val_main_v55_apply,
    z_v52 x0 x1 x2 x3 x4 x5 x6 x7 x8 x9 x10, v54_row]
  rfl

/-! The three results. -/

theorem out_v62 (n : Fin 32) (j : Fin 512) : val_main_v62 (F := Ideal) x0 x1 x2 x3 x4 x5 x6 x7 x8 x9 x10 (ix2 n j) = (argsOf x0 x1 x2 x3 x4 x5 x6 x7 x8 x9 x10).out n j := by
  rw [val_main_v62_apply, ← out_v61 x0 x1 x2 x3 x4 x5 x6 x7 x8 x9 x10]
  refine congrArg _ (funext fun a => ?_)
  match a with
  | ⟨0, _⟩ => exact Fin.ext (by show (n.val * 512 + j.val) / 512 = n.val; omega)
  | ⟨1, _⟩ => rfl
  | ⟨2, _⟩ => exact Fin.ext (by show (n.val * 512 + j.val) % 512 = j.val; omega)

theorem re_v63 (n : Fin 32) (k : Fin 2048) : val_main_v63 (F := Ideal) x0 x1 x2 x3 x7 x8 (ix2 n k) = (argsOf x0 x1 x2 x3 x4 x5 x6 x7 x8 x9 x10).re n k := by
  rw [val_main_v63_apply, ← re_v18 x0 x1 x2 x3 x4 x5 x6 x7 x8 x9 x10]
  refine congrArg _ (funext fun a => ?_)
  match a with
  | ⟨0, _⟩ => exact Fin.ext (by show (n.val * 2048 + k.val) / 2048 = n.val; omega)
  | ⟨1, _⟩ => rfl
  | ⟨2, _⟩ => exact Fin.ext (by show (n.val * 2048 + k.val) % 2048 = k.val; omega)

theorem im_v64 (n : Fin 32) (k : Fin 2048) : val_main_v64 (F := Ideal) x0 x1 x2 x4 x7 x8 (ix2 n k) = (argsOf x0 x1 x2 x3 x4 x5 x6 x7 x8 x9 x10).im n k := by
  rw [val_main_v64_apply, ← im_v28 x0 x1 x2 x3 x4 x5 x6 x7 x8 x9 x10]
  refine congrArg _ (funext fun a => ?_)
  match a with
  | ⟨0, _⟩ => exact Fin.ext (by show (n.val * 2048 + k.val) / 2048 = n.val; omega)
  | ⟨1, _⟩ => rfl
  | ⟨2, _⟩ => exact Fin.ext (by show (n.val * 2048 + k.val) % 2048 = k.val; omega)

end Cert.StepSsmRefIdeal.Rows
-- ==== Proof.StepSsm.Final.lean ====
/- The three result arrays of the recurrence's step are the reference's: both read, at every index, as the step of rows. -/
module

public import proofs.«01_k».proof.Defs
public import proofs.«01_k».proof.Proof.Gen.StepSsmIdeal.Value
public import proofs.«01_k».proof.Proof.Gen.StepSsmRefIdeal.Run
public import proofs.«01_k».proof.Proof.StepSsm.Apply
public import proofs.«01_k».proof.Proof.StepSsm.Entry
public import proofs.«01_k».proof.Proof.StepSsm.Ref

@[expose] public section

set_option maxRecDepth 16384

noncomputable section

namespace Cert.StepSsmIdeal.Final

open Idealize.ShloMosaic Idealize.ShloMosaic.TcCoe Idealize.SL.Sem Cert.StepSsmIdeal Cert.StepSsmIdeal.Gen
open Idealize.ShloMosaic.ValueIdx SsmStep Cert.StepSsmRefIdeal.Read Idealize.ShloMosaic.StableHlo
open scoped BigOperators

variable (m : (ℓ : Loc nD τ sig) → Buf (Elt Ideal) ℓ) (c : Dev nD)

/-- The program's arguments. -/
def args : Args := StepSsmRefIdeal.Rows.argsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The blocks a point reads. -/
def blocks (t : Fin cfg0.N) : Args := Apply.ofBlocks (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem args_ext {A B : Args} (h0 : A.u = B.u) (h1 : A.hr = B.hr) (h2 : A.hi = B.hi) (h3 : A.br = B.br) (h4 : A.bi = B.bi) (h5 : A.cr = B.cr) (h6 : A.ci = B.ci) (h7 : A.ar = B.ar) (h8 : A.ai = B.ai) (h9 : A.d = B.d) (h10 : A.w = B.w) : A = B := by
  cases A; cases B; simp only at h0 h1 h2 h3 h4 h5 h6 h7 h8 h9 h10; subst h0 h1 h2 h3 h4 h5 h6 h7 h8 h9 h10; rfl

theorem u_eq (t : Fin cfg0.N) : (blocks m c t).u = (args m c).u := funext fun i => funext fun j => Entry.iblk0 m c t i j
theorem hr_eq (t : Fin cfg0.N) : (blocks m c t).hr = (args m c).hr := funext fun i => funext fun j => Entry.iblk1 m c t i j
theorem hi_eq (t : Fin cfg0.N) : (blocks m c t).hi = (args m c).hi := funext fun i => funext fun j => Entry.iblk2 m c t i j
theorem br_eq (t : Fin cfg0.N) : (blocks m c t).br = (args m c).br := funext fun i => funext fun j => Entry.iblk3 m c t i j
theorem bi_eq (t : Fin cfg0.N) : (blocks m c t).bi = (args m c).bi := funext fun i => funext fun j => Entry.iblk4 m c t i j
theorem cr_eq (t : Fin cfg0.N) : (blocks m c t).cr = (args m c).cr := funext fun i => funext fun j => Entry.iblk5 m c t i j
theorem ci_eq (t : Fin cfg0.N) : (blocks m c t).ci = (args m c).ci := funext fun i => funext fun j => Entry.iblk6 m c t i j
theorem ar_eq (t : Fin cfg0.N) : (blocks m c t).ar = (args m c).ar := funext fun j => Entry.iblk7 m c t 0 0 j
theorem ai_eq (t : Fin cfg0.N) : (blocks m c t).ai = (args m c).ai := funext fun j => Entry.iblk8 m c t 0 0 j
theorem d_eq (t : Fin cfg0.N) : (blocks m c t).d = (args m c).d := funext fun j => Entry.iblk9 m c t j
theorem w_eq (t : Fin cfg0.N) : (blocks m c t).w = (args m c).w := funext fun i => funext fun j => Entry.iblk10 m c t i j

/-- The blocks hold the arguments. -/
theorem blocks_eq (t : Fin cfg0.N) : blocks m c t = args m c :=
  args_ext (u_eq m c t) (hr_eq m c t) (hi_eq m c t) (br_eq m c t) (bi_eq m c t) (cr_eq m c t) (ci_eq m c t) (ar_eq m c t) (ai_eq m c t) (d_eq m c t) (w_eq m c t)

/-- The result as an array: row `n` is sequence `n`'s. -/
def result : Buf (Elt Ideal) ((c : Thread nD τ).loc main_v8_0) := fun i : S32x512.Idx => (args m c).out (i 0) (i 1)

/-- A point's block at an index. -/
theorem point11 (t : Fin cfg0.N) (n : Fin 32) (j : Fin 512) : out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 n j) = (args m c).out n j :=
  (Apply.out11_apply (iblk m c 0 t) (iblk m c 1 t) (iblk m c 2 t) (iblk m c 3 t) (iblk m c 4 t) (iblk m c 5 t) (iblk m c 6 t) (iblk m c 7 t) (iblk m c 8 t) (iblk m c 9 t) (iblk m c 10 t) n j).trans (congrArg (fun A : Args => A.out n j) (blocks_eq m c t))

theorem idx11 : ∀ (t : Fin cfg0.N) (a : Fin 2), win0_11.index t a = 0 :=
  (by decide +kernel : ∀ (t : Fin grid0.N) (a : Fin 2), _)

/-- What the point writes back is its block of it. -/
theorem flushed11 (t : Fin cfg0.N) : (dats m 0 c).flushed 11 t = ((cfg0.win 11).blk t).view.read (Elt Ideal) (result m c) := by
  rw [Value.flushed11]
  have e0 := idx11 t 0
  have e1 := idx11 t 1
  funext y
  have hy0 : (y 0).val < 32 := (y 0).isLt
  have hy1 : (y 1).val < 512 := (y 1).isLt
  have hb0 : (((cfg0.win 11).blk t).view.emb y 0).val = win0_11.index t (0 : Fin 2) * 32 + 1 * (y 0).val := rfl
  have hb1 : (((cfg0.win 11).blk t).view.emb y 1).val = win0_11.index t (1 : Fin 2) * 512 + 1 * (y 1).val := rfl
  have hx : (cfg0.win 11).xinj (grid0.coords t) y = (ix2 ⟨(y 0).val, hy0⟩ ⟨(y 1).val, hy1⟩ : S32x512.Idx) := by
    funext a
    match a with
    | ⟨0, _⟩ => rfl
    | ⟨1, _⟩ => rfl
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) ((cfg0.win 11).xinj (grid0.coords t) y) = result m c (((cfg0.win 11).blk t).view.emb y)
  rw [hx]
  refine (point11 m c t ⟨(y 0).val, hy0⟩ ⟨(y 1).val, hy1⟩).trans ?_
  unfold result
  have k0 : (⟨(y 0).val, hy0⟩ : Fin 32) = ((cfg0.win 11).blk t).view.emb y 0 := Fin.ext (by show (y 0).val = _; rw [hb0, e0]; omega)
  have k1 : (⟨(y 1).val, hy1⟩ : Fin 512) = ((cfg0.win 11).blk t).view.emb y 1 := Fin.ext (by show (y 1).val = _; rw [hb1, e1]; omega)
  exact congrArg₂ (args m c).out k0 k1

/-- An index is in the point's block when each coordinate is in the block's range. -/
theorem mem_block11 (t : Fin cfg0.N) (i : S32x512.Idx) :
    i ∈ ((cfg0.win 11).blk t).view.set ↔ ∀ a : Fin 2, win0_11.index t a * S32x512.size a ≤ (i a).val ∧ (i a).val < win0_11.index t a * S32x512.size a + S32x512.size a := by
  show i ∈ ((View.whole main_v8_0).slice (win0_11.rect t)).set ↔ _
  rw [View.set_slice_whole, Rect.mem_set_unit]
  exact Iff.rfl

/-- The array after the run: the one point's block is all of it. -/
theorem final11 : (dats m 0 c).arrAt 11 cfg0.N = result m c := by
  refine (dats m 0 c).arrAt_eq_of_cover 11 _ (fun t hf => flushed11 m c t) (fun i => ?_)
  have hp : 0 < cfg0.N := lt_of_lt_of_eq (by omega) N_0.symm
  refine ⟨⟨_, hp⟩, flush0_11 _, (mem_block11 ⟨_, hp⟩ i).mpr fun a => ?_⟩
  rw [idx11, Nat.zero_mul, Nat.zero_add]
  exact ⟨Nat.zero_le _, (i a).isLt⟩

/-- The new state's real part as an array: row `n` is sequence `n`'s. -/
def newRe : Buf (Elt Ideal) ((c : Thread nD τ).loc main_v8_1) := fun i : S32x2048.Idx => (args m c).re (i 0) (i 1)

/-- A point's block at an index. -/
theorem point12 (t : Fin cfg0.N) (n : Fin 32) (j : Fin 2048) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 n j) = (args m c).re n j :=
  (Apply.out12_apply (iblk m c 0 t) (iblk m c 1 t) (iblk m c 2 t) (iblk m c 3 t) (iblk m c 4 t) (iblk m c 5 t) (iblk m c 6 t) (iblk m c 7 t) (iblk m c 8 t) (iblk m c 9 t) (iblk m c 10 t) n j).trans (congrArg (fun A : Args => A.re n j) (blocks_eq m c t))

theorem idx12 : ∀ (t : Fin cfg0.N) (a : Fin 2), win0_12.index t a = 0 :=
  (by decide +kernel : ∀ (t : Fin grid0.N) (a : Fin 2), _)

/-- What the point writes back is its block of it. -/
theorem flushed12 (t : Fin cfg0.N) : (dats m 0 c).flushed 12 t = ((cfg0.win 12).blk t).view.read (Elt Ideal) (newRe m c) := by
  rw [Value.flushed12]
  have e0 := idx12 t 0
  have e1 := idx12 t 1
  funext y
  have hy0 : (y 0).val < 32 := (y 0).isLt
  have hy1 : (y 1).val < 2048 := (y 1).isLt
  have hb0 : (((cfg0.win 12).blk t).view.emb y 0).val = win0_12.index t (0 : Fin 2) * 32 + 1 * (y 0).val := rfl
  have hb1 : (((cfg0.win 12).blk t).view.emb y 1).val = win0_12.index t (1 : Fin 2) * 2048 + 1 * (y 1).val := rfl
  have hx : (cfg0.win 12).xinj (grid0.coords t) y = (ix2 ⟨(y 0).val, hy0⟩ ⟨(y 1).val, hy1⟩ : S32x2048.Idx) := by
    funext a
    match a with
    | ⟨0, _⟩ => rfl
    | ⟨1, _⟩ => rfl
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) ((cfg0.win 12).xinj (grid0.coords t) y) = newRe m c (((cfg0.win 12).blk t).view.emb y)
  rw [hx]
  refine (point12 m c t ⟨(y 0).val, hy0⟩ ⟨(y 1).val, hy1⟩).trans ?_
  unfold newRe
  have k0 : (⟨(y 0).val, hy0⟩ : Fin 32) = ((cfg0.win 12).blk t).view.emb y 0 := Fin.ext (by show (y 0).val = _; rw [hb0, e0]; omega)
  have k1 : (⟨(y 1).val, hy1⟩ : Fin 2048) = ((cfg0.win 12).blk t).view.emb y 1 := Fin.ext (by show (y 1).val = _; rw [hb1, e1]; omega)
  exact congrArg₂ (args m c).re k0 k1

/-- An index is in the point's block when each coordinate is in the block's range. -/
theorem mem_block12 (t : Fin cfg0.N) (i : S32x2048.Idx) :
    i ∈ ((cfg0.win 12).blk t).view.set ↔ ∀ a : Fin 2, win0_12.index t a * S32x2048.size a ≤ (i a).val ∧ (i a).val < win0_12.index t a * S32x2048.size a + S32x2048.size a := by
  show i ∈ ((View.whole main_v8_1).slice (win0_12.rect t)).set ↔ _
  rw [View.set_slice_whole, Rect.mem_set_unit]
  exact Iff.rfl

/-- The array after the run: the one point's block is all of it. -/
theorem final12 : (dats m 0 c).arrAt 12 cfg0.N = newRe m c := by
  refine (dats m 0 c).arrAt_eq_of_cover 12 _ (fun t hf => flushed12 m c t) (fun i => ?_)
  have hp : 0 < cfg0.N := lt_of_lt_of_eq (by omega) N_0.symm
  refine ⟨⟨_, hp⟩, flush0_12 _, (mem_block12 ⟨_, hp⟩ i).mpr fun a => ?_⟩
  rw [idx12, Nat.zero_mul, Nat.zero_add]
  exact ⟨Nat.zero_le _, (i a).isLt⟩

/-- The new state's imaginary part as an array: row `n` is sequence `n`'s. -/
def newIm : Buf (Elt Ideal) ((c : Thread nD τ).loc main_v8_2) := fun i : S32x2048.Idx => (args m c).im (i 0) (i 1)

/-- A point's block at an index. -/
theorem point13 (t : Fin cfg0.N) (n : Fin 32) (j : Fin 2048) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 n j) = (args m c).im n j :=
  (Apply.out13_apply (iblk m c 0 t) (iblk m c 1 t) (iblk m c 2 t) (iblk m c 3 t) (iblk m c 4 t) (iblk m c 5 t) (iblk m c 6 t) (iblk m c 7 t) (iblk m c 8 t) (iblk m c 9 t) (iblk m c 10 t) n j).trans (congrArg (fun A : Args => A.im n j) (blocks_eq m c t))

theorem idx13 : ∀ (t : Fin cfg0.N) (a : Fin 2), win0_13.index t a = 0 :=
  (by decide +kernel : ∀ (t : Fin grid0.N) (a : Fin 2), _)

/-- What the point writes back is its block of it. -/
theorem flushed13 (t : Fin cfg0.N) : (dats m 0 c).flushed 13 t = ((cfg0.win 13).blk t).view.read (Elt Ideal) (newIm m c) := by
  rw [Value.flushed13]
  have e0 := idx13 t 0
  have e1 := idx13 t 1
  funext y
  have hy0 : (y 0).val < 32 := (y 0).isLt
  have hy1 : (y 1).val < 2048 := (y 1).isLt
  have hb0 : (((cfg0.win 13).blk t).view.emb y 0).val = win0_13.index t (0 : Fin 2) * 32 + 1 * (y 0).val := rfl
  have hb1 : (((cfg0.win 13).blk t).view.emb y 1).val = win0_13.index t (1 : Fin 2) * 2048 + 1 * (y 1).val := rfl
  have hx : (cfg0.win 13).xinj (grid0.coords t) y = (ix2 ⟨(y 0).val, hy0⟩ ⟨(y 1).val, hy1⟩ : S32x2048.Idx) := by
    funext a
    match a with
    | ⟨0, _⟩ => rfl
    | ⟨1, _⟩ => rfl
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) ((cfg0.win 13).xinj (grid0.coords t) y) = newIm m c (((cfg0.win 13).blk t).view.emb y)
  rw [hx]
  refine (point13 m c t ⟨(y 0).val, hy0⟩ ⟨(y 1).val, hy1⟩).trans ?_
  unfold newIm
  have k0 : (⟨(y 0).val, hy0⟩ : Fin 32) = ((cfg0.win 13).blk t).view.emb y 0 := Fin.ext (by show (y 0).val = _; rw [hb0, e0]; omega)
  have k1 : (⟨(y 1).val, hy1⟩ : Fin 2048) = ((cfg0.win 13).blk t).view.emb y 1 := Fin.ext (by show (y 1).val = _; rw [hb1, e1]; omega)
  exact congrArg₂ (args m c).im k0 k1

/-- An index is in the point's block when each coordinate is in the block's range. -/
theorem mem_block13 (t : Fin cfg0.N) (i : S32x2048.Idx) :
    i ∈ ((cfg0.win 13).blk t).view.set ↔ ∀ a : Fin 2, win0_13.index t a * S32x2048.size a ≤ (i a).val ∧ (i a).val < win0_13.index t a * S32x2048.size a + S32x2048.size a := by
  show i ∈ ((View.whole main_v8_2).slice (win0_13.rect t)).set ↔ _
  rw [View.set_slice_whole, Rect.mem_set_unit]
  exact Iff.rfl

/-- The array after the run: the one point's block is all of it. -/
theorem final13 : (dats m 0 c).arrAt 13 cfg0.N = newIm m c := by
  refine (dats m 0 c).arrAt_eq_of_cover 13 _ (fun t hf => flushed13 m c t) (fun i => ?_)
  have hp : 0 < cfg0.N := lt_of_lt_of_eq (by omega) N_0.symm
  refine ⟨⟨_, hp⟩, flush0_13 _, (mem_block13 ⟨_, hp⟩ i).mpr fun a => ?_⟩
  rw [idx13, Nat.zero_mul, Nat.zero_add]
  exact ⟨Nat.zero_le _, (i a).isLt⟩

variable {x0 : (⟨StepSsmRefIdeal.S32x512, .f32⟩ : BufTy).Contents (Elt Ideal)} {x1 x2 : (⟨StepSsmRefIdeal.S1x32x32x64, .f32⟩ : BufTy).Contents (Elt Ideal)}
    {x3 x4 : (⟨StepSsmRefIdeal.S512x2048, .bf16⟩ : BufTy).Contents (Elt Ideal)} {x5 x6 : (⟨StepSsmRefIdeal.S2048x512, .bf16⟩ : BufTy).Contents (Elt Ideal)}
    {x7 x8 : (⟨StepSsmRefIdeal.S2x8x2048, .f32⟩ : BufTy).Contents (Elt Ideal)} {x9 : (⟨StepSsmRefIdeal.S1x32x16, .f32⟩ : BufTy).Contents (Elt Ideal)}
    {x10 : (⟨StepSsmRefIdeal.S1x512x512, .f32⟩ : BufTy).Contents (Elt Ideal)}

/-- The reference's three results from equal arguments. -/
theorem same (h0 : x0 = m ((c.tc : Thread nD τ).loc main_arg0)) (h1 : x1 = m ((c.tc : Thread nD τ).loc main_arg1))
    (h2 : x2 = m ((c.tc : Thread nD τ).loc main_arg2)) (h3 : x3 = m ((c.tc : Thread nD τ).loc main_arg3))
    (h4 : x4 = m ((c.tc : Thread nD τ).loc main_arg4)) (h5 : x5 = m ((c.tc : Thread nD τ).loc main_arg5))
    (h6 : x6 = m ((c.tc : Thread nD τ).loc main_arg6)) (h7 : x7 = m ((c.tc : Thread nD τ).loc main_arg7))
    (h8 : x8 = m ((c.tc : Thread nD τ).loc main_arg8)) (h9 : x9 = m ((c.tc : Thread nD τ).loc main_arg9))
    (h10 : x10 = m ((c.tc : Thread nD τ).loc main_arg10)) :
    val_main_v62 (F := Ideal) x0 x1 x2 x3 x4 x5 x6 x7 x8 x9 x10 = result m c ∧ val_main_v63 (F := Ideal) x0 x1 x2 x3 x7 x8 = newRe m c
      ∧ val_main_v64 (F := Ideal) x0 x1 x2 x4 x7 x8 = newIm m c := by
  have e : StepSsmRefIdeal.Rows.argsOf x0 x1 x2 x3 x4 x5 x6 x7 x8 x9 x10 = args m c := by rw [h0, h1, h2, h3, h4, h5, h6, h7, h8, h9, h10]; rfl
  refine ⟨?_, ?_, ?_⟩ <;> funext i
  · obtain ⟨n, j, rfl⟩ : ∃ (n : Fin 32) (j : Fin 512), i = ix2 n j := ⟨_, _, eq_ix2 i⟩
    exact (StepSsmRefIdeal.Rows.out_v62 x0 x1 x2 x3 x4 x5 x6 x7 x8 x9 x10 n j).trans (by rw [e]; rfl)
  · obtain ⟨n, j, rfl⟩ : ∃ (n : Fin 32) (j : Fin 2048), i = ix2 n j := ⟨_, _, eq_ix2 i⟩
    exact (StepSsmRefIdeal.Rows.re_v63 x0 x1 x2 x3 x4 x5 x6 x7 x8 x9 x10 n j).trans (by rw [e]; rfl)
  · obtain ⟨n, j, rfl⟩ : ∃ (n : Fin 32) (j : Fin 2048), i = ix2 n j := ⟨_, _, eq_ix2 i⟩
    exact (StepSsmRefIdeal.Rows.im_v64 x0 x1 x2 x3 x4 x5 x6 x7 x8 x9 x10 n j).trans (by rw [e]; rfl)

theorem algebraic : Cert.algebraic_StepSsmIdeal_StepSsmRefIdeal := by
  intro m g m' g' _ hag
  refine ⟨fun c => result m c, fun c => newRe m c, fun c => newIm m c, (θ_run _ _ _).mono (fun r h c => ?_) (Value.run_blocks m g), ?_⟩
  · obtain ⟨h0, h1, h2, hr⟩ := h c
    exact ⟨h0.trans (final11 m c), h1.trans (final12 m c), h2.trans (final13 m c), hr⟩
  · refine (θ_run _ _ _).mono (fun r h c => ?_) (StepSsmRefIdeal.Value.run m' g')
    obtain ⟨a0, a1, a2, a3, a4, a5, a6, a7, a8, a9, a10⟩ := hag c
    obtain ⟨h0, h1, h2, hr⟩ := h c
    obtain ⟨s0, s1, s2⟩ := same m c a0 a1 a2 a3 a4 a5 a6 a7 a8 a9 a10
    exact ⟨(h0.trans (val_main_v62_eq m' c)).trans s0, (h1.trans (val_main_v63_eq _ _ _ _ _ _)).trans s1, (h2.trans (val_main_v64_eq _ _ _ _ _ _)).trans s2, hr⟩

end Cert.StepSsmIdeal.Final
-- ==== Proof.Prep.Layer.lean ====
/- The recurrence's discretised parameters: the factor a state is carried with, its powers, and the matrices into and out of the state. -/
module

public import proofs.«01_k».proof.Proof.Tail.Rows

@[expose] public section

noncomputable section

namespace SsmPrep

open Idealize.ShloMosaic TailRows

/-- What the parameters are made from, over 2048 elements of state (64 for each of 32 groups) and 512 channels (16 for each
group): the eigenvalues and the logarithm of the step, for each element of state, and the weights into and out of the state
that a channel has where it is of the element's group. A complex number is a pair of its real and imaginary parts. -/
structure Args where
  lr : Fin 2048 → EReal
  li : Fin 2048 → EReal
  ldt : Fin 2048 → EReal
  br : Fin 512 → Fin 2048 → EReal
  bi : Fin 512 → Fin 2048 → EReal
  cr : Fin 2048 → Fin 512 → EReal
  ci : Fin 2048 → Fin 512 → EReal

variable (A : Args)

def Args.dt (k : Fin 2048) : EReal := Ideal.exp (A.ldt k)

/-- The factor of one step: the exponential of the eigenvalue times the step. -/
def Args.barR (k : Fin 2048) : EReal := Ideal.exp (A.lr k * A.dt k) * Ideal.cos (A.li k * A.dt k)
def Args.barI (k : Fin 2048) : EReal := Ideal.exp (A.lr k * A.dt k) * Ideal.sin (A.li k * A.dt k)

/-- The factor less one, divided by the eigenvalue. -/
def Args.den (k : Fin 2048) : EReal := A.lr k * A.lr k + A.li k * A.li k
def Args.qR (k : Fin 2048) : EReal := Ideal.div ((A.barR k - cOne) * A.lr k + A.barI k * A.li k) (A.den k)
def Args.qI (k : Fin 2048) : EReal := Ideal.div (A.barI k * A.lr k - (A.barR k - cOne) * A.li k) (A.den k)

/-- The matrix into the state: zero where the channel is not of the element's group. -/
def Args.inR (r : Fin 512) (k : Fin 2048) : EReal := if r.val / 16 = k.val / 64 then A.qR k * A.br r k - A.qI k * A.bi r k else 0
def Args.inI (r : Fin 512) (k : Fin 2048) : EReal := if r.val / 16 = k.val / 64 then A.qR k * A.bi r k + A.qI k * A.br r k else 0

/-- The matrix out of the state: zero where the channel is not of the element's group, and the imaginary part negated. -/
def Args.outR (k : Fin 2048) (r : Fin 512) : EReal := if k.val / 64 = r.val / 16 then A.cr k r else 0
def Args.outI (k : Fin 2048) (r : Fin 512) : EReal := if k.val / 64 = r.val / 16 then -A.ci k r else 0

/-- The powers of a complex number, from the first on. -/
def pow (x y : EReal) : ℕ → EReal × EReal
  | 0 => (x, y)
  | n + 1 => ((pow x y n).1 * x - (pow x y n).2 * y, (pow x y n).1 * y + (pow x y n).2 * x)

/-- The base of a level's powers: the factor, then its eighth power. -/
def Args.base (p : Fin 2) (k : Fin 2048) : EReal × EReal :=
  match p with
  | ⟨0, _⟩ => (A.barR k, A.barI k)
  | ⟨1, _⟩ => pow (A.barR k) (A.barI k) 7

/-- The first eight powers of each level's base. -/
def Args.power (p : Fin 2) (n : Fin 8) (k : Fin 2048) : EReal × EReal := pow (A.base p k).1 (A.base p k).2 n.val

/-! Words that stay in range. -/

theorem word_select (a b : ℕ) (ha : a < 2 ^ 32) (hb : b < 2 ^ 32) (x y : EReal) :
    Scalar.select (IntOp.cmpi .eq (BitVec.ofNat 32 a) (BitVec.ofNat 32 b)) x y = if a = b then x else y := by
  by_cases h : a = b
  · rw [if_pos h, h]
    simp [Scalar.select, IntOp.cmpi]
  · rw [if_neg h]
    have e : (BitVec.ofNat 32 a == BitVec.ofNat 32 b) = false := by
      rw [beq_eq_false_iff_ne]
      intro e
      have e' := congrArg BitVec.toNat e
      rw [BitVec.toNat_ofNat, BitVec.toNat_ofNat, Nat.mod_eq_of_lt ha, Nat.mod_eq_of_lt hb] at e'
      exact h e'
    simp [Scalar.select, IntOp.cmpi, e]

theorem word_shift (a s : ℕ) (ha : a < 2 ^ 32) (hs : s < 32) :
    IntOp.shrui .vector (BitVec.ofNat 32 a) (BitVec.ofNat 32 s) = BitVec.ofNat 32 (a / 2 ^ s) := by
  have h : (BitVec.ofNat 32 s).toNat = s := by rw [BitVec.toNat_ofNat]; exact Nat.mod_eq_of_lt (by omega)
  unfold IntOp.shrui
  rw [if_pos (by rw [h]; exact hs)]
  refine BitVec.eq_of_toNat_eq ?_
  rw [BitVec.ushiftRight_eq', BitVec.toNat_ushiftRight, h, BitVec.toNat_ofNat, BitVec.toNat_ofNat, Nat.mod_eq_of_lt ha, Nat.shiftRight_eq_div_pow,
    Nat.mod_eq_of_lt (lt_of_le_of_lt (Nat.div_le_self _ _) ha)]

theorem word_add (a i : ℕ) : IntOp.addi (BitVec.ofNat 32 a) (Scalar.muli (BitVec.ofNat 32 i) 512#32) = BitVec.ofNat 32 (a + i * 512) := by
  show BitVec.ofNat 32 a + BitVec.ofNat 32 i * BitVec.ofNat 32 512 = _
  rw [BitVec.ofNat_add, BitVec.ofNat_mul]

end SsmPrep
-- ==== Proof.Prep.Run.lean ====
/- The stores that a grid point makes to the six result blocks. -/
module

public import proofs.«01_k».proof.Proof.Gen.PrepIdeal.Frame.RunA
public import proofs.«01_k».proof.Proof.Gen.PrepIdeal.Frame
public import Idealize.ShloMosaic.Lib.Pipeline.ValueKit.Tiles

@[expose] public section

set_option maxRecDepth 65536
set_option maxHeartbeats 4000000

noncomputable section

namespace Cert.PrepIdeal.Body

open Idealize.ShloMosaic Idealize.SL.Sem Cert.PrepIdeal Cert.PrepIdeal.Gen

variable {F : FTy → Type} [FloatOps F]

/-! The stored values, from the loaded blocks. -/

def rowIx : IVec S8x512 32 := iota .tc S8x512 32 [0] iota_S8x512_d0_w32

/-- The matrices into the state. -/
def inR (i : grid0.Coords) (v0 v2 v4 : Vec F S1x512 .f32) (v37 v39 : Vec F S512x512 .f32) : FVec F S512x512 .bf16 :=
  k0_pay20 (k0_pay15 i) (k0_pay18 v0 v2 v4 v37) (k0_pay19 v0 v2 v4 v39)
def inI (i : grid0.Coords) (v0 v2 v4 : Vec F S1x512 .f32) (v37 v39 : Vec F S512x512 .f32) : FVec F S512x512 .bf16 :=
  k0_pay21 (k0_pay13 v0 v2 v4) (k0_pay14 v0 v2 v4) (k0_pay15 i) (k0_pay16 v37) (k0_pay17 v39)

/-- The matrices out of the state. -/
def outR (i : grid0.Coords) (v166 : Vec F S512x512 .f32) : FVec F S512x512 .bf16 :=
  k0_pay42 (k0_pay41 (BitVec.ofNat 32 (i 0).val) v166)
def outI (i : grid0.Coords) (v172 : Vec F S512x512 .f32) : FVec F S512x512 .bf16 :=
  k0_pay43 (k0_pay40 (BitVec.ofNat 32 (i 0).val)) v172

/-- The first level's fourth and seventh powers. -/
def fourthR (x y : FVec F S1x512 .f32) : FVec F S1x512 .f32 := k0_pay60 x y (k0_pay51 x y) (k0_pay52 x y) (k0_pay57 x y)
def fourthI (x y : FVec F S1x512 .f32) : FVec F S1x512 .f32 := k0_pay61 x y (k0_pay51 x y) (k0_pay52 x y) (k0_pay57 x y)
def seventhR (x y : FVec F S1x512 .f32) : FVec F S1x512 .f32 := k0_pay72 x y (fourthR x y) (fourthI x y)
def seventhI (x y : FVec F S1x512 .f32) : FVec F S1x512 .f32 := k0_pay73 x y (fourthR x y) (fourthI x y)

/-- The first level's eight powers as rows. -/
def oneR (x y : FVec F S1x512 .f32) : FVec F S1x8x512 .f32 :=
  k0_pay79 x y rowIx (seventhR x y) (seventhI x y) (k0_pay74 x y rowIx (fourthR x y) (fourthI x y)
    (k0_pay62 x y rowIx (k0_pay51 x y) (k0_pay52 x y) (k0_pay53 x y rowIx (k0_pay44 x)) (k0_pay57 x y)))
def oneI (x y : FVec F S1x512 .f32) : FVec F S1x8x512 .f32 :=
  k0_pay80 x y rowIx (k0_pay71 x y rowIx (fourthR x y) (fourthI x y)
    (k0_pay63 x y rowIx (k0_pay51 x y) (k0_pay52 x y) (k0_pay54 x y rowIx (k0_pay45 y)) (k0_pay57 x y)))
    (seventhR x y) (seventhI x y) (k0_pay75 rowIx) (k0_pay76 x y (fourthR x y) (fourthI x y))

/-- The second level's base: the first level's eighth power. -/
def baseR (x y : FVec F S1x512 .f32) : FVec F S1x512 .f32 := k0_pay77 x y (seventhR x y) (seventhI x y)
def baseI (x y : FVec F S1x512 .f32) : FVec F S1x512 .f32 := k0_pay78 x y (seventhR x y) (seventhI x y)

/-- The second level's fourth power, and its eight powers as rows over what the first row starts from. -/
def second4R (x y : FVec F S1x512 .f32) : FVec F S1x512 .f32 := k0_pay96 x y (k0_pay86 x y) (k0_pay87 x y)
def second4I (x y : FVec F S1x512 .f32) : FVec F S1x512 .f32 := k0_pay97 x y (k0_pay86 x y) (k0_pay87 x y)
def twoR (x y : FVec F S1x512 .f32) (v371 : FVec F S8x512 .f32) : FVec F S1x8x512 .f32 :=
  k0_pay2 rowIx x y (k0_pay107 rowIx x y (second4R x y) (second4I x y) (k0_pay98 rowIx x y (k0_pay86 x y) (k0_pay87 x y) (k0_pay88 rowIx x y v371)))
    (k0_pay109 x y (second4R x y) (second4I x y)) (k0_pay110 x y (second4R x y) (second4I x y)) (k0_pay111 x y (second4R x y) (second4I x y))
def twoI (x y : FVec F S1x512 .f32) (v376 : FVec F S8x512 .f32) : FVec F S1x8x512 .f32 :=
  k0_pay3 rowIx x y (k0_pay108 rowIx x y (second4R x y) (second4I x y) (k0_pay99 rowIx x y (k0_pay86 x y) (k0_pay87 x y) (k0_pay89 rowIx x y v376)))
    (k0_pay109 x y (second4R x y) (second4I x y)) (k0_pay110 x y (second4R x y) (second4I x y)) (k0_pay111 x y (second4R x y) (second4I x y))

def allR (x y : FVec F S1x512 .f32) : List (View.Piece (Elt F) S2x8x512 .f32) :=
  [⟨Rect.unit ![1, 0, 0] S1x8x512.size inb_S2x8x512_S1x8x512_1_0_0, twoR (baseR x y) (baseI x y) (k0_pay81 x y rowIx (seventhR x y) (seventhI x y))⟩,
    ⟨Rect.unit ![0, 0, 0] S1x8x512.size inb_S2x8x512_S1x8x512_0_0_0, oneR x y⟩]
def allI (x y : FVec F S1x512 .f32) : List (View.Piece (Elt F) S2x8x512 .f32) :=
  [⟨Rect.unit ![1, 0, 0] S1x8x512.size inb_S2x8x512_S1x8x512_1_0_0, twoI (baseR x y) (baseI x y) (k0_pay82 x y rowIx (seventhR x y) (seventhI x y))⟩,
    ⟨Rect.unit ![0, 0, 0] S1x8x512.size inb_S2x8x512_S1x8x512_0_0_0, oneI x y⟩]

abbrev rRow : Rect S1x512 := Rect.unit ![0, 0] S1x512.size inb_S1x512_S1x512_0_0
abbrev rMat : Rect S512x512 := Rect.unit ![0, 0] S512x512.size inb_S512x512_S512x512_0_0

theorem ld_row (x : Vec F S1x512 .f32) : View.ld (Val := Elt F) (e' := .f32) x rRow = x := by
  funext y
  exact View.ld_unit_apply_of _ _ _ _ _ y fun a => match a with | ⟨0, _⟩ => (Nat.zero_add _).symm | ⟨1, _⟩ => (Nat.zero_add _).symm

theorem ld_mat (x : Vec F S512x512 .f32) : View.ld (Val := Elt F) (e' := .f32) x rMat = x := by
  funext y
  exact View.ld_unit_apply_of _ _ _ _ _ y fun a => match a with | ⟨0, _⟩ => (Nat.zero_add _).symm | ⟨1, _⟩ => (Nat.zero_add _).symm

variable (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S2x8x512 .f32) (harg12 : arg12.IsWhole) (arg13 : Memref sig .tc .vmem S2x8x512 .f32) (harg13 : arg13.IsWhole) (arg14 : Memref sig .tc .vmem S2x3x8x512 .f32) (harg14 : arg14.IsWhole) (arg15 : Memref sig .tc .vmem S2x3x8x512 .f32) (harg15 : arg15.IsWhole) (arg16 : Memref sig .tc .vmem S1x512x512 .bf16) (harg16 : arg16.IsWhole) (arg17 : Memref sig .tc .vmem S1x512x512 .bf16) (harg17 : arg17.IsWhole)
    (x0 : Vec F S1x512 .f32) (x1 : Vec F S1x512 .f32) (x2 : Vec F S1x512 .f32) (x3 : Vec F S512x512 .f32) (x4 : Vec F S512x512 .f32) (x5 : Vec F S512x512 .f32) (x6 : Vec F S512x512 .f32)

theorem run7 :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).1 = [⟨rMat, inR i (View.readAt (Elt F) arg1.view rRow.toLoadRect (harg1.unread x0)) (View.readAt (Elt F) arg2.view rRow.toLoadRect (harg2.unread x1)) (View.readAt (Elt F) arg3.view rRow.toLoadRect (harg3.unread x2)) (View.readAt (Elt F) arg4.view rMat.toLoadRect (harg4.unread x3)) (View.readAt (Elt F) arg5.view rMat.toLoadRect (harg5.unread x4))⟩] := by
  sl_kernel_rfl

theorem out7 :
    out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 = View.canon [⟨rMat, inR i x0 x1 x2 x3 x4⟩] := by
  unfold out0_A_7
  rw [View.read_writes_junk_eq_canon, run7]
  simp only [View.readAt_eq_ld, harg1.read_unread, harg2.read_unread, harg3.read_unread, harg4.read_unread, harg5.read_unread, harg6.read_unread, harg7.read_unread, ld_row, ld_mat]

theorem run8 :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.1 = [⟨rMat, inI i (View.readAt (Elt F) arg1.view rRow.toLoadRect (harg1.unread x0)) (View.readAt (Elt F) arg2.view rRow.toLoadRect (harg2.unread x1)) (View.readAt (Elt F) arg3.view rRow.toLoadRect (harg3.unread x2)) (View.readAt (Elt F) arg4.view rMat.toLoadRect (harg4.unread x3)) (View.readAt (Elt F) arg5.view rMat.toLoadRect (harg5.unread x4))⟩] := by
  sl_kernel_rfl

theorem out8 :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 = View.canon [⟨rMat, inI i x0 x1 x2 x3 x4⟩] := by
  unfold out0_A_8
  rw [View.read_writes_junk_eq_canon, run8]
  simp only [View.readAt_eq_ld, harg1.read_unread, harg2.read_unread, harg3.read_unread, harg4.read_unread, harg5.read_unread, harg6.read_unread, harg7.read_unread, ld_row, ld_mat]

theorem run9 :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.2.1 = [⟨rMat, outR i (View.readAt (Elt F) arg6.view rMat.toLoadRect (harg6.unread x5))⟩] := by
  sl_kernel_rfl

theorem out9 :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 = View.canon [⟨rMat, outR i x5⟩] := by
  unfold out0_A_9
  rw [View.read_writes_junk_eq_canon, run9]
  simp only [View.readAt_eq_ld, harg1.read_unread, harg2.read_unread, harg3.read_unread, harg4.read_unread, harg5.read_unread, harg6.read_unread, harg7.read_unread, ld_row, ld_mat]

theorem run10 :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.2.2.1 = [⟨rMat, outI i (View.readAt (Elt F) arg7.view rMat.toLoadRect (harg7.unread x6))⟩] := by
  sl_kernel_rfl

theorem out10 :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 = View.canon [⟨rMat, outI i x6⟩] := by
  unfold out0_A_10
  rw [View.read_writes_junk_eq_canon, run10]
  simp only [View.readAt_eq_ld, harg1.read_unread, harg2.read_unread, harg3.read_unread, harg4.read_unread, harg5.read_unread, harg6.read_unread, harg7.read_unread, ld_row, ld_mat]

theorem run11 :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.2.2.2.1 = allR (k0_pay9 (View.readAt (Elt F) arg1.view rRow.toLoadRect (harg1.unread x0)) (View.readAt (Elt F) arg2.view rRow.toLoadRect (harg2.unread x1)) (View.readAt (Elt F) arg3.view rRow.toLoadRect (harg3.unread x2))) (k0_pay10 (View.readAt (Elt F) arg1.view rRow.toLoadRect (harg1.unread x0)) (View.readAt (Elt F) arg2.view rRow.toLoadRect (harg2.unread x1)) (View.readAt (Elt F) arg3.view rRow.toLoadRect (harg3.unread x2))) := by
  sl_kernel_rfl

theorem out11 :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 = View.canon (allR (k0_pay9 x0 x1 x2) (k0_pay10 x0 x1 x2)) := by
  unfold out0_A_11
  rw [View.read_writes_junk_eq_canon, run11]
  simp only [View.readAt_eq_ld, harg1.read_unread, harg2.read_unread, harg3.read_unread, harg4.read_unread, harg5.read_unread, harg6.read_unread, harg7.read_unread, ld_row, ld_mat]

theorem run12 :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.2.2.2.2.1 = allI (k0_pay9 (View.readAt (Elt F) arg1.view rRow.toLoadRect (harg1.unread x0)) (View.readAt (Elt F) arg2.view rRow.toLoadRect (harg2.unread x1)) (View.readAt (Elt F) arg3.view rRow.toLoadRect (harg3.unread x2))) (k0_pay10 (View.readAt (Elt F) arg1.view rRow.toLoadRect (harg1.unread x0)) (View.readAt (Elt F) arg2.view rRow.toLoadRect (harg2.unread x1)) (View.readAt (Elt F) arg3.view rRow.toLoadRect (harg3.unread x2))) := by
  sl_kernel_rfl

theorem out12 :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 = View.canon (allI (k0_pay9 x0 x1 x2) (k0_pay10 x0 x1 x2)) := by
  unfold out0_A_12
  rw [View.read_writes_junk_eq_canon, run12]
  simp only [View.readAt_eq_ld, harg1.read_unread, harg2.read_unread, harg3.read_unread, harg4.read_unread, harg5.read_unread, harg6.read_unread, harg7.read_unread, ld_row, ld_mat]

end Cert.PrepIdeal.Body
-- ==== Proof.Prep.Apply.lean ====
/- The preparation kernel's six stored blocks, read at an index: the layer's discretised system there. -/
module

public import proofs.«01_k».proof.Proof.Prep.Layer
public import proofs.«01_k».proof.Proof.Prep.Run
public import Idealize.ShloMosaic.PureOps.Ideal.Laws
public import Idealize.ShloMosaic.Lib.ValueIdxCore
public import Idealize.ShloMosaic.Lib.Pipeline.ValueKit.Tiles

@[expose] public section

set_option maxRecDepth 16384

noncomputable section

namespace Cert.PrepIdeal.Apply

open Idealize.ShloMosaic Idealize.ShloMosaic.TcCoe Idealize.SL.Sem Cert.PrepIdeal Cert.PrepIdeal.Gen
open Idealize.ShloMosaic.ValueIdx SsmPrep TailRows

/-! The powers as rows. -/

/-- The powers of a complex number as the kernel forms them. -/
def vpow (x y : FVec Ideal S1x512 .f32) : ℕ → FVec Ideal S1x512 .f32 × FVec Ideal S1x512 .f32
  | 0 => (x, y)
  | n + 1 => (subf (mulf (vpow x y n).1 x) (mulf (vpow x y n).2 y), addf (mulf (vpow x y n).1 y) (mulf (vpow x y n).2 x))

theorem vpow_at (x y : FVec Ideal S1x512 .f32) (j : S1x512.Idx) : ∀ n, ((vpow x y n).1 j, (vpow x y n).2 j) = pow (x j) (y j) n
  | 0 => rfl
  | n + 1 => by
    have e := vpow_at x y j n
    show (((vpow x y n).1 j : EReal) * x j - (vpow x y n).2 j * y j, ((vpow x y n).1 j : EReal) * y j + (vpow x y n).2 j * x j) = _
    unfold pow
    rw [← e]

/-- The rows up to the `n`-th, each set over the ones before. -/
def rows (f : ℕ → FVec Ideal S1x512 .f32) : ℕ → FVec Ideal S8x512 .f32
  | 0 => select (cmpi .eq Body.rowIx (broadcast S8x512 (BitVec.ofNat 32 0)))
      (broadcastTo S8x512 (shapeCast S1x512 (f 0) shapeCasts_S1x512_S1x512) broadcasts_S1x512_S8x512) (broadcast S8x512 (Scalar.ofBits .f32 0x00000000#32))
  | n + 1 => select (cmpi .eq Body.rowIx (broadcast S8x512 (BitVec.ofNat 32 (n + 1))))
      (broadcastTo S8x512 (shapeCast S1x512 (f (n + 1)) shapeCasts_S1x512_S1x512) broadcasts_S1x512_S8x512) (rows f n)

theorem row_at (p : FVec Ideal S1x512 .f32) (prev : FVec Ideal S8x512 .f32) (n : ℕ) (hn : n < 2 ^ 32) (r : Fin 8) (k : Fin 512) :
    select (cmpi .eq Body.rowIx (broadcast S8x512 (BitVec.ofNat 32 n)))
      (broadcastTo S8x512 (shapeCast S1x512 p shapeCasts_S1x512_S1x512) broadcasts_S1x512_S8x512) prev (ix2 r k)
      = if r.val = n then (p (ix2 0 k) : EReal) else prev (ix2 r k) := by
  have e : Body.rowIx (ix2 r k) = BitVec.ofNat 32 r.val := congrArg (BitVec.ofNat 32) (by show 0 * 8 + r.val = r.val; omega)
  have b : broadcastTo S8x512 p broadcasts_S1x512_S8x512 (ix2 r k) = p (ix2 0 k) :=
    broadcastTo_apply _ _ _ (ix2 0 k) fun a => match a with | ⟨0, _⟩ => rfl | ⟨1, _⟩ => rfl
  rw [shapeCast_self]
  show Scalar.select (IntOp.cmpi .eq (Body.rowIx (ix2 r k)) (BitVec.ofNat 32 n)) (broadcastTo S8x512 p broadcasts_S1x512_S8x512 (ix2 r k) : EReal) (prev (ix2 r k)) = _
  rw [e, b]
  exact word_select _ _ (by omega) hn _ _

theorem rows_at (f : ℕ → FVec Ideal S1x512 .f32) (r : Fin 8) (k : Fin 512) : ∀ n < 8, r.val ≤ n → rows f n (ix2 r k) = f r.val (ix2 0 k)
  | 0, hn, h => by
    unfold rows
    rw [row_at _ _ 0 (by omega), if_pos (by omega), show r.val = 0 by omega]
  | n + 1, hn, h => by
    unfold rows
    rw [row_at _ _ (n + 1) (by omega)]
    split_ifs with e
    · rw [e]
    · exact rows_at f r k n (by omega) (by omega)

def stack (f : ℕ → FVec Ideal S1x512 .f32) : FVec Ideal S1x8x512 .f32 := shapeCast S1x8x512 (rows f 7) shapeCasts_S8x512_S1x8x512

theorem stack_at (f : ℕ → FVec Ideal S1x512 .f32) (r : Fin 8) (k : Fin 512) : stack f (ix3 0 r k) = f r.val (ix2 0 k) := by
  refine (shapeCast_apply _ _ (ix3 0 r k) (ix2 r k : S8x512.Idx) ?_).trans (rows_at f r k 7 (by omega) (by omega))
  rw [Shape.rowMajor_val_two, Shape.rowMajor_val_three]
  show r.val * 512 + k.val = (0 * 8 + r.val) * 512 + k.val
  omega

variable (x y : FVec Ideal S1x512 .f32)

theorem oneR_eq : Body.oneR x y = stack fun n => (vpow x y n).1 := rfl
theorem oneI_eq : Body.oneI x y = stack fun n => (vpow x y n).2 := rfl
theorem base_eq : (Body.baseR x y, Body.baseI x y) = vpow x y 7 := rfl
theorem twoR_eq : Body.twoR (Body.baseR x y) (Body.baseI x y) (k0_pay81 x y Body.rowIx (Body.seventhR x y) (Body.seventhI x y))
    = stack fun n => (vpow (Body.baseR x y) (Body.baseI x y) n).1 := rfl
theorem twoI_eq : Body.twoI (Body.baseR x y) (Body.baseI x y) (k0_pay82 x y Body.rowIx (Body.seventhR x y) (Body.seventhI x y))
    = stack fun n => (vpow (Body.baseR x y) (Body.baseI x y) n).2 := rfl

/-- Two levels stored one after the other. -/
theorem levels_at (a b : FVec Ideal S1x8x512 .f32) (p : Fin 2) (n : Fin 8) (k : Fin 512) :
    View.canon (Val := Elt Ideal) (e := .f32) [⟨Rect.unit (s := S2x8x512) ![1, 0, 0] S1x8x512.size inb_S2x8x512_S1x8x512_1_0_0, b⟩,
      ⟨Rect.unit (s := S2x8x512) ![0, 0, 0] S1x8x512.size inb_S2x8x512_S1x8x512_0_0_0, a⟩] (ix3 p n k : S2x8x512.Idx)
      = (match p with | ⟨0, _⟩ => a | ⟨1, _⟩ => b) (ix3 0 n k) := by
  canon_tiles z h
  · have z0 : (z 0).val < 1 := (z 0).isLt
    have hp : p = ⟨1, by decide⟩ := Fin.ext (by have e : p.val = 1 + (z 0).val := h0; show p.val = 1; omega)
    have hz : z = ix3 0 n k := funext fun a => match a with
      | ⟨0, _⟩ => Fin.ext (by show (z 0).val = 0; omega)
      | ⟨1, _⟩ => Fin.ext h1.symm
      | ⟨2, _⟩ => Fin.ext h2.symm
    rw [hp, hz]
  · have z0 : (z 0).val < 1 := (z 0).isLt
    have hp : p = ⟨0, by decide⟩ := Fin.ext (by have e : p.val = (z 0).val := h0; show p.val = 0; omega)
    have hz : z = ix3 0 n k := funext fun a => match a with
      | ⟨0, _⟩ => Fin.ext (by show (z 0).val = 0; omega)
      | ⟨1, _⟩ => Fin.ext h1.symm
      | ⟨2, _⟩ => Fin.ext h2.symm
    rw [hp, hz]

/-! The layer's arguments, from the blocks. -/

variable (A : Args) (x0 x1 x2 : Vec Ideal S1x512 .f32) (x3 x4 x5 x6 : Vec Ideal S512x512 .f32) (i : grid0.Coords) (r j : Fin 512) (k : Fin 2048)
  (hk : k.val = 512 * (i 0).val + j.val)
  (h0 : (x0 (ix2 0 j) : EReal) = A.lr k) (h1 : (x1 (ix2 0 j) : EReal) = A.li k) (h2 : (x2 (ix2 0 j) : EReal) = A.ldt k)

include h0 h1 h2

theorem barR_at : k0_pay9 x0 x1 x2 (ix2 0 j) = A.barR k := by
  unfold k0_pay9 k0_pay8 k0_pay7 k0_pay6 k0_pay5 k0_pay4
  simp only [shapeCast_self]
  show Ideal.exp ((x0 (ix2 0 j) : EReal) * Ideal.exp (x2 (ix2 0 j))) * Ideal.cos ((x1 (ix2 0 j) : EReal) * Ideal.exp (x2 (ix2 0 j))) = _
  rw [h0, h1, h2]
  rfl

theorem barI_at : k0_pay10 x0 x1 x2 (ix2 0 j) = A.barI k := by
  unfold k0_pay10 k0_pay8 k0_pay7 k0_pay6 k0_pay5 k0_pay4
  simp only [shapeCast_self]
  show Ideal.exp ((x0 (ix2 0 j) : EReal) * Ideal.exp (x2 (ix2 0 j))) * Ideal.sin ((x1 (ix2 0 j) : EReal) * Ideal.exp (x2 (ix2 0 j))) = _
  rw [h0, h1, h2]
  rfl

theorem qR_at : k0_pay13 x0 x1 x2 (ix2 0 j) = A.qR k := by
  have e := barR_at A x0 x1 x2 j k h0 h1 h2
  have e' := barI_at A x0 x1 x2 j k h0 h1 h2
  unfold k0_pay13 k0_pay12 k0_pay11 k0_pay5 k0_pay4
  simp only [shapeCast_self]
  show Ideal.div (((k0_pay9 x0 x1 x2 (ix2 0 j) : EReal) - cOne) * x0 (ix2 0 j) + k0_pay10 x0 x1 x2 (ix2 0 j) * x1 (ix2 0 j))
    ((x0 (ix2 0 j) : EReal) * x0 (ix2 0 j) + x1 (ix2 0 j) * x1 (ix2 0 j)) = _
  rw [e, e', h0, h1]
  rfl

theorem qI_at : k0_pay14 x0 x1 x2 (ix2 0 j) = A.qI k := by
  have e := barR_at A x0 x1 x2 j k h0 h1 h2
  have e' := barI_at A x0 x1 x2 j k h0 h1 h2
  unfold k0_pay14 k0_pay12 k0_pay11 k0_pay5 k0_pay4
  simp only [shapeCast_self]
  show Ideal.div ((k0_pay10 x0 x1 x2 (ix2 0 j) : EReal) * x0 (ix2 0 j) - ((k0_pay9 x0 x1 x2 (ix2 0 j) : EReal) - cOne) * x1 (ix2 0 j))
    ((x0 (ix2 0 j) : EReal) * x0 (ix2 0 j) + x1 (ix2 0 j) * x1 (ix2 0 j)) = _
  rw [e, e', h0, h1]
  rfl

omit h0 h1 h2

/-- The kernel's test of a channel against a state element, and the other way round. -/
theorem group_at (u v : EReal) (hk : k.val = 512 * (i 0).val + j.val) :
    Scalar.select (k0_pay15 i (ix2 r j)) u v = (if r.val / 16 = k.val / 64 then u else v)
      ∧ Scalar.select (k0_pay40 (BitVec.ofNat 32 (i 0).val) (ix2 j r)) u v = (if k.val / 64 = r.val / 16 then u else v) := by
  have e : IntOp.shrui .vector (BitVec.ofNat 32 (0 * 512 + r.val)) (BitVec.ofNat 32 4) = BitVec.ofNat 32 (r.val / 16) := by
    rw [word_shift _ _ (by omega) (by omega)]; congr 1; omega
  have e' : IntOp.shrui .vector (IntOp.addi (BitVec.ofNat 32 (0 * 512 + j.val)) (Scalar.muli (BitVec.ofNat 32 (i 0).val) 512#32)) (BitVec.ofNat 32 6)
      = BitVec.ofNat 32 (k.val / 64) := by
    rw [word_add, word_shift _ _ (by omega) (by omega)]; congr 1; omega
  constructor
  · show Scalar.select (IntOp.cmpi .eq (IntOp.shrui .vector (BitVec.ofNat 32 (0 * 512 + r.val)) (BitVec.ofNat 32 4))
      (IntOp.shrui .vector (IntOp.addi (BitVec.ofNat 32 (0 * 512 + j.val)) (Scalar.muli (BitVec.ofNat 32 (i 0).val) 512#32)) (BitVec.ofNat 32 6))) u v = _
    rw [e, e']
    exact word_select _ _ (by omega) (by omega) u v
  · show Scalar.select (IntOp.cmpi .eq (IntOp.shrui .vector (IntOp.addi (BitVec.ofNat 32 (0 * 512 + j.val)) (Scalar.muli (BitVec.ofNat 32 (i 0).val) 512#32)) (BitVec.ofNat 32 6))
      (IntOp.shrui .vector (BitVec.ofNat 32 (0 * 512 + r.val)) (BitVec.ofNat 32 4))) u v = _
    rw [e, e']
    exact word_select _ _ (by omega) (by omega) u v

theorem wide_at (p : FVec Ideal S1x512 .f32) : broadcastTo S512x512 p broadcasts_S1x512_S512x512 (ix2 r j) = p (ix2 0 j) :=
  broadcastTo_apply _ _ _ (ix2 0 j) fun a => match a with | ⟨0, _⟩ => rfl | ⟨1, _⟩ => rfl

include hk

theorem inR_at (h0 : (x0 (ix2 0 j) : EReal) = A.lr k) (h1 : (x1 (ix2 0 j) : EReal) = A.li k) (h2 : (x2 (ix2 0 j) : EReal) = A.ldt k)
    (h3 : (x3 (ix2 r j) : EReal) = A.br r k) (h4 : (x4 (ix2 r j) : EReal) = A.bi r k) :
    View.canon (Val := Elt Ideal) (e := .bf16) [⟨Body.rMat, Body.inR i x0 x1 x2 x3 x4⟩] (ix2 r j) = A.inR r k := by
  refine (congrFun (View.canon_cons_unit_lit _ _ _ (by decide)) (ix2 r j)).trans ?_
  unfold Body.inR k0_pay20 k0_pay19 k0_pay18 k0_pay17 k0_pay16
  simp only [shapeCast_self]
  show Scalar.select (k0_pay15 i (ix2 r j)) ((broadcastTo S512x512 (k0_pay13 x0 x1 x2) broadcasts_S1x512_S512x512 (ix2 r j) : EReal) * x3 (ix2 r j)
    - broadcastTo S512x512 (k0_pay14 x0 x1 x2) broadcasts_S1x512_S512x512 (ix2 r j) * x4 (ix2 r j)) (Ideal.ofBits .f32 0x00000000#32) = _
  rw [(group_at i r j k _ _ hk).1, wide_at, wide_at, qR_at A x0 x1 x2 j k h0 h1 h2, qI_at A x0 x1 x2 j k h0 h1 h2, h3, h4, Ideal.ofBits_zero_f32]
  rfl

theorem inI_at (h0 : (x0 (ix2 0 j) : EReal) = A.lr k) (h1 : (x1 (ix2 0 j) : EReal) = A.li k) (h2 : (x2 (ix2 0 j) : EReal) = A.ldt k)
    (h3 : (x3 (ix2 r j) : EReal) = A.br r k) (h4 : (x4 (ix2 r j) : EReal) = A.bi r k) :
    View.canon (Val := Elt Ideal) (e := .bf16) [⟨Body.rMat, Body.inI i x0 x1 x2 x3 x4⟩] (ix2 r j) = A.inI r k := by
  refine (congrFun (View.canon_cons_unit_lit _ _ _ (by decide)) (ix2 r j)).trans ?_
  unfold Body.inI k0_pay21 k0_pay17 k0_pay16
  simp only [shapeCast_self]
  show Scalar.select (k0_pay15 i (ix2 r j)) ((broadcastTo S512x512 (k0_pay13 x0 x1 x2) broadcasts_S1x512_S512x512 (ix2 r j) : EReal) * x4 (ix2 r j)
    + broadcastTo S512x512 (k0_pay14 x0 x1 x2) broadcasts_S1x512_S512x512 (ix2 r j) * x3 (ix2 r j)) (Ideal.ofBits .f32 0x00000000#32) = _
  rw [(group_at i r j k _ _ hk).1, wide_at, wide_at, qR_at A x0 x1 x2 j k h0 h1 h2, qI_at A x0 x1 x2 j k h0 h1 h2, h3, h4, Ideal.ofBits_zero_f32]
  rfl

theorem outR_at (h5 : (x5 (ix2 j r) : EReal) = A.cr k r) :
    View.canon (Val := Elt Ideal) (e := .bf16) [⟨Body.rMat, Body.outR i x5⟩] (ix2 j r) = A.outR k r := by
  refine (congrFun (View.canon_cons_unit_lit _ _ _ (by decide)) (ix2 j r)).trans ?_
  unfold Body.outR k0_pay42 k0_pay41
  simp only [shapeCast_self]
  show Scalar.select (k0_pay40 (BitVec.ofNat 32 (i 0).val) (ix2 j r)) (x5 (ix2 j r) : EReal) (Ideal.ofBits .f32 0x00000000#32) = _
  rw [(group_at i r j k _ _ hk).2, h5, Ideal.ofBits_zero_f32]
  rfl

theorem outI_at (h6 : (x6 (ix2 j r) : EReal) = A.ci k r) :
    View.canon (Val := Elt Ideal) (e := .bf16) [⟨Body.rMat, Body.outI i x6⟩] (ix2 j r) = A.outI k r := by
  refine (congrFun (View.canon_cons_unit_lit _ _ _ (by decide)) (ix2 j r)).trans ?_
  unfold Body.outI k0_pay43
  simp only [shapeCast_self]
  show Scalar.select (k0_pay40 (BitVec.ofNat 32 (i 0).val) (ix2 j r)) ((Ideal.ofBits .f32 0x00000000#32 : EReal) - x6 (ix2 j r)) (Ideal.ofBits .f32 0x00000000#32) = _
  rw [(group_at i r j k _ _ hk).2, h6, Ideal.ofBits_zero_f32, zero_sub]
  rfl

omit hk

/-- The two levels' powers, real and imaginary part. -/
theorem power_at (h0 : (x0 (ix2 0 j) : EReal) = A.lr k) (h1 : (x1 (ix2 0 j) : EReal) = A.li k) (h2 : (x2 (ix2 0 j) : EReal) = A.ldt k) (p : Fin 2) (n : Fin 8) :
    (View.canon (Body.allR (F := Ideal) (k0_pay9 x0 x1 x2) (k0_pay10 x0 x1 x2)) (ix3 p n j : S2x8x512.Idx),
      View.canon (Body.allI (F := Ideal) (k0_pay9 x0 x1 x2) (k0_pay10 x0 x1 x2)) (ix3 p n j : S2x8x512.Idx)) = A.power p n k := by
  unfold Body.allR Body.allI
  rw [levels_at, levels_at, twoR_eq, twoI_eq, oneR_eq, oneI_eq]
  have e := barR_at A x0 x1 x2 j k h0 h1 h2
  have e' := barI_at A x0 x1 x2 j k h0 h1 h2
  match p with
  | ⟨0, _⟩ =>
    dsimp only
    rw [stack_at, stack_at]
    refine (vpow_at _ _ (ix2 0 j) n.val).trans ?_
    rw [e, e']
    rfl
  | ⟨1, _⟩ =>
    dsimp only
    rw [stack_at, stack_at]
    refine (vpow_at _ _ (ix2 0 j) n.val).trans ?_
    have b : (Body.baseR (F := Ideal) (k0_pay9 x0 x1 x2) (k0_pay10 x0 x1 x2) (ix2 0 j), Body.baseI (F := Ideal) (k0_pay9 x0 x1 x2) (k0_pay10 x0 x1 x2) (ix2 0 j)) = pow (A.barR k) (A.barI k) 7 :=
      (vpow_at (k0_pay9 x0 x1 x2) (k0_pay10 x0 x1 x2) (ix2 0 j) 7).trans (by rw [e, e'])
    show _ = pow (pow (A.barR k) (A.barI k) 7).1 (pow (A.barR k) (A.barI k) 7).2 n.val
    rw [← b]

theorem powers_at (h0 : (x0 (ix2 0 j) : EReal) = A.lr k) (h1 : (x1 (ix2 0 j) : EReal) = A.li k) (h2 : (x2 (ix2 0 j) : EReal) = A.ldt k) (p : Fin 2) (n : Fin 8) :
    View.canon (Body.allR (F := Ideal) (k0_pay9 x0 x1 x2) (k0_pay10 x0 x1 x2)) (ix3 p n j : S2x8x512.Idx) = (A.power p n k).1
      ∧ View.canon (Body.allI (F := Ideal) (k0_pay9 x0 x1 x2) (k0_pay10 x0 x1 x2)) (ix3 p n j : S2x8x512.Idx) = (A.power p n k).2 :=
  Prod.mk.inj (power_at A x0 x1 x2 j k h0 h1 h2 p n)

end Cert.PrepIdeal.Apply
-- ==== Proof.Prep.Entry.lean ====
/- The preparation kernel's input blocks, read at an index, as elements of the program's arguments. -/
module

public import proofs.«01_k».proof.Proof.Gen.PrepIdeal.Frame
public import Idealize.ShloMosaic.PureOps.Ideal
public import Idealize.ShloMosaic.Lib.Claim
public import Idealize.ShloMosaic.Lib.ValueIdxCore
public import Idealize.ShloMosaic.Lib.Pipeline.ValueKit.Geometry

@[expose] public section

set_option maxRecDepth 16384

noncomputable section

namespace Cert.PrepIdeal.Entry

open Idealize.ShloMosaic Idealize.ShloMosaic.TcCoe Idealize.SL.Sem Cert.PrepIdeal Cert.PrepIdeal.Gen
open Idealize.ShloMosaic.ValueIdx

/-! The host's reshapes of an argument, at an index. -/

theorem row_at (x : (⟨S32x64, .f32⟩ : BufTy).Contents (Elt Ideal)) (k : Fin 2048) :
    shapeCast S1x2048 x shapeCasts_S32x64_S1x2048 (ix2 0 k : S1x2048.Idx) = x (ix2 ⟨k.val / 64, by omega⟩ ⟨k.val % 64, by omega⟩) := by
  refine shapeCast_apply _ _ (ix2 0 k : S1x2048.Idx) (ix2 ⟨k.val / 64, by omega⟩ ⟨k.val % 64, by omega⟩) ?_
  rw [Shape.rowMajor_val_two, Shape.rowMajor_val_two]
  show k.val / 64 * 64 + k.val % 64 = 0 * 2048 + k.val
  omega

theorem lam_at (x : (⟨S1x32x64, .f32⟩ : BufTy).Contents (Elt Ideal)) (k : Fin 2048) :
    shapeCast S1x2048 (shapeCast S32x64 x shapeCasts_S1x32x64_S32x64) shapeCasts_S32x64_S1x2048 (ix2 0 k : S1x2048.Idx)
      = x (ix3 0 ⟨k.val / 64, by omega⟩ ⟨k.val % 64, by omega⟩) := by
  refine (row_at _ k).trans (shapeCast_apply _ _ (ix2 ⟨k.val / 64, by omega⟩ ⟨k.val % 64, by omega⟩ : S32x64.Idx) (ix3 0 ⟨k.val / 64, by omega⟩ ⟨k.val % 64, by omega⟩) ?_)
  rw [Shape.rowMajor_val_two, Shape.rowMajor_val_three]
  show (0 * 32 + k.val / 64) * 64 + k.val % 64 = k.val / 64 * 64 + k.val % 64
  omega

theorem step_at (x : (⟨S1x32, .f32⟩ : BufTy).Contents (Elt Ideal)) (k : Fin 2048) :
    shapeCast S1x2048 (broadcastInDim S32x64 ![0, 1] bcast_S32x1_S32x64_0_1 (broadcastInDim S32x1 ![0] bcast_S32_S32x1_0 (shapeCast S32 x shapeCasts_S1x32_S32)))
      shapeCasts_S32x64_S1x2048 (ix2 0 k : S1x2048.Idx) = x (ix2 0 ⟨k.val / 64, by omega⟩) := by
  refine (row_at _ k).trans ((broadcastInDim_apply _ bcast_S32x1_S32x64_0_1 _ _ (ix2 ⟨k.val / 64, by omega⟩ 0 : S32x1.Idx) (fun a => match a with | ⟨0, _⟩ => rfl | ⟨1, _⟩ => rfl)).trans
    ((broadcastInDim_apply _ bcast_S32_S32x1_0 _ _ (ix1 ⟨k.val / 64, by omega⟩ : S32.Idx) (fun a => match a with | ⟨0, _⟩ => rfl)).trans
    (shapeCast_apply _ shapeCasts_S1x32_S32 (ix1 ⟨k.val / 64, by omega⟩ : S32.Idx) (ix2 0 ⟨k.val / 64, by omega⟩) ?_)))
  rw [Shape.rowMajor_val_one, Shape.rowMajor_val_two]
  show 0 * 32 + k.val / 64 = k.val / 64
  omega

/-- The weights into the state as a matrix, each group's columns repeated for every group. -/
theorem in_at (x : (⟨S1x32x64x16, .f32⟩ : BufTy).Contents (Elt Ideal)) (a : Fin 512) (b : Fin 2048) :
    shapeCast S512x2048 (broadcastInDim S1x512x32x64 ![0, 1, 2, 3] bcast_S1x512x1x64_S1x512x32x64_0_1_2_3 (shapeCast S1x512x1x64 (shapeCast S512x64 (transpose S32x16x64 [0, 2, 1] (shapeCast S32x64x16 x shapeCasts_S1x32x64x16_S32x64x16) transposes_S32x64x16_S32x16x64_0_2_1)
      shapeCasts_S32x16x64_S512x64) shapeCasts_S512x64_S1x512x1x64)) shapeCasts_S1x512x32x64_S512x2048 (ix2 a b : S512x2048.Idx) = x (ix4 0 ⟨a.val / 16, by omega⟩ ⟨b.val % 64, by omega⟩ ⟨a.val % 16, by omega⟩) := by
  refine (shapeCast_apply _ shapeCasts_S1x512x32x64_S512x2048 (ix2 a b : S512x2048.Idx) (ix4 0 a ⟨b.val / 64, by omega⟩ ⟨b.val % 64, by omega⟩) ?_).trans
    ((broadcastInDim_apply _ bcast_S1x512x1x64_S1x512x32x64_0_1_2_3 _ _ (ix4 0 a 0 ⟨b.val % 64, by omega⟩ : S1x512x1x64.Idx) (fun a => match a with | ⟨0, _⟩ => rfl | ⟨1, _⟩ => rfl | ⟨2, _⟩ => rfl | ⟨3, _⟩ => rfl)).trans
    ((shapeCast_apply _ shapeCasts_S512x64_S1x512x1x64 (ix4 0 a 0 ⟨b.val % 64, by omega⟩ : S1x512x1x64.Idx) (ix2 a ⟨b.val % 64, by omega⟩) ?_).trans
    ((shapeCast_apply _ shapeCasts_S32x16x64_S512x64 (ix2 a ⟨b.val % 64, by omega⟩ : S512x64.Idx) (ix3 ⟨a.val / 16, by omega⟩ ⟨a.val % 16, by omega⟩ ⟨b.val % 64, by omega⟩) ?_).trans
    ((transpose_apply [0, 2, 1] _ transposes_S32x64x16_S32x16x64_0_2_1 _ (ix3 ⟨a.val / 16, by omega⟩ ⟨b.val % 64, by omega⟩ ⟨a.val % 16, by omega⟩) (fun b => match b with | ⟨0, _⟩ => rfl | ⟨1, _⟩ => rfl | ⟨2, _⟩ => rfl)).trans
    (shapeCast_apply _ shapeCasts_S1x32x64x16_S32x64x16 (ix3 ⟨a.val / 16, by omega⟩ ⟨b.val % 64, by omega⟩ ⟨a.val % 16, by omega⟩ : S32x64x16.Idx) (ix4 0 ⟨a.val / 16, by omega⟩ ⟨b.val % 64, by omega⟩ ⟨a.val % 16, by omega⟩) ?_)))))
  · rw [Shape.rowMajor_val_two, Shape.rowMajor_val_four]
    show ((0 * 512 + a.val) * 32 + b.val / 64) * 64 + b.val % 64 = a.val * 2048 + b.val
    omega
  · rw [Shape.rowMajor_val_two, Shape.rowMajor_val_four]
    show a.val * 64 + b.val % 64 = ((0 * 512 + a.val) * 1 + 0) * 64 + b.val % 64
    omega
  · rw [Shape.rowMajor_val_two, Shape.rowMajor_val_three]
    show (a.val / 16 * 16 + a.val % 16) * 64 + b.val % 64 = a.val * 64 + b.val % 64
    omega
  · rw [Shape.rowMajor_val_three, Shape.rowMajor_val_four]
    show ((0 * 32 + a.val / 16) * 64 + b.val % 64) * 16 + a.val % 16 = (a.val / 16 * 64 + b.val % 64) * 16 + a.val % 16
    omega

/-- The weights out of the state as a matrix, each group's columns repeated for every group. -/
theorem out_at (x : (⟨S1x32x16x64, .f32⟩ : BufTy).Contents (Elt Ideal)) (a : Fin 2048) (b : Fin 512) :
    shapeCast S2048x512 (broadcastInDim S1x2048x32x16 ![0, 1, 2, 3] bcast_S1x2048x1x16_S1x2048x32x16_0_1_2_3 (shapeCast S1x2048x1x16 (shapeCast S2048x16 (transpose S32x64x16 [0, 2, 1] (shapeCast S32x16x64 x shapeCasts_S1x32x16x64_S32x16x64) transposes_S32x16x64_S32x64x16_0_2_1)
      shapeCasts_S32x64x16_S2048x16) shapeCasts_S2048x16_S1x2048x1x16)) shapeCasts_S1x2048x32x16_S2048x512 (ix2 a b : S2048x512.Idx) = x (ix4 0 ⟨a.val / 64, by omega⟩ ⟨b.val % 16, by omega⟩ ⟨a.val % 64, by omega⟩) := by
  refine (shapeCast_apply _ shapeCasts_S1x2048x32x16_S2048x512 (ix2 a b : S2048x512.Idx) (ix4 0 a ⟨b.val / 16, by omega⟩ ⟨b.val % 16, by omega⟩) ?_).trans
    ((broadcastInDim_apply _ bcast_S1x2048x1x16_S1x2048x32x16_0_1_2_3 _ _ (ix4 0 a 0 ⟨b.val % 16, by omega⟩ : S1x2048x1x16.Idx) (fun a => match a with | ⟨0, _⟩ => rfl | ⟨1, _⟩ => rfl | ⟨2, _⟩ => rfl | ⟨3, _⟩ => rfl)).trans
    ((shapeCast_apply _ shapeCasts_S2048x16_S1x2048x1x16 (ix4 0 a 0 ⟨b.val % 16, by omega⟩ : S1x2048x1x16.Idx) (ix2 a ⟨b.val % 16, by omega⟩) ?_).trans
    ((shapeCast_apply _ shapeCasts_S32x64x16_S2048x16 (ix2 a ⟨b.val % 16, by omega⟩ : S2048x16.Idx) (ix3 ⟨a.val / 64, by omega⟩ ⟨a.val % 64, by omega⟩ ⟨b.val % 16, by omega⟩) ?_).trans
    ((transpose_apply [0, 2, 1] _ transposes_S32x16x64_S32x64x16_0_2_1 _ (ix3 ⟨a.val / 64, by omega⟩ ⟨b.val % 16, by omega⟩ ⟨a.val % 64, by omega⟩) (fun b => match b with | ⟨0, _⟩ => rfl | ⟨1, _⟩ => rfl | ⟨2, _⟩ => rfl)).trans
    (shapeCast_apply _ shapeCasts_S1x32x16x64_S32x16x64 (ix3 ⟨a.val / 64, by omega⟩ ⟨b.val % 16, by omega⟩ ⟨a.val % 64, by omega⟩ : S32x16x64.Idx) (ix4 0 ⟨a.val / 64, by omega⟩ ⟨b.val % 16, by omega⟩ ⟨a.val % 64, by omega⟩) ?_)))))
  · rw [Shape.rowMajor_val_two, Shape.rowMajor_val_four]
    show ((0 * 2048 + a.val) * 32 + b.val / 16) * 16 + b.val % 16 = a.val * 512 + b.val
    omega
  · rw [Shape.rowMajor_val_two, Shape.rowMajor_val_four]
    show a.val * 16 + b.val % 16 = ((0 * 2048 + a.val) * 1 + 0) * 16 + b.val % 16
    omega
  · rw [Shape.rowMajor_val_two, Shape.rowMajor_val_three]
    show (a.val / 64 * 64 + a.val % 64) * 16 + b.val % 16 = a.val * 16 + b.val % 16
    omega
  · rw [Shape.rowMajor_val_three, Shape.rowMajor_val_four]
    show ((0 * 32 + a.val / 64) * 16 + b.val % 16) * 64 + a.val % 64 = (a.val / 64 * 16 + b.val % 16) * 64 + a.val % 64
    omega

variable (m : (ℓ : Loc nD τ sig) → Buf (Elt Ideal) ℓ) (c : Dev nD)

theorem idx0 : ∀ t : Fin cfg0.N, win0_0.index t (0 : Fin 2) = 0 ∧ win0_0.index t (1 : Fin 2) = t.val :=
  (by decide +kernel : ∀ t : Fin grid0.N, _)
theorem iblk0 (t : Fin cfg0.N) (j : Fin 512) (k : Fin 2048) (h : k.val = 512 * t.val + j.val) : iblk m c 0 t (ix2 0 j) = m ((c : Thread nD τ).loc main_arg0) (ix3 0 ⟨k.val / 64, by omega⟩ ⟨k.val % 64, by omega⟩) := by
  have e := idx0 t
  have e0 : (((cfg0.win 0).blk t).view.emb (ix2 0 j)) = (ix2 0 k : S1x2048.Idx) := by
    refine Shape.idx_ext₂ ?_ ?_
    · blk_simp [e.1]
    · blk_simp [e.2]; show t.val * 512 + j.val = k.val; omega
  unfold iblk
  rw [View.read_apply, cast_eq]
  entry_read
  exact (congrArg _ e0).trans (lam_at _ k)

theorem idx1 : ∀ t : Fin cfg0.N, win0_1.index t (0 : Fin 2) = 0 ∧ win0_1.index t (1 : Fin 2) = t.val :=
  (by decide +kernel : ∀ t : Fin grid0.N, _)
theorem iblk1 (t : Fin cfg0.N) (j : Fin 512) (k : Fin 2048) (h : k.val = 512 * t.val + j.val) : iblk m c 1 t (ix2 0 j) = m ((c : Thread nD τ).loc main_arg1) (ix3 0 ⟨k.val / 64, by omega⟩ ⟨k.val % 64, by omega⟩) := by
  have e := idx1 t
  have e0 : (((cfg0.win 1).blk t).view.emb (ix2 0 j)) = (ix2 0 k : S1x2048.Idx) := by
    refine Shape.idx_ext₂ ?_ ?_
    · blk_simp [e.1]
    · blk_simp [e.2]; show t.val * 512 + j.val = k.val; omega
  unfold iblk
  rw [View.read_apply, cast_eq]
  entry_read
  exact (congrArg _ e0).trans (lam_at _ k)

theorem idx2 : ∀ t : Fin cfg0.N, win0_2.index t (0 : Fin 2) = 0 ∧ win0_2.index t (1 : Fin 2) = t.val :=
  (by decide +kernel : ∀ t : Fin grid0.N, _)
theorem iblk2 (t : Fin cfg0.N) (j : Fin 512) (k : Fin 2048) (h : k.val = 512 * t.val + j.val) : iblk m c 2 t (ix2 0 j) = m ((c : Thread nD τ).loc main_arg2) (ix2 0 ⟨k.val / 64, by omega⟩) := by
  have e := idx2 t
  have e0 : (((cfg0.win 2).blk t).view.emb (ix2 0 j)) = (ix2 0 k : S1x2048.Idx) := by
    refine Shape.idx_ext₂ ?_ ?_
    · blk_simp [e.1]
    · blk_simp [e.2]; show t.val * 512 + j.val = k.val; omega
  unfold iblk
  rw [View.read_apply, cast_eq]
  entry_read
  exact (congrArg _ e0).trans (step_at _ k)

theorem idx3 : ∀ t : Fin cfg0.N, win0_3.index t (0 : Fin 2) = 0 ∧ win0_3.index t (1 : Fin 2) = t.val :=
  (by decide +kernel : ∀ t : Fin grid0.N, _)
theorem iblk3 (t : Fin cfg0.N) (r j : Fin 512) (k : Fin 2048) (h : k.val = 512 * t.val + j.val) : iblk m c 3 t (ix2 r j) = m ((c : Thread nD τ).loc main_arg3) (ix4 0 ⟨r.val / 16, by omega⟩ ⟨k.val % 64, by omega⟩ ⟨r.val % 16, by omega⟩) := by
  have e := idx3 t
  have e0 : (((cfg0.win 3).blk t).view.emb (ix2 r j)) = (ix2 r k : S512x2048.Idx) := by
    refine Shape.idx_ext₂ ?_ ?_
    · blk_simp [e.1]
    · blk_simp [e.2]; show t.val * 512 + j.val = k.val; omega
  unfold iblk
  rw [View.read_apply, cast_eq]
  entry_read
  exact (congrArg _ e0).trans (in_at _ r k)

theorem idx4 : ∀ t : Fin cfg0.N, win0_4.index t (0 : Fin 2) = 0 ∧ win0_4.index t (1 : Fin 2) = t.val :=
  (by decide +kernel : ∀ t : Fin grid0.N, _)
theorem iblk4 (t : Fin cfg0.N) (r j : Fin 512) (k : Fin 2048) (h : k.val = 512 * t.val + j.val) : iblk m c 4 t (ix2 r j) = m ((c : Thread nD τ).loc main_arg4) (ix4 0 ⟨r.val / 16, by omega⟩ ⟨k.val % 64, by omega⟩ ⟨r.val % 16, by omega⟩) := by
  have e := idx4 t
  have e0 : (((cfg0.win 4).blk t).view.emb (ix2 r j)) = (ix2 r k : S512x2048.Idx) := by
    refine Shape.idx_ext₂ ?_ ?_
    · blk_simp [e.1]
    · blk_simp [e.2]; show t.val * 512 + j.val = k.val; omega
  unfold iblk
  rw [View.read_apply, cast_eq]
  entry_read
  exact (congrArg _ e0).trans (in_at _ r k)

theorem idx5 : ∀ t : Fin cfg0.N, win0_5.index t (0 : Fin 2) = t.val ∧ win0_5.index t (1 : Fin 2) = 0 :=
  (by decide +kernel : ∀ t : Fin grid0.N, _)
theorem iblk5 (t : Fin cfg0.N) (j r : Fin 512) (k : Fin 2048) (h : k.val = 512 * t.val + j.val) : iblk m c 5 t (ix2 j r) = m ((c : Thread nD τ).loc main_arg5) (ix4 0 ⟨k.val / 64, by omega⟩ ⟨r.val % 16, by omega⟩ ⟨k.val % 64, by omega⟩) := by
  have e := idx5 t
  have e0 : (((cfg0.win 5).blk t).view.emb (ix2 j r)) = (ix2 k r : S2048x512.Idx) := by
    refine Shape.idx_ext₂ ?_ ?_
    · blk_simp [e.1]; show t.val * 512 + j.val = k.val; omega
    · blk_simp [e.2]
  unfold iblk
  rw [View.read_apply, cast_eq]
  entry_read
  exact (congrArg _ e0).trans (out_at _ k r)

theorem idx6 : ∀ t : Fin cfg0.N, win0_6.index t (0 : Fin 2) = t.val ∧ win0_6.index t (1 : Fin 2) = 0 :=
  (by decide +kernel : ∀ t : Fin grid0.N, _)
theorem iblk6 (t : Fin cfg0.N) (j r : Fin 512) (k : Fin 2048) (h : k.val = 512 * t.val + j.val) : iblk m c 6 t (ix2 j r) = m ((c : Thread nD τ).loc main_arg6) (ix4 0 ⟨k.val / 64, by omega⟩ ⟨r.val % 16, by omega⟩ ⟨k.val % 64, by omega⟩) := by
  have e := idx6 t
  have e0 : (((cfg0.win 6).blk t).view.emb (ix2 j r)) = (ix2 k r : S2048x512.Idx) := by
    refine Shape.idx_ext₂ ?_ ?_
    · blk_simp [e.1]; show t.val * 512 + j.val = k.val; omega
    · blk_simp [e.2]
  unfold iblk
  rw [View.read_apply, cast_eq]
  entry_read
  exact (congrArg _ e0).trans (out_at _ k r)

end Cert.PrepIdeal.Entry
-- ==== Proof.Prep.Ref.lean ====
/- The reference's six results at an index: the discretised parameters. -/
module

public import proofs.«01_k».proof.Proof.Gen.PrepRefIdeal.Read
public import proofs.«01_k».proof.Proof.Prep.Layer
public import Idealize.ShloMosaic.Lib.ValueIdxCore
public import Idealize.ShloMosaic.Lib.Pipeline.Value
public import Idealize.ShloMosaic.PureOps.Ideal.Laws

@[expose] public section

set_option maxRecDepth 16384

noncomputable section

namespace Cert.PrepRefIdeal.Rows

open Idealize.ShloMosaic Idealize.SL.Sem Cert.PrepRefIdeal Cert.PrepRefIdeal.Gen Cert.PrepRefIdeal.Read
open Idealize.ShloMosaic.ValueIdx TailRows SsmPrep

variable (x0 x1 : (⟨S1x32x64, .f32⟩ : BufTy).Contents (Elt Ideal)) (x2 : (⟨S1x32, .f32⟩ : BufTy).Contents (Elt Ideal))
    (x3 x4 : (⟨S1x32x64x16, .f32⟩ : BufTy).Contents (Elt Ideal)) (x5 x6 : (⟨S1x32x16x64, .f32⟩ : BufTy).Contents (Elt Ideal))

/-- The parameters from the reference's arguments: element `k` of a state is element `k % 64` of group `k / 64`, channel `r`
is channel `r % 16` of group `r / 16`. -/
def argsOf : Args where
  lr k := x0 (ix3 0 ⟨k.val / 64, by omega⟩ ⟨k.val % 64, by omega⟩)
  li k := x1 (ix3 0 ⟨k.val / 64, by omega⟩ ⟨k.val % 64, by omega⟩)
  ldt k := x2 (ix2 0 ⟨k.val / 64, by omega⟩)
  br r k := x3 (ix4 0 ⟨r.val / 16, by omega⟩ ⟨k.val % 64, by omega⟩ ⟨r.val % 16, by omega⟩)
  bi r k := x4 (ix4 0 ⟨r.val / 16, by omega⟩ ⟨k.val % 64, by omega⟩ ⟨r.val % 16, by omega⟩)
  cr k j := x5 (ix4 0 ⟨k.val / 64, by omega⟩ ⟨j.val % 16, by omega⟩ ⟨k.val % 64, by omega⟩)
  ci k j := x6 (ix4 0 ⟨k.val / 64, by omega⟩ ⟨j.val % 16, by omega⟩ ⟨k.val % 64, by omega⟩)

/-- Element `k` of the state in a group-by-element array. -/
abbrev at2 (k : Fin 2048) : S32x64.Idx := ix2 ⟨k.val / 64, by omega⟩ ⟨k.val % 64, by omega⟩

theorem v0_at (k : Fin 2048) : val_main_v0 (F := Ideal) x0 (at2 k) = x0 (ix3 0 ⟨k.val / 64, by omega⟩ ⟨k.val % 64, by omega⟩) := by
  unfold val_main_v0
  refine shapeCast_apply _ shapeCasts_S1x32x64_S32x64 (at2 k) (ix3 0 ⟨k.val / 64, by omega⟩ ⟨k.val % 64, by omega⟩) ?_
  rw [Shape.rowMajor_val_two, Shape.rowMajor_val_three]
  show (0 * 32 + k.val / 64) * 64 + k.val % 64 = k.val / 64 * 64 + k.val % 64
  omega

theorem v1_at (k : Fin 2048) : val_main_v1 (F := Ideal) x1 (at2 k) = x1 (ix3 0 ⟨k.val / 64, by omega⟩ ⟨k.val % 64, by omega⟩) := by
  unfold val_main_v1
  refine shapeCast_apply _ shapeCasts_S1x32x64_S32x64 (at2 k) (ix3 0 ⟨k.val / 64, by omega⟩ ⟨k.val % 64, by omega⟩) ?_
  rw [Shape.rowMajor_val_two, Shape.rowMajor_val_three]
  show (0 * 32 + k.val / 64) * 64 + k.val % 64 = k.val / 64 * 64 + k.val % 64
  omega

theorem v2_at (g : Fin 32) : val_main_v2 (F := Ideal) x2 (ix1 g) = x2 (ix2 0 g) := by
  unfold val_main_v2
  refine shapeCast_apply _ shapeCasts_S1x32_S32 (ix1 g : S32.Idx) (ix2 0 g) ?_
  rw [Shape.rowMajor_val_one, Shape.rowMajor_val_two]
  show 0 * 32 + g.val = g.val
  omega

theorem v5_at (k : Fin 2048) : val_main_v5 (F := Ideal) x2 (at2 k) = Ideal.exp (x2 (ix2 0 ⟨k.val / 64, by omega⟩)) := by
  rw [val_main_v5_apply, val_main_v4_apply, val_main_v3_apply]
  refine (congrArg (FloatOps.hostUnary (F := Ideal) (φ := .f32) .exp) ?_).trans rfl
  refine (congrArg (val_main_v2 (F := Ideal) x2) (funext fun a => match a with | ⟨0, _⟩ => rfl)).trans (v2_at x2 ⟨k.val / 64, by omega⟩)

theorem v8_at (k : Fin 2048) : val_main_v8 (F := Ideal) x2 (at2 k) = Ideal.exp (x2 (ix2 0 ⟨k.val / 64, by omega⟩)) := by
  rw [val_main_v8_apply, val_main_v4_apply, val_main_v3_apply]
  refine (congrArg (FloatOps.hostUnary (F := Ideal) (φ := .f32) .exp) ?_).trans rfl
  refine (congrArg (val_main_v2 (F := Ideal) x2) (funext fun a => match a with | ⟨0, _⟩ => rfl)).trans (v2_at x2 ⟨k.val / 64, by omega⟩)

theorem v11_at (k : Fin 2048) : val_main_v11 (F := Ideal) x0 x1 x2 (at2 k) = (argsOf x0 x1 x2 x3 x4 x5 x6).barR k := by
  rw [val_main_v11_apply, val_main_v7_apply, val_main_v10_apply, val_main_v6_apply, val_main_v9_apply, v0_at, v1_at, v5_at, v8_at]
  rfl

theorem v13_at (k : Fin 2048) : val_main_v13 (F := Ideal) x0 x1 x2 (at2 k) = (argsOf x0 x1 x2 x3 x4 x5 x6).barI k := by
  rw [val_main_v13_apply, val_main_v7_apply, val_main_v12_apply, val_main_v6_apply, val_main_v9_apply, v0_at, v1_at, v5_at, v8_at]
  rfl

theorem v16_at (k : Fin 2048) : val_main_v16 (F := Ideal) x0 x1 (at2 k) = (argsOf x0 x1 x2 x3 x4 x5 x6).den k := by
  rw [val_main_v16_apply, val_main_v14_apply, val_main_v15_apply, v0_at, v1_at]
  rfl

theorem v22_at (k : Fin 2048) : val_main_v22 (F := Ideal) x0 x1 x2 (at2 k) = (argsOf x0 x1 x2 x3 x4 x5 x6).qR k := by
  rw [val_main_v22_apply, val_main_v21_apply, val_main_v19_apply, val_main_v20_apply, val_main_v18_apply, val_main_v17_apply, val_main_cst_apply,
    v11_at x0 x1 x2 x3 x4 x5 x6, v13_at x0 x1 x2 x3 x4 x5 x6, v16_at x0 x1 x2 x3 x4 x5 x6, v0_at, v1_at]
  rfl

theorem v29_at (k : Fin 2048) : val_main_v29 (F := Ideal) x0 x1 x2 (at2 k) = (argsOf x0 x1 x2 x3 x4 x5 x6).qI k := by
  rw [val_main_v29_apply, val_main_v28_apply, val_main_v24_apply, val_main_v27_apply, val_main_v26_apply, val_main_v25_apply, val_main_cst_0_apply,
    v11_at x0 x1 x2 x3 x4 x5 x6, v13_at x0 x1 x2 x3 x4 x5 x6, v16_at x0 x1 x2 x3 x4 x5 x6, v0_at, v1_at]
  rfl

theorem v31_at (g : Fin 32) (s : Fin 64) (q : Fin 16) : val_main_v31 (F := Ideal) x3 (ix3 g s q) = x3 (ix4 0 g s q) := by
  unfold val_main_v31
  refine shapeCast_apply _ shapeCasts_S1x32x64x16_S32x64x16 (ix3 g s q : S32x64x16.Idx) (ix4 0 g s q) ?_
  rw [Shape.rowMajor_val_three, Shape.rowMajor_val_four]
  show ((0 * 32 + g.val) * 64 + s.val) * 16 + q.val = (g.val * 64 + s.val) * 16 + q.val
  omega

theorem v34_at (g : Fin 32) (s : Fin 64) (q : Fin 16) : val_main_v34 (F := Ideal) x4 (ix3 g s q) = x4 (ix4 0 g s q) := by
  unfold val_main_v34
  refine shapeCast_apply _ shapeCasts_S1x32x64x16_S32x64x16 (ix3 g s q : S32x64x16.Idx) (ix4 0 g s q) ?_
  rw [Shape.rowMajor_val_three, Shape.rowMajor_val_four]
  show ((0 * 32 + g.val) * 64 + s.val) * 16 + q.val = (g.val * 64 + s.val) * 16 + q.val
  omega

theorem v38_at (g : Fin 32) (s : Fin 64) (q : Fin 16) : val_main_v38 (F := Ideal) x4 (ix3 g s q) = x4 (ix4 0 g s q) := by
  unfold val_main_v38
  refine shapeCast_apply _ shapeCasts_S1x32x64x16_S32x64x16 (ix3 g s q : S32x64x16.Idx) (ix4 0 g s q) ?_
  rw [Shape.rowMajor_val_three, Shape.rowMajor_val_four]
  show ((0 * 32 + g.val) * 64 + s.val) * 16 + q.val = (g.val * 64 + s.val) * 16 + q.val
  omega

theorem v41_at (g : Fin 32) (s : Fin 64) (q : Fin 16) : val_main_v41 (F := Ideal) x3 (ix3 g s q) = x3 (ix4 0 g s q) := by
  unfold val_main_v41
  refine shapeCast_apply _ shapeCasts_S1x32x64x16_S32x64x16 (ix3 g s q : S32x64x16.Idx) (ix4 0 g s q) ?_
  rw [Shape.rowMajor_val_three, Shape.rowMajor_val_four]
  show ((0 * 32 + g.val) * 64 + s.val) * 16 + q.val = (g.val * 64 + s.val) * 16 + q.val
  omega

theorem v32_at (g : Fin 32) (s : Fin 64) (q : Fin 16) : val_main_v32 (F := Ideal) x0 x1 x2 (ix3 g s q) = val_main_v22 (F := Ideal) x0 x1 x2 (ix2 g s) := by
  rw [val_main_v32_apply, val_main_v23_apply]
  exact congrArg (val_main_v22 (F := Ideal) x0 x1 x2) (funext fun a => match a with | ⟨0, _⟩ => rfl | ⟨1, _⟩ => rfl)

theorem v39_at (g : Fin 32) (s : Fin 64) (q : Fin 16) : val_main_v39 (F := Ideal) x0 x1 x2 (ix3 g s q) = val_main_v22 (F := Ideal) x0 x1 x2 (ix2 g s) := by
  rw [val_main_v39_apply, val_main_v23_apply]
  exact congrArg (val_main_v22 (F := Ideal) x0 x1 x2) (funext fun a => match a with | ⟨0, _⟩ => rfl | ⟨1, _⟩ => rfl)

theorem v35_at (g : Fin 32) (s : Fin 64) (q : Fin 16) : val_main_v35 (F := Ideal) x0 x1 x2 (ix3 g s q) = val_main_v29 (F := Ideal) x0 x1 x2 (ix2 g s) := by
  rw [val_main_v35_apply, val_main_v30_apply]
  exact congrArg (val_main_v29 (F := Ideal) x0 x1 x2) (funext fun a => match a with | ⟨0, _⟩ => rfl | ⟨1, _⟩ => rfl)

theorem v42_at (g : Fin 32) (s : Fin 64) (q : Fin 16) : val_main_v42 (F := Ideal) x0 x1 x2 (ix3 g s q) = val_main_v29 (F := Ideal) x0 x1 x2 (ix2 g s) := by
  rw [val_main_v42_apply, val_main_v30_apply]
  exact congrArg (val_main_v29 (F := Ideal) x0 x1 x2) (funext fun a => match a with | ⟨0, _⟩ => rfl | ⟨1, _⟩ => rfl)

/-- A group's own entries are kept. -/
theorem v51_at (a b : Fin 32) : val_main_v51 (F := Ideal) (ix2 a b) = IntOp.cmpi .eq (BitVec.ofNat 32 a.val) (BitVec.ofNat 32 b.val) := by
  rw [val_main_v51_apply, val_main_v49_apply, val_main_v50_apply, val_main_v46_apply, val_main_v48_apply, val_main_v45_apply, val_main_v47_apply]

/-- The matrix into the state, `inR`. -/
theorem v143_at (r : Fin 512) (k : Fin 2048) : val_main_v143 (F := Ideal) x0 x1 x2 x3 x4 (ix2 r k) = (argsOf x0 x1 x2 x3 x4 x5 x6).inR r k := by
  have e : val_main_v37 (F := Ideal) x0 x1 x2 x3 x4 (ix3 ⟨r.val / 16, by omega⟩ ⟨k.val % 64, by omega⟩ ⟨r.val % 16, by omega⟩ : S32x64x16.Idx)
      = FloatOps.subf (F := Ideal) (φ := .f32) (FloatOps.mulf (F := Ideal) (φ := .f32) (val_main_v22 (F := Ideal) x0 x1 x2 (ix2 ⟨r.val / 16, by omega⟩ ⟨k.val % 64, by omega⟩)) (x3 (ix4 0 ⟨r.val / 16, by omega⟩ ⟨k.val % 64, by omega⟩ ⟨r.val % 16, by omega⟩)))
        (FloatOps.mulf (F := Ideal) (φ := .f32) (val_main_v29 (F := Ideal) x0 x1 x2 (ix2 ⟨r.val / 16, by omega⟩ ⟨k.val % 64, by omega⟩)) (x4 (ix4 0 ⟨r.val / 16, by omega⟩ ⟨k.val % 64, by omega⟩ ⟨r.val % 16, by omega⟩))) := by
    rw [val_main_v37_apply, val_main_v33_apply, val_main_v36_apply, v32_at, v35_at, v31_at, v34_at]
  rw [val_main_v143_apply]
  refine (rfl : _ = val_main_v142 (F := Ideal) x0 x1 x2 x3 x4 (ix2 r k)).trans ?_
  unfold val_main_v142
  refine (shapeCast_apply _ shapeCasts_S32x16x32x64_S512x2048 (ix2 r k : S512x2048.Idx) (ix4 ⟨r.val / 16, by omega⟩ ⟨r.val % 16, by omega⟩ ⟨k.val / 64, by omega⟩ ⟨k.val % 64, by omega⟩) ?_).trans ?_
  · rw [Shape.rowMajor_val_two, Shape.rowMajor_val_four]
    show ((r.val / 16 * 16 + r.val % 16) * 32 + k.val / 64) * 64 + k.val % 64 = r.val * 2048 + k.val
    omega
  rw [val_main_v141_apply, val_main_call0_v1_apply, val_main_v138_apply, val_main_call0_v2_apply, val_main_v140_apply, val_main_v139_apply,
    val_main_call0_v3_apply, val_main_call0_v0_apply, val_main_cst_1_apply]
  rw [(funext fun a => match a with | ⟨0, _⟩ => rfl | ⟨1, _⟩ => rfl :
      idx_main_v138 (idx_main_call0_v1 (ix4 ⟨r.val / 16, by omega⟩ ⟨r.val % 16, by omega⟩ ⟨k.val / 64, by omega⟩ ⟨k.val % 64, by omega⟩ : S32x16x32x64.Idx)) = ix2 ⟨r.val / 16, by omega⟩ ⟨k.val / 64, by omega⟩), v51_at,
    (funext fun a => match a with | ⟨0, _⟩ => rfl | ⟨1, _⟩ => rfl | ⟨2, _⟩ => rfl :
      idx_main_v139 (idx_main_v140 (idx_main_call0_v2 (ix4 ⟨r.val / 16, by omega⟩ ⟨r.val % 16, by omega⟩ ⟨k.val / 64, by omega⟩ ⟨k.val % 64, by omega⟩ : S32x16x32x64.Idx))) = ix3 ⟨r.val / 16, by omega⟩ ⟨k.val % 64, by omega⟩ ⟨r.val % 16, by omega⟩), e]
  refine (word_select (r.val / 16) (k.val / 64) (by omega) (by omega) _ _).trans ?_
  unfold Args.inR
  by_cases h : r.val / 16 = k.val / 64
  · rw [if_pos h, if_pos h]
    have g : (ix2 ⟨r.val / 16, by omega⟩ ⟨k.val % 64, by omega⟩ : S32x64.Idx) = at2 k := congrArg (fun q : Fin 32 => (ix2 q ⟨k.val % 64, by omega⟩ : S32x64.Idx)) (Fin.ext h)
    rw [g, v22_at x0 x1 x2 x3 x4 x5 x6, v29_at x0 x1 x2 x3 x4 x5 x6]
    rfl
  · rw [if_neg h, if_neg h]
    exact Ideal.ofBits_zero_f32

/-- The matrix into the state, `inI`. -/
theorem v149_at (r : Fin 512) (k : Fin 2048) : val_main_v149 (F := Ideal) x0 x1 x2 x3 x4 (ix2 r k) = (argsOf x0 x1 x2 x3 x4 x5 x6).inI r k := by
  have e : val_main_v44 (F := Ideal) x0 x1 x2 x3 x4 (ix3 ⟨r.val / 16, by omega⟩ ⟨k.val % 64, by omega⟩ ⟨r.val % 16, by omega⟩ : S32x64x16.Idx)
      = FloatOps.addf (F := Ideal) (φ := .f32) (FloatOps.mulf (F := Ideal) (φ := .f32) (val_main_v22 (F := Ideal) x0 x1 x2 (ix2 ⟨r.val / 16, by omega⟩ ⟨k.val % 64, by omega⟩)) (x4 (ix4 0 ⟨r.val / 16, by omega⟩ ⟨k.val % 64, by omega⟩ ⟨r.val % 16, by omega⟩)))
        (FloatOps.mulf (F := Ideal) (φ := .f32) (val_main_v29 (F := Ideal) x0 x1 x2 (ix2 ⟨r.val / 16, by omega⟩ ⟨k.val % 64, by omega⟩)) (x3 (ix4 0 ⟨r.val / 16, by omega⟩ ⟨k.val % 64, by omega⟩ ⟨r.val % 16, by omega⟩))) := by
    rw [val_main_v44_apply, val_main_v40_apply, val_main_v43_apply, v39_at, v42_at, v38_at, v41_at]
  rw [val_main_v149_apply]
  refine (rfl : _ = val_main_v148 (F := Ideal) x0 x1 x2 x3 x4 (ix2 r k)).trans ?_
  unfold val_main_v148
  refine (shapeCast_apply _ shapeCasts_S32x16x32x64_S512x2048 (ix2 r k : S512x2048.Idx) (ix4 ⟨r.val / 16, by omega⟩ ⟨r.val % 16, by omega⟩ ⟨k.val / 64, by omega⟩ ⟨k.val % 64, by omega⟩) ?_).trans ?_
  · rw [Shape.rowMajor_val_two, Shape.rowMajor_val_four]
    show ((r.val / 16 * 16 + r.val % 16) * 32 + k.val / 64) * 64 + k.val % 64 = r.val * 2048 + k.val
    omega
  rw [val_main_v147_apply, val_main_call1_v1_apply, val_main_v144_apply, val_main_call1_v2_apply, val_main_v146_apply, val_main_v145_apply,
    val_main_call1_v3_apply, val_main_call1_v0_apply, val_main_cst_2_apply]
  rw [(funext fun a => match a with | ⟨0, _⟩ => rfl | ⟨1, _⟩ => rfl :
      idx_main_v144 (idx_main_call1_v1 (ix4 ⟨r.val / 16, by omega⟩ ⟨r.val % 16, by omega⟩ ⟨k.val / 64, by omega⟩ ⟨k.val % 64, by omega⟩ : S32x16x32x64.Idx)) = ix2 ⟨r.val / 16, by omega⟩ ⟨k.val / 64, by omega⟩), v51_at,
    (funext fun a => match a with | ⟨0, _⟩ => rfl | ⟨1, _⟩ => rfl | ⟨2, _⟩ => rfl :
      idx_main_v145 (idx_main_v146 (idx_main_call1_v2 (ix4 ⟨r.val / 16, by omega⟩ ⟨r.val % 16, by omega⟩ ⟨k.val / 64, by omega⟩ ⟨k.val % 64, by omega⟩ : S32x16x32x64.Idx))) = ix3 ⟨r.val / 16, by omega⟩ ⟨k.val % 64, by omega⟩ ⟨r.val % 16, by omega⟩), e]
  refine (word_select (r.val / 16) (k.val / 64) (by omega) (by omega) _ _).trans ?_
  unfold Args.inI
  by_cases h : r.val / 16 = k.val / 64
  · rw [if_pos h, if_pos h]
    have g : (ix2 ⟨r.val / 16, by omega⟩ ⟨k.val % 64, by omega⟩ : S32x64.Idx) = at2 k := congrArg (fun q : Fin 32 => (ix2 q ⟨k.val % 64, by omega⟩ : S32x64.Idx)) (Fin.ext h)
    rw [g, v22_at x0 x1 x2 x3 x4 x5 x6, v29_at x0 x1 x2 x3 x4 x5 x6]
    rfl
  · rw [if_neg h, if_neg h]
    exact Ideal.ofBits_zero_f32

theorem v150_at (g : Fin 32) (q : Fin 16) (s : Fin 64) : val_main_v150 (F := Ideal) x5 (ix3 g q s) = x5 (ix4 0 g q s) := by
  unfold val_main_v150
  refine shapeCast_apply _ shapeCasts_S1x32x16x64_S32x16x64 (ix3 g q s : S32x16x64.Idx) (ix4 0 g q s) ?_
  rw [Shape.rowMajor_val_three, Shape.rowMajor_val_four]
  show ((0 * 32 + g.val) * 16 + q.val) * 64 + s.val = (g.val * 16 + q.val) * 64 + s.val
  omega

/-- The matrix out of the state, `outR`. -/
theorem v156_at (k : Fin 2048) (j : Fin 512) : val_main_v156 (F := Ideal) x5 (ix2 k j) = (argsOf x0 x1 x2 x3 x4 x5 x6).outR k j := by
  rw [val_main_v156_apply]
  refine (rfl : _ = val_main_v155 (F := Ideal) x5 (ix2 k j)).trans ?_
  unfold val_main_v155
  refine (shapeCast_apply _ shapeCasts_S32x64x32x16_S2048x512 (ix2 k j : S2048x512.Idx) (ix4 ⟨k.val / 64, by omega⟩ ⟨k.val % 64, by omega⟩ ⟨j.val / 16, by omega⟩ ⟨j.val % 16, by omega⟩) ?_).trans ?_
  · rw [Shape.rowMajor_val_two, Shape.rowMajor_val_four]
    show ((k.val / 64 * 64 + k.val % 64) * 32 + j.val / 16) * 16 + j.val % 16 = k.val * 512 + j.val
    omega
  rw [val_main_v154_apply, val_main_call2_v1_apply, val_main_v151_apply, val_main_call2_v2_apply, val_main_v153_apply, val_main_v152_apply,
    val_main_call2_v3_apply, val_main_call2_v0_apply, val_main_cst_3_apply]
  refine (congrArg₂ (fun c x => Scalar.select c x (FloatOps.ofBits (F := Ideal) .f32 0x00000000#32))
    ((congrArg (val_main_v51 (F := Ideal)) (funext fun a => match a with | ⟨0, _⟩ => rfl | ⟨1, _⟩ => rfl)).trans (v51_at ⟨k.val / 64, by omega⟩ ⟨j.val / 16, by omega⟩))
    (congrArg (val_main_v150 (F := Ideal) x5) (funext fun a => match a with | ⟨0, _⟩ => rfl | ⟨1, _⟩ => rfl | ⟨2, _⟩ => rfl :
      _ = (ix3 ⟨k.val / 64, by omega⟩ ⟨j.val % 16, by omega⟩ ⟨k.val % 64, by omega⟩ : S32x16x64.Idx)))).trans ?_
  refine (word_select (k.val / 64) (j.val / 16) (by omega) (by omega) _ _).trans ?_
  unfold Args.outR
  rw [v150_at]
  by_cases h : k.val / 64 = j.val / 16
  · rw [if_pos h, if_pos h]
    rfl
  · rw [if_neg h, if_neg h]
    exact Ideal.ofBits_zero_f32

theorem v157_at (g : Fin 32) (q : Fin 16) (s : Fin 64) : val_main_v157 (F := Ideal) x6 (ix3 g q s) = x6 (ix4 0 g q s) := by
  unfold val_main_v157
  refine shapeCast_apply _ shapeCasts_S1x32x16x64_S32x16x64 (ix3 g q s : S32x16x64.Idx) (ix4 0 g q s) ?_
  rw [Shape.rowMajor_val_three, Shape.rowMajor_val_four]
  show ((0 * 32 + g.val) * 16 + q.val) * 64 + s.val = (g.val * 16 + q.val) * 64 + s.val
  omega

/-- The matrix out of the state, `outI`. -/
theorem v164_at (k : Fin 2048) (j : Fin 512) : val_main_v164 (F := Ideal) x6 (ix2 k j) = (argsOf x0 x1 x2 x3 x4 x5 x6).outI k j := by
  rw [val_main_v164_apply]
  refine (rfl : _ = val_main_v163 (F := Ideal) x6 (ix2 k j)).trans ?_
  unfold val_main_v163
  refine (shapeCast_apply _ shapeCasts_S32x64x32x16_S2048x512 (ix2 k j : S2048x512.Idx) (ix4 ⟨k.val / 64, by omega⟩ ⟨k.val % 64, by omega⟩ ⟨j.val / 16, by omega⟩ ⟨j.val % 16, by omega⟩) ?_).trans ?_
  · rw [Shape.rowMajor_val_two, Shape.rowMajor_val_four]
    show ((k.val / 64 * 64 + k.val % 64) * 32 + j.val / 16) * 16 + j.val % 16 = k.val * 512 + j.val
    omega
  rw [val_main_v162_apply, val_main_call3_v1_apply, val_main_v159_apply, val_main_call3_v2_apply, val_main_v161_apply, val_main_v160_apply,
    val_main_call3_v3_apply, val_main_call3_v0_apply, val_main_cst_4_apply]
  refine (congrArg₂ (fun c x => Scalar.select c x (FloatOps.ofBits (F := Ideal) .f32 0x00000000#32))
    ((congrArg (val_main_v51 (F := Ideal)) (funext fun a => match a with | ⟨0, _⟩ => rfl | ⟨1, _⟩ => rfl)).trans (v51_at ⟨k.val / 64, by omega⟩ ⟨j.val / 16, by omega⟩))
    (congrArg (val_main_v158 (F := Ideal) x6) (funext fun a => match a with | ⟨0, _⟩ => rfl | ⟨1, _⟩ => rfl | ⟨2, _⟩ => rfl :
      _ = (ix3 ⟨k.val / 64, by omega⟩ ⟨j.val % 16, by omega⟩ ⟨k.val % 64, by omega⟩ : S32x16x64.Idx)))).trans ?_
  refine (word_select (k.val / 64) (j.val / 16) (by omega) (by omega) _ _).trans ?_
  unfold Args.outI
  rw [val_main_v158_apply, v157_at]
  by_cases h : k.val / 64 = j.val / 16
  · rw [if_pos h, if_pos h]
    rfl
  · rw [if_neg h, if_neg h]
    exact Ideal.ofBits_zero_f32

/-! The powers. -/

theorem v52_at (k : Fin 2048) : val_main_v52 (F := Ideal) x0 x1 x2 (ix1 k) = (argsOf x0 x1 x2 x3 x4 x5 x6).barR k := by
  unfold val_main_v52
  refine (shapeCast_apply _ shapeCasts_S32x64_S2048 (ix1 k : S2048.Idx) (at2 k) ?_).trans (v11_at x0 x1 x2 x3 x4 x5 x6 k)
  rw [Shape.rowMajor_val_one, Shape.rowMajor_val_two]
  show k.val / 64 * 64 + k.val % 64 = k.val
  omega

theorem v53_at (k : Fin 2048) : val_main_v53 (F := Ideal) x0 x1 x2 (ix1 k) = (argsOf x0 x1 x2 x3 x4 x5 x6).barI k := by
  unfold val_main_v53
  refine (shapeCast_apply _ shapeCasts_S32x64_S2048 (ix1 k : S2048.Idx) (at2 k) ?_).trans (v13_at x0 x1 x2 x3 x4 x5 x6 k)
  rw [Shape.rowMajor_val_one, Shape.rowMajor_val_two]
  show k.val / 64 * 64 + k.val % 64 = k.val
  omega

/-- A level's powers at an element of state, from its first. -/
abbrev one (k : Fin 2048) : ℕ → EReal × EReal := pow (val_main_v52 (F := Ideal) x0 x1 x2 (ix1 k)) (val_main_v53 (F := Ideal) x0 x1 x2 (ix1 k))
abbrev two (k : Fin 2048) : ℕ → EReal × EReal := pow (val_main_v92 (F := Ideal) x0 x1 x2 (ix1 k)) (val_main_v95 (F := Ideal) x0 x1 x2 (ix1 k))

variable (k : Fin 2048)
theorem v56_at : val_main_v56 x0 x1 x2 (ix1 k) = (one x0 x1 x2 k 1).1 := by
  rw [val_main_v56_apply, val_main_v54_apply, val_main_v55_apply]; rfl
theorem v59_at : val_main_v59 x0 x1 x2 (ix1 k) = (one x0 x1 x2 k 1).2 := by
  rw [val_main_v59_apply, val_main_v57_apply, val_main_v58_apply]; rfl
theorem v62_at : val_main_v62 x0 x1 x2 (ix1 k) = (one x0 x1 x2 k 2).1 := by
  rw [val_main_v62_apply, val_main_v60_apply, val_main_v61_apply, v56_at, v59_at]; rfl
theorem v65_at : val_main_v65 x0 x1 x2 (ix1 k) = (one x0 x1 x2 k 2).2 := by
  rw [val_main_v65_apply, val_main_v63_apply, val_main_v64_apply, v56_at, v59_at]; rfl
theorem v68_at : val_main_v68 x0 x1 x2 (ix1 k) = (one x0 x1 x2 k 3).1 := by
  rw [val_main_v68_apply, val_main_v66_apply, val_main_v67_apply, v62_at, v65_at]; rfl
theorem v71_at : val_main_v71 x0 x1 x2 (ix1 k) = (one x0 x1 x2 k 3).2 := by
  rw [val_main_v71_apply, val_main_v69_apply, val_main_v70_apply, v62_at, v65_at]; rfl
theorem v74_at : val_main_v74 x0 x1 x2 (ix1 k) = (one x0 x1 x2 k 4).1 := by
  rw [val_main_v74_apply, val_main_v72_apply, val_main_v73_apply, v68_at, v71_at]; rfl
theorem v77_at : val_main_v77 x0 x1 x2 (ix1 k) = (one x0 x1 x2 k 4).2 := by
  rw [val_main_v77_apply, val_main_v75_apply, val_main_v76_apply, v68_at, v71_at]; rfl
theorem v80_at : val_main_v80 x0 x1 x2 (ix1 k) = (one x0 x1 x2 k 5).1 := by
  rw [val_main_v80_apply, val_main_v78_apply, val_main_v79_apply, v74_at, v77_at]; rfl
theorem v83_at : val_main_v83 x0 x1 x2 (ix1 k) = (one x0 x1 x2 k 5).2 := by
  rw [val_main_v83_apply, val_main_v81_apply, val_main_v82_apply, v74_at, v77_at]; rfl
theorem v86_at : val_main_v86 x0 x1 x2 (ix1 k) = (one x0 x1 x2 k 6).1 := by
  rw [val_main_v86_apply, val_main_v84_apply, val_main_v85_apply, v80_at, v83_at]; rfl
theorem v89_at : val_main_v89 x0 x1 x2 (ix1 k) = (one x0 x1 x2 k 6).2 := by
  rw [val_main_v89_apply, val_main_v87_apply, val_main_v88_apply, v80_at, v83_at]; rfl
theorem v92_at : val_main_v92 x0 x1 x2 (ix1 k) = (one x0 x1 x2 k 7).1 := by
  rw [val_main_v92_apply, val_main_v90_apply, val_main_v91_apply, v86_at, v89_at]; rfl
theorem v95_at : val_main_v95 x0 x1 x2 (ix1 k) = (one x0 x1 x2 k 7).2 := by
  rw [val_main_v95_apply, val_main_v93_apply, val_main_v94_apply, v86_at, v89_at]; rfl
theorem v98_at : val_main_v98 x0 x1 x2 (ix1 k) = (two x0 x1 x2 k 1).1 := by
  rw [val_main_v98_apply, val_main_v96_apply, val_main_v97_apply]; rfl
theorem v101_at : val_main_v101 x0 x1 x2 (ix1 k) = (two x0 x1 x2 k 1).2 := by
  rw [val_main_v101_apply, val_main_v99_apply, val_main_v100_apply]; rfl
theorem v104_at : val_main_v104 x0 x1 x2 (ix1 k) = (two x0 x1 x2 k 2).1 := by
  rw [val_main_v104_apply, val_main_v102_apply, val_main_v103_apply, v98_at, v101_at]; rfl
theorem v107_at : val_main_v107 x0 x1 x2 (ix1 k) = (two x0 x1 x2 k 2).2 := by
  rw [val_main_v107_apply, val_main_v105_apply, val_main_v106_apply, v98_at, v101_at]; rfl
theorem v110_at : val_main_v110 x0 x1 x2 (ix1 k) = (two x0 x1 x2 k 3).1 := by
  rw [val_main_v110_apply, val_main_v108_apply, val_main_v109_apply, v104_at, v107_at]; rfl
theorem v113_at : val_main_v113 x0 x1 x2 (ix1 k) = (two x0 x1 x2 k 3).2 := by
  rw [val_main_v113_apply, val_main_v111_apply, val_main_v112_apply, v104_at, v107_at]; rfl
theorem v116_at : val_main_v116 x0 x1 x2 (ix1 k) = (two x0 x1 x2 k 4).1 := by
  rw [val_main_v116_apply, val_main_v114_apply, val_main_v115_apply, v110_at, v113_at]; rfl
theorem v119_at : val_main_v119 x0 x1 x2 (ix1 k) = (two x0 x1 x2 k 4).2 := by
  rw [val_main_v119_apply, val_main_v117_apply, val_main_v118_apply, v110_at, v113_at]; rfl
theorem v122_at : val_main_v122 x0 x1 x2 (ix1 k) = (two x0 x1 x2 k 5).1 := by
  rw [val_main_v122_apply, val_main_v120_apply, val_main_v121_apply, v116_at, v119_at]; rfl
theorem v125_at : val_main_v125 x0 x1 x2 (ix1 k) = (two x0 x1 x2 k 5).2 := by
  rw [val_main_v125_apply, val_main_v123_apply, val_main_v124_apply, v116_at, v119_at]; rfl
theorem v128_at : val_main_v128 x0 x1 x2 (ix1 k) = (two x0 x1 x2 k 6).1 := by
  rw [val_main_v128_apply, val_main_v126_apply, val_main_v127_apply, v122_at, v125_at]; rfl
theorem v131_at : val_main_v131 x0 x1 x2 (ix1 k) = (two x0 x1 x2 k 6).2 := by
  rw [val_main_v131_apply, val_main_v129_apply, val_main_v130_apply, v122_at, v125_at]; rfl
theorem v134_at : val_main_v134 x0 x1 x2 (ix1 k) = (two x0 x1 x2 k 7).1 := by
  rw [val_main_v134_apply, val_main_v132_apply, val_main_v133_apply, v128_at, v131_at]; rfl
theorem v137_at : val_main_v137 x0 x1 x2 (ix1 k) = (two x0 x1 x2 k 7).2 := by
  rw [val_main_v137_apply, val_main_v135_apply, val_main_v136_apply, v128_at, v131_at]; rfl

theorem one_eq (n : ℕ) : one x0 x1 x2 k n = pow ((argsOf x0 x1 x2 x3 x4 x5 x6).base 0 k).1 ((argsOf x0 x1 x2 x3 x4 x5 x6).base 0 k).2 n := by
  unfold one
  rw [v52_at x0 x1 x2 x3 x4 x5 x6, v53_at x0 x1 x2 x3 x4 x5 x6]
  rfl

theorem two_eq (n : ℕ) : two x0 x1 x2 k n = pow ((argsOf x0 x1 x2 x3 x4 x5 x6).base 1 k).1 ((argsOf x0 x1 x2 x3 x4 x5 x6).base 1 k).2 n := by
  unfold two
  rw [v92_at, v95_at, one_eq x0 x1 x2 x3 x4 x5 x6]
  rfl

/-- Sixteen rows stacked, at a row. -/
theorem stack_at (f : Fin 16 → (S1x2048.Idx → EReal)) (h) (j : Fin 16) :
    concatenate S16x2048 0 [⟨S1x2048, f 0⟩, ⟨S1x2048, f 1⟩, ⟨S1x2048, f 2⟩, ⟨S1x2048, f 3⟩, ⟨S1x2048, f 4⟩, ⟨S1x2048, f 5⟩, ⟨S1x2048, f 6⟩, ⟨S1x2048, f 7⟩, ⟨S1x2048, f 8⟩, ⟨S1x2048, f 9⟩, ⟨S1x2048, f 10⟩, ⟨S1x2048, f 11⟩, ⟨S1x2048, f 12⟩, ⟨S1x2048, f 13⟩, ⟨S1x2048, f 14⟩, ⟨S1x2048, f 15⟩] h (ix2 j k) = f j (ix2 0 k) :=
  concatenate_ofFn_unit_apply (t := S16x2048) (s₁ := S1x2048) 0 f h rfl rfl (ix2 j k) j rfl (ix2 0 k)
    (fun b hb => match b with | ⟨0, _⟩ => absurd rfl hb | ⟨1, _⟩ => rfl)

theorem line_at (y : (⟨S2048, .f32⟩ : BufTy).Contents (Elt Ideal)) : broadcastInDim S1x2048 ![1] bcast_S2048_S1x2048_1 y (ix2 0 k) = y (ix1 k) :=
  broadcastInDim_apply _ bcast_S2048_S1x2048_1 y (ix2 0 k) (ix1 k) (fun a => match a with | ⟨0, _⟩ => rfl)

/-- A stack of sixteen rows as two levels of eight. -/
theorem levels_at (y : (⟨S16x2048, .f32⟩ : BufTy).Contents (Elt Ideal)) (p : Fin 2) (n : Fin 8) :
    shapeCast S2x8x2048 y shapeCasts_S16x2048_S2x8x2048 (ix3 p n k : S2x8x2048.Idx) = y (ix2 ⟨8 * p.val + n.val, by omega⟩ k) := by
  refine shapeCast_apply _ shapeCasts_S16x2048_S2x8x2048 (ix3 p n k : S2x8x2048.Idx) (ix2 ⟨8 * p.val + n.val, by omega⟩ k) ?_
  rw [Shape.rowMajor_val_three, Shape.rowMajor_val_two]
  show (8 * p.val + n.val) * 2048 + k.val = (p.val * 8 + n.val) * 2048 + k.val
  omega

/-- The powers' real parts. -/
theorem v182_at (p : Fin 2) (n : Fin 8) : val_main_v182 (F := Ideal) x0 x1 x2 (ix3 p n k) = ((argsOf x0 x1 x2 x3 x4 x5 x6).power p n k).1 := by
  unfold val_main_v182 val_main_v181
  refine (levels_at k _ p n).trans ((stack_at k ![val_main_v165 (F := Ideal) x0 x1 x2, val_main_v166 (F := Ideal) x0 x1 x2, val_main_v167 (F := Ideal) x0 x1 x2, val_main_v168 (F := Ideal) x0 x1 x2, val_main_v169 (F := Ideal) x0 x1 x2, val_main_v170 (F := Ideal) x0 x1 x2, val_main_v171 (F := Ideal) x0 x1 x2, val_main_v172 (F := Ideal) x0 x1 x2, val_main_v173 (F := Ideal) x0 x1 x2, val_main_v174 (F := Ideal) x0 x1 x2, val_main_v175 (F := Ideal) x0 x1 x2, val_main_v176 (F := Ideal) x0 x1 x2, val_main_v177 (F := Ideal) x0 x1 x2, val_main_v178 (F := Ideal) x0 x1 x2, val_main_v179 (F := Ideal) x0 x1 x2, val_main_v180 (F := Ideal) x0 x1 x2] _ _).trans ?_)
  have e0 := one_eq x0 x1 x2 x3 x4 x5 x6 k
  have e1 := two_eq x0 x1 x2 x3 x4 x5 x6 k
  match p, n with
  | ⟨0, _⟩, ⟨0, _⟩ => exact (line_at k (val_main_v52 (F := Ideal) x0 x1 x2)).trans (congrArg Prod.fst (e0 0))
  | ⟨0, _⟩, ⟨1, _⟩ => exact (line_at k (val_main_v56 (F := Ideal) x0 x1 x2)).trans ((v56_at x0 x1 x2 k).trans (congrArg Prod.fst (e0 1)))
  | ⟨0, _⟩, ⟨2, _⟩ => exact (line_at k (val_main_v62 (F := Ideal) x0 x1 x2)).trans ((v62_at x0 x1 x2 k).trans (congrArg Prod.fst (e0 2)))
  | ⟨0, _⟩, ⟨3, _⟩ => exact (line_at k (val_main_v68 (F := Ideal) x0 x1 x2)).trans ((v68_at x0 x1 x2 k).trans (congrArg Prod.fst (e0 3)))
  | ⟨0, _⟩, ⟨4, _⟩ => exact (line_at k (val_main_v74 (F := Ideal) x0 x1 x2)).trans ((v74_at x0 x1 x2 k).trans (congrArg Prod.fst (e0 4)))
  | ⟨0, _⟩, ⟨5, _⟩ => exact (line_at k (val_main_v80 (F := Ideal) x0 x1 x2)).trans ((v80_at x0 x1 x2 k).trans (congrArg Prod.fst (e0 5)))
  | ⟨0, _⟩, ⟨6, _⟩ => exact (line_at k (val_main_v86 (F := Ideal) x0 x1 x2)).trans ((v86_at x0 x1 x2 k).trans (congrArg Prod.fst (e0 6)))
  | ⟨0, _⟩, ⟨7, _⟩ => exact (line_at k (val_main_v92 (F := Ideal) x0 x1 x2)).trans ((v92_at x0 x1 x2 k).trans (congrArg Prod.fst (e0 7)))
  | ⟨1, _⟩, ⟨0, _⟩ => exact (line_at k (val_main_v92 (F := Ideal) x0 x1 x2)).trans (congrArg Prod.fst (e1 0))
  | ⟨1, _⟩, ⟨1, _⟩ => exact (line_at k (val_main_v98 (F := Ideal) x0 x1 x2)).trans ((v98_at x0 x1 x2 k).trans (congrArg Prod.fst (e1 1)))
  | ⟨1, _⟩, ⟨2, _⟩ => exact (line_at k (val_main_v104 (F := Ideal) x0 x1 x2)).trans ((v104_at x0 x1 x2 k).trans (congrArg Prod.fst (e1 2)))
  | ⟨1, _⟩, ⟨3, _⟩ => exact (line_at k (val_main_v110 (F := Ideal) x0 x1 x2)).trans ((v110_at x0 x1 x2 k).trans (congrArg Prod.fst (e1 3)))
  | ⟨1, _⟩, ⟨4, _⟩ => exact (line_at k (val_main_v116 (F := Ideal) x0 x1 x2)).trans ((v116_at x0 x1 x2 k).trans (congrArg Prod.fst (e1 4)))
  | ⟨1, _⟩, ⟨5, _⟩ => exact (line_at k (val_main_v122 (F := Ideal) x0 x1 x2)).trans ((v122_at x0 x1 x2 k).trans (congrArg Prod.fst (e1 5)))
  | ⟨1, _⟩, ⟨6, _⟩ => exact (line_at k (val_main_v128 (F := Ideal) x0 x1 x2)).trans ((v128_at x0 x1 x2 k).trans (congrArg Prod.fst (e1 6)))
  | ⟨1, _⟩, ⟨7, _⟩ => exact (line_at k (val_main_v134 (F := Ideal) x0 x1 x2)).trans ((v134_at x0 x1 x2 k).trans (congrArg Prod.fst (e1 7)))

/-- The powers' imaginary parts. -/
theorem v200_at (p : Fin 2) (n : Fin 8) : val_main_v200 (F := Ideal) x0 x1 x2 (ix3 p n k) = ((argsOf x0 x1 x2 x3 x4 x5 x6).power p n k).2 := by
  unfold val_main_v200 val_main_v199
  refine (levels_at k _ p n).trans ((stack_at k ![val_main_v183 (F := Ideal) x0 x1 x2, val_main_v184 (F := Ideal) x0 x1 x2, val_main_v185 (F := Ideal) x0 x1 x2, val_main_v186 (F := Ideal) x0 x1 x2, val_main_v187 (F := Ideal) x0 x1 x2, val_main_v188 (F := Ideal) x0 x1 x2, val_main_v189 (F := Ideal) x0 x1 x2, val_main_v190 (F := Ideal) x0 x1 x2, val_main_v191 (F := Ideal) x0 x1 x2, val_main_v192 (F := Ideal) x0 x1 x2, val_main_v193 (F := Ideal) x0 x1 x2, val_main_v194 (F := Ideal) x0 x1 x2, val_main_v195 (F := Ideal) x0 x1 x2, val_main_v196 (F := Ideal) x0 x1 x2, val_main_v197 (F := Ideal) x0 x1 x2, val_main_v198 (F := Ideal) x0 x1 x2] _ _).trans ?_)
  have e0 := one_eq x0 x1 x2 x3 x4 x5 x6 k
  have e1 := two_eq x0 x1 x2 x3 x4 x5 x6 k
  match p, n with
  | ⟨0, _⟩, ⟨0, _⟩ => exact (line_at k (val_main_v53 (F := Ideal) x0 x1 x2)).trans (congrArg Prod.snd (e0 0))
  | ⟨0, _⟩, ⟨1, _⟩ => exact (line_at k (val_main_v59 (F := Ideal) x0 x1 x2)).trans ((v59_at x0 x1 x2 k).trans (congrArg Prod.snd (e0 1)))
  | ⟨0, _⟩, ⟨2, _⟩ => exact (line_at k (val_main_v65 (F := Ideal) x0 x1 x2)).trans ((v65_at x0 x1 x2 k).trans (congrArg Prod.snd (e0 2)))
  | ⟨0, _⟩, ⟨3, _⟩ => exact (line_at k (val_main_v71 (F := Ideal) x0 x1 x2)).trans ((v71_at x0 x1 x2 k).trans (congrArg Prod.snd (e0 3)))
  | ⟨0, _⟩, ⟨4, _⟩ => exact (line_at k (val_main_v77 (F := Ideal) x0 x1 x2)).trans ((v77_at x0 x1 x2 k).trans (congrArg Prod.snd (e0 4)))
  | ⟨0, _⟩, ⟨5, _⟩ => exact (line_at k (val_main_v83 (F := Ideal) x0 x1 x2)).trans ((v83_at x0 x1 x2 k).trans (congrArg Prod.snd (e0 5)))
  | ⟨0, _⟩, ⟨6, _⟩ => exact (line_at k (val_main_v89 (F := Ideal) x0 x1 x2)).trans ((v89_at x0 x1 x2 k).trans (congrArg Prod.snd (e0 6)))
  | ⟨0, _⟩, ⟨7, _⟩ => exact (line_at k (val_main_v95 (F := Ideal) x0 x1 x2)).trans ((v95_at x0 x1 x2 k).trans (congrArg Prod.snd (e0 7)))
  | ⟨1, _⟩, ⟨0, _⟩ => exact (line_at k (val_main_v95 (F := Ideal) x0 x1 x2)).trans (congrArg Prod.snd (e1 0))
  | ⟨1, _⟩, ⟨1, _⟩ => exact (line_at k (val_main_v101 (F := Ideal) x0 x1 x2)).trans ((v101_at x0 x1 x2 k).trans (congrArg Prod.snd (e1 1)))
  | ⟨1, _⟩, ⟨2, _⟩ => exact (line_at k (val_main_v107 (F := Ideal) x0 x1 x2)).trans ((v107_at x0 x1 x2 k).trans (congrArg Prod.snd (e1 2)))
  | ⟨1, _⟩, ⟨3, _⟩ => exact (line_at k (val_main_v113 (F := Ideal) x0 x1 x2)).trans ((v113_at x0 x1 x2 k).trans (congrArg Prod.snd (e1 3)))
  | ⟨1, _⟩, ⟨4, _⟩ => exact (line_at k (val_main_v119 (F := Ideal) x0 x1 x2)).trans ((v119_at x0 x1 x2 k).trans (congrArg Prod.snd (e1 4)))
  | ⟨1, _⟩, ⟨5, _⟩ => exact (line_at k (val_main_v125 (F := Ideal) x0 x1 x2)).trans ((v125_at x0 x1 x2 k).trans (congrArg Prod.snd (e1 5)))
  | ⟨1, _⟩, ⟨6, _⟩ => exact (line_at k (val_main_v131 (F := Ideal) x0 x1 x2)).trans ((v131_at x0 x1 x2 k).trans (congrArg Prod.snd (e1 6)))
  | ⟨1, _⟩, ⟨7, _⟩ => exact (line_at k (val_main_v137 (F := Ideal) x0 x1 x2)).trans ((v137_at x0 x1 x2 k).trans (congrArg Prod.snd (e1 7)))

end Cert.PrepRefIdeal.Rows
-- ==== Proof.Prep.Final.lean ====
/- The preparation's six arrays are the reference's: both read, at every index, as the layer's discretised system. -/
module

public import proofs.«01_k».proof.Defs
public import proofs.«01_k».proof.Proof.Gen.PrepIdeal.Value
public import proofs.«01_k».proof.Proof.Gen.PrepRefIdeal.Run
public import proofs.«01_k».proof.Proof.Prep.Apply
public import proofs.«01_k».proof.Proof.Prep.Entry
public import proofs.«01_k».proof.Proof.Prep.Ref

@[expose] public section

set_option maxRecDepth 16384

noncomputable section

namespace Cert.PrepIdeal.Final

open Idealize.ShloMosaic Idealize.ShloMosaic.TcCoe Idealize.SL.Sem Cert.PrepIdeal Cert.PrepIdeal.Gen
open Idealize.ShloMosaic.ValueIdx SsmPrep Cert.PrepRefIdeal.Read

variable (m : (ℓ : Loc nD τ sig) → Buf (Elt Ideal) ℓ) (c : Dev nD)

/-- The program's arguments. -/
def args : Args := PrepRefIdeal.Rows.argsOf (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))

theorem coords0 : ∀ t : Fin cfg0.N, (grid0.coords t 0).val = t.val := (by decide +kernel : ∀ t : Fin grid0.N, (grid0.coords t 0).val = t.val)

/-! The points' blocks tile the arrays: by columns, by rows, and by the last axis. -/

theorem cols_cover (ix : Fin cfg0.N → Fin 2 → ℕ) (e : ∀ t, ix t 0 = 0 ∧ ix t 1 = t.val) (i : S512x2048.Idx) :
    ∃ t, ∀ a : Fin 2, ix t a * S512x512.size a ≤ (i a).val ∧ (i a).val < ix t a * S512x512.size a + S512x512.size a := by
  have h0 : (i 0).val < 512 := (i 0).isLt
  have h1 : (i 1).val < 2048 := (i 1).isLt
  refine ⟨⟨(i 1).val / 512, lt_of_lt_of_eq (by omega) N_0.symm⟩, fun a => ?_⟩
  obtain ⟨e0, e1⟩ := e ⟨(i 1).val / 512, lt_of_lt_of_eq (by omega) N_0.symm⟩
  match a with
  | ⟨0, _⟩ => show ix _ 0 * 512 ≤ (i 0).val ∧ (i 0).val < ix _ 0 * 512 + 512; rw [e0]; omega
  | ⟨1, _⟩ => show ix _ 1 * 512 ≤ (i 1).val ∧ (i 1).val < ix _ 1 * 512 + 512; rw [e1]; dsimp only; omega

theorem rows_cover (ix : Fin cfg0.N → Fin 2 → ℕ) (e : ∀ t, ix t 0 = t.val ∧ ix t 1 = 0) (i : S2048x512.Idx) :
    ∃ t, ∀ a : Fin 2, ix t a * S512x512.size a ≤ (i a).val ∧ (i a).val < ix t a * S512x512.size a + S512x512.size a := by
  have h0 : (i 0).val < 2048 := (i 0).isLt
  have h1 : (i 1).val < 512 := (i 1).isLt
  refine ⟨⟨(i 0).val / 512, lt_of_lt_of_eq (by omega) N_0.symm⟩, fun a => ?_⟩
  obtain ⟨e0, e1⟩ := e ⟨(i 0).val / 512, lt_of_lt_of_eq (by omega) N_0.symm⟩
  match a with
  | ⟨0, _⟩ => show ix _ 0 * 512 ≤ (i 0).val ∧ (i 0).val < ix _ 0 * 512 + 512; rw [e0]; dsimp only; omega
  | ⟨1, _⟩ => show ix _ 1 * 512 ≤ (i 1).val ∧ (i 1).val < ix _ 1 * 512 + 512; rw [e1]; omega

theorem last_cover (ix : Fin cfg0.N → Fin 3 → ℕ) (e : ∀ t, ix t 0 = 0 ∧ ix t 1 = 0 ∧ ix t 2 = t.val) (i : S2x8x2048.Idx) :
    ∃ t, ∀ a : Fin 3, ix t a * S2x8x512.size a ≤ (i a).val ∧ (i a).val < ix t a * S2x8x512.size a + S2x8x512.size a := by
  have h0 : (i 0).val < 2 := (i 0).isLt
  have h1 : (i 1).val < 8 := (i 1).isLt
  have h2 : (i 2).val < 2048 := (i 2).isLt
  refine ⟨⟨(i 2).val / 512, lt_of_lt_of_eq (by omega) N_0.symm⟩, fun a => ?_⟩
  obtain ⟨e0, e1, e2⟩ := e ⟨(i 2).val / 512, lt_of_lt_of_eq (by omega) N_0.symm⟩
  match a with
  | ⟨0, _⟩ => show ix _ 0 * 2 ≤ (i 0).val ∧ (i 0).val < ix _ 0 * 2 + 2; rw [e0]; omega
  | ⟨1, _⟩ => show ix _ 1 * 8 ≤ (i 1).val ∧ (i 1).val < ix _ 1 * 8 + 8; rw [e1]; omega
  | ⟨2, _⟩ => show ix _ 2 * 512 ≤ (i 2).val ∧ (i 2).val < ix _ 2 * 512 + 512; rw [e2]; dsimp only; omega

/-- Element `j` of point `t`'s block of the state. -/
def elt (t : Fin cfg0.N) (j : Fin 512) : Fin 2048 := ⟨512 * t.val + j.val, by have ht : t.val < 4 := lt_of_lt_of_eq t.isLt N_0; omega⟩

theorem elt_eq (t : Fin cfg0.N) (j : Fin 512) : (elt t j).val = 512 * (grid0.coords t 0).val + j.val := by rw [coords0]; rfl

/-- The matrix into the state as an array, real part. -/
def inR : Buf (Elt Ideal) ((c : Thread nD τ).loc main_v32_0) := fun i : S512x2048.Idx => (args m c).inR (i 0) (i 1)

theorem idx7 : ∀ t : Fin cfg0.N, win0_7.index t (0 : Fin 2) = 0 ∧ win0_7.index t (1 : Fin 2) = t.val := (by decide +kernel : ∀ t : Fin grid0.N, _)

theorem flushed7 (t : Fin cfg0.N) : (dats m 0 c).flushed 7 t = ((cfg0.win 7).blk t).view.read (Elt Ideal) (inR m c) := by
  rw [Value.flushed7_A, Body.out7]
  obtain ⟨e0, e1⟩ := idx7 t
  funext y
  obtain ⟨r, j, rfl⟩ : ∃ (a b : Fin 512), y = (ix2 a b : S512x512.Idx) := ⟨_, _, eq_ix2 (y : S512x512.Idx)⟩
  have hx : (cfg0.win 7).xinj (grid0.coords t) (ix2 r j : S512x512.Idx) = (ix2 r j : S512x512.Idx) := funext fun a => match a with | ⟨0, _⟩ => rfl | ⟨1, _⟩ => rfl
  refine (congrArg (View.canon _) hx).trans ((Apply.inR_at (args m c) _ _ _ _ _ (grid0.coords t) r j (elt t j) (elt_eq t j) (Entry.iblk0 m c t j (elt t j) rfl) (Entry.iblk1 m c t j (elt t j) rfl) (Entry.iblk2 m c t j (elt t j) rfl) (Entry.iblk3 m c t r j (elt t j) rfl) (Entry.iblk4 m c t r j (elt t j) rfl)).trans ?_)
  exact congrArg₂ (args m c).inR (Fin.ext (by show _ = win0_7.index t (0 : Fin 2) * 512 + 1 * r.val; rw [e0]; omega)) (Fin.ext (by show 512 * t.val + j.val = win0_7.index t (1 : Fin 2) * 512 + 1 * j.val; rw [e1]; omega))

theorem final7 : (dats m 0 c).arrAt 7 cfg0.N = inR m c := by
  refine (dats m 0 c).arrAt_eq_of_cover 7 _ (fun t hf => flushed7 m c t) (fun i => ?_)
  obtain ⟨t, h⟩ := cols_cover _ idx7 i
  refine ⟨t, flush0_7 t, ?_⟩
  show i ∈ ((View.whole main_v32_0).slice (win0_7.rect t)).set
  rw [View.set_slice_whole, Rect.mem_set_unit]
  exact h

/-- Its imaginary part. -/
def inI : Buf (Elt Ideal) ((c : Thread nD τ).loc main_v32_1) := fun i : S512x2048.Idx => (args m c).inI (i 0) (i 1)

theorem idx8 : ∀ t : Fin cfg0.N, win0_8.index t (0 : Fin 2) = 0 ∧ win0_8.index t (1 : Fin 2) = t.val := (by decide +kernel : ∀ t : Fin grid0.N, _)

theorem flushed8 (t : Fin cfg0.N) : (dats m 0 c).flushed 8 t = ((cfg0.win 8).blk t).view.read (Elt Ideal) (inI m c) := by
  rw [Value.flushed8_A, Body.out8]
  obtain ⟨e0, e1⟩ := idx8 t
  funext y
  obtain ⟨r, j, rfl⟩ : ∃ (a b : Fin 512), y = (ix2 a b : S512x512.Idx) := ⟨_, _, eq_ix2 (y : S512x512.Idx)⟩
  have hx : (cfg0.win 8).xinj (grid0.coords t) (ix2 r j : S512x512.Idx) = (ix2 r j : S512x512.Idx) := funext fun a => match a with | ⟨0, _⟩ => rfl | ⟨1, _⟩ => rfl
  refine (congrArg (View.canon _) hx).trans ((Apply.inI_at (args m c) _ _ _ _ _ (grid0.coords t) r j (elt t j) (elt_eq t j) (Entry.iblk0 m c t j (elt t j) rfl) (Entry.iblk1 m c t j (elt t j) rfl) (Entry.iblk2 m c t j (elt t j) rfl) (Entry.iblk3 m c t r j (elt t j) rfl) (Entry.iblk4 m c t r j (elt t j) rfl)).trans ?_)
  exact congrArg₂ (args m c).inI (Fin.ext (by show _ = win0_8.index t (0 : Fin 2) * 512 + 1 * r.val; rw [e0]; omega)) (Fin.ext (by show 512 * t.val + j.val = win0_8.index t (1 : Fin 2) * 512 + 1 * j.val; rw [e1]; omega))

theorem final8 : (dats m 0 c).arrAt 8 cfg0.N = inI m c := by
  refine (dats m 0 c).arrAt_eq_of_cover 8 _ (fun t hf => flushed8 m c t) (fun i => ?_)
  obtain ⟨t, h⟩ := cols_cover _ idx8 i
  refine ⟨t, flush0_8 t, ?_⟩
  show i ∈ ((View.whole main_v32_1).slice (win0_8.rect t)).set
  rw [View.set_slice_whole, Rect.mem_set_unit]
  exact h

/-- The matrix out of the state as an array, real part. -/
def outR : Buf (Elt Ideal) ((c : Thread nD τ).loc main_v32_2) := fun i : S2048x512.Idx => (args m c).outR (i 0) (i 1)

theorem idx9 : ∀ t : Fin cfg0.N, win0_9.index t (0 : Fin 2) = t.val ∧ win0_9.index t (1 : Fin 2) = 0 := (by decide +kernel : ∀ t : Fin grid0.N, _)

theorem flushed9 (t : Fin cfg0.N) : (dats m 0 c).flushed 9 t = ((cfg0.win 9).blk t).view.read (Elt Ideal) (outR m c) := by
  rw [Value.flushed9_A, Body.out9]
  obtain ⟨e0, e1⟩ := idx9 t
  funext y
  obtain ⟨j, r, rfl⟩ : ∃ (a b : Fin 512), y = (ix2 a b : S512x512.Idx) := ⟨_, _, eq_ix2 (y : S512x512.Idx)⟩
  have hx : (cfg0.win 9).xinj (grid0.coords t) (ix2 j r : S512x512.Idx) = (ix2 j r : S512x512.Idx) := funext fun a => match a with | ⟨0, _⟩ => rfl | ⟨1, _⟩ => rfl
  refine (congrArg (View.canon _) hx).trans ((Apply.outR_at (args m c) _ (grid0.coords t) r j (elt t j) (elt_eq t j) (Entry.iblk5 m c t j r (elt t j) rfl)).trans ?_)
  exact congrArg₂ (args m c).outR (Fin.ext (by show 512 * t.val + j.val = win0_9.index t (0 : Fin 2) * 512 + 1 * j.val; rw [e0]; omega)) (Fin.ext (by show _ = win0_9.index t (1 : Fin 2) * 512 + 1 * r.val; rw [e1]; omega))

theorem final9 : (dats m 0 c).arrAt 9 cfg0.N = outR m c := by
  refine (dats m 0 c).arrAt_eq_of_cover 9 _ (fun t hf => flushed9 m c t) (fun i => ?_)
  obtain ⟨t, h⟩ := rows_cover _ idx9 i
  refine ⟨t, flush0_9 t, ?_⟩
  show i ∈ ((View.whole main_v32_2).slice (win0_9.rect t)).set
  rw [View.set_slice_whole, Rect.mem_set_unit]
  exact h

/-- Its imaginary part, negated. -/
def outI : Buf (Elt Ideal) ((c : Thread nD τ).loc main_v32_3) := fun i : S2048x512.Idx => (args m c).outI (i 0) (i 1)

theorem idx10 : ∀ t : Fin cfg0.N, win0_10.index t (0 : Fin 2) = t.val ∧ win0_10.index t (1 : Fin 2) = 0 := (by decide +kernel : ∀ t : Fin grid0.N, _)

theorem flushed10 (t : Fin cfg0.N) : (dats m 0 c).flushed 10 t = ((cfg0.win 10).blk t).view.read (Elt Ideal) (outI m c) := by
  rw [Value.flushed10_A, Body.out10]
  obtain ⟨e0, e1⟩ := idx10 t
  funext y
  obtain ⟨j, r, rfl⟩ : ∃ (a b : Fin 512), y = (ix2 a b : S512x512.Idx) := ⟨_, _, eq_ix2 (y : S512x512.Idx)⟩
  have hx : (cfg0.win 10).xinj (grid0.coords t) (ix2 j r : S512x512.Idx) = (ix2 j r : S512x512.Idx) := funext fun a => match a with | ⟨0, _⟩ => rfl | ⟨1, _⟩ => rfl
  refine (congrArg (View.canon _) hx).trans ((Apply.outI_at (args m c) _ (grid0.coords t) r j (elt t j) (elt_eq t j) (Entry.iblk6 m c t j r (elt t j) rfl)).trans ?_)
  exact congrArg₂ (args m c).outI (Fin.ext (by show 512 * t.val + j.val = win0_10.index t (0 : Fin 2) * 512 + 1 * j.val; rw [e0]; omega)) (Fin.ext (by show _ = win0_10.index t (1 : Fin 2) * 512 + 1 * r.val; rw [e1]; omega))

theorem final10 : (dats m 0 c).arrAt 10 cfg0.N = outI m c := by
  refine (dats m 0 c).arrAt_eq_of_cover 10 _ (fun t hf => flushed10 m c t) (fun i => ?_)
  obtain ⟨t, h⟩ := rows_cover _ idx10 i
  refine ⟨t, flush0_10 t, ?_⟩
  show i ∈ ((View.whole main_v32_3).slice (win0_10.rect t)).set
  rw [View.set_slice_whole, Rect.mem_set_unit]
  exact h

/-- The powers as an array, real part. -/
def powR : Buf (Elt Ideal) ((c : Thread nD τ).loc main_v32_4) := fun i : S2x8x2048.Idx => ((args m c).power (i 0) (i 1) (i 2)).1

theorem idx11 : ∀ t : Fin cfg0.N, win0_11.index t (0 : Fin 3) = 0 ∧ win0_11.index t (1 : Fin 3) = 0 ∧ win0_11.index t (2 : Fin 3) = t.val := (by decide +kernel : ∀ t : Fin grid0.N, _)

theorem flushed11 (t : Fin cfg0.N) : (dats m 0 c).flushed 11 t = ((cfg0.win 11).blk t).view.read (Elt Ideal) (powR m c) := by
  rw [Value.flushed11_A, Body.out11]
  obtain ⟨e0, e1, e2⟩ := idx11 t
  have pt : ∀ (p : Fin 2) (n : Fin 8) (j : Fin 512), View.canon (Body.allR (F := Ideal) (k0_pay9 (iblk m c 0 t) (iblk m c 1 t) (iblk m c 2 t)) (k0_pay10 (iblk m c 0 t) (iblk m c 1 t) (iblk m c 2 t))) (ix3 p n j : S2x8x512.Idx)
      = ((args m c).power p n (elt t j)).1 := fun p n j => (Apply.powers_at (args m c) (iblk m c 0 t) (iblk m c 1 t) (iblk m c 2 t) j (elt t j) (Entry.iblk0 m c t j (elt t j) rfl) (Entry.iblk1 m c t j (elt t j) rfl) (Entry.iblk2 m c t j (elt t j) rfl) p n).1
  generalize View.canon (Body.allR (F := Ideal) (k0_pay9 (iblk m c 0 t) (iblk m c 1 t) (iblk m c 2 t)) (k0_pay10 (iblk m c 0 t) (iblk m c 1 t) (iblk m c 2 t))) = W at pt ⊢
  funext y
  obtain ⟨p, n, j, rfl⟩ : ∃ (p : Fin 2) (n : Fin 8) (j : Fin 512), y = (ix3 p n j : S2x8x512.Idx) := ⟨_, _, _, eq_ix3 (y : S2x8x512.Idx)⟩
  have hx : (cfg0.win 11).xinj (grid0.coords t) (ix3 p n j : S2x8x512.Idx) = (ix3 p n j : S2x8x512.Idx) := funext fun a => match a with | ⟨0, _⟩ => rfl | ⟨1, _⟩ => rfl | ⟨2, _⟩ => rfl
  refine (congrArg W hx).trans ((pt p n j).trans ?_)
  have k0 : p = ((cfg0.win 11).blk t).view.emb (ix3 p n j : S2x8x512.Idx) 0 := Fin.ext (by show p.val = win0_11.index t (0 : Fin 3) * 2 + 1 * p.val; rw [e0]; omega)
  have k1 : n = ((cfg0.win 11).blk t).view.emb (ix3 p n j : S2x8x512.Idx) 1 := Fin.ext (by show n.val = win0_11.index t (1 : Fin 3) * 8 + 1 * n.val; rw [e1]; omega)
  have k2 : elt t j = ((cfg0.win 11).blk t).view.emb (ix3 p n j : S2x8x512.Idx) 2 := Fin.ext (by show 512 * t.val + j.val = win0_11.index t (2 : Fin 3) * 512 + 1 * j.val; rw [e2]; omega)
  exact (congrArg (fun q => ((args m c).power q n (elt t j)).1) k0).trans ((congrArg (fun q => ((args m c).power _ q (elt t j)).1) k1).trans (congrArg (fun q => ((args m c).power _ _ q).1) k2))

theorem final11 : (dats m 0 c).arrAt 11 cfg0.N = powR m c := by
  refine (dats m 0 c).arrAt_eq_of_cover 11 _ (fun t hf => flushed11 m c t) (fun i => ?_)
  obtain ⟨t, h⟩ := last_cover _ idx11 i
  refine ⟨t, flush0_11 t, ?_⟩
  show i ∈ ((View.whole main_v32_4).slice (win0_11.rect t)).set
  rw [View.set_slice_whole, Rect.mem_set_unit]
  exact h

/-- Their imaginary part. -/
def powI : Buf (Elt Ideal) ((c : Thread nD τ).loc main_v32_5) := fun i : S2x8x2048.Idx => ((args m c).power (i 0) (i 1) (i 2)).2

theorem idx12 : ∀ t : Fin cfg0.N, win0_12.index t (0 : Fin 3) = 0 ∧ win0_12.index t (1 : Fin 3) = 0 ∧ win0_12.index t (2 : Fin 3) = t.val := (by decide +kernel : ∀ t : Fin grid0.N, _)

theorem flushed12 (t : Fin cfg0.N) : (dats m 0 c).flushed 12 t = ((cfg0.win 12).blk t).view.read (Elt Ideal) (powI m c) := by
  rw [Value.flushed12_A, Body.out12]
  obtain ⟨e0, e1, e2⟩ := idx12 t
  have pt : ∀ (p : Fin 2) (n : Fin 8) (j : Fin 512), View.canon (Body.allI (F := Ideal) (k0_pay9 (iblk m c 0 t) (iblk m c 1 t) (iblk m c 2 t)) (k0_pay10 (iblk m c 0 t) (iblk m c 1 t) (iblk m c 2 t))) (ix3 p n j : S2x8x512.Idx)
      = ((args m c).power p n (elt t j)).2 := fun p n j => (Apply.powers_at (args m c) (iblk m c 0 t) (iblk m c 1 t) (iblk m c 2 t) j (elt t j) (Entry.iblk0 m c t j (elt t j) rfl) (Entry.iblk1 m c t j (elt t j) rfl) (Entry.iblk2 m c t j (elt t j) rfl) p n).2
  generalize View.canon (Body.allI (F := Ideal) (k0_pay9 (iblk m c 0 t) (iblk m c 1 t) (iblk m c 2 t)) (k0_pay10 (iblk m c 0 t) (iblk m c 1 t) (iblk m c 2 t))) = W at pt ⊢
  funext y
  obtain ⟨p, n, j, rfl⟩ : ∃ (p : Fin 2) (n : Fin 8) (j : Fin 512), y = (ix3 p n j : S2x8x512.Idx) := ⟨_, _, _, eq_ix3 (y : S2x8x512.Idx)⟩
  have hx : (cfg0.win 12).xinj (grid0.coords t) (ix3 p n j : S2x8x512.Idx) = (ix3 p n j : S2x8x512.Idx) := funext fun a => match a with | ⟨0, _⟩ => rfl | ⟨1, _⟩ => rfl | ⟨2, _⟩ => rfl
  refine (congrArg W hx).trans ((pt p n j).trans ?_)
  have k0 : p = ((cfg0.win 12).blk t).view.emb (ix3 p n j : S2x8x512.Idx) 0 := Fin.ext (by show p.val = win0_12.index t (0 : Fin 3) * 2 + 1 * p.val; rw [e0]; omega)
  have k1 : n = ((cfg0.win 12).blk t).view.emb (ix3 p n j : S2x8x512.Idx) 1 := Fin.ext (by show n.val = win0_12.index t (1 : Fin 3) * 8 + 1 * n.val; rw [e1]; omega)
  have k2 : elt t j = ((cfg0.win 12).blk t).view.emb (ix3 p n j : S2x8x512.Idx) 2 := Fin.ext (by show 512 * t.val + j.val = win0_12.index t (2 : Fin 3) * 512 + 1 * j.val; rw [e2]; omega)
  exact (congrArg (fun q => ((args m c).power q n (elt t j)).2) k0).trans ((congrArg (fun q => ((args m c).power _ q (elt t j)).2) k1).trans (congrArg (fun q => ((args m c).power _ _ q).2) k2))

theorem final12 : (dats m 0 c).arrAt 12 cfg0.N = powI m c := by
  refine (dats m 0 c).arrAt_eq_of_cover 12 _ (fun t hf => flushed12 m c t) (fun i => ?_)
  obtain ⟨t, h⟩ := last_cover _ idx12 i
  refine ⟨t, flush0_12 t, ?_⟩
  show i ∈ ((View.whole main_v32_5).slice (win0_12.rect t)).set
  rw [View.set_slice_whole, Rect.mem_set_unit]
  exact h

/-! The reference's results, from equal arguments. -/

theorem same (x0 : (⟨PrepRefIdeal.S1x32x64, .f32⟩ : BufTy).Contents (Elt Ideal)) (x1 : (⟨PrepRefIdeal.S1x32x64, .f32⟩ : BufTy).Contents (Elt Ideal)) (x2 : (⟨PrepRefIdeal.S1x32, .f32⟩ : BufTy).Contents (Elt Ideal)) (x3 : (⟨PrepRefIdeal.S1x32x64x16, .f32⟩ : BufTy).Contents (Elt Ideal)) (x4 : (⟨PrepRefIdeal.S1x32x64x16, .f32⟩ : BufTy).Contents (Elt Ideal)) (x5 : (⟨PrepRefIdeal.S1x32x16x64, .f32⟩ : BufTy).Contents (Elt Ideal)) (x6 : (⟨PrepRefIdeal.S1x32x16x64, .f32⟩ : BufTy).Contents (Elt Ideal))
    (h0 : x0 = m ((c.tc : Thread nD τ).loc main_arg0)) (h1 : x1 = m ((c.tc : Thread nD τ).loc main_arg1)) (h2 : x2 = m ((c.tc : Thread nD τ).loc main_arg2)) (h3 : x3 = m ((c.tc : Thread nD τ).loc main_arg3)) (h4 : x4 = m ((c.tc : Thread nD τ).loc main_arg4)) (h5 : x5 = m ((c.tc : Thread nD τ).loc main_arg5)) (h6 : x6 = m ((c.tc : Thread nD τ).loc main_arg6)) :
    val_main_v143 (F := Ideal) x0 x1 x2 x3 x4 = inR m c ∧ val_main_v149 (F := Ideal) x0 x1 x2 x3 x4 = inI m c ∧ val_main_v156 (F := Ideal) x5 = outR m c
      ∧ val_main_v164 (F := Ideal) x6 = outI m c ∧ val_main_v182 (F := Ideal) x0 x1 x2 = powR m c ∧ val_main_v200 (F := Ideal) x0 x1 x2 = powI m c := by
  have e : PrepRefIdeal.Rows.argsOf x0 x1 x2 x3 x4 x5 x6 = args m c := by rw [h0, h1, h2, h3, h4, h5, h6]; rfl
  refine ⟨?_, ?_, ?_, ?_, ?_, ?_⟩ <;> funext i
  · obtain ⟨a, b, rfl⟩ : ∃ (a : Fin 512) (b : Fin 2048), i = ix2 a b := ⟨_, _, eq_ix2 i⟩
    exact (PrepRefIdeal.Rows.v143_at x0 x1 x2 x3 x4 x5 x6 a b).trans (by rw [e]; rfl)
  · obtain ⟨a, b, rfl⟩ : ∃ (a : Fin 512) (b : Fin 2048), i = ix2 a b := ⟨_, _, eq_ix2 i⟩
    exact (PrepRefIdeal.Rows.v149_at x0 x1 x2 x3 x4 x5 x6 a b).trans (by rw [e]; rfl)
  · obtain ⟨a, b, rfl⟩ : ∃ (a : Fin 2048) (b : Fin 512), i = ix2 a b := ⟨_, _, eq_ix2 i⟩
    exact (PrepRefIdeal.Rows.v156_at x0 x1 x2 x3 x4 x5 x6 a b).trans (by rw [e]; rfl)
  · obtain ⟨a, b, rfl⟩ : ∃ (a : Fin 2048) (b : Fin 512), i = ix2 a b := ⟨_, _, eq_ix2 i⟩
    exact (PrepRefIdeal.Rows.v164_at x0 x1 x2 x3 x4 x5 x6 a b).trans (by rw [e]; rfl)
  · obtain ⟨p, n, k, rfl⟩ : ∃ (p : Fin 2) (n : Fin 8) (k : Fin 2048), i = ix3 p n k := ⟨_, _, _, eq_ix3 i⟩
    exact (PrepRefIdeal.Rows.v182_at x0 x1 x2 x3 x4 x5 x6 k p n).trans (by rw [e]; rfl)
  · obtain ⟨p, n, k, rfl⟩ : ∃ (p : Fin 2) (n : Fin 8) (k : Fin 2048), i = ix3 p n k := ⟨_, _, _, eq_ix3 i⟩
    exact (PrepRefIdeal.Rows.v200_at x0 x1 x2 x3 x4 x5 x6 k p n).trans (by rw [e]; rfl)

theorem algebraic : Cert.algebraic_PrepIdeal_PrepRefIdeal := by
  intro m g m' g' _ hag
  refine ⟨fun c => inR m c, fun c => inI m c, fun c => outR m c, fun c => outI m c, fun c => powR m c, fun c => powI m c, (θ_run _ _ _).mono (fun r h c => ?_) (Value.run_blocks m g), ?_⟩
  · obtain ⟨h0, h1, h2, h3, h4, h5, _, _, _, _, hr⟩ := h c
    exact ⟨h0.trans (final7 m c), h1.trans (final8 m c), h2.trans (final9 m c), h3.trans (final10 m c), h4.trans (final11 m c), h5.trans (final12 m c), hr⟩
  · refine (θ_run _ _ _).mono (fun r h c => ?_) (PrepRefIdeal.Value.run m' g')
    obtain ⟨a0, a1, a2, a3, a4, a5, a6⟩ := hag c
    obtain ⟨h0, h1, h2, h3, h4, h5, hr⟩ := h c
    obtain ⟨s0, s1, s2, s3, s4, s5⟩ := same m c (m' ((c.tc : Thread PrepRefIdeal.nD PrepRefIdeal.τ).loc PrepRefIdeal.main_arg0)) (m' ((c.tc : Thread PrepRefIdeal.nD PrepRefIdeal.τ).loc PrepRefIdeal.main_arg1)) (m' ((c.tc : Thread PrepRefIdeal.nD PrepRefIdeal.τ).loc PrepRefIdeal.main_arg2)) (m' ((c.tc : Thread PrepRefIdeal.nD PrepRefIdeal.τ).loc PrepRefIdeal.main_arg3)) (m' ((c.tc : Thread PrepRefIdeal.nD PrepRefIdeal.τ).loc PrepRefIdeal.main_arg4)) (m' ((c.tc : Thread PrepRefIdeal.nD PrepRefIdeal.τ).loc PrepRefIdeal.main_arg5)) (m' ((c.tc : Thread PrepRefIdeal.nD PrepRefIdeal.τ).loc PrepRefIdeal.main_arg6)) a0 a1 a2 a3 a4 a5 a6
    exact ⟨(h0.trans (val_main_v143_eq _)).trans s0, (h1.trans (val_main_v149_eq _)).trans s1, (h2.trans (val_main_v156_eq _)).trans s2,
      (h3.trans (val_main_v164_eq _)).trans s3, (h4.trans (val_main_v182_eq _)).trans s4, (h5.trans (val_main_v200_eq _)).trans s5, hr⟩

end Cert.PrepIdeal.Final
-- ==== Proof.lean ====
/- The two tail kernels compute the layer's tail, the attention kernel its attention, the two projection kernels its input
   projections, the step kernel one step of its recurrence and the preparation kernel the recurrence's discretised system;
   all keep their arguments. -/
module

public import proofs.«01_k».proof.Defs
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.TailIdeal.Value
public import proofs.«01_k».proof.Proof.Gen.TailRefIdeal.Run
public import proofs.«01_k».proof.Proof.Gen.TailRefIdeal.Read
public import proofs.«01_k».proof.Proof.Tail.Final
public import proofs.«01_k».proof.Proof.Attn.Final
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.Attn
public import proofs.«01_k».proof.Proof.Gen.Attn.Frame
public import proofs.«01_k».proof.Proof.Gen.AttnIdeal
public import proofs.«01_k».proof.Proof.Gen.AttnRefIdeal
public import proofs.«01_k».proof.Proof.Gen.ProjIdeal.Value
public import proofs.«01_k».proof.Proof.Gen.StepProjIdeal.Value
public import proofs.«01_k».proof.Proof.Gen.ProjRefIdeal.Run
public import proofs.«01_k».proof.Proof.Gen.ProjRefIdeal.Read
public import proofs.«01_k».proof.Proof.Gen.StepProjRefIdeal.Run
public import proofs.«01_k».proof.Proof.Gen.StepProjRefIdeal.Read
public import proofs.«01_k».proof.Proof.Gen.Proj.Frame
public import proofs.«01_k».proof.Proof.Gen.ProjIdeal.Frame
public import proofs.«01_k».proof.Proof.Gen.StepProj.Frame
public import proofs.«01_k».proof.Proof.Gen.StepProjIdeal.Frame
public import proofs.«01_k».proof.Proof.Proj.Final
public import proofs.«01_k».proof.Proof.Gen.StepTailIdeal.Value
public import proofs.«01_k».proof.Proof.Gen.StepTailRefIdeal.Run
public import proofs.«01_k».proof.Proof.Gen.StepTailRefIdeal.Read
public import proofs.«01_k».proof.Proof.Gen.StepTail.Frame
public import proofs.«01_k».proof.Proof.Gen.StepTailIdeal.Frame
public import proofs.«01_k».proof.Proof.StepProj.Final
public import proofs.«01_k».proof.Proof.StepTail.Final
public import proofs.«01_k».proof.Proof.StepSsm.Final
public import proofs.«01_k».proof.Proof.Gen.StepSsmIdeal.Value
public import proofs.«01_k».proof.Proof.Gen.StepSsmRefIdeal.Run
public import proofs.«01_k».proof.Proof.Gen.StepSsmRefIdeal.Read
public import proofs.«01_k».proof.Proof.Gen.StepSsm.Frame
public import proofs.«01_k».proof.Proof.Gen.StepSsmIdeal.Frame
public import proofs.«01_k».proof.Proof.Gen.PrepIdeal.Value
public import proofs.«01_k».proof.Proof.Gen.PrepRefIdeal.Run
public import proofs.«01_k».proof.Proof.Gen.PrepRefIdeal.Read
public import proofs.«01_k».proof.Proof.Gen.Prep.Frame
public import proofs.«01_k».proof.Proof.Gen.PrepIdeal.Frame
public import proofs.«01_k».proof.Proof.Prep.Final
public import Idealize.ShloMosaic.Adequacy
public import Idealize.ShloMosaic.Init

@[expose] public section

noncomputable section

namespace Cert.Proof

open Idealize.ShloMosaic Idealize.SL.Sem

/-- The tail's reference, run on the host, keeps its arguments and declares no counter. -/
theorem frame_tailRef : Cert.quiescent_TailRefIdeal := fun m ρ _ =>
  (θ_run Cert.TailRefIdeal.defs _ _).mono (fun r h => ⟨fun c => (h c).2.2,
      Idealize.ShloMosaic.sem_eq_zero_of_no_sems (by decide) r.2⟩)
    (Cert.TailRefIdeal.Value.run (F := Ideal) m ρ)

/-- The attention's reference, run on the host, keeps its arguments and declares no counter. -/
theorem frame_attnRef : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)

/-- The prompt's projections' reference, run on the host, keeps its arguments and declares no counter. -/
theorem frame_projRef : Cert.quiescent_ProjRefIdeal := fun m ρ _ =>
  (θ_run Cert.ProjRefIdeal.defs _ _).mono (fun r h => ⟨fun c => (h c).2.2.2.2,
      Idealize.ShloMosaic.sem_eq_zero_of_no_sems (by decide) r.2⟩)
    (Cert.ProjRefIdeal.Value.run (F := Ideal) m ρ)

/-- The sample's projections' reference, run on the host, keeps its arguments and declares no counter. -/
theorem frame_stepProjRef : Cert.quiescent_StepProjRefIdeal := fun m ρ _ =>
  (θ_run Cert.StepProjRefIdeal.defs _ _).mono (fun r h => ⟨fun c => (h c).2.2.2.2,
      Idealize.ShloMosaic.sem_eq_zero_of_no_sems (by decide) r.2⟩)
    (Cert.StepProjRefIdeal.Value.run (F := Ideal) m ρ)

/-- The sample's tail's reference, run on the host, keeps its arguments and declares no counter. -/
theorem frame_stepTailRef : Cert.quiescent_StepTailRefIdeal := fun m ρ _ =>
  (θ_run Cert.StepTailRefIdeal.defs _ _).mono (fun r h => ⟨fun c => (h c).2.2,
      Idealize.ShloMosaic.sem_eq_zero_of_no_sems (by decide) r.2⟩)
    (Cert.StepTailRefIdeal.Value.run (F := Ideal) m ρ)

/-- The recurrence's step's reference, run on the host, keeps its arguments and declares no counter. -/
theorem frame_stepSsmRef : Cert.quiescent_StepSsmRefIdeal := fun m ρ _ =>
  (θ_run Cert.StepSsmRefIdeal.defs _ _).mono (fun r h => ⟨fun c => (h c).2.2.2,
      Idealize.ShloMosaic.sem_eq_zero_of_no_sems (by decide) r.2⟩)
    (Cert.StepSsmRefIdeal.Value.run (F := Ideal) m ρ)

/-- The preparation's reference, run on the host, keeps its arguments and declares no counter. -/
theorem frame_prepRef : Cert.quiescent_PrepRefIdeal := fun m ρ _ =>
  (θ_run Cert.PrepRefIdeal.defs _ _).mono (fun r h => ⟨fun c => (h c).2.2.2.2.2.2,
      Idealize.ShloMosaic.sem_eq_zero_of_no_sems (by decide) r.2⟩)
    (Cert.PrepRefIdeal.Value.run (F := Ideal) m ρ)

theorem claim : Cert.Claim := ⟨Cert.Tail.Gen.facts, Cert.TailIdeal.Gen.facts, Cert.TailRefIdeal.Gen.facts,
  Cert.Attn.Gen.facts, Cert.AttnIdeal.Gen.facts, Cert.AttnRefIdeal.Gen.facts,
  Cert.Proj.Gen.facts, Cert.ProjIdeal.Gen.facts, Cert.ProjRefIdeal.Gen.facts,
  Cert.StepProj.Gen.facts, Cert.StepProjIdeal.Gen.facts, Cert.StepProjRefIdeal.Gen.facts,
  Cert.StepTail.Gen.facts, Cert.StepTailIdeal.Gen.facts, Cert.StepTailRefIdeal.Gen.facts,
  Cert.StepSsm.Gen.facts, Cert.StepSsmIdeal.Gen.facts, Cert.StepSsmRefIdeal.Gen.facts,
  Cert.Prep.Gen.facts, Cert.PrepIdeal.Gen.facts, Cert.PrepRefIdeal.Gen.facts,
  fun m ρ _ => Cert.Tail.Gen.frame m ρ, fun m ρ _ => Cert.TailIdeal.Gen.frame m ρ, frame_tailRef,
  fun m ρ _ => Cert.Attn.Gen.frame m ρ, fun m ρ _ => Cert.AttnIdeal.Gen.frame m ρ, frame_attnRef,
  fun m ρ _ => Cert.Proj.Gen.frame m ρ, fun m ρ _ => Cert.ProjIdeal.Gen.frame m ρ, frame_projRef,
  fun m ρ _ => Cert.StepProj.Gen.frame m ρ, fun m ρ _ => Cert.StepProjIdeal.Gen.frame m ρ, frame_stepProjRef,
  fun m ρ _ => Cert.StepTail.Gen.frame m ρ, fun m ρ _ => Cert.StepTailIdeal.Gen.frame m ρ, frame_stepTailRef,
  fun m ρ _ => Cert.StepSsm.Gen.frame m ρ, fun m ρ _ => Cert.StepSsmIdeal.Gen.frame m ρ, frame_stepSsmRef,
  fun m ρ _ => Cert.Prep.Gen.frame m ρ, fun m ρ _ => Cert.PrepIdeal.Gen.frame m ρ, frame_prepRef,
  trivial, Cert.TailIdeal.Final.algebraic, trivial, Cert.AttnIdeal.Final.algebraic,
  trivial, Cert.ProjIdeal.Final.algebraic, trivial, Cert.StepProjIdeal.Final.algebraic,
  trivial, Cert.StepTailIdeal.Final.algebraic, trivial, Cert.StepSsmIdeal.Final.algebraic,
  trivial, Cert.PrepIdeal.Final.algebraic⟩

end Cert.Proof

end
